-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_KernelLoss (m : (ℓ : Loc Cert.KernelLoss.nD Cert.KernelLoss.τ Cert.KernelLoss.sig) → Buf (Elt Bits) ℓ) : Prop :=
  True

def Pre_KernelLossIdeal (m : (ℓ : Loc Cert.KernelLossIdeal.nD Cert.KernelLossIdeal.τ Cert.KernelLossIdeal.sig) → Buf (Elt Ideal) ℓ) : Prop :=
  True

def Pre_ReferenceLossIdeal (m : (ℓ : Loc Cert.ReferenceLossIdeal.nD Cert.ReferenceLossIdeal.τ Cert.ReferenceLossIdeal.sig) → Buf (Elt Ideal) ℓ) : Prop :=
  True

def Pre_KernelWgradIn (m : (ℓ : Loc Cert.KernelWgradIn.nD Cert.KernelWgradIn.τ Cert.KernelWgradIn.sig) → Buf (Elt Bits) ℓ) : Prop :=
  True

def Pre_KernelWgradInIdeal (m : (ℓ : Loc Cert.KernelWgradInIdeal.nD Cert.KernelWgradInIdeal.τ Cert.KernelWgradInIdeal.sig) → Buf (Elt Ideal) ℓ) : Prop :=
  True

def Pre_ReferenceWgradInIdeal (m : (ℓ : Loc Cert.ReferenceWgradInIdeal.nD Cert.ReferenceWgradInIdeal.τ Cert.ReferenceWgradInIdeal.sig) → Buf (Elt Ideal) ℓ) : Prop :=
  True

def Pre_KernelWgradOut (m : (ℓ : Loc Cert.KernelWgradOut.nD Cert.KernelWgradOut.τ Cert.KernelWgradOut.sig) → Buf (Elt Bits) ℓ) : Prop :=
  True

def Pre_KernelWgradOutIdeal (m : (ℓ : Loc Cert.KernelWgradOutIdeal.nD Cert.KernelWgradOutIdeal.τ Cert.KernelWgradOutIdeal.sig) → Buf (Elt Ideal) ℓ) : Prop :=
  True

def Pre_ReferenceWgradOutIdeal (m : (ℓ : Loc Cert.ReferenceWgradOutIdeal.nD Cert.ReferenceWgradOutIdeal.τ Cert.ReferenceWgradOutIdeal.sig) → Buf (Elt Ideal) ℓ) : Prop :=
  True

def Pre_KernelWgradAtt (m : (ℓ : Loc Cert.KernelWgradAtt.nD Cert.KernelWgradAtt.τ Cert.KernelWgradAtt.sig) → Buf (Elt Bits) ℓ) : Prop :=
  True

def Pre_KernelWgradAttIdeal (m : (ℓ : Loc Cert.KernelWgradAttIdeal.nD Cert.KernelWgradAttIdeal.τ Cert.KernelWgradAttIdeal.sig) → Buf (Elt Ideal) ℓ) : Prop :=
  True

def Pre_ReferenceWgradAttIdeal (m : (ℓ : Loc Cert.ReferenceWgradAttIdeal.nD Cert.ReferenceWgradAttIdeal.τ Cert.ReferenceWgradAttIdeal.sig) → Buf (Elt Ideal) ℓ) : Prop :=
  True

def Pre_KernelWgradPool (m : (ℓ : Loc Cert.KernelWgradPool.nD Cert.KernelWgradPool.τ Cert.KernelWgradPool.sig) → Buf (Elt Bits) ℓ) : Prop :=
  True

def Pre_KernelWgradPoolIdeal (m : (ℓ : Loc Cert.KernelWgradPoolIdeal.nD Cert.KernelWgradPoolIdeal.τ Cert.KernelWgradPoolIdeal.sig) → Buf (Elt Ideal) ℓ) : Prop :=
  True

def Pre_ReferenceWgradPoolIdeal (m : (ℓ : Loc Cert.ReferenceWgradPoolIdeal.nD Cert.ReferenceWgradPoolIdeal.τ Cert.ReferenceWgradPoolIdeal.sig) → Buf (Elt Ideal) ℓ) : Prop :=
  True

def Pre_KernelWgradMix (m : (ℓ : Loc Cert.KernelWgradMix.nD Cert.KernelWgradMix.τ Cert.KernelWgradMix.sig) → Buf (Elt Bits) ℓ) : Prop :=
  True

def Pre_KernelWgradMixIdeal (m : (ℓ : Loc Cert.KernelWgradMixIdeal.nD Cert.KernelWgradMixIdeal.τ Cert.KernelWgradMixIdeal.sig) → Buf (Elt Ideal) ℓ) : Prop :=
  True

def Pre_ReferenceWgradMixIdeal (m : (ℓ : Loc Cert.ReferenceWgradMixIdeal.nD Cert.ReferenceWgradMixIdeal.τ Cert.ReferenceWgradMixIdeal.sig) → Buf (Elt Ideal) ℓ) : Prop :=
  True

def Pre_KernelWgradProj (m : (ℓ : Loc Cert.KernelWgradProj.nD Cert.KernelWgradProj.τ Cert.KernelWgradProj.sig) → Buf (Elt Bits) ℓ) : Prop :=
  True

def Pre_KernelWgradProjIdeal (m : (ℓ : Loc Cert.KernelWgradProjIdeal.nD Cert.KernelWgradProjIdeal.τ Cert.KernelWgradProjIdeal.sig) → Buf (Elt Ideal) ℓ) : Prop :=
  True

def Pre_ReferenceWgradProjIdeal (m : (ℓ : Loc Cert.ReferenceWgradProjIdeal.nD Cert.ReferenceWgradProjIdeal.τ Cert.ReferenceWgradProjIdeal.sig) → Buf (Elt Ideal) ℓ) : Prop :=
  True

def Pre_KernelDx (m : (ℓ : Loc Cert.KernelDx.nD Cert.KernelDx.τ Cert.KernelDx.sig) → Buf (Elt Bits) ℓ) : Prop :=
  True

def Pre_KernelDxIdeal (m : (ℓ : Loc Cert.KernelDxIdeal.nD Cert.KernelDxIdeal.τ Cert.KernelDxIdeal.sig) → Buf (Elt Ideal) ℓ) : Prop :=
  True

def Pre_ReferenceDxIdeal (m : (ℓ : Loc Cert.ReferenceDxIdeal.nD Cert.ReferenceDxIdeal.τ Cert.ReferenceDxIdeal.sig) → Buf (Elt Ideal) ℓ) : Prop :=
  True

def Pre_KernelInprojOwn (m : (ℓ : Loc Cert.KernelInprojOwn.nD Cert.KernelInprojOwn.τ Cert.KernelInprojOwn.sig) → Buf (Elt Bits) ℓ) : Prop :=
  True

def Pre_KernelInprojOwnIdeal (m : (ℓ : Loc Cert.KernelInprojOwnIdeal.nD Cert.KernelInprojOwnIdeal.τ Cert.KernelInprojOwnIdeal.sig) → Buf (Elt Ideal) ℓ) : Prop :=
  True

def Pre_ReferenceInprojOwnIdeal (m : (ℓ : Loc Cert.ReferenceInprojOwnIdeal.nD Cert.ReferenceInprojOwnIdeal.τ Cert.ReferenceInprojOwnIdeal.sig) → Buf (Elt Ideal) ℓ) : Prop :=
  True

def Pre_KernelInproj (m : (ℓ : Loc Cert.KernelInproj.nD Cert.KernelInproj.τ Cert.KernelInproj.sig) → Buf (Elt Bits) ℓ) : Prop :=
  True

def Pre_KernelInprojIdeal (m : (ℓ : Loc Cert.KernelInprojIdeal.nD Cert.KernelInprojIdeal.τ Cert.KernelInprojIdeal.sig) → Buf (Elt Ideal) ℓ) : Prop :=
  True

def Pre_ReferenceInprojIdeal (m : (ℓ : Loc Cert.ReferenceInprojIdeal.nD Cert.ReferenceInprojIdeal.τ Cert.ReferenceInprojIdeal.sig) → Buf (Elt Ideal) ℓ) : Prop :=
  True

def Pre_KernelWgradGrp (m : (ℓ : Loc Cert.KernelWgradGrp.nD Cert.KernelWgradGrp.τ Cert.KernelWgradGrp.sig) → Buf (Elt Bits) ℓ) : Prop :=
  True

def Pre_KernelWgradGrpIdeal (m : (ℓ : Loc Cert.KernelWgradGrpIdeal.nD Cert.KernelWgradGrpIdeal.τ Cert.KernelWgradGrpIdeal.sig) → Buf (Elt Ideal) ℓ) : Prop :=
  True

def Pre_ReferenceWgradGrpIdeal (m : (ℓ : Loc Cert.ReferenceWgradGrpIdeal.nD Cert.ReferenceWgradGrpIdeal.τ Cert.ReferenceWgradGrpIdeal.sig) → Buf (Elt Ideal) ℓ) : Prop :=
  True

def Pre_KernelAdamwIn (m : (ℓ : Loc Cert.KernelAdamwIn.nD Cert.KernelAdamwIn.τ Cert.KernelAdamwIn.sig) → Buf (Elt Bits) ℓ) : Prop :=
  True

def Pre_KernelAdamwInIdeal (m : (ℓ : Loc Cert.KernelAdamwInIdeal.nD Cert.KernelAdamwInIdeal.τ Cert.KernelAdamwInIdeal.sig) → Buf (Elt Ideal) ℓ) : Prop :=
  True

def Pre_ReferenceAdamwInIdeal (m : (ℓ : Loc Cert.ReferenceAdamwInIdeal.nD Cert.ReferenceAdamwInIdeal.τ Cert.ReferenceAdamwInIdeal.sig) → Buf (Elt Ideal) ℓ) : Prop :=
  True

def Pre_KernelAdamwAtt (m : (ℓ : Loc Cert.KernelAdamwAtt.nD Cert.KernelAdamwAtt.τ Cert.KernelAdamwAtt.sig) → Buf (Elt Bits) ℓ) : Prop :=
  True

def Pre_KernelAdamwAttIdeal (m : (ℓ : Loc Cert.KernelAdamwAttIdeal.nD Cert.KernelAdamwAttIdeal.τ Cert.KernelAdamwAttIdeal.sig) → Buf (Elt Ideal) ℓ) : Prop :=
  True

def Pre_ReferenceAdamwAttIdeal (m : (ℓ : Loc Cert.ReferenceAdamwAttIdeal.nD Cert.ReferenceAdamwAttIdeal.τ Cert.ReferenceAdamwAttIdeal.sig) → Buf (Elt Ideal) ℓ) : Prop :=
  True

def Pre_KernelAdamwPool (m : (ℓ : Loc Cert.KernelAdamwPool.nD Cert.KernelAdamwPool.τ Cert.KernelAdamwPool.sig) → Buf (Elt Bits) ℓ) : Prop :=
  True

def Pre_KernelAdamwPoolIdeal (m : (ℓ : Loc Cert.KernelAdamwPoolIdeal.nD Cert.KernelAdamwPoolIdeal.τ Cert.KernelAdamwPoolIdeal.sig) → Buf (Elt Ideal) ℓ) : Prop :=
  True

def Pre_ReferenceAdamwPoolIdeal (m : (ℓ : Loc Cert.ReferenceAdamwPoolIdeal.nD Cert.ReferenceAdamwPoolIdeal.τ Cert.ReferenceAdamwPoolIdeal.sig) → Buf (Elt Ideal) ℓ) : Prop :=
  True

def Pre_KernelAdamwOut (m : (ℓ : Loc Cert.KernelAdamwOut.nD Cert.KernelAdamwOut.τ Cert.KernelAdamwOut.sig) → Buf (Elt Bits) ℓ) : Prop :=
  True

def Pre_KernelAdamwOutIdeal (m : (ℓ : Loc Cert.KernelAdamwOutIdeal.nD Cert.KernelAdamwOutIdeal.τ Cert.KernelAdamwOutIdeal.sig) → Buf (Elt Ideal) ℓ) : Prop :=
  True

def Pre_ReferenceAdamwOutIdeal (m : (ℓ : Loc Cert.ReferenceAdamwOutIdeal.nD Cert.ReferenceAdamwOutIdeal.τ Cert.ReferenceAdamwOutIdeal.sig) → Buf (Elt Ideal) ℓ) : Prop :=
  True

def Pre_KernelAdamwMlp (m : (ℓ : Loc Cert.KernelAdamwMlp.nD Cert.KernelAdamwMlp.τ Cert.KernelAdamwMlp.sig) → Buf (Elt Bits) ℓ) : Prop :=
  True

def Pre_KernelAdamwMlpIdeal (m : (ℓ : Loc Cert.KernelAdamwMlpIdeal.nD Cert.KernelAdamwMlpIdeal.τ Cert.KernelAdamwMlpIdeal.sig) → Buf (Elt Ideal) ℓ) : Prop :=
  True

def Pre_ReferenceAdamwMlpIdeal (m : (ℓ : Loc Cert.ReferenceAdamwMlpIdeal.nD Cert.ReferenceAdamwMlpIdeal.τ Cert.ReferenceAdamwMlpIdeal.sig) → Buf (Elt Ideal) ℓ) : Prop :=
  True

def Pre_KernelSmall (m : (ℓ : Loc Cert.KernelSmall.nD Cert.KernelSmall.τ Cert.KernelSmall.sig) → Buf (Elt Bits) ℓ) : Prop :=
  True

def Pre_KernelSmallIdeal (m : (ℓ : Loc Cert.KernelSmallIdeal.nD Cert.KernelSmallIdeal.τ Cert.KernelSmallIdeal.sig) → Buf (Elt Ideal) ℓ) : Prop :=
  True

def Pre_ReferenceSmallIdeal (m : (ℓ : Loc Cert.ReferenceSmallIdeal.nD Cert.ReferenceSmallIdeal.τ Cert.ReferenceSmallIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_KernelLoss [hKernelLoss : Cert.KernelLoss.Facts] : Prop :=
  ∀ (m : (ℓ : Loc Cert.KernelLoss.nD Cert.KernelLoss.τ Cert.KernelLoss.sig) → Buf (Elt Bits) ℓ) (g : Dev Cert.KernelLoss.nD → PrngReg), Pre_KernelLoss m →
    θ_run (Cert.KernelLoss.defs (F := Bits)) (onTc (τ := Cert.KernelLoss.τ) (Cert.KernelLoss.main (F := Bits))) ⟨m, fun _ => 0, g⟩ (fun r => (∀ c : Dev Cert.KernelLoss.nD,
      r.2.mem ((c.tc : Thread Cert.KernelLoss.nD Cert.KernelLoss.τ).loc Cert.KernelLoss.main_arg0) = m ((c.tc : Thread Cert.KernelLoss.nD Cert.KernelLoss.τ).loc Cert.KernelLoss.main_arg0)
      ∧ r.2.mem ((c.tc : Thread Cert.KernelLoss.nD Cert.KernelLoss.τ).loc Cert.KernelLoss.main_arg1) = m ((c.tc : Thread Cert.KernelLoss.nD Cert.KernelLoss.τ).loc Cert.KernelLoss.main_arg1)
      ∧ r.2.mem ((c.tc : Thread Cert.KernelLoss.nD Cert.KernelLoss.τ).loc Cert.KernelLoss.main_arg2) = m ((c.tc : Thread Cert.KernelLoss.nD Cert.KernelLoss.τ).loc Cert.KernelLoss.main_arg2)
      ∧ r.2.mem ((c.tc : Thread Cert.KernelLoss.nD Cert.KernelLoss.τ).loc Cert.KernelLoss.main_arg3) = m ((c.tc : Thread Cert.KernelLoss.nD Cert.KernelLoss.τ).loc Cert.KernelLoss.main_arg3)
      ∧ r.2.mem ((c.tc : Thread Cert.KernelLoss.nD Cert.KernelLoss.τ).loc Cert.KernelLoss.main_arg4) = m ((c.tc : Thread Cert.KernelLoss.nD Cert.KernelLoss.τ).loc Cert.KernelLoss.main_arg4)
      ∧ r.2.mem ((c.tc : Thread Cert.KernelLoss.nD Cert.KernelLoss.τ).loc Cert.KernelLoss.main_arg5) = m ((c.tc : Thread Cert.KernelLoss.nD Cert.KernelLoss.τ).loc Cert.KernelLoss.main_arg5))
      ∧ r.2.sem = fun _ => 0)

def quiescent_KernelLossIdeal [hKernelLossIdeal : Cert.KernelLossIdeal.Facts] : Prop :=
  ∀ (m : (ℓ : Loc Cert.KernelLossIdeal.nD Cert.KernelLossIdeal.τ Cert.KernelLossIdeal.sig) → Buf (Elt Ideal) ℓ) (g : Dev Cert.KernelLossIdeal.nD → PrngReg), Pre_KernelLossIdeal m →
    θ_run (Cert.KernelLossIdeal.defs (F := Ideal)) (onTc (τ := Cert.KernelLossIdeal.τ) (Cert.KernelLossIdeal.main (F := Ideal))) ⟨m, fun _ => 0, g⟩ (fun r => (∀ c : Dev Cert.KernelLossIdeal.nD,
      r.2.mem ((c.tc : Thread Cert.KernelLossIdeal.nD Cert.KernelLossIdeal.τ).loc Cert.KernelLossIdeal.main_arg0) = m ((c.tc : Thread Cert.KernelLossIdeal.nD Cert.KernelLossIdeal.τ).loc Cert.KernelLossIdeal.main_arg0)
      ∧ r.2.mem ((c.tc : Thread Cert.KernelLossIdeal.nD Cert.KernelLossIdeal.τ).loc Cert.KernelLossIdeal.main_arg1) = m ((c.tc : Thread Cert.KernelLossIdeal.nD Cert.KernelLossIdeal.τ).loc Cert.KernelLossIdeal.main_arg1)
      ∧ r.2.mem ((c.tc : Thread Cert.KernelLossIdeal.nD Cert.KernelLossIdeal.τ).loc Cert.KernelLossIdeal.main_arg2) = m ((c.tc : Thread Cert.KernelLossIdeal.nD Cert.KernelLossIdeal.τ).loc Cert.KernelLossIdeal.main_arg2)
      ∧ r.2.mem ((c.tc : Thread Cert.KernelLossIdeal.nD Cert.KernelLossIdeal.τ).loc Cert.KernelLossIdeal.main_arg3) = m ((c.tc : Thread Cert.KernelLossIdeal.nD Cert.KernelLossIdeal.τ).loc Cert.KernelLossIdeal.main_arg3)
      ∧ r.2.mem ((c.tc : Thread Cert.KernelLossIdeal.nD Cert.KernelLossIdeal.τ).loc Cert.KernelLossIdeal.main_arg4) = m ((c.tc : Thread Cert.KernelLossIdeal.nD Cert.KernelLossIdeal.τ).loc Cert.KernelLossIdeal.main_arg4)
      ∧ r.2.mem ((c.tc : Thread Cert.KernelLossIdeal.nD Cert.KernelLossIdeal.τ).loc Cert.KernelLossIdeal.main_arg5) = m ((c.tc : Thread Cert.KernelLossIdeal.nD Cert.KernelLossIdeal.τ).loc Cert.KernelLossIdeal.main_arg5))
      ∧ r.2.sem = fun _ => 0)

def quiescent_ReferenceLossIdeal [hReferenceLossIdeal : Cert.ReferenceLossIdeal.Facts] : Prop :=
  ∀ (m : (ℓ : Loc Cert.ReferenceLossIdeal.nD Cert.ReferenceLossIdeal.τ Cert.ReferenceLossIdeal.sig) → Buf (Elt Ideal) ℓ) (g : Dev Cert.ReferenceLossIdeal.nD → PrngReg), Pre_ReferenceLossIdeal m →
    θ_run (Cert.ReferenceLossIdeal.defs (F := Ideal)) (onTc (τ := Cert.ReferenceLossIdeal.τ) (Cert.ReferenceLossIdeal.main (F := Ideal))) ⟨m, fun _ => 0, g⟩ (fun r => (∀ c : Dev Cert.ReferenceLossIdeal.nD,
      r.2.mem ((c.tc : Thread Cert.ReferenceLossIdeal.nD Cert.ReferenceLossIdeal.τ).loc Cert.ReferenceLossIdeal.main_arg0) = m ((c.tc : Thread Cert.ReferenceLossIdeal.nD Cert.ReferenceLossIdeal.τ).loc Cert.ReferenceLossIdeal.main_arg0)
      ∧ r.2.mem ((c.tc : Thread Cert.ReferenceLossIdeal.nD Cert.ReferenceLossIdeal.τ).loc Cert.ReferenceLossIdeal.main_arg1) = m ((c.tc : Thread Cert.ReferenceLossIdeal.nD Cert.ReferenceLossIdeal.τ).loc Cert.ReferenceLossIdeal.main_arg1)
      ∧ r.2.mem ((c.tc : Thread Cert.ReferenceLossIdeal.nD Cert.ReferenceLossIdeal.τ).loc Cert.ReferenceLossIdeal.main_arg2) = m ((c.tc : Thread Cert.ReferenceLossIdeal.nD Cert.ReferenceLossIdeal.τ).loc Cert.ReferenceLossIdeal.main_arg2)
      ∧ r.2.mem ((c.tc : Thread Cert.ReferenceLossIdeal.nD Cert.ReferenceLossIdeal.τ).loc Cert.ReferenceLossIdeal.main_arg3) = m ((c.tc : Thread Cert.ReferenceLossIdeal.nD Cert.ReferenceLossIdeal.τ).loc Cert.ReferenceLossIdeal.main_arg3)
      ∧ r.2.mem ((c.tc : Thread Cert.ReferenceLossIdeal.nD Cert.ReferenceLossIdeal.τ).loc Cert.ReferenceLossIdeal.main_arg4) = m ((c.tc : Thread Cert.ReferenceLossIdeal.nD Cert.ReferenceLossIdeal.τ).loc Cert.ReferenceLossIdeal.main_arg4)
      ∧ r.2.mem ((c.tc : Thread Cert.ReferenceLossIdeal.nD Cert.ReferenceLossIdeal.τ).loc Cert.ReferenceLossIdeal.main_arg5) = m ((c.tc : Thread Cert.ReferenceLossIdeal.nD Cert.ReferenceLossIdeal.τ).loc Cert.ReferenceLossIdeal.main_arg5))
      ∧ r.2.sem = fun _ => 0)

def quiescent_KernelWgradIn [hKernelWgradIn : Cert.KernelWgradIn.Facts] : Prop :=
  ∀ (m : (ℓ : Loc Cert.KernelWgradIn.nD Cert.KernelWgradIn.τ Cert.KernelWgradIn.sig) → Buf (Elt Bits) ℓ) (g : Dev Cert.KernelWgradIn.nD → PrngReg), Pre_KernelWgradIn m →
    θ_run (Cert.KernelWgradIn.defs (F := Bits)) (onTc (τ := Cert.KernelWgradIn.τ) (Cert.KernelWgradIn.main (F := Bits))) ⟨m, fun _ => 0, g⟩ (fun r => (∀ c : Dev Cert.KernelWgradIn.nD,
      r.2.mem ((c.tc : Thread Cert.KernelWgradIn.nD Cert.KernelWgradIn.τ).loc Cert.KernelWgradIn.main_arg0) = m ((c.tc : Thread Cert.KernelWgradIn.nD Cert.KernelWgradIn.τ).loc Cert.KernelWgradIn.main_arg0)
      ∧ r.2.mem ((c.tc : Thread Cert.KernelWgradIn.nD Cert.KernelWgradIn.τ).loc Cert.KernelWgradIn.main_arg1) = m ((c.tc : Thread Cert.KernelWgradIn.nD Cert.KernelWgradIn.τ).loc Cert.KernelWgradIn.main_arg1))
      ∧ r.2.sem = fun _ => 0)

def quiescent_KernelWgradInIdeal [hKernelWgradInIdeal : Cert.KernelWgradInIdeal.Facts] : Prop :=
  ∀ (m : (ℓ : Loc Cert.KernelWgradInIdeal.nD Cert.KernelWgradInIdeal.τ Cert.KernelWgradInIdeal.sig) → Buf (Elt Ideal) ℓ) (g : Dev Cert.KernelWgradInIdeal.nD → PrngReg), Pre_KernelWgradInIdeal m →
    θ_run (Cert.KernelWgradInIdeal.defs (F := Ideal)) (onTc (τ := Cert.KernelWgradInIdeal.τ) (Cert.KernelWgradInIdeal.main (F := Ideal))) ⟨m, fun _ => 0, g⟩ (fun r => (∀ c : Dev Cert.KernelWgradInIdeal.nD,
      r.2.mem ((c.tc : Thread Cert.KernelWgradInIdeal.nD Cert.KernelWgradInIdeal.τ).loc Cert.KernelWgradInIdeal.main_arg0) = m ((c.tc : Thread Cert.KernelWgradInIdeal.nD Cert.KernelWgradInIdeal.τ).loc Cert.KernelWgradInIdeal.main_arg0)
      ∧ r.2.mem ((c.tc : Thread Cert.KernelWgradInIdeal.nD Cert.KernelWgradInIdeal.τ).loc Cert.KernelWgradInIdeal.main_arg1) = m ((c.tc : Thread Cert.KernelWgradInIdeal.nD Cert.KernelWgradInIdeal.τ).loc Cert.KernelWgradInIdeal.main_arg1))
      ∧ r.2.sem = fun _ => 0)

def quiescent_ReferenceWgradInIdeal [hReferenceWgradInIdeal : Cert.ReferenceWgradInIdeal.Facts] : Prop :=
  ∀ (m : (ℓ : Loc Cert.ReferenceWgradInIdeal.nD Cert.ReferenceWgradInIdeal.τ Cert.ReferenceWgradInIdeal.sig) → Buf (Elt Ideal) ℓ) (g : Dev Cert.ReferenceWgradInIdeal.nD → PrngReg), Pre_ReferenceWgradInIdeal m →
    θ_run (Cert.ReferenceWgradInIdeal.defs (F := Ideal)) (onTc (τ := Cert.ReferenceWgradInIdeal.τ) (Cert.ReferenceWgradInIdeal.main (F := Ideal))) ⟨m, fun _ => 0, g⟩ (fun r => (∀ c : Dev Cert.ReferenceWgradInIdeal.nD,
      r.2.mem ((c.tc : Thread Cert.ReferenceWgradInIdeal.nD Cert.ReferenceWgradInIdeal.τ).loc Cert.ReferenceWgradInIdeal.main_arg0) = m ((c.tc : Thread Cert.ReferenceWgradInIdeal.nD Cert.ReferenceWgradInIdeal.τ).loc Cert.ReferenceWgradInIdeal.main_arg0)
      ∧ r.2.mem ((c.tc : Thread Cert.ReferenceWgradInIdeal.nD Cert.ReferenceWgradInIdeal.τ).loc Cert.ReferenceWgradInIdeal.main_arg1) = m ((c.tc : Thread Cert.ReferenceWgradInIdeal.nD Cert.ReferenceWgradInIdeal.τ).loc Cert.ReferenceWgradInIdeal.main_arg1))
      ∧ r.2.sem = fun _ => 0)

def quiescent_KernelWgradOut [hKernelWgradOut : Cert.KernelWgradOut.Facts] : Prop :=
  ∀ (m : (ℓ : Loc Cert.KernelWgradOut.nD Cert.KernelWgradOut.τ Cert.KernelWgradOut.sig) → Buf (Elt Bits) ℓ) (g : Dev Cert.KernelWgradOut.nD → PrngReg), Pre_KernelWgradOut m →
    θ_run (Cert.KernelWgradOut.defs (F := Bits)) (onTc (τ := Cert.KernelWgradOut.τ) (Cert.KernelWgradOut.main (F := Bits))) ⟨m, fun _ => 0, g⟩ (fun r => (∀ c : Dev Cert.KernelWgradOut.nD,
      r.2.mem ((c.tc : Thread Cert.KernelWgradOut.nD Cert.KernelWgradOut.τ).loc Cert.KernelWgradOut.main_arg0) = m ((c.tc : Thread Cert.KernelWgradOut.nD Cert.KernelWgradOut.τ).loc Cert.KernelWgradOut.main_arg0)
      ∧ r.2.mem ((c.tc : Thread Cert.KernelWgradOut.nD Cert.KernelWgradOut.τ).loc Cert.KernelWgradOut.main_arg1) = m ((c.tc : Thread Cert.KernelWgradOut.nD Cert.KernelWgradOut.τ).loc Cert.KernelWgradOut.main_arg1))
      ∧ r.2.sem = fun _ => 0)

def quiescent_KernelWgradOutIdeal [hKernelWgradOutIdeal : Cert.KernelWgradOutIdeal.Facts] : Prop :=
  ∀ (m : (ℓ : Loc Cert.KernelWgradOutIdeal.nD Cert.KernelWgradOutIdeal.τ Cert.KernelWgradOutIdeal.sig) → Buf (Elt Ideal) ℓ) (g : Dev Cert.KernelWgradOutIdeal.nD → PrngReg), Pre_KernelWgradOutIdeal m →
    θ_run (Cert.KernelWgradOutIdeal.defs (F := Ideal)) (onTc (τ := Cert.KernelWgradOutIdeal.τ) (Cert.KernelWgradOutIdeal.main (F := Ideal))) ⟨m, fun _ => 0, g⟩ (fun r => (∀ c : Dev Cert.KernelWgradOutIdeal.nD,
      r.2.mem ((c.tc : Thread Cert.KernelWgradOutIdeal.nD Cert.KernelWgradOutIdeal.τ).loc Cert.KernelWgradOutIdeal.main_arg0) = m ((c.tc : Thread Cert.KernelWgradOutIdeal.nD Cert.KernelWgradOutIdeal.τ).loc Cert.KernelWgradOutIdeal.main_arg0)
      ∧ r.2.mem ((c.tc : Thread Cert.KernelWgradOutIdeal.nD Cert.KernelWgradOutIdeal.τ).loc Cert.KernelWgradOutIdeal.main_arg1) = m ((c.tc : Thread Cert.KernelWgradOutIdeal.nD Cert.KernelWgradOutIdeal.τ).loc Cert.KernelWgradOutIdeal.main_arg1))
      ∧ r.2.sem = fun _ => 0)

def quiescent_ReferenceWgradOutIdeal [hReferenceWgradOutIdeal : Cert.ReferenceWgradOutIdeal.Facts] : Prop :=
  ∀ (m : (ℓ : Loc Cert.ReferenceWgradOutIdeal.nD Cert.ReferenceWgradOutIdeal.τ Cert.ReferenceWgradOutIdeal.sig) → Buf (Elt Ideal) ℓ) (g : Dev Cert.ReferenceWgradOutIdeal.nD → PrngReg), Pre_ReferenceWgradOutIdeal m →
    θ_run (Cert.ReferenceWgradOutIdeal.defs (F := Ideal)) (onTc (τ := Cert.ReferenceWgradOutIdeal.τ) (Cert.ReferenceWgradOutIdeal.main (F := Ideal))) ⟨m, fun _ => 0, g⟩ (fun r => (∀ c : Dev Cert.ReferenceWgradOutIdeal.nD,
      r.2.mem ((c.tc : Thread Cert.ReferenceWgradOutIdeal.nD Cert.ReferenceWgradOutIdeal.τ).loc Cert.ReferenceWgradOutIdeal.main_arg0) = m ((c.tc : Thread Cert.ReferenceWgradOutIdeal.nD Cert.ReferenceWgradOutIdeal.τ).loc Cert.ReferenceWgradOutIdeal.main_arg0)
      ∧ r.2.mem ((c.tc : Thread Cert.ReferenceWgradOutIdeal.nD Cert.ReferenceWgradOutIdeal.τ).loc Cert.ReferenceWgradOutIdeal.main_arg1) = m ((c.tc : Thread Cert.ReferenceWgradOutIdeal.nD Cert.ReferenceWgradOutIdeal.τ).loc Cert.ReferenceWgradOutIdeal.main_arg1))
      ∧ r.2.sem = fun _ => 0)

def quiescent_KernelWgradAtt [hKernelWgradAtt : Cert.KernelWgradAtt.Facts] : Prop :=
  ∀ (m : (ℓ : Loc Cert.KernelWgradAtt.nD Cert.KernelWgradAtt.τ Cert.KernelWgradAtt.sig) → Buf (Elt Bits) ℓ) (g : Dev Cert.KernelWgradAtt.nD → PrngReg), Pre_KernelWgradAtt m →
    θ_run (Cert.KernelWgradAtt.defs (F := Bits)) (onTc (τ := Cert.KernelWgradAtt.τ) (Cert.KernelWgradAtt.main (F := Bits))) ⟨m, fun _ => 0, g⟩ (fun r => (∀ c : Dev Cert.KernelWgradAtt.nD,
      r.2.mem ((c.tc : Thread Cert.KernelWgradAtt.nD Cert.KernelWgradAtt.τ).loc Cert.KernelWgradAtt.main_arg0) = m ((c.tc : Thread Cert.KernelWgradAtt.nD Cert.KernelWgradAtt.τ).loc Cert.KernelWgradAtt.main_arg0)
      ∧ r.2.mem ((c.tc : Thread Cert.KernelWgradAtt.nD Cert.KernelWgradAtt.τ).loc Cert.KernelWgradAtt.main_arg1) = m ((c.tc : Thread Cert.KernelWgradAtt.nD Cert.KernelWgradAtt.τ).loc Cert.KernelWgradAtt.main_arg1))
      ∧ r.2.sem = fun _ => 0)

def quiescent_KernelWgradAttIdeal [hKernelWgradAttIdeal : Cert.KernelWgradAttIdeal.Facts] : Prop :=
  ∀ (m : (ℓ : Loc Cert.KernelWgradAttIdeal.nD Cert.KernelWgradAttIdeal.τ Cert.KernelWgradAttIdeal.sig) → Buf (Elt Ideal) ℓ) (g : Dev Cert.KernelWgradAttIdeal.nD → PrngReg), Pre_KernelWgradAttIdeal m →
    θ_run (Cert.KernelWgradAttIdeal.defs (F := Ideal)) (onTc (τ := Cert.KernelWgradAttIdeal.τ) (Cert.KernelWgradAttIdeal.main (F := Ideal))) ⟨m, fun _ => 0, g⟩ (fun r => (∀ c : Dev Cert.KernelWgradAttIdeal.nD,
      r.2.mem ((c.tc : Thread Cert.KernelWgradAttIdeal.nD Cert.KernelWgradAttIdeal.τ).loc Cert.KernelWgradAttIdeal.main_arg0) = m ((c.tc : Thread Cert.KernelWgradAttIdeal.nD Cert.KernelWgradAttIdeal.τ).loc Cert.KernelWgradAttIdeal.main_arg0)
      ∧ r.2.mem ((c.tc : Thread Cert.KernelWgradAttIdeal.nD Cert.KernelWgradAttIdeal.τ).loc Cert.KernelWgradAttIdeal.main_arg1) = m ((c.tc : Thread Cert.KernelWgradAttIdeal.nD Cert.KernelWgradAttIdeal.τ).loc Cert.KernelWgradAttIdeal.main_arg1))
      ∧ r.2.sem = fun _ => 0)

def quiescent_ReferenceWgradAttIdeal [hReferenceWgradAttIdeal : Cert.ReferenceWgradAttIdeal.Facts] : Prop :=
  ∀ (m : (ℓ : Loc Cert.ReferenceWgradAttIdeal.nD Cert.ReferenceWgradAttIdeal.τ Cert.ReferenceWgradAttIdeal.sig) → Buf (Elt Ideal) ℓ) (g : Dev Cert.ReferenceWgradAttIdeal.nD → PrngReg), Pre_ReferenceWgradAttIdeal m →
    θ_run (Cert.ReferenceWgradAttIdeal.defs (F := Ideal)) (onTc (τ := Cert.ReferenceWgradAttIdeal.τ) (Cert.ReferenceWgradAttIdeal.main (F := Ideal))) ⟨m, fun _ => 0, g⟩ (fun r => (∀ c : Dev Cert.ReferenceWgradAttIdeal.nD,
      r.2.mem ((c.tc : Thread Cert.ReferenceWgradAttIdeal.nD Cert.ReferenceWgradAttIdeal.τ).loc Cert.ReferenceWgradAttIdeal.main_arg0) = m ((c.tc : Thread Cert.ReferenceWgradAttIdeal.nD Cert.ReferenceWgradAttIdeal.τ).loc Cert.ReferenceWgradAttIdeal.main_arg0)
      ∧ r.2.mem ((c.tc : Thread Cert.ReferenceWgradAttIdeal.nD Cert.ReferenceWgradAttIdeal.τ).loc Cert.ReferenceWgradAttIdeal.main_arg1) = m ((c.tc : Thread Cert.ReferenceWgradAttIdeal.nD Cert.ReferenceWgradAttIdeal.τ).loc Cert.ReferenceWgradAttIdeal.main_arg1))
      ∧ r.2.sem = fun _ => 0)

def quiescent_KernelWgradPool [hKernelWgradPool : Cert.KernelWgradPool.Facts] : Prop :=
  ∀ (m : (ℓ : Loc Cert.KernelWgradPool.nD Cert.KernelWgradPool.τ Cert.KernelWgradPool.sig) → Buf (Elt Bits) ℓ) (g : Dev Cert.KernelWgradPool.nD → PrngReg), Pre_KernelWgradPool m →
    θ_run (Cert.KernelWgradPool.defs (F := Bits)) (onTc (τ := Cert.KernelWgradPool.τ) (Cert.KernelWgradPool.main (F := Bits))) ⟨m, fun _ => 0, g⟩ (fun r => (∀ c : Dev Cert.KernelWgradPool.nD,
      r.2.mem ((c.tc : Thread Cert.KernelWgradPool.nD Cert.KernelWgradPool.τ).loc Cert.KernelWgradPool.main_arg0) = m ((c.tc : Thread Cert.KernelWgradPool.nD Cert.KernelWgradPool.τ).loc Cert.KernelWgradPool.main_arg0)
      ∧ r.2.mem ((c.tc : Thread Cert.KernelWgradPool.nD Cert.KernelWgradPool.τ).loc Cert.KernelWgradPool.main_arg1) = m ((c.tc : Thread Cert.KernelWgradPool.nD Cert.KernelWgradPool.τ).loc Cert.KernelWgradPool.main_arg1))
      ∧ r.2.sem = fun _ => 0)

def quiescent_KernelWgradPoolIdeal [hKernelWgradPoolIdeal : Cert.KernelWgradPoolIdeal.Facts] : Prop :=
  ∀ (m : (ℓ : Loc Cert.KernelWgradPoolIdeal.nD Cert.KernelWgradPoolIdeal.τ Cert.KernelWgradPoolIdeal.sig) → Buf (Elt Ideal) ℓ) (g : Dev Cert.KernelWgradPoolIdeal.nD → PrngReg), Pre_KernelWgradPoolIdeal m →
    θ_run (Cert.KernelWgradPoolIdeal.defs (F := Ideal)) (onTc (τ := Cert.KernelWgradPoolIdeal.τ) (Cert.KernelWgradPoolIdeal.main (F := Ideal))) ⟨m, fun _ => 0, g⟩ (fun r => (∀ c : Dev Cert.KernelWgradPoolIdeal.nD,
      r.2.mem ((c.tc : Thread Cert.KernelWgradPoolIdeal.nD Cert.KernelWgradPoolIdeal.τ).loc Cert.KernelWgradPoolIdeal.main_arg0) = m ((c.tc : Thread Cert.KernelWgradPoolIdeal.nD Cert.KernelWgradPoolIdeal.τ).loc Cert.KernelWgradPoolIdeal.main_arg0)
      ∧ r.2.mem ((c.tc : Thread Cert.KernelWgradPoolIdeal.nD Cert.KernelWgradPoolIdeal.τ).loc Cert.KernelWgradPoolIdeal.main_arg1) = m ((c.tc : Thread Cert.KernelWgradPoolIdeal.nD Cert.KernelWgradPoolIdeal.τ).loc Cert.KernelWgradPoolIdeal.main_arg1))
      ∧ r.2.sem = fun _ => 0)

def quiescent_ReferenceWgradPoolIdeal [hReferenceWgradPoolIdeal : Cert.ReferenceWgradPoolIdeal.Facts] : Prop :=
  ∀ (m : (ℓ : Loc Cert.ReferenceWgradPoolIdeal.nD Cert.ReferenceWgradPoolIdeal.τ Cert.ReferenceWgradPoolIdeal.sig) → Buf (Elt Ideal) ℓ) (g : Dev Cert.ReferenceWgradPoolIdeal.nD → PrngReg), Pre_ReferenceWgradPoolIdeal m →
    θ_run (Cert.ReferenceWgradPoolIdeal.defs (F := Ideal)) (onTc (τ := Cert.ReferenceWgradPoolIdeal.τ) (Cert.ReferenceWgradPoolIdeal.main (F := Ideal))) ⟨m, fun _ => 0, g⟩ (fun r => (∀ c : Dev Cert.ReferenceWgradPoolIdeal.nD,
      r.2.mem ((c.tc : Thread Cert.ReferenceWgradPoolIdeal.nD Cert.ReferenceWgradPoolIdeal.τ).loc Cert.ReferenceWgradPoolIdeal.main_arg0) = m ((c.tc : Thread Cert.ReferenceWgradPoolIdeal.nD Cert.ReferenceWgradPoolIdeal.τ).loc Cert.ReferenceWgradPoolIdeal.main_arg0)
      ∧ r.2.mem ((c.tc : Thread Cert.ReferenceWgradPoolIdeal.nD Cert.ReferenceWgradPoolIdeal.τ).loc Cert.ReferenceWgradPoolIdeal.main_arg1) = m ((c.tc : Thread Cert.ReferenceWgradPoolIdeal.nD Cert.ReferenceWgradPoolIdeal.τ).loc Cert.ReferenceWgradPoolIdeal.main_arg1))
      ∧ r.2.sem = fun _ => 0)

def quiescent_KernelWgradMix [hKernelWgradMix : Cert.KernelWgradMix.Facts] : Prop :=
  ∀ (m : (ℓ : Loc Cert.KernelWgradMix.nD Cert.KernelWgradMix.τ Cert.KernelWgradMix.sig) → Buf (Elt Bits) ℓ) (g : Dev Cert.KernelWgradMix.nD → PrngReg), Pre_KernelWgradMix m →
    θ_run (Cert.KernelWgradMix.defs (F := Bits)) (onTc (τ := Cert.KernelWgradMix.τ) (Cert.KernelWgradMix.main (F := Bits))) ⟨m, fun _ => 0, g⟩ (fun r => (∀ c : Dev Cert.KernelWgradMix.nD,
      r.2.mem ((c.tc : Thread Cert.KernelWgradMix.nD Cert.KernelWgradMix.τ).loc Cert.KernelWgradMix.main_arg0) = m ((c.tc : Thread Cert.KernelWgradMix.nD Cert.KernelWgradMix.τ).loc Cert.KernelWgradMix.main_arg0)
      ∧ r.2.mem ((c.tc : Thread Cert.KernelWgradMix.nD Cert.KernelWgradMix.τ).loc Cert.KernelWgradMix.main_arg1) = m ((c.tc : Thread Cert.KernelWgradMix.nD Cert.KernelWgradMix.τ).loc Cert.KernelWgradMix.main_arg1))
      ∧ r.2.sem = fun _ => 0)

def quiescent_KernelWgradMixIdeal [hKernelWgradMixIdeal : Cert.KernelWgradMixIdeal.Facts] : Prop :=
  ∀ (m : (ℓ : Loc Cert.KernelWgradMixIdeal.nD Cert.KernelWgradMixIdeal.τ Cert.KernelWgradMixIdeal.sig) → Buf (Elt Ideal) ℓ) (g : Dev Cert.KernelWgradMixIdeal.nD → PrngReg), Pre_KernelWgradMixIdeal m →
    θ_run (Cert.KernelWgradMixIdeal.defs (F := Ideal)) (onTc (τ := Cert.KernelWgradMixIdeal.τ) (Cert.KernelWgradMixIdeal.main (F := Ideal))) ⟨m, fun _ => 0, g⟩ (fun r => (∀ c : Dev Cert.KernelWgradMixIdeal.nD,
      r.2.mem ((c.tc : Thread Cert.KernelWgradMixIdeal.nD Cert.KernelWgradMixIdeal.τ).loc Cert.KernelWgradMixIdeal.main_arg0) = m ((c.tc : Thread Cert.KernelWgradMixIdeal.nD Cert.KernelWgradMixIdeal.τ).loc Cert.KernelWgradMixIdeal.main_arg0)
      ∧ r.2.mem ((c.tc : Thread Cert.KernelWgradMixIdeal.nD Cert.KernelWgradMixIdeal.τ).loc Cert.KernelWgradMixIdeal.main_arg1) = m ((c.tc : Thread Cert.KernelWgradMixIdeal.nD Cert.KernelWgradMixIdeal.τ).loc Cert.KernelWgradMixIdeal.main_arg1))
      ∧ r.2.sem = fun _ => 0)

def quiescent_ReferenceWgradMixIdeal [hReferenceWgradMixIdeal : Cert.ReferenceWgradMixIdeal.Facts] : Prop :=
  ∀ (m : (ℓ : Loc Cert.ReferenceWgradMixIdeal.nD Cert.ReferenceWgradMixIdeal.τ Cert.ReferenceWgradMixIdeal.sig) → Buf (Elt Ideal) ℓ) (g : Dev Cert.ReferenceWgradMixIdeal.nD → PrngReg), Pre_ReferenceWgradMixIdeal m →
    θ_run (Cert.ReferenceWgradMixIdeal.defs (F := Ideal)) (onTc (τ := Cert.ReferenceWgradMixIdeal.τ) (Cert.ReferenceWgradMixIdeal.main (F := Ideal))) ⟨m, fun _ => 0, g⟩ (fun r => (∀ c : Dev Cert.ReferenceWgradMixIdeal.nD,
      r.2.mem ((c.tc : Thread Cert.ReferenceWgradMixIdeal.nD Cert.ReferenceWgradMixIdeal.τ).loc Cert.ReferenceWgradMixIdeal.main_arg0) = m ((c.tc : Thread Cert.ReferenceWgradMixIdeal.nD Cert.ReferenceWgradMixIdeal.τ).loc Cert.ReferenceWgradMixIdeal.main_arg0)
      ∧ r.2.mem ((c.tc : Thread Cert.ReferenceWgradMixIdeal.nD Cert.ReferenceWgradMixIdeal.τ).loc Cert.ReferenceWgradMixIdeal.main_arg1) = m ((c.tc : Thread Cert.ReferenceWgradMixIdeal.nD Cert.ReferenceWgradMixIdeal.τ).loc Cert.ReferenceWgradMixIdeal.main_arg1))
      ∧ r.2.sem = fun _ => 0)

def quiescent_KernelWgradProj [hKernelWgradProj : Cert.KernelWgradProj.Facts] : Prop :=
  ∀ (m : (ℓ : Loc Cert.KernelWgradProj.nD Cert.KernelWgradProj.τ Cert.KernelWgradProj.sig) → Buf (Elt Bits) ℓ) (g : Dev Cert.KernelWgradProj.nD → PrngReg), Pre_KernelWgradProj m →
    θ_run (Cert.KernelWgradProj.defs (F := Bits)) (onTc (τ := Cert.KernelWgradProj.τ) (Cert.KernelWgradProj.main (F := Bits))) ⟨m, fun _ => 0, g⟩ (fun r => (∀ c : Dev Cert.KernelWgradProj.nD,
      r.2.mem ((c.tc : Thread Cert.KernelWgradProj.nD Cert.KernelWgradProj.τ).loc Cert.KernelWgradProj.main_arg0) = m ((c.tc : Thread Cert.KernelWgradProj.nD Cert.KernelWgradProj.τ).loc Cert.KernelWgradProj.main_arg0)
      ∧ r.2.mem ((c.tc : Thread Cert.KernelWgradProj.nD Cert.KernelWgradProj.τ).loc Cert.KernelWgradProj.main_arg1) = m ((c.tc : Thread Cert.KernelWgradProj.nD Cert.KernelWgradProj.τ).loc Cert.KernelWgradProj.main_arg1))
      ∧ r.2.sem = fun _ => 0)

def quiescent_KernelWgradProjIdeal [hKernelWgradProjIdeal : Cert.KernelWgradProjIdeal.Facts] : Prop :=
  ∀ (m : (ℓ : Loc Cert.KernelWgradProjIdeal.nD Cert.KernelWgradProjIdeal.τ Cert.KernelWgradProjIdeal.sig) → Buf (Elt Ideal) ℓ) (g : Dev Cert.KernelWgradProjIdeal.nD → PrngReg), Pre_KernelWgradProjIdeal m →
    θ_run (Cert.KernelWgradProjIdeal.defs (F := Ideal)) (onTc (τ := Cert.KernelWgradProjIdeal.τ) (Cert.KernelWgradProjIdeal.main (F := Ideal))) ⟨m, fun _ => 0, g⟩ (fun r => (∀ c : Dev Cert.KernelWgradProjIdeal.nD,
      r.2.mem ((c.tc : Thread Cert.KernelWgradProjIdeal.nD Cert.KernelWgradProjIdeal.τ).loc Cert.KernelWgradProjIdeal.main_arg0) = m ((c.tc : Thread Cert.KernelWgradProjIdeal.nD Cert.KernelWgradProjIdeal.τ).loc Cert.KernelWgradProjIdeal.main_arg0)
      ∧ r.2.mem ((c.tc : Thread Cert.KernelWgradProjIdeal.nD Cert.KernelWgradProjIdeal.τ).loc Cert.KernelWgradProjIdeal.main_arg1) = m ((c.tc : Thread Cert.KernelWgradProjIdeal.nD Cert.KernelWgradProjIdeal.τ).loc Cert.KernelWgradProjIdeal.main_arg1))
      ∧ r.2.sem = fun _ => 0)

def quiescent_ReferenceWgradProjIdeal [hReferenceWgradProjIdeal : Cert.ReferenceWgradProjIdeal.Facts] : Prop :=
  ∀ (m : (ℓ : Loc Cert.ReferenceWgradProjIdeal.nD Cert.ReferenceWgradProjIdeal.τ Cert.ReferenceWgradProjIdeal.sig) → Buf (Elt Ideal) ℓ) (g : Dev Cert.ReferenceWgradProjIdeal.nD → PrngReg), Pre_ReferenceWgradProjIdeal m →
    θ_run (Cert.ReferenceWgradProjIdeal.defs (F := Ideal)) (onTc (τ := Cert.ReferenceWgradProjIdeal.τ) (Cert.ReferenceWgradProjIdeal.main (F := Ideal))) ⟨m, fun _ => 0, g⟩ (fun r => (∀ c : Dev Cert.ReferenceWgradProjIdeal.nD,
      r.2.mem ((c.tc : Thread Cert.ReferenceWgradProjIdeal.nD Cert.ReferenceWgradProjIdeal.τ).loc Cert.ReferenceWgradProjIdeal.main_arg0) = m ((c.tc : Thread Cert.ReferenceWgradProjIdeal.nD Cert.ReferenceWgradProjIdeal.τ).loc Cert.ReferenceWgradProjIdeal.main_arg0)
      ∧ r.2.mem ((c.tc : Thread Cert.ReferenceWgradProjIdeal.nD Cert.ReferenceWgradProjIdeal.τ).loc Cert.ReferenceWgradProjIdeal.main_arg1) = m ((c.tc : Thread Cert.ReferenceWgradProjIdeal.nD Cert.ReferenceWgradProjIdeal.τ).loc Cert.ReferenceWgradProjIdeal.main_arg1))
      ∧ r.2.sem = fun _ => 0)

def quiescent_KernelDx [hKernelDx : Cert.KernelDx.Facts] : Prop :=
  ∀ (m : (ℓ : Loc Cert.KernelDx.nD Cert.KernelDx.τ Cert.KernelDx.sig) → Buf (Elt Bits) ℓ) (g : Dev Cert.KernelDx.nD → PrngReg), Pre_KernelDx m →
    θ_run (Cert.KernelDx.defs (F := Bits)) (onTc (τ := Cert.KernelDx.τ) (Cert.KernelDx.main (F := Bits))) ⟨m, fun _ => 0, g⟩ (fun r => (∀ c : Dev Cert.KernelDx.nD,
      r.2.mem ((c.tc : Thread Cert.KernelDx.nD Cert.KernelDx.τ).loc Cert.KernelDx.main_arg0) = m ((c.tc : Thread Cert.KernelDx.nD Cert.KernelDx.τ).loc Cert.KernelDx.main_arg0)
      ∧ r.2.mem ((c.tc : Thread Cert.KernelDx.nD Cert.KernelDx.τ).loc Cert.KernelDx.main_arg1) = m ((c.tc : Thread Cert.KernelDx.nD Cert.KernelDx.τ).loc Cert.KernelDx.main_arg1)
      ∧ r.2.mem ((c.tc : Thread Cert.KernelDx.nD Cert.KernelDx.τ).loc Cert.KernelDx.main_arg2) = m ((c.tc : Thread Cert.KernelDx.nD Cert.KernelDx.τ).loc Cert.KernelDx.main_arg2)
      ∧ r.2.mem ((c.tc : Thread Cert.KernelDx.nD Cert.KernelDx.τ).loc Cert.KernelDx.main_arg3) = m ((c.tc : Thread Cert.KernelDx.nD Cert.KernelDx.τ).loc Cert.KernelDx.main_arg3)
      ∧ r.2.mem ((c.tc : Thread Cert.KernelDx.nD Cert.KernelDx.τ).loc Cert.KernelDx.main_arg4) = m ((c.tc : Thread Cert.KernelDx.nD Cert.KernelDx.τ).loc Cert.KernelDx.main_arg4)
      ∧ r.2.mem ((c.tc : Thread Cert.KernelDx.nD Cert.KernelDx.τ).loc Cert.KernelDx.main_arg5) = m ((c.tc : Thread Cert.KernelDx.nD Cert.KernelDx.τ).loc Cert.KernelDx.main_arg5))
      ∧ r.2.sem = fun _ => 0)

def quiescent_KernelDxIdeal [hKernelDxIdeal : Cert.KernelDxIdeal.Facts] : Prop :=
  ∀ (m : (ℓ : Loc Cert.KernelDxIdeal.nD Cert.KernelDxIdeal.τ Cert.KernelDxIdeal.sig) → Buf (Elt Ideal) ℓ) (g : Dev Cert.KernelDxIdeal.nD → PrngReg), Pre_KernelDxIdeal m →
    θ_run (Cert.KernelDxIdeal.defs (F := Ideal)) (onTc (τ := Cert.KernelDxIdeal.τ) (Cert.KernelDxIdeal.main (F := Ideal))) ⟨m, fun _ => 0, g⟩ (fun r => (∀ c : Dev Cert.KernelDxIdeal.nD,
      r.2.mem ((c.tc : Thread Cert.KernelDxIdeal.nD Cert.KernelDxIdeal.τ).loc Cert.KernelDxIdeal.main_arg0) = m ((c.tc : Thread Cert.KernelDxIdeal.nD Cert.KernelDxIdeal.τ).loc Cert.KernelDxIdeal.main_arg0)
      ∧ r.2.mem ((c.tc : Thread Cert.KernelDxIdeal.nD Cert.KernelDxIdeal.τ).loc Cert.KernelDxIdeal.main_arg1) = m ((c.tc : Thread Cert.KernelDxIdeal.nD Cert.KernelDxIdeal.τ).loc Cert.KernelDxIdeal.main_arg1)
      ∧ r.2.mem ((c.tc : Thread Cert.KernelDxIdeal.nD Cert.KernelDxIdeal.τ).loc Cert.KernelDxIdeal.main_arg2) = m ((c.tc : Thread Cert.KernelDxIdeal.nD Cert.KernelDxIdeal.τ).loc Cert.KernelDxIdeal.main_arg2)
      ∧ r.2.mem ((c.tc : Thread Cert.KernelDxIdeal.nD Cert.KernelDxIdeal.τ).loc Cert.KernelDxIdeal.main_arg3) = m ((c.tc : Thread Cert.KernelDxIdeal.nD Cert.KernelDxIdeal.τ).loc Cert.KernelDxIdeal.main_arg3)
      ∧ r.2.mem ((c.tc : Thread Cert.KernelDxIdeal.nD Cert.KernelDxIdeal.τ).loc Cert.KernelDxIdeal.main_arg4) = m ((c.tc : Thread Cert.KernelDxIdeal.nD Cert.KernelDxIdeal.τ).loc Cert.KernelDxIdeal.main_arg4)
      ∧ r.2.mem ((c.tc : Thread Cert.KernelDxIdeal.nD Cert.KernelDxIdeal.τ).loc Cert.KernelDxIdeal.main_arg5) = m ((c.tc : Thread Cert.KernelDxIdeal.nD Cert.KernelDxIdeal.τ).loc Cert.KernelDxIdeal.main_arg5))
      ∧ r.2.sem = fun _ => 0)

def quiescent_ReferenceDxIdeal [hReferenceDxIdeal : Cert.ReferenceDxIdeal.Facts] : Prop :=
  ∀ (m : (ℓ : Loc Cert.ReferenceDxIdeal.nD Cert.ReferenceDxIdeal.τ Cert.ReferenceDxIdeal.sig) → Buf (Elt Ideal) ℓ) (g : Dev Cert.ReferenceDxIdeal.nD → PrngReg), Pre_ReferenceDxIdeal m →
    θ_run (Cert.ReferenceDxIdeal.defs (F := Ideal)) (onTc (τ := Cert.ReferenceDxIdeal.τ) (Cert.ReferenceDxIdeal.main (F := Ideal))) ⟨m, fun _ => 0, g⟩ (fun r => (∀ c : Dev Cert.ReferenceDxIdeal.nD,
      r.2.mem ((c.tc : Thread Cert.ReferenceDxIdeal.nD Cert.ReferenceDxIdeal.τ).loc Cert.ReferenceDxIdeal.main_arg0) = m ((c.tc : Thread Cert.ReferenceDxIdeal.nD Cert.ReferenceDxIdeal.τ).loc Cert.ReferenceDxIdeal.main_arg0)
      ∧ r.2.mem ((c.tc : Thread Cert.ReferenceDxIdeal.nD Cert.ReferenceDxIdeal.τ).loc Cert.ReferenceDxIdeal.main_arg1) = m ((c.tc : Thread Cert.ReferenceDxIdeal.nD Cert.ReferenceDxIdeal.τ).loc Cert.ReferenceDxIdeal.main_arg1)
      ∧ r.2.mem ((c.tc : Thread Cert.ReferenceDxIdeal.nD Cert.ReferenceDxIdeal.τ).loc Cert.ReferenceDxIdeal.main_arg2) = m ((c.tc : Thread Cert.ReferenceDxIdeal.nD Cert.ReferenceDxIdeal.τ).loc Cert.ReferenceDxIdeal.main_arg2)
      ∧ r.2.mem ((c.tc : Thread Cert.ReferenceDxIdeal.nD Cert.ReferenceDxIdeal.τ).loc Cert.ReferenceDxIdeal.main_arg3) = m ((c.tc : Thread Cert.ReferenceDxIdeal.nD Cert.ReferenceDxIdeal.τ).loc Cert.ReferenceDxIdeal.main_arg3)
      ∧ r.2.mem ((c.tc : Thread Cert.ReferenceDxIdeal.nD Cert.ReferenceDxIdeal.τ).loc Cert.ReferenceDxIdeal.main_arg4) = m ((c.tc : Thread Cert.ReferenceDxIdeal.nD Cert.ReferenceDxIdeal.τ).loc Cert.ReferenceDxIdeal.main_arg4)
      ∧ r.2.mem ((c.tc : Thread Cert.ReferenceDxIdeal.nD Cert.ReferenceDxIdeal.τ).loc Cert.ReferenceDxIdeal.main_arg5) = m ((c.tc : Thread Cert.ReferenceDxIdeal.nD Cert.ReferenceDxIdeal.τ).loc Cert.ReferenceDxIdeal.main_arg5))
      ∧ r.2.sem = fun _ => 0)

def quiescent_KernelInprojOwn [hKernelInprojOwn : Cert.KernelInprojOwn.Facts] : Prop :=
  ∀ (m : (ℓ : Loc Cert.KernelInprojOwn.nD Cert.KernelInprojOwn.τ Cert.KernelInprojOwn.sig) → Buf (Elt Bits) ℓ) (g : Dev Cert.KernelInprojOwn.nD → PrngReg), Pre_KernelInprojOwn m →
    θ_run (Cert.KernelInprojOwn.defs (F := Bits)) (onTc (τ := Cert.KernelInprojOwn.τ) (Cert.KernelInprojOwn.main (F := Bits))) ⟨m, fun _ => 0, g⟩ (fun r => (∀ c : Dev Cert.KernelInprojOwn.nD,
      r.2.mem ((c.tc : Thread Cert.KernelInprojOwn.nD Cert.KernelInprojOwn.τ).loc Cert.KernelInprojOwn.main_arg0) = m ((c.tc : Thread Cert.KernelInprojOwn.nD Cert.KernelInprojOwn.τ).loc Cert.KernelInprojOwn.main_arg0)
      ∧ r.2.mem ((c.tc : Thread Cert.KernelInprojOwn.nD Cert.KernelInprojOwn.τ).loc Cert.KernelInprojOwn.main_arg1) = m ((c.tc : Thread Cert.KernelInprojOwn.nD Cert.KernelInprojOwn.τ).loc Cert.KernelInprojOwn.main_arg1)
      ∧ r.2.mem ((c.tc : Thread Cert.KernelInprojOwn.nD Cert.KernelInprojOwn.τ).loc Cert.KernelInprojOwn.main_arg2) = m ((c.tc : Thread Cert.KernelInprojOwn.nD Cert.KernelInprojOwn.τ).loc Cert.KernelInprojOwn.main_arg2))
      ∧ r.2.sem = fun _ => 0)

def quiescent_KernelInprojOwnIdeal [hKernelInprojOwnIdeal : Cert.KernelInprojOwnIdeal.Facts] : Prop :=
  ∀ (m : (ℓ : Loc Cert.KernelInprojOwnIdeal.nD Cert.KernelInprojOwnIdeal.τ Cert.KernelInprojOwnIdeal.sig) → Buf (Elt Ideal) ℓ) (g : Dev Cert.KernelInprojOwnIdeal.nD → PrngReg), Pre_KernelInprojOwnIdeal m →
    θ_run (Cert.KernelInprojOwnIdeal.defs (F := Ideal)) (onTc (τ := Cert.KernelInprojOwnIdeal.τ) (Cert.KernelInprojOwnIdeal.main (F := Ideal))) ⟨m, fun _ => 0, g⟩ (fun r => (∀ c : Dev Cert.KernelInprojOwnIdeal.nD,
      r.2.mem ((c.tc : Thread Cert.KernelInprojOwnIdeal.nD Cert.KernelInprojOwnIdeal.τ).loc Cert.KernelInprojOwnIdeal.main_arg0) = m ((c.tc : Thread Cert.KernelInprojOwnIdeal.nD Cert.KernelInprojOwnIdeal.τ).loc Cert.KernelInprojOwnIdeal.main_arg0)
      ∧ r.2.mem ((c.tc : Thread Cert.KernelInprojOwnIdeal.nD Cert.KernelInprojOwnIdeal.τ).loc Cert.KernelInprojOwnIdeal.main_arg1) = m ((c.tc : Thread Cert.KernelInprojOwnIdeal.nD Cert.KernelInprojOwnIdeal.τ).loc Cert.KernelInprojOwnIdeal.main_arg1)
      ∧ r.2.mem ((c.tc : Thread Cert.KernelInprojOwnIdeal.nD Cert.KernelInprojOwnIdeal.τ).loc Cert.KernelInprojOwnIdeal.main_arg2) = m ((c.tc : Thread Cert.KernelInprojOwnIdeal.nD Cert.KernelInprojOwnIdeal.τ).loc Cert.KernelInprojOwnIdeal.main_arg2))
      ∧ r.2.sem = fun _ => 0)

def quiescent_ReferenceInprojOwnIdeal [hReferenceInprojOwnIdeal : Cert.ReferenceInprojOwnIdeal.Facts] : Prop :=
  ∀ (m : (ℓ : Loc Cert.ReferenceInprojOwnIdeal.nD Cert.ReferenceInprojOwnIdeal.τ Cert.ReferenceInprojOwnIdeal.sig) → Buf (Elt Ideal) ℓ) (g : Dev Cert.ReferenceInprojOwnIdeal.nD → PrngReg), Pre_ReferenceInprojOwnIdeal m →
    θ_run (Cert.ReferenceInprojOwnIdeal.defs (F := Ideal)) (onTc (τ := Cert.ReferenceInprojOwnIdeal.τ) (Cert.ReferenceInprojOwnIdeal.main (F := Ideal))) ⟨m, fun _ => 0, g⟩ (fun r => (∀ c : Dev Cert.ReferenceInprojOwnIdeal.nD,
      r.2.mem ((c.tc : Thread Cert.ReferenceInprojOwnIdeal.nD Cert.ReferenceInprojOwnIdeal.τ).loc Cert.ReferenceInprojOwnIdeal.main_arg0) = m ((c.tc : Thread Cert.ReferenceInprojOwnIdeal.nD Cert.ReferenceInprojOwnIdeal.τ).loc Cert.ReferenceInprojOwnIdeal.main_arg0)
      ∧ r.2.mem ((c.tc : Thread Cert.ReferenceInprojOwnIdeal.nD Cert.ReferenceInprojOwnIdeal.τ).loc Cert.ReferenceInprojOwnIdeal.main_arg1) = m ((c.tc : Thread Cert.ReferenceInprojOwnIdeal.nD Cert.ReferenceInprojOwnIdeal.τ).loc Cert.ReferenceInprojOwnIdeal.main_arg1)
      ∧ r.2.mem ((c.tc : Thread Cert.ReferenceInprojOwnIdeal.nD Cert.ReferenceInprojOwnIdeal.τ).loc Cert.ReferenceInprojOwnIdeal.main_arg2) = m ((c.tc : Thread Cert.ReferenceInprojOwnIdeal.nD Cert.ReferenceInprojOwnIdeal.τ).loc Cert.ReferenceInprojOwnIdeal.main_arg2))
      ∧ r.2.sem = fun _ => 0)

def quiescent_KernelInproj [hKernelInproj : Cert.KernelInproj.Facts] : Prop :=
  ∀ (m : (ℓ : Loc Cert.KernelInproj.nD Cert.KernelInproj.τ Cert.KernelInproj.sig) → Buf (Elt Bits) ℓ) (g : Dev Cert.KernelInproj.nD → PrngReg), Pre_KernelInproj m →
    θ_run (Cert.KernelInproj.defs (F := Bits)) (onTc (τ := Cert.KernelInproj.τ) (Cert.KernelInproj.main (F := Bits))) ⟨m, fun _ => 0, g⟩ (fun r => (∀ c : Dev Cert.KernelInproj.nD,
      r.2.mem ((c.tc : Thread Cert.KernelInproj.nD Cert.KernelInproj.τ).loc Cert.KernelInproj.main_arg0) = m ((c.tc : Thread Cert.KernelInproj.nD Cert.KernelInproj.τ).loc Cert.KernelInproj.main_arg0)
      ∧ r.2.mem ((c.tc : Thread Cert.KernelInproj.nD Cert.KernelInproj.τ).loc Cert.KernelInproj.main_arg1) = m ((c.tc : Thread Cert.KernelInproj.nD Cert.KernelInproj.τ).loc Cert.KernelInproj.main_arg1))
      ∧ r.2.sem = fun _ => 0)

def quiescent_KernelInprojIdeal [hKernelInprojIdeal : Cert.KernelInprojIdeal.Facts] : Prop :=
  ∀ (m : (ℓ : Loc Cert.KernelInprojIdeal.nD Cert.KernelInprojIdeal.τ Cert.KernelInprojIdeal.sig) → Buf (Elt Ideal) ℓ) (g : Dev Cert.KernelInprojIdeal.nD → PrngReg), Pre_KernelInprojIdeal m →
    θ_run (Cert.KernelInprojIdeal.defs (F := Ideal)) (onTc (τ := Cert.KernelInprojIdeal.τ) (Cert.KernelInprojIdeal.main (F := Ideal))) ⟨m, fun _ => 0, g⟩ (fun r => (∀ c : Dev Cert.KernelInprojIdeal.nD,
      r.2.mem ((c.tc : Thread Cert.KernelInprojIdeal.nD Cert.KernelInprojIdeal.τ).loc Cert.KernelInprojIdeal.main_arg0) = m ((c.tc : Thread Cert.KernelInprojIdeal.nD Cert.KernelInprojIdeal.τ).loc Cert.KernelInprojIdeal.main_arg0)
      ∧ r.2.mem ((c.tc : Thread Cert.KernelInprojIdeal.nD Cert.KernelInprojIdeal.τ).loc Cert.KernelInprojIdeal.main_arg1) = m ((c.tc : Thread Cert.KernelInprojIdeal.nD Cert.KernelInprojIdeal.τ).loc Cert.KernelInprojIdeal.main_arg1))
      ∧ r.2.sem = fun _ => 0)

def quiescent_ReferenceInprojIdeal [hReferenceInprojIdeal : Cert.ReferenceInprojIdeal.Facts] : Prop :=
  ∀ (m : (ℓ : Loc Cert.ReferenceInprojIdeal.nD Cert.ReferenceInprojIdeal.τ Cert.ReferenceInprojIdeal.sig) → Buf (Elt Ideal) ℓ) (g : Dev Cert.ReferenceInprojIdeal.nD → PrngReg), Pre_ReferenceInprojIdeal m →
    θ_run (Cert.ReferenceInprojIdeal.defs (F := Ideal)) (onTc (τ := Cert.ReferenceInprojIdeal.τ) (Cert.ReferenceInprojIdeal.main (F := Ideal))) ⟨m, fun _ => 0, g⟩ (fun r => (∀ c : Dev Cert.ReferenceInprojIdeal.nD,
      r.2.mem ((c.tc : Thread Cert.ReferenceInprojIdeal.nD Cert.ReferenceInprojIdeal.τ).loc Cert.ReferenceInprojIdeal.main_arg0) = m ((c.tc : Thread Cert.ReferenceInprojIdeal.nD Cert.ReferenceInprojIdeal.τ).loc Cert.ReferenceInprojIdeal.main_arg0)
      ∧ r.2.mem ((c.tc : Thread Cert.ReferenceInprojIdeal.nD Cert.ReferenceInprojIdeal.τ).loc Cert.ReferenceInprojIdeal.main_arg1) = m ((c.tc : Thread Cert.ReferenceInprojIdeal.nD Cert.ReferenceInprojIdeal.τ).loc Cert.ReferenceInprojIdeal.main_arg1))
      ∧ r.2.sem = fun _ => 0)

def quiescent_KernelWgradGrp [hKernelWgradGrp : Cert.KernelWgradGrp.Facts] : Prop :=
  ∀ (m : (ℓ : Loc Cert.KernelWgradGrp.nD Cert.KernelWgradGrp.τ Cert.KernelWgradGrp.sig) → Buf (Elt Bits) ℓ) (g : Dev Cert.KernelWgradGrp.nD → PrngReg), Pre_KernelWgradGrp m →
    θ_run (Cert.KernelWgradGrp.defs (F := Bits)) (onTc (τ := Cert.KernelWgradGrp.τ) (Cert.KernelWgradGrp.main (F := Bits))) ⟨m, fun _ => 0, g⟩ (fun r => (∀ c : Dev Cert.KernelWgradGrp.nD,
      r.2.mem ((c.tc : Thread Cert.KernelWgradGrp.nD Cert.KernelWgradGrp.τ).loc Cert.KernelWgradGrp.main_arg0) = m ((c.tc : Thread Cert.KernelWgradGrp.nD Cert.KernelWgradGrp.τ).loc Cert.KernelWgradGrp.main_arg0)
      ∧ r.2.mem ((c.tc : Thread Cert.KernelWgradGrp.nD Cert.KernelWgradGrp.τ).loc Cert.KernelWgradGrp.main_arg1) = m ((c.tc : Thread Cert.KernelWgradGrp.nD Cert.KernelWgradGrp.τ).loc Cert.KernelWgradGrp.main_arg1))
      ∧ r.2.sem = fun _ => 0)

def quiescent_KernelWgradGrpIdeal [hKernelWgradGrpIdeal : Cert.KernelWgradGrpIdeal.Facts] : Prop :=
  ∀ (m : (ℓ : Loc Cert.KernelWgradGrpIdeal.nD Cert.KernelWgradGrpIdeal.τ Cert.KernelWgradGrpIdeal.sig) → Buf (Elt Ideal) ℓ) (g : Dev Cert.KernelWgradGrpIdeal.nD → PrngReg), Pre_KernelWgradGrpIdeal m →
    θ_run (Cert.KernelWgradGrpIdeal.defs (F := Ideal)) (onTc (τ := Cert.KernelWgradGrpIdeal.τ) (Cert.KernelWgradGrpIdeal.main (F := Ideal))) ⟨m, fun _ => 0, g⟩ (fun r => (∀ c : Dev Cert.KernelWgradGrpIdeal.nD,
      r.2.mem ((c.tc : Thread Cert.KernelWgradGrpIdeal.nD Cert.KernelWgradGrpIdeal.τ).loc Cert.KernelWgradGrpIdeal.main_arg0) = m ((c.tc : Thread Cert.KernelWgradGrpIdeal.nD Cert.KernelWgradGrpIdeal.τ).loc Cert.KernelWgradGrpIdeal.main_arg0)
      ∧ r.2.mem ((c.tc : Thread Cert.KernelWgradGrpIdeal.nD Cert.KernelWgradGrpIdeal.τ).loc Cert.KernelWgradGrpIdeal.main_arg1) = m ((c.tc : Thread Cert.KernelWgradGrpIdeal.nD Cert.KernelWgradGrpIdeal.τ).loc Cert.KernelWgradGrpIdeal.main_arg1))
      ∧ r.2.sem = fun _ => 0)

def quiescent_ReferenceWgradGrpIdeal [hReferenceWgradGrpIdeal : Cert.ReferenceWgradGrpIdeal.Facts] : Prop :=
  ∀ (m : (ℓ : Loc Cert.ReferenceWgradGrpIdeal.nD Cert.ReferenceWgradGrpIdeal.τ Cert.ReferenceWgradGrpIdeal.sig) → Buf (Elt Ideal) ℓ) (g : Dev Cert.ReferenceWgradGrpIdeal.nD → PrngReg), Pre_ReferenceWgradGrpIdeal m →
    θ_run (Cert.ReferenceWgradGrpIdeal.defs (F := Ideal)) (onTc (τ := Cert.ReferenceWgradGrpIdeal.τ) (Cert.ReferenceWgradGrpIdeal.main (F := Ideal))) ⟨m, fun _ => 0, g⟩ (fun r => (∀ c : Dev Cert.ReferenceWgradGrpIdeal.nD,
      r.2.mem ((c.tc : Thread Cert.ReferenceWgradGrpIdeal.nD Cert.ReferenceWgradGrpIdeal.τ).loc Cert.ReferenceWgradGrpIdeal.main_arg0) = m ((c.tc : Thread Cert.ReferenceWgradGrpIdeal.nD Cert.ReferenceWgradGrpIdeal.τ).loc Cert.ReferenceWgradGrpIdeal.main_arg0)
      ∧ r.2.mem ((c.tc : Thread Cert.ReferenceWgradGrpIdeal.nD Cert.ReferenceWgradGrpIdeal.τ).loc Cert.ReferenceWgradGrpIdeal.main_arg1) = m ((c.tc : Thread Cert.ReferenceWgradGrpIdeal.nD Cert.ReferenceWgradGrpIdeal.τ).loc Cert.ReferenceWgradGrpIdeal.main_arg1))
      ∧ r.2.sem = fun _ => 0)

def quiescent_KernelAdamwIn [hKernelAdamwIn : Cert.KernelAdamwIn.Facts] : Prop :=
  ∀ (m : (ℓ : Loc Cert.KernelAdamwIn.nD Cert.KernelAdamwIn.τ Cert.KernelAdamwIn.sig) → Buf (Elt Bits) ℓ) (g : Dev Cert.KernelAdamwIn.nD → PrngReg), Pre_KernelAdamwIn m →
    θ_run (Cert.KernelAdamwIn.defs (F := Bits)) (onTc (τ := Cert.KernelAdamwIn.τ) (Cert.KernelAdamwIn.main (F := Bits))) ⟨m, fun _ => 0, g⟩ (fun r => (∀ c : Dev Cert.KernelAdamwIn.nD,
      r.2.mem ((c.tc : Thread Cert.KernelAdamwIn.nD Cert.KernelAdamwIn.τ).loc Cert.KernelAdamwIn.main_arg0) = m ((c.tc : Thread Cert.KernelAdamwIn.nD Cert.KernelAdamwIn.τ).loc Cert.KernelAdamwIn.main_arg0)
      ∧ r.2.mem ((c.tc : Thread Cert.KernelAdamwIn.nD Cert.KernelAdamwIn.τ).loc Cert.KernelAdamwIn.main_arg1) = m ((c.tc : Thread Cert.KernelAdamwIn.nD Cert.KernelAdamwIn.τ).loc Cert.KernelAdamwIn.main_arg1)
      ∧ r.2.mem ((c.tc : Thread Cert.KernelAdamwIn.nD Cert.KernelAdamwIn.τ).loc Cert.KernelAdamwIn.main_arg2) = m ((c.tc : Thread Cert.KernelAdamwIn.nD Cert.KernelAdamwIn.τ).loc Cert.KernelAdamwIn.main_arg2)
      ∧ r.2.mem ((c.tc : Thread Cert.KernelAdamwIn.nD Cert.KernelAdamwIn.τ).loc Cert.KernelAdamwIn.main_arg3) = m ((c.tc : Thread Cert.KernelAdamwIn.nD Cert.KernelAdamwIn.τ).loc Cert.KernelAdamwIn.main_arg3))
      ∧ r.2.sem = fun _ => 0)

def quiescent_KernelAdamwInIdeal [hKernelAdamwInIdeal : Cert.KernelAdamwInIdeal.Facts] : Prop :=
  ∀ (m : (ℓ : Loc Cert.KernelAdamwInIdeal.nD Cert.KernelAdamwInIdeal.τ Cert.KernelAdamwInIdeal.sig) → Buf (Elt Ideal) ℓ) (g : Dev Cert.KernelAdamwInIdeal.nD → PrngReg), Pre_KernelAdamwInIdeal m →
    θ_run (Cert.KernelAdamwInIdeal.defs (F := Ideal)) (onTc (τ := Cert.KernelAdamwInIdeal.τ) (Cert.KernelAdamwInIdeal.main (F := Ideal))) ⟨m, fun _ => 0, g⟩ (fun r => (∀ c : Dev Cert.KernelAdamwInIdeal.nD,
      r.2.mem ((c.tc : Thread Cert.KernelAdamwInIdeal.nD Cert.KernelAdamwInIdeal.τ).loc Cert.KernelAdamwInIdeal.main_arg0) = m ((c.tc : Thread Cert.KernelAdamwInIdeal.nD Cert.KernelAdamwInIdeal.τ).loc Cert.KernelAdamwInIdeal.main_arg0)
      ∧ r.2.mem ((c.tc : Thread Cert.KernelAdamwInIdeal.nD Cert.KernelAdamwInIdeal.τ).loc Cert.KernelAdamwInIdeal.main_arg1) = m ((c.tc : Thread Cert.KernelAdamwInIdeal.nD Cert.KernelAdamwInIdeal.τ).loc Cert.KernelAdamwInIdeal.main_arg1)
      ∧ r.2.mem ((c.tc : Thread Cert.KernelAdamwInIdeal.nD Cert.KernelAdamwInIdeal.τ).loc Cert.KernelAdamwInIdeal.main_arg2) = m ((c.tc : Thread Cert.KernelAdamwInIdeal.nD Cert.KernelAdamwInIdeal.τ).loc Cert.KernelAdamwInIdeal.main_arg2)
      ∧ r.2.mem ((c.tc : Thread Cert.KernelAdamwInIdeal.nD Cert.KernelAdamwInIdeal.τ).loc Cert.KernelAdamwInIdeal.main_arg3) = m ((c.tc : Thread Cert.KernelAdamwInIdeal.nD Cert.KernelAdamwInIdeal.τ).loc Cert.KernelAdamwInIdeal.main_arg3))
      ∧ r.2.sem = fun _ => 0)

def quiescent_ReferenceAdamwInIdeal [hReferenceAdamwInIdeal : Cert.ReferenceAdamwInIdeal.Facts] : Prop :=
  ∀ (m : (ℓ : Loc Cert.ReferenceAdamwInIdeal.nD Cert.ReferenceAdamwInIdeal.τ Cert.ReferenceAdamwInIdeal.sig) → Buf (Elt Ideal) ℓ) (g : Dev Cert.ReferenceAdamwInIdeal.nD → PrngReg), Pre_ReferenceAdamwInIdeal m →
    θ_run (Cert.ReferenceAdamwInIdeal.defs (F := Ideal)) (onTc (τ := Cert.ReferenceAdamwInIdeal.τ) (Cert.ReferenceAdamwInIdeal.main (F := Ideal))) ⟨m, fun _ => 0, g⟩ (fun r => (∀ c : Dev Cert.ReferenceAdamwInIdeal.nD,
      r.2.mem ((c.tc : Thread Cert.ReferenceAdamwInIdeal.nD Cert.ReferenceAdamwInIdeal.τ).loc Cert.ReferenceAdamwInIdeal.main_arg0) = m ((c.tc : Thread Cert.ReferenceAdamwInIdeal.nD Cert.ReferenceAdamwInIdeal.τ).loc Cert.ReferenceAdamwInIdeal.main_arg0)
      ∧ r.2.mem ((c.tc : Thread Cert.ReferenceAdamwInIdeal.nD Cert.ReferenceAdamwInIdeal.τ).loc Cert.ReferenceAdamwInIdeal.main_arg1) = m ((c.tc : Thread Cert.ReferenceAdamwInIdeal.nD Cert.ReferenceAdamwInIdeal.τ).loc Cert.ReferenceAdamwInIdeal.main_arg1)
      ∧ r.2.mem ((c.tc : Thread Cert.ReferenceAdamwInIdeal.nD Cert.ReferenceAdamwInIdeal.τ).loc Cert.ReferenceAdamwInIdeal.main_arg2) = m ((c.tc : Thread Cert.ReferenceAdamwInIdeal.nD Cert.ReferenceAdamwInIdeal.τ).loc Cert.ReferenceAdamwInIdeal.main_arg2)
      ∧ r.2.mem ((c.tc : Thread Cert.ReferenceAdamwInIdeal.nD Cert.ReferenceAdamwInIdeal.τ).loc Cert.ReferenceAdamwInIdeal.main_arg3) = m ((c.tc : Thread Cert.ReferenceAdamwInIdeal.nD Cert.ReferenceAdamwInIdeal.τ).loc Cert.ReferenceAdamwInIdeal.main_arg3))
      ∧ r.2.sem = fun _ => 0)

def quiescent_KernelAdamwAtt [hKernelAdamwAtt : Cert.KernelAdamwAtt.Facts] : Prop :=
  ∀ (m : (ℓ : Loc Cert.KernelAdamwAtt.nD Cert.KernelAdamwAtt.τ Cert.KernelAdamwAtt.sig) → Buf (Elt Bits) ℓ) (g : Dev Cert.KernelAdamwAtt.nD → PrngReg), Pre_KernelAdamwAtt m →
    θ_run (Cert.KernelAdamwAtt.defs (F := Bits)) (onTc (τ := Cert.KernelAdamwAtt.τ) (Cert.KernelAdamwAtt.main (F := Bits))) ⟨m, fun _ => 0, g⟩ (fun r => (∀ c : Dev Cert.KernelAdamwAtt.nD,
      r.2.mem ((c.tc : Thread Cert.KernelAdamwAtt.nD Cert.KernelAdamwAtt.τ).loc Cert.KernelAdamwAtt.main_arg0) = m ((c.tc : Thread Cert.KernelAdamwAtt.nD Cert.KernelAdamwAtt.τ).loc Cert.KernelAdamwAtt.main_arg0)
      ∧ r.2.mem ((c.tc : Thread Cert.KernelAdamwAtt.nD Cert.KernelAdamwAtt.τ).loc Cert.KernelAdamwAtt.main_arg1) = m ((c.tc : Thread Cert.KernelAdamwAtt.nD Cert.KernelAdamwAtt.τ).loc Cert.KernelAdamwAtt.main_arg1)
      ∧ r.2.mem ((c.tc : Thread Cert.KernelAdamwAtt.nD Cert.KernelAdamwAtt.τ).loc Cert.KernelAdamwAtt.main_arg2) = m ((c.tc : Thread Cert.KernelAdamwAtt.nD Cert.KernelAdamwAtt.τ).loc Cert.KernelAdamwAtt.main_arg2)
      ∧ r.2.mem ((c.tc : Thread Cert.KernelAdamwAtt.nD Cert.KernelAdamwAtt.τ).loc Cert.KernelAdamwAtt.main_arg3) = m ((c.tc : Thread Cert.KernelAdamwAtt.nD Cert.KernelAdamwAtt.τ).loc Cert.KernelAdamwAtt.main_arg3))
      ∧ r.2.sem = fun _ => 0)

def quiescent_KernelAdamwAttIdeal [hKernelAdamwAttIdeal : Cert.KernelAdamwAttIdeal.Facts] : Prop :=
  ∀ (m : (ℓ : Loc Cert.KernelAdamwAttIdeal.nD Cert.KernelAdamwAttIdeal.τ Cert.KernelAdamwAttIdeal.sig) → Buf (Elt Ideal) ℓ) (g : Dev Cert.KernelAdamwAttIdeal.nD → PrngReg), Pre_KernelAdamwAttIdeal m →
    θ_run (Cert.KernelAdamwAttIdeal.defs (F := Ideal)) (onTc (τ := Cert.KernelAdamwAttIdeal.τ) (Cert.KernelAdamwAttIdeal.main (F := Ideal))) ⟨m, fun _ => 0, g⟩ (fun r => (∀ c : Dev Cert.KernelAdamwAttIdeal.nD,
      r.2.mem ((c.tc : Thread Cert.KernelAdamwAttIdeal.nD Cert.KernelAdamwAttIdeal.τ).loc Cert.KernelAdamwAttIdeal.main_arg0) = m ((c.tc : Thread Cert.KernelAdamwAttIdeal.nD Cert.KernelAdamwAttIdeal.τ).loc Cert.KernelAdamwAttIdeal.main_arg0)
      ∧ r.2.mem ((c.tc : Thread Cert.KernelAdamwAttIdeal.nD Cert.KernelAdamwAttIdeal.τ).loc Cert.KernelAdamwAttIdeal.main_arg1) = m ((c.tc : Thread Cert.KernelAdamwAttIdeal.nD Cert.KernelAdamwAttIdeal.τ).loc Cert.KernelAdamwAttIdeal.main_arg1)
      ∧ r.2.mem ((c.tc : Thread Cert.KernelAdamwAttIdeal.nD Cert.KernelAdamwAttIdeal.τ).loc Cert.KernelAdamwAttIdeal.main_arg2) = m ((c.tc : Thread Cert.KernelAdamwAttIdeal.nD Cert.KernelAdamwAttIdeal.τ).loc Cert.KernelAdamwAttIdeal.main_arg2)
      ∧ r.2.mem ((c.tc : Thread Cert.KernelAdamwAttIdeal.nD Cert.KernelAdamwAttIdeal.τ).loc Cert.KernelAdamwAttIdeal.main_arg3) = m ((c.tc : Thread Cert.KernelAdamwAttIdeal.nD Cert.KernelAdamwAttIdeal.τ).loc Cert.KernelAdamwAttIdeal.main_arg3))
      ∧ r.2.sem = fun _ => 0)

def quiescent_ReferenceAdamwAttIdeal [hReferenceAdamwAttIdeal : Cert.ReferenceAdamwAttIdeal.Facts] : Prop :=
  ∀ (m : (ℓ : Loc Cert.ReferenceAdamwAttIdeal.nD Cert.ReferenceAdamwAttIdeal.τ Cert.ReferenceAdamwAttIdeal.sig) → Buf (Elt Ideal) ℓ) (g : Dev Cert.ReferenceAdamwAttIdeal.nD → PrngReg), Pre_ReferenceAdamwAttIdeal m →
    θ_run (Cert.ReferenceAdamwAttIdeal.defs (F := Ideal)) (onTc (τ := Cert.ReferenceAdamwAttIdeal.τ) (Cert.ReferenceAdamwAttIdeal.main (F := Ideal))) ⟨m, fun _ => 0, g⟩ (fun r => (∀ c : Dev Cert.ReferenceAdamwAttIdeal.nD,
      r.2.mem ((c.tc : Thread Cert.ReferenceAdamwAttIdeal.nD Cert.ReferenceAdamwAttIdeal.τ).loc Cert.ReferenceAdamwAttIdeal.main_arg0) = m ((c.tc : Thread Cert.ReferenceAdamwAttIdeal.nD Cert.ReferenceAdamwAttIdeal.τ).loc Cert.ReferenceAdamwAttIdeal.main_arg0)
      ∧ r.2.mem ((c.tc : Thread Cert.ReferenceAdamwAttIdeal.nD Cert.ReferenceAdamwAttIdeal.τ).loc Cert.ReferenceAdamwAttIdeal.main_arg1) = m ((c.tc : Thread Cert.ReferenceAdamwAttIdeal.nD Cert.ReferenceAdamwAttIdeal.τ).loc Cert.ReferenceAdamwAttIdeal.main_arg1)
      ∧ r.2.mem ((c.tc : Thread Cert.ReferenceAdamwAttIdeal.nD Cert.ReferenceAdamwAttIdeal.τ).loc Cert.ReferenceAdamwAttIdeal.main_arg2) = m ((c.tc : Thread Cert.ReferenceAdamwAttIdeal.nD Cert.ReferenceAdamwAttIdeal.τ).loc Cert.ReferenceAdamwAttIdeal.main_arg2)
      ∧ r.2.mem ((c.tc : Thread Cert.ReferenceAdamwAttIdeal.nD Cert.ReferenceAdamwAttIdeal.τ).loc Cert.ReferenceAdamwAttIdeal.main_arg3) = m ((c.tc : Thread Cert.ReferenceAdamwAttIdeal.nD Cert.ReferenceAdamwAttIdeal.τ).loc Cert.ReferenceAdamwAttIdeal.main_arg3))
      ∧ r.2.sem = fun _ => 0)

def quiescent_KernelAdamwPool [hKernelAdamwPool : Cert.KernelAdamwPool.Facts] : Prop :=
  ∀ (m : (ℓ : Loc Cert.KernelAdamwPool.nD Cert.KernelAdamwPool.τ Cert.KernelAdamwPool.sig) → Buf (Elt Bits) ℓ) (g : Dev Cert.KernelAdamwPool.nD → PrngReg), Pre_KernelAdamwPool m →
    θ_run (Cert.KernelAdamwPool.defs (F := Bits)) (onTc (τ := Cert.KernelAdamwPool.τ) (Cert.KernelAdamwPool.main (F := Bits))) ⟨m, fun _ => 0, g⟩ (fun r => (∀ c : Dev Cert.KernelAdamwPool.nD,
      r.2.mem ((c.tc : Thread Cert.KernelAdamwPool.nD Cert.KernelAdamwPool.τ).loc Cert.KernelAdamwPool.main_arg0) = m ((c.tc : Thread Cert.KernelAdamwPool.nD Cert.KernelAdamwPool.τ).loc Cert.KernelAdamwPool.main_arg0)
      ∧ r.2.mem ((c.tc : Thread Cert.KernelAdamwPool.nD Cert.KernelAdamwPool.τ).loc Cert.KernelAdamwPool.main_arg1) = m ((c.tc : Thread Cert.KernelAdamwPool.nD Cert.KernelAdamwPool.τ).loc Cert.KernelAdamwPool.main_arg1)
      ∧ r.2.mem ((c.tc : Thread Cert.KernelAdamwPool.nD Cert.KernelAdamwPool.τ).loc Cert.KernelAdamwPool.main_arg2) = m ((c.tc : Thread Cert.KernelAdamwPool.nD Cert.KernelAdamwPool.τ).loc Cert.KernelAdamwPool.main_arg2)
      ∧ r.2.mem ((c.tc : Thread Cert.KernelAdamwPool.nD Cert.KernelAdamwPool.τ).loc Cert.KernelAdamwPool.main_arg3) = m ((c.tc : Thread Cert.KernelAdamwPool.nD Cert.KernelAdamwPool.τ).loc Cert.KernelAdamwPool.main_arg3))
      ∧ r.2.sem = fun _ => 0)

def quiescent_KernelAdamwPoolIdeal [hKernelAdamwPoolIdeal : Cert.KernelAdamwPoolIdeal.Facts] : Prop :=
  ∀ (m : (ℓ : Loc Cert.KernelAdamwPoolIdeal.nD Cert.KernelAdamwPoolIdeal.τ Cert.KernelAdamwPoolIdeal.sig) → Buf (Elt Ideal) ℓ) (g : Dev Cert.KernelAdamwPoolIdeal.nD → PrngReg), Pre_KernelAdamwPoolIdeal m →
    θ_run (Cert.KernelAdamwPoolIdeal.defs (F := Ideal)) (onTc (τ := Cert.KernelAdamwPoolIdeal.τ) (Cert.KernelAdamwPoolIdeal.main (F := Ideal))) ⟨m, fun _ => 0, g⟩ (fun r => (∀ c : Dev Cert.KernelAdamwPoolIdeal.nD,
      r.2.mem ((c.tc : Thread Cert.KernelAdamwPoolIdeal.nD Cert.KernelAdamwPoolIdeal.τ).loc Cert.KernelAdamwPoolIdeal.main_arg0) = m ((c.tc : Thread Cert.KernelAdamwPoolIdeal.nD Cert.KernelAdamwPoolIdeal.τ).loc Cert.KernelAdamwPoolIdeal.main_arg0)
      ∧ r.2.mem ((c.tc : Thread Cert.KernelAdamwPoolIdeal.nD Cert.KernelAdamwPoolIdeal.τ).loc Cert.KernelAdamwPoolIdeal.main_arg1) = m ((c.tc : Thread Cert.KernelAdamwPoolIdeal.nD Cert.KernelAdamwPoolIdeal.τ).loc Cert.KernelAdamwPoolIdeal.main_arg1)
      ∧ r.2.mem ((c.tc : Thread Cert.KernelAdamwPoolIdeal.nD Cert.KernelAdamwPoolIdeal.τ).loc Cert.KernelAdamwPoolIdeal.main_arg2) = m ((c.tc : Thread Cert.KernelAdamwPoolIdeal.nD Cert.KernelAdamwPoolIdeal.τ).loc Cert.KernelAdamwPoolIdeal.main_arg2)
      ∧ r.2.mem ((c.tc : Thread Cert.KernelAdamwPoolIdeal.nD Cert.KernelAdamwPoolIdeal.τ).loc Cert.KernelAdamwPoolIdeal.main_arg3) = m ((c.tc : Thread Cert.KernelAdamwPoolIdeal.nD Cert.KernelAdamwPoolIdeal.τ).loc Cert.KernelAdamwPoolIdeal.main_arg3))
      ∧ r.2.sem = fun _ => 0)

def quiescent_ReferenceAdamwPoolIdeal [hReferenceAdamwPoolIdeal : Cert.ReferenceAdamwPoolIdeal.Facts] : Prop :=
  ∀ (m : (ℓ : Loc Cert.ReferenceAdamwPoolIdeal.nD Cert.ReferenceAdamwPoolIdeal.τ Cert.ReferenceAdamwPoolIdeal.sig) → Buf (Elt Ideal) ℓ) (g : Dev Cert.ReferenceAdamwPoolIdeal.nD → PrngReg), Pre_ReferenceAdamwPoolIdeal m →
    θ_run (Cert.ReferenceAdamwPoolIdeal.defs (F := Ideal)) (onTc (τ := Cert.ReferenceAdamwPoolIdeal.τ) (Cert.ReferenceAdamwPoolIdeal.main (F := Ideal))) ⟨m, fun _ => 0, g⟩ (fun r => (∀ c : Dev Cert.ReferenceAdamwPoolIdeal.nD,
      r.2.mem ((c.tc : Thread Cert.ReferenceAdamwPoolIdeal.nD Cert.ReferenceAdamwPoolIdeal.τ).loc Cert.ReferenceAdamwPoolIdeal.main_arg0) = m ((c.tc : Thread Cert.ReferenceAdamwPoolIdeal.nD Cert.ReferenceAdamwPoolIdeal.τ).loc Cert.ReferenceAdamwPoolIdeal.main_arg0)
      ∧ r.2.mem ((c.tc : Thread Cert.ReferenceAdamwPoolIdeal.nD Cert.ReferenceAdamwPoolIdeal.τ).loc Cert.ReferenceAdamwPoolIdeal.main_arg1) = m ((c.tc : Thread Cert.ReferenceAdamwPoolIdeal.nD Cert.ReferenceAdamwPoolIdeal.τ).loc Cert.ReferenceAdamwPoolIdeal.main_arg1)
      ∧ r.2.mem ((c.tc : Thread Cert.ReferenceAdamwPoolIdeal.nD Cert.ReferenceAdamwPoolIdeal.τ).loc Cert.ReferenceAdamwPoolIdeal.main_arg2) = m ((c.tc : Thread Cert.ReferenceAdamwPoolIdeal.nD Cert.ReferenceAdamwPoolIdeal.τ).loc Cert.ReferenceAdamwPoolIdeal.main_arg2)
      ∧ r.2.mem ((c.tc : Thread Cert.ReferenceAdamwPoolIdeal.nD Cert.ReferenceAdamwPoolIdeal.τ).loc Cert.ReferenceAdamwPoolIdeal.main_arg3) = m ((c.tc : Thread Cert.ReferenceAdamwPoolIdeal.nD Cert.ReferenceAdamwPoolIdeal.τ).loc Cert.ReferenceAdamwPoolIdeal.main_arg3))
      ∧ r.2.sem = fun _ => 0)

def quiescent_KernelAdamwOut [hKernelAdamwOut : Cert.KernelAdamwOut.Facts] : Prop :=
  ∀ (m : (ℓ : Loc Cert.KernelAdamwOut.nD Cert.KernelAdamwOut.τ Cert.KernelAdamwOut.sig) → Buf (Elt Bits) ℓ) (g : Dev Cert.KernelAdamwOut.nD → PrngReg), Pre_KernelAdamwOut m →
    θ_run (Cert.KernelAdamwOut.defs (F := Bits)) (onTc (τ := Cert.KernelAdamwOut.τ) (Cert.KernelAdamwOut.main (F := Bits))) ⟨m, fun _ => 0, g⟩ (fun r => (∀ c : Dev Cert.KernelAdamwOut.nD,
      r.2.mem ((c.tc : Thread Cert.KernelAdamwOut.nD Cert.KernelAdamwOut.τ).loc Cert.KernelAdamwOut.main_arg0) = m ((c.tc : Thread Cert.KernelAdamwOut.nD Cert.KernelAdamwOut.τ).loc Cert.KernelAdamwOut.main_arg0)
      ∧ r.2.mem ((c.tc : Thread Cert.KernelAdamwOut.nD Cert.KernelAdamwOut.τ).loc Cert.KernelAdamwOut.main_arg1) = m ((c.tc : Thread Cert.KernelAdamwOut.nD Cert.KernelAdamwOut.τ).loc Cert.KernelAdamwOut.main_arg1)
      ∧ r.2.mem ((c.tc : Thread Cert.KernelAdamwOut.nD Cert.KernelAdamwOut.τ).loc Cert.KernelAdamwOut.main_arg2) = m ((c.tc : Thread Cert.KernelAdamwOut.nD Cert.KernelAdamwOut.τ).loc Cert.KernelAdamwOut.main_arg2)
      ∧ r.2.mem ((c.tc : Thread Cert.KernelAdamwOut.nD Cert.KernelAdamwOut.τ).loc Cert.KernelAdamwOut.main_arg3) = m ((c.tc : Thread Cert.KernelAdamwOut.nD Cert.KernelAdamwOut.τ).loc Cert.KernelAdamwOut.main_arg3))
      ∧ r.2.sem = fun _ => 0)

def quiescent_KernelAdamwOutIdeal [hKernelAdamwOutIdeal : Cert.KernelAdamwOutIdeal.Facts] : Prop :=
  ∀ (m : (ℓ : Loc Cert.KernelAdamwOutIdeal.nD Cert.KernelAdamwOutIdeal.τ Cert.KernelAdamwOutIdeal.sig) → Buf (Elt Ideal) ℓ) (g : Dev Cert.KernelAdamwOutIdeal.nD → PrngReg), Pre_KernelAdamwOutIdeal m →
    θ_run (Cert.KernelAdamwOutIdeal.defs (F := Ideal)) (onTc (τ := Cert.KernelAdamwOutIdeal.τ) (Cert.KernelAdamwOutIdeal.main (F := Ideal))) ⟨m, fun _ => 0, g⟩ (fun r => (∀ c : Dev Cert.KernelAdamwOutIdeal.nD,
      r.2.mem ((c.tc : Thread Cert.KernelAdamwOutIdeal.nD Cert.KernelAdamwOutIdeal.τ).loc Cert.KernelAdamwOutIdeal.main_arg0) = m ((c.tc : Thread Cert.KernelAdamwOutIdeal.nD Cert.KernelAdamwOutIdeal.τ).loc Cert.KernelAdamwOutIdeal.main_arg0)
      ∧ r.2.mem ((c.tc : Thread Cert.KernelAdamwOutIdeal.nD Cert.KernelAdamwOutIdeal.τ).loc Cert.KernelAdamwOutIdeal.main_arg1) = m ((c.tc : Thread Cert.KernelAdamwOutIdeal.nD Cert.KernelAdamwOutIdeal.τ).loc Cert.KernelAdamwOutIdeal.main_arg1)
      ∧ r.2.mem ((c.tc : Thread Cert.KernelAdamwOutIdeal.nD Cert.KernelAdamwOutIdeal.τ).loc Cert.KernelAdamwOutIdeal.main_arg2) = m ((c.tc : Thread Cert.KernelAdamwOutIdeal.nD Cert.KernelAdamwOutIdeal.τ).loc Cert.KernelAdamwOutIdeal.main_arg2)
      ∧ r.2.mem ((c.tc : Thread Cert.KernelAdamwOutIdeal.nD Cert.KernelAdamwOutIdeal.τ).loc Cert.KernelAdamwOutIdeal.main_arg3) = m ((c.tc : Thread Cert.KernelAdamwOutIdeal.nD Cert.KernelAdamwOutIdeal.τ).loc Cert.KernelAdamwOutIdeal.main_arg3))
      ∧ r.2.sem = fun _ => 0)

def quiescent_ReferenceAdamwOutIdeal [hReferenceAdamwOutIdeal : Cert.ReferenceAdamwOutIdeal.Facts] : Prop :=
  ∀ (m : (ℓ : Loc Cert.ReferenceAdamwOutIdeal.nD Cert.ReferenceAdamwOutIdeal.τ Cert.ReferenceAdamwOutIdeal.sig) → Buf (Elt Ideal) ℓ) (g : Dev Cert.ReferenceAdamwOutIdeal.nD → PrngReg), Pre_ReferenceAdamwOutIdeal m →
    θ_run (Cert.ReferenceAdamwOutIdeal.defs (F := Ideal)) (onTc (τ := Cert.ReferenceAdamwOutIdeal.τ) (Cert.ReferenceAdamwOutIdeal.main (F := Ideal))) ⟨m, fun _ => 0, g⟩ (fun r => (∀ c : Dev Cert.ReferenceAdamwOutIdeal.nD,
      r.2.mem ((c.tc : Thread Cert.ReferenceAdamwOutIdeal.nD Cert.ReferenceAdamwOutIdeal.τ).loc Cert.ReferenceAdamwOutIdeal.main_arg0) = m ((c.tc : Thread Cert.ReferenceAdamwOutIdeal.nD Cert.ReferenceAdamwOutIdeal.τ).loc Cert.ReferenceAdamwOutIdeal.main_arg0)
      ∧ r.2.mem ((c.tc : Thread Cert.ReferenceAdamwOutIdeal.nD Cert.ReferenceAdamwOutIdeal.τ).loc Cert.ReferenceAdamwOutIdeal.main_arg1) = m ((c.tc : Thread Cert.ReferenceAdamwOutIdeal.nD Cert.ReferenceAdamwOutIdeal.τ).loc Cert.ReferenceAdamwOutIdeal.main_arg1)
      ∧ r.2.mem ((c.tc : Thread Cert.ReferenceAdamwOutIdeal.nD Cert.ReferenceAdamwOutIdeal.τ).loc Cert.ReferenceAdamwOutIdeal.main_arg2) = m ((c.tc : Thread Cert.ReferenceAdamwOutIdeal.nD Cert.ReferenceAdamwOutIdeal.τ).loc Cert.ReferenceAdamwOutIdeal.main_arg2)
      ∧ r.2.mem ((c.tc : Thread Cert.ReferenceAdamwOutIdeal.nD Cert.ReferenceAdamwOutIdeal.τ).loc Cert.ReferenceAdamwOutIdeal.main_arg3) = m ((c.tc : Thread Cert.ReferenceAdamwOutIdeal.nD Cert.ReferenceAdamwOutIdeal.τ).loc Cert.ReferenceAdamwOutIdeal.main_arg3))
      ∧ r.2.sem = fun _ => 0)

def quiescent_KernelAdamwMlp [hKernelAdamwMlp : Cert.KernelAdamwMlp.Facts] : Prop :=
  ∀ (m : (ℓ : Loc Cert.KernelAdamwMlp.nD Cert.KernelAdamwMlp.τ Cert.KernelAdamwMlp.sig) → Buf (Elt Bits) ℓ) (g : Dev Cert.KernelAdamwMlp.nD → PrngReg), Pre_KernelAdamwMlp m →
    θ_run (Cert.KernelAdamwMlp.defs (F := Bits)) (onTc (τ := Cert.KernelAdamwMlp.τ) (Cert.KernelAdamwMlp.main (F := Bits))) ⟨m, fun _ => 0, g⟩ (fun r => (∀ c : Dev Cert.KernelAdamwMlp.nD,
      r.2.mem ((c.tc : Thread Cert.KernelAdamwMlp.nD Cert.KernelAdamwMlp.τ).loc Cert.KernelAdamwMlp.main_arg0) = m ((c.tc : Thread Cert.KernelAdamwMlp.nD Cert.KernelAdamwMlp.τ).loc Cert.KernelAdamwMlp.main_arg0)
      ∧ r.2.mem ((c.tc : Thread Cert.KernelAdamwMlp.nD Cert.KernelAdamwMlp.τ).loc Cert.KernelAdamwMlp.main_arg1) = m ((c.tc : Thread Cert.KernelAdamwMlp.nD Cert.KernelAdamwMlp.τ).loc Cert.KernelAdamwMlp.main_arg1)
      ∧ r.2.mem ((c.tc : Thread Cert.KernelAdamwMlp.nD Cert.KernelAdamwMlp.τ).loc Cert.KernelAdamwMlp.main_arg2) = m ((c.tc : Thread Cert.KernelAdamwMlp.nD Cert.KernelAdamwMlp.τ).loc Cert.KernelAdamwMlp.main_arg2)
      ∧ r.2.mem ((c.tc : Thread Cert.KernelAdamwMlp.nD Cert.KernelAdamwMlp.τ).loc Cert.KernelAdamwMlp.main_arg3) = m ((c.tc : Thread Cert.KernelAdamwMlp.nD Cert.KernelAdamwMlp.τ).loc Cert.KernelAdamwMlp.main_arg3))
      ∧ r.2.sem = fun _ => 0)

def quiescent_KernelAdamwMlpIdeal [hKernelAdamwMlpIdeal : Cert.KernelAdamwMlpIdeal.Facts] : Prop :=
  ∀ (m : (ℓ : Loc Cert.KernelAdamwMlpIdeal.nD Cert.KernelAdamwMlpIdeal.τ Cert.KernelAdamwMlpIdeal.sig) → Buf (Elt Ideal) ℓ) (g : Dev Cert.KernelAdamwMlpIdeal.nD → PrngReg), Pre_KernelAdamwMlpIdeal m →
    θ_run (Cert.KernelAdamwMlpIdeal.defs (F := Ideal)) (onTc (τ := Cert.KernelAdamwMlpIdeal.τ) (Cert.KernelAdamwMlpIdeal.main (F := Ideal))) ⟨m, fun _ => 0, g⟩ (fun r => (∀ c : Dev Cert.KernelAdamwMlpIdeal.nD,
      r.2.mem ((c.tc : Thread Cert.KernelAdamwMlpIdeal.nD Cert.KernelAdamwMlpIdeal.τ).loc Cert.KernelAdamwMlpIdeal.main_arg0) = m ((c.tc : Thread Cert.KernelAdamwMlpIdeal.nD Cert.KernelAdamwMlpIdeal.τ).loc Cert.KernelAdamwMlpIdeal.main_arg0)
      ∧ r.2.mem ((c.tc : Thread Cert.KernelAdamwMlpIdeal.nD Cert.KernelAdamwMlpIdeal.τ).loc Cert.KernelAdamwMlpIdeal.main_arg1) = m ((c.tc : Thread Cert.KernelAdamwMlpIdeal.nD Cert.KernelAdamwMlpIdeal.τ).loc Cert.KernelAdamwMlpIdeal.main_arg1)
      ∧ r.2.mem ((c.tc : Thread Cert.KernelAdamwMlpIdeal.nD Cert.KernelAdamwMlpIdeal.τ).loc Cert.KernelAdamwMlpIdeal.main_arg2) = m ((c.tc : Thread Cert.KernelAdamwMlpIdeal.nD Cert.KernelAdamwMlpIdeal.τ).loc Cert.KernelAdamwMlpIdeal.main_arg2)
      ∧ r.2.mem ((c.tc : Thread Cert.KernelAdamwMlpIdeal.nD Cert.KernelAdamwMlpIdeal.τ).loc Cert.KernelAdamwMlpIdeal.main_arg3) = m ((c.tc : Thread Cert.KernelAdamwMlpIdeal.nD Cert.KernelAdamwMlpIdeal.τ).loc Cert.KernelAdamwMlpIdeal.main_arg3))
      ∧ r.2.sem = fun _ => 0)

def quiescent_ReferenceAdamwMlpIdeal [hReferenceAdamwMlpIdeal : Cert.ReferenceAdamwMlpIdeal.Facts] : Prop :=
  ∀ (m : (ℓ : Loc Cert.ReferenceAdamwMlpIdeal.nD Cert.ReferenceAdamwMlpIdeal.τ Cert.ReferenceAdamwMlpIdeal.sig) → Buf (Elt Ideal) ℓ) (g : Dev Cert.ReferenceAdamwMlpIdeal.nD → PrngReg), Pre_ReferenceAdamwMlpIdeal m →
    θ_run (Cert.ReferenceAdamwMlpIdeal.defs (F := Ideal)) (onTc (τ := Cert.ReferenceAdamwMlpIdeal.τ) (Cert.ReferenceAdamwMlpIdeal.main (F := Ideal))) ⟨m, fun _ => 0, g⟩ (fun r => (∀ c : Dev Cert.ReferenceAdamwMlpIdeal.nD,
      r.2.mem ((c.tc : Thread Cert.ReferenceAdamwMlpIdeal.nD Cert.ReferenceAdamwMlpIdeal.τ).loc Cert.ReferenceAdamwMlpIdeal.main_arg0) = m ((c.tc : Thread Cert.ReferenceAdamwMlpIdeal.nD Cert.ReferenceAdamwMlpIdeal.τ).loc Cert.ReferenceAdamwMlpIdeal.main_arg0)
      ∧ r.2.mem ((c.tc : Thread Cert.ReferenceAdamwMlpIdeal.nD Cert.ReferenceAdamwMlpIdeal.τ).loc Cert.ReferenceAdamwMlpIdeal.main_arg1) = m ((c.tc : Thread Cert.ReferenceAdamwMlpIdeal.nD Cert.ReferenceAdamwMlpIdeal.τ).loc Cert.ReferenceAdamwMlpIdeal.main_arg1)
      ∧ r.2.mem ((c.tc : Thread Cert.ReferenceAdamwMlpIdeal.nD Cert.ReferenceAdamwMlpIdeal.τ).loc Cert.ReferenceAdamwMlpIdeal.main_arg2) = m ((c.tc : Thread Cert.ReferenceAdamwMlpIdeal.nD Cert.ReferenceAdamwMlpIdeal.τ).loc Cert.ReferenceAdamwMlpIdeal.main_arg2)
      ∧ r.2.mem ((c.tc : Thread Cert.ReferenceAdamwMlpIdeal.nD Cert.ReferenceAdamwMlpIdeal.τ).loc Cert.ReferenceAdamwMlpIdeal.main_arg3) = m ((c.tc : Thread Cert.ReferenceAdamwMlpIdeal.nD Cert.ReferenceAdamwMlpIdeal.τ).loc Cert.ReferenceAdamwMlpIdeal.main_arg3))
      ∧ r.2.sem = fun _ => 0)

def quiescent_KernelSmall [hKernelSmall : Cert.KernelSmall.Facts] : Prop :=
  ∀ (m : (ℓ : Loc Cert.KernelSmall.nD Cert.KernelSmall.τ Cert.KernelSmall.sig) → Buf (Elt Bits) ℓ) (g : Dev Cert.KernelSmall.nD → PrngReg), Pre_KernelSmall m →
    θ_run (Cert.KernelSmall.defs (F := Bits)) (onTc (τ := Cert.KernelSmall.τ) (Cert.KernelSmall.main (F := Bits))) ⟨m, fun _ => 0, g⟩ (fun r => (∀ c : Dev Cert.KernelSmall.nD,
      r.2.mem ((c.tc : Thread Cert.KernelSmall.nD Cert.KernelSmall.τ).loc Cert.KernelSmall.main_arg0) = m ((c.tc : Thread Cert.KernelSmall.nD Cert.KernelSmall.τ).loc Cert.KernelSmall.main_arg0)
      ∧ r.2.mem ((c.tc : Thread Cert.KernelSmall.nD Cert.KernelSmall.τ).loc Cert.KernelSmall.main_arg1) = m ((c.tc : Thread Cert.KernelSmall.nD Cert.KernelSmall.τ).loc Cert.KernelSmall.main_arg1)
      ∧ r.2.mem ((c.tc : Thread Cert.KernelSmall.nD Cert.KernelSmall.τ).loc Cert.KernelSmall.main_arg2) = m ((c.tc : Thread Cert.KernelSmall.nD Cert.KernelSmall.τ).loc Cert.KernelSmall.main_arg2)
      ∧ r.2.mem ((c.tc : Thread Cert.KernelSmall.nD Cert.KernelSmall.τ).loc Cert.KernelSmall.main_arg3) = m ((c.tc : Thread Cert.KernelSmall.nD Cert.KernelSmall.τ).loc Cert.KernelSmall.main_arg3)
      ∧ r.2.mem ((c.tc : Thread Cert.KernelSmall.nD Cert.KernelSmall.τ).loc Cert.KernelSmall.main_arg4) = m ((c.tc : Thread Cert.KernelSmall.nD Cert.KernelSmall.τ).loc Cert.KernelSmall.main_arg4))
      ∧ r.2.sem = fun _ => 0)

def quiescent_KernelSmallIdeal [hKernelSmallIdeal : Cert.KernelSmallIdeal.Facts] : Prop :=
  ∀ (m : (ℓ : Loc Cert.KernelSmallIdeal.nD Cert.KernelSmallIdeal.τ Cert.KernelSmallIdeal.sig) → Buf (Elt Ideal) ℓ) (g : Dev Cert.KernelSmallIdeal.nD → PrngReg), Pre_KernelSmallIdeal m →
    θ_run (Cert.KernelSmallIdeal.defs (F := Ideal)) (onTc (τ := Cert.KernelSmallIdeal.τ) (Cert.KernelSmallIdeal.main (F := Ideal))) ⟨m, fun _ => 0, g⟩ (fun r => (∀ c : Dev Cert.KernelSmallIdeal.nD,
      r.2.mem ((c.tc : Thread Cert.KernelSmallIdeal.nD Cert.KernelSmallIdeal.τ).loc Cert.KernelSmallIdeal.main_arg0) = m ((c.tc : Thread Cert.KernelSmallIdeal.nD Cert.KernelSmallIdeal.τ).loc Cert.KernelSmallIdeal.main_arg0)
      ∧ r.2.mem ((c.tc : Thread Cert.KernelSmallIdeal.nD Cert.KernelSmallIdeal.τ).loc Cert.KernelSmallIdeal.main_arg1) = m ((c.tc : Thread Cert.KernelSmallIdeal.nD Cert.KernelSmallIdeal.τ).loc Cert.KernelSmallIdeal.main_arg1)
      ∧ r.2.mem ((c.tc : Thread Cert.KernelSmallIdeal.nD Cert.KernelSmallIdeal.τ).loc Cert.KernelSmallIdeal.main_arg2) = m ((c.tc : Thread Cert.KernelSmallIdeal.nD Cert.KernelSmallIdeal.τ).loc Cert.KernelSmallIdeal.main_arg2)
      ∧ r.2.mem ((c.tc : Thread Cert.KernelSmallIdeal.nD Cert.KernelSmallIdeal.τ).loc Cert.KernelSmallIdeal.main_arg3) = m ((c.tc : Thread Cert.KernelSmallIdeal.nD Cert.KernelSmallIdeal.τ).loc Cert.KernelSmallIdeal.main_arg3)
      ∧ r.2.mem ((c.tc : Thread Cert.KernelSmallIdeal.nD Cert.KernelSmallIdeal.τ).loc Cert.KernelSmallIdeal.main_arg4) = m ((c.tc : Thread Cert.KernelSmallIdeal.nD Cert.KernelSmallIdeal.τ).loc Cert.KernelSmallIdeal.main_arg4))
      ∧ r.2.sem = fun _ => 0)

def quiescent_ReferenceSmallIdeal [hReferenceSmallIdeal : Cert.ReferenceSmallIdeal.Facts] : Prop :=
  ∀ (m : (ℓ : Loc Cert.ReferenceSmallIdeal.nD Cert.ReferenceSmallIdeal.τ Cert.ReferenceSmallIdeal.sig) → Buf (Elt Ideal) ℓ) (g : Dev Cert.ReferenceSmallIdeal.nD → PrngReg), Pre_ReferenceSmallIdeal m →
    θ_run (Cert.ReferenceSmallIdeal.defs (F := Ideal)) (onTc (τ := Cert.ReferenceSmallIdeal.τ) (Cert.ReferenceSmallIdeal.main (F := Ideal))) ⟨m, fun _ => 0, g⟩ (fun r => (∀ c : Dev Cert.ReferenceSmallIdeal.nD,
      r.2.mem ((c.tc : Thread Cert.ReferenceSmallIdeal.nD Cert.ReferenceSmallIdeal.τ).loc Cert.ReferenceSmallIdeal.main_arg0) = m ((c.tc : Thread Cert.ReferenceSmallIdeal.nD Cert.ReferenceSmallIdeal.τ).loc Cert.ReferenceSmallIdeal.main_arg0)
      ∧ r.2.mem ((c.tc : Thread Cert.ReferenceSmallIdeal.nD Cert.ReferenceSmallIdeal.τ).loc Cert.ReferenceSmallIdeal.main_arg1) = m ((c.tc : Thread Cert.ReferenceSmallIdeal.nD Cert.ReferenceSmallIdeal.τ).loc Cert.ReferenceSmallIdeal.main_arg1)
      ∧ r.2.mem ((c.tc : Thread Cert.ReferenceSmallIdeal.nD Cert.ReferenceSmallIdeal.τ).loc Cert.ReferenceSmallIdeal.main_arg2) = m ((c.tc : Thread Cert.ReferenceSmallIdeal.nD Cert.ReferenceSmallIdeal.τ).loc Cert.ReferenceSmallIdeal.main_arg2)
      ∧ r.2.mem ((c.tc : Thread Cert.ReferenceSmallIdeal.nD Cert.ReferenceSmallIdeal.τ).loc Cert.ReferenceSmallIdeal.main_arg3) = m ((c.tc : Thread Cert.ReferenceSmallIdeal.nD Cert.ReferenceSmallIdeal.τ).loc Cert.ReferenceSmallIdeal.main_arg3)
      ∧ r.2.mem ((c.tc : Thread Cert.ReferenceSmallIdeal.nD Cert.ReferenceSmallIdeal.τ).loc Cert.ReferenceSmallIdeal.main_arg4) = m ((c.tc : Thread Cert.ReferenceSmallIdeal.nD Cert.ReferenceSmallIdeal.τ).loc Cert.ReferenceSmallIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v22_0)) (v1 : (c : Dev Cert.KernelIdeal.nD) → Buf (Elt Ideal) ((c.tc : Thread Cert.KernelIdeal.nD Cert.KernelIdeal.τ).loc Cert.KernelIdeal.main_v22_1)) (v2 : (c : Dev Cert.KernelIdeal.nD) → Buf (Elt Ideal) ((c.tc : Thread Cert.KernelIdeal.nD Cert.KernelIdeal.τ).loc Cert.KernelIdeal.main_v22_2)) (v3 : (c : Dev Cert.KernelIdeal.nD) → Buf (Elt Ideal) ((c.tc : Thread Cert.KernelIdeal.nD Cert.KernelIdeal.τ).loc Cert.KernelIdeal.main_v22_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v22_0) = v0 c
          ∧ r.2.mem ((c.tc : Thread Cert.KernelIdeal.nD Cert.KernelIdeal.τ).loc Cert.KernelIdeal.main_v22_1) = v1 c
          ∧ r.2.mem ((c.tc : Thread Cert.KernelIdeal.nD Cert.KernelIdeal.τ).loc Cert.KernelIdeal.main_v22_2) = v2 c
          ∧ r.2.mem ((c.tc : Thread Cert.KernelIdeal.nD Cert.KernelIdeal.τ).loc Cert.KernelIdeal.main_v22_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v49) = v0 c
          ∧ r.2.mem ((c.tc : Thread Cert.ReferenceIdeal.nD Cert.ReferenceIdeal.τ).loc Cert.ReferenceIdeal.main_v48) = v1 c
          ∧ r.2.mem ((c.tc : Thread Cert.ReferenceIdeal.nD Cert.ReferenceIdeal.τ).loc Cert.ReferenceIdeal.main_v50) = v2 c
          ∧ r.2.mem ((c.tc : Thread Cert.ReferenceIdeal.nD Cert.ReferenceIdeal.τ).loc Cert.ReferenceIdeal.main_v31) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_KernelLoss_KernelLossIdeal : Prop :=
  True

def algebraic_KernelLossIdeal_ReferenceLossIdeal [hKernelLossIdeal : Cert.KernelLossIdeal.Facts] [hReferenceLossIdeal : Cert.ReferenceLossIdeal.Facts] : Prop :=
  ∀ (m : (ℓ : Loc Cert.KernelLossIdeal.nD Cert.KernelLossIdeal.τ Cert.KernelLossIdeal.sig) → Buf (Elt Ideal) ℓ) (g : Dev Cert.KernelLossIdeal.nD → PrngReg)
    (m' : (ℓ : Loc Cert.ReferenceLossIdeal.nD Cert.ReferenceLossIdeal.τ Cert.ReferenceLossIdeal.sig) → Buf (Elt Ideal) ℓ) (g' : Dev Cert.ReferenceLossIdeal.nD → PrngReg), Pre_KernelLossIdeal m →
    (∀ c : Dev Cert.KernelLossIdeal.nD,
      m' ((c.tc : Thread Cert.ReferenceLossIdeal.nD Cert.ReferenceLossIdeal.τ).loc Cert.ReferenceLossIdeal.main_arg0) = m ((c.tc : Thread Cert.KernelLossIdeal.nD Cert.KernelLossIdeal.τ).loc Cert.KernelLossIdeal.main_arg0)
      ∧ m' ((c.tc : Thread Cert.ReferenceLossIdeal.nD Cert.ReferenceLossIdeal.τ).loc Cert.ReferenceLossIdeal.main_arg1) = m ((c.tc : Thread Cert.KernelLossIdeal.nD Cert.KernelLossIdeal.τ).loc Cert.KernelLossIdeal.main_arg1)
      ∧ m' ((c.tc : Thread Cert.ReferenceLossIdeal.nD Cert.ReferenceLossIdeal.τ).loc Cert.ReferenceLossIdeal.main_arg2) = m ((c.tc : Thread Cert.KernelLossIdeal.nD Cert.KernelLossIdeal.τ).loc Cert.KernelLossIdeal.main_arg2)
      ∧ m' ((c.tc : Thread Cert.ReferenceLossIdeal.nD Cert.ReferenceLossIdeal.τ).loc Cert.ReferenceLossIdeal.main_arg3) = m ((c.tc : Thread Cert.KernelLossIdeal.nD Cert.KernelLossIdeal.τ).loc Cert.KernelLossIdeal.main_arg3)
      ∧ m' ((c.tc : Thread Cert.ReferenceLossIdeal.nD Cert.ReferenceLossIdeal.τ).loc Cert.ReferenceLossIdeal.main_arg4) = m ((c.tc : Thread Cert.KernelLossIdeal.nD Cert.KernelLossIdeal.τ).loc Cert.KernelLossIdeal.main_arg4)
      ∧ m' ((c.tc : Thread Cert.ReferenceLossIdeal.nD Cert.ReferenceLossIdeal.τ).loc Cert.ReferenceLossIdeal.main_arg5) = m ((c.tc : Thread Cert.KernelLossIdeal.nD Cert.KernelLossIdeal.τ).loc Cert.KernelLossIdeal.main_arg5)) →
    ∃ (v0 : (c : Dev Cert.KernelLossIdeal.nD) → Buf (Elt Ideal) ((c.tc : Thread Cert.KernelLossIdeal.nD Cert.KernelLossIdeal.τ).loc Cert.KernelLossIdeal.main_v6_0)) (v1 : (c : Dev Cert.KernelLossIdeal.nD) → Buf (Elt Ideal) ((c.tc : Thread Cert.KernelLossIdeal.nD Cert.KernelLossIdeal.τ).loc Cert.KernelLossIdeal.main_v6_1)) (v2 : (c : Dev Cert.KernelLossIdeal.nD) → Buf (Elt Ideal) ((c.tc : Thread Cert.KernelLossIdeal.nD Cert.KernelLossIdeal.τ).loc Cert.KernelLossIdeal.main_v6_2)) (v3 : (c : Dev Cert.KernelLossIdeal.nD) → Buf (Elt Ideal) ((c.tc : Thread Cert.KernelLossIdeal.nD Cert.KernelLossIdeal.τ).loc Cert.KernelLossIdeal.main_v6_3)) (v4 : (c : Dev Cert.KernelLossIdeal.nD) → Buf (Elt Ideal) ((c.tc : Thread Cert.KernelLossIdeal.nD Cert.KernelLossIdeal.τ).loc Cert.KernelLossIdeal.main_v6_4)),
      θ_run (Cert.KernelLossIdeal.defs (F := Ideal)) (onTc (τ := Cert.KernelLossIdeal.τ) (Cert.KernelLossIdeal.main (F := Ideal))) ⟨m, fun _ => 0, g⟩ (fun r => ∀ c : Dev Cert.KernelLossIdeal.nD,
          r.2.mem ((c.tc : Thread Cert.KernelLossIdeal.nD Cert.KernelLossIdeal.τ).loc Cert.KernelLossIdeal.main_v6_0) = v0 c
          ∧ r.2.mem ((c.tc : Thread Cert.KernelLossIdeal.nD Cert.KernelLossIdeal.τ).loc Cert.KernelLossIdeal.main_v6_1) = v1 c
          ∧ r.2.mem ((c.tc : Thread Cert.KernelLossIdeal.nD Cert.KernelLossIdeal.τ).loc Cert.KernelLossIdeal.main_v6_2) = v2 c
          ∧ r.2.mem ((c.tc : Thread Cert.KernelLossIdeal.nD Cert.KernelLossIdeal.τ).loc Cert.KernelLossIdeal.main_v6_3) = v3 c
          ∧ r.2.mem ((c.tc : Thread Cert.KernelLossIdeal.nD Cert.KernelLossIdeal.τ).loc Cert.KernelLossIdeal.main_v6_4) = v4 c
          ∧ r.2.mem ((c.tc : Thread Cert.KernelLossIdeal.nD Cert.KernelLossIdeal.τ).loc Cert.KernelLossIdeal.main_arg0) = m ((c.tc : Thread Cert.KernelLossIdeal.nD Cert.KernelLossIdeal.τ).loc Cert.KernelLossIdeal.main_arg0)
          ∧ r.2.mem ((c.tc : Thread Cert.KernelLossIdeal.nD Cert.KernelLossIdeal.τ).loc Cert.KernelLossIdeal.main_arg1) = m ((c.tc : Thread Cert.KernelLossIdeal.nD Cert.KernelLossIdeal.τ).loc Cert.KernelLossIdeal.main_arg1)
          ∧ r.2.mem ((c.tc : Thread Cert.KernelLossIdeal.nD Cert.KernelLossIdeal.τ).loc Cert.KernelLossIdeal.main_arg2) = m ((c.tc : Thread Cert.KernelLossIdeal.nD Cert.KernelLossIdeal.τ).loc Cert.KernelLossIdeal.main_arg2)
          ∧ r.2.mem ((c.tc : Thread Cert.KernelLossIdeal.nD Cert.KernelLossIdeal.τ).loc Cert.KernelLossIdeal.main_arg3) = m ((c.tc : Thread Cert.KernelLossIdeal.nD Cert.KernelLossIdeal.τ).loc Cert.KernelLossIdeal.main_arg3)
          ∧ r.2.mem ((c.tc : Thread Cert.KernelLossIdeal.nD Cert.KernelLossIdeal.τ).loc Cert.KernelLossIdeal.main_arg4) = m ((c.tc : Thread Cert.KernelLossIdeal.nD Cert.KernelLossIdeal.τ).loc Cert.KernelLossIdeal.main_arg4)
          ∧ r.2.mem ((c.tc : Thread Cert.KernelLossIdeal.nD Cert.KernelLossIdeal.τ).loc Cert.KernelLossIdeal.main_arg5) = m ((c.tc : Thread Cert.KernelLossIdeal.nD Cert.KernelLossIdeal.τ).loc Cert.KernelLossIdeal.main_arg5))
      ∧ θ_run (Cert.ReferenceLossIdeal.defs (F := Ideal)) (onTc (τ := Cert.ReferenceLossIdeal.τ) (Cert.ReferenceLossIdeal.main (F := Ideal))) ⟨m', fun _ => 0, g'⟩ (fun r => ∀ c : Dev Cert.ReferenceLossIdeal.nD,
          r.2.mem ((c.tc : Thread Cert.ReferenceLossIdeal.nD Cert.ReferenceLossIdeal.τ).loc Cert.ReferenceLossIdeal.main_v72) = v0 c
          ∧ r.2.mem ((c.tc : Thread Cert.ReferenceLossIdeal.nD Cert.ReferenceLossIdeal.τ).loc Cert.ReferenceLossIdeal.main_v53) = v1 c
          ∧ r.2.mem ((c.tc : Thread Cert.ReferenceLossIdeal.nD Cert.ReferenceLossIdeal.τ).loc Cert.ReferenceLossIdeal.main_v73) = v2 c
          ∧ r.2.mem ((c.tc : Thread Cert.ReferenceLossIdeal.nD Cert.ReferenceLossIdeal.τ).loc Cert.ReferenceLossIdeal.main_v69) = v3 c
          ∧ r.2.mem ((c.tc : Thread Cert.ReferenceLossIdeal.nD Cert.ReferenceLossIdeal.τ).loc Cert.ReferenceLossIdeal.main_v37) = v4 c
          ∧ r.2.mem ((c.tc : Thread Cert.ReferenceLossIdeal.nD Cert.ReferenceLossIdeal.τ).loc Cert.ReferenceLossIdeal.main_arg0) = m' ((c.tc : Thread Cert.ReferenceLossIdeal.nD Cert.ReferenceLossIdeal.τ).loc Cert.ReferenceLossIdeal.main_arg0)
          ∧ r.2.mem ((c.tc : Thread Cert.ReferenceLossIdeal.nD Cert.ReferenceLossIdeal.τ).loc Cert.ReferenceLossIdeal.main_arg1) = m' ((c.tc : Thread Cert.ReferenceLossIdeal.nD Cert.ReferenceLossIdeal.τ).loc Cert.ReferenceLossIdeal.main_arg1)
          ∧ r.2.mem ((c.tc : Thread Cert.ReferenceLossIdeal.nD Cert.ReferenceLossIdeal.τ).loc Cert.ReferenceLossIdeal.main_arg2) = m' ((c.tc : Thread Cert.ReferenceLossIdeal.nD Cert.ReferenceLossIdeal.τ).loc Cert.ReferenceLossIdeal.main_arg2)
          ∧ r.2.mem ((c.tc : Thread Cert.ReferenceLossIdeal.nD Cert.ReferenceLossIdeal.τ).loc Cert.ReferenceLossIdeal.main_arg3) = m' ((c.tc : Thread Cert.ReferenceLossIdeal.nD Cert.ReferenceLossIdeal.τ).loc Cert.ReferenceLossIdeal.main_arg3)
          ∧ r.2.mem ((c.tc : Thread Cert.ReferenceLossIdeal.nD Cert.ReferenceLossIdeal.τ).loc Cert.ReferenceLossIdeal.main_arg4) = m' ((c.tc : Thread Cert.ReferenceLossIdeal.nD Cert.ReferenceLossIdeal.τ).loc Cert.ReferenceLossIdeal.main_arg4)
          ∧ r.2.mem ((c.tc : Thread Cert.ReferenceLossIdeal.nD Cert.ReferenceLossIdeal.τ).loc Cert.ReferenceLossIdeal.main_arg5) = m' ((c.tc : Thread Cert.ReferenceLossIdeal.nD Cert.ReferenceLossIdeal.τ).loc Cert.ReferenceLossIdeal.main_arg5))

def preserves_KernelWgradIn_KernelWgradInIdeal : Prop :=
  True

def algebraic_KernelWgradInIdeal_ReferenceWgradInIdeal [hKernelWgradInIdeal : Cert.KernelWgradInIdeal.Facts] [hReferenceWgradInIdeal : Cert.ReferenceWgradInIdeal.Facts] : Prop :=
  ∀ (m : (ℓ : Loc Cert.KernelWgradInIdeal.nD Cert.KernelWgradInIdeal.τ Cert.KernelWgradInIdeal.sig) → Buf (Elt Ideal) ℓ) (g : Dev Cert.KernelWgradInIdeal.nD → PrngReg)
    (m' : (ℓ : Loc Cert.ReferenceWgradInIdeal.nD Cert.ReferenceWgradInIdeal.τ Cert.ReferenceWgradInIdeal.sig) → Buf (Elt Ideal) ℓ) (g' : Dev Cert.ReferenceWgradInIdeal.nD → PrngReg), Pre_KernelWgradInIdeal m →
    (∀ c : Dev Cert.KernelWgradInIdeal.nD,
      m' ((c.tc : Thread Cert.ReferenceWgradInIdeal.nD Cert.ReferenceWgradInIdeal.τ).loc Cert.ReferenceWgradInIdeal.main_arg0) = m ((c.tc : Thread Cert.KernelWgradInIdeal.nD Cert.KernelWgradInIdeal.τ).loc Cert.KernelWgradInIdeal.main_arg0)
      ∧ m' ((c.tc : Thread Cert.ReferenceWgradInIdeal.nD Cert.ReferenceWgradInIdeal.τ).loc Cert.ReferenceWgradInIdeal.main_arg1) = m ((c.tc : Thread Cert.KernelWgradInIdeal.nD Cert.KernelWgradInIdeal.τ).loc Cert.KernelWgradInIdeal.main_arg1)) →
    ∃ (v0 : (c : Dev Cert.KernelWgradInIdeal.nD) → Buf (Elt Ideal) ((c.tc : Thread Cert.KernelWgradInIdeal.nD Cert.KernelWgradInIdeal.τ).loc Cert.KernelWgradInIdeal.main_v2_0)) (v1 : (c : Dev Cert.KernelWgradInIdeal.nD) → Buf (Elt Ideal) ((c.tc : Thread Cert.KernelWgradInIdeal.nD Cert.KernelWgradInIdeal.τ).loc Cert.KernelWgradInIdeal.main_v2_1)),
      θ_run (Cert.KernelWgradInIdeal.defs (F := Ideal)) (onTc (τ := Cert.KernelWgradInIdeal.τ) (Cert.KernelWgradInIdeal.main (F := Ideal))) ⟨m, fun _ => 0, g⟩ (fun r => ∀ c : Dev Cert.KernelWgradInIdeal.nD,
          r.2.mem ((c.tc : Thread Cert.KernelWgradInIdeal.nD Cert.KernelWgradInIdeal.τ).loc Cert.KernelWgradInIdeal.main_v2_0) = v0 c
          ∧ r.2.mem ((c.tc : Thread Cert.KernelWgradInIdeal.nD Cert.KernelWgradInIdeal.τ).loc Cert.KernelWgradInIdeal.main_v2_1) = v1 c
          ∧ r.2.mem ((c.tc : Thread Cert.KernelWgradInIdeal.nD Cert.KernelWgradInIdeal.τ).loc Cert.KernelWgradInIdeal.main_arg0) = m ((c.tc : Thread Cert.KernelWgradInIdeal.nD Cert.KernelWgradInIdeal.τ).loc Cert.KernelWgradInIdeal.main_arg0)
          ∧ r.2.mem ((c.tc : Thread Cert.KernelWgradInIdeal.nD Cert.KernelWgradInIdeal.τ).loc Cert.KernelWgradInIdeal.main_arg1) = m ((c.tc : Thread Cert.KernelWgradInIdeal.nD Cert.KernelWgradInIdeal.τ).loc Cert.KernelWgradInIdeal.main_arg1))
      ∧ θ_run (Cert.ReferenceWgradInIdeal.defs (F := Ideal)) (onTc (τ := Cert.ReferenceWgradInIdeal.τ) (Cert.ReferenceWgradInIdeal.main (F := Ideal))) ⟨m', fun _ => 0, g'⟩ (fun r => ∀ c : Dev Cert.ReferenceWgradInIdeal.nD,
          r.2.mem ((c.tc : Thread Cert.ReferenceWgradInIdeal.nD Cert.ReferenceWgradInIdeal.τ).loc Cert.ReferenceWgradInIdeal.main_v5) = v0 c
          ∧ r.2.mem ((c.tc : Thread Cert.ReferenceWgradInIdeal.nD Cert.ReferenceWgradInIdeal.τ).loc Cert.ReferenceWgradInIdeal.main_v6) = v1 c
          ∧ r.2.mem ((c.tc : Thread Cert.ReferenceWgradInIdeal.nD Cert.ReferenceWgradInIdeal.τ).loc Cert.ReferenceWgradInIdeal.main_arg0) = m' ((c.tc : Thread Cert.ReferenceWgradInIdeal.nD Cert.ReferenceWgradInIdeal.τ).loc Cert.ReferenceWgradInIdeal.main_arg0)
          ∧ r.2.mem ((c.tc : Thread Cert.ReferenceWgradInIdeal.nD Cert.ReferenceWgradInIdeal.τ).loc Cert.ReferenceWgradInIdeal.main_arg1) = m' ((c.tc : Thread Cert.ReferenceWgradInIdeal.nD Cert.ReferenceWgradInIdeal.τ).loc Cert.ReferenceWgradInIdeal.main_arg1))

def preserves_KernelWgradOut_KernelWgradOutIdeal : Prop :=
  True

def algebraic_KernelWgradOutIdeal_ReferenceWgradOutIdeal [hKernelWgradOutIdeal : Cert.KernelWgradOutIdeal.Facts] [hReferenceWgradOutIdeal : Cert.ReferenceWgradOutIdeal.Facts] : Prop :=
  ∀ (m : (ℓ : Loc Cert.KernelWgradOutIdeal.nD Cert.KernelWgradOutIdeal.τ Cert.KernelWgradOutIdeal.sig) → Buf (Elt Ideal) ℓ) (g : Dev Cert.KernelWgradOutIdeal.nD → PrngReg)
    (m' : (ℓ : Loc Cert.ReferenceWgradOutIdeal.nD Cert.ReferenceWgradOutIdeal.τ Cert.ReferenceWgradOutIdeal.sig) → Buf (Elt Ideal) ℓ) (g' : Dev Cert.ReferenceWgradOutIdeal.nD → PrngReg), Pre_KernelWgradOutIdeal m →
    (∀ c : Dev Cert.KernelWgradOutIdeal.nD,
      m' ((c.tc : Thread Cert.ReferenceWgradOutIdeal.nD Cert.ReferenceWgradOutIdeal.τ).loc Cert.ReferenceWgradOutIdeal.main_arg0) = m ((c.tc : Thread Cert.KernelWgradOutIdeal.nD Cert.KernelWgradOutIdeal.τ).loc Cert.KernelWgradOutIdeal.main_arg0)
      ∧ m' ((c.tc : Thread Cert.ReferenceWgradOutIdeal.nD Cert.ReferenceWgradOutIdeal.τ).loc Cert.ReferenceWgradOutIdeal.main_arg1) = m ((c.tc : Thread Cert.KernelWgradOutIdeal.nD Cert.KernelWgradOutIdeal.τ).loc Cert.KernelWgradOutIdeal.main_arg1)) →
    ∃ (v0 : (c : Dev Cert.KernelWgradOutIdeal.nD) → Buf (Elt Ideal) ((c.tc : Thread Cert.KernelWgradOutIdeal.nD Cert.KernelWgradOutIdeal.τ).loc Cert.KernelWgradOutIdeal.main_v4_0)) (v1 : (c : Dev Cert.KernelWgradOutIdeal.nD) → Buf (Elt Ideal) ((c.tc : Thread Cert.KernelWgradOutIdeal.nD Cert.KernelWgradOutIdeal.τ).loc Cert.KernelWgradOutIdeal.main_v4_1)),
      θ_run (Cert.KernelWgradOutIdeal.defs (F := Ideal)) (onTc (τ := Cert.KernelWgradOutIdeal.τ) (Cert.KernelWgradOutIdeal.main (F := Ideal))) ⟨m, fun _ => 0, g⟩ (fun r => ∀ c : Dev Cert.KernelWgradOutIdeal.nD,
          r.2.mem ((c.tc : Thread Cert.KernelWgradOutIdeal.nD Cert.KernelWgradOutIdeal.τ).loc Cert.KernelWgradOutIdeal.main_v4_0) = v0 c
          ∧ r.2.mem ((c.tc : Thread Cert.KernelWgradOutIdeal.nD Cert.KernelWgradOutIdeal.τ).loc Cert.KernelWgradOutIdeal.main_v4_1) = v1 c
          ∧ r.2.mem ((c.tc : Thread Cert.KernelWgradOutIdeal.nD Cert.KernelWgradOutIdeal.τ).loc Cert.KernelWgradOutIdeal.main_arg0) = m ((c.tc : Thread Cert.KernelWgradOutIdeal.nD Cert.KernelWgradOutIdeal.τ).loc Cert.KernelWgradOutIdeal.main_arg0)
          ∧ r.2.mem ((c.tc : Thread Cert.KernelWgradOutIdeal.nD Cert.KernelWgradOutIdeal.τ).loc Cert.KernelWgradOutIdeal.main_arg1) = m ((c.tc : Thread Cert.KernelWgradOutIdeal.nD Cert.KernelWgradOutIdeal.τ).loc Cert.KernelWgradOutIdeal.main_arg1))
      ∧ θ_run (Cert.ReferenceWgradOutIdeal.defs (F := Ideal)) (onTc (τ := Cert.ReferenceWgradOutIdeal.τ) (Cert.ReferenceWgradOutIdeal.main (F := Ideal))) ⟨m', fun _ => 0, g'⟩ (fun r => ∀ c : Dev Cert.ReferenceWgradOutIdeal.nD,
          r.2.mem ((c.tc : Thread Cert.ReferenceWgradOutIdeal.nD Cert.ReferenceWgradOutIdeal.τ).loc Cert.ReferenceWgradOutIdeal.main_v6) = v0 c
          ∧ r.2.mem ((c.tc : Thread Cert.ReferenceWgradOutIdeal.nD Cert.ReferenceWgradOutIdeal.τ).loc Cert.ReferenceWgradOutIdeal.main_v7) = v1 c
          ∧ r.2.mem ((c.tc : Thread Cert.ReferenceWgradOutIdeal.nD Cert.ReferenceWgradOutIdeal.τ).loc Cert.ReferenceWgradOutIdeal.main_arg0) = m' ((c.tc : Thread Cert.ReferenceWgradOutIdeal.nD Cert.ReferenceWgradOutIdeal.τ).loc Cert.ReferenceWgradOutIdeal.main_arg0)
          ∧ r.2.mem ((c.tc : Thread Cert.ReferenceWgradOutIdeal.nD Cert.ReferenceWgradOutIdeal.τ).loc Cert.ReferenceWgradOutIdeal.main_arg1) = m' ((c.tc : Thread Cert.ReferenceWgradOutIdeal.nD Cert.ReferenceWgradOutIdeal.τ).loc Cert.ReferenceWgradOutIdeal.main_arg1))

def preserves_KernelWgradAtt_KernelWgradAttIdeal : Prop :=
  True

def algebraic_KernelWgradAttIdeal_ReferenceWgradAttIdeal [hKernelWgradAttIdeal : Cert.KernelWgradAttIdeal.Facts] [hReferenceWgradAttIdeal : Cert.ReferenceWgradAttIdeal.Facts] : Prop :=
  ∀ (m : (ℓ : Loc Cert.KernelWgradAttIdeal.nD Cert.KernelWgradAttIdeal.τ Cert.KernelWgradAttIdeal.sig) → Buf (Elt Ideal) ℓ) (g : Dev Cert.KernelWgradAttIdeal.nD → PrngReg)
    (m' : (ℓ : Loc Cert.ReferenceWgradAttIdeal.nD Cert.ReferenceWgradAttIdeal.τ Cert.ReferenceWgradAttIdeal.sig) → Buf (Elt Ideal) ℓ) (g' : Dev Cert.ReferenceWgradAttIdeal.nD → PrngReg), Pre_KernelWgradAttIdeal m →
    (∀ c : Dev Cert.KernelWgradAttIdeal.nD,
      m' ((c.tc : Thread Cert.ReferenceWgradAttIdeal.nD Cert.ReferenceWgradAttIdeal.τ).loc Cert.ReferenceWgradAttIdeal.main_arg0) = m ((c.tc : Thread Cert.KernelWgradAttIdeal.nD Cert.KernelWgradAttIdeal.τ).loc Cert.KernelWgradAttIdeal.main_arg0)
      ∧ m' ((c.tc : Thread Cert.ReferenceWgradAttIdeal.nD Cert.ReferenceWgradAttIdeal.τ).loc Cert.ReferenceWgradAttIdeal.main_arg1) = m ((c.tc : Thread Cert.KernelWgradAttIdeal.nD Cert.KernelWgradAttIdeal.τ).loc Cert.KernelWgradAttIdeal.main_arg1)) →
    ∃ (v0 : (c : Dev Cert.KernelWgradAttIdeal.nD) → Buf (Elt Ideal) ((c.tc : Thread Cert.KernelWgradAttIdeal.nD Cert.KernelWgradAttIdeal.τ).loc Cert.KernelWgradAttIdeal.main_v2_0)) (v1 : (c : Dev Cert.KernelWgradAttIdeal.nD) → Buf (Elt Ideal) ((c.tc : Thread Cert.KernelWgradAttIdeal.nD Cert.KernelWgradAttIdeal.τ).loc Cert.KernelWgradAttIdeal.main_v2_1)),
      θ_run (Cert.KernelWgradAttIdeal.defs (F := Ideal)) (onTc (τ := Cert.KernelWgradAttIdeal.τ) (Cert.KernelWgradAttIdeal.main (F := Ideal))) ⟨m, fun _ => 0, g⟩ (fun r => ∀ c : Dev Cert.KernelWgradAttIdeal.nD,
          r.2.mem ((c.tc : Thread Cert.KernelWgradAttIdeal.nD Cert.KernelWgradAttIdeal.τ).loc Cert.KernelWgradAttIdeal.main_v2_0) = v0 c
          ∧ r.2.mem ((c.tc : Thread Cert.KernelWgradAttIdeal.nD Cert.KernelWgradAttIdeal.τ).loc Cert.KernelWgradAttIdeal.main_v2_1) = v1 c
          ∧ r.2.mem ((c.tc : Thread Cert.KernelWgradAttIdeal.nD Cert.KernelWgradAttIdeal.τ).loc Cert.KernelWgradAttIdeal.main_arg0) = m ((c.tc : Thread Cert.KernelWgradAttIdeal.nD Cert.KernelWgradAttIdeal.τ).loc Cert.KernelWgradAttIdeal.main_arg0)
          ∧ r.2.mem ((c.tc : Thread Cert.KernelWgradAttIdeal.nD Cert.KernelWgradAttIdeal.τ).loc Cert.KernelWgradAttIdeal.main_arg1) = m ((c.tc : Thread Cert.KernelWgradAttIdeal.nD Cert.KernelWgradAttIdeal.τ).loc Cert.KernelWgradAttIdeal.main_arg1))
      ∧ θ_run (Cert.ReferenceWgradAttIdeal.defs (F := Ideal)) (onTc (τ := Cert.ReferenceWgradAttIdeal.τ) (Cert.ReferenceWgradAttIdeal.main (F := Ideal))) ⟨m', fun _ => 0, g'⟩ (fun r => ∀ c : Dev Cert.ReferenceWgradAttIdeal.nD,
          r.2.mem ((c.tc : Thread Cert.ReferenceWgradAttIdeal.nD Cert.ReferenceWgradAttIdeal.τ).loc Cert.ReferenceWgradAttIdeal.main_v5) = v0 c
          ∧ r.2.mem ((c.tc : Thread Cert.ReferenceWgradAttIdeal.nD Cert.ReferenceWgradAttIdeal.τ).loc Cert.ReferenceWgradAttIdeal.main_v6) = v1 c
          ∧ r.2.mem ((c.tc : Thread Cert.ReferenceWgradAttIdeal.nD Cert.ReferenceWgradAttIdeal.τ).loc Cert.ReferenceWgradAttIdeal.main_arg0) = m' ((c.tc : Thread Cert.ReferenceWgradAttIdeal.nD Cert.ReferenceWgradAttIdeal.τ).loc Cert.ReferenceWgradAttIdeal.main_arg0)
          ∧ r.2.mem ((c.tc : Thread Cert.ReferenceWgradAttIdeal.nD Cert.ReferenceWgradAttIdeal.τ).loc Cert.ReferenceWgradAttIdeal.main_arg1) = m' ((c.tc : Thread Cert.ReferenceWgradAttIdeal.nD Cert.ReferenceWgradAttIdeal.τ).loc Cert.ReferenceWgradAttIdeal.main_arg1))

def preserves_KernelWgradPool_KernelWgradPoolIdeal : Prop :=
  True

def algebraic_KernelWgradPoolIdeal_ReferenceWgradPoolIdeal [hKernelWgradPoolIdeal : Cert.KernelWgradPoolIdeal.Facts] [hReferenceWgradPoolIdeal : Cert.ReferenceWgradPoolIdeal.Facts] : Prop :=
  ∀ (m : (ℓ : Loc Cert.KernelWgradPoolIdeal.nD Cert.KernelWgradPoolIdeal.τ Cert.KernelWgradPoolIdeal.sig) → Buf (Elt Ideal) ℓ) (g : Dev Cert.KernelWgradPoolIdeal.nD → PrngReg)
    (m' : (ℓ : Loc Cert.ReferenceWgradPoolIdeal.nD Cert.ReferenceWgradPoolIdeal.τ Cert.ReferenceWgradPoolIdeal.sig) → Buf (Elt Ideal) ℓ) (g' : Dev Cert.ReferenceWgradPoolIdeal.nD → PrngReg), Pre_KernelWgradPoolIdeal m →
    (∀ c : Dev Cert.KernelWgradPoolIdeal.nD,
      m' ((c.tc : Thread Cert.ReferenceWgradPoolIdeal.nD Cert.ReferenceWgradPoolIdeal.τ).loc Cert.ReferenceWgradPoolIdeal.main_arg0) = m ((c.tc : Thread Cert.KernelWgradPoolIdeal.nD Cert.KernelWgradPoolIdeal.τ).loc Cert.KernelWgradPoolIdeal.main_arg0)
      ∧ m' ((c.tc : Thread Cert.ReferenceWgradPoolIdeal.nD Cert.ReferenceWgradPoolIdeal.τ).loc Cert.ReferenceWgradPoolIdeal.main_arg1) = m ((c.tc : Thread Cert.KernelWgradPoolIdeal.nD Cert.KernelWgradPoolIdeal.τ).loc Cert.KernelWgradPoolIdeal.main_arg1)) →
    ∃ (v0 : (c : Dev Cert.KernelWgradPoolIdeal.nD) → Buf (Elt Ideal) ((c.tc : Thread Cert.KernelWgradPoolIdeal.nD Cert.KernelWgradPoolIdeal.τ).loc Cert.KernelWgradPoolIdeal.main_v2_0)) (v1 : (c : Dev Cert.KernelWgradPoolIdeal.nD) → Buf (Elt Ideal) ((c.tc : Thread Cert.KernelWgradPoolIdeal.nD Cert.KernelWgradPoolIdeal.τ).loc Cert.KernelWgradPoolIdeal.main_v2_1)),
      θ_run (Cert.KernelWgradPoolIdeal.defs (F := Ideal)) (onTc (τ := Cert.KernelWgradPoolIdeal.τ) (Cert.KernelWgradPoolIdeal.main (F := Ideal))) ⟨m, fun _ => 0, g⟩ (fun r => ∀ c : Dev Cert.KernelWgradPoolIdeal.nD,
          r.2.mem ((c.tc : Thread Cert.KernelWgradPoolIdeal.nD Cert.KernelWgradPoolIdeal.τ).loc Cert.KernelWgradPoolIdeal.main_v2_0) = v0 c
          ∧ r.2.mem ((c.tc : Thread Cert.KernelWgradPoolIdeal.nD Cert.KernelWgradPoolIdeal.τ).loc Cert.KernelWgradPoolIdeal.main_v2_1) = v1 c
          ∧ r.2.mem ((c.tc : Thread Cert.KernelWgradPoolIdeal.nD Cert.KernelWgradPoolIdeal.τ).loc Cert.KernelWgradPoolIdeal.main_arg0) = m ((c.tc : Thread Cert.KernelWgradPoolIdeal.nD Cert.KernelWgradPoolIdeal.τ).loc Cert.KernelWgradPoolIdeal.main_arg0)
          ∧ r.2.mem ((c.tc : Thread Cert.KernelWgradPoolIdeal.nD Cert.KernelWgradPoolIdeal.τ).loc Cert.KernelWgradPoolIdeal.main_arg1) = m ((c.tc : Thread Cert.KernelWgradPoolIdeal.nD Cert.KernelWgradPoolIdeal.τ).loc Cert.KernelWgradPoolIdeal.main_arg1))
      ∧ θ_run (Cert.ReferenceWgradPoolIdeal.defs (F := Ideal)) (onTc (τ := Cert.ReferenceWgradPoolIdeal.τ) (Cert.ReferenceWgradPoolIdeal.main (F := Ideal))) ⟨m', fun _ => 0, g'⟩ (fun r => ∀ c : Dev Cert.ReferenceWgradPoolIdeal.nD,
          r.2.mem ((c.tc : Thread Cert.ReferenceWgradPoolIdeal.nD Cert.ReferenceWgradPoolIdeal.τ).loc Cert.ReferenceWgradPoolIdeal.main_v5) = v0 c
          ∧ r.2.mem ((c.tc : Thread Cert.ReferenceWgradPoolIdeal.nD Cert.ReferenceWgradPoolIdeal.τ).loc Cert.ReferenceWgradPoolIdeal.main_v6) = v1 c
          ∧ r.2.mem ((c.tc : Thread Cert.ReferenceWgradPoolIdeal.nD Cert.ReferenceWgradPoolIdeal.τ).loc Cert.ReferenceWgradPoolIdeal.main_arg0) = m' ((c.tc : Thread Cert.ReferenceWgradPoolIdeal.nD Cert.ReferenceWgradPoolIdeal.τ).loc Cert.ReferenceWgradPoolIdeal.main_arg0)
          ∧ r.2.mem ((c.tc : Thread Cert.ReferenceWgradPoolIdeal.nD Cert.ReferenceWgradPoolIdeal.τ).loc Cert.ReferenceWgradPoolIdeal.main_arg1) = m' ((c.tc : Thread Cert.ReferenceWgradPoolIdeal.nD Cert.ReferenceWgradPoolIdeal.τ).loc Cert.ReferenceWgradPoolIdeal.main_arg1))

def preserves_KernelWgradMix_KernelWgradMixIdeal : Prop :=
  True

def algebraic_KernelWgradMixIdeal_ReferenceWgradMixIdeal [hKernelWgradMixIdeal : Cert.KernelWgradMixIdeal.Facts] [hReferenceWgradMixIdeal : Cert.ReferenceWgradMixIdeal.Facts] : Prop :=
  ∀ (m : (ℓ : Loc Cert.KernelWgradMixIdeal.nD Cert.KernelWgradMixIdeal.τ Cert.KernelWgradMixIdeal.sig) → Buf (Elt Ideal) ℓ) (g : Dev Cert.KernelWgradMixIdeal.nD → PrngReg)
    (m' : (ℓ : Loc Cert.ReferenceWgradMixIdeal.nD Cert.ReferenceWgradMixIdeal.τ Cert.ReferenceWgradMixIdeal.sig) → Buf (Elt Ideal) ℓ) (g' : Dev Cert.ReferenceWgradMixIdeal.nD → PrngReg), Pre_KernelWgradMixIdeal m →
    (∀ c : Dev Cert.KernelWgradMixIdeal.nD,
      m' ((c.tc : Thread Cert.ReferenceWgradMixIdeal.nD Cert.ReferenceWgradMixIdeal.τ).loc Cert.ReferenceWgradMixIdeal.main_arg0) = m ((c.tc : Thread Cert.KernelWgradMixIdeal.nD Cert.KernelWgradMixIdeal.τ).loc Cert.KernelWgradMixIdeal.main_arg0)
      ∧ m' ((c.tc : Thread Cert.ReferenceWgradMixIdeal.nD Cert.ReferenceWgradMixIdeal.τ).loc Cert.ReferenceWgradMixIdeal.main_arg1) = m ((c.tc : Thread Cert.KernelWgradMixIdeal.nD Cert.KernelWgradMixIdeal.τ).loc Cert.KernelWgradMixIdeal.main_arg1)) →
    ∃ (v0 : (c : Dev Cert.KernelWgradMixIdeal.nD) → Buf (Elt Ideal) ((c.tc : Thread Cert.KernelWgradMixIdeal.nD Cert.KernelWgradMixIdeal.τ).loc Cert.KernelWgradMixIdeal.main_v2_0)) (v1 : (c : Dev Cert.KernelWgradMixIdeal.nD) → Buf (Elt Ideal) ((c.tc : Thread Cert.KernelWgradMixIdeal.nD Cert.KernelWgradMixIdeal.τ).loc Cert.KernelWgradMixIdeal.main_v2_1)),
      θ_run (Cert.KernelWgradMixIdeal.defs (F := Ideal)) (onTc (τ := Cert.KernelWgradMixIdeal.τ) (Cert.KernelWgradMixIdeal.main (F := Ideal))) ⟨m, fun _ => 0, g⟩ (fun r => ∀ c : Dev Cert.KernelWgradMixIdeal.nD,
          r.2.mem ((c.tc : Thread Cert.KernelWgradMixIdeal.nD Cert.KernelWgradMixIdeal.τ).loc Cert.KernelWgradMixIdeal.main_v2_0) = v0 c
          ∧ r.2.mem ((c.tc : Thread Cert.KernelWgradMixIdeal.nD Cert.KernelWgradMixIdeal.τ).loc Cert.KernelWgradMixIdeal.main_v2_1) = v1 c
          ∧ r.2.mem ((c.tc : Thread Cert.KernelWgradMixIdeal.nD Cert.KernelWgradMixIdeal.τ).loc Cert.KernelWgradMixIdeal.main_arg0) = m ((c.tc : Thread Cert.KernelWgradMixIdeal.nD Cert.KernelWgradMixIdeal.τ).loc Cert.KernelWgradMixIdeal.main_arg0)
          ∧ r.2.mem ((c.tc : Thread Cert.KernelWgradMixIdeal.nD Cert.KernelWgradMixIdeal.τ).loc Cert.KernelWgradMixIdeal.main_arg1) = m ((c.tc : Thread Cert.KernelWgradMixIdeal.nD Cert.KernelWgradMixIdeal.τ).loc Cert.KernelWgradMixIdeal.main_arg1))
      ∧ θ_run (Cert.ReferenceWgradMixIdeal.defs (F := Ideal)) (onTc (τ := Cert.ReferenceWgradMixIdeal.τ) (Cert.ReferenceWgradMixIdeal.main (F := Ideal))) ⟨m', fun _ => 0, g'⟩ (fun r => ∀ c : Dev Cert.ReferenceWgradMixIdeal.nD,
          r.2.mem ((c.tc : Thread Cert.ReferenceWgradMixIdeal.nD Cert.ReferenceWgradMixIdeal.τ).loc Cert.ReferenceWgradMixIdeal.main_v3) = v0 c
          ∧ r.2.mem ((c.tc : Thread Cert.ReferenceWgradMixIdeal.nD Cert.ReferenceWgradMixIdeal.τ).loc Cert.ReferenceWgradMixIdeal.main_v4) = v1 c
          ∧ r.2.mem ((c.tc : Thread Cert.ReferenceWgradMixIdeal.nD Cert.ReferenceWgradMixIdeal.τ).loc Cert.ReferenceWgradMixIdeal.main_arg0) = m' ((c.tc : Thread Cert.ReferenceWgradMixIdeal.nD Cert.ReferenceWgradMixIdeal.τ).loc Cert.ReferenceWgradMixIdeal.main_arg0)
          ∧ r.2.mem ((c.tc : Thread Cert.ReferenceWgradMixIdeal.nD Cert.ReferenceWgradMixIdeal.τ).loc Cert.ReferenceWgradMixIdeal.main_arg1) = m' ((c.tc : Thread Cert.ReferenceWgradMixIdeal.nD Cert.ReferenceWgradMixIdeal.τ).loc Cert.ReferenceWgradMixIdeal.main_arg1))

def preserves_KernelWgradProj_KernelWgradProjIdeal : Prop :=
  True

def algebraic_KernelWgradProjIdeal_ReferenceWgradProjIdeal [hKernelWgradProjIdeal : Cert.KernelWgradProjIdeal.Facts] [hReferenceWgradProjIdeal : Cert.ReferenceWgradProjIdeal.Facts] : Prop :=
  ∀ (m : (ℓ : Loc Cert.KernelWgradProjIdeal.nD Cert.KernelWgradProjIdeal.τ Cert.KernelWgradProjIdeal.sig) → Buf (Elt Ideal) ℓ) (g : Dev Cert.KernelWgradProjIdeal.nD → PrngReg)
    (m' : (ℓ : Loc Cert.ReferenceWgradProjIdeal.nD Cert.ReferenceWgradProjIdeal.τ Cert.ReferenceWgradProjIdeal.sig) → Buf (Elt Ideal) ℓ) (g' : Dev Cert.ReferenceWgradProjIdeal.nD → PrngReg), Pre_KernelWgradProjIdeal m →
    (∀ c : Dev Cert.KernelWgradProjIdeal.nD,
      m' ((c.tc : Thread Cert.ReferenceWgradProjIdeal.nD Cert.ReferenceWgradProjIdeal.τ).loc Cert.ReferenceWgradProjIdeal.main_arg0) = m ((c.tc : Thread Cert.KernelWgradProjIdeal.nD Cert.KernelWgradProjIdeal.τ).loc Cert.KernelWgradProjIdeal.main_arg0)
      ∧ m' ((c.tc : Thread Cert.ReferenceWgradProjIdeal.nD Cert.ReferenceWgradProjIdeal.τ).loc Cert.ReferenceWgradProjIdeal.main_arg1) = m ((c.tc : Thread Cert.KernelWgradProjIdeal.nD Cert.KernelWgradProjIdeal.τ).loc Cert.KernelWgradProjIdeal.main_arg1)) →
    ∃ (v0 : (c : Dev Cert.KernelWgradProjIdeal.nD) → Buf (Elt Ideal) ((c.tc : Thread Cert.KernelWgradProjIdeal.nD Cert.KernelWgradProjIdeal.τ).loc Cert.KernelWgradProjIdeal.main_v7_0)) (v1 : (c : Dev Cert.KernelWgradProjIdeal.nD) → Buf (Elt Ideal) ((c.tc : Thread Cert.KernelWgradProjIdeal.nD Cert.KernelWgradProjIdeal.τ).loc Cert.KernelWgradProjIdeal.main_v7_1)),
      θ_run (Cert.KernelWgradProjIdeal.defs (F := Ideal)) (onTc (τ := Cert.KernelWgradProjIdeal.τ) (Cert.KernelWgradProjIdeal.main (F := Ideal))) ⟨m, fun _ => 0, g⟩ (fun r => ∀ c : Dev Cert.KernelWgradProjIdeal.nD,
          r.2.mem ((c.tc : Thread Cert.KernelWgradProjIdeal.nD Cert.KernelWgradProjIdeal.τ).loc Cert.KernelWgradProjIdeal.main_v7_0) = v0 c
          ∧ r.2.mem ((c.tc : Thread Cert.KernelWgradProjIdeal.nD Cert.KernelWgradProjIdeal.τ).loc Cert.KernelWgradProjIdeal.main_v7_1) = v1 c
          ∧ r.2.mem ((c.tc : Thread Cert.KernelWgradProjIdeal.nD Cert.KernelWgradProjIdeal.τ).loc Cert.KernelWgradProjIdeal.main_arg0) = m ((c.tc : Thread Cert.KernelWgradProjIdeal.nD Cert.KernelWgradProjIdeal.τ).loc Cert.KernelWgradProjIdeal.main_arg0)
          ∧ r.2.mem ((c.tc : Thread Cert.KernelWgradProjIdeal.nD Cert.KernelWgradProjIdeal.τ).loc Cert.KernelWgradProjIdeal.main_arg1) = m ((c.tc : Thread Cert.KernelWgradProjIdeal.nD Cert.KernelWgradProjIdeal.τ).loc Cert.KernelWgradProjIdeal.main_arg1))
      ∧ θ_run (Cert.ReferenceWgradProjIdeal.defs (F := Ideal)) (onTc (τ := Cert.ReferenceWgradProjIdeal.τ) (Cert.ReferenceWgradProjIdeal.main (F := Ideal))) ⟨m', fun _ => 0, g'⟩ (fun r => ∀ c : Dev Cert.ReferenceWgradProjIdeal.nD,
          r.2.mem ((c.tc : Thread Cert.ReferenceWgradProjIdeal.nD Cert.ReferenceWgradProjIdeal.τ).loc Cert.ReferenceWgradProjIdeal.main_v5) = v0 c
          ∧ r.2.mem ((c.tc : Thread Cert.ReferenceWgradProjIdeal.nD Cert.ReferenceWgradProjIdeal.τ).loc Cert.ReferenceWgradProjIdeal.main_v6) = v1 c
          ∧ r.2.mem ((c.tc : Thread Cert.ReferenceWgradProjIdeal.nD Cert.ReferenceWgradProjIdeal.τ).loc Cert.ReferenceWgradProjIdeal.main_arg0) = m' ((c.tc : Thread Cert.ReferenceWgradProjIdeal.nD Cert.ReferenceWgradProjIdeal.τ).loc Cert.ReferenceWgradProjIdeal.main_arg0)
          ∧ r.2.mem ((c.tc : Thread Cert.ReferenceWgradProjIdeal.nD Cert.ReferenceWgradProjIdeal.τ).loc Cert.ReferenceWgradProjIdeal.main_arg1) = m' ((c.tc : Thread Cert.ReferenceWgradProjIdeal.nD Cert.ReferenceWgradProjIdeal.τ).loc Cert.ReferenceWgradProjIdeal.main_arg1))

def preserves_KernelDx_KernelDxIdeal : Prop :=
  True

def algebraic_KernelDxIdeal_ReferenceDxIdeal [hKernelDxIdeal : Cert.KernelDxIdeal.Facts] [hReferenceDxIdeal : Cert.ReferenceDxIdeal.Facts] : Prop :=
  ∀ (m : (ℓ : Loc Cert.KernelDxIdeal.nD Cert.KernelDxIdeal.τ Cert.KernelDxIdeal.sig) → Buf (Elt Ideal) ℓ) (g : Dev Cert.KernelDxIdeal.nD → PrngReg)
    (m' : (ℓ : Loc Cert.ReferenceDxIdeal.nD Cert.ReferenceDxIdeal.τ Cert.ReferenceDxIdeal.sig) → Buf (Elt Ideal) ℓ) (g' : Dev Cert.ReferenceDxIdeal.nD → PrngReg), Pre_KernelDxIdeal m →
    (∀ c : Dev Cert.KernelDxIdeal.nD,
      m' ((c.tc : Thread Cert.ReferenceDxIdeal.nD Cert.ReferenceDxIdeal.τ).loc Cert.ReferenceDxIdeal.main_arg0) = m ((c.tc : Thread Cert.KernelDxIdeal.nD Cert.KernelDxIdeal.τ).loc Cert.KernelDxIdeal.main_arg0)
      ∧ m' ((c.tc : Thread Cert.ReferenceDxIdeal.nD Cert.ReferenceDxIdeal.τ).loc Cert.ReferenceDxIdeal.main_arg1) = m ((c.tc : Thread Cert.KernelDxIdeal.nD Cert.KernelDxIdeal.τ).loc Cert.KernelDxIdeal.main_arg1)
      ∧ m' ((c.tc : Thread Cert.ReferenceDxIdeal.nD Cert.ReferenceDxIdeal.τ).loc Cert.ReferenceDxIdeal.main_arg2) = m ((c.tc : Thread Cert.KernelDxIdeal.nD Cert.KernelDxIdeal.τ).loc Cert.KernelDxIdeal.main_arg2)
      ∧ m' ((c.tc : Thread Cert.ReferenceDxIdeal.nD Cert.ReferenceDxIdeal.τ).loc Cert.ReferenceDxIdeal.main_arg3) = m ((c.tc : Thread Cert.KernelDxIdeal.nD Cert.KernelDxIdeal.τ).loc Cert.KernelDxIdeal.main_arg3)
      ∧ m' ((c.tc : Thread Cert.ReferenceDxIdeal.nD Cert.ReferenceDxIdeal.τ).loc Cert.ReferenceDxIdeal.main_arg4) = m ((c.tc : Thread Cert.KernelDxIdeal.nD Cert.KernelDxIdeal.τ).loc Cert.KernelDxIdeal.main_arg4)
      ∧ m' ((c.tc : Thread Cert.ReferenceDxIdeal.nD Cert.ReferenceDxIdeal.τ).loc Cert.ReferenceDxIdeal.main_arg5) = m ((c.tc : Thread Cert.KernelDxIdeal.nD Cert.KernelDxIdeal.τ).loc Cert.KernelDxIdeal.main_arg5)) →
    ∃ (v0 : (c : Dev Cert.KernelDxIdeal.nD) → Buf (Elt Ideal) ((c.tc : Thread Cert.KernelDxIdeal.nD Cert.KernelDxIdeal.τ).loc Cert.KernelDxIdeal.main_v9_0)) (v1 : (c : Dev Cert.KernelDxIdeal.nD) → Buf (Elt Ideal) ((c.tc : Thread Cert.KernelDxIdeal.nD Cert.KernelDxIdeal.τ).loc Cert.KernelDxIdeal.main_v9_1)),
      θ_run (Cert.KernelDxIdeal.defs (F := Ideal)) (onTc (τ := Cert.KernelDxIdeal.τ) (Cert.KernelDxIdeal.main (F := Ideal))) ⟨m, fun _ => 0, g⟩ (fun r => ∀ c : Dev Cert.KernelDxIdeal.nD,
          r.2.mem ((c.tc : Thread Cert.KernelDxIdeal.nD Cert.KernelDxIdeal.τ).loc Cert.KernelDxIdeal.main_v9_0) = v0 c
          ∧ r.2.mem ((c.tc : Thread Cert.KernelDxIdeal.nD Cert.KernelDxIdeal.τ).loc Cert.KernelDxIdeal.main_v9_1) = v1 c
          ∧ r.2.mem ((c.tc : Thread Cert.KernelDxIdeal.nD Cert.KernelDxIdeal.τ).loc Cert.KernelDxIdeal.main_arg0) = m ((c.tc : Thread Cert.KernelDxIdeal.nD Cert.KernelDxIdeal.τ).loc Cert.KernelDxIdeal.main_arg0)
          ∧ r.2.mem ((c.tc : Thread Cert.KernelDxIdeal.nD Cert.KernelDxIdeal.τ).loc Cert.KernelDxIdeal.main_arg1) = m ((c.tc : Thread Cert.KernelDxIdeal.nD Cert.KernelDxIdeal.τ).loc Cert.KernelDxIdeal.main_arg1)
          ∧ r.2.mem ((c.tc : Thread Cert.KernelDxIdeal.nD Cert.KernelDxIdeal.τ).loc Cert.KernelDxIdeal.main_arg2) = m ((c.tc : Thread Cert.KernelDxIdeal.nD Cert.KernelDxIdeal.τ).loc Cert.KernelDxIdeal.main_arg2)
          ∧ r.2.mem ((c.tc : Thread Cert.KernelDxIdeal.nD Cert.KernelDxIdeal.τ).loc Cert.KernelDxIdeal.main_arg3) = m ((c.tc : Thread Cert.KernelDxIdeal.nD Cert.KernelDxIdeal.τ).loc Cert.KernelDxIdeal.main_arg3)
          ∧ r.2.mem ((c.tc : Thread Cert.KernelDxIdeal.nD Cert.KernelDxIdeal.τ).loc Cert.KernelDxIdeal.main_arg4) = m ((c.tc : Thread Cert.KernelDxIdeal.nD Cert.KernelDxIdeal.τ).loc Cert.KernelDxIdeal.main_arg4)
          ∧ r.2.mem ((c.tc : Thread Cert.KernelDxIdeal.nD Cert.KernelDxIdeal.τ).loc Cert.KernelDxIdeal.main_arg5) = m ((c.tc : Thread Cert.KernelDxIdeal.nD Cert.KernelDxIdeal.τ).loc Cert.KernelDxIdeal.main_arg5))
      ∧ θ_run (Cert.ReferenceDxIdeal.defs (F := Ideal)) (onTc (τ := Cert.ReferenceDxIdeal.τ) (Cert.ReferenceDxIdeal.main (F := Ideal))) ⟨m', fun _ => 0, g'⟩ (fun r => ∀ c : Dev Cert.ReferenceDxIdeal.nD,
          r.2.mem ((c.tc : Thread Cert.ReferenceDxIdeal.nD Cert.ReferenceDxIdeal.τ).loc Cert.ReferenceDxIdeal.main_v37) = v0 c
          ∧ r.2.mem ((c.tc : Thread Cert.ReferenceDxIdeal.nD Cert.ReferenceDxIdeal.τ).loc Cert.ReferenceDxIdeal.main_v20) = v1 c
          ∧ r.2.mem ((c.tc : Thread Cert.ReferenceDxIdeal.nD Cert.ReferenceDxIdeal.τ).loc Cert.ReferenceDxIdeal.main_arg0) = m' ((c.tc : Thread Cert.ReferenceDxIdeal.nD Cert.ReferenceDxIdeal.τ).loc Cert.ReferenceDxIdeal.main_arg0)
          ∧ r.2.mem ((c.tc : Thread Cert.ReferenceDxIdeal.nD Cert.ReferenceDxIdeal.τ).loc Cert.ReferenceDxIdeal.main_arg1) = m' ((c.tc : Thread Cert.ReferenceDxIdeal.nD Cert.ReferenceDxIdeal.τ).loc Cert.ReferenceDxIdeal.main_arg1)
          ∧ r.2.mem ((c.tc : Thread Cert.ReferenceDxIdeal.nD Cert.ReferenceDxIdeal.τ).loc Cert.ReferenceDxIdeal.main_arg2) = m' ((c.tc : Thread Cert.ReferenceDxIdeal.nD Cert.ReferenceDxIdeal.τ).loc Cert.ReferenceDxIdeal.main_arg2)
          ∧ r.2.mem ((c.tc : Thread Cert.ReferenceDxIdeal.nD Cert.ReferenceDxIdeal.τ).loc Cert.ReferenceDxIdeal.main_arg3) = m' ((c.tc : Thread Cert.ReferenceDxIdeal.nD Cert.ReferenceDxIdeal.τ).loc Cert.ReferenceDxIdeal.main_arg3)
          ∧ r.2.mem ((c.tc : Thread Cert.ReferenceDxIdeal.nD Cert.ReferenceDxIdeal.τ).loc Cert.ReferenceDxIdeal.main_arg4) = m' ((c.tc : Thread Cert.ReferenceDxIdeal.nD Cert.ReferenceDxIdeal.τ).loc Cert.ReferenceDxIdeal.main_arg4)
          ∧ r.2.mem ((c.tc : Thread Cert.ReferenceDxIdeal.nD Cert.ReferenceDxIdeal.τ).loc Cert.ReferenceDxIdeal.main_arg5) = m' ((c.tc : Thread Cert.ReferenceDxIdeal.nD Cert.ReferenceDxIdeal.τ).loc Cert.ReferenceDxIdeal.main_arg5))

def preserves_KernelInprojOwn_KernelInprojOwnIdeal : Prop :=
  True

def algebraic_KernelInprojOwnIdeal_ReferenceInprojOwnIdeal [hKernelInprojOwnIdeal : Cert.KernelInprojOwnIdeal.Facts] [hReferenceInprojOwnIdeal : Cert.ReferenceInprojOwnIdeal.Facts] : Prop :=
  ∀ (m : (ℓ : Loc Cert.KernelInprojOwnIdeal.nD Cert.KernelInprojOwnIdeal.τ Cert.KernelInprojOwnIdeal.sig) → Buf (Elt Ideal) ℓ) (g : Dev Cert.KernelInprojOwnIdeal.nD → PrngReg)
    (m' : (ℓ : Loc Cert.ReferenceInprojOwnIdeal.nD Cert.ReferenceInprojOwnIdeal.τ Cert.ReferenceInprojOwnIdeal.sig) → Buf (Elt Ideal) ℓ) (g' : Dev Cert.ReferenceInprojOwnIdeal.nD → PrngReg), Pre_KernelInprojOwnIdeal m →
    (∀ c : Dev Cert.KernelInprojOwnIdeal.nD,
      m' ((c.tc : Thread Cert.ReferenceInprojOwnIdeal.nD Cert.ReferenceInprojOwnIdeal.τ).loc Cert.ReferenceInprojOwnIdeal.main_arg0) = m ((c.tc : Thread Cert.KernelInprojOwnIdeal.nD Cert.KernelInprojOwnIdeal.τ).loc Cert.KernelInprojOwnIdeal.main_arg0)
      ∧ m' ((c.tc : Thread Cert.ReferenceInprojOwnIdeal.nD Cert.ReferenceInprojOwnIdeal.τ).loc Cert.ReferenceInprojOwnIdeal.main_arg1) = m ((c.tc : Thread Cert.KernelInprojOwnIdeal.nD Cert.KernelInprojOwnIdeal.τ).loc Cert.KernelInprojOwnIdeal.main_arg1)
      ∧ m' ((c.tc : Thread Cert.ReferenceInprojOwnIdeal.nD Cert.ReferenceInprojOwnIdeal.τ).loc Cert.ReferenceInprojOwnIdeal.main_arg2) = m ((c.tc : Thread Cert.KernelInprojOwnIdeal.nD Cert.KernelInprojOwnIdeal.τ).loc Cert.KernelInprojOwnIdeal.main_arg2)) →
    ∃ (v0 : (c : Dev Cert.KernelInprojOwnIdeal.nD) → Buf (Elt Ideal) ((c.tc : Thread Cert.KernelInprojOwnIdeal.nD Cert.KernelInprojOwnIdeal.τ).loc Cert.KernelInprojOwnIdeal.main_v1_0)) (v1 : (c : Dev Cert.KernelInprojOwnIdeal.nD) → Buf (Elt Ideal) ((c.tc : Thread Cert.KernelInprojOwnIdeal.nD Cert.KernelInprojOwnIdeal.τ).loc Cert.KernelInprojOwnIdeal.main_v1_1)),
      θ_run (Cert.KernelInprojOwnIdeal.defs (F := Ideal)) (onTc (τ := Cert.KernelInprojOwnIdeal.τ) (Cert.KernelInprojOwnIdeal.main (F := Ideal))) ⟨m, fun _ => 0, g⟩ (fun r => ∀ c : Dev Cert.KernelInprojOwnIdeal.nD,
          r.2.mem ((c.tc : Thread Cert.KernelInprojOwnIdeal.nD Cert.KernelInprojOwnIdeal.τ).loc Cert.KernelInprojOwnIdeal.main_v1_0) = v0 c
          ∧ r.2.mem ((c.tc : Thread Cert.KernelInprojOwnIdeal.nD Cert.KernelInprojOwnIdeal.τ).loc Cert.KernelInprojOwnIdeal.main_v1_1) = v1 c
          ∧ r.2.mem ((c.tc : Thread Cert.KernelInprojOwnIdeal.nD Cert.KernelInprojOwnIdeal.τ).loc Cert.KernelInprojOwnIdeal.main_arg0) = m ((c.tc : Thread Cert.KernelInprojOwnIdeal.nD Cert.KernelInprojOwnIdeal.τ).loc Cert.KernelInprojOwnIdeal.main_arg0)
          ∧ r.2.mem ((c.tc : Thread Cert.KernelInprojOwnIdeal.nD Cert.KernelInprojOwnIdeal.τ).loc Cert.KernelInprojOwnIdeal.main_arg1) = m ((c.tc : Thread Cert.KernelInprojOwnIdeal.nD Cert.KernelInprojOwnIdeal.τ).loc Cert.KernelInprojOwnIdeal.main_arg1)
          ∧ r.2.mem ((c.tc : Thread Cert.KernelInprojOwnIdeal.nD Cert.KernelInprojOwnIdeal.τ).loc Cert.KernelInprojOwnIdeal.main_arg2) = m ((c.tc : Thread Cert.KernelInprojOwnIdeal.nD Cert.KernelInprojOwnIdeal.τ).loc Cert.KernelInprojOwnIdeal.main_arg2))
      ∧ θ_run (Cert.ReferenceInprojOwnIdeal.defs (F := Ideal)) (onTc (τ := Cert.ReferenceInprojOwnIdeal.τ) (Cert.ReferenceInprojOwnIdeal.main (F := Ideal))) ⟨m', fun _ => 0, g'⟩ (fun r => ∀ c : Dev Cert.ReferenceInprojOwnIdeal.nD,
          r.2.mem ((c.tc : Thread Cert.ReferenceInprojOwnIdeal.nD Cert.ReferenceInprojOwnIdeal.τ).loc Cert.ReferenceInprojOwnIdeal.main_v13) = v0 c
          ∧ r.2.mem ((c.tc : Thread Cert.ReferenceInprojOwnIdeal.nD Cert.ReferenceInprojOwnIdeal.τ).loc Cert.ReferenceInprojOwnIdeal.main_v16) = v1 c
          ∧ r.2.mem ((c.tc : Thread Cert.ReferenceInprojOwnIdeal.nD Cert.ReferenceInprojOwnIdeal.τ).loc Cert.ReferenceInprojOwnIdeal.main_arg0) = m' ((c.tc : Thread Cert.ReferenceInprojOwnIdeal.nD Cert.ReferenceInprojOwnIdeal.τ).loc Cert.ReferenceInprojOwnIdeal.main_arg0)
          ∧ r.2.mem ((c.tc : Thread Cert.ReferenceInprojOwnIdeal.nD Cert.ReferenceInprojOwnIdeal.τ).loc Cert.ReferenceInprojOwnIdeal.main_arg1) = m' ((c.tc : Thread Cert.ReferenceInprojOwnIdeal.nD Cert.ReferenceInprojOwnIdeal.τ).loc Cert.ReferenceInprojOwnIdeal.main_arg1)
          ∧ r.2.mem ((c.tc : Thread Cert.ReferenceInprojOwnIdeal.nD Cert.ReferenceInprojOwnIdeal.τ).loc Cert.ReferenceInprojOwnIdeal.main_arg2) = m' ((c.tc : Thread Cert.ReferenceInprojOwnIdeal.nD Cert.ReferenceInprojOwnIdeal.τ).loc Cert.ReferenceInprojOwnIdeal.main_arg2))

def preserves_KernelInproj_KernelInprojIdeal : Prop :=
  True

def algebraic_KernelInprojIdeal_ReferenceInprojIdeal [hKernelInprojIdeal : Cert.KernelInprojIdeal.Facts] [hReferenceInprojIdeal : Cert.ReferenceInprojIdeal.Facts] : Prop :=
  ∀ (m : (ℓ : Loc Cert.KernelInprojIdeal.nD Cert.KernelInprojIdeal.τ Cert.KernelInprojIdeal.sig) → Buf (Elt Ideal) ℓ) (g : Dev Cert.KernelInprojIdeal.nD → PrngReg)
    (m' : (ℓ : Loc Cert.ReferenceInprojIdeal.nD Cert.ReferenceInprojIdeal.τ Cert.ReferenceInprojIdeal.sig) → Buf (Elt Ideal) ℓ) (g' : Dev Cert.ReferenceInprojIdeal.nD → PrngReg), Pre_KernelInprojIdeal m →
    (∀ c : Dev Cert.KernelInprojIdeal.nD,
      m' ((c.tc : Thread Cert.ReferenceInprojIdeal.nD Cert.ReferenceInprojIdeal.τ).loc Cert.ReferenceInprojIdeal.main_arg0) = m ((c.tc : Thread Cert.KernelInprojIdeal.nD Cert.KernelInprojIdeal.τ).loc Cert.KernelInprojIdeal.main_arg0)
      ∧ m' ((c.tc : Thread Cert.ReferenceInprojIdeal.nD Cert.ReferenceInprojIdeal.τ).loc Cert.ReferenceInprojIdeal.main_arg1) = m ((c.tc : Thread Cert.KernelInprojIdeal.nD Cert.KernelInprojIdeal.τ).loc Cert.KernelInprojIdeal.main_arg1)) →
    ∃ (v0 : (c : Dev Cert.KernelInprojIdeal.nD) → Buf (Elt Ideal) ((c.tc : Thread Cert.KernelInprojIdeal.nD Cert.KernelInprojIdeal.τ).loc Cert.KernelInprojIdeal.main_v9_0)) (v1 : (c : Dev Cert.KernelInprojIdeal.nD) → Buf (Elt Ideal) ((c.tc : Thread Cert.KernelInprojIdeal.nD Cert.KernelInprojIdeal.τ).loc Cert.KernelInprojIdeal.main_v9_1)) (v2 : (c : Dev Cert.KernelInprojIdeal.nD) → Buf (Elt Ideal) ((c.tc : Thread Cert.KernelInprojIdeal.nD Cert.KernelInprojIdeal.τ).loc Cert.KernelInprojIdeal.main_v9_2)) (v3 : (c : Dev Cert.KernelInprojIdeal.nD) → Buf (Elt Ideal) ((c.tc : Thread Cert.KernelInprojIdeal.nD Cert.KernelInprojIdeal.τ).loc Cert.KernelInprojIdeal.main_v9_3)) (v4 : (c : Dev Cert.KernelInprojIdeal.nD) → Buf (Elt Ideal) ((c.tc : Thread Cert.KernelInprojIdeal.nD Cert.KernelInprojIdeal.τ).loc Cert.KernelInprojIdeal.main_v9_4)),
      θ_run (Cert.KernelInprojIdeal.defs (F := Ideal)) (onTc (τ := Cert.KernelInprojIdeal.τ) (Cert.KernelInprojIdeal.main (F := Ideal))) ⟨m, fun _ => 0, g⟩ (fun r => ∀ c : Dev Cert.KernelInprojIdeal.nD,
          r.2.mem ((c.tc : Thread Cert.KernelInprojIdeal.nD Cert.KernelInprojIdeal.τ).loc Cert.KernelInprojIdeal.main_v9_0) = v0 c
          ∧ r.2.mem ((c.tc : Thread Cert.KernelInprojIdeal.nD Cert.KernelInprojIdeal.τ).loc Cert.KernelInprojIdeal.main_v9_1) = v1 c
          ∧ r.2.mem ((c.tc : Thread Cert.KernelInprojIdeal.nD Cert.KernelInprojIdeal.τ).loc Cert.KernelInprojIdeal.main_v9_2) = v2 c
          ∧ r.2.mem ((c.tc : Thread Cert.KernelInprojIdeal.nD Cert.KernelInprojIdeal.τ).loc Cert.KernelInprojIdeal.main_v9_3) = v3 c
          ∧ r.2.mem ((c.tc : Thread Cert.KernelInprojIdeal.nD Cert.KernelInprojIdeal.τ).loc Cert.KernelInprojIdeal.main_v9_4) = v4 c
          ∧ r.2.mem ((c.tc : Thread Cert.KernelInprojIdeal.nD Cert.KernelInprojIdeal.τ).loc Cert.KernelInprojIdeal.main_arg0) = m ((c.tc : Thread Cert.KernelInprojIdeal.nD Cert.KernelInprojIdeal.τ).loc Cert.KernelInprojIdeal.main_arg0)
          ∧ r.2.mem ((c.tc : Thread Cert.KernelInprojIdeal.nD Cert.KernelInprojIdeal.τ).loc Cert.KernelInprojIdeal.main_arg1) = m ((c.tc : Thread Cert.KernelInprojIdeal.nD Cert.KernelInprojIdeal.τ).loc Cert.KernelInprojIdeal.main_arg1))
      ∧ θ_run (Cert.ReferenceInprojIdeal.defs (F := Ideal)) (onTc (τ := Cert.ReferenceInprojIdeal.τ) (Cert.ReferenceInprojIdeal.main (F := Ideal))) ⟨m', fun _ => 0, g'⟩ (fun r => ∀ c : Dev Cert.ReferenceInprojIdeal.nD,
          r.2.mem ((c.tc : Thread Cert.ReferenceInprojIdeal.nD Cert.ReferenceInprojIdeal.τ).loc Cert.ReferenceInprojIdeal.main_v17) = v0 c
          ∧ r.2.mem ((c.tc : Thread Cert.ReferenceInprojIdeal.nD Cert.ReferenceInprojIdeal.τ).loc Cert.ReferenceInprojIdeal.main_v29) = v1 c
          ∧ r.2.mem ((c.tc : Thread Cert.ReferenceInprojIdeal.nD Cert.ReferenceInprojIdeal.τ).loc Cert.ReferenceInprojIdeal.main_v41) = v2 c
          ∧ r.2.mem ((c.tc : Thread Cert.ReferenceInprojIdeal.nD Cert.ReferenceInprojIdeal.τ).loc Cert.ReferenceInprojIdeal.main_v42) = v3 c
          ∧ r.2.mem ((c.tc : Thread Cert.ReferenceInprojIdeal.nD Cert.ReferenceInprojIdeal.τ).loc Cert.ReferenceInprojIdeal.main_v43) = v4 c
          ∧ r.2.mem ((c.tc : Thread Cert.ReferenceInprojIdeal.nD Cert.ReferenceInprojIdeal.τ).loc Cert.ReferenceInprojIdeal.main_arg0) = m' ((c.tc : Thread Cert.ReferenceInprojIdeal.nD Cert.ReferenceInprojIdeal.τ).loc Cert.ReferenceInprojIdeal.main_arg0)
          ∧ r.2.mem ((c.tc : Thread Cert.ReferenceInprojIdeal.nD Cert.ReferenceInprojIdeal.τ).loc Cert.ReferenceInprojIdeal.main_arg1) = m' ((c.tc : Thread Cert.ReferenceInprojIdeal.nD Cert.ReferenceInprojIdeal.τ).loc Cert.ReferenceInprojIdeal.main_arg1))

def preserves_KernelWgradGrp_KernelWgradGrpIdeal : Prop :=
  True

def algebraic_KernelWgradGrpIdeal_ReferenceWgradGrpIdeal [hKernelWgradGrpIdeal : Cert.KernelWgradGrpIdeal.Facts] [hReferenceWgradGrpIdeal : Cert.ReferenceWgradGrpIdeal.Facts] : Prop :=
  ∀ (m : (ℓ : Loc Cert.KernelWgradGrpIdeal.nD Cert.KernelWgradGrpIdeal.τ Cert.KernelWgradGrpIdeal.sig) → Buf (Elt Ideal) ℓ) (g : Dev Cert.KernelWgradGrpIdeal.nD → PrngReg)
    (m' : (ℓ : Loc Cert.ReferenceWgradGrpIdeal.nD Cert.ReferenceWgradGrpIdeal.τ Cert.ReferenceWgradGrpIdeal.sig) → Buf (Elt Ideal) ℓ) (g' : Dev Cert.ReferenceWgradGrpIdeal.nD → PrngReg), Pre_KernelWgradGrpIdeal m →
    (∀ c : Dev Cert.KernelWgradGrpIdeal.nD,
      m' ((c.tc : Thread Cert.ReferenceWgradGrpIdeal.nD Cert.ReferenceWgradGrpIdeal.τ).loc Cert.ReferenceWgradGrpIdeal.main_arg0) = m ((c.tc : Thread Cert.KernelWgradGrpIdeal.nD Cert.KernelWgradGrpIdeal.τ).loc Cert.KernelWgradGrpIdeal.main_arg0)
      ∧ m' ((c.tc : Thread Cert.ReferenceWgradGrpIdeal.nD Cert.ReferenceWgradGrpIdeal.τ).loc Cert.ReferenceWgradGrpIdeal.main_arg1) = m ((c.tc : Thread Cert.KernelWgradGrpIdeal.nD Cert.KernelWgradGrpIdeal.τ).loc Cert.KernelWgradGrpIdeal.main_arg1)) →
    ∃ (v0 : (c : Dev Cert.KernelWgradGrpIdeal.nD) → Buf (Elt Ideal) ((c.tc : Thread Cert.KernelWgradGrpIdeal.nD Cert.KernelWgradGrpIdeal.τ).loc Cert.KernelWgradGrpIdeal.main_v2)),
      θ_run (Cert.KernelWgradGrpIdeal.defs (F := Ideal)) (onTc (τ := Cert.KernelWgradGrpIdeal.τ) (Cert.KernelWgradGrpIdeal.main (F := Ideal))) ⟨m, fun _ => 0, g⟩ (fun r => ∀ c : Dev Cert.KernelWgradGrpIdeal.nD,
          r.2.mem ((c.tc : Thread Cert.KernelWgradGrpIdeal.nD Cert.KernelWgradGrpIdeal.τ).loc Cert.KernelWgradGrpIdeal.main_v2) = v0 c
          ∧ r.2.mem ((c.tc : Thread Cert.KernelWgradGrpIdeal.nD Cert.KernelWgradGrpIdeal.τ).loc Cert.KernelWgradGrpIdeal.main_arg0) = m ((c.tc : Thread Cert.KernelWgradGrpIdeal.nD Cert.KernelWgradGrpIdeal.τ).loc Cert.KernelWgradGrpIdeal.main_arg0)
          ∧ r.2.mem ((c.tc : Thread Cert.KernelWgradGrpIdeal.nD Cert.KernelWgradGrpIdeal.τ).loc Cert.KernelWgradGrpIdeal.main_arg1) = m ((c.tc : Thread Cert.KernelWgradGrpIdeal.nD Cert.KernelWgradGrpIdeal.τ).loc Cert.KernelWgradGrpIdeal.main_arg1))
      ∧ θ_run (Cert.ReferenceWgradGrpIdeal.defs (F := Ideal)) (onTc (τ := Cert.ReferenceWgradGrpIdeal.τ) (Cert.ReferenceWgradGrpIdeal.main (F := Ideal))) ⟨m', fun _ => 0, g'⟩ (fun r => ∀ c : Dev Cert.ReferenceWgradGrpIdeal.nD,
          r.2.mem ((c.tc : Thread Cert.ReferenceWgradGrpIdeal.nD Cert.ReferenceWgradGrpIdeal.τ).loc Cert.ReferenceWgradGrpIdeal.main_v3) = v0 c
          ∧ r.2.mem ((c.tc : Thread Cert.ReferenceWgradGrpIdeal.nD Cert.ReferenceWgradGrpIdeal.τ).loc Cert.ReferenceWgradGrpIdeal.main_arg0) = m' ((c.tc : Thread Cert.ReferenceWgradGrpIdeal.nD Cert.ReferenceWgradGrpIdeal.τ).loc Cert.ReferenceWgradGrpIdeal.main_arg0)
          ∧ r.2.mem ((c.tc : Thread Cert.ReferenceWgradGrpIdeal.nD Cert.ReferenceWgradGrpIdeal.τ).loc Cert.ReferenceWgradGrpIdeal.main_arg1) = m' ((c.tc : Thread Cert.ReferenceWgradGrpIdeal.nD Cert.ReferenceWgradGrpIdeal.τ).loc Cert.ReferenceWgradGrpIdeal.main_arg1))

def preserves_KernelAdamwIn_KernelAdamwInIdeal : Prop :=
  True

def algebraic_KernelAdamwInIdeal_ReferenceAdamwInIdeal [hKernelAdamwInIdeal : Cert.KernelAdamwInIdeal.Facts] [hReferenceAdamwInIdeal : Cert.ReferenceAdamwInIdeal.Facts] : Prop :=
  ∀ (m : (ℓ : Loc Cert.KernelAdamwInIdeal.nD Cert.KernelAdamwInIdeal.τ Cert.KernelAdamwInIdeal.sig) → Buf (Elt Ideal) ℓ) (g : Dev Cert.KernelAdamwInIdeal.nD → PrngReg)
    (m' : (ℓ : Loc Cert.ReferenceAdamwInIdeal.nD Cert.ReferenceAdamwInIdeal.τ Cert.ReferenceAdamwInIdeal.sig) → Buf (Elt Ideal) ℓ) (g' : Dev Cert.ReferenceAdamwInIdeal.nD → PrngReg), Pre_KernelAdamwInIdeal m →
    (∀ c : Dev Cert.KernelAdamwInIdeal.nD,
      m' ((c.tc : Thread Cert.ReferenceAdamwInIdeal.nD Cert.ReferenceAdamwInIdeal.τ).loc Cert.ReferenceAdamwInIdeal.main_arg0) = m ((c.tc : Thread Cert.KernelAdamwInIdeal.nD Cert.KernelAdamwInIdeal.τ).loc Cert.KernelAdamwInIdeal.main_arg0)
      ∧ m' ((c.tc : Thread Cert.ReferenceAdamwInIdeal.nD Cert.ReferenceAdamwInIdeal.τ).loc Cert.ReferenceAdamwInIdeal.main_arg1) = m ((c.tc : Thread Cert.KernelAdamwInIdeal.nD Cert.KernelAdamwInIdeal.τ).loc Cert.KernelAdamwInIdeal.main_arg1)
      ∧ m' ((c.tc : Thread Cert.ReferenceAdamwInIdeal.nD Cert.ReferenceAdamwInIdeal.τ).loc Cert.ReferenceAdamwInIdeal.main_arg2) = m ((c.tc : Thread Cert.KernelAdamwInIdeal.nD Cert.KernelAdamwInIdeal.τ).loc Cert.KernelAdamwInIdeal.main_arg2)
      ∧ m' ((c.tc : Thread Cert.ReferenceAdamwInIdeal.nD Cert.ReferenceAdamwInIdeal.τ).loc Cert.ReferenceAdamwInIdeal.main_arg3) = m ((c.tc : Thread Cert.KernelAdamwInIdeal.nD Cert.KernelAdamwInIdeal.τ).loc Cert.KernelAdamwInIdeal.main_arg3)) →
    ∃ (v0 : (c : Dev Cert.KernelAdamwInIdeal.nD) → Buf (Elt Ideal) ((c.tc : Thread Cert.KernelAdamwInIdeal.nD Cert.KernelAdamwInIdeal.τ).loc Cert.KernelAdamwInIdeal.main_v2_0)) (v1 : (c : Dev Cert.KernelAdamwInIdeal.nD) → Buf (Elt Ideal) ((c.tc : Thread Cert.KernelAdamwInIdeal.nD Cert.KernelAdamwInIdeal.τ).loc Cert.KernelAdamwInIdeal.main_v2_1)) (v2 : (c : Dev Cert.KernelAdamwInIdeal.nD) → Buf (Elt Ideal) ((c.tc : Thread Cert.KernelAdamwInIdeal.nD Cert.KernelAdamwInIdeal.τ).loc Cert.KernelAdamwInIdeal.main_v2_2)) (v3 : (c : Dev Cert.KernelAdamwInIdeal.nD) → Buf (Elt Ideal) ((c.tc : Thread Cert.KernelAdamwInIdeal.nD Cert.KernelAdamwInIdeal.τ).loc Cert.KernelAdamwInIdeal.main_v2_3)),
      θ_run (Cert.KernelAdamwInIdeal.defs (F := Ideal)) (onTc (τ := Cert.KernelAdamwInIdeal.τ) (Cert.KernelAdamwInIdeal.main (F := Ideal))) ⟨m, fun _ => 0, g⟩ (fun r => ∀ c : Dev Cert.KernelAdamwInIdeal.nD,
          r.2.mem ((c.tc : Thread Cert.KernelAdamwInIdeal.nD Cert.KernelAdamwInIdeal.τ).loc Cert.KernelAdamwInIdeal.main_v2_0) = v0 c
          ∧ r.2.mem ((c.tc : Thread Cert.KernelAdamwInIdeal.nD Cert.KernelAdamwInIdeal.τ).loc Cert.KernelAdamwInIdeal.main_v2_1) = v1 c
          ∧ r.2.mem ((c.tc : Thread Cert.KernelAdamwInIdeal.nD Cert.KernelAdamwInIdeal.τ).loc Cert.KernelAdamwInIdeal.main_v2_2) = v2 c
          ∧ r.2.mem ((c.tc : Thread Cert.KernelAdamwInIdeal.nD Cert.KernelAdamwInIdeal.τ).loc Cert.KernelAdamwInIdeal.main_v2_3) = v3 c
          ∧ r.2.mem ((c.tc : Thread Cert.KernelAdamwInIdeal.nD Cert.KernelAdamwInIdeal.τ).loc Cert.KernelAdamwInIdeal.main_arg0) = m ((c.tc : Thread Cert.KernelAdamwInIdeal.nD Cert.KernelAdamwInIdeal.τ).loc Cert.KernelAdamwInIdeal.main_arg0)
          ∧ r.2.mem ((c.tc : Thread Cert.KernelAdamwInIdeal.nD Cert.KernelAdamwInIdeal.τ).loc Cert.KernelAdamwInIdeal.main_arg1) = m ((c.tc : Thread Cert.KernelAdamwInIdeal.nD Cert.KernelAdamwInIdeal.τ).loc Cert.KernelAdamwInIdeal.main_arg1)
          ∧ r.2.mem ((c.tc : Thread Cert.KernelAdamwInIdeal.nD Cert.KernelAdamwInIdeal.τ).loc Cert.KernelAdamwInIdeal.main_arg2) = m ((c.tc : Thread Cert.KernelAdamwInIdeal.nD Cert.KernelAdamwInIdeal.τ).loc Cert.KernelAdamwInIdeal.main_arg2)
          ∧ r.2.mem ((c.tc : Thread Cert.KernelAdamwInIdeal.nD Cert.KernelAdamwInIdeal.τ).loc Cert.KernelAdamwInIdeal.main_arg3) = m ((c.tc : Thread Cert.KernelAdamwInIdeal.nD Cert.KernelAdamwInIdeal.τ).loc Cert.KernelAdamwInIdeal.main_arg3))
      ∧ θ_run (Cert.ReferenceAdamwInIdeal.defs (F := Ideal)) (onTc (τ := Cert.ReferenceAdamwInIdeal.τ) (Cert.ReferenceAdamwInIdeal.main (F := Ideal))) ⟨m', fun _ => 0, g'⟩ (fun r => ∀ c : Dev Cert.ReferenceAdamwInIdeal.nD,
          r.2.mem ((c.tc : Thread Cert.ReferenceAdamwInIdeal.nD Cert.ReferenceAdamwInIdeal.τ).loc Cert.ReferenceAdamwInIdeal.main_arg1) = v0 c
          ∧ r.2.mem ((c.tc : Thread Cert.ReferenceAdamwInIdeal.nD Cert.ReferenceAdamwInIdeal.τ).loc Cert.ReferenceAdamwInIdeal.main_v23) = v1 c
          ∧ r.2.mem ((c.tc : Thread Cert.ReferenceAdamwInIdeal.nD Cert.ReferenceAdamwInIdeal.τ).loc Cert.ReferenceAdamwInIdeal.main_v4) = v2 c
          ∧ r.2.mem ((c.tc : Thread Cert.ReferenceAdamwInIdeal.nD Cert.ReferenceAdamwInIdeal.τ).loc Cert.ReferenceAdamwInIdeal.main_v10) = v3 c
          ∧ r.2.mem ((c.tc : Thread Cert.ReferenceAdamwInIdeal.nD Cert.ReferenceAdamwInIdeal.τ).loc Cert.ReferenceAdamwInIdeal.main_arg0) = m' ((c.tc : Thread Cert.ReferenceAdamwInIdeal.nD Cert.ReferenceAdamwInIdeal.τ).loc Cert.ReferenceAdamwInIdeal.main_arg0)
          ∧ r.2.mem ((c.tc : Thread Cert.ReferenceAdamwInIdeal.nD Cert.ReferenceAdamwInIdeal.τ).loc Cert.ReferenceAdamwInIdeal.main_arg1) = m' ((c.tc : Thread Cert.ReferenceAdamwInIdeal.nD Cert.ReferenceAdamwInIdeal.τ).loc Cert.ReferenceAdamwInIdeal.main_arg1)
          ∧ r.2.mem ((c.tc : Thread Cert.ReferenceAdamwInIdeal.nD Cert.ReferenceAdamwInIdeal.τ).loc Cert.ReferenceAdamwInIdeal.main_arg2) = m' ((c.tc : Thread Cert.ReferenceAdamwInIdeal.nD Cert.ReferenceAdamwInIdeal.τ).loc Cert.ReferenceAdamwInIdeal.main_arg2)
          ∧ r.2.mem ((c.tc : Thread Cert.ReferenceAdamwInIdeal.nD Cert.ReferenceAdamwInIdeal.τ).loc Cert.ReferenceAdamwInIdeal.main_arg3) = m' ((c.tc : Thread Cert.ReferenceAdamwInIdeal.nD Cert.ReferenceAdamwInIdeal.τ).loc Cert.ReferenceAdamwInIdeal.main_arg3))

def preserves_KernelAdamwAtt_KernelAdamwAttIdeal : Prop :=
  True

def algebraic_KernelAdamwAttIdeal_ReferenceAdamwAttIdeal [hKernelAdamwAttIdeal : Cert.KernelAdamwAttIdeal.Facts] [hReferenceAdamwAttIdeal : Cert.ReferenceAdamwAttIdeal.Facts] : Prop :=
  ∀ (m : (ℓ : Loc Cert.KernelAdamwAttIdeal.nD Cert.KernelAdamwAttIdeal.τ Cert.KernelAdamwAttIdeal.sig) → Buf (Elt Ideal) ℓ) (g : Dev Cert.KernelAdamwAttIdeal.nD → PrngReg)
    (m' : (ℓ : Loc Cert.ReferenceAdamwAttIdeal.nD Cert.ReferenceAdamwAttIdeal.τ Cert.ReferenceAdamwAttIdeal.sig) → Buf (Elt Ideal) ℓ) (g' : Dev Cert.ReferenceAdamwAttIdeal.nD → PrngReg), Pre_KernelAdamwAttIdeal m →
    (∀ c : Dev Cert.KernelAdamwAttIdeal.nD,
      m' ((c.tc : Thread Cert.ReferenceAdamwAttIdeal.nD Cert.ReferenceAdamwAttIdeal.τ).loc Cert.ReferenceAdamwAttIdeal.main_arg0) = m ((c.tc : Thread Cert.KernelAdamwAttIdeal.nD Cert.KernelAdamwAttIdeal.τ).loc Cert.KernelAdamwAttIdeal.main_arg0)
      ∧ m' ((c.tc : Thread Cert.ReferenceAdamwAttIdeal.nD Cert.ReferenceAdamwAttIdeal.τ).loc Cert.ReferenceAdamwAttIdeal.main_arg1) = m ((c.tc : Thread Cert.KernelAdamwAttIdeal.nD Cert.KernelAdamwAttIdeal.τ).loc Cert.KernelAdamwAttIdeal.main_arg1)
      ∧ m' ((c.tc : Thread Cert.ReferenceAdamwAttIdeal.nD Cert.ReferenceAdamwAttIdeal.τ).loc Cert.ReferenceAdamwAttIdeal.main_arg2) = m ((c.tc : Thread Cert.KernelAdamwAttIdeal.nD Cert.KernelAdamwAttIdeal.τ).loc Cert.KernelAdamwAttIdeal.main_arg2)
      ∧ m' ((c.tc : Thread Cert.ReferenceAdamwAttIdeal.nD Cert.ReferenceAdamwAttIdeal.τ).loc Cert.ReferenceAdamwAttIdeal.main_arg3) = m ((c.tc : Thread Cert.KernelAdamwAttIdeal.nD Cert.KernelAdamwAttIdeal.τ).loc Cert.KernelAdamwAttIdeal.main_arg3)) →
    ∃ (v0 : (c : Dev Cert.KernelAdamwAttIdeal.nD) → Buf (Elt Ideal) ((c.tc : Thread Cert.KernelAdamwAttIdeal.nD Cert.KernelAdamwAttIdeal.τ).loc Cert.KernelAdamwAttIdeal.main_v0_0)) (v1 : (c : Dev Cert.KernelAdamwAttIdeal.nD) → Buf (Elt Ideal) ((c.tc : Thread Cert.KernelAdamwAttIdeal.nD Cert.KernelAdamwAttIdeal.τ).loc Cert.KernelAdamwAttIdeal.main_v0_1)) (v2 : (c : Dev Cert.KernelAdamwAttIdeal.nD) → Buf (Elt Ideal) ((c.tc : Thread Cert.KernelAdamwAttIdeal.nD Cert.KernelAdamwAttIdeal.τ).loc Cert.KernelAdamwAttIdeal.main_v0_2)) (v3 : (c : Dev Cert.KernelAdamwAttIdeal.nD) → Buf (Elt Ideal) ((c.tc : Thread Cert.KernelAdamwAttIdeal.nD Cert.KernelAdamwAttIdeal.τ).loc Cert.KernelAdamwAttIdeal.main_v0_3)),
      θ_run (Cert.KernelAdamwAttIdeal.defs (F := Ideal)) (onTc (τ := Cert.KernelAdamwAttIdeal.τ) (Cert.KernelAdamwAttIdeal.main (F := Ideal))) ⟨m, fun _ => 0, g⟩ (fun r => ∀ c : Dev Cert.KernelAdamwAttIdeal.nD,
          r.2.mem ((c.tc : Thread Cert.KernelAdamwAttIdeal.nD Cert.KernelAdamwAttIdeal.τ).loc Cert.KernelAdamwAttIdeal.main_v0_0) = v0 c
          ∧ r.2.mem ((c.tc : Thread Cert.KernelAdamwAttIdeal.nD Cert.KernelAdamwAttIdeal.τ).loc Cert.KernelAdamwAttIdeal.main_v0_1) = v1 c
          ∧ r.2.mem ((c.tc : Thread Cert.KernelAdamwAttIdeal.nD Cert.KernelAdamwAttIdeal.τ).loc Cert.KernelAdamwAttIdeal.main_v0_2) = v2 c
          ∧ r.2.mem ((c.tc : Thread Cert.KernelAdamwAttIdeal.nD Cert.KernelAdamwAttIdeal.τ).loc Cert.KernelAdamwAttIdeal.main_v0_3) = v3 c
          ∧ r.2.mem ((c.tc : Thread Cert.KernelAdamwAttIdeal.nD Cert.KernelAdamwAttIdeal.τ).loc Cert.KernelAdamwAttIdeal.main_arg0) = m ((c.tc : Thread Cert.KernelAdamwAttIdeal.nD Cert.KernelAdamwAttIdeal.τ).loc Cert.KernelAdamwAttIdeal.main_arg0)
          ∧ r.2.mem ((c.tc : Thread Cert.KernelAdamwAttIdeal.nD Cert.KernelAdamwAttIdeal.τ).loc Cert.KernelAdamwAttIdeal.main_arg1) = m ((c.tc : Thread Cert.KernelAdamwAttIdeal.nD Cert.KernelAdamwAttIdeal.τ).loc Cert.KernelAdamwAttIdeal.main_arg1)
          ∧ r.2.mem ((c.tc : Thread Cert.KernelAdamwAttIdeal.nD Cert.KernelAdamwAttIdeal.τ).loc Cert.KernelAdamwAttIdeal.main_arg2) = m ((c.tc : Thread Cert.KernelAdamwAttIdeal.nD Cert.KernelAdamwAttIdeal.τ).loc Cert.KernelAdamwAttIdeal.main_arg2)
          ∧ r.2.mem ((c.tc : Thread Cert.KernelAdamwAttIdeal.nD Cert.KernelAdamwAttIdeal.τ).loc Cert.KernelAdamwAttIdeal.main_arg3) = m ((c.tc : Thread Cert.KernelAdamwAttIdeal.nD Cert.KernelAdamwAttIdeal.τ).loc Cert.KernelAdamwAttIdeal.main_arg3))
      ∧ θ_run (Cert.ReferenceAdamwAttIdeal.defs (F := Ideal)) (onTc (τ := Cert.ReferenceAdamwAttIdeal.τ) (Cert.ReferenceAdamwAttIdeal.main (F := Ideal))) ⟨m', fun _ => 0, g'⟩ (fun r => ∀ c : Dev Cert.ReferenceAdamwAttIdeal.nD,
          r.2.mem ((c.tc : Thread Cert.ReferenceAdamwAttIdeal.nD Cert.ReferenceAdamwAttIdeal.τ).loc Cert.ReferenceAdamwAttIdeal.main_arg1) = v0 c
          ∧ r.2.mem ((c.tc : Thread Cert.ReferenceAdamwAttIdeal.nD Cert.ReferenceAdamwAttIdeal.τ).loc Cert.ReferenceAdamwAttIdeal.main_v23) = v1 c
          ∧ r.2.mem ((c.tc : Thread Cert.ReferenceAdamwAttIdeal.nD Cert.ReferenceAdamwAttIdeal.τ).loc Cert.ReferenceAdamwAttIdeal.main_v4) = v2 c
          ∧ r.2.mem ((c.tc : Thread Cert.ReferenceAdamwAttIdeal.nD Cert.ReferenceAdamwAttIdeal.τ).loc Cert.ReferenceAdamwAttIdeal.main_v10) = v3 c
          ∧ r.2.mem ((c.tc : Thread Cert.ReferenceAdamwAttIdeal.nD Cert.ReferenceAdamwAttIdeal.τ).loc Cert.ReferenceAdamwAttIdeal.main_arg0) = m' ((c.tc : Thread Cert.ReferenceAdamwAttIdeal.nD Cert.ReferenceAdamwAttIdeal.τ).loc Cert.ReferenceAdamwAttIdeal.main_arg0)
          ∧ r.2.mem ((c.tc : Thread Cert.ReferenceAdamwAttIdeal.nD Cert.ReferenceAdamwAttIdeal.τ).loc Cert.ReferenceAdamwAttIdeal.main_arg1) = m' ((c.tc : Thread Cert.ReferenceAdamwAttIdeal.nD Cert.ReferenceAdamwAttIdeal.τ).loc Cert.ReferenceAdamwAttIdeal.main_arg1)
          ∧ r.2.mem ((c.tc : Thread Cert.ReferenceAdamwAttIdeal.nD Cert.ReferenceAdamwAttIdeal.τ).loc Cert.ReferenceAdamwAttIdeal.main_arg2) = m' ((c.tc : Thread Cert.ReferenceAdamwAttIdeal.nD Cert.ReferenceAdamwAttIdeal.τ).loc Cert.ReferenceAdamwAttIdeal.main_arg2)
          ∧ r.2.mem ((c.tc : Thread Cert.ReferenceAdamwAttIdeal.nD Cert.ReferenceAdamwAttIdeal.τ).loc Cert.ReferenceAdamwAttIdeal.main_arg3) = m' ((c.tc : Thread Cert.ReferenceAdamwAttIdeal.nD Cert.ReferenceAdamwAttIdeal.τ).loc Cert.ReferenceAdamwAttIdeal.main_arg3))

def preserves_KernelAdamwPool_KernelAdamwPoolIdeal : Prop :=
  True

def algebraic_KernelAdamwPoolIdeal_ReferenceAdamwPoolIdeal [hKernelAdamwPoolIdeal : Cert.KernelAdamwPoolIdeal.Facts] [hReferenceAdamwPoolIdeal : Cert.ReferenceAdamwPoolIdeal.Facts] : Prop :=
  ∀ (m : (ℓ : Loc Cert.KernelAdamwPoolIdeal.nD Cert.KernelAdamwPoolIdeal.τ Cert.KernelAdamwPoolIdeal.sig) → Buf (Elt Ideal) ℓ) (g : Dev Cert.KernelAdamwPoolIdeal.nD → PrngReg)
    (m' : (ℓ : Loc Cert.ReferenceAdamwPoolIdeal.nD Cert.ReferenceAdamwPoolIdeal.τ Cert.ReferenceAdamwPoolIdeal.sig) → Buf (Elt Ideal) ℓ) (g' : Dev Cert.ReferenceAdamwPoolIdeal.nD → PrngReg), Pre_KernelAdamwPoolIdeal m →
    (∀ c : Dev Cert.KernelAdamwPoolIdeal.nD,
      m' ((c.tc : Thread Cert.ReferenceAdamwPoolIdeal.nD Cert.ReferenceAdamwPoolIdeal.τ).loc Cert.ReferenceAdamwPoolIdeal.main_arg0) = m ((c.tc : Thread Cert.KernelAdamwPoolIdeal.nD Cert.KernelAdamwPoolIdeal.τ).loc Cert.KernelAdamwPoolIdeal.main_arg0)
      ∧ m' ((c.tc : Thread Cert.ReferenceAdamwPoolIdeal.nD Cert.ReferenceAdamwPoolIdeal.τ).loc Cert.ReferenceAdamwPoolIdeal.main_arg1) = m ((c.tc : Thread Cert.KernelAdamwPoolIdeal.nD Cert.KernelAdamwPoolIdeal.τ).loc Cert.KernelAdamwPoolIdeal.main_arg1)
      ∧ m' ((c.tc : Thread Cert.ReferenceAdamwPoolIdeal.nD Cert.ReferenceAdamwPoolIdeal.τ).loc Cert.ReferenceAdamwPoolIdeal.main_arg2) = m ((c.tc : Thread Cert.KernelAdamwPoolIdeal.nD Cert.KernelAdamwPoolIdeal.τ).loc Cert.KernelAdamwPoolIdeal.main_arg2)
      ∧ m' ((c.tc : Thread Cert.ReferenceAdamwPoolIdeal.nD Cert.ReferenceAdamwPoolIdeal.τ).loc Cert.ReferenceAdamwPoolIdeal.main_arg3) = m ((c.tc : Thread Cert.KernelAdamwPoolIdeal.nD Cert.KernelAdamwPoolIdeal.τ).loc Cert.KernelAdamwPoolIdeal.main_arg3)) →
    ∃ (v0 : (c : Dev Cert.KernelAdamwPoolIdeal.nD) → Buf (Elt Ideal) ((c.tc : Thread Cert.KernelAdamwPoolIdeal.nD Cert.KernelAdamwPoolIdeal.τ).loc Cert.KernelAdamwPoolIdeal.main_v0_0)) (v1 : (c : Dev Cert.KernelAdamwPoolIdeal.nD) → Buf (Elt Ideal) ((c.tc : Thread Cert.KernelAdamwPoolIdeal.nD Cert.KernelAdamwPoolIdeal.τ).loc Cert.KernelAdamwPoolIdeal.main_v0_1)) (v2 : (c : Dev Cert.KernelAdamwPoolIdeal.nD) → Buf (Elt Ideal) ((c.tc : Thread Cert.KernelAdamwPoolIdeal.nD Cert.KernelAdamwPoolIdeal.τ).loc Cert.KernelAdamwPoolIdeal.main_v0_2)) (v3 : (c : Dev Cert.KernelAdamwPoolIdeal.nD) → Buf (Elt Ideal) ((c.tc : Thread Cert.KernelAdamwPoolIdeal.nD Cert.KernelAdamwPoolIdeal.τ).loc Cert.KernelAdamwPoolIdeal.main_v0_3)),
      θ_run (Cert.KernelAdamwPoolIdeal.defs (F := Ideal)) (onTc (τ := Cert.KernelAdamwPoolIdeal.τ) (Cert.KernelAdamwPoolIdeal.main (F := Ideal))) ⟨m, fun _ => 0, g⟩ (fun r => ∀ c : Dev Cert.KernelAdamwPoolIdeal.nD,
          r.2.mem ((c.tc : Thread Cert.KernelAdamwPoolIdeal.nD Cert.KernelAdamwPoolIdeal.τ).loc Cert.KernelAdamwPoolIdeal.main_v0_0) = v0 c
          ∧ r.2.mem ((c.tc : Thread Cert.KernelAdamwPoolIdeal.nD Cert.KernelAdamwPoolIdeal.τ).loc Cert.KernelAdamwPoolIdeal.main_v0_1) = v1 c
          ∧ r.2.mem ((c.tc : Thread Cert.KernelAdamwPoolIdeal.nD Cert.KernelAdamwPoolIdeal.τ).loc Cert.KernelAdamwPoolIdeal.main_v0_2) = v2 c
          ∧ r.2.mem ((c.tc : Thread Cert.KernelAdamwPoolIdeal.nD Cert.KernelAdamwPoolIdeal.τ).loc Cert.KernelAdamwPoolIdeal.main_v0_3) = v3 c
          ∧ r.2.mem ((c.tc : Thread Cert.KernelAdamwPoolIdeal.nD Cert.KernelAdamwPoolIdeal.τ).loc Cert.KernelAdamwPoolIdeal.main_arg0) = m ((c.tc : Thread Cert.KernelAdamwPoolIdeal.nD Cert.KernelAdamwPoolIdeal.τ).loc Cert.KernelAdamwPoolIdeal.main_arg0)
          ∧ r.2.mem ((c.tc : Thread Cert.KernelAdamwPoolIdeal.nD Cert.KernelAdamwPoolIdeal.τ).loc Cert.KernelAdamwPoolIdeal.main_arg1) = m ((c.tc : Thread Cert.KernelAdamwPoolIdeal.nD Cert.KernelAdamwPoolIdeal.τ).loc Cert.KernelAdamwPoolIdeal.main_arg1)
          ∧ r.2.mem ((c.tc : Thread Cert.KernelAdamwPoolIdeal.nD Cert.KernelAdamwPoolIdeal.τ).loc Cert.KernelAdamwPoolIdeal.main_arg2) = m ((c.tc : Thread Cert.KernelAdamwPoolIdeal.nD Cert.KernelAdamwPoolIdeal.τ).loc Cert.KernelAdamwPoolIdeal.main_arg2)
          ∧ r.2.mem ((c.tc : Thread Cert.KernelAdamwPoolIdeal.nD Cert.KernelAdamwPoolIdeal.τ).loc Cert.KernelAdamwPoolIdeal.main_arg3) = m ((c.tc : Thread Cert.KernelAdamwPoolIdeal.nD Cert.KernelAdamwPoolIdeal.τ).loc Cert.KernelAdamwPoolIdeal.main_arg3))
      ∧ θ_run (Cert.ReferenceAdamwPoolIdeal.defs (F := Ideal)) (onTc (τ := Cert.ReferenceAdamwPoolIdeal.τ) (Cert.ReferenceAdamwPoolIdeal.main (F := Ideal))) ⟨m', fun _ => 0, g'⟩ (fun r => ∀ c : Dev Cert.ReferenceAdamwPoolIdeal.nD,
          r.2.mem ((c.tc : Thread Cert.ReferenceAdamwPoolIdeal.nD Cert.ReferenceAdamwPoolIdeal.τ).loc Cert.ReferenceAdamwPoolIdeal.main_arg1) = v0 c
          ∧ r.2.mem ((c.tc : Thread Cert.ReferenceAdamwPoolIdeal.nD Cert.ReferenceAdamwPoolIdeal.τ).loc Cert.ReferenceAdamwPoolIdeal.main_v23) = v1 c
          ∧ r.2.mem ((c.tc : Thread Cert.ReferenceAdamwPoolIdeal.nD Cert.ReferenceAdamwPoolIdeal.τ).loc Cert.ReferenceAdamwPoolIdeal.main_v4) = v2 c
          ∧ r.2.mem ((c.tc : Thread Cert.ReferenceAdamwPoolIdeal.nD Cert.ReferenceAdamwPoolIdeal.τ).loc Cert.ReferenceAdamwPoolIdeal.main_v10) = v3 c
          ∧ r.2.mem ((c.tc : Thread Cert.ReferenceAdamwPoolIdeal.nD Cert.ReferenceAdamwPoolIdeal.τ).loc Cert.ReferenceAdamwPoolIdeal.main_arg0) = m' ((c.tc : Thread Cert.ReferenceAdamwPoolIdeal.nD Cert.ReferenceAdamwPoolIdeal.τ).loc Cert.ReferenceAdamwPoolIdeal.main_arg0)
          ∧ r.2.mem ((c.tc : Thread Cert.ReferenceAdamwPoolIdeal.nD Cert.ReferenceAdamwPoolIdeal.τ).loc Cert.ReferenceAdamwPoolIdeal.main_arg1) = m' ((c.tc : Thread Cert.ReferenceAdamwPoolIdeal.nD Cert.ReferenceAdamwPoolIdeal.τ).loc Cert.ReferenceAdamwPoolIdeal.main_arg1)
          ∧ r.2.mem ((c.tc : Thread Cert.ReferenceAdamwPoolIdeal.nD Cert.ReferenceAdamwPoolIdeal.τ).loc Cert.ReferenceAdamwPoolIdeal.main_arg2) = m' ((c.tc : Thread Cert.ReferenceAdamwPoolIdeal.nD Cert.ReferenceAdamwPoolIdeal.τ).loc Cert.ReferenceAdamwPoolIdeal.main_arg2)
          ∧ r.2.mem ((c.tc : Thread Cert.ReferenceAdamwPoolIdeal.nD Cert.ReferenceAdamwPoolIdeal.τ).loc Cert.ReferenceAdamwPoolIdeal.main_arg3) = m' ((c.tc : Thread Cert.ReferenceAdamwPoolIdeal.nD Cert.ReferenceAdamwPoolIdeal.τ).loc Cert.ReferenceAdamwPoolIdeal.main_arg3))

def preserves_KernelAdamwOut_KernelAdamwOutIdeal : Prop :=
  True

def algebraic_KernelAdamwOutIdeal_ReferenceAdamwOutIdeal [hKernelAdamwOutIdeal : Cert.KernelAdamwOutIdeal.Facts] [hReferenceAdamwOutIdeal : Cert.ReferenceAdamwOutIdeal.Facts] : Prop :=
  ∀ (m : (ℓ : Loc Cert.KernelAdamwOutIdeal.nD Cert.KernelAdamwOutIdeal.τ Cert.KernelAdamwOutIdeal.sig) → Buf (Elt Ideal) ℓ) (g : Dev Cert.KernelAdamwOutIdeal.nD → PrngReg)
    (m' : (ℓ : Loc Cert.ReferenceAdamwOutIdeal.nD Cert.ReferenceAdamwOutIdeal.τ Cert.ReferenceAdamwOutIdeal.sig) → Buf (Elt Ideal) ℓ) (g' : Dev Cert.ReferenceAdamwOutIdeal.nD → PrngReg), Pre_KernelAdamwOutIdeal m →
    (∀ c : Dev Cert.KernelAdamwOutIdeal.nD,
      m' ((c.tc : Thread Cert.ReferenceAdamwOutIdeal.nD Cert.ReferenceAdamwOutIdeal.τ).loc Cert.ReferenceAdamwOutIdeal.main_arg0) = m ((c.tc : Thread Cert.KernelAdamwOutIdeal.nD Cert.KernelAdamwOutIdeal.τ).loc Cert.KernelAdamwOutIdeal.main_arg0)
      ∧ m' ((c.tc : Thread Cert.ReferenceAdamwOutIdeal.nD Cert.ReferenceAdamwOutIdeal.τ).loc Cert.ReferenceAdamwOutIdeal.main_arg1) = m ((c.tc : Thread Cert.KernelAdamwOutIdeal.nD Cert.KernelAdamwOutIdeal.τ).loc Cert.KernelAdamwOutIdeal.main_arg1)
      ∧ m' ((c.tc : Thread Cert.ReferenceAdamwOutIdeal.nD Cert.ReferenceAdamwOutIdeal.τ).loc Cert.ReferenceAdamwOutIdeal.main_arg2) = m ((c.tc : Thread Cert.KernelAdamwOutIdeal.nD Cert.KernelAdamwOutIdeal.τ).loc Cert.KernelAdamwOutIdeal.main_arg2)
      ∧ m' ((c.tc : Thread Cert.ReferenceAdamwOutIdeal.nD Cert.ReferenceAdamwOutIdeal.τ).loc Cert.ReferenceAdamwOutIdeal.main_arg3) = m ((c.tc : Thread Cert.KernelAdamwOutIdeal.nD Cert.KernelAdamwOutIdeal.τ).loc Cert.KernelAdamwOutIdeal.main_arg3)) →
    ∃ (v0 : (c : Dev Cert.KernelAdamwOutIdeal.nD) → Buf (Elt Ideal) ((c.tc : Thread Cert.KernelAdamwOutIdeal.nD Cert.KernelAdamwOutIdeal.τ).loc Cert.KernelAdamwOutIdeal.main_v0_0)) (v1 : (c : Dev Cert.KernelAdamwOutIdeal.nD) → Buf (Elt Ideal) ((c.tc : Thread Cert.KernelAdamwOutIdeal.nD Cert.KernelAdamwOutIdeal.τ).loc Cert.KernelAdamwOutIdeal.main_v0_1)) (v2 : (c : Dev Cert.KernelAdamwOutIdeal.nD) → Buf (Elt Ideal) ((c.tc : Thread Cert.KernelAdamwOutIdeal.nD Cert.KernelAdamwOutIdeal.τ).loc Cert.KernelAdamwOutIdeal.main_v0_2)) (v3 : (c : Dev Cert.KernelAdamwOutIdeal.nD) → Buf (Elt Ideal) ((c.tc : Thread Cert.KernelAdamwOutIdeal.nD Cert.KernelAdamwOutIdeal.τ).loc Cert.KernelAdamwOutIdeal.main_v0_3)),
      θ_run (Cert.KernelAdamwOutIdeal.defs (F := Ideal)) (onTc (τ := Cert.KernelAdamwOutIdeal.τ) (Cert.KernelAdamwOutIdeal.main (F := Ideal))) ⟨m, fun _ => 0, g⟩ (fun r => ∀ c : Dev Cert.KernelAdamwOutIdeal.nD,
          r.2.mem ((c.tc : Thread Cert.KernelAdamwOutIdeal.nD Cert.KernelAdamwOutIdeal.τ).loc Cert.KernelAdamwOutIdeal.main_v0_0) = v0 c
          ∧ r.2.mem ((c.tc : Thread Cert.KernelAdamwOutIdeal.nD Cert.KernelAdamwOutIdeal.τ).loc Cert.KernelAdamwOutIdeal.main_v0_1) = v1 c
          ∧ r.2.mem ((c.tc : Thread Cert.KernelAdamwOutIdeal.nD Cert.KernelAdamwOutIdeal.τ).loc Cert.KernelAdamwOutIdeal.main_v0_2) = v2 c
          ∧ r.2.mem ((c.tc : Thread Cert.KernelAdamwOutIdeal.nD Cert.KernelAdamwOutIdeal.τ).loc Cert.KernelAdamwOutIdeal.main_v0_3) = v3 c
          ∧ r.2.mem ((c.tc : Thread Cert.KernelAdamwOutIdeal.nD Cert.KernelAdamwOutIdeal.τ).loc Cert.KernelAdamwOutIdeal.main_arg0) = m ((c.tc : Thread Cert.KernelAdamwOutIdeal.nD Cert.KernelAdamwOutIdeal.τ).loc Cert.KernelAdamwOutIdeal.main_arg0)
          ∧ r.2.mem ((c.tc : Thread Cert.KernelAdamwOutIdeal.nD Cert.KernelAdamwOutIdeal.τ).loc Cert.KernelAdamwOutIdeal.main_arg1) = m ((c.tc : Thread Cert.KernelAdamwOutIdeal.nD Cert.KernelAdamwOutIdeal.τ).loc Cert.KernelAdamwOutIdeal.main_arg1)
          ∧ r.2.mem ((c.tc : Thread Cert.KernelAdamwOutIdeal.nD Cert.KernelAdamwOutIdeal.τ).loc Cert.KernelAdamwOutIdeal.main_arg2) = m ((c.tc : Thread Cert.KernelAdamwOutIdeal.nD Cert.KernelAdamwOutIdeal.τ).loc Cert.KernelAdamwOutIdeal.main_arg2)
          ∧ r.2.mem ((c.tc : Thread Cert.KernelAdamwOutIdeal.nD Cert.KernelAdamwOutIdeal.τ).loc Cert.KernelAdamwOutIdeal.main_arg3) = m ((c.tc : Thread Cert.KernelAdamwOutIdeal.nD Cert.KernelAdamwOutIdeal.τ).loc Cert.KernelAdamwOutIdeal.main_arg3))
      ∧ θ_run (Cert.ReferenceAdamwOutIdeal.defs (F := Ideal)) (onTc (τ := Cert.ReferenceAdamwOutIdeal.τ) (Cert.ReferenceAdamwOutIdeal.main (F := Ideal))) ⟨m', fun _ => 0, g'⟩ (fun r => ∀ c : Dev Cert.ReferenceAdamwOutIdeal.nD,
          r.2.mem ((c.tc : Thread Cert.ReferenceAdamwOutIdeal.nD Cert.ReferenceAdamwOutIdeal.τ).loc Cert.ReferenceAdamwOutIdeal.main_arg1) = v0 c
          ∧ r.2.mem ((c.tc : Thread Cert.ReferenceAdamwOutIdeal.nD Cert.ReferenceAdamwOutIdeal.τ).loc Cert.ReferenceAdamwOutIdeal.main_v23) = v1 c
          ∧ r.2.mem ((c.tc : Thread Cert.ReferenceAdamwOutIdeal.nD Cert.ReferenceAdamwOutIdeal.τ).loc Cert.ReferenceAdamwOutIdeal.main_v4) = v2 c
          ∧ r.2.mem ((c.tc : Thread Cert.ReferenceAdamwOutIdeal.nD Cert.ReferenceAdamwOutIdeal.τ).loc Cert.ReferenceAdamwOutIdeal.main_v10) = v3 c
          ∧ r.2.mem ((c.tc : Thread Cert.ReferenceAdamwOutIdeal.nD Cert.ReferenceAdamwOutIdeal.τ).loc Cert.ReferenceAdamwOutIdeal.main_arg0) = m' ((c.tc : Thread Cert.ReferenceAdamwOutIdeal.nD Cert.ReferenceAdamwOutIdeal.τ).loc Cert.ReferenceAdamwOutIdeal.main_arg0)
          ∧ r.2.mem ((c.tc : Thread Cert.ReferenceAdamwOutIdeal.nD Cert.ReferenceAdamwOutIdeal.τ).loc Cert.ReferenceAdamwOutIdeal.main_arg1) = m' ((c.tc : Thread Cert.ReferenceAdamwOutIdeal.nD Cert.ReferenceAdamwOutIdeal.τ).loc Cert.ReferenceAdamwOutIdeal.main_arg1)
          ∧ r.2.mem ((c.tc : Thread Cert.ReferenceAdamwOutIdeal.nD Cert.ReferenceAdamwOutIdeal.τ).loc Cert.ReferenceAdamwOutIdeal.main_arg2) = m' ((c.tc : Thread Cert.ReferenceAdamwOutIdeal.nD Cert.ReferenceAdamwOutIdeal.τ).loc Cert.ReferenceAdamwOutIdeal.main_arg2)
          ∧ r.2.mem ((c.tc : Thread Cert.ReferenceAdamwOutIdeal.nD Cert.ReferenceAdamwOutIdeal.τ).loc Cert.ReferenceAdamwOutIdeal.main_arg3) = m' ((c.tc : Thread Cert.ReferenceAdamwOutIdeal.nD Cert.ReferenceAdamwOutIdeal.τ).loc Cert.ReferenceAdamwOutIdeal.main_arg3))

def preserves_KernelAdamwMlp_KernelAdamwMlpIdeal : Prop :=
  True

def algebraic_KernelAdamwMlpIdeal_ReferenceAdamwMlpIdeal [hKernelAdamwMlpIdeal : Cert.KernelAdamwMlpIdeal.Facts] [hReferenceAdamwMlpIdeal : Cert.ReferenceAdamwMlpIdeal.Facts] : Prop :=
  ∀ (m : (ℓ : Loc Cert.KernelAdamwMlpIdeal.nD Cert.KernelAdamwMlpIdeal.τ Cert.KernelAdamwMlpIdeal.sig) → Buf (Elt Ideal) ℓ) (g : Dev Cert.KernelAdamwMlpIdeal.nD → PrngReg)
    (m' : (ℓ : Loc Cert.ReferenceAdamwMlpIdeal.nD Cert.ReferenceAdamwMlpIdeal.τ Cert.ReferenceAdamwMlpIdeal.sig) → Buf (Elt Ideal) ℓ) (g' : Dev Cert.ReferenceAdamwMlpIdeal.nD → PrngReg), Pre_KernelAdamwMlpIdeal m →
    (∀ c : Dev Cert.KernelAdamwMlpIdeal.nD,
      m' ((c.tc : Thread Cert.ReferenceAdamwMlpIdeal.nD Cert.ReferenceAdamwMlpIdeal.τ).loc Cert.ReferenceAdamwMlpIdeal.main_arg0) = m ((c.tc : Thread Cert.KernelAdamwMlpIdeal.nD Cert.KernelAdamwMlpIdeal.τ).loc Cert.KernelAdamwMlpIdeal.main_arg0)
      ∧ m' ((c.tc : Thread Cert.ReferenceAdamwMlpIdeal.nD Cert.ReferenceAdamwMlpIdeal.τ).loc Cert.ReferenceAdamwMlpIdeal.main_arg1) = m ((c.tc : Thread Cert.KernelAdamwMlpIdeal.nD Cert.KernelAdamwMlpIdeal.τ).loc Cert.KernelAdamwMlpIdeal.main_arg1)
      ∧ m' ((c.tc : Thread Cert.ReferenceAdamwMlpIdeal.nD Cert.ReferenceAdamwMlpIdeal.τ).loc Cert.ReferenceAdamwMlpIdeal.main_arg2) = m ((c.tc : Thread Cert.KernelAdamwMlpIdeal.nD Cert.KernelAdamwMlpIdeal.τ).loc Cert.KernelAdamwMlpIdeal.main_arg2)
      ∧ m' ((c.tc : Thread Cert.ReferenceAdamwMlpIdeal.nD Cert.ReferenceAdamwMlpIdeal.τ).loc Cert.ReferenceAdamwMlpIdeal.main_arg3) = m ((c.tc : Thread Cert.KernelAdamwMlpIdeal.nD Cert.KernelAdamwMlpIdeal.τ).loc Cert.KernelAdamwMlpIdeal.main_arg3)) →
    ∃ (v0 : (c : Dev Cert.KernelAdamwMlpIdeal.nD) → Buf (Elt Ideal) ((c.tc : Thread Cert.KernelAdamwMlpIdeal.nD Cert.KernelAdamwMlpIdeal.τ).loc Cert.KernelAdamwMlpIdeal.main_v0_0)) (v1 : (c : Dev Cert.KernelAdamwMlpIdeal.nD) → Buf (Elt Ideal) ((c.tc : Thread Cert.KernelAdamwMlpIdeal.nD Cert.KernelAdamwMlpIdeal.τ).loc Cert.KernelAdamwMlpIdeal.main_v0_1)) (v2 : (c : Dev Cert.KernelAdamwMlpIdeal.nD) → Buf (Elt Ideal) ((c.tc : Thread Cert.KernelAdamwMlpIdeal.nD Cert.KernelAdamwMlpIdeal.τ).loc Cert.KernelAdamwMlpIdeal.main_v0_2)) (v3 : (c : Dev Cert.KernelAdamwMlpIdeal.nD) → Buf (Elt Ideal) ((c.tc : Thread Cert.KernelAdamwMlpIdeal.nD Cert.KernelAdamwMlpIdeal.τ).loc Cert.KernelAdamwMlpIdeal.main_v0_3)),
      θ_run (Cert.KernelAdamwMlpIdeal.defs (F := Ideal)) (onTc (τ := Cert.KernelAdamwMlpIdeal.τ) (Cert.KernelAdamwMlpIdeal.main (F := Ideal))) ⟨m, fun _ => 0, g⟩ (fun r => ∀ c : Dev Cert.KernelAdamwMlpIdeal.nD,
          r.2.mem ((c.tc : Thread Cert.KernelAdamwMlpIdeal.nD Cert.KernelAdamwMlpIdeal.τ).loc Cert.KernelAdamwMlpIdeal.main_v0_0) = v0 c
          ∧ r.2.mem ((c.tc : Thread Cert.KernelAdamwMlpIdeal.nD Cert.KernelAdamwMlpIdeal.τ).loc Cert.KernelAdamwMlpIdeal.main_v0_1) = v1 c
          ∧ r.2.mem ((c.tc : Thread Cert.KernelAdamwMlpIdeal.nD Cert.KernelAdamwMlpIdeal.τ).loc Cert.KernelAdamwMlpIdeal.main_v0_2) = v2 c
          ∧ r.2.mem ((c.tc : Thread Cert.KernelAdamwMlpIdeal.nD Cert.KernelAdamwMlpIdeal.τ).loc Cert.KernelAdamwMlpIdeal.main_v0_3) = v3 c
          ∧ r.2.mem ((c.tc : Thread Cert.KernelAdamwMlpIdeal.nD Cert.KernelAdamwMlpIdeal.τ).loc Cert.KernelAdamwMlpIdeal.main_arg0) = m ((c.tc : Thread Cert.KernelAdamwMlpIdeal.nD Cert.KernelAdamwMlpIdeal.τ).loc Cert.KernelAdamwMlpIdeal.main_arg0)
          ∧ r.2.mem ((c.tc : Thread Cert.KernelAdamwMlpIdeal.nD Cert.KernelAdamwMlpIdeal.τ).loc Cert.KernelAdamwMlpIdeal.main_arg1) = m ((c.tc : Thread Cert.KernelAdamwMlpIdeal.nD Cert.KernelAdamwMlpIdeal.τ).loc Cert.KernelAdamwMlpIdeal.main_arg1)
          ∧ r.2.mem ((c.tc : Thread Cert.KernelAdamwMlpIdeal.nD Cert.KernelAdamwMlpIdeal.τ).loc Cert.KernelAdamwMlpIdeal.main_arg2) = m ((c.tc : Thread Cert.KernelAdamwMlpIdeal.nD Cert.KernelAdamwMlpIdeal.τ).loc Cert.KernelAdamwMlpIdeal.main_arg2)
          ∧ r.2.mem ((c.tc : Thread Cert.KernelAdamwMlpIdeal.nD Cert.KernelAdamwMlpIdeal.τ).loc Cert.KernelAdamwMlpIdeal.main_arg3) = m ((c.tc : Thread Cert.KernelAdamwMlpIdeal.nD Cert.KernelAdamwMlpIdeal.τ).loc Cert.KernelAdamwMlpIdeal.main_arg3))
      ∧ θ_run (Cert.ReferenceAdamwMlpIdeal.defs (F := Ideal)) (onTc (τ := Cert.ReferenceAdamwMlpIdeal.τ) (Cert.ReferenceAdamwMlpIdeal.main (F := Ideal))) ⟨m', fun _ => 0, g'⟩ (fun r => ∀ c : Dev Cert.ReferenceAdamwMlpIdeal.nD,
          r.2.mem ((c.tc : Thread Cert.ReferenceAdamwMlpIdeal.nD Cert.ReferenceAdamwMlpIdeal.τ).loc Cert.ReferenceAdamwMlpIdeal.main_arg1) = v0 c
          ∧ r.2.mem ((c.tc : Thread Cert.ReferenceAdamwMlpIdeal.nD Cert.ReferenceAdamwMlpIdeal.τ).loc Cert.ReferenceAdamwMlpIdeal.main_v23) = v1 c
          ∧ r.2.mem ((c.tc : Thread Cert.ReferenceAdamwMlpIdeal.nD Cert.ReferenceAdamwMlpIdeal.τ).loc Cert.ReferenceAdamwMlpIdeal.main_v4) = v2 c
          ∧ r.2.mem ((c.tc : Thread Cert.ReferenceAdamwMlpIdeal.nD Cert.ReferenceAdamwMlpIdeal.τ).loc Cert.ReferenceAdamwMlpIdeal.main_v10) = v3 c
          ∧ r.2.mem ((c.tc : Thread Cert.ReferenceAdamwMlpIdeal.nD Cert.ReferenceAdamwMlpIdeal.τ).loc Cert.ReferenceAdamwMlpIdeal.main_arg0) = m' ((c.tc : Thread Cert.ReferenceAdamwMlpIdeal.nD Cert.ReferenceAdamwMlpIdeal.τ).loc Cert.ReferenceAdamwMlpIdeal.main_arg0)
          ∧ r.2.mem ((c.tc : Thread Cert.ReferenceAdamwMlpIdeal.nD Cert.ReferenceAdamwMlpIdeal.τ).loc Cert.ReferenceAdamwMlpIdeal.main_arg1) = m' ((c.tc : Thread Cert.ReferenceAdamwMlpIdeal.nD Cert.ReferenceAdamwMlpIdeal.τ).loc Cert.ReferenceAdamwMlpIdeal.main_arg1)
          ∧ r.2.mem ((c.tc : Thread Cert.ReferenceAdamwMlpIdeal.nD Cert.ReferenceAdamwMlpIdeal.τ).loc Cert.ReferenceAdamwMlpIdeal.main_arg2) = m' ((c.tc : Thread Cert.ReferenceAdamwMlpIdeal.nD Cert.ReferenceAdamwMlpIdeal.τ).loc Cert.ReferenceAdamwMlpIdeal.main_arg2)
          ∧ r.2.mem ((c.tc : Thread Cert.ReferenceAdamwMlpIdeal.nD Cert.ReferenceAdamwMlpIdeal.τ).loc Cert.ReferenceAdamwMlpIdeal.main_arg3) = m' ((c.tc : Thread Cert.ReferenceAdamwMlpIdeal.nD Cert.ReferenceAdamwMlpIdeal.τ).loc Cert.ReferenceAdamwMlpIdeal.main_arg3))

def preserves_KernelSmall_KernelSmallIdeal : Prop :=
  True

def algebraic_KernelSmallIdeal_ReferenceSmallIdeal [hKernelSmallIdeal : Cert.KernelSmallIdeal.Facts] [hReferenceSmallIdeal : Cert.ReferenceSmallIdeal.Facts] : Prop :=
  ∀ (m : (ℓ : Loc Cert.KernelSmallIdeal.nD Cert.KernelSmallIdeal.τ Cert.KernelSmallIdeal.sig) → Buf (Elt Ideal) ℓ) (g : Dev Cert.KernelSmallIdeal.nD → PrngReg)
    (m' : (ℓ : Loc Cert.ReferenceSmallIdeal.nD Cert.ReferenceSmallIdeal.τ Cert.ReferenceSmallIdeal.sig) → Buf (Elt Ideal) ℓ) (g' : Dev Cert.ReferenceSmallIdeal.nD → PrngReg), Pre_KernelSmallIdeal m →
    (∀ c : Dev Cert.KernelSmallIdeal.nD,
      m' ((c.tc : Thread Cert.ReferenceSmallIdeal.nD Cert.ReferenceSmallIdeal.τ).loc Cert.ReferenceSmallIdeal.main_arg0) = m ((c.tc : Thread Cert.KernelSmallIdeal.nD Cert.KernelSmallIdeal.τ).loc Cert.KernelSmallIdeal.main_arg0)
      ∧ m' ((c.tc : Thread Cert.ReferenceSmallIdeal.nD Cert.ReferenceSmallIdeal.τ).loc Cert.ReferenceSmallIdeal.main_arg1) = m ((c.tc : Thread Cert.KernelSmallIdeal.nD Cert.KernelSmallIdeal.τ).loc Cert.KernelSmallIdeal.main_arg1)
      ∧ m' ((c.tc : Thread Cert.ReferenceSmallIdeal.nD Cert.ReferenceSmallIdeal.τ).loc Cert.ReferenceSmallIdeal.main_arg2) = m ((c.tc : Thread Cert.KernelSmallIdeal.nD Cert.KernelSmallIdeal.τ).loc Cert.KernelSmallIdeal.main_arg2)
      ∧ m' ((c.tc : Thread Cert.ReferenceSmallIdeal.nD Cert.ReferenceSmallIdeal.τ).loc Cert.ReferenceSmallIdeal.main_arg3) = m ((c.tc : Thread Cert.KernelSmallIdeal.nD Cert.KernelSmallIdeal.τ).loc Cert.KernelSmallIdeal.main_arg3)
      ∧ m' ((c.tc : Thread Cert.ReferenceSmallIdeal.nD Cert.ReferenceSmallIdeal.τ).loc Cert.ReferenceSmallIdeal.main_arg4) = m ((c.tc : Thread Cert.KernelSmallIdeal.nD Cert.KernelSmallIdeal.τ).loc Cert.KernelSmallIdeal.main_arg4)) →
    ∃ (v0 : (c : Dev Cert.KernelSmallIdeal.nD) → Buf (Elt Ideal) ((c.tc : Thread Cert.KernelSmallIdeal.nD Cert.KernelSmallIdeal.τ).loc Cert.KernelSmallIdeal.main_v0_0)) (v1 : (c : Dev Cert.KernelSmallIdeal.nD) → Buf (Elt Ideal) ((c.tc : Thread Cert.KernelSmallIdeal.nD Cert.KernelSmallIdeal.τ).loc Cert.KernelSmallIdeal.main_v0_1)) (v2 : (c : Dev Cert.KernelSmallIdeal.nD) → Buf (Elt Ideal) ((c.tc : Thread Cert.KernelSmallIdeal.nD Cert.KernelSmallIdeal.τ).loc Cert.KernelSmallIdeal.main_v0_2)) (v3 : (c : Dev Cert.KernelSmallIdeal.nD) → Buf (Elt Ideal) ((c.tc : Thread Cert.KernelSmallIdeal.nD Cert.KernelSmallIdeal.τ).loc Cert.KernelSmallIdeal.main_v0_3)) (v4 : (c : Dev Cert.KernelSmallIdeal.nD) → Buf (Elt Ideal) ((c.tc : Thread Cert.KernelSmallIdeal.nD Cert.KernelSmallIdeal.τ).loc Cert.KernelSmallIdeal.main_v0_4)),
      θ_run (Cert.KernelSmallIdeal.defs (F := Ideal)) (onTc (τ := Cert.KernelSmallIdeal.τ) (Cert.KernelSmallIdeal.main (F := Ideal))) ⟨m, fun _ => 0, g⟩ (fun r => ∀ c : Dev Cert.KernelSmallIdeal.nD,
          r.2.mem ((c.tc : Thread Cert.KernelSmallIdeal.nD Cert.KernelSmallIdeal.τ).loc Cert.KernelSmallIdeal.main_v0_0) = v0 c
          ∧ r.2.mem ((c.tc : Thread Cert.KernelSmallIdeal.nD Cert.KernelSmallIdeal.τ).loc Cert.KernelSmallIdeal.main_v0_1) = v1 c
          ∧ r.2.mem ((c.tc : Thread Cert.KernelSmallIdeal.nD Cert.KernelSmallIdeal.τ).loc Cert.KernelSmallIdeal.main_v0_2) = v2 c
          ∧ r.2.mem ((c.tc : Thread Cert.KernelSmallIdeal.nD Cert.KernelSmallIdeal.τ).loc Cert.KernelSmallIdeal.main_v0_3) = v3 c
          ∧ r.2.mem ((c.tc : Thread Cert.KernelSmallIdeal.nD Cert.KernelSmallIdeal.τ).loc Cert.KernelSmallIdeal.main_v0_4) = v4 c
          ∧ r.2.mem ((c.tc : Thread Cert.KernelSmallIdeal.nD Cert.KernelSmallIdeal.τ).loc Cert.KernelSmallIdeal.main_arg0) = m ((c.tc : Thread Cert.KernelSmallIdeal.nD Cert.KernelSmallIdeal.τ).loc Cert.KernelSmallIdeal.main_arg0)
          ∧ r.2.mem ((c.tc : Thread Cert.KernelSmallIdeal.nD Cert.KernelSmallIdeal.τ).loc Cert.KernelSmallIdeal.main_arg1) = m ((c.tc : Thread Cert.KernelSmallIdeal.nD Cert.KernelSmallIdeal.τ).loc Cert.KernelSmallIdeal.main_arg1)
          ∧ r.2.mem ((c.tc : Thread Cert.KernelSmallIdeal.nD Cert.KernelSmallIdeal.τ).loc Cert.KernelSmallIdeal.main_arg2) = m ((c.tc : Thread Cert.KernelSmallIdeal.nD Cert.KernelSmallIdeal.τ).loc Cert.KernelSmallIdeal.main_arg2)
          ∧ r.2.mem ((c.tc : Thread Cert.KernelSmallIdeal.nD Cert.KernelSmallIdeal.τ).loc Cert.KernelSmallIdeal.main_arg3) = m ((c.tc : Thread Cert.KernelSmallIdeal.nD Cert.KernelSmallIdeal.τ).loc Cert.KernelSmallIdeal.main_arg3)
          ∧ r.2.mem ((c.tc : Thread Cert.KernelSmallIdeal.nD Cert.KernelSmallIdeal.τ).loc Cert.KernelSmallIdeal.main_arg4) = m ((c.tc : Thread Cert.KernelSmallIdeal.nD Cert.KernelSmallIdeal.τ).loc Cert.KernelSmallIdeal.main_arg4))
      ∧ θ_run (Cert.ReferenceSmallIdeal.defs (F := Ideal)) (onTc (τ := Cert.ReferenceSmallIdeal.τ) (Cert.ReferenceSmallIdeal.main (F := Ideal))) ⟨m', fun _ => 0, g'⟩ (fun r => ∀ c : Dev Cert.ReferenceSmallIdeal.nD,
          r.2.mem ((c.tc : Thread Cert.ReferenceSmallIdeal.nD Cert.ReferenceSmallIdeal.τ).loc Cert.ReferenceSmallIdeal.main_v4) = v0 c
          ∧ r.2.mem ((c.tc : Thread Cert.ReferenceSmallIdeal.nD Cert.ReferenceSmallIdeal.τ).loc Cert.ReferenceSmallIdeal.main_v28) = v1 c
          ∧ r.2.mem ((c.tc : Thread Cert.ReferenceSmallIdeal.nD Cert.ReferenceSmallIdeal.τ).loc Cert.ReferenceSmallIdeal.main_v9) = v2 c
          ∧ r.2.mem ((c.tc : Thread Cert.ReferenceSmallIdeal.nD Cert.ReferenceSmallIdeal.τ).loc Cert.ReferenceSmallIdeal.main_v15) = v3 c
          ∧ r.2.mem ((c.tc : Thread Cert.ReferenceSmallIdeal.nD Cert.ReferenceSmallIdeal.τ).loc Cert.ReferenceSmallIdeal.main_v34) = v4 c
          ∧ r.2.mem ((c.tc : Thread Cert.ReferenceSmallIdeal.nD Cert.ReferenceSmallIdeal.τ).loc Cert.ReferenceSmallIdeal.main_arg0) = m' ((c.tc : Thread Cert.ReferenceSmallIdeal.nD Cert.ReferenceSmallIdeal.τ).loc Cert.ReferenceSmallIdeal.main_arg0)
          ∧ r.2.mem ((c.tc : Thread Cert.ReferenceSmallIdeal.nD Cert.ReferenceSmallIdeal.τ).loc Cert.ReferenceSmallIdeal.main_arg1) = m' ((c.tc : Thread Cert.ReferenceSmallIdeal.nD Cert.ReferenceSmallIdeal.τ).loc Cert.ReferenceSmallIdeal.main_arg1)
          ∧ r.2.mem ((c.tc : Thread Cert.ReferenceSmallIdeal.nD Cert.ReferenceSmallIdeal.τ).loc Cert.ReferenceSmallIdeal.main_arg2) = m' ((c.tc : Thread Cert.ReferenceSmallIdeal.nD Cert.ReferenceSmallIdeal.τ).loc Cert.ReferenceSmallIdeal.main_arg2)
          ∧ r.2.mem ((c.tc : Thread Cert.ReferenceSmallIdeal.nD Cert.ReferenceSmallIdeal.τ).loc Cert.ReferenceSmallIdeal.main_arg3) = m' ((c.tc : Thread Cert.ReferenceSmallIdeal.nD Cert.ReferenceSmallIdeal.τ).loc Cert.ReferenceSmallIdeal.main_arg3)
          ∧ r.2.mem ((c.tc : Thread Cert.ReferenceSmallIdeal.nD Cert.ReferenceSmallIdeal.τ).loc Cert.ReferenceSmallIdeal.main_arg4) = m' ((c.tc : Thread Cert.ReferenceSmallIdeal.nD Cert.ReferenceSmallIdeal.τ).loc Cert.ReferenceSmallIdeal.main_arg4))

def Claim : Prop :=
  ∃ (hKernel : Cert.Kernel.Facts) (hKernelIdeal : Cert.KernelIdeal.Facts) (hReferenceIdeal : Cert.ReferenceIdeal.Facts) (hKernelLoss : Cert.KernelLoss.Facts) (hKernelLossIdeal : Cert.KernelLossIdeal.Facts) (hReferenceLossIdeal : Cert.ReferenceLossIdeal.Facts) (hKernelWgradIn : Cert.KernelWgradIn.Facts) (hKernelWgradInIdeal : Cert.KernelWgradInIdeal.Facts) (hReferenceWgradInIdeal : Cert.ReferenceWgradInIdeal.Facts) (hKernelWgradOut : Cert.KernelWgradOut.Facts) (hKernelWgradOutIdeal : Cert.KernelWgradOutIdeal.Facts) (hReferenceWgradOutIdeal : Cert.ReferenceWgradOutIdeal.Facts) (hKernelWgradAtt : Cert.KernelWgradAtt.Facts) (hKernelWgradAttIdeal : Cert.KernelWgradAttIdeal.Facts) (hReferenceWgradAttIdeal : Cert.ReferenceWgradAttIdeal.Facts) (hKernelWgradPool : Cert.KernelWgradPool.Facts) (hKernelWgradPoolIdeal : Cert.KernelWgradPoolIdeal.Facts) (hReferenceWgradPoolIdeal : Cert.ReferenceWgradPoolIdeal.Facts) (hKernelWgradMix : Cert.KernelWgradMix.Facts) (hKernelWgradMixIdeal : Cert.KernelWgradMixIdeal.Facts) (hReferenceWgradMixIdeal : Cert.ReferenceWgradMixIdeal.Facts) (hKernelWgradProj : Cert.KernelWgradProj.Facts) (hKernelWgradProjIdeal : Cert.KernelWgradProjIdeal.Facts) (hReferenceWgradProjIdeal : Cert.ReferenceWgradProjIdeal.Facts) (hKernelDx : Cert.KernelDx.Facts) (hKernelDxIdeal : Cert.KernelDxIdeal.Facts) (hReferenceDxIdeal : Cert.ReferenceDxIdeal.Facts) (hKernelInprojOwn : Cert.KernelInprojOwn.Facts) (hKernelInprojOwnIdeal : Cert.KernelInprojOwnIdeal.Facts) (hReferenceInprojOwnIdeal : Cert.ReferenceInprojOwnIdeal.Facts) (hKernelInproj : Cert.KernelInproj.Facts) (hKernelInprojIdeal : Cert.KernelInprojIdeal.Facts) (hReferenceInprojIdeal : Cert.ReferenceInprojIdeal.Facts) (hKernelWgradGrp : Cert.KernelWgradGrp.Facts) (hKernelWgradGrpIdeal : Cert.KernelWgradGrpIdeal.Facts) (hReferenceWgradGrpIdeal : Cert.ReferenceWgradGrpIdeal.Facts) (hKernelAdamwIn : Cert.KernelAdamwIn.Facts) (hKernelAdamwInIdeal : Cert.KernelAdamwInIdeal.Facts) (hReferenceAdamwInIdeal : Cert.ReferenceAdamwInIdeal.Facts) (hKernelAdamwAtt : Cert.KernelAdamwAtt.Facts) (hKernelAdamwAttIdeal : Cert.KernelAdamwAttIdeal.Facts) (hReferenceAdamwAttIdeal : Cert.ReferenceAdamwAttIdeal.Facts) (hKernelAdamwPool : Cert.KernelAdamwPool.Facts) (hKernelAdamwPoolIdeal : Cert.KernelAdamwPoolIdeal.Facts) (hReferenceAdamwPoolIdeal : Cert.ReferenceAdamwPoolIdeal.Facts) (hKernelAdamwOut : Cert.KernelAdamwOut.Facts) (hKernelAdamwOutIdeal : Cert.KernelAdamwOutIdeal.Facts) (hReferenceAdamwOutIdeal : Cert.ReferenceAdamwOutIdeal.Facts) (hKernelAdamwMlp : Cert.KernelAdamwMlp.Facts) (hKernelAdamwMlpIdeal : Cert.KernelAdamwMlpIdeal.Facts) (hReferenceAdamwMlpIdeal : Cert.ReferenceAdamwMlpIdeal.Facts) (hKernelSmall : Cert.KernelSmall.Facts) (hKernelSmallIdeal : Cert.KernelSmallIdeal.Facts) (hReferenceSmallIdeal : Cert.ReferenceSmallIdeal.Facts),
    quiescent_Kernel (hKernel := hKernel)
    ∧ quiescent_KernelIdeal (hKernelIdeal := hKernelIdeal)
    ∧ quiescent_ReferenceIdeal (hReferenceIdeal := hReferenceIdeal)
    ∧ quiescent_KernelLoss (hKernelLoss := hKernelLoss)
    ∧ quiescent_KernelLossIdeal (hKernelLossIdeal := hKernelLossIdeal)
    ∧ quiescent_ReferenceLossIdeal (hReferenceLossIdeal := hReferenceLossIdeal)
    ∧ quiescent_KernelWgradIn (hKernelWgradIn := hKernelWgradIn)
    ∧ quiescent_KernelWgradInIdeal (hKernelWgradInIdeal := hKernelWgradInIdeal)
    ∧ quiescent_ReferenceWgradInIdeal (hReferenceWgradInIdeal := hReferenceWgradInIdeal)
    ∧ quiescent_KernelWgradOut (hKernelWgradOut := hKernelWgradOut)
    ∧ quiescent_KernelWgradOutIdeal (hKernelWgradOutIdeal := hKernelWgradOutIdeal)
    ∧ quiescent_ReferenceWgradOutIdeal (hReferenceWgradOutIdeal := hReferenceWgradOutIdeal)
    ∧ quiescent_KernelWgradAtt (hKernelWgradAtt := hKernelWgradAtt)
    ∧ quiescent_KernelWgradAttIdeal (hKernelWgradAttIdeal := hKernelWgradAttIdeal)
    ∧ quiescent_ReferenceWgradAttIdeal (hReferenceWgradAttIdeal := hReferenceWgradAttIdeal)
    ∧ quiescent_KernelWgradPool (hKernelWgradPool := hKernelWgradPool)
    ∧ quiescent_KernelWgradPoolIdeal (hKernelWgradPoolIdeal := hKernelWgradPoolIdeal)
    ∧ quiescent_ReferenceWgradPoolIdeal (hReferenceWgradPoolIdeal := hReferenceWgradPoolIdeal)
    ∧ quiescent_KernelWgradMix (hKernelWgradMix := hKernelWgradMix)
    ∧ quiescent_KernelWgradMixIdeal (hKernelWgradMixIdeal := hKernelWgradMixIdeal)
    ∧ quiescent_ReferenceWgradMixIdeal (hReferenceWgradMixIdeal := hReferenceWgradMixIdeal)
    ∧ quiescent_KernelWgradProj (hKernelWgradProj := hKernelWgradProj)
    ∧ quiescent_KernelWgradProjIdeal (hKernelWgradProjIdeal := hKernelWgradProjIdeal)
    ∧ quiescent_ReferenceWgradProjIdeal (hReferenceWgradProjIdeal := hReferenceWgradProjIdeal)
    ∧ quiescent_KernelDx (hKernelDx := hKernelDx)
    ∧ quiescent_KernelDxIdeal (hKernelDxIdeal := hKernelDxIdeal)
    ∧ quiescent_ReferenceDxIdeal (hReferenceDxIdeal := hReferenceDxIdeal)
    ∧ quiescent_KernelInprojOwn (hKernelInprojOwn := hKernelInprojOwn)
    ∧ quiescent_KernelInprojOwnIdeal (hKernelInprojOwnIdeal := hKernelInprojOwnIdeal)
    ∧ quiescent_ReferenceInprojOwnIdeal (hReferenceInprojOwnIdeal := hReferenceInprojOwnIdeal)
    ∧ quiescent_KernelInproj (hKernelInproj := hKernelInproj)
    ∧ quiescent_KernelInprojIdeal (hKernelInprojIdeal := hKernelInprojIdeal)
    ∧ quiescent_ReferenceInprojIdeal (hReferenceInprojIdeal := hReferenceInprojIdeal)
    ∧ quiescent_KernelWgradGrp (hKernelWgradGrp := hKernelWgradGrp)
    ∧ quiescent_KernelWgradGrpIdeal (hKernelWgradGrpIdeal := hKernelWgradGrpIdeal)
    ∧ quiescent_ReferenceWgradGrpIdeal (hReferenceWgradGrpIdeal := hReferenceWgradGrpIdeal)
    ∧ quiescent_KernelAdamwIn (hKernelAdamwIn := hKernelAdamwIn)
    ∧ quiescent_KernelAdamwInIdeal (hKernelAdamwInIdeal := hKernelAdamwInIdeal)
    ∧ quiescent_ReferenceAdamwInIdeal (hReferenceAdamwInIdeal := hReferenceAdamwInIdeal)
    ∧ quiescent_KernelAdamwAtt (hKernelAdamwAtt := hKernelAdamwAtt)
    ∧ quiescent_KernelAdamwAttIdeal (hKernelAdamwAttIdeal := hKernelAdamwAttIdeal)
    ∧ quiescent_ReferenceAdamwAttIdeal (hReferenceAdamwAttIdeal := hReferenceAdamwAttIdeal)
    ∧ quiescent_KernelAdamwPool (hKernelAdamwPool := hKernelAdamwPool)
    ∧ quiescent_KernelAdamwPoolIdeal (hKernelAdamwPoolIdeal := hKernelAdamwPoolIdeal)
    ∧ quiescent_ReferenceAdamwPoolIdeal (hReferenceAdamwPoolIdeal := hReferenceAdamwPoolIdeal)
    ∧ quiescent_KernelAdamwOut (hKernelAdamwOut := hKernelAdamwOut)
    ∧ quiescent_KernelAdamwOutIdeal (hKernelAdamwOutIdeal := hKernelAdamwOutIdeal)
    ∧ quiescent_ReferenceAdamwOutIdeal (hReferenceAdamwOutIdeal := hReferenceAdamwOutIdeal)
    ∧ quiescent_KernelAdamwMlp (hKernelAdamwMlp := hKernelAdamwMlp)
    ∧ quiescent_KernelAdamwMlpIdeal (hKernelAdamwMlpIdeal := hKernelAdamwMlpIdeal)
    ∧ quiescent_ReferenceAdamwMlpIdeal (hReferenceAdamwMlpIdeal := hReferenceAdamwMlpIdeal)
    ∧ quiescent_KernelSmall (hKernelSmall := hKernelSmall)
    ∧ quiescent_KernelSmallIdeal (hKernelSmallIdeal := hKernelSmallIdeal)
    ∧ quiescent_ReferenceSmallIdeal (hReferenceSmallIdeal := hReferenceSmallIdeal)
    ∧ preserves_Kernel_KernelIdeal
    ∧ algebraic_KernelIdeal_ReferenceIdeal (hKernelIdeal := hKernelIdeal) (hReferenceIdeal := hReferenceIdeal)
    ∧ preserves_KernelLoss_KernelLossIdeal
    ∧ algebraic_KernelLossIdeal_ReferenceLossIdeal (hKernelLossIdeal := hKernelLossIdeal) (hReferenceLossIdeal := hReferenceLossIdeal)
    ∧ preserves_KernelWgradIn_KernelWgradInIdeal
    ∧ algebraic_KernelWgradInIdeal_ReferenceWgradInIdeal (hKernelWgradInIdeal := hKernelWgradInIdeal) (hReferenceWgradInIdeal := hReferenceWgradInIdeal)
    ∧ preserves_KernelWgradOut_KernelWgradOutIdeal
    ∧ algebraic_KernelWgradOutIdeal_ReferenceWgradOutIdeal (hKernelWgradOutIdeal := hKernelWgradOutIdeal) (hReferenceWgradOutIdeal := hReferenceWgradOutIdeal)
    ∧ preserves_KernelWgradAtt_KernelWgradAttIdeal
    ∧ algebraic_KernelWgradAttIdeal_ReferenceWgradAttIdeal (hKernelWgradAttIdeal := hKernelWgradAttIdeal) (hReferenceWgradAttIdeal := hReferenceWgradAttIdeal)
    ∧ preserves_KernelWgradPool_KernelWgradPoolIdeal
    ∧ algebraic_KernelWgradPoolIdeal_ReferenceWgradPoolIdeal (hKernelWgradPoolIdeal := hKernelWgradPoolIdeal) (hReferenceWgradPoolIdeal := hReferenceWgradPoolIdeal)
    ∧ preserves_KernelWgradMix_KernelWgradMixIdeal
    ∧ algebraic_KernelWgradMixIdeal_ReferenceWgradMixIdeal (hKernelWgradMixIdeal := hKernelWgradMixIdeal) (hReferenceWgradMixIdeal := hReferenceWgradMixIdeal)
    ∧ preserves_KernelWgradProj_KernelWgradProjIdeal
    ∧ algebraic_KernelWgradProjIdeal_ReferenceWgradProjIdeal (hKernelWgradProjIdeal := hKernelWgradProjIdeal) (hReferenceWgradProjIdeal := hReferenceWgradProjIdeal)
    ∧ preserves_KernelDx_KernelDxIdeal
    ∧ algebraic_KernelDxIdeal_ReferenceDxIdeal (hKernelDxIdeal := hKernelDxIdeal) (hReferenceDxIdeal := hReferenceDxIdeal)
    ∧ preserves_KernelInprojOwn_KernelInprojOwnIdeal
    ∧ algebraic_KernelInprojOwnIdeal_ReferenceInprojOwnIdeal (hKernelInprojOwnIdeal := hKernelInprojOwnIdeal) (hReferenceInprojOwnIdeal := hReferenceInprojOwnIdeal)
    ∧ preserves_KernelInproj_KernelInprojIdeal
    ∧ algebraic_KernelInprojIdeal_ReferenceInprojIdeal (hKernelInprojIdeal := hKernelInprojIdeal) (hReferenceInprojIdeal := hReferenceInprojIdeal)
    ∧ preserves_KernelWgradGrp_KernelWgradGrpIdeal
    ∧ algebraic_KernelWgradGrpIdeal_ReferenceWgradGrpIdeal (hKernelWgradGrpIdeal := hKernelWgradGrpIdeal) (hReferenceWgradGrpIdeal := hReferenceWgradGrpIdeal)
    ∧ preserves_KernelAdamwIn_KernelAdamwInIdeal
    ∧ algebraic_KernelAdamwInIdeal_ReferenceAdamwInIdeal (hKernelAdamwInIdeal := hKernelAdamwInIdeal) (hReferenceAdamwInIdeal := hReferenceAdamwInIdeal)
    ∧ preserves_KernelAdamwAtt_KernelAdamwAttIdeal
    ∧ algebraic_KernelAdamwAttIdeal_ReferenceAdamwAttIdeal (hKernelAdamwAttIdeal := hKernelAdamwAttIdeal) (hReferenceAdamwAttIdeal := hReferenceAdamwAttIdeal)
    ∧ preserves_KernelAdamwPool_KernelAdamwPoolIdeal
    ∧ algebraic_KernelAdamwPoolIdeal_ReferenceAdamwPoolIdeal (hKernelAdamwPoolIdeal := hKernelAdamwPoolIdeal) (hReferenceAdamwPoolIdeal := hReferenceAdamwPoolIdeal)
    ∧ preserves_KernelAdamwOut_KernelAdamwOutIdeal
    ∧ algebraic_KernelAdamwOutIdeal_ReferenceAdamwOutIdeal (hKernelAdamwOutIdeal := hKernelAdamwOutIdeal) (hReferenceAdamwOutIdeal := hReferenceAdamwOutIdeal)
    ∧ preserves_KernelAdamwMlp_KernelAdamwMlpIdeal
    ∧ algebraic_KernelAdamwMlpIdeal_ReferenceAdamwMlpIdeal (hKernelAdamwMlpIdeal := hKernelAdamwMlpIdeal) (hReferenceAdamwMlpIdeal := hReferenceAdamwMlpIdeal)
    ∧ preserves_KernelSmall_KernelSmallIdeal
    ∧ algebraic_KernelSmallIdeal_ReferenceSmallIdeal (hKernelSmallIdeal := hKernelSmallIdeal) (hReferenceSmallIdeal := hReferenceSmallIdeal)
-- ==== Kernel.lean ====
abbrev S16384x1024 : Shape := ⟨2, ![16384, 1024]⟩
abbrev S1024x4096 : Shape := ⟨2, ![1024, 4096]⟩
abbrev S4096x1024 : Shape := ⟨2, ![4096, 1024]⟩
abbrev S1x1024 : Shape := ⟨2, ![1, 1024]⟩
abbrev S_ : Shape := ⟨0, ![]⟩
abbrev S16384 : Shape := ⟨1, ![16384]⟩
abbrev S16384x1 : Shape := ⟨2, ![16384, 1]⟩
abbrev S16384x4096 : Shape := ⟨2, ![16384, 4096]⟩
abbrev S1024x4x1024 : Shape := ⟨3, ![1024, 4, 1024]⟩
abbrev S4x1024x1024 : Shape := ⟨3, ![4, 1024, 1024]⟩
abbrev S512x1024 : Shape := ⟨2, ![512, 1024]⟩
abbrev S512x4096 : Shape := ⟨2, ![512, 4096]⟩
abbrev S1x1024x1024 : Shape := ⟨3, ![1, 1024, 1024]⟩
abbrev S1024x1024 : Shape := ⟨2, ![1024, 1024]⟩
abbrev S512 : Shape := ⟨1, ![512]⟩
abbrev S512x1 : Shape := ⟨2, ![512, 1]⟩
abbrev S1024 : Shape := ⟨1, ![1024]⟩

abbrev nBuf : Space → Nat
  | .hbm => 36
  | .vmem => 18
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S1024x4096, .f32⟩
  | .hbm, ⟨3, _⟩ => ⟨S4096x1024, .f32⟩
  | .hbm, ⟨4, _⟩ => ⟨S1x1024, .f32⟩
  | .hbm, ⟨5, _⟩ => ⟨S16384x1024, .f32⟩
  | .hbm, ⟨6, _⟩ => ⟨S_, .f32⟩
  | .hbm, ⟨7, _⟩ => ⟨S16384, .f32⟩
  | .hbm, ⟨8, _⟩ => ⟨S16384x1, .f32⟩
  | .hbm, ⟨9, _⟩ => ⟨S_, .f32⟩
  | .hbm, ⟨10, _⟩ => ⟨S16384x1, .f32⟩
  | .hbm, ⟨11, _⟩ => ⟨S16384x1, .f32⟩
  | .hbm, ⟨12, _⟩ => ⟨S_, .f32⟩
  | .hbm, ⟨13, _⟩ => ⟨S16384x1, .f32⟩
  | .hbm, ⟨14, _⟩ => ⟨S16384x1, .f32⟩
  | .hbm, ⟨15, _⟩ => ⟨S16384x1, .f32⟩
  | .hbm, ⟨16, _⟩ => ⟨S16384x1024, .f32⟩
  | .hbm, ⟨17, _⟩ => ⟨S16384x1024, .f32⟩
  | .hbm, ⟨18, _⟩ => ⟨S16384x1024, .f32⟩
  | .hbm, ⟨19, _⟩ => ⟨S16384x1024, .f32⟩
  | .hbm, ⟨20, _⟩ => ⟨S16384x4096, .f32⟩
  | .hbm, ⟨21, _⟩ => ⟨S_, .f32⟩
  | .hbm, ⟨22, _⟩ => ⟨S16384x4096, .f32⟩
  | .hbm, ⟨23, _⟩ => ⟨S16384x4096, .f32⟩
  | .hbm, ⟨24, _⟩ => ⟨S16384x4096, .f32⟩
  | .hbm, ⟨25, _⟩ => ⟨S16384x4096, .bf16⟩
  | .hbm, ⟨26, _⟩ => ⟨S1024x4x1024, .f32⟩
  | .hbm, ⟨27, _⟩ => ⟨S4x1024x1024, .f32⟩
  | .hbm, ⟨28, _⟩ => ⟨S4x1024x1024, .bf16⟩
  | .hbm, ⟨29, _⟩ => ⟨S4x1024x1024, .f32⟩
  | .hbm, ⟨30, _⟩ => ⟨S4x1024x1024, .bf16⟩
  | .hbm, ⟨31, _⟩ => ⟨S16384x1024, .bf16⟩
  | .hbm, ⟨32, _⟩ => ⟨S16384x4096, .bf16⟩
  | .hbm, ⟨33, _⟩ => ⟨S16384x1024, .f32⟩
  | .hbm, ⟨34, _⟩ => ⟨S16384x1024, .bf16⟩
  | .hbm, ⟨35, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .bf16⟩
  | .local _ .vmem, ⟨3, _⟩ => ⟨S512x1024, .bf16⟩
  | .local _ .vmem, ⟨4, _⟩ => ⟨S512x4096, .bf16⟩
  | .local _ .vmem, ⟨5, _⟩ => ⟨S512x4096, .bf16⟩
  | .local _ .vmem, ⟨6, _⟩ => ⟨S512x1024, .f32⟩
  | .local _ .vmem, ⟨7, _⟩ => ⟨S512x1024, .f32⟩
  | .local _ .vmem, ⟨8, _⟩ => ⟨S4x1024x1024, .bf16⟩
  | .local _ .vmem, ⟨9, _⟩ => ⟨S4x1024x1024, .bf16⟩
  | .local _ .vmem, ⟨10, _⟩ => ⟨S1x1024, .f32⟩
  | .local _ .vmem, ⟨11, _⟩ => ⟨S512x4096, .bf16⟩
  | .local _ .vmem, ⟨12, _⟩ => ⟨S512x4096, .bf16⟩
  | .local _ .vmem, ⟨13, _⟩ => ⟨S512x1024, .f32⟩
  | .local _ .vmem, ⟨14, _⟩ => ⟨S512x1024, .f32⟩
  | .local _ .vmem, ⟨15, _⟩ => ⟨S512x1024, .bf16⟩
  | .local _ .vmem, ⟨16, _⟩ => ⟨S512x1024, .bf16⟩
  | .local _ .vmem, ⟨17, _⟩ => ⟨S1x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_call0_cst : Ref sig .tc := ⟨.hbm, 21, rfl⟩
abbrev main_call0_v0 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22_0 : Ref sig .tc := ⟨.hbm, 32, rfl⟩
abbrev main_v22_1 : Ref sig .tc := ⟨.hbm, 33, rfl⟩
abbrev main_v22_2 : Ref sig .tc := ⟨.hbm, 34, rfl⟩
abbrev main_v22_3 : Ref sig .tc := ⟨.hbm, 35, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S4x1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S4x1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x4096 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== ReferenceIdeal.lean ====
abbrev S16384x1024 : Shape := ⟨2, ![16384, 1024]⟩
abbrev S1024x4096 : Shape := ⟨2, ![1024, 4096]⟩
abbrev S4096x1024 : Shape := ⟨2, ![4096, 1024]⟩
abbrev S1x1024 : Shape := ⟨2, ![1, 1024]⟩
abbrev S_ : Shape := ⟨0, ![]⟩
abbrev S16384 : Shape := ⟨1, ![16384]⟩
abbrev S16384x1 : Shape := ⟨2, ![16384, 1]⟩
abbrev S16384x4096 : Shape := ⟨2, ![16384, 4096]⟩
abbrev S1024 : Shape := ⟨1, ![1024]⟩

abbrev nBuf : Space → Nat
  | .hbm => 70
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S1024x4096, .f32⟩
  | .hbm, ⟨3, _⟩ => ⟨S4096x1024, .f32⟩
  | .hbm, ⟨4, _⟩ => ⟨S1x1024, .f32⟩
  | .hbm, ⟨5, _⟩ => ⟨S16384x1024, .f32⟩
  | .hbm, ⟨6, _⟩ => ⟨S_, .f32⟩
  | .hbm, ⟨7, _⟩ => ⟨S16384, .f32⟩
  | .hbm, ⟨8, _⟩ => ⟨S16384x1, .f32⟩
  | .hbm, ⟨9, _⟩ => ⟨S_, .f32⟩
  | .hbm, ⟨10, _⟩ => ⟨S16384x1, .f32⟩
  | .hbm, ⟨11, _⟩ => ⟨S16384x1, .f32⟩
  | .hbm, ⟨12, _⟩ => ⟨S_, .f32⟩
  | .hbm, ⟨13, _⟩ => ⟨S16384x1, .f32⟩
  | .hbm, ⟨14, _⟩ => ⟨S16384x1, .f32⟩
  | .hbm, ⟨15, _⟩ => ⟨S16384x1, .f32⟩
  | .hbm, ⟨16, _⟩ => ⟨S16384x1, .f32⟩
  | .hbm, ⟨17, _⟩ => ⟨S_, .f32⟩
  | .hbm, ⟨18, _⟩ => ⟨S16384x1, .f32⟩
  | .hbm, ⟨19, _⟩ => ⟨S16384x1, .f32⟩
  | .hbm, ⟨20, _⟩ => ⟨S16384x1024, .f32⟩
  | .hbm, ⟨21, _⟩ => ⟨S16384x1024, .f32⟩
  | .hbm, ⟨22, _⟩ => ⟨S16384x1024, .f32⟩
  | .hbm, ⟨23, _⟩ => ⟨S16384x1024, .f32⟩
  | .hbm, ⟨24, _⟩ => ⟨S16384x4096, .f32⟩
  | .hbm, ⟨25, _⟩ => ⟨S_, .f32⟩
  | .hbm, ⟨26, _⟩ => ⟨S16384x4096, .f32⟩
  | .hbm, ⟨27, _⟩ => ⟨S16384x4096, .f32⟩
  | .hbm, ⟨28, _⟩ => ⟨S_, .f32⟩
  | .hbm, ⟨29, _⟩ => ⟨S16384x4096, .f32⟩
  | .hbm, ⟨30, _⟩ => ⟨S16384x4096, .i1⟩
  | .hbm, ⟨31, _⟩ => ⟨S_, .f32⟩
  | .hbm, ⟨32, _⟩ => ⟨S16384x4096, .f32⟩
  | .hbm, ⟨33, _⟩ => ⟨S16384x4096, .f32⟩
  | .hbm, ⟨34, _⟩ => ⟨S_, .f32⟩
  | .hbm, ⟨35, _⟩ => ⟨S16384x4096, .f32⟩
  | .hbm, ⟨36, _⟩ => ⟨S16384x4096, .f32⟩
  | .hbm, ⟨37, _⟩ => ⟨S16384x1024, .f32⟩
  | .hbm, ⟨38, _⟩ => ⟨S16384x4096, .f32⟩
  | .hbm, ⟨39, _⟩ => ⟨S16384x4096, .f32⟩
  | .hbm, ⟨40, _⟩ => ⟨S_, .f32⟩
  | .hbm, ⟨41, _⟩ => ⟨S16384x4096, .f32⟩
  | .hbm, ⟨42, _⟩ => ⟨S16384x4096, .f32⟩
  | .hbm, ⟨43, _⟩ => ⟨S16384x1024, .f32⟩
  | .hbm, ⟨44, _⟩ => ⟨S16384x1024, .f32⟩
  | .hbm, ⟨45, _⟩ => ⟨S_, .f32⟩
  | .hbm, ⟨46, _⟩ => ⟨S1024, .f32⟩
  | .hbm, ⟨47, _⟩ => ⟨S1x1024, .f32⟩
  | .hbm, ⟨48, _⟩ => ⟨S16384x1024, .f32⟩
  | .hbm, ⟨49, _⟩ => ⟨S16384x1024, .f32⟩
  | .hbm, ⟨50, _⟩ => ⟨S16384x1024, .f32⟩
  | .hbm, ⟨51, _⟩ => ⟨S_, .f32⟩
  | .hbm, ⟨52, _⟩ => ⟨S16384, .f32⟩
  | .hbm, ⟨53, _⟩ => ⟨S16384x1, .f32⟩
  | .hbm, ⟨54, _⟩ => ⟨S16384x1024, .f32⟩
  | .hbm, ⟨55, _⟩ => ⟨S16384x1024, .f32⟩
  | .hbm, ⟨56, _⟩ => ⟨S16384x1, .f32⟩
  | .hbm, ⟨57, _⟩ => ⟨S_, .f32⟩
  | .hbm, ⟨58, _⟩ => ⟨S16384x1, .f32⟩
  | .hbm, ⟨59, _⟩ => ⟨S16384x1, .f32⟩
  | .hbm, ⟨60, _⟩ => ⟨S_, .f32⟩
  | .hbm, ⟨61, _⟩ => ⟨S16384, .f32⟩
  | .hbm, ⟨62, _⟩ => ⟨S16384x1024, .f32⟩
  | .hbm, ⟨63, _⟩ => ⟨S16384x1024, .f32⟩
  | .hbm, ⟨64, _⟩ => ⟨S16384x1024, .f32⟩
  | .hbm, ⟨65, _⟩ => ⟨S16384x1024, .f32⟩
  | .hbm, ⟨66, _⟩ => ⟨S16384x1024, .f32⟩
  | .hbm, ⟨67, _⟩ => ⟨S16384x1024, .f32⟩
  | .hbm, ⟨68, _⟩ => ⟨S16384x4096, .bf16⟩
  | .hbm, ⟨69, _⟩ => ⟨S16384x1024, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_call0_cst : Ref sig .tc := ⟨.hbm, 25, rfl⟩
abbrev main_call0_v0 : Ref sig .tc := ⟨.hbm, 26, rfl⟩
abbrev main_v16 : Ref sig .tc := ⟨.hbm, 27, rfl⟩
abbrev main_cst_3 : Ref sig .tc := ⟨.hbm, 28, rfl⟩
abbrev main_v17 : Ref sig .tc := ⟨.hbm, 29, rfl⟩
abbrev main_v18 : Ref sig .tc := ⟨.hbm, 30, rfl⟩
abbrev main_cst_4 : Ref sig .tc := ⟨.hbm, 31, rfl⟩
abbrev main_v19 : Ref sig .tc := ⟨.hbm, 32, rfl⟩
abbrev main_v20 : Ref sig .tc := ⟨.hbm, 33, rfl⟩
abbrev main_cst_5 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_cst_6 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_cst_7 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_cst_8 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_cst_9 : Ref sig .tc := ⟨.hbm, 57, rfl⟩
abbrev main_v40 : Ref sig .tc := ⟨.hbm, 58, rfl⟩
abbrev main_v41 : Ref sig .tc := ⟨.hbm, 59, rfl⟩
abbrev main_cst_10 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩

abbrev nD : Nat := 1
abbrev τ : Topo := Topo.v7x

variable {F : FTy → Type} [FloatOps F]
-- ==== KernelLoss.lean ====
abbrev S16384x1024 : Shape := ⟨2, ![16384, 1024]⟩
abbrev S1024x4096 : Shape := ⟨2, ![1024, 4096]⟩
abbrev S4096x1024 : Shape := ⟨2, ![4096, 1024]⟩
abbrev S1x1024 : Shape := ⟨2, ![1, 1024]⟩
abbrev S1024x4x1024 : Shape := ⟨3, ![1024, 4, 1024]⟩
abbrev S4x1024x1024 : Shape := ⟨3, ![4, 1024, 1024]⟩
abbrev S16384x4096 : Shape := ⟨2, ![16384, 4096]⟩
abbrev S512x1024 : Shape := ⟨2, ![512, 1024]⟩
abbrev S512x4096 : Shape := ⟨2, ![512, 4096]⟩
abbrev S1x1024x1024 : Shape := ⟨3, ![1, 1024, 1024]⟩
abbrev S1024x1024 : Shape := ⟨2, ![1024, 1024]⟩
abbrev S128x1024 : Shape := ⟨2, ![128, 1024]⟩
abbrev S128 : Shape := ⟨1, ![128]⟩
abbrev S128x1 : Shape := ⟨2, ![128, 1]⟩
abbrev S1024 : Shape := ⟨1, ![1024]⟩

abbrev nBuf : Space → Nat
  | .hbm => 17
  | .vmem => 17
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S16384x1024, .f32⟩
  | .hbm, ⟨3, _⟩ => ⟨S1024x4096, .f32⟩
  | .hbm, ⟨4, _⟩ => ⟨S4096x1024, .f32⟩
  | .hbm, ⟨5, _⟩ => ⟨S1x1024, .f32⟩
  | .hbm, ⟨6, _⟩ => ⟨S1024x4x1024, .f32⟩
  | .hbm, ⟨7, _⟩ => ⟨S4x1024x1024, .f32⟩
  | .hbm, ⟨8, _⟩ => ⟨S4x1024x1024, .bf16⟩
  | .hbm, ⟨9, _⟩ => ⟨S4x1024x1024, .f32⟩
  | .hbm, ⟨10, _⟩ => ⟨S4x1024x1024, .bf16⟩
  | .hbm, ⟨11, _⟩ => ⟨S16384x1024, .bf16⟩
  | .hbm, ⟨12, _⟩ => ⟨S16384x4096, .bf16⟩
  | .hbm, ⟨13, _⟩ => ⟨S16384x1024, .f32⟩
  | .hbm, ⟨14, _⟩ => ⟨S16384x1024, .bf16⟩
  | .hbm, ⟨15, _⟩ => ⟨S1x1024, .f32⟩
  | .hbm, ⟨16, _⟩ => ⟨S1x1024, .f32⟩
  | .local _ .vmem, ⟨0, _⟩ => ⟨S512x1024, .bf16⟩
  | .local _ .vmem, ⟨1, _⟩ => ⟨S512x1024, .bf16⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S4x1024x1024, .bf16⟩
  | .local _ .vmem, ⟨7, _⟩ => ⟨S4x1024x1024, .bf16⟩
  | .local _ .vmem, ⟨8, _⟩ => ⟨S1x1024, .f32⟩
  | .local _ .vmem, ⟨9, _⟩ => ⟨S512x4096, .bf16⟩
  | .local _ .vmem, ⟨10, _⟩ => ⟨S512x4096, .bf16⟩
  | .local _ .vmem, ⟨11, _⟩ => ⟨S512x1024, .f32⟩
  | .local _ .vmem, ⟨12, _⟩ => ⟨S512x1024, .f32⟩
  | .local _ .vmem, ⟨13, _⟩ => ⟨S512x1024, .bf16⟩
  | .local _ .vmem, ⟨14, _⟩ => ⟨S512x1024, .bf16⟩
  | .local _ .vmem, ⟨15, _⟩ => ⟨S1x1024, .f32⟩
  | .local _ .vmem, ⟨16, _⟩ => ⟨S1x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6_0 : Ref sig .tc := ⟨.hbm, 12, rfl⟩
abbrev main_v6_1 : Ref sig .tc := ⟨.hbm, 13, rfl⟩
abbrev main_v6_2 : Ref sig .tc := ⟨.hbm, 14, rfl⟩
abbrev main_v6_3 : Ref sig .tc := ⟨.hbm, 15, rfl⟩
abbrev main_v6_4 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg10_0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem10_0 : DmaSem sig := 16

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S4x1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4x1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x4096 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== ReferenceLossIdeal.lean ====
abbrev S16384x1024 : Shape := ⟨2, ![16384, 1024]⟩
abbrev S1024x4096 : Shape := ⟨2, ![1024, 4096]⟩
abbrev S4096x1024 : Shape := ⟨2, ![4096, 1024]⟩
abbrev S1x1024 : Shape := ⟨2, ![1, 1024]⟩
abbrev S16384x4096 : Shape := ⟨2, ![16384, 4096]⟩
abbrev S_ : Shape := ⟨0, ![]⟩
abbrev S16384 : Shape := ⟨1, ![16384]⟩
abbrev S16384x1 : Shape := ⟨2, ![16384, 1]⟩
abbrev S1024 : Shape := ⟨1, ![1024]⟩

abbrev nBuf : Space → Nat
  | .hbm => 104
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S16384x1024, .f32⟩
  | .hbm, ⟨3, _⟩ => ⟨S1024x4096, .f32⟩
  | .hbm, ⟨4, _⟩ => ⟨S4096x1024, .f32⟩
  | .hbm, ⟨5, _⟩ => ⟨S1x1024, .f32⟩
  | .hbm, ⟨6, _⟩ => ⟨S16384x4096, .f32⟩
  | .hbm, ⟨7, _⟩ => ⟨S_, .f32⟩
  | .hbm, ⟨8, _⟩ => ⟨S16384x4096, .f32⟩
  | .hbm, ⟨9, _⟩ => ⟨S16384x4096, .f32⟩
  | .hbm, ⟨10, _⟩ => ⟨S16384x4096, .f32⟩
  | .hbm, ⟨11, _⟩ => ⟨S16384x1024, .f32⟩
  | .hbm, ⟨12, _⟩ => ⟨S16384x1024, .f32⟩
  | .hbm, ⟨13, _⟩ => ⟨S16384x1024, .f32⟩
  | .hbm, ⟨14, _⟩ => ⟨S_, .f32⟩
  | .hbm, ⟨15, _⟩ => ⟨S16384, .f32⟩
  | .hbm, ⟨16, _⟩ => ⟨S16384x1, .f32⟩
  | .hbm, ⟨17, _⟩ => ⟨S_, .f32⟩
  | .hbm, ⟨18, _⟩ => ⟨S16384x1, .f32⟩
  | .hbm, ⟨19, _⟩ => ⟨S16384x1, .f32⟩
  | .hbm, ⟨20, _⟩ => ⟨S_, .f32⟩
  | .hbm, ⟨21, _⟩ => ⟨S16384x1, .f32⟩
  | .hbm, ⟨22, _⟩ => ⟨S16384x1, .f32⟩
  | .hbm, ⟨23, _⟩ => ⟨S16384x1, .f32⟩
  | .hbm, ⟨24, _⟩ => ⟨S16384x1, .f32⟩
  | .hbm, ⟨25, _⟩ => ⟨S_, .f32⟩
  | .hbm, ⟨26, _⟩ => ⟨S16384x1, .f32⟩
  | .hbm, ⟨27, _⟩ => ⟨S16384x1, .f32⟩
  | .hbm, ⟨28, _⟩ => ⟨S16384x1024, .f32⟩
  | .hbm, ⟨29, _⟩ => ⟨S16384x1024, .f32⟩
  | .hbm, ⟨30, _⟩ => ⟨S16384x1024, .f32⟩
  | .hbm, ⟨31, _⟩ => ⟨S16384x1024, .f32⟩
  | .hbm, ⟨32, _⟩ => ⟨S16384x1024, .f32⟩
  | .hbm, ⟨33, _⟩ => ⟨S16384x1024, .f32⟩
  | .hbm, ⟨34, _⟩ => ⟨S_, .f32⟩
  | .hbm, ⟨35, _⟩ => ⟨S16384x1024, .f32⟩
  | .hbm, ⟨36, _⟩ => ⟨S16384x1024, .f32⟩
  | .hbm, ⟨37, _⟩ => ⟨S_, .f32⟩
  | .hbm, ⟨38, _⟩ => ⟨S16384, .f32⟩
  | .hbm, ⟨39, _⟩ => ⟨S_, .f32⟩
  | .hbm, ⟨40, _⟩ => ⟨S16384, .f32⟩
  | .hbm, ⟨41, _⟩ => ⟨S16384, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S_, .f32⟩
  | .hbm, ⟨47, _⟩ => ⟨S_, .f32⟩
  | .hbm, ⟨48, _⟩ => ⟨S_, .f32⟩
  | .hbm, ⟨49, _⟩ => ⟨S16384, .f32⟩
  | .hbm, ⟨50, _⟩ => ⟨S_, .f32⟩
  | .hbm, ⟨51, _⟩ => ⟨S16384, .f32⟩
  | .hbm, ⟨52, _⟩ => ⟨S16384, .f32⟩
  | .hbm, ⟨53, _⟩ => ⟨S16384x1024, .f32⟩
  | .hbm, ⟨54, _⟩ => ⟨S16384x1024, .f32⟩
  | .hbm, ⟨55, _⟩ => ⟨S16384x1024, .f32⟩
  | .hbm, ⟨56, _⟩ => ⟨S_, .f32⟩
  | .hbm, ⟨57, _⟩ => ⟨S1024, .f32⟩
  | .hbm, ⟨58, _⟩ => ⟨S1x1024, .f32⟩
  | .hbm, ⟨59, _⟩ => ⟨S16384x1024, .f32⟩
  | .hbm, ⟨60, _⟩ => ⟨S16384x1024, .f32⟩
  | .hbm, ⟨61, _⟩ => ⟨S16384x1024, .f32⟩
  | .hbm, ⟨62, _⟩ => ⟨S_, .f32⟩
  | .hbm, ⟨63, _⟩ => ⟨S16384, .f32⟩
  | .hbm, ⟨64, _⟩ => ⟨S16384x1, .f32⟩
  | .hbm, ⟨65, _⟩ => ⟨S16384x1024, .f32⟩
  | .hbm, ⟨66, _⟩ => ⟨S16384x1024, .f32⟩
  | .hbm, ⟨67, _⟩ => ⟨S16384x1, .f32⟩
  | .hbm, ⟨68, _⟩ => ⟨S_, .f32⟩
  | .hbm, ⟨69, _⟩ => ⟨S16384x1, .f32⟩
  | .hbm, ⟨70, _⟩ => ⟨S16384x1, .f32⟩
  | .hbm, ⟨71, _⟩ => ⟨S_, .f32⟩
  | .hbm, ⟨72, _⟩ => ⟨S16384, .f32⟩
  | .hbm, ⟨73, _⟩ => ⟨S16384x1024, .f32⟩
  | .hbm, ⟨74, _⟩ => ⟨S16384x1024, .f32⟩
  | .hbm, ⟨75, _⟩ => ⟨S16384x1024, .f32⟩
  | .hbm, ⟨76, _⟩ => ⟨S16384x1024, .f32⟩
  | .hbm, ⟨77, _⟩ => ⟨S16384x1024, .f32⟩
  | .hbm, ⟨78, _⟩ => ⟨S16384x1024, .f32⟩
  | .hbm, ⟨79, _⟩ => ⟨S_, .f32⟩
  | .hbm, ⟨80, _⟩ => ⟨S16384, .f32⟩
  | .hbm, ⟨81, _⟩ => ⟨S16384x1, .f32⟩
  | .hbm, ⟨82, _⟩ => ⟨S_, .f32⟩
  | .hbm, ⟨83, _⟩ => ⟨S16384x1, .f32⟩
  | .hbm, ⟨84, _⟩ => ⟨S16384x1, .f32⟩
  | .hbm, ⟨85, _⟩ => ⟨S_, .f32⟩
  | .hbm, ⟨86, _⟩ => ⟨S16384x1, .f32⟩
  | .hbm, ⟨87, _⟩ => ⟨S16384x1, .f32⟩
  | .hbm, ⟨88, _⟩ => ⟨S16384x1, .f32⟩
  | .hbm, ⟨89, _⟩ => ⟨S16384x1024, .f32⟩
  | .hbm, ⟨90, _⟩ => ⟨S16384x1024, .f32⟩
  | .hbm, ⟨91, _⟩ => ⟨S16384x1024, .f32⟩
  | .hbm, ⟨92, _⟩ => ⟨S16384x1024, .f32⟩
  | .hbm, ⟨93, _⟩ => ⟨S16384x1024, .f32⟩
  | .hbm, ⟨94, _⟩ => ⟨S16384x1024, .f32⟩
  | .hbm, ⟨95, _⟩ => ⟨S_, .f32⟩
  | .hbm, ⟨96, _⟩ => ⟨S1024, .f32⟩
  | .hbm, ⟨97, _⟩ => ⟨S1x1024, .f32⟩
  | .hbm, ⟨98, _⟩ => ⟨S_, .f32⟩
  | .hbm, ⟨99, _⟩ => ⟨S16384x4096, .f32⟩
  | .hbm, ⟨100, _⟩ => ⟨S16384x4096, .f32⟩
  | .hbm, ⟨101, _⟩ => ⟨S16384x4096, .f32⟩
  | .hbm, ⟨102, _⟩ => ⟨S16384x4096, .bf16⟩
  | .hbm, ⟨103, _⟩ => ⟨S16384x1024, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_call0_cst : Ref sig .tc := ⟨.hbm, 7, rfl⟩
abbrev main_call0_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_cst : Ref sig .tc := ⟨.hbm, 14, rfl⟩
abbrev main_v6 : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_cst_1 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_3 : Ref sig .tc := ⟨.hbm, 34, rfl⟩
abbrev main_v22 : Ref sig .tc := ⟨.hbm, 35, rfl⟩
abbrev main_v23 : Ref sig .tc := ⟨.hbm, 36, rfl⟩
abbrev main_cst_4 : Ref sig .tc := ⟨.hbm, 37, rfl⟩
abbrev main_v24 : Ref sig .tc := ⟨.hbm, 38, rfl⟩
abbrev main_cst_5 : Ref sig .tc := ⟨.hbm, 39, rfl⟩
abbrev main_v25 : Ref sig .tc := ⟨.hbm, 40, rfl⟩
abbrev main_v26 : Ref sig .tc := ⟨.hbm, 41, rfl⟩
abbrev main_cst_6 : Ref sig .tc := ⟨.hbm, 42, rfl⟩
abbrev main_v27 : Ref sig .tc := ⟨.hbm, 43, rfl⟩
abbrev main_cst_7 : Ref sig .tc := ⟨.hbm, 44, rfl⟩
abbrev main_v28 : Ref sig .tc := ⟨.hbm, 45, rfl⟩
abbrev main_cst_8 : Ref sig .tc := ⟨.hbm, 46, rfl⟩
abbrev main_cst_9 : Ref sig .tc := ⟨.hbm, 47, rfl⟩
abbrev main_v29 : Ref sig .tc := ⟨.hbm, 48, rfl⟩
abbrev main_v30 : Ref sig .tc := ⟨.hbm, 49, rfl⟩
abbrev main_cst_10 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_cst_11 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_cst_12 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_cst_13 : Ref sig .tc := ⟨.hbm, 68, rfl⟩
abbrev main_v46 : Ref sig .tc := ⟨.hbm, 69, rfl⟩
abbrev main_v47 : Ref sig .tc := ⟨.hbm, 70, rfl⟩
abbrev main_cst_14 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_cst_15 : Ref sig .tc := ⟨.hbm, 79, rfl⟩
abbrev main_v55 : Ref sig .tc := ⟨.hbm, 80, rfl⟩
abbrev main_v56 : Ref sig .tc := ⟨.hbm, 81, rfl⟩
abbrev main_cst_16 : Ref sig .tc := ⟨.hbm, 82, rfl⟩
abbrev main_v57 : Ref sig .tc := ⟨.hbm, 83, rfl⟩
abbrev main_v58 : Ref sig .tc := ⟨.hbm, 84, rfl⟩
abbrev main_cst_17 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_cst_18 : Ref sig .tc := ⟨.hbm, 95, rfl⟩
abbrev main_v68 : Ref sig .tc := ⟨.hbm, 96, rfl⟩
abbrev main_v69 : Ref sig .tc := ⟨.hbm, 97, rfl⟩
abbrev main_call1_cst : Ref sig .tc := ⟨.hbm, 98, rfl⟩
abbrev main_call1_v0 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩

abbrev nD : Nat := 1
abbrev τ : Topo := Topo.v7x

variable {F : FTy → Type} [FloatOps F]
-- ==== KernelWgradIn.lean ====
abbrev S16384x1024 : Shape := ⟨2, ![16384, 1024]⟩
abbrev S16384x4096 : Shape := ⟨2, ![16384, 4096]⟩
abbrev S4x1024x1024 : Shape := ⟨3, ![4, 1024, 1024]⟩
abbrev S4096x1024 : Shape := ⟨2, ![4096, 1024]⟩
abbrev S1x1024x1024 : Shape := ⟨3, ![1, 1024, 1024]⟩
abbrev S1024x1024 : Shape := ⟨2, ![1024, 1024]⟩

abbrev nBuf : Space → Nat
  | .hbm => 6
  | .vmem => 8
  | .smem => 0
  | _ => 0

abbrev bufTy : (tb : Table) → Fin (tcTables nBuf tb) → BufTy
  | .hbm, ⟨0, _⟩ => ⟨S16384x1024, .f32⟩
  | .hbm, ⟨1, _⟩ => ⟨S16384x4096, .f32⟩
  | .hbm, ⟨2, _⟩ => ⟨S16384x1024, .bf16⟩
  | .hbm, ⟨3, _⟩ => ⟨S16384x4096, .bf16⟩
  | .hbm, ⟨4, _⟩ => ⟨S4x1024x1024, .f32⟩
  | .hbm, ⟨5, _⟩ => ⟨S4x1024x1024, .bf16⟩
  | .local _ .vmem, ⟨0, _⟩ => ⟨S4096x1024, .bf16⟩
  | .local _ .vmem, ⟨1, _⟩ => ⟨S4096x1024, .bf16⟩
  | .local _ .vmem, ⟨2, _⟩ => ⟨S4096x1024, .bf16⟩
  | .local _ .vmem, ⟨3, _⟩ => ⟨S4096x1024, .bf16⟩
  | .local _ .vmem, ⟨4, _⟩ => ⟨S1x1024x1024, .f32⟩
  | .local _ .vmem, ⟨5, _⟩ => ⟨S1x1024x1024, .f32⟩
  | .local _ .vmem, ⟨6, _⟩ => ⟨S1x1024x1024, .bf16⟩
  | .local _ .vmem, ⟨7, _⟩ => ⟨S1x1024x1024, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2_0 : Ref sig .tc := ⟨.hbm, 4, rfl⟩
abbrev main_v2_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 4], ![false, false]⟩

def k0_cond2 (i : grid0.Coords) : BitVec 1 :=
  let arg1 : BitVec 32 := BitVec.ofNat 32 (i 1).val
  let c3_i32 : BitVec 32 := 3#32
  let v14 : BitVec 1 := Scalar.cmpi .eq arg1 c3_i32
  let v15 : BitVec 32 := Scalar.extui v14
  let c0_i32_10 : BitVec 32 := 0#32
  let v16 : BitVec 1 := Scalar.cmpi .ne v15 c0_i32_10
  v16

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]
-- ==== ReferenceWgradInIdeal.lean ====
abbrev S16384x1024 : Shape := ⟨2, ![16384, 1024]⟩
abbrev S16384x4096 : Shape := ⟨2, ![16384, 4096]⟩
abbrev S_ : Shape := ⟨0, ![]⟩
abbrev S1024x4096 : Shape := ⟨2, ![1024, 4096]⟩
abbrev S4096x1024 : Shape := ⟨2, ![4096, 1024]⟩
abbrev S1024x4x1024 : Shape := ⟨3, ![1024, 4, 1024]⟩
abbrev S4x1024x1024 : Shape := ⟨3, ![4, 1024, 1024]⟩

abbrev nBuf : Space → Nat
  | .hbm => 10
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x4096, .f32⟩
  | .hbm, ⟨2, _⟩ => ⟨S_, .f32⟩
  | .hbm, ⟨3, _⟩ => ⟨S1024x4096, .f32⟩
  | .hbm, ⟨4, _⟩ => ⟨S16384x4096, .f32⟩
  | .hbm, ⟨5, _⟩ => ⟨S4096x1024, .f32⟩
  | .hbm, ⟨6, _⟩ => ⟨S1024x4096, .f32⟩
  | .hbm, ⟨7, _⟩ => ⟨S1024x4x1024, .f32⟩
  | .hbm, ⟨8, _⟩ => ⟨S4x1024x1024, .f32⟩
  | .hbm, ⟨9, _⟩ => ⟨S4x1024x1024, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== KernelWgradOut.lean ====
abbrev S16384x4096 : Shape := ⟨2, ![16384, 4096]⟩
abbrev S16384x1024 : Shape := ⟨2, ![16384, 1024]⟩
abbrev S_ : Shape := ⟨0, ![]⟩
abbrev S4x1024x1024 : Shape := ⟨3, ![4, 1024, 1024]⟩
abbrev S4096x1024 : Shape := ⟨2, ![4096, 1024]⟩
abbrev S1x1024x1024 : Shape := ⟨3, ![1, 1024, 1024]⟩
abbrev S1024x1024 : Shape := ⟨2, ![1024, 1024]⟩

abbrev nBuf : Space → Nat
  | .hbm => 10
  | .vmem => 8
  | .smem => 0
  | _ => 0

abbrev bufTy : (tb : Table) → Fin (tcTables nBuf tb) → BufTy
  | .hbm, ⟨0, _⟩ => ⟨S16384x4096, .f32⟩
  | .hbm, ⟨1, _⟩ => ⟨S16384x1024, .f32⟩
  | .hbm, ⟨2, _⟩ => ⟨S_, .f32⟩
  | .hbm, ⟨3, _⟩ => ⟨S16384x4096, .f32⟩
  | .hbm, ⟨4, _⟩ => ⟨S16384x4096, .f32⟩
  | .hbm, ⟨5, _⟩ => ⟨S16384x4096, .f32⟩
  | .hbm, ⟨6, _⟩ => ⟨S16384x4096, .bf16⟩
  | .hbm, ⟨7, _⟩ => ⟨S16384x1024, .bf16⟩
  | .hbm, ⟨8, _⟩ => ⟨S4x1024x1024, .f32⟩
  | .hbm, ⟨9, _⟩ => ⟨S4x1024x1024, .bf16⟩
  | .local _ .vmem, ⟨0, _⟩ => ⟨S4096x1024, .bf16⟩
  | .local _ .vmem, ⟨1, _⟩ => ⟨S4096x1024, .bf16⟩
  | .local _ .vmem, ⟨2, _⟩ => ⟨S4096x1024, .bf16⟩
  | .local _ .vmem, ⟨3, _⟩ => ⟨S4096x1024, .bf16⟩
  | .local _ .vmem, ⟨4, _⟩ => ⟨S1x1024x1024, .f32⟩
  | .local _ .vmem, ⟨5, _⟩ => ⟨S1x1024x1024, .f32⟩
  | .local _ .vmem, ⟨6, _⟩ => ⟨S1x1024x1024, .bf16⟩
  | .local _ .vmem, ⟨7, _⟩ => ⟨S1x1024x1024, .bf16⟩
  | _, _ => ⟨S16384x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_cst : Ref sig .tc := ⟨.hbm, 2, rfl⟩
abbrev main_call0_v0 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 4], ![false, false]⟩

def k0_cond2 (i : grid0.Coords) : BitVec 1 :=
  let arg1 : BitVec 32 := BitVec.ofNat 32 (i 1).val
  let c3_i32 : BitVec 32 := 3#32
  let v14 : BitVec 1 := Scalar.cmpi .eq arg1 c3_i32
  let v15 : BitVec 32 := Scalar.extui v14
  let c0_i32_10 : BitVec 32 := 0#32
  let v16 : BitVec 1 := Scalar.cmpi .ne v15 c0_i32_10
  v16

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]
-- ==== ReferenceWgradOutIdeal.lean ====
abbrev S16384x4096 : Shape := ⟨2, ![16384, 4096]⟩
abbrev S16384x1024 : Shape := ⟨2, ![16384, 1024]⟩
abbrev S_ : Shape := ⟨0, ![]⟩
abbrev S4096x1024 : Shape := ⟨2, ![4096, 1024]⟩
abbrev S1024x4096 : Shape := ⟨2, ![1024, 4096]⟩
abbrev S4x1024x1024 : Shape := ⟨3, ![4, 1024, 1024]⟩

abbrev nBuf : Space → Nat
  | .hbm => 13
  | .vmem => 0
  | .smem => 0
  | _ => 0

abbrev bufTy : (tb : Table) → Fin (tcTables nBuf tb) → BufTy
  | .hbm, ⟨0, _⟩ => ⟨S16384x4096, .f32⟩
  | .hbm, ⟨1, _⟩ => ⟨S16384x1024, .f32⟩
  | .hbm, ⟨2, _⟩ => ⟨S_, .f32⟩
  | .hbm, ⟨3, _⟩ => ⟨S4096x1024, .f32⟩
  | .hbm, ⟨4, _⟩ => ⟨S_, .f32⟩
  | .hbm, ⟨5, _⟩ => ⟨S16384x4096, .f32⟩
  | .hbm, ⟨6, _⟩ => ⟨S16384x4096, .f32⟩
  | .hbm, ⟨7, _⟩ => ⟨S16384x4096, .f32⟩
  | .hbm, ⟨8, _⟩ => ⟨S16384x1024, .f32⟩
  | .hbm, ⟨9, _⟩ => ⟨S1024x4096, .f32⟩
  | .hbm, ⟨10, _⟩ => ⟨S4096x1024, .f32⟩
  | .hbm, ⟨11, _⟩ => ⟨S4x1024x1024, .f32⟩
  | .hbm, ⟨12, _⟩ => ⟨S4x1024x1024, .bf16⟩
  | _, _ => ⟨S16384x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_call0_cst : Ref sig .tc := ⟨.hbm, 4, rfl⟩
abbrev main_call0_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩

abbrev nD : Nat := 1
abbrev τ : Topo := Topo.v7x

variable {F : FTy → Type} [FloatOps F]
-- ==== KernelWgradAtt.lean ====
abbrev S16384x256 : Shape := ⟨2, ![16384, 256]⟩
abbrev S16384x1024 : Shape := ⟨2, ![16384, 1024]⟩
abbrev S4x256x256 : Shape := ⟨3, ![4, 256, 256]⟩
abbrev S4096x256 : Shape := ⟨2, ![4096, 256]⟩
abbrev S4096x1024 : Shape := ⟨2, ![4096, 1024]⟩
abbrev S1x256x256 : Shape := ⟨3, ![1, 256, 256]⟩
abbrev S256x256 : Shape := ⟨2, ![256, 256]⟩

abbrev nBuf : Space → Nat
  | .hbm => 6
  | .vmem => 6
  | .smem => 0
  | _ => 0

abbrev bufTy : (tb : Table) → Fin (tcTables nBuf tb) → BufTy
  | .hbm, ⟨0, _⟩ => ⟨S16384x256, .f32⟩
  | .hbm, ⟨1, _⟩ => ⟨S16384x1024, .f32⟩
  | .hbm, ⟨2, _⟩ => ⟨S16384x256, .bf16⟩
  | .hbm, ⟨3, _⟩ => ⟨S16384x1024, .bf16⟩
  | .hbm, ⟨4, _⟩ => ⟨S4x256x256, .f32⟩
  | .hbm, ⟨5, _⟩ => ⟨S4x256x256, .bf16⟩
  | .local _ .vmem, ⟨0, _⟩ => ⟨S4096x256, .bf16⟩
  | .local _ .vmem, ⟨1, _⟩ => ⟨S4096x256, .bf16⟩
  | .local _ .vmem, ⟨2, _⟩ => ⟨S4096x1024, .bf16⟩
  | .local _ .vmem, ⟨3, _⟩ => ⟨S4096x1024, .bf16⟩
  | .local _ .vmem, ⟨4, _⟩ => ⟨S4x256x256, .f32⟩
  | .local _ .vmem, ⟨5, _⟩ => ⟨S4x256x256, .bf16⟩
  | _, _ => ⟨S16384x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2_0 : Ref sig .tc := ⟨.hbm, 4, rfl⟩
abbrev main_v2_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5

abbrev nD : Nat := 1
abbrev τ : Topo := Topo.v7x

variable {F : FTy → Type} [FloatOps F]

abbrev grid0 : Pipeline.Grid := ⟨1, ![4], ![false]⟩

def k0_cond2 (i : grid0.Coords) : BitVec 1 :=
  let arg0 : BitVec 32 := BitVec.ofNat 32 (i 0).val
  let c3_i32 : BitVec 32 := 3#32
  let v41 : BitVec 1 := Scalar.cmpi .eq arg0 c3_i32
  let v42 : BitVec 32 := Scalar.extui v41
  let c0_i32_31 : BitVec 32 := 0#32
  let v43 : BitVec 1 := Scalar.cmpi .ne v42 c0_i32_31
  v43

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 2 → Memref sig .tc .vmem S4096x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S4x256x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4x256x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]
-- ==== ReferenceWgradAttIdeal.lean ====
abbrev S16384x256 : Shape := ⟨2, ![16384, 256]⟩
abbrev S16384x1024 : Shape := ⟨2, ![16384, 1024]⟩
abbrev S_ : Shape := ⟨0, ![]⟩
abbrev S256x1024 : Shape := ⟨2, ![256, 1024]⟩
abbrev S1024x256 : Shape := ⟨2, ![1024, 256]⟩
abbrev S256x4x256 : Shape := ⟨3, ![256, 4, 256]⟩
abbrev S4x256x256 : Shape := ⟨3, ![4, 256, 256]⟩

abbrev nBuf : Space → Nat
  | .hbm => 10
  | .vmem => 0
  | .smem => 0
  | _ => 0

abbrev bufTy : (tb : Table) → Fin (tcTables nBuf tb) → BufTy
  | .hbm, ⟨0, _⟩ => ⟨S16384x256, .f32⟩
  | .hbm, ⟨1, _⟩ => ⟨S16384x1024, .f32⟩
  | .hbm, ⟨2, _⟩ => ⟨S_, .f32⟩
  | .hbm, ⟨3, _⟩ => ⟨S256x1024, .f32⟩
  | .hbm, ⟨4, _⟩ => ⟨S16384x1024, .f32⟩
  | .hbm, ⟨5, _⟩ => ⟨S1024x256, .f32⟩
  | .hbm, ⟨6, _⟩ => ⟨S256x1024, .f32⟩
  | .hbm, ⟨7, _⟩ => ⟨S256x4x256, .f32⟩
  | .hbm, ⟨8, _⟩ => ⟨S4x256x256, .f32⟩
  | .hbm, ⟨9, _⟩ => ⟨S4x256x256, .bf16⟩
  | _, _ => ⟨S16384x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== KernelWgradPool.lean ====
abbrev S16384x768 : Shape := ⟨2, ![16384, 768]⟩
abbrev S16384x1024 : Shape := ⟨2, ![16384, 1024]⟩
abbrev S4x768x256 : Shape := ⟨3, ![4, 768, 256]⟩
abbrev S4096x768 : Shape := ⟨2, ![4096, 768]⟩
abbrev S4096x1024 : Shape := ⟨2, ![4096, 1024]⟩
abbrev S1x768x256 : Shape := ⟨3, ![1, 768, 256]⟩
abbrev S768x256 : Shape := ⟨2, ![768, 256]⟩
abbrev S4096x256 : Shape := ⟨2, ![4096, 256]⟩

abbrev nBuf : Space → Nat
  | .hbm => 6
  | .vmem => 6
  | .smem => 0
  | _ => 0

abbrev bufTy : (tb : Table) → Fin (tcTables nBuf tb) → BufTy
  | .hbm, ⟨0, _⟩ => ⟨S16384x768, .f32⟩
  | .hbm, ⟨1, _⟩ => ⟨S16384x1024, .f32⟩
  | .hbm, ⟨2, _⟩ => ⟨S16384x768, .bf16⟩
  | .hbm, ⟨3, _⟩ => ⟨S16384x1024, .bf16⟩
  | .hbm, ⟨4, _⟩ => ⟨S4x768x256, .f32⟩
  | .hbm, ⟨5, _⟩ => ⟨S4x768x256, .bf16⟩
  | .local _ .vmem, ⟨0, _⟩ => ⟨S4096x768, .bf16⟩
  | .local _ .vmem, ⟨1, _⟩ => ⟨S4096x768, .bf16⟩
  | .local _ .vmem, ⟨2, _⟩ => ⟨S4096x1024, .bf16⟩
  | .local _ .vmem, ⟨3, _⟩ => ⟨S4096x1024, .bf16⟩
  | .local _ .vmem, ⟨4, _⟩ => ⟨S4x768x256, .f32⟩
  | .local _ .vmem, ⟨5, _⟩ => ⟨S4x768x256, .bf16⟩
  | _, _ => ⟨S16384x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2_0 : Ref sig .tc := ⟨.hbm, 4, rfl⟩
abbrev main_v2_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5

abbrev nD : Nat := 1
abbrev τ : Topo := Topo.v7x

variable {F : FTy → Type} [FloatOps F]

abbrev grid0 : Pipeline.Grid := ⟨1, ![4], ![false]⟩

def k0_cond2 (i : grid0.Coords) : BitVec 1 :=
  let arg0 : BitVec 32 := BitVec.ofNat 32 (i 0).val
  let c3_i32 : BitVec 32 := 3#32
  let v41 : BitVec 1 := Scalar.cmpi .eq arg0 c3_i32
  let v42 : BitVec 32 := Scalar.extui v41
  let c0_i32_31 : BitVec 32 := 0#32
  let v43 : BitVec 1 := Scalar.cmpi .ne v42 c0_i32_31
  v43

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 2 → Memref sig .tc .vmem S4096x768 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S4x768x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4x768x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]
-- ==== ReferenceWgradPoolIdeal.lean ====
abbrev S16384x768 : Shape := ⟨2, ![16384, 768]⟩
abbrev S16384x1024 : Shape := ⟨2, ![16384, 1024]⟩
abbrev S_ : Shape := ⟨0, ![]⟩
abbrev S768x1024 : Shape := ⟨2, ![768, 1024]⟩
abbrev S1024x768 : Shape := ⟨2, ![1024, 768]⟩
abbrev S768x4x256 : Shape := ⟨3, ![768, 4, 256]⟩
abbrev S4x768x256 : Shape := ⟨3, ![4, 768, 256]⟩

abbrev nBuf : Space → Nat
  | .hbm => 10
  | .vmem => 0
  | .smem => 0
  | _ => 0

abbrev bufTy : (tb : Table) → Fin (tcTables nBuf tb) → BufTy
  | .hbm, ⟨0, _⟩ => ⟨S16384x768, .f32⟩
  | .hbm, ⟨1, _⟩ => ⟨S16384x1024, .f32⟩
  | .hbm, ⟨2, _⟩ => ⟨S_, .f32⟩
  | .hbm, ⟨3, _⟩ => ⟨S768x1024, .f32⟩
  | .hbm, ⟨4, _⟩ => ⟨S16384x1024, .f32⟩
  | .hbm, ⟨5, _⟩ => ⟨S1024x768, .f32⟩
  | .hbm, ⟨6, _⟩ => ⟨S768x1024, .f32⟩
  | .hbm, ⟨7, _⟩ => ⟨S768x4x256, .f32⟩
  | .hbm, ⟨8, _⟩ => ⟨S4x768x256, .f32⟩
  | .hbm, ⟨9, _⟩ => ⟨S4x768x256, .bf16⟩
  | _, _ => ⟨S16384x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== KernelWgradMix.lean ====
abbrev S16384x1024 : Shape := ⟨2, ![16384, 1024]⟩
abbrev S1024x1024 : Shape := ⟨2, ![1024, 1024]⟩
abbrev S4096x1024 : Shape := ⟨2, ![4096, 1024]⟩

abbrev nBuf : Space → Nat
  | .hbm => 6
  | .vmem => 6
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S16384x1024, .bf16⟩
  | .hbm, ⟨3, _⟩ => ⟨S16384x1024, .bf16⟩
  | .hbm, ⟨4, _⟩ => ⟨S1024x1024, .f32⟩
  | .hbm, ⟨5, _⟩ => ⟨S1024x1024, .bf16⟩
  | .local _ .vmem, ⟨0, _⟩ => ⟨S4096x1024, .bf16⟩
  | .local _ .vmem, ⟨1, _⟩ => ⟨S4096x1024, .bf16⟩
  | .local _ .vmem, ⟨2, _⟩ => ⟨S4096x1024, .bf16⟩
  | .local _ .vmem, ⟨3, _⟩ => ⟨S4096x1024, .bf16⟩
  | .local _ .vmem, ⟨4, _⟩ => ⟨S1024x1024, .f32⟩
  | .local _ .vmem, ⟨5, _⟩ => ⟨S1024x1024, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2_0 : Ref sig .tc := ⟨.hbm, 4, rfl⟩
abbrev main_v2_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5

abbrev nD : Nat := 1
abbrev τ : Topo := Topo.v7x

variable {F : FTy → Type} [FloatOps F]

abbrev grid0 : Pipeline.Grid := ⟨1, ![4], ![false]⟩

def k0_cond2 (i : grid0.Coords) : BitVec 1 :=
  let arg0 : BitVec 32 := BitVec.ofNat 32 (i 0).val
  let c3_i32 : BitVec 32 := 3#32
  let v12 : BitVec 1 := Scalar.cmpi .eq arg0 c3_i32
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]
-- ==== ReferenceWgradMixIdeal.lean ====
abbrev S16384x1024 : Shape := ⟨2, ![16384, 1024]⟩
abbrev S_ : Shape := ⟨0, ![]⟩
abbrev S1024x1024 : Shape := ⟨2, ![1024, 1024]⟩

abbrev nBuf : Space → Nat
  | .hbm => 8
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S_, .f32⟩
  | .hbm, ⟨3, _⟩ => ⟨S1024x1024, .f32⟩
  | .hbm, ⟨4, _⟩ => ⟨S16384x1024, .f32⟩
  | .hbm, ⟨5, _⟩ => ⟨S1024x1024, .f32⟩
  | .hbm, ⟨6, _⟩ => ⟨S1024x1024, .f32⟩
  | .hbm, ⟨7, _⟩ => ⟨S1024x1024, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== KernelWgradProj.lean ====
abbrev S16384x1024 : Shape := ⟨2, ![16384, 1024]⟩
abbrev S16384x5120 : Shape := ⟨2, ![16384, 5120]⟩
abbrev S16384x20x256 : Shape := ⟨3, ![16384, 20, 256]⟩
abbrev S20x16384x256 : Shape := ⟨3, ![20, 16384, 256]⟩
abbrev S12x16384x256 : Shape := ⟨3, ![12, 16384, 256]⟩
abbrev S8x16384x256 : Shape := ⟨3, ![8, 16384, 256]⟩
abbrev S20x1024x256 : Shape := ⟨3, ![20, 1024, 256]⟩
abbrev S4096x1024 : Shape := ⟨2, ![4096, 1024]⟩
abbrev S4x4096x256 : Shape := ⟨3, ![4, 4096, 256]⟩
abbrev S4x1024x256 : Shape := ⟨3, ![4, 1024, 256]⟩
abbrev S1x1024x256 : Shape := ⟨3, ![1, 1024, 256]⟩
abbrev S1024x256 : Shape := ⟨2, ![1024, 256]⟩
abbrev S1x4096x256 : Shape := ⟨3, ![1, 4096, 256]⟩
abbrev S4096x256 : Shape := ⟨2, ![4096, 256]⟩

abbrev nBuf : Space → Nat
  | .hbm => 12
  | .vmem => 16
  | .smem => 0
  | _ => 0

abbrev bufTy : (tb : Table) → Fin (tcTables nBuf tb) → BufTy
  | .hbm, ⟨0, _⟩ => ⟨S16384x1024, .f32⟩
  | .hbm, ⟨1, _⟩ => ⟨S16384x5120, .f32⟩
  | .hbm, ⟨2, _⟩ => ⟨S16384x20x256, .f32⟩
  | .hbm, ⟨3, _⟩ => ⟨S20x16384x256, .f32⟩
  | .hbm, ⟨4, _⟩ => ⟨S20x16384x256, .bf16⟩
  | .hbm, ⟨5, _⟩ => ⟨S16384x1024, .bf16⟩
  | .hbm, ⟨6, _⟩ => ⟨S12x16384x256, .bf16⟩
  | .hbm, ⟨7, _⟩ => ⟨S8x16384x256, .bf16⟩
  | .hbm, ⟨8, _⟩ => ⟨S20x1024x256, .f32⟩
  | .hbm, ⟨9, _⟩ => ⟨S20x1024x256, .bf16⟩
  | .hbm, ⟨10, _⟩ => ⟨S20x1024x256, .f32⟩
  | .hbm, ⟨11, _⟩ => ⟨S20x1024x256, .bf16⟩
  | .local _ .vmem, ⟨0, _⟩ => ⟨S4096x1024, .bf16⟩
  | .local _ .vmem, ⟨1, _⟩ => ⟨S4096x1024, .bf16⟩
  | .local _ .vmem, ⟨2, _⟩ => ⟨S4x4096x256, .bf16⟩
  | .local _ .vmem, ⟨3, _⟩ => ⟨S4x4096x256, .bf16⟩
  | .local _ .vmem, ⟨4, _⟩ => ⟨S4x1024x256, .f32⟩
  | .local _ .vmem, ⟨5, _⟩ => ⟨S4x1024x256, .f32⟩
  | .local _ .vmem, ⟨6, _⟩ => ⟨S4x1024x256, .bf16⟩
  | .local _ .vmem, ⟨7, _⟩ => ⟨S4x1024x256, .bf16⟩
  | .local _ .vmem, ⟨8, _⟩ => ⟨S4096x1024, .bf16⟩
  | .local _ .vmem, ⟨9, _⟩ => ⟨S4096x1024, .bf16⟩
  | .local _ .vmem, ⟨10, _⟩ => ⟨S4x4096x256, .bf16⟩
  | .local _ .vmem, ⟨11, _⟩ => ⟨S4x4096x256, .bf16⟩
  | .local _ .vmem, ⟨12, _⟩ => ⟨S4x1024x256, .f32⟩
  | .local _ .vmem, ⟨13, _⟩ => ⟨S4x1024x256, .f32⟩
  | .local _ .vmem, ⟨14, _⟩ => ⟨S4x1024x256, .bf16⟩
  | .local _ .vmem, ⟨15, _⟩ => ⟨S4x1024x256, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6_0 : Ref sig .tc := ⟨.hbm, 8, rfl⟩
abbrev main_v6_1 : Ref sig .tc := ⟨.hbm, 9, rfl⟩
abbrev main_v7_0 : Ref sig .tc := ⟨.hbm, 10, rfl⟩
abbrev main_v7_1 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc1_stg3_0 : Ref sig .tc := ⟨.vmem, 14, rfl⟩
abbrev cc1_stg3_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc1_sem3_0 : DmaSem sig := 14
abbrev cc1_sem3_1 : DmaSem sig := 15

abbrev nD : Nat := 1
abbrev τ : Topo := Topo.v7x

variable {F : FTy → Type} [FloatOps F]

abbrev grid0 : Pipeline.Grid := ⟨2, ![3, 4], ![false, false]⟩

def k0_cond2 (i : grid0.Coords) : BitVec 1 :=
  let arg1 : BitVec 32 := BitVec.ofNat 32 (i 1).val
  let c3_i32 : BitVec 32 := 3#32
  let v41 : BitVec 1 := Scalar.cmpi .eq arg1 c3_i32
  let v42 : BitVec 32 := Scalar.extui v41
  let c0_i32_38 : BitVec 32 := 0#32
  let v43 : BitVec 1 := Scalar.cmpi .ne v42 c0_i32_38
  v43

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S4x4096x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S4x1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S4x1024x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev grid1 : Pipeline.Grid := ⟨2, ![2, 4], ![false, false]⟩

def k1_cond2 (i : grid1.Coords) : BitVec 1 :=
  let arg1 : BitVec 32 := BitVec.ofNat 32 (i 1).val
  let c3_i32 : BitVec 32 := 3#32
  let v41 : BitVec 1 := Scalar.cmpi .eq arg1 c3_i32
  let v42 : BitVec 32 := Scalar.extui v41
  let c0_i32_38 : BitVec 32 := 0#32
  let v43 : BitVec 1 := Scalar.cmpi .ne v42 c0_i32_38
  v43

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_4 (i : grid1.Coords) : Fin 3 → Nat :=
  let arg0 : BitVec 32 := BitVec.ofNat 32 (i 0).val
  let arg1 : BitVec 32 := BitVec.ofNat 32 (i 1).val
  let c3_i32 : BitVec 32 := 3#32
  let v0 : BitVec 32 := Scalar.addi c3_i32 arg0
  let c0_i32 : BitVec 32 := 0#32
  let c0_i32_0 : BitVec 32 := 0#32
  let c0_i32_1 : BitVec 32 := 0#32
  ![v0.toNat, c0_i32.toNat, c0_i32_0.toNat]

def cc1_transform_5 (i : grid1.Coords) : Fin 3 → Nat :=
  let arg0 : BitVec 32 := BitVec.ofNat 32 (i 0).val
  let arg1 : BitVec 32 := BitVec.ofNat 32 (i 1).val
  let c3_i32 : BitVec 32 := 3#32
  let v0 : BitVec 32 := Scalar.addi c3_i32 arg0
  let c0_i32 : BitVec 32 := 0#32
  let c0_i32_0 : BitVec 32 := 0#32
  let c0_i32_1 : BitVec 32 := 0#32
  ![v0.toNat, c0_i32.toNat, c0_i32_0.toNat]

abbrev stage1_0 : Fin 2 → Memref sig .tc .vmem S4096x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![false, true]

abbrev stage1_1 : Fin 2 → Memref sig .tc .vmem S4x4096x256 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S4x1024x256 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S4x1024x256 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]
-- ==== ReferenceWgradProjIdeal.lean ====
abbrev S16384x1024 : Shape := ⟨2, ![16384, 1024]⟩
abbrev S16384x5120 : Shape := ⟨2, ![16384, 5120]⟩
abbrev S_ : Shape := ⟨0, ![]⟩
abbrev S1024x5120 : Shape := ⟨2, ![1024, 5120]⟩
abbrev S5120x1024 : Shape := ⟨2, ![5120, 1024]⟩
abbrev S1024x20x256 : Shape := ⟨3, ![1024, 20, 256]⟩
abbrev S20x1024x256 : Shape := ⟨3, ![20, 1024, 256]⟩

abbrev nBuf : Space → Nat
  | .hbm => 10
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x5120, .f32⟩
  | .hbm, ⟨2, _⟩ => ⟨S_, .f32⟩
  | .hbm, ⟨3, _⟩ => ⟨S1024x5120, .f32⟩
  | .hbm, ⟨4, _⟩ => ⟨S16384x5120, .f32⟩
  | .hbm, ⟨5, _⟩ => ⟨S5120x1024, .f32⟩
  | .hbm, ⟨6, _⟩ => ⟨S1024x5120, .f32⟩
  | .hbm, ⟨7, _⟩ => ⟨S1024x20x256, .f32⟩
  | .hbm, ⟨8, _⟩ => ⟨S20x1024x256, .f32⟩
  | .hbm, ⟨9, _⟩ => ⟨S20x1024x256, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== KernelDx.lean ====
abbrev S16384x3072 : Shape := ⟨2, ![16384, 3072]⟩
abbrev S16384x2048 : Shape := ⟨2, ![16384, 2048]⟩
abbrev S16384x1024 : Shape := ⟨2, ![16384, 1024]⟩
abbrev S1x1024 : Shape := ⟨2, ![1, 1024]⟩
abbrev S1024x5120 : Shape := ⟨2, ![1024, 5120]⟩
abbrev S1024x4x1280 : Shape := ⟨3, ![1024, 4, 1280]⟩
abbrev S4x1024x1280 : Shape := ⟨3, ![4, 1024, 1280]⟩
abbrev S16384x12x256 : Shape := ⟨3, ![16384, 12, 256]⟩
abbrev S12x16384x256 : Shape := ⟨3, ![12, 16384, 256]⟩
abbrev S16384x8x256 : Shape := ⟨3, ![16384, 8, 256]⟩
abbrev S8x16384x256 : Shape := ⟨3, ![8, 16384, 256]⟩
abbrev S12x512x256 : Shape := ⟨3, ![12, 512, 256]⟩
abbrev S8x512x256 : Shape := ⟨3, ![8, 512, 256]⟩
abbrev S512x1024 : Shape := ⟨2, ![512, 1024]⟩
abbrev S1x512x256 : Shape := ⟨3, ![1, 512, 256]⟩
abbrev S512x256 : Shape := ⟨2, ![512, 256]⟩
abbrev S1x1024x256 : Shape := ⟨3, ![1, 1024, 256]⟩
abbrev S1024x256 : Shape := ⟨2, ![1024, 256]⟩
abbrev S512 : Shape := ⟨1, ![512]⟩
abbrev S512x1 : Shape := ⟨2, ![512, 1]⟩
abbrev S1024 : Shape := ⟨1, ![1024]⟩

abbrev nBuf : Space → Nat
  | .hbm => 17
  | .vmem => 13
  | .smem => 0
  | _ => 0

abbrev bufTy : (tb : Table) → Fin (tcTables nBuf tb) → BufTy
  | .hbm, ⟨0, _⟩ => ⟨S16384x3072, .f32⟩
  | .hbm, ⟨1, _⟩ => ⟨S16384x2048, .f32⟩
  | .hbm, ⟨2, _⟩ => ⟨S16384x1024, .f32⟩
  | .hbm, ⟨3, _⟩ => ⟨S16384x1024, .f32⟩
  | .hbm, ⟨4, _⟩ => ⟨S1x1024, .f32⟩
  | .hbm, ⟨5, _⟩ => ⟨S1024x5120, .f32⟩
  | .hbm, ⟨6, _⟩ => ⟨S1024x4x1280, .f32⟩
  | .hbm, ⟨7, _⟩ => ⟨S4x1024x1280, .f32⟩
  | .hbm, ⟨8, _⟩ => ⟨S16384x12x256, .f32⟩
  | .hbm, ⟨9, _⟩ => ⟨S12x16384x256, .f32⟩
  | .hbm, ⟨10, _⟩ => ⟨S12x16384x256, .bf16⟩
  | .hbm, ⟨11, _⟩ => ⟨S16384x8x256, .f32⟩
  | .hbm, ⟨12, _⟩ => ⟨S8x16384x256, .f32⟩
  | .hbm, ⟨13, _⟩ => ⟨S8x16384x256, .bf16⟩
  | .hbm, ⟨14, _⟩ => ⟨S4x1024x1280, .bf16⟩
  | .hbm, ⟨15, _⟩ => ⟨S16384x1024, .f32⟩
  | .hbm, ⟨16, _⟩ => ⟨S1x1024, .f32⟩
  | .local _ .vmem, ⟨0, _⟩ => ⟨S12x512x256, .bf16⟩
  | .local _ .vmem, ⟨1, _⟩ => ⟨S12x512x256, .bf16⟩
  | .local _ .vmem, ⟨2, _⟩ => ⟨S8x512x256, .bf16⟩
  | .local _ .vmem, ⟨3, _⟩ => ⟨S8x512x256, .bf16⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S1x1024, .f32⟩
  | .local _ .vmem, ⟨9, _⟩ => ⟨S4x1024x1280, .bf16⟩
  | .local _ .vmem, ⟨10, _⟩ => ⟨S512x1024, .f32⟩
  | .local _ .vmem, ⟨11, _⟩ => ⟨S512x1024, .f32⟩
  | .local _ .vmem, ⟨12, _⟩ => ⟨S1x1024, .f32⟩
  | _, _ => ⟨S16384x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9_0 : Ref sig .tc := ⟨.hbm, 15, rfl⟩
abbrev main_v9_1 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11
abbrev cc0_sem7_0 : DmaSem sig := 12

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S12x512x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x512x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S4x1024x1280 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== ReferenceDxIdeal.lean ====
abbrev S16384x3072 : Shape := ⟨2, ![16384, 3072]⟩
abbrev S16384x2048 : Shape := ⟨2, ![16384, 2048]⟩
abbrev S16384x1024 : Shape := ⟨2, ![16384, 1024]⟩
abbrev S1x1024 : Shape := ⟨2, ![1, 1024]⟩
abbrev S1024x5120 : Shape := ⟨2, ![1024, 5120]⟩
abbrev S_ : Shape := ⟨0, ![]⟩
abbrev S16384 : Shape := ⟨1, ![16384]⟩
abbrev S16384x1 : Shape := ⟨2, ![16384, 1]⟩
abbrev S16384x5120 : Shape := ⟨2, ![16384, 5120]⟩
abbrev S1024 : Shape := ⟨1, ![1024]⟩

abbrev nBuf : Space → Nat
  | .hbm => 52
  | .vmem => 0
  | .smem => 0
  | _ => 0

abbrev bufTy : (tb : Table) → Fin (tcTables nBuf tb) → BufTy
  | .hbm, ⟨0, _⟩ => ⟨S16384x3072, .f32⟩
  | .hbm, ⟨1, _⟩ => ⟨S16384x2048, .f32⟩
  | .hbm, ⟨2, _⟩ => ⟨S16384x1024, .f32⟩
  | .hbm, ⟨3, _⟩ => ⟨S16384x1024, .f32⟩
  | .hbm, ⟨4, _⟩ => ⟨S1x1024, .f32⟩
  | .hbm, ⟨5, _⟩ => ⟨S1024x5120, .f32⟩
  | .hbm, ⟨6, _⟩ => ⟨S16384x1024, .f32⟩
  | .hbm, ⟨7, _⟩ => ⟨S_, .f32⟩
  | .hbm, ⟨8, _⟩ => ⟨S16384, .f32⟩
  | .hbm, ⟨9, _⟩ => ⟨S16384x1, .f32⟩
  | .hbm, ⟨10, _⟩ => ⟨S_, .f32⟩
  | .hbm, ⟨11, _⟩ => ⟨S16384x1, .f32⟩
  | .hbm, ⟨12, _⟩ => ⟨S16384x1, .f32⟩
  | .hbm, ⟨13, _⟩ => ⟨S_, .f32⟩
  | .hbm, ⟨14, _⟩ => ⟨S16384x1, .f32⟩
  | .hbm, ⟨15, _⟩ => ⟨S16384x1, .f32⟩
  | .hbm, ⟨16, _⟩ => ⟨S16384x1, .f32⟩
  | .hbm, ⟨17, _⟩ => ⟨S16384x1, .f32⟩
  | .hbm, ⟨18, _⟩ => ⟨S_, .f32⟩
  | .hbm, ⟨19, _⟩ => ⟨S16384x1, .f32⟩
  | .hbm, ⟨20, _⟩ => ⟨S16384x1, .f32⟩
  | .hbm, ⟨21, _⟩ => ⟨S16384x1024, .f32⟩
  | .hbm, ⟨22, _⟩ => ⟨S16384x1024, .f32⟩
  | .hbm, ⟨23, _⟩ => ⟨S16384x1024, .f32⟩
  | .hbm, ⟨24, _⟩ => ⟨S16384x1024, .f32⟩
  | .hbm, ⟨25, _⟩ => ⟨S16384x5120, .f32⟩
  | .hbm, ⟨26, _⟩ => ⟨S16384x5120, .f32⟩
  | .hbm, ⟨27, _⟩ => ⟨S16384x1024, .f32⟩
  | .hbm, ⟨28, _⟩ => ⟨S16384x1024, .f32⟩
  | .hbm, ⟨29, _⟩ => ⟨S_, .f32⟩
  | .hbm, ⟨30, _⟩ => ⟨S1024, .f32⟩
  | .hbm, ⟨31, _⟩ => ⟨S1x1024, .f32⟩
  | .hbm, ⟨32, _⟩ => ⟨S16384x1024, .f32⟩
  | .hbm, ⟨33, _⟩ => ⟨S16384x1024, .f32⟩
  | .hbm, ⟨34, _⟩ => ⟨S16384x1024, .f32⟩
  | .hbm, ⟨35, _⟩ => ⟨S_, .f32⟩
  | .hbm, ⟨36, _⟩ => ⟨S16384, .f32⟩
  | .hbm, ⟨37, _⟩ => ⟨S16384x1, .f32⟩
  | .hbm, ⟨38, _⟩ => ⟨S16384x1024, .f32⟩
  | .hbm, ⟨39, _⟩ => ⟨S16384x1024, .f32⟩
  | .hbm, ⟨40, _⟩ => ⟨S16384x1024, .f32⟩
  | .hbm, ⟨41, _⟩ => ⟨S16384x1, .f32⟩
  | .hbm, ⟨42, _⟩ => ⟨S_, .f32⟩
  | .hbm, ⟨43, _⟩ => ⟨S16384x1, .f32⟩
  | .hbm, ⟨44, _⟩ => ⟨S16384x1, .f32⟩
  | .hbm, ⟨45, _⟩ => ⟨S_, .f32⟩
  | .hbm, ⟨46, _⟩ => ⟨S16384, .f32⟩
  | .hbm, ⟨47, _⟩ => ⟨S16384x1024, .f32⟩
  | .hbm, ⟨48, _⟩ => ⟨S16384x1024, .f32⟩
  | .hbm, ⟨49, _⟩ => ⟨S16384x1024, .f32⟩
  | .hbm, ⟨50, _⟩ => ⟨S16384x1024, .f32⟩
  | .hbm, ⟨51, _⟩ => ⟨S16384x1024, .f32⟩
  | _, _ => ⟨S16384x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_2 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_3 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_cst_4 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_cst_5 : Ref sig .tc := ⟨.hbm, 42, rfl⟩
abbrev main_v30 : Ref sig .tc := ⟨.hbm, 43, rfl⟩
abbrev main_v31 : Ref sig .tc := ⟨.hbm, 44, rfl⟩
abbrev main_cst_6 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩

abbrev nD : Nat := 1
abbrev τ : Topo := Topo.v7x

variable {F : FTy → Type} [FloatOps F]
-- ==== KernelInprojOwn.lean ====
abbrev S16384x1024 : Shape := ⟨2, ![16384, 1024]⟩
abbrev S1x1024 : Shape := ⟨2, ![1, 1024]⟩
abbrev S1024x1280 : Shape := ⟨2, ![1024, 1280]⟩
abbrev S5x16384x256 : Shape := ⟨3, ![5, 16384, 256]⟩
abbrev S1024x1024 : Shape := ⟨2, ![1024, 1024]⟩
abbrev S5x1024x256 : Shape := ⟨3, ![5, 1024, 256]⟩
abbrev S1024 : Shape := ⟨1, ![1024]⟩
abbrev S1024x1 : Shape := ⟨2, ![1024, 1]⟩
abbrev S1024x256 : Shape := ⟨2, ![1024, 256]⟩
abbrev S1x1024x256 : Shape := ⟨3, ![1, 1024, 256]⟩

abbrev nBuf : Space → Nat
  | .hbm => 6
  | .vmem => 8
  | .smem => 0
  | _ => 0

abbrev bufTy : (tb : Table) → Fin (tcTables nBuf tb) → BufTy
  | .hbm, ⟨0, _⟩ => ⟨S16384x1024, .f32⟩
  | .hbm, ⟨1, _⟩ => ⟨S1x1024, .f32⟩
  | .hbm, ⟨2, _⟩ => ⟨S1024x1280, .f32⟩
  | .hbm, ⟨3, _⟩ => ⟨S1024x1280, .bf16⟩
  | .hbm, ⟨4, _⟩ => ⟨S16384x1024, .bf16⟩
  | .hbm, ⟨5, _⟩ => ⟨S5x16384x256, .bf16⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x1280, .bf16⟩
  | .local _ .vmem, ⟨4, _⟩ => ⟨S1024x1024, .bf16⟩
  | .local _ .vmem, ⟨5, _⟩ => ⟨S1024x1024, .bf16⟩
  | .local _ .vmem, ⟨6, _⟩ => ⟨S5x1024x256, .bf16⟩
  | .local _ .vmem, ⟨7, _⟩ => ⟨S5x1024x256, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x1280 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S5x1024x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ReferenceInprojOwnIdeal.lean ====
abbrev S16384x1024 : Shape := ⟨2, ![16384, 1024]⟩
abbrev S1x1024 : Shape := ⟨2, ![1, 1024]⟩
abbrev S1024x1280 : Shape := ⟨2, ![1024, 1280]⟩
abbrev S_ : Shape := ⟨0, ![]⟩
abbrev S16384 : Shape := ⟨1, ![16384]⟩
abbrev S16384x1 : Shape := ⟨2, ![16384, 1]⟩
abbrev S16384x1280 : Shape := ⟨2, ![16384, 1280]⟩
abbrev S16384x5x256 : Shape := ⟨3, ![16384, 5, 256]⟩
abbrev S5x16384x256 : Shape := ⟨3, ![5, 16384, 256]⟩

abbrev nBuf : Space → Nat
  | .hbm => 23
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1x1024, .f32⟩
  | .hbm, ⟨2, _⟩ => ⟨S1024x1280, .f32⟩
  | .hbm, ⟨3, _⟩ => ⟨S16384x1024, .f32⟩
  | .hbm, ⟨4, _⟩ => ⟨S_, .f32⟩
  | .hbm, ⟨5, _⟩ => ⟨S16384, .f32⟩
  | .hbm, ⟨6, _⟩ => ⟨S16384x1, .f32⟩
  | .hbm, ⟨7, _⟩ => ⟨S_, .f32⟩
  | .hbm, ⟨8, _⟩ => ⟨S16384x1, .f32⟩
  | .hbm, ⟨9, _⟩ => ⟨S16384x1, .f32⟩
  | .hbm, ⟨10, _⟩ => ⟨S_, .f32⟩
  | .hbm, ⟨11, _⟩ => ⟨S16384x1, .f32⟩
  | .hbm, ⟨12, _⟩ => ⟨S16384x1, .f32⟩
  | .hbm, ⟨13, _⟩ => ⟨S16384x1, .f32⟩
  | .hbm, ⟨14, _⟩ => ⟨S16384x1024, .f32⟩
  | .hbm, ⟨15, _⟩ => ⟨S16384x1024, .f32⟩
  | .hbm, ⟨16, _⟩ => ⟨S16384x1024, .f32⟩
  | .hbm, ⟨17, _⟩ => ⟨S16384x1024, .f32⟩
  | .hbm, ⟨18, _⟩ => ⟨S16384x1280, .f32⟩
  | .hbm, ⟨19, _⟩ => ⟨S16384x1024, .bf16⟩
  | .hbm, ⟨20, _⟩ => ⟨S16384x5x256, .f32⟩
  | .hbm, ⟨21, _⟩ => ⟨S5x16384x256, .f32⟩
  | .hbm, ⟨22, _⟩ => ⟨S5x16384x256, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩

abbrev nD : Nat := 1
abbrev τ : Topo := Topo.v7x

variable {F : FTy → Type} [FloatOps F]
-- ==== KernelInproj.lean ====
abbrev S16384x1024 : Shape := ⟨2, ![16384, 1024]⟩
abbrev S1024x5120 : Shape := ⟨2, ![1024, 5120]⟩
abbrev S1024x4x1280 : Shape := ⟨3, ![1024, 4, 1280]⟩
abbrev S4x1024x1280 : Shape := ⟨3, ![4, 1024, 1280]⟩
abbrev S1024x1280 : Shape := ⟨2, ![1024, 1280]⟩
abbrev S16384x1280 : Shape := ⟨2, ![16384, 1280]⟩
abbrev S16384x5x256 : Shape := ⟨3, ![16384, 5, 256]⟩
abbrev S5x16384x256 : Shape := ⟨3, ![5, 16384, 256]⟩
abbrev S3x1x16384x256 : Shape := ⟨4, ![3, 1, 16384, 256]⟩
abbrev S3x4x4096x256 : Shape := ⟨4, ![3, 4, 4096, 256]⟩
abbrev S3x16x1024x256 : Shape := ⟨4, ![3, 16, 1024, 256]⟩
abbrev S16384x768 : Shape := ⟨2, ![16384, 768]⟩
abbrev S16384x2048 : Shape := ⟨2, ![16384, 2048]⟩
abbrev S512x1024 : Shape := ⟨2, ![512, 1024]⟩
abbrev S5x512x256 : Shape := ⟨3, ![5, 512, 256]⟩
abbrev S3x1x512x256 : Shape := ⟨4, ![3, 1, 512, 256]⟩
abbrev S3x4x128x256 : Shape := ⟨4, ![3, 4, 128, 256]⟩
abbrev S3x16x32x256 : Shape := ⟨4, ![3, 16, 32, 256]⟩
abbrev S512x768 : Shape := ⟨2, ![512, 768]⟩
abbrev S512x2048 : Shape := ⟨2, ![512, 2048]⟩
abbrev S2x512x128 : Shape := ⟨3, ![2, 512, 128]⟩
abbrev S1x512x256 : Shape := ⟨3, ![1, 512, 256]⟩
abbrev S512x256 : Shape := ⟨2, ![512, 256]⟩
abbrev S1x1x512x256 : Shape := ⟨4, ![1, 1, 512, 256]⟩
abbrev S512x128 : Shape := ⟨2, ![512, 128]⟩
abbrev S1x512x128 : Shape := ⟨3, ![1, 512, 128]⟩
abbrev S1x128x128 : Shape := ⟨3, ![1, 128, 128]⟩
abbrev S128x128 : Shape := ⟨2, ![128, 128]⟩
abbrev S1x1x128x128 : Shape := ⟨4, ![1, 1, 128, 128]⟩
abbrev S1x32x128 : Shape := ⟨3, ![1, 32, 128]⟩
abbrev S32x128 : Shape := ⟨2, ![32, 128]⟩
abbrev S1x1x32x128 : Shape := ⟨4, ![1, 1, 32, 128]⟩
abbrev S1x1024x256 : Shape := ⟨3, ![1, 1024, 256]⟩
abbrev S1024x256 : Shape := ⟨2, ![1024, 256]⟩

abbrev nBuf : Space → Nat
  | .hbm => 16
  | .vmem => 16
  | .smem => 0
  | _ => 0

abbrev bufTy : (tb : Table) → Fin (tcTables nBuf tb) → BufTy
  | .hbm, ⟨0, _⟩ => ⟨S16384x1024, .f32⟩
  | .hbm, ⟨1, _⟩ => ⟨S1024x5120, .f32⟩
  | .hbm, ⟨2, _⟩ => ⟨S1024x4x1280, .f32⟩
  | .hbm, ⟨3, _⟩ => ⟨S4x1024x1280, .f32⟩
  | .hbm, ⟨4, _⟩ => ⟨S4x1024x1280, .bf16⟩
  | .hbm, ⟨5, _⟩ => ⟨S1024x1280, .f32⟩
  | .hbm, ⟨6, _⟩ => ⟨S16384x1280, .f32⟩
  | .hbm, ⟨7, _⟩ => ⟨S16384x5x256, .f32⟩
  | .hbm, ⟨8, _⟩ => ⟨S5x16384x256, .f32⟩
  | .hbm, ⟨9, _⟩ => ⟨S5x16384x256, .bf16⟩
  | .hbm, ⟨10, _⟩ => ⟨S16384x1024, .bf16⟩
  | .hbm, ⟨11, _⟩ => ⟨S3x1x16384x256, .bf16⟩
  | .hbm, ⟨12, _⟩ => ⟨S3x4x4096x256, .bf16⟩
  | .hbm, ⟨13, _⟩ => ⟨S3x16x1024x256, .bf16⟩
  | .hbm, ⟨14, _⟩ => ⟨S16384x768, .bf16⟩
  | .hbm, ⟨15, _⟩ => ⟨S16384x2048, .bf16⟩
  | .local _ .vmem, ⟨0, _⟩ => ⟨S512x1024, .bf16⟩
  | .local _ .vmem, ⟨1, _⟩ => ⟨S512x1024, .bf16⟩
  | .local _ .vmem, ⟨2, _⟩ => ⟨S5x512x256, .bf16⟩
  | .local _ .vmem, ⟨3, _⟩ => ⟨S5x512x256, .bf16⟩
  | .local _ .vmem, ⟨4, _⟩ => ⟨S4x1024x1280, .bf16⟩
  | .local _ .vmem, ⟨5, _⟩ => ⟨S3x1x512x256, .bf16⟩
  | .local _ .vmem, ⟨6, _⟩ => ⟨S3x1x512x256, .bf16⟩
  | .local _ .vmem, ⟨7, _⟩ => ⟨S3x4x128x256, .bf16⟩
  | .local _ .vmem, ⟨8, _⟩ => ⟨S3x4x128x256, .bf16⟩
  | .local _ .vmem, ⟨9, _⟩ => ⟨S3x16x32x256, .bf16⟩
  | .local _ .vmem, ⟨10, _⟩ => ⟨S3x16x32x256, .bf16⟩
  | .local _ .vmem, ⟨11, _⟩ => ⟨S512x768, .bf16⟩
  | .local _ .vmem, ⟨12, _⟩ => ⟨S512x768, .bf16⟩
  | .local _ .vmem, ⟨13, _⟩ => ⟨S512x2048, .bf16⟩
  | .local _ .vmem, ⟨14, _⟩ => ⟨S512x2048, .bf16⟩
  | .local _ .vmem, ⟨15, _⟩ => ⟨S2x512x128, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9_0 : Ref sig .tc := ⟨.hbm, 11, rfl⟩
abbrev main_v9_1 : Ref sig .tc := ⟨.hbm, 12, rfl⟩
abbrev main_v9_2 : Ref sig .tc := ⟨.hbm, 13, rfl⟩
abbrev main_v9_3 : Ref sig .tc := ⟨.hbm, 14, rfl⟩
abbrev main_v9_4 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_scratch0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, arg0.toNat, c0_i32_1.toNat]

def cc0_transform_4 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, arg0.toNat, c0_i32_1.toNat]

def cc0_transform_5 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, arg0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5x512x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S4x1024x1280 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S3x1x512x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S3x4x128x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S3x16x32x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x768 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== ReferenceInprojIdeal.lean ====
abbrev S16384x1024 : Shape := ⟨2, ![16384, 1024]⟩
abbrev S1024x5120 : Shape := ⟨2, ![1024, 5120]⟩
abbrev S16384x5120 : Shape := ⟨2, ![16384, 5120]⟩
abbrev S16384x768 : Shape := ⟨2, ![16384, 768]⟩
abbrev S16384x2048 : Shape := ⟨2, ![16384, 2048]⟩
abbrev S16384x256 : Shape := ⟨2, ![16384, 256]⟩
abbrev S_ : Shape := ⟨0, ![]⟩
abbrev S1x16384x256 : Shape := ⟨3, ![1, 16384, 256]⟩
abbrev S3x16384x256 : Shape := ⟨3, ![3, 16384, 256]⟩
abbrev S3x16384x1x256 : Shape := ⟨4, ![3, 16384, 1, 256]⟩
abbrev S3x1x16384x256 : Shape := ⟨4, ![3, 1, 16384, 256]⟩
abbrev S3x4096x4x256 : Shape := ⟨4, ![3, 4096, 4, 256]⟩
abbrev S3x4x4096x256 : Shape := ⟨4, ![3, 4, 4096, 256]⟩
abbrev S3x1024x16x256 : Shape := ⟨4, ![3, 1024, 16, 256]⟩
abbrev S3x16x1024x256 : Shape := ⟨4, ![3, 16, 1024, 256]⟩

abbrev nBuf : Space → Nat
  | .hbm => 49
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024x5120, .f32⟩
  | .hbm, ⟨2, _⟩ => ⟨S16384x5120, .f32⟩
  | .hbm, ⟨3, _⟩ => ⟨S16384x768, .f32⟩
  | .hbm, ⟨4, _⟩ => ⟨S16384x768, .f32⟩
  | .hbm, ⟨5, _⟩ => ⟨S16384x768, .f32⟩
  | .hbm, ⟨6, _⟩ => ⟨S16384x768, .f32⟩
  | .hbm, ⟨7, _⟩ => ⟨S16384x2048, .f32⟩
  | .hbm, ⟨8, _⟩ => ⟨S16384x256, .f32⟩
  | .hbm, ⟨9, _⟩ => ⟨S_, .f32⟩
  | .hbm, ⟨10, _⟩ => ⟨S16384x256, .f32⟩
  | .hbm, ⟨11, _⟩ => ⟨S16384x256, .f32⟩
  | .hbm, ⟨12, _⟩ => ⟨S16384x256, .f32⟩
  | .hbm, ⟨13, _⟩ => ⟨S16384x256, .f32⟩
  | .hbm, ⟨14, _⟩ => ⟨S1x16384x256, .f32⟩
  | .hbm, ⟨15, _⟩ => ⟨S1x16384x256, .f32⟩
  | .hbm, ⟨16, _⟩ => ⟨S1x16384x256, .f32⟩
  | .hbm, ⟨17, _⟩ => ⟨S3x16384x256, .f32⟩
  | .hbm, ⟨18, _⟩ => ⟨S3x16384x1x256, .f32⟩
  | .hbm, ⟨19, _⟩ => ⟨S3x1x16384x256, .f32⟩
  | .hbm, ⟨20, _⟩ => ⟨S3x1x16384x256, .bf16⟩
  | .hbm, ⟨21, _⟩ => ⟨S16384x256, .f32⟩
  | .hbm, ⟨22, _⟩ => ⟨S_, .f32⟩
  | .hbm, ⟨23, _⟩ => ⟨S16384x256, .f32⟩
  | .hbm, ⟨24, _⟩ => ⟨S16384x256, .f32⟩
  | .hbm, ⟨25, _⟩ => ⟨S16384x256, .f32⟩
  | .hbm, ⟨26, _⟩ => ⟨S16384x256, .f32⟩
  | .hbm, ⟨27, _⟩ => ⟨S1x16384x256, .f32⟩
  | .hbm, ⟨28, _⟩ => ⟨S1x16384x256, .f32⟩
  | .hbm, ⟨29, _⟩ => ⟨S1x16384x256, .f32⟩
  | .hbm, ⟨30, _⟩ => ⟨S3x16384x256, .f32⟩
  | .hbm, ⟨31, _⟩ => ⟨S3x4096x4x256, .f32⟩
  | .hbm, ⟨32, _⟩ => ⟨S3x4x4096x256, .f32⟩
  | .hbm, ⟨33, _⟩ => ⟨S3x4x4096x256, .bf16⟩
  | .hbm, ⟨34, _⟩ => ⟨S16384x256, .f32⟩
  | .hbm, ⟨35, _⟩ => ⟨S_, .f32⟩
  | .hbm, ⟨36, _⟩ => ⟨S16384x256, .f32⟩
  | .hbm, ⟨37, _⟩ => ⟨S16384x256, .f32⟩
  | .hbm, ⟨38, _⟩ => ⟨S16384x256, .f32⟩
  | .hbm, ⟨39, _⟩ => ⟨S16384x256, .f32⟩
  | .hbm, ⟨40, _⟩ => ⟨S1x16384x256, .f32⟩
  | .hbm, ⟨41, _⟩ => ⟨S1x16384x256, .f32⟩
  | .hbm, ⟨42, _⟩ => ⟨S1x16384x256, .f32⟩
  | .hbm, ⟨43, _⟩ => ⟨S3x16384x256, .f32⟩
  | .hbm, ⟨44, _⟩ => ⟨S3x1024x16x256, .f32⟩
  | .hbm, ⟨45, _⟩ => ⟨S3x16x1024x256, .f32⟩
  | .hbm, ⟨46, _⟩ => ⟨S3x16x1024x256, .bf16⟩
  | .hbm, ⟨47, _⟩ => ⟨S16384x768, .bf16⟩
  | .hbm, ⟨48, _⟩ => ⟨S16384x2048, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_cst : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_cst_0 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_v30 : Ref sig .tc := ⟨.hbm, 34, rfl⟩
abbrev main_cst_1 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_v34 : Ref sig .tc := ⟨.hbm, 39, rfl⟩
abbrev main_v35 : Ref sig .tc := ⟨.hbm, 40, rfl⟩
abbrev main_v36 : Ref sig .tc := ⟨.hbm, 41, rfl⟩
abbrev main_v37 : Ref sig .tc := ⟨.hbm, 42, rfl⟩
abbrev main_v38 : Ref sig .tc := ⟨.hbm, 43, rfl⟩
abbrev main_v39 : Ref sig .tc := ⟨.hbm, 44, rfl⟩
abbrev main_v40 : Ref sig .tc := ⟨.hbm, 45, rfl⟩
abbrev main_v41 : Ref sig .tc := ⟨.hbm, 46, rfl⟩
abbrev main_v42 : Ref sig .tc := ⟨.hbm, 47, rfl⟩
abbrev main_v43 : Ref sig .tc := ⟨.hbm, 48, rfl⟩

abbrev nD : Nat := 1
abbrev τ : Topo := Topo.v7x

variable {F : FTy → Type} [FloatOps F]
-- ==== KernelWgradGrp.lean ====
abbrev S16384x768 : Shape := ⟨2, ![16384, 768]⟩
abbrev S768x768 : Shape := ⟨2, ![768, 768]⟩
abbrev S4096x768 : Shape := ⟨2, ![4096, 768]⟩

abbrev nBuf : Space → Nat
  | .hbm => 5
  | .vmem => 5
  | .smem => 0
  | _ => 0

abbrev bufTy : (tb : Table) → Fin (tcTables nBuf tb) → BufTy
  | .hbm, ⟨0, _⟩ => ⟨S16384x768, .f32⟩
  | .hbm, ⟨1, _⟩ => ⟨S16384x768, .f32⟩
  | .hbm, ⟨2, _⟩ => ⟨S16384x768, .bf16⟩
  | .hbm, ⟨3, _⟩ => ⟨S16384x768, .bf16⟩
  | .hbm, ⟨4, _⟩ => ⟨S768x768, .f32⟩
  | .local _ .vmem, ⟨0, _⟩ => ⟨S4096x768, .bf16⟩
  | .local _ .vmem, ⟨1, _⟩ => ⟨S4096x768, .bf16⟩
  | .local _ .vmem, ⟨2, _⟩ => ⟨S4096x768, .bf16⟩
  | .local _ .vmem, ⟨3, _⟩ => ⟨S4096x768, .bf16⟩
  | .local _ .vmem, ⟨4, _⟩ => ⟨S768x768, .f32⟩
  | _, _ => ⟨S16384x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S4096x768 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S768x768 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]
-- ==== ReferenceWgradGrpIdeal.lean ====
abbrev S16384x768 : Shape := ⟨2, ![16384, 768]⟩
abbrev S_ : Shape := ⟨0, ![]⟩
abbrev S768x768 : Shape := ⟨2, ![768, 768]⟩

abbrev nBuf : Space → Nat
  | .hbm => 7
  | .vmem => 0
  | .smem => 0
  | _ => 0

abbrev bufTy : (tb : Table) → Fin (tcTables nBuf tb) → BufTy
  | .hbm, ⟨0, _⟩ => ⟨S16384x768, .f32⟩
  | .hbm, ⟨1, _⟩ => ⟨S16384x768, .f32⟩
  | .hbm, ⟨2, _⟩ => ⟨S_, .f32⟩
  | .hbm, ⟨3, _⟩ => ⟨S768x768, .f32⟩
  | .hbm, ⟨4, _⟩ => ⟨S16384x768, .f32⟩
  | .hbm, ⟨5, _⟩ => ⟨S768x768, .f32⟩
  | .hbm, ⟨6, _⟩ => ⟨S768x768, .f32⟩
  | _, _ => ⟨S16384x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== KernelAdamwIn.lean ====
abbrev S1024x1280 : Shape := ⟨2, ![1024, 1280]⟩
abbrev S1024x5x256 : Shape := ⟨3, ![1024, 5, 256]⟩
abbrev S5x1024x256 : Shape := ⟨3, ![5, 1024, 256]⟩
abbrev S512x256 : Shape := ⟨2, ![512, 256]⟩
abbrev S1x512x256 : Shape := ⟨3, ![1, 512, 256]⟩

abbrev nBuf : Space → Nat
  | .hbm => 10
  | .vmem => 16
  | .smem => 0
  | _ => 0

abbrev bufTy : (tb : Table) → Fin (tcTables nBuf tb) → BufTy
  | .hbm, ⟨0, _⟩ => ⟨S1024x1280, .f32⟩
  | .hbm, ⟨1, _⟩ => ⟨S1024x1280, .f32⟩
  | .hbm, ⟨2, _⟩ => ⟨S1024x1280, .f32⟩
  | .hbm, ⟨3, _⟩ => ⟨S1024x1280, .f32⟩
  | .hbm, ⟨4, _⟩ => ⟨S1024x5x256, .f32⟩
  | .hbm, ⟨5, _⟩ => ⟨S5x1024x256, .f32⟩
  | .hbm, ⟨6, _⟩ => ⟨S1024x1280, .f32⟩
  | .hbm, ⟨7, _⟩ => ⟨S1024x1280, .f32⟩
  | .hbm, ⟨8, _⟩ => ⟨S1024x1280, .f32⟩
  | .hbm, ⟨9, _⟩ => ⟨S1024x1280, .f32⟩
  | .local _ .vmem, ⟨0, _⟩ => ⟨S512x256, .f32⟩
  | .local _ .vmem, ⟨1, _⟩ => ⟨S512x256, .f32⟩
  | .local _ .vmem, ⟨2, _⟩ => ⟨S1x512x256, .f32⟩
  | .local _ .vmem, ⟨3, _⟩ => ⟨S1x512x256, .f32⟩
  | .local _ .vmem, ⟨4, _⟩ => ⟨S512x256, .f32⟩
  | .local _ .vmem, ⟨5, _⟩ => ⟨S512x256, .f32⟩
  | .local _ .vmem, ⟨6, _⟩ => ⟨S512x256, .f32⟩
  | .local _ .vmem, ⟨7, _⟩ => ⟨S512x256, .f32⟩
  | .local _ .vmem, ⟨8, _⟩ => ⟨S512x256, .f32⟩
  | .local _ .vmem, ⟨9, _⟩ => ⟨S512x256, .f32⟩
  | .local _ .vmem, ⟨10, _⟩ => ⟨S512x256, .f32⟩
  | .local _ .vmem, ⟨11, _⟩ => ⟨S512x256, .f32⟩
  | .local _ .vmem, ⟨12, _⟩ => ⟨S512x256, .f32⟩
  | .local _ .vmem, ⟨13, _⟩ => ⟨S512x256, .f32⟩
  | .local _ .vmem, ⟨14, _⟩ => ⟨S512x256, .f32⟩
  | .local _ .vmem, ⟨15, _⟩ => ⟨S512x256, .f32⟩
  | _, _ => ⟨S1024x1280, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev main_v2_2 : Ref sig .tc := ⟨.hbm, 8, rfl⟩
abbrev main_v2_3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![5, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S512x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S512x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== ReferenceAdamwInIdeal.lean ====
abbrev S1024x1280 : Shape := ⟨2, ![1024, 1280]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1024x1280, .f32⟩
  | .hbm, ⟨1, _⟩ => ⟨S1024x1280, .f32⟩
  | .hbm, ⟨2, _⟩ => ⟨S1024x1280, .f32⟩
  | .hbm, ⟨3, _⟩ => ⟨S1024x1280, .f32⟩
  | .hbm, ⟨4, _⟩ => ⟨S_, .f32⟩
  | .hbm, ⟨5, _⟩ => ⟨S1024x1280, .f32⟩
  | .hbm, ⟨6, _⟩ => ⟨S1024x1280, .f32⟩
  | .hbm, ⟨7, _⟩ => ⟨S_, .f32⟩
  | .hbm, ⟨8, _⟩ => ⟨S1024x1280, .f32⟩
  | .hbm, ⟨9, _⟩ => ⟨S1024x1280, .f32⟩
  | .hbm, ⟨10, _⟩ => ⟨S1024x1280, .f32⟩
  | .hbm, ⟨11, _⟩ => ⟨S_, .f32⟩
  | .hbm, ⟨12, _⟩ => ⟨S1024x1280, .f32⟩
  | .hbm, ⟨13, _⟩ => ⟨S1024x1280, .f32⟩
  | .hbm, ⟨14, _⟩ => ⟨S1024x1280, .f32⟩
  | .hbm, ⟨15, _⟩ => ⟨S_, .f32⟩
  | .hbm, ⟨16, _⟩ => ⟨S1024x1280, .f32⟩
  | .hbm, ⟨17, _⟩ => ⟨S1024x1280, .f32⟩
  | .hbm, ⟨18, _⟩ => ⟨S1024x1280, .f32⟩
  | .hbm, ⟨19, _⟩ => ⟨S_, .f32⟩
  | .hbm, ⟨20, _⟩ => ⟨S1024x1280, .f32⟩
  | .hbm, ⟨21, _⟩ => ⟨S1024x1280, .f32⟩
  | .hbm, ⟨22, _⟩ => ⟨S_, .f32⟩
  | .hbm, ⟨23, _⟩ => ⟨S1024x1280, .f32⟩
  | .hbm, ⟨24, _⟩ => ⟨S1024x1280, .f32⟩
  | .hbm, ⟨25, _⟩ => ⟨S1024x1280, .f32⟩
  | .hbm, ⟨26, _⟩ => ⟨S_, .f32⟩
  | .hbm, ⟨27, _⟩ => ⟨S1024x1280, .f32⟩
  | .hbm, ⟨28, _⟩ => ⟨S1024x1280, .f32⟩
  | .hbm, ⟨29, _⟩ => ⟨S1024x1280, .f32⟩
  | .hbm, ⟨30, _⟩ => ⟨S_, .f32⟩
  | .hbm, ⟨31, _⟩ => ⟨S1024x1280, .f32⟩
  | .hbm, ⟨32, _⟩ => ⟨S1024x1280, .f32⟩
  | .hbm, ⟨33, _⟩ => ⟨S1024x1280, .f32⟩
  | .hbm, ⟨34, _⟩ => ⟨S_, .f32⟩
  | .hbm, ⟨35, _⟩ => ⟨S1024x1280, .f32⟩
  | .hbm, ⟨36, _⟩ => ⟨S1024x1280, .f32⟩
  | _, _ => ⟨S1024x1280, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== KernelAdamwAtt.lean ====
abbrev S256x256 : Shape := ⟨2, ![256, 256]⟩

abbrev nBuf : Space → Nat
  | .hbm => 8
  | .vmem => 8
  | .smem => 0
  | _ => 0

abbrev bufTy : (tb : Table) → Fin (tcTables nBuf tb) → BufTy
  | .hbm, ⟨0, _⟩ => ⟨S256x256, .f32⟩
  | .hbm, ⟨1, _⟩ => ⟨S256x256, .f32⟩
  | .hbm, ⟨2, _⟩ => ⟨S256x256, .f32⟩
  | .hbm, ⟨3, _⟩ => ⟨S256x256, .f32⟩
  | .hbm, ⟨4, _⟩ => ⟨S256x256, .f32⟩
  | .hbm, ⟨5, _⟩ => ⟨S256x256, .f32⟩
  | .hbm, ⟨6, _⟩ => ⟨S256x256, .f32⟩
  | .hbm, ⟨7, _⟩ => ⟨S256x256, .f32⟩
  | .local _ .vmem, ⟨0, _⟩ => ⟨S256x256, .f32⟩
  | .local _ .vmem, ⟨1, _⟩ => ⟨S256x256, .f32⟩
  | .local _ .vmem, ⟨2, _⟩ => ⟨S256x256, .f32⟩
  | .local _ .vmem, ⟨3, _⟩ => ⟨S256x256, .f32⟩
  | .local _ .vmem, ⟨4, _⟩ => ⟨S256x256, .f32⟩
  | .local _ .vmem, ⟨5, _⟩ => ⟨S256x256, .f32⟩
  | .local _ .vmem, ⟨6, _⟩ => ⟨S256x256, .f32⟩
  | .local _ .vmem, ⟨7, _⟩ => ⟨S256x256, .f32⟩
  | _, _ => ⟨S256x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨2, ![1, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 1 → Memref sig .tc .vmem S256x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true]

abbrev stage0_2 : Fin 1 → Memref sig .tc .vmem S256x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]

abbrev stage0_3 : Fin 1 → Memref sig .tc .vmem S256x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true]

abbrev stage0_4 : Fin 1 → Memref sig .tc .vmem S256x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, true]

abbrev stage0_5 : Fin 1 → Memref sig .tc .vmem S256x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, true]

abbrev stage0_6 : Fin 1 → Memref sig .tc .vmem S256x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, true]

abbrev stage0_7 : Fin 1 → Memref sig .tc .vmem S256x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true, true]
-- ==== KernelAdamwAttIdeal.lean ====
abbrev S256x256 : Shape := ⟨2, ![256, 256]⟩

abbrev nBuf : Space → Nat
  | .hbm => 8
  | .vmem => 8
  | .smem => 0
  | _ => 0

abbrev bufTy : (tb : Table) → Fin (tcTables nBuf tb) → BufTy
  | .hbm, ⟨0, _⟩ => ⟨S256x256, .f32⟩
  | .hbm, ⟨1, _⟩ => ⟨S256x256, .f32⟩
  | .hbm, ⟨2, _⟩ => ⟨S256x256, .f32⟩
  | .hbm, ⟨3, _⟩ => ⟨S256x256, .f32⟩
  | .hbm, ⟨4, _⟩ => ⟨S256x256, .f32⟩
  | .hbm, ⟨5, _⟩ => ⟨S256x256, .f32⟩
  | .hbm, ⟨6, _⟩ => ⟨S256x256, .f32⟩
  | .hbm, ⟨7, _⟩ => ⟨S256x256, .f32⟩
  | .local _ .vmem, ⟨0, _⟩ => ⟨S256x256, .f32⟩
  | .local _ .vmem, ⟨1, _⟩ => ⟨S256x256, .f32⟩
  | .local _ .vmem, ⟨2, _⟩ => ⟨S256x256, .f32⟩
  | .local _ .vmem, ⟨3, _⟩ => ⟨S256x256, .f32⟩
  | .local _ .vmem, ⟨4, _⟩ => ⟨S256x256, .f32⟩
  | .local _ .vmem, ⟨5, _⟩ => ⟨S256x256, .f32⟩
  | .local _ .vmem, ⟨6, _⟩ => ⟨S256x256, .f32⟩
  | .local _ .vmem, ⟨7, _⟩ => ⟨S256x256, .f32⟩
  | _, _ => ⟨S256x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨2, ![1, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 1 → Memref sig .tc .vmem S256x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true]

abbrev stage0_2 : Fin 1 → Memref sig .tc .vmem S256x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]

abbrev stage0_3 : Fin 1 → Memref sig .tc .vmem S256x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true]

abbrev stage0_4 : Fin 1 → Memref sig .tc .vmem S256x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, true]

abbrev stage0_5 : Fin 1 → Memref sig .tc .vmem S256x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, true]

abbrev stage0_6 : Fin 1 → Memref sig .tc .vmem S256x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, true]

abbrev stage0_7 : Fin 1 → Memref sig .tc .vmem S256x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true, true]
-- ==== ReferenceAdamwAttIdeal.lean ====
abbrev S256x256 : Shape := ⟨2, ![256, 256]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S256x256, .f32⟩
  | .hbm, ⟨1, _⟩ => ⟨S256x256, .f32⟩
  | .hbm, ⟨2, _⟩ => ⟨S256x256, .f32⟩
  | .hbm, ⟨3, _⟩ => ⟨S256x256, .f32⟩
  | .hbm, ⟨4, _⟩ => ⟨S_, .f32⟩
  | .hbm, ⟨5, _⟩ => ⟨S256x256, .f32⟩
  | .hbm, ⟨6, _⟩ => ⟨S256x256, .f32⟩
  | .hbm, ⟨7, _⟩ => ⟨S_, .f32⟩
  | .hbm, ⟨8, _⟩ => ⟨S256x256, .f32⟩
  | .hbm, ⟨9, _⟩ => ⟨S256x256, .f32⟩
  | .hbm, ⟨10, _⟩ => ⟨S256x256, .f32⟩
  | .hbm, ⟨11, _⟩ => ⟨S_, .f32⟩
  | .hbm, ⟨12, _⟩ => ⟨S256x256, .f32⟩
  | .hbm, ⟨13, _⟩ => ⟨S256x256, .f32⟩
  | .hbm, ⟨14, _⟩ => ⟨S256x256, .f32⟩
  | .hbm, ⟨15, _⟩ => ⟨S_, .f32⟩
  | .hbm, ⟨16, _⟩ => ⟨S256x256, .f32⟩
  | .hbm, ⟨17, _⟩ => ⟨S256x256, .f32⟩
  | .hbm, ⟨18, _⟩ => ⟨S256x256, .f32⟩
  | .hbm, ⟨19, _⟩ => ⟨S_, .f32⟩
  | .hbm, ⟨20, _⟩ => ⟨S256x256, .f32⟩
  | .hbm, ⟨21, _⟩ => ⟨S256x256, .f32⟩
  | .hbm, ⟨22, _⟩ => ⟨S_, .f32⟩
  | .hbm, ⟨23, _⟩ => ⟨S256x256, .f32⟩
  | .hbm, ⟨24, _⟩ => ⟨S256x256, .f32⟩
  | .hbm, ⟨25, _⟩ => ⟨S256x256, .f32⟩
  | .hbm, ⟨26, _⟩ => ⟨S_, .f32⟩
  | .hbm, ⟨27, _⟩ => ⟨S256x256, .f32⟩
  | .hbm, ⟨28, _⟩ => ⟨S256x256, .f32⟩
  | .hbm, ⟨29, _⟩ => ⟨S256x256, .f32⟩
  | .hbm, ⟨30, _⟩ => ⟨S_, .f32⟩
  | .hbm, ⟨31, _⟩ => ⟨S256x256, .f32⟩
  | .hbm, ⟨32, _⟩ => ⟨S256x256, .f32⟩
  | .hbm, ⟨33, _⟩ => ⟨S256x256, .f32⟩
  | .hbm, ⟨34, _⟩ => ⟨S_, .f32⟩
  | .hbm, ⟨35, _⟩ => ⟨S256x256, .f32⟩
  | .hbm, ⟨36, _⟩ => ⟨S256x256, .f32⟩
  | _, _ => ⟨S256x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== KernelAdamwPool.lean ====
abbrev S768x256 : Shape := ⟨2, ![768, 256]⟩
abbrev S384x256 : Shape := ⟨2, ![384, 256]⟩

abbrev nBuf : Space → Nat
  | .hbm => 8
  | .vmem => 16
  | .smem => 0
  | _ => 0

abbrev bufTy : (tb : Table) → Fin (tcTables nBuf tb) → BufTy
  | .hbm, ⟨0, _⟩ => ⟨S768x256, .f32⟩
  | .hbm, ⟨1, _⟩ => ⟨S768x256, .f32⟩
  | .hbm, ⟨2, _⟩ => ⟨S768x256, .f32⟩
  | .hbm, ⟨3, _⟩ => ⟨S768x256, .f32⟩
  | .hbm, ⟨4, _⟩ => ⟨S768x256, .f32⟩
  | .hbm, ⟨5, _⟩ => ⟨S768x256, .f32⟩
  | .hbm, ⟨6, _⟩ => ⟨S768x256, .f32⟩
  | .hbm, ⟨7, _⟩ => ⟨S768x256, .f32⟩
  | .local _ .vmem, ⟨0, _⟩ => ⟨S384x256, .f32⟩
  | .local _ .vmem, ⟨1, _⟩ => ⟨S384x256, .f32⟩
  | .local _ .vmem, ⟨2, _⟩ => ⟨S384x256, .f32⟩
  | .local _ .vmem, ⟨3, _⟩ => ⟨S384x256, .f32⟩
  | .local _ .vmem, ⟨4, _⟩ => ⟨S384x256, .f32⟩
  | .local _ .vmem, ⟨5, _⟩ => ⟨S384x256, .f32⟩
  | .local _ .vmem, ⟨6, _⟩ => ⟨S384x256, .f32⟩
  | .local _ .vmem, ⟨7, _⟩ => ⟨S384x256, .f32⟩
  | .local _ .vmem, ⟨8, _⟩ => ⟨S384x256, .f32⟩
  | .local _ .vmem, ⟨9, _⟩ => ⟨S384x256, .f32⟩
  | .local _ .vmem, ⟨10, _⟩ => ⟨S384x256, .f32⟩
  | .local _ .vmem, ⟨11, _⟩ => ⟨S384x256, .f32⟩
  | .local _ .vmem, ⟨12, _⟩ => ⟨S384x256, .f32⟩
  | .local _ .vmem, ⟨13, _⟩ => ⟨S384x256, .f32⟩
  | .local _ .vmem, ⟨14, _⟩ => ⟨S384x256, .f32⟩
  | .local _ .vmem, ⟨15, _⟩ => ⟨S384x256, .f32⟩
  | _, _ => ⟨S768x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![1, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S384x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S384x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S384x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S384x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S384x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S384x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S384x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S384x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== KernelAdamwPoolIdeal.lean ====
abbrev S768x256 : Shape := ⟨2, ![768, 256]⟩
abbrev S384x256 : Shape := ⟨2, ![384, 256]⟩

abbrev nBuf : Space → Nat
  | .hbm => 8
  | .vmem => 16
  | .smem => 0
  | _ => 0

abbrev bufTy : (tb : Table) → Fin (tcTables nBuf tb) → BufTy
  | .hbm, ⟨0, _⟩ => ⟨S768x256, .f32⟩
  | .hbm, ⟨1, _⟩ => ⟨S768x256, .f32⟩
  | .hbm, ⟨2, _⟩ => ⟨S768x256, .f32⟩
  | .hbm, ⟨3, _⟩ => ⟨S768x256, .f32⟩
  | .hbm, ⟨4, _⟩ => ⟨S768x256, .f32⟩
  | .hbm, ⟨5, _⟩ => ⟨S768x256, .f32⟩
  | .hbm, ⟨6, _⟩ => ⟨S768x256, .f32⟩
  | .hbm, ⟨7, _⟩ => ⟨S768x256, .f32⟩
  | .local _ .vmem, ⟨0, _⟩ => ⟨S384x256, .f32⟩
  | .local _ .vmem, ⟨1, _⟩ => ⟨S384x256, .f32⟩
  | .local _ .vmem, ⟨2, _⟩ => ⟨S384x256, .f32⟩
  | .local _ .vmem, ⟨3, _⟩ => ⟨S384x256, .f32⟩
  | .local _ .vmem, ⟨4, _⟩ => ⟨S384x256, .f32⟩
  | .local _ .vmem, ⟨5, _⟩ => ⟨S384x256, .f32⟩
  | .local _ .vmem, ⟨6, _⟩ => ⟨S384x256, .f32⟩
  | .local _ .vmem, ⟨7, _⟩ => ⟨S384x256, .f32⟩
  | .local _ .vmem, ⟨8, _⟩ => ⟨S384x256, .f32⟩
  | .local _ .vmem, ⟨9, _⟩ => ⟨S384x256, .f32⟩
  | .local _ .vmem, ⟨10, _⟩ => ⟨S384x256, .f32⟩
  | .local _ .vmem, ⟨11, _⟩ => ⟨S384x256, .f32⟩
  | .local _ .vmem, ⟨12, _⟩ => ⟨S384x256, .f32⟩
  | .local _ .vmem, ⟨13, _⟩ => ⟨S384x256, .f32⟩
  | .local _ .vmem, ⟨14, _⟩ => ⟨S384x256, .f32⟩
  | .local _ .vmem, ⟨15, _⟩ => ⟨S384x256, .f32⟩
  | _, _ => ⟨S768x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![1, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S384x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S384x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S384x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S384x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S384x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S384x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S384x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S384x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== ReferenceAdamwPoolIdeal.lean ====
abbrev S768x256 : Shape := ⟨2, ![768, 256]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S768x256, .f32⟩
  | .hbm, ⟨1, _⟩ => ⟨S768x256, .f32⟩
  | .hbm, ⟨2, _⟩ => ⟨S768x256, .f32⟩
  | .hbm, ⟨3, _⟩ => ⟨S768x256, .f32⟩
  | .hbm, ⟨4, _⟩ => ⟨S_, .f32⟩
  | .hbm, ⟨5, _⟩ => ⟨S768x256, .f32⟩
  | .hbm, ⟨6, _⟩ => ⟨S768x256, .f32⟩
  | .hbm, ⟨7, _⟩ => ⟨S_, .f32⟩
  | .hbm, ⟨8, _⟩ => ⟨S768x256, .f32⟩
  | .hbm, ⟨9, _⟩ => ⟨S768x256, .f32⟩
  | .hbm, ⟨10, _⟩ => ⟨S768x256, .f32⟩
  | .hbm, ⟨11, _⟩ => ⟨S_, .f32⟩
  | .hbm, ⟨12, _⟩ => ⟨S768x256, .f32⟩
  | .hbm, ⟨13, _⟩ => ⟨S768x256, .f32⟩
  | .hbm, ⟨14, _⟩ => ⟨S768x256, .f32⟩
  | .hbm, ⟨15, _⟩ => ⟨S_, .f32⟩
  | .hbm, ⟨16, _⟩ => ⟨S768x256, .f32⟩
  | .hbm, ⟨17, _⟩ => ⟨S768x256, .f32⟩
  | .hbm, ⟨18, _⟩ => ⟨S768x256, .f32⟩
  | .hbm, ⟨19, _⟩ => ⟨S_, .f32⟩
  | .hbm, ⟨20, _⟩ => ⟨S768x256, .f32⟩
  | .hbm, ⟨21, _⟩ => ⟨S768x256, .f32⟩
  | .hbm, ⟨22, _⟩ => ⟨S_, .f32⟩
  | .hbm, ⟨23, _⟩ => ⟨S768x256, .f32⟩
  | .hbm, ⟨24, _⟩ => ⟨S768x256, .f32⟩
  | .hbm, ⟨25, _⟩ => ⟨S768x256, .f32⟩
  | .hbm, ⟨26, _⟩ => ⟨S_, .f32⟩
  | .hbm, ⟨27, _⟩ => ⟨S768x256, .f32⟩
  | .hbm, ⟨28, _⟩ => ⟨S768x256, .f32⟩
  | .hbm, ⟨29, _⟩ => ⟨S768x256, .f32⟩
  | .hbm, ⟨30, _⟩ => ⟨S_, .f32⟩
  | .hbm, ⟨31, _⟩ => ⟨S768x256, .f32⟩
  | .hbm, ⟨32, _⟩ => ⟨S768x256, .f32⟩
  | .hbm, ⟨33, _⟩ => ⟨S768x256, .f32⟩
  | .hbm, ⟨34, _⟩ => ⟨S_, .f32⟩
  | .hbm, ⟨35, _⟩ => ⟨S768x256, .f32⟩
  | .hbm, ⟨36, _⟩ => ⟨S768x256, .f32⟩
  | _, _ => ⟨S768x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== KernelAdamwOut.lean ====
abbrev S256x1024 : Shape := ⟨2, ![256, 1024]⟩

abbrev nBuf : Space → Nat
  | .hbm => 8
  | .vmem => 8
  | .smem => 0
  | _ => 0

abbrev bufTy : (tb : Table) → Fin (tcTables nBuf tb) → BufTy
  | .hbm, ⟨0, _⟩ => ⟨S256x1024, .f32⟩
  | .hbm, ⟨1, _⟩ => ⟨S256x1024, .f32⟩
  | .hbm, ⟨2, _⟩ => ⟨S256x1024, .f32⟩
  | .hbm, ⟨3, _⟩ => ⟨S256x1024, .f32⟩
  | .hbm, ⟨4, _⟩ => ⟨S256x1024, .f32⟩
  | .hbm, ⟨5, _⟩ => ⟨S256x1024, .f32⟩
  | .hbm, ⟨6, _⟩ => ⟨S256x1024, .f32⟩
  | .hbm, ⟨7, _⟩ => ⟨S256x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨2, ![1, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S256x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true]

abbrev stage0_2 : Fin 1 → Memref sig .tc .vmem S256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]

abbrev stage0_3 : Fin 1 → Memref sig .tc .vmem S256x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true]

abbrev stage0_4 : Fin 1 → Memref sig .tc .vmem S256x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, true]

abbrev stage0_5 : Fin 1 → Memref sig .tc .vmem S256x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, true]

abbrev stage0_6 : Fin 1 → Memref sig .tc .vmem S256x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, true]

abbrev stage0_7 : Fin 1 → Memref sig .tc .vmem S256x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true, true]
-- ==== KernelAdamwOutIdeal.lean ====
abbrev S256x1024 : Shape := ⟨2, ![256, 1024]⟩

abbrev nBuf : Space → Nat
  | .hbm => 8
  | .vmem => 8
  | .smem => 0
  | _ => 0

abbrev bufTy : (tb : Table) → Fin (tcTables nBuf tb) → BufTy
  | .hbm, ⟨0, _⟩ => ⟨S256x1024, .f32⟩
  | .hbm, ⟨1, _⟩ => ⟨S256x1024, .f32⟩
  | .hbm, ⟨2, _⟩ => ⟨S256x1024, .f32⟩
  | .hbm, ⟨3, _⟩ => ⟨S256x1024, .f32⟩
  | .hbm, ⟨4, _⟩ => ⟨S256x1024, .f32⟩
  | .hbm, ⟨5, _⟩ => ⟨S256x1024, .f32⟩
  | .hbm, ⟨6, _⟩ => ⟨S256x1024, .f32⟩
  | .hbm, ⟨7, _⟩ => ⟨S256x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨2, ![1, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S256x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true]

abbrev stage0_2 : Fin 1 → Memref sig .tc .vmem S256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]

abbrev stage0_3 : Fin 1 → Memref sig .tc .vmem S256x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true]

abbrev stage0_4 : Fin 1 → Memref sig .tc .vmem S256x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, true]

abbrev stage0_5 : Fin 1 → Memref sig .tc .vmem S256x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, true]

abbrev stage0_6 : Fin 1 → Memref sig .tc .vmem S256x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, true]

abbrev stage0_7 : Fin 1 → Memref sig .tc .vmem S256x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true, true]
-- ==== ReferenceAdamwOutIdeal.lean ====
abbrev S256x1024 : Shape := ⟨2, ![256, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S256x1024, .f32⟩
  | .hbm, ⟨1, _⟩ => ⟨S256x1024, .f32⟩
  | .hbm, ⟨2, _⟩ => ⟨S256x1024, .f32⟩
  | .hbm, ⟨3, _⟩ => ⟨S256x1024, .f32⟩
  | .hbm, ⟨4, _⟩ => ⟨S_, .f32⟩
  | .hbm, ⟨5, _⟩ => ⟨S256x1024, .f32⟩
  | .hbm, ⟨6, _⟩ => ⟨S256x1024, .f32⟩
  | .hbm, ⟨7, _⟩ => ⟨S_, .f32⟩
  | .hbm, ⟨8, _⟩ => ⟨S256x1024, .f32⟩
  | .hbm, ⟨9, _⟩ => ⟨S256x1024, .f32⟩
  | .hbm, ⟨10, _⟩ => ⟨S256x1024, .f32⟩
  | .hbm, ⟨11, _⟩ => ⟨S_, .f32⟩
  | .hbm, ⟨12, _⟩ => ⟨S256x1024, .f32⟩
  | .hbm, ⟨13, _⟩ => ⟨S256x1024, .f32⟩
  | .hbm, ⟨14, _⟩ => ⟨S256x1024, .f32⟩
  | .hbm, ⟨15, _⟩ => ⟨S_, .f32⟩
  | .hbm, ⟨16, _⟩ => ⟨S256x1024, .f32⟩
  | .hbm, ⟨17, _⟩ => ⟨S256x1024, .f32⟩
  | .hbm, ⟨18, _⟩ => ⟨S256x1024, .f32⟩
  | .hbm, ⟨19, _⟩ => ⟨S_, .f32⟩
  | .hbm, ⟨20, _⟩ => ⟨S256x1024, .f32⟩
  | .hbm, ⟨21, _⟩ => ⟨S256x1024, .f32⟩
  | .hbm, ⟨22, _⟩ => ⟨S_, .f32⟩
  | .hbm, ⟨23, _⟩ => ⟨S256x1024, .f32⟩
  | .hbm, ⟨24, _⟩ => ⟨S256x1024, .f32⟩
  | .hbm, ⟨25, _⟩ => ⟨S256x1024, .f32⟩
  | .hbm, ⟨26, _⟩ => ⟨S_, .f32⟩
  | .hbm, ⟨27, _⟩ => ⟨S256x1024, .f32⟩
  | .hbm, ⟨28, _⟩ => ⟨S256x1024, .f32⟩
  | .hbm, ⟨29, _⟩ => ⟨S256x1024, .f32⟩
  | .hbm, ⟨30, _⟩ => ⟨S_, .f32⟩
  | .hbm, ⟨31, _⟩ => ⟨S256x1024, .f32⟩
  | .hbm, ⟨32, _⟩ => ⟨S256x1024, .f32⟩
  | .hbm, ⟨33, _⟩ => ⟨S256x1024, .f32⟩
  | .hbm, ⟨34, _⟩ => ⟨S_, .f32⟩
  | .hbm, ⟨35, _⟩ => ⟨S256x1024, .f32⟩
  | .hbm, ⟨36, _⟩ => ⟨S256x1024, .f32⟩
  | _, _ => ⟨S256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== KernelAdamwMlp.lean ====
abbrev S1024x1024 : Shape := ⟨2, ![1024, 1024]⟩
abbrev S512x1024 : Shape := ⟨2, ![512, 1024]⟩

abbrev nBuf : Space → Nat
  | .hbm => 8
  | .vmem => 16
  | .smem => 0
  | _ => 0

abbrev bufTy : (tb : Table) → Fin (tcTables nBuf tb) → BufTy
  | .hbm, ⟨0, _⟩ => ⟨S1024x1024, .f32⟩
  | .hbm, ⟨1, _⟩ => ⟨S1024x1024, .f32⟩
  | .hbm, ⟨2, _⟩ => ⟨S1024x1024, .f32⟩
  | .hbm, ⟨3, _⟩ => ⟨S1024x1024, .f32⟩
  | .hbm, ⟨4, _⟩ => ⟨S1024x1024, .f32⟩
  | .hbm, ⟨5, _⟩ => ⟨S1024x1024, .f32⟩
  | .hbm, ⟨6, _⟩ => ⟨S1024x1024, .f32⟩
  | .hbm, ⟨7, _⟩ => ⟨S1024x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .f32⟩
  | .local _ .vmem, ⟨13, _⟩ => ⟨S512x1024, .f32⟩
  | .local _ .vmem, ⟨14, _⟩ => ⟨S512x1024, .f32⟩
  | .local _ .vmem, ⟨15, _⟩ => ⟨S512x1024, .f32⟩
  | _, _ => ⟨S1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![1, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== ReferenceAdamwMlpIdeal.lean ====
abbrev S1024x1024 : Shape := ⟨2, ![1024, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1024x1024, .f32⟩
  | .hbm, ⟨1, _⟩ => ⟨S1024x1024, .f32⟩
  | .hbm, ⟨2, _⟩ => ⟨S1024x1024, .f32⟩
  | .hbm, ⟨3, _⟩ => ⟨S1024x1024, .f32⟩
  | .hbm, ⟨4, _⟩ => ⟨S_, .f32⟩
  | .hbm, ⟨5, _⟩ => ⟨S1024x1024, .f32⟩
  | .hbm, ⟨6, _⟩ => ⟨S1024x1024, .f32⟩
  | .hbm, ⟨7, _⟩ => ⟨S_, .f32⟩
  | .hbm, ⟨8, _⟩ => ⟨S1024x1024, .f32⟩
  | .hbm, ⟨9, _⟩ => ⟨S1024x1024, .f32⟩
  | .hbm, ⟨10, _⟩ => ⟨S1024x1024, .f32⟩
  | .hbm, ⟨11, _⟩ => ⟨S_, .f32⟩
  | .hbm, ⟨12, _⟩ => ⟨S1024x1024, .f32⟩
  | .hbm, ⟨13, _⟩ => ⟨S1024x1024, .f32⟩
  | .hbm, ⟨14, _⟩ => ⟨S1024x1024, .f32⟩
  | .hbm, ⟨15, _⟩ => ⟨S_, .f32⟩
  | .hbm, ⟨16, _⟩ => ⟨S1024x1024, .f32⟩
  | .hbm, ⟨17, _⟩ => ⟨S1024x1024, .f32⟩
  | .hbm, ⟨18, _⟩ => ⟨S1024x1024, .f32⟩
  | .hbm, ⟨19, _⟩ => ⟨S_, .f32⟩
  | .hbm, ⟨20, _⟩ => ⟨S1024x1024, .f32⟩
  | .hbm, ⟨21, _⟩ => ⟨S1024x1024, .f32⟩
  | .hbm, ⟨22, _⟩ => ⟨S_, .f32⟩
  | .hbm, ⟨23, _⟩ => ⟨S1024x1024, .f32⟩
  | .hbm, ⟨24, _⟩ => ⟨S1024x1024, .f32⟩
  | .hbm, ⟨25, _⟩ => ⟨S1024x1024, .f32⟩
  | .hbm, ⟨26, _⟩ => ⟨S_, .f32⟩
  | .hbm, ⟨27, _⟩ => ⟨S1024x1024, .f32⟩
  | .hbm, ⟨28, _⟩ => ⟨S1024x1024, .f32⟩
  | .hbm, ⟨29, _⟩ => ⟨S1024x1024, .f32⟩
  | .hbm, ⟨30, _⟩ => ⟨S_, .f32⟩
  | .hbm, ⟨31, _⟩ => ⟨S1024x1024, .f32⟩
  | .hbm, ⟨32, _⟩ => ⟨S1024x1024, .f32⟩
  | .hbm, ⟨33, _⟩ => ⟨S1024x1024, .f32⟩
  | .hbm, ⟨34, _⟩ => ⟨S_, .f32⟩
  | .hbm, ⟨35, _⟩ => ⟨S1024x1024, .f32⟩
  | .hbm, ⟨36, _⟩ => ⟨S1024x1024, .f32⟩
  | _, _ => ⟨S1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== KernelSmall.lean ====
abbrev S8x184x1024 : Shape := ⟨3, ![8, 184, 1024]⟩
abbrev S8x8x1024 : Shape := ⟨3, ![8, 8, 1024]⟩
abbrev S184x1024 : Shape := ⟨2, ![184, 1024]⟩
abbrev S8x128 : Shape := ⟨2, ![8, 128]⟩
abbrev S1x184x1024 : Shape := ⟨3, ![1, 184, 1024]⟩
abbrev S1x8x1024 : Shape := ⟨3, ![1, 8, 1024]⟩
abbrev S8x1024 : Shape := ⟨2, ![8, 1024]⟩
abbrev S1x1024 : Shape := ⟨2, ![1, 1024]⟩
abbrev S1x1x1024 : Shape := ⟨3, ![1, 1, 1024]⟩
abbrev S1 : Shape := ⟨1, ![1]⟩
abbrev S1x1x1 : Shape := ⟨3, ![1, 1, 1]⟩

abbrev nBuf : Space → Nat
  | .hbm => 10
  | .vmem => 10
  | .smem => 0
  | _ => 0

abbrev bufTy : (tb : Table) → Fin (tcTables nBuf tb) → BufTy
  | .hbm, ⟨0, _⟩ => ⟨S8x184x1024, .f32⟩
  | .hbm, ⟨1, _⟩ => ⟨S8x8x1024, .f32⟩
  | .hbm, ⟨2, _⟩ => ⟨S184x1024, .f32⟩
  | .hbm, ⟨3, _⟩ => ⟨S184x1024, .f32⟩
  | .hbm, ⟨4, _⟩ => ⟨S184x1024, .f32⟩
  | .hbm, ⟨5, _⟩ => ⟨S184x1024, .f32⟩
  | .hbm, ⟨6, _⟩ => ⟨S184x1024, .f32⟩
  | .hbm, ⟨7, _⟩ => ⟨S184x1024, .f32⟩
  | .hbm, ⟨8, _⟩ => ⟨S184x1024, .f32⟩
  | .hbm, ⟨9, _⟩ => ⟨S8x128, .f32⟩
  | .local _ .vmem, ⟨0, _⟩ => ⟨S8x184x1024, .f32⟩
  | .local _ .vmem, ⟨1, _⟩ => ⟨S8x8x1024, .f32⟩
  | .local _ .vmem, ⟨2, _⟩ => ⟨S184x1024, .f32⟩
  | .local _ .vmem, ⟨3, _⟩ => ⟨S184x1024, .f32⟩
  | .local _ .vmem, ⟨4, _⟩ => ⟨S184x1024, .f32⟩
  | .local _ .vmem, ⟨5, _⟩ => ⟨S184x1024, .f32⟩
  | .local _ .vmem, ⟨6, _⟩ => ⟨S184x1024, .f32⟩
  | .local _ .vmem, ⟨7, _⟩ => ⟨S184x1024, .f32⟩
  | .local _ .vmem, ⟨8, _⟩ => ⟨S184x1024, .f32⟩
  | .local _ .vmem, ⟨9, _⟩ => ⟨S8x128, .f32⟩
  | _, _ => ⟨S8x184x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_v0_4 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S8x184x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S8x8x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S184x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S184x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S184x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S184x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S184x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S184x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S184x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S8x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== ReferenceSmallIdeal.lean ====
abbrev S8x184x1024 : Shape := ⟨3, ![8, 184, 1024]⟩
abbrev S8x8x1024 : Shape := ⟨3, ![8, 8, 1024]⟩
abbrev S184x1024 : Shape := ⟨2, ![184, 1024]⟩
abbrev S_ : Shape := ⟨0, ![]⟩
abbrev S152x1024 : Shape := ⟨2, ![152, 1024]⟩
abbrev S8x1024 : Shape := ⟨2, ![8, 1024]⟩
abbrev S24x1024 : Shape := ⟨2, ![24, 1024]⟩
abbrev S1x1024 : Shape := ⟨2, ![1, 1024]⟩
abbrev S1024 : Shape := ⟨1, ![1024]⟩
abbrev S8x128 : Shape := ⟨2, ![8, 128]⟩

abbrev nBuf : Space → Nat
  | .hbm => 54
  | .vmem => 0
  | .smem => 0
  | _ => 0

abbrev bufTy : (tb : Table) → Fin (tcTables nBuf tb) → BufTy
  | .hbm, ⟨0, _⟩ => ⟨S8x184x1024, .f32⟩
  | .hbm, ⟨1, _⟩ => ⟨S8x8x1024, .f32⟩
  | .hbm, ⟨2, _⟩ => ⟨S184x1024, .f32⟩
  | .hbm, ⟨3, _⟩ => ⟨S184x1024, .f32⟩
  | .hbm, ⟨4, _⟩ => ⟨S184x1024, .f32⟩
  | .hbm, ⟨5, _⟩ => ⟨S_, .f32⟩
  | .hbm, ⟨6, _⟩ => ⟨S184x1024, .f32⟩
  | .hbm, ⟨7, _⟩ => ⟨S152x1024, .f32⟩
  | .hbm, ⟨8, _⟩ => ⟨S_, .f32⟩
  | .hbm, ⟨9, _⟩ => ⟨S8x1024, .f32⟩
  | .hbm, ⟨10, _⟩ => ⟨S24x1024, .f32⟩
  | .hbm, ⟨11, _⟩ => ⟨S184x1024, .f32⟩
  | .hbm, ⟨12, _⟩ => ⟨S_, .f32⟩
  | .hbm, ⟨13, _⟩ => ⟨S184x1024, .f32⟩
  | .hbm, ⟨14, _⟩ => ⟨S184x1024, .f32⟩
  | .hbm, ⟨15, _⟩ => ⟨S_, .f32⟩
  | .hbm, ⟨16, _⟩ => ⟨S184x1024, .f32⟩
  | .hbm, ⟨17, _⟩ => ⟨S184x1024, .f32⟩
  | .hbm, ⟨18, _⟩ => ⟨S184x1024, .f32⟩
  | .hbm, ⟨19, _⟩ => ⟨S_, .f32⟩
  | .hbm, ⟨20, _⟩ => ⟨S184x1024, .f32⟩
  | .hbm, ⟨21, _⟩ => ⟨S184x1024, .f32⟩
  | .hbm, ⟨22, _⟩ => ⟨S184x1024, .f32⟩
  | .hbm, ⟨23, _⟩ => ⟨S_, .f32⟩
  | .hbm, ⟨24, _⟩ => ⟨S184x1024, .f32⟩
  | .hbm, ⟨25, _⟩ => ⟨S184x1024, .f32⟩
  | .hbm, ⟨26, _⟩ => ⟨S184x1024, .f32⟩
  | .hbm, ⟨27, _⟩ => ⟨S_, .f32⟩
  | .hbm, ⟨28, _⟩ => ⟨S184x1024, .f32⟩
  | .hbm, ⟨29, _⟩ => ⟨S184x1024, .f32⟩
  | .hbm, ⟨30, _⟩ => ⟨S_, .f32⟩
  | .hbm, ⟨31, _⟩ => ⟨S184x1024, .f32⟩
  | .hbm, ⟨32, _⟩ => ⟨S184x1024, .f32⟩
  | .hbm, ⟨33, _⟩ => ⟨S184x1024, .f32⟩
  | .hbm, ⟨34, _⟩ => ⟨S_, .f32⟩
  | .hbm, ⟨35, _⟩ => ⟨S184x1024, .f32⟩
  | .hbm, ⟨36, _⟩ => ⟨S184x1024, .f32⟩
  | .hbm, ⟨37, _⟩ => ⟨S184x1024, .f32⟩
  | .hbm, ⟨38, _⟩ => ⟨S_, .f32⟩
  | .hbm, ⟨39, _⟩ => ⟨S184x1024, .f32⟩
  | .hbm, ⟨40, _⟩ => ⟨S184x1024, .f32⟩
  | .hbm, ⟨41, _⟩ => ⟨S184x1024, .f32⟩
  | .hbm, ⟨42, _⟩ => ⟨S_, .f32⟩
  | .hbm, ⟨43, _⟩ => ⟨S184x1024, .f32⟩
  | .hbm, ⟨44, _⟩ => ⟨S184x1024, .f32⟩
  | .hbm, ⟨45, _⟩ => ⟨S1x1024, .f32⟩
  | .hbm, ⟨46, _⟩ => ⟨S1024, .f32⟩
  | .hbm, ⟨47, _⟩ => ⟨S_, .f32⟩
  | .hbm, ⟨48, _⟩ => ⟨S_, .f32⟩
  | .hbm, ⟨49, _⟩ => ⟨S_, .f32⟩
  | .hbm, ⟨50, _⟩ => ⟨S_, .f32⟩
  | .hbm, ⟨51, _⟩ => ⟨S_, .f32⟩
  | .hbm, ⟨52, _⟩ => ⟨S_, .f32⟩
  | .hbm, ⟨53, _⟩ => ⟨S8x128, .f32⟩
  | _, _ => ⟨S8x184x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_cst_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_cst_2 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_3 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_4 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_5 : Ref sig .tc := ⟨.hbm, 27, rfl⟩
abbrev main_v16 : Ref sig .tc := ⟨.hbm, 28, rfl⟩
abbrev main_v17 : Ref sig .tc := ⟨.hbm, 29, rfl⟩
abbrev main_cst_6 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_cst_7 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_cst_8 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_cst_9 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_cst_10 : Ref sig .tc := ⟨.hbm, 47, rfl⟩
abbrev main_v31 : Ref sig .tc := ⟨.hbm, 48, rfl⟩
abbrev main_cst_11 : Ref sig .tc := ⟨.hbm, 49, rfl⟩
abbrev main_v32 : Ref sig .tc := ⟨.hbm, 50, rfl⟩
abbrev main_cst_12 : Ref sig .tc := ⟨.hbm, 51, rfl⟩
abbrev main_v33 : Ref sig .tc := ⟨.hbm, 52, rfl⟩
abbrev main_v34 : Ref sig .tc := ⟨.hbm, 53, rfl⟩

abbrev nD : Nat := 1
abbrev τ : Topo := Topo.v7x

variable {F : FTy → Type} [FloatOps F]
-- ==== Proof.Common.lean ====
/- Sums in blocks, and a matrix read at two natural numbers: shared by the value proofs of this directory. -/
module

public import Idealize.ShloMosaic.Lib.Tactic
public import Idealize.ShloMosaic.Lib.Pointwise
public import Idealize.ShloMosaic.PureOps.Ideal

@[expose] public section

noncomputable section

namespace Cert.Own

open Idealize.ShloMosaic

/-- A matrix read at two natural numbers, zero outside it. -/
def at2 {a b : ℕ} (x : (⟨2, ![a, b]⟩ : Shape).Idx → EReal) (i j : ℕ) : EReal :=
  if h : i < a ∧ j < b then x (ix2 ⟨i, h.1⟩ ⟨j, h.2⟩) else 0

theorem at2_eq {a b : ℕ} (x : (⟨2, ![a, b]⟩ : Shape).Idx → EReal) (i : Fin a) (j : Fin b) : x (ix2 i j) = at2 x i j := by
  rw [at2, dif_pos ⟨i.isLt, j.isLt⟩]

theorem at2_of {a b : ℕ} (x : (⟨2, ![a, b]⟩ : Shape).Idx → EReal) {i j : ℕ} (hi : i < a) (hj : j < b) :
    at2 x i j = x (ix2 ⟨i, hi⟩ ⟨j, hj⟩) := by
  rw [at2, dif_pos ⟨hi, hj⟩]

/-- A sum over `n * K` numbers is the sum over `n` blocks of the sums over `K` numbers. -/
theorem sum_range_blocks {M : Type*} [AddCommMonoid M] (K : ℕ) (f : ℕ → M) : ∀ n : ℕ,
    ∑ k ∈ Finset.range n, ∑ r ∈ Finset.range K, f (K * k + r) = ∑ s ∈ Finset.range (K * n), f s
  | 0 => by simp
  | n + 1 => by rw [Finset.sum_range_succ, sum_range_blocks K f n, Nat.mul_succ, Finset.sum_range_add]

end Cert.Own

end
-- ==== Proof.Norm.lean ====
/- Extended reals that are real, the constants of the programs, and the gradient of the root-mean-square norm. -/
module

public import proofs.«01_k».proof.Proof.Common
public import Idealize.ShloMosaic.Lib.Tactic
public import Idealize.ShloMosaic.Lib.Pointwise
public import Idealize.ShloMosaic.Lib.IdealHost
public import Idealize.ShloMosaic.PureOps.Ideal

@[expose] public section

noncomputable section

namespace Cert.Own

open Idealize.ShloMosaic

/-- An extended real that is a real number. -/
def IsReal (x : EReal) : Prop := ∃ r : ℝ, x = (r : EReal)

theorem isReal_of {x : EReal} (h1 : x ≠ ⊤) (h2 : x ≠ ⊥) : IsReal x := ⟨x.toReal, (EReal.coe_toReal h1 h2).symm⟩

theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem c1024 : Ideal.ofBits FTy.f32 0x44800000#32 = ((1024 : ℝ) : EReal) := by
  simp [Ideal.ofBits, Ideal.ieee]
  rw [← EReal.coe_mul]; norm_num

theorem c2 : Ideal.ofBits FTy.f32 0x40000000#32 = ((2 : ℝ) : EReal) := by
  simp [Ideal.ofBits, Ideal.ieee]
  rw [← EReal.coe_mul]; norm_num

theorem cnegHalf : Ideal.ofBits FTy.f32 0xBF000000#32 = ((-1 / 2 : ℝ) : EReal) := by
  simp [Ideal.ofBits, Ideal.ieee]
  rw [← EReal.coe_mul]; norm_num

theorem ceps : ∃ e : ℝ, 0 < e ∧ Ideal.ofBits FTy.f32 0x358637BD#32 = (e : EReal) := by
  refine ⟨(8796093 / 2 ^ 43 : ℝ), by norm_num, ?_⟩
  simp [Ideal.ofBits, Ideal.ieee]
  rw [← EReal.coe_mul]; norm_num

/-- The mean of the squares of a row, a small number added: a positive real. -/
theorem meanSq_pos {ι : Type*} [Fintype ι] (x : ι → EReal) (hx : ∀ k, IsReal (x k)) : ∃ a : ℝ, 0 < a ∧
    Ideal.div (∑ k, x k * x k) (Ideal.ofBits FTy.f32 0x44800000#32) + Ideal.ofBits FTy.f32 0x358637BD#32 = (a : EReal) := by
  choose y hy using hx
  obtain ⟨e, he, hc⟩ := ceps
  refine ⟨(∑ k, y k * y k) * (1 / 1024) + e, ?_, ?_⟩
  · have : 0 ≤ ∑ k, y k * y k := Finset.sum_nonneg fun k _ => mul_self_nonneg _
    positivity
  · rw [c1024, Ideal.div_coe (by norm_num), hc, EReal.coe_add, EReal.coe_mul, coe_sum]
    simp only [hy, EReal.coe_mul]

theorem rsqrt_pos {a : ℝ} (h : 0 < a) : Ideal.rsqrt (a : EReal) = (((Real.sqrt a)⁻¹ : ℝ) : EReal) := by
  rw [Ideal.rsqrt_coe, if_neg (not_lt.2 h.le), if_neg h.ne']

/-- A nonnegative real distributes over every sum of two. -/
theorem coe_mul_add {c : ℝ} (hc : 0 ≤ c) (y z : EReal) : (c : EReal) * (y + z) = c * y + c * z :=
  EReal.left_distrib_of_nonneg_of_ne_top (EReal.coe_nonneg.2 hc) (EReal.coe_ne_top c) y z

/-- A sum times a nonnegative real is the sum of the products, whatever the terms. -/
theorem sum_mul_coe {ι : Type*} (s : Finset ι) (f : ι → EReal) {c : ℝ} (hc : 0 ≤ c) : (∑ k ∈ s, f k) * (c : EReal) = ∑ k ∈ s, f k * (c : EReal) := by
  classical
  induction s using Finset.induction_on with
  | empty => simp
  | insert a s ha ih => rw [Finset.sum_insert ha, Finset.sum_insert ha, mul_comm, coe_mul_add hc, mul_comm _ (f a), mul_comm (c : EReal), ih]

/-- The last step of the norm's gradient: a real times a sum of terms, in three parts or in two. -/
theorem norm_step (s y b : ℝ) (hs : 0 < s) (hb : 0 < b) (hsb : s * s = 1 / b) (d T : EReal) :
    (s : EReal) * (d - (y : EReal) * (s : EReal) * (T * (s : EReal) * ((1 / 1024 : ℝ) : EReal)))
      = d * (s : EReal) + (y : EReal) * (T * (((-1 / 2 : ℝ) : EReal) * ((s : EReal) * ((1 / b : ℝ) : EReal))) * ((1 / 1024 : ℝ) : EReal))
        + T * (((-1 / 2 : ℝ) : EReal) * ((s : EReal) * ((1 / b : ℝ) : EReal))) * ((1 / 1024 : ℝ) : EReal) * (y : EReal) := by
  have hn : (-1 / 2 : ℝ) * (s * (1 / b)) < 0 := mul_neg_of_neg_of_pos (by norm_num) (by positivity)
  rw [sub_eq_add_neg, coe_mul_add hs.le, mul_comm (s : EReal) d, add_assoc]
  congr 1
  induction T with
  | coe t =>
    simp only [← EReal.coe_mul, ← EReal.coe_add, ← EReal.coe_neg]
    refine congrArg _ ?_
    rw [← hsb]; ring
  | top =>
    simp only [← EReal.coe_mul]
    rw [EReal.top_mul_coe_of_pos hs, EReal.top_mul_coe_of_pos (by norm_num), EReal.top_mul_coe_of_neg hn, EReal.bot_mul_coe_of_pos (by norm_num)]
    rcases lt_trichotomy y 0 with h | h | h
    · rw [EReal.coe_mul_top_of_neg (mul_neg_of_neg_of_pos h hs), EReal.coe_mul_bot_of_neg h, EReal.bot_mul_coe_of_neg h, EReal.neg_bot, EReal.coe_mul_top_of_pos hs]; rfl
    · subst h; simp
    · rw [EReal.coe_mul_top_of_pos (mul_pos h hs), EReal.coe_mul_bot_of_pos h, EReal.bot_mul_coe_of_pos h, EReal.neg_top, EReal.coe_mul_bot_of_pos hs]; rfl
  | bot =>
    simp only [← EReal.coe_mul]
    rw [EReal.bot_mul_coe_of_pos hs, EReal.bot_mul_coe_of_pos (by norm_num), EReal.bot_mul_coe_of_neg hn, EReal.top_mul_coe_of_pos (by norm_num)]
    rcases lt_trichotomy y 0 with h | h | h
    · rw [EReal.coe_mul_bot_of_neg (mul_neg_of_neg_of_pos h hs), EReal.coe_mul_top_of_neg h, EReal.top_mul_coe_of_neg h, EReal.neg_top, EReal.coe_mul_bot_of_pos hs]; rfl
    · subst h; simp
    · rw [EReal.coe_mul_bot_of_pos (mul_pos h hs), EReal.coe_mul_top_of_pos h, EReal.top_mul_coe_of_pos h, EReal.neg_bot, EReal.coe_mul_top_of_pos hs]; rfl

/-- A row with an infinite element has an infinite mean square. -/
theorem meanSq_top {ι : Type*} [Fintype ι] (x : ι → EReal) (k : ι) (hk : ¬IsReal (x k)) :
    Ideal.div (∑ k, x k * x k) (Ideal.ofBits FTy.f32 0x44800000#32) + Ideal.ofBits FTy.f32 0x358637BD#32 = ⊤ := by
  have hn : ∀ y : EReal, 0 ≤ y * y := fun y => by
    induction y with
    | bot => simp
    | top => simp
    | coe r => exact_mod_cast mul_self_nonneg r
  have ht : x k * x k = ⊤ := by
    rcases eq_or_ne (x k) ⊤ with h | h
    · simp [h]
    · rcases eq_or_ne (x k) ⊥ with h' | h'
      · simp [h']
      · exact absurd (isReal_of h h') hk
  have hs : ∑ k, x k * x k = ⊤ := top_le_iff.1 (ht ▸ Finset.single_le_sum (f := fun k => x k * x k) (fun i _ => hn _) (Finset.mem_univ k))
  obtain ⟨e, he, hc⟩ := ceps
  rw [hs, c1024, Ideal.div_coe (by norm_num), hc, EReal.top_mul_coe_of_pos (by norm_num), EReal.top_add_coe]

/-- The gradient of `x / sqrt (mean x² + ε)` along a row, in the two ways of writing it: with the normalised row's
    product taken out, and as the derivative of each step. Where an element of the row is infinite both are zero. -/
theorem norm_bwd {ι : Type*} [Fintype ι] (x d : ι → EReal) (a r : EReal)
    (ha : a = Ideal.div (∑ k, x k * x k) (Ideal.ofBits FTy.f32 0x44800000#32) + Ideal.ofBits FTy.f32 0x358637BD#32)
    (hr : r = Ideal.rsqrt a) (j : ι) :
    r * (d j - x j * r * Ideal.div (∑ k, d k * (x k * r)) (Ideal.ofBits FTy.f32 0x44800000#32))
      = d j * r + x j * Ideal.div ((∑ k, x k * d k) * (Ideal.ofBits FTy.f32 0xBF000000#32 * Ideal.div r a))
            (Ideal.ofBits FTy.f32 0x44800000#32)
        + Ideal.div ((∑ k, x k * d k) * (Ideal.ofBits FTy.f32 0xBF000000#32 * Ideal.div r a))
            (Ideal.ofBits FTy.f32 0x44800000#32) * x j := by
  rw [c1024, cnegHalf, Ideal.div_coe (by norm_num), Ideal.div_coe (by norm_num)]
  by_cases hx : ∀ k, IsReal (x k)
  · obtain ⟨b, hb, hab⟩ := meanSq_pos x hx
    rw [← ha] at hab
    rw [hab, rsqrt_pos hb] at hr
    obtain ⟨y, hy⟩ := hx j
    have hs : 0 < (Real.sqrt b)⁻¹ := inv_pos.2 (Real.sqrt_pos.2 hb)
    have h1 : (∑ k, d k * (x k * r)) = (∑ k, x k * d k) * r := by
      rw [hr, sum_mul_coe _ _ hs.le]
      exact Finset.sum_congr rfl fun k _ => by rw [← mul_assoc, mul_comm (d k)]
    rw [h1, hab, Ideal.div_coe hb.ne', hr, hy]
    exact norm_step _ y b hs hb (by rw [← mul_inv, Real.mul_self_sqrt hb.le, one_div]) _ _
  · push Not at hx
    obtain ⟨k, hk⟩ := hx
    rw [meanSq_top x k hk] at ha
    rw [ha, Ideal.rsqrt_top] at hr
    have h0 : Ideal.div r a = 0 := by rw [hr, ha, Ideal.div, if_neg (by simp), zero_mul]
    rw [h0, hr]
    simp

/-! ## One row of the backward pass of the MLP -/

section
variable (d : Fin 1024 → EReal) (h : Fin 4096 → EReal) (wo : Fin 4096 → Fin 1024 → EReal) (wi : Fin 1024 → Fin 4096 → EReal)
  (x g : Fin 1024 → EReal) (dm : Fin 1024 → EReal)

/-- The gradient at the hidden layer: the product with the second matrix, times twice the root of the squared layer. -/
def rowPre (f : Fin 4096) : EReal := (∑ k, d k * wo f k) * (Ideal.ofBits FTy.f32 0x40000000#32 * Ideal.sqrt (h f))

/-- Its product with the first matrix. -/
def rowDm (j : Fin 1024) : EReal := ∑ f, rowPre d h wo f * wi j f

/-- One over the root of the mean square. -/
def rowR : EReal := Ideal.rsqrt (Ideal.div (∑ k, x k * x k) (Ideal.ofBits FTy.f32 0x44800000#32) + Ideal.ofBits FTy.f32 0x358637BD#32)

/-- A row of the hidden layer: the normalised row's product with the first matrix, its positive part. -/
def rowHid (f : Fin 4096) : EReal := max (∑ k, x k * rowR x * g k * wi k f) 0

/-- The gradient through the norm, with the gradient of the residual stream. -/
def rowDh (j : Fin 1024) : EReal := d j + rowR x * (dm j * g j - x j * rowR x *
  Ideal.div (∑ k, dm k * g k * (x k * rowR x)) (Ideal.ofBits FTy.f32 0x44800000#32))

end

/-- A sum over 4096 in four runs of 1024. -/
theorem sum_quarters (f : Fin 4096 → EReal) : (∑ k : Fin 1024, f ⟨k, by omega⟩) + (∑ k : Fin 1024, f ⟨1024 + k, by omega⟩)
    + (∑ k : Fin 1024, f ⟨2048 + k, by omega⟩) + (∑ k : Fin 1024, f ⟨3072 + k, by omega⟩) = ∑ k, f k := by
  have e : ∑ k, f k = ∑ k : Fin (1024 + 1024 + 1024 + 1024), f k := rfl
  rw [e, Fin.sum_univ_add, Fin.sum_univ_add, Fin.sum_univ_add]
  rfl

/-- The positive part's square has the positive part as its root. -/
theorem sqrt_relu_sq (p : EReal) : Ideal.sqrt (max p 0 * max p 0) = max p 0 := by
  induction p with
  | bot => simp only [bot_le, max_eq_right, mul_zero]; rw [← EReal.coe_zero, Ideal.sqrt_coe]; simp
  | top => simp
  | coe r =>
    rw [← EReal.coe_zero, ← EReal.coe_strictMono.monotone.map_max, ← EReal.coe_mul, Ideal.sqrt_coe, if_neg (not_lt.2 (mul_self_nonneg _)),
      Real.sqrt_mul_self (le_max_right _ _)]

end Cert.Own

end
-- ==== Proof.MlpBwd.lean ====
module

public import proofs.«01_k».proof.Proof.Gen.KernelIdeal.Value
public import proofs.«01_k».proof.Proof.Norm
public import Idealize.ShloMosaic.Lib.Pipeline.Value
public import Idealize.ShloMosaic.Lib.Pointwise
public import Idealize.ShloMosaic.Lib.Tactic
public import Idealize.ShloMosaic.Lib.StableHlo.RunRead
public import Idealize.ShloMosaic.Lib.Pipeline.ValueKit.Tiles
public import Idealize.ShloMosaic.Lib.Pipeline.ValueKit
public import Idealize.ShloMosaic.PureOps.Ideal

@[expose] public section

noncomputable section

namespace Cert.KernelIdeal.Own

open Cert.KernelIdeal Cert.KernelIdeal.Gen Idealize.ShloMosaic Idealize.ShloMosaic.TcCoe Idealize.SL.Sem Cert.Own
open Idealize.ShloMosaic.Pipeline (Dat)

variable {F : FTy → Type} [FloatOps F]
variable (m : (ℓ : Loc nD τ sig) → Buf (Elt F) ℓ) (ρ : Dev nD → PrngReg)

theorem hz2 : (![0, 0] : Fin 2 → Nat) = fun _ => 0 := funext fun a => by fin_cases a <;> rfl
theorem hz3 : (![0, 0, 0] : Fin 3 → Nat) = fun _ => 0 := funext fun a => by fin_cases a <;> rfl

section
variable (x0 : Vec F S512x1024 .f32) (x1 : Vec F S512x1024 .bf16) (x2 : Vec F S512x4096 .bf16) (x3 : Vec F S512x1024 .f32)
  (x4 x5 : Vec F S4x1024x1024 .bf16) (x6 xo : Vec F S1x1024 .f32)

/-- The first three quarters of the hidden layer, in the product with the first matrix. -/
def accV : FVec F S512x1024 .f32 :=
  k0_pay11 (k0_pay5 x1 (View.ld x5 (Rect.unit ![1, 0, 0] ![1, 1024, 1024] inb_S4x1024x1024_S1x1024x1024_1_0_0))) (k0_pay7 x1 (View.ld x5 (Rect.unit ![0, 0, 0] ![1, 1024, 1024] inb_S4x1024x1024_S1x1024x1024_0_0_0)) (View.ld x2 (Rect.unit ![0, 0] ![512, 1024] inb_S512x4096_S512x1024_0_0)) (View.ld x4 (Rect.unit ![0, 0, 0] ![1, 1024, 1024] inb_S4x1024x1024_S1x1024x1024_0_0_0))) (k0_pay8 x1 (View.ld x5 (Rect.unit ![2, 0, 0] ![1, 1024, 1024] inb_S4x1024x1024_S1x1024x1024_2_0_0)))
    (View.ld x2 (Rect.unit ![0, 1024] ![512, 1024] inb_S512x4096_S512x1024_0_1024)) (View.ld x4 (Rect.unit ![1, 0, 0] ![1, 1024, 1024] inb_S4x1024x1024_S1x1024x1024_1_0_0)) (View.ld x2 (Rect.unit ![0, 2048] ![512, 1024] inb_S512x4096_S512x1024_0_2048)) (View.ld x4 (Rect.unit ![2, 0, 0] ![1, 1024, 1024] inb_S4x1024x1024_S1x1024x1024_2_0_0))

/-- The gradient at the last quarter of the hidden layer. -/
def lastV : FVec F S512x1024 .f32 := k0_pay12 (k0_pay4 x1) (View.ld x5 (Rect.unit ![3, 0, 0] ![1, 1024, 1024] inb_S4x1024x1024_S1x1024x1024_3_0_0)) (View.ld x2 (Rect.unit ![0, 3072] ![512, 1024] inb_S512x4096_S512x1024_0_3072))

/-- What a tile adds to the gradient of the norm's weight, with what was there. -/
def dgV : FVec F S1x1024 .f32 := k0_pay17 (accV x1 x2 x4 x5) (lastV x1 x2 x5) (View.ld x4 (Rect.unit ![3, 0, 0] ![1, 1024, 1024] inb_S4x1024x1024_S1x1024x1024_3_0_0)) x3 xo

/-- The tile's rows of the gradient of the residual stream. -/
def dhV : FVec F S512x1024 .f32 := k0_pay1 (k0_pay15 x3) x0 (k0_pay18 (accV x1 x2 x4 x5) (lastV x1 x2 x5) (View.ld x4 (Rect.unit ![3, 0, 0] ![1, 1024, 1024] inb_S4x1024x1024_S1x1024x1024_3_0_0)) x6 x3)

/-- The four column pieces of the gradient at the hidden layer. -/
def quarters : List (View.Piece (Elt F) S512x4096 .bf16) :=
  [⟨Rect.unit ![0, 3072] ![512, 1024] inb_S512x4096_S512x1024_0_3072, k0_pay13 (lastV x1 x2 x5)⟩,
    ⟨Rect.unit ![0, 2048] ![512, 1024] inb_S512x4096_S512x1024_0_2048, k0_pay10 (k0_pay8 x1 (View.ld x5 (Rect.unit ![2, 0, 0] ![1, 1024, 1024] inb_S4x1024x1024_S1x1024x1024_2_0_0))) (View.ld x2 (Rect.unit ![0, 2048] ![512, 1024] inb_S512x4096_S512x1024_0_2048))⟩,
    ⟨Rect.unit ![0, 1024] ![512, 1024] inb_S512x4096_S512x1024_0_1024, k0_pay9 (k0_pay5 x1 (View.ld x5 (Rect.unit ![1, 0, 0] ![1, 1024, 1024] inb_S4x1024x1024_S1x1024x1024_1_0_0))) (View.ld x2 (Rect.unit ![0, 1024] ![512, 1024] inb_S512x4096_S512x1024_0_1024))⟩,
    ⟨Rect.unit ![0, 0] ![512, 1024] inb_S512x4096_S512x1024_0_0, k0_pay6 x1 (View.ld x5 (Rect.unit ![0, 0, 0] ![1, 1024, 1024] inb_S4x1024x1024_S1x1024x1024_0_0_0)) (View.ld x2 (Rect.unit ![0, 0] ![512, 1024] inb_S512x4096_S512x1024_0_0))⟩]

variable (c : Dev nD) (i : grid0.Coords) (a1 : Memref sig .tc .vmem S512x1024 .f32) (h1 : a1.IsWhole) (a2 : Memref sig .tc .vmem S512x1024 .bf16) (h2 : a2.IsWhole) (a3 : Memref sig .tc .vmem S512x4096 .bf16) (h3 : a3.IsWhole) (a4 : Memref sig .tc .vmem S512x1024 .f32) (h4 : a4.IsWhole) (a5 : Memref sig .tc .vmem S4x1024x1024 .bf16) (h5 : a5.IsWhole) (a6 : Memref sig .tc .vmem S4x1024x1024 .bf16) (h6 : a6.IsWhole) (a7 : Memref sig .tc .vmem S1x1024 .f32) (h7 : a7.IsWhole) (a8 : Memref sig .tc .vmem S512x4096 .bf16) (h8 : a8.IsWhole) (a9 : Memref sig .tc .vmem S512x1024 .f32) (h9 : a9.IsWhole) (a10 : Memref sig .tc .vmem S512x1024 .bf16) (h10 : a10.IsWhole) (a11 : Memref sig .tc .vmem S1x1024 .f32) (h11 : a11.IsWhole)

/-- The gradient at the hidden layer is any array that all four quarters agree with. -/
theorem out_A7 (hc0 : cond0_0 i) (y : S512x4096.Idx) (v : Elt F .bf16) (hv : View.AllAt (quarters x1 x2 x5) y v) :
    out0_A_7 c i a1 h1 a2 h2 a3 h3 a4 h4 a5 h5 a6 h6 a7 h7 a8 h8 a9 h9 a10 h10 a11 h11 hc0 x0 x1 x2 x3 x4 x5 x6 y = v := by
  unfold out0_A_7
  rw [View.read_writes_eq_canon _ _ _ (cover0_A_7 c i a1 h1 a2 h2 a3 h3 a4 h4 a5 h5 a6 h6 a7 h7 a8 h8 a9 h9 a10 h10 a11 h11 hc0 x0 x1 x2 x3 x4 x5 x6)]
  refine View.canon_eq_of_allAt _ y _ (cover0_A_7 c i a1 h1 a2 h2 a3 h3 a4 h4 a5 h5 a6 h6 a7 h7 a8 h8 a9 h9 a10 h10 a11 h11 hc0 x0 x1 x2 x3 x4 x5 x6 y) ?_
  unfold kernelRun0_A
  dsimp only
  sl_unfold_words
  simp only [View.readAt_eq_ld, h1.read_unread, h2.read_unread, h3.read_unread, h4.read_unread, h5.read_unread, h6.read_unread, h7.read_unread, h11.read_unread,
    View.ld_unit_zero (S := S512x1024) hz2, View.ld_unit_zero (S := S1x1024) hz2]
  exact hv

/-- The rows of the gradient of the residual stream. -/
theorem out_A8 (hc0 : cond0_0 i) : out0_A_8 c i a1 h1 a2 h2 a3 h3 a4 h4 a5 h5 a6 h6 a7 h7 a8 h8 a9 h9 a10 h10 a11 h11 hc0 x0 x1 x2 x3 x4 x5 x6 = dhV x0 x1 x2 x3 x4 x5 x6 := by
  unfold out0_A_8
  rw [View.read_writes_eq_canon _ _ _ (cover0_A_8 c i a1 h1 a2 h2 a3 h3 a4 h4 a5 h5 a6 h6 a7 h7 a8 h8 a9 h9 a10 h10 a11 h11 hc0 x0 x1 x2 x3 x4 x5 x6)]
  unfold kernelRun0_A
  dsimp only
  sl_unfold_words
  rw [View.canon_unit_zero (S := S512x1024) hz2]
  simp only [View.readAt_eq_ld, h1.read_unread, h2.read_unread, h3.read_unread, h4.read_unread, h5.read_unread, h6.read_unread, h7.read_unread, h11.read_unread,
    View.ld_unit_zero (S := S512x1024) hz2, View.ld_unit_zero (S := S1x1024) hz2]
  try rfl

/-- The same rows in the short format. -/
theorem out_A9 (hc0 : cond0_0 i) : out0_A_9 c i a1 h1 a2 h2 a3 h3 a4 h4 a5 h5 a6 h6 a7 h7 a8 h8 a9 h9 a10 h10 a11 h11 hc0 x0 x1 x2 x3 x4 x5 x6 = k0_pay2 (k0_pay15 x3) x0 (k0_pay18 (accV x1 x2 x4 x5) (lastV x1 x2 x5) (View.ld x4 (Rect.unit ![3, 0, 0] ![1, 1024, 1024] inb_S4x1024x1024_S1x1024x1024_3_0_0)) x6 x3) := by
  unfold out0_A_9
  rw [View.read_writes_eq_canon _ _ _ (cover0_A_9 c i a1 h1 a2 h2 a3 h3 a4 h4 a5 h5 a6 h6 a7 h7 a8 h8 a9 h9 a10 h10 a11 h11 hc0 x0 x1 x2 x3 x4 x5 x6)]
  unfold kernelRun0_A
  dsimp only
  sl_unfold_words
  rw [View.canon_unit_zero (S := S512x1024) hz2]
  simp only [View.readAt_eq_ld, h1.read_unread, h2.read_unread, h3.read_unread, h4.read_unread, h5.read_unread, h6.read_unread, h7.read_unread, h11.read_unread,
    View.ld_unit_zero (S := S512x1024) hz2, View.ld_unit_zero (S := S1x1024) hz2]
  try rfl

/-- The gradient of the norm's weight. -/
theorem out_A10 (hc0 : cond0_0 i) : out0_A_10 c i a1 h1 a2 h2 a3 h3 a4 h4 a5 h5 a6 h6 a7 h7 a8 h8 a9 h9 a10 h10 a11 h11 hc0 x0 x1 x2 x3 x4 x5 x6 = dgV x1 x2 x3 x4 x5 k0_pay3 := by
  unfold out0_A_10
  rw [View.read_writes_eq_canon _ _ _ (cover0_A_10 c i a1 h1 a2 h2 a3 h3 a4 h4 a5 h5 a6 h6 a7 h7 a8 h8 a9 h9 a10 h10 a11 h11 hc0 x0 x1 x2 x3 x4 x5 x6)]
  unfold kernelRun0_A
  dsimp only
  sl_unfold_words
  rw [View.canon_cons_unit_zero (S := S1x1024) hz2, View.readCov_unit_zero (S := S1x1024) _ hz2]
  simp only [View.readAt_eq_ld, h1.read_unread, h2.read_unread, h3.read_unread, h4.read_unread, h5.read_unread, h6.read_unread, h7.read_unread, h11.read_unread,
    View.ld_unit_zero (S := S512x1024) hz2, View.ld_unit_zero (S := S1x1024) hz2]
  try rfl

/-- The gradient at the hidden layer is any array that all four quarters agree with. -/
theorem out_B7 (hc0 : ¬cond0_0 i) (y : S512x4096.Idx) (v : Elt F .bf16) (hv : View.AllAt (quarters x1 x2 x5) y v) :
    out0_B_7 c i a1 h1 a2 h2 a3 h3 a4 h4 a5 h5 a6 h6 a7 h7 a8 h8 a9 h9 a10 h10 a11 h11 hc0 x0 x1 x2 x3 x4 x5 x6 xo y = v := by
  unfold out0_B_7
  rw [View.read_writes_eq_canon _ _ _ (cover0_B_7 c i a1 h1 a2 h2 a3 h3 a4 h4 a5 h5 a6 h6 a7 h7 a8 h8 a9 h9 a10 h10 a11 h11 hc0 x0 x1 x2 x3 x4 x5 x6 xo)]
  refine View.canon_eq_of_allAt _ y _ (cover0_B_7 c i a1 h1 a2 h2 a3 h3 a4 h4 a5 h5 a6 h6 a7 h7 a8 h8 a9 h9 a10 h10 a11 h11 hc0 x0 x1 x2 x3 x4 x5 x6 xo y) ?_
  unfold kernelRun0_B
  dsimp only
  sl_unfold_words
  simp only [View.readAt_eq_ld, h1.read_unread, h2.read_unread, h3.read_unread, h4.read_unread, h5.read_unread, h6.read_unread, h7.read_unread, h11.read_unread,
    View.ld_unit_zero (S := S512x1024) hz2, View.ld_unit_zero (S := S1x1024) hz2]
  exact hv

/-- The rows of the gradient of the residual stream. -/
theorem out_B8 (hc0 : ¬cond0_0 i) : out0_B_8 c i a1 h1 a2 h2 a3 h3 a4 h4 a5 h5 a6 h6 a7 h7 a8 h8 a9 h9 a10 h10 a11 h11 hc0 x0 x1 x2 x3 x4 x5 x6 xo = dhV x0 x1 x2 x3 x4 x5 x6 := by
  unfold out0_B_8
  rw [View.read_writes_eq_canon _ _ _ (cover0_B_8 c i a1 h1 a2 h2 a3 h3 a4 h4 a5 h5 a6 h6 a7 h7 a8 h8 a9 h9 a10 h10 a11 h11 hc0 x0 x1 x2 x3 x4 x5 x6 xo)]
  unfold kernelRun0_B
  dsimp only
  sl_unfold_words
  rw [View.canon_unit_zero (S := S512x1024) hz2]
  simp only [View.readAt_eq_ld, h1.read_unread, h2.read_unread, h3.read_unread, h4.read_unread, h5.read_unread, h6.read_unread, h7.read_unread, h11.read_unread,
    View.ld_unit_zero (S := S512x1024) hz2, View.ld_unit_zero (S := S1x1024) hz2]
  try rfl

/-- The same rows in the short format. -/
theorem out_B9 (hc0 : ¬cond0_0 i) : out0_B_9 c i a1 h1 a2 h2 a3 h3 a4 h4 a5 h5 a6 h6 a7 h7 a8 h8 a9 h9 a10 h10 a11 h11 hc0 x0 x1 x2 x3 x4 x5 x6 xo = k0_pay2 (k0_pay15 x3) x0 (k0_pay18 (accV x1 x2 x4 x5) (lastV x1 x2 x5) (View.ld x4 (Rect.unit ![3, 0, 0] ![1, 1024, 1024] inb_S4x1024x1024_S1x1024x1024_3_0_0)) x6 x3) := by
  unfold out0_B_9
  rw [View.read_writes_eq_canon _ _ _ (cover0_B_9 c i a1 h1 a2 h2 a3 h3 a4 h4 a5 h5 a6 h6 a7 h7 a8 h8 a9 h9 a10 h10 a11 h11 hc0 x0 x1 x2 x3 x4 x5 x6 xo)]
  unfold kernelRun0_B
  dsimp only
  sl_unfold_words
  rw [View.canon_unit_zero (S := S512x1024) hz2]
  simp only [View.readAt_eq_ld, h1.read_unread, h2.read_unread, h3.read_unread, h4.read_unread, h5.read_unread, h6.read_unread, h7.read_unread, h11.read_unread,
    View.ld_unit_zero (S := S512x1024) hz2, View.ld_unit_zero (S := S1x1024) hz2]
  try rfl

/-- The gradient of the norm's weight. -/
theorem out_B10 (hc0 : ¬cond0_0 i) : out0_B_10 c i a1 h1 a2 h2 a3 h3 a4 h4 a5 h5 a6 h6 a7 h7 a8 h8 a9 h9 a10 h10 a11 h11 hc0 x0 x1 x2 x3 x4 x5 x6 xo = dgV x1 x2 x3 x4 x5 xo := by
  unfold out0_B_10
  rw [View.read_writes_eq_canon _ _ _ (cover0_B_10 c i a1 h1 a2 h2 a3 h3 a4 h4 a5 h5 a6 h6 a7 h7 a8 h8 a9 h9 a10 h10 a11 h11 hc0 x0 x1 x2 x3 x4 x5 x6 xo)]
  unfold kernelRun0_B
  dsimp only
  sl_unfold_words
  rw [View.canon_unit_zero (S := S1x1024) hz2]
  simp only [View.readAt_eq_ld, h1.read_unread, h2.read_unread, h3.read_unread, h4.read_unread, h5.read_unread, h6.read_unread, h7.read_unread, h11.read_unread,
    View.ld_unit_zero (S := S512x1024) hz2, View.ld_unit_zero (S := S1x1024) hz2]
  try rfl

end

section Tile
variable (x0 : Vec Ideal S512x1024 .f32) (x1 : Vec Ideal S512x1024 .bf16) (x2 : Vec Ideal S512x4096 .bf16)
  (x3 : Vec Ideal S512x1024 .f32) (x4 x5 : Vec Ideal S4x1024x1024 .bf16) (x6 xo : Vec Ideal S1x1024 .f32)

/-- The rows of the second matrix, out of its four chunks. -/
def woOf : Fin 4096 → Fin 1024 → EReal := fun f k => x5 (ix3 ⟨f / 1024, by omega⟩ ⟨f % 1024, by omega⟩ k)

/-- The rows of the first matrix, out of its four chunks. -/
def wiOf : Fin 1024 → Fin 4096 → EReal := fun j f => x4 (ix3 ⟨f / 1024, by omega⟩ j ⟨f % 1024, by omega⟩)

theorem woOf_eq (q : Fin 4) (l k : Fin 1024) (f : Fin 4096) (hf : f.val = 1024 * q.val + l.val) :
    x5 (ix3 q l k) = woOf x5 f k := by
  unfold woOf
  exact congrArg x5 (congrArg₂ (fun a b => ix3 a b k) (Fin.ext (show q.val = f.val / 1024 by omega)) (Fin.ext (show l.val = f.val % 1024 by omega)))

theorem wiOf_eq (q : Fin 4) (j l : Fin 1024) (f : Fin 4096) (hf : f.val = 1024 * q.val + l.val) :
    x4 (ix3 q j l) = wiOf x4 j f := by
  unfold wiOf
  exact congrArg x4 (congrArg₂ (fun a b => ix3 a j b) (Fin.ext (show q.val = f.val / 1024 by omega)) (Fin.ext (show l.val = f.val % 1024 by omega)))

/-- A row of the gradient at the hidden layer. -/
abbrev preT (i : Fin 512) (f : Fin 4096) : EReal := rowPre (fun k => x1 (ix2 i k)) (fun f => x2 (ix2 i f)) (woOf x5) f

abbrev dmT (i : Fin 512) (j : Fin 1024) : EReal := rowDm (fun k => x1 (ix2 i k)) (fun f => x2 (ix2 i f)) (woOf x5) (wiOf x4) j

theorem q0_apply (i : Fin 512) (l : Fin 1024) (f : Fin 4096) (hf : f.val = 0 + l.val) :
    (k0_pay6 x1 (View.ld x5 (Rect.unit ![0, 0, 0] ![1, 1024, 1024] inb_S4x1024x1024_S1x1024x1024_0_0_0)) (View.ld x2 (Rect.unit ![0, 0] ![512, 1024] inb_S512x4096_S512x1024_0_0))) (ix2 i l) = preT x1 x2 x5 i f := by
  pointwise [k0_pay6, k0_pay4]
  unfold preT rowPre
  refine congrArg₂ (fun a b => a * (Ideal.ofBits FTy.f32 1073741824#32 * Ideal.sqrt b)) (Finset.sum_congr rfl fun k _ => ?_) ?_
  · exact congrArg (x1 (ix2 i k) * ·) (woOf_eq x5 0 l k f hf)
  · exact congrArg (fun f => x2 (ix2 i f)) (Fin.ext (hf.trans (Nat.zero_add _)).symm)

theorem q1_apply (i : Fin 512) (l : Fin 1024) (f : Fin 4096) (hf : f.val = 1024 + l.val) :
    (k0_pay9 (k0_pay5 x1 (View.ld x5 (Rect.unit ![1, 0, 0] ![1, 1024, 1024] inb_S4x1024x1024_S1x1024x1024_1_0_0))) (View.ld x2 (Rect.unit ![0, 1024] ![512, 1024] inb_S512x4096_S512x1024_0_1024))) (ix2 i l) = preT x1 x2 x5 i f := by
  pointwise [k0_pay9, k0_pay5, k0_pay4]
  unfold preT rowPre
  refine congrArg₂ (fun a b => a * (Ideal.ofBits FTy.f32 1073741824#32 * Ideal.sqrt b)) (Finset.sum_congr rfl fun k _ => ?_) ?_
  · exact congrArg (x1 (ix2 i k) * ·) (woOf_eq x5 1 l k f hf)
  · exact congrArg (fun f => x2 (ix2 i f)) (Fin.ext hf.symm)

theorem q2_apply (i : Fin 512) (l : Fin 1024) (f : Fin 4096) (hf : f.val = 2048 + l.val) :
    (k0_pay10 (k0_pay8 x1 (View.ld x5 (Rect.unit ![2, 0, 0] ![1, 1024, 1024] inb_S4x1024x1024_S1x1024x1024_2_0_0))) (View.ld x2 (Rect.unit ![0, 2048] ![512, 1024] inb_S512x4096_S512x1024_0_2048))) (ix2 i l) = preT x1 x2 x5 i f := by
  pointwise [k0_pay10, k0_pay8, k0_pay4]
  unfold preT rowPre
  refine congrArg₂ (fun a b => a * (Ideal.ofBits FTy.f32 1073741824#32 * Ideal.sqrt b)) (Finset.sum_congr rfl fun k _ => ?_) ?_
  · exact congrArg (x1 (ix2 i k) * ·) (woOf_eq x5 2 l k f hf)
  · exact congrArg (fun f => x2 (ix2 i f)) (Fin.ext hf.symm)

theorem q3_apply (i : Fin 512) (l : Fin 1024) (f : Fin 4096) (hf : f.val = 3072 + l.val) :
    (lastV x1 x2 x5) (ix2 i l) = preT x1 x2 x5 i f := by
  pointwise [lastV, k0_pay12, k0_pay4]
  unfold preT rowPre
  refine congrArg₂ (fun a b => a * (Ideal.ofBits FTy.f32 1073741824#32 * Ideal.sqrt b)) (Finset.sum_congr rfl fun k _ => ?_) ?_
  · exact congrArg (x1 (ix2 i k) * ·) (woOf_eq x5 3 l k f hf)
  · exact congrArg (fun f => x2 (ix2 i f)) (Fin.ext hf.symm)

theorem dm_apply (i : Fin 512) (j : Fin 1024) :
    k0_pay14 (accV x1 x2 x4 x5) (lastV x1 x2 x5) (View.ld x4 (Rect.unit ![3, 0, 0] ![1, 1024, 1024] inb_S4x1024x1024_S1x1024x1024_3_0_0)) (ix2 i j) = dmT x1 x2 x4 x5 i j := by
  pointwise [k0_pay14, k0_pay13, accV, k0_pay11, k0_pay7]
  unfold dmT rowDm
  rw [← sum_quarters]
  refine congrArg₂ (· + ·) (congrArg₂ (· + ·) (congrArg₂ (· + ·) ?_ ?_) ?_) ?_
  · refine Finset.sum_congr rfl fun l _ => congrArg₂ (· * ·) (q0_apply x1 x2 x5 i l _ (Nat.zero_add _).symm) (wiOf_eq x4 0 j l _ (show l.val = 1024 * (0 : Fin 4).val + l.val from (Nat.zero_add _).symm))
  · refine Finset.sum_congr rfl fun l _ => congrArg₂ (· * ·) (q1_apply x1 x2 x5 i l _ rfl) (wiOf_eq x4 1 j l _ rfl)
  · refine Finset.sum_congr rfl fun l _ => congrArg₂ (· * ·) (q2_apply x1 x2 x5 i l _ rfl) (wiOf_eq x4 2 j l _ rfl)
  · refine Finset.sum_congr rfl fun l _ => congrArg₂ (· * ·) (q3_apply x1 x2 x5 i l _ rfl) (wiOf_eq x4 3 j l _ rfl)

/-- A row of the tile's gradient of the residual stream. -/
theorem dh_apply (i : Fin 512) (j : Fin 1024) : dhV x0 x1 x2 x3 x4 x5 x6 (ix2 i j)
    = rowDh (fun k => x0 (ix2 i k)) (fun k => x3 (ix2 i k)) (fun k => x6 (ix2 0 k)) (dmT x1 x2 x4 x5 i) j := by
  pointwise [dhV, k0_pay1, k0_pay18, k0_pay16, k0_pay15]
  simp only [dm_apply]
  rfl

/-- The tile's sum for the gradient of the norm's weight. -/
theorem dg_apply (j : Fin 1024) : dgV x1 x2 x3 x4 x5 xo (ix2 0 j)
    = xo (ix2 0 j) + ∑ i : Fin 512, dmT x1 x2 x4 x5 i j * (x3 (ix2 i j) * rowR (fun k => x3 (ix2 i k))) := by
  pointwise [dgV, k0_pay17, k0_pay16, k0_pay15]
  simp only [dm_apply]
  rfl

theorem pre_all (i : Fin 512) (f : Fin 4096) : View.AllAt (quarters x1 x2 x5) (ix2 i f) (preT x1 x2 x5 i f) := by
  unfold quarters
  refine View.allAt_cons_unit _ _ _ _ _ (fun x hx => ?_) <| View.allAt_cons_unit _ _ _ _ _ (fun x hx => ?_) <|
    View.allAt_cons_unit _ _ _ _ _ (fun x hx => ?_) <| View.allAt_cons_unit _ _ _ _ _ (fun x hx => ?_) <| View.allAt_nil _ _
  · obtain ⟨e, l, rfl⟩ : ∃ (e : Fin 512) (l : Fin 1024), x = ix2 e l := ⟨x 0, x 1, eq_ix2 x⟩
    obtain rfl : e = i := Fin.ext ((hx 0).trans (Nat.zero_add _)).symm
    exact q3_apply x1 x2 x5 e l f (hx 1)
  · obtain ⟨e, l, rfl⟩ : ∃ (e : Fin 512) (l : Fin 1024), x = ix2 e l := ⟨x 0, x 1, eq_ix2 x⟩
    obtain rfl : e = i := Fin.ext ((hx 0).trans (Nat.zero_add _)).symm
    exact q2_apply x1 x2 x5 e l f (hx 1)
  · obtain ⟨e, l, rfl⟩ : ∃ (e : Fin 512) (l : Fin 1024), x = ix2 e l := ⟨x 0, x 1, eq_ix2 x⟩
    obtain rfl : e = i := Fin.ext ((hx 0).trans (Nat.zero_add _)).symm
    exact q1_apply x1 x2 x5 e l f (hx 1)
  · obtain ⟨e, l, rfl⟩ : ∃ (e : Fin 512) (l : Fin 1024), x = ix2 e l := ⟨x 0, x 1, eq_ix2 x⟩
    obtain rfl : e = i := Fin.ext ((hx 0).trans (Nat.zero_add _)).symm
    exact q0_apply x1 x2 x5 e l f (hx 1)

end Tile

end Cert.KernelIdeal.Own

end
-- ==== Proof.MlpBwdArray.lean ====
/- The backward pass of the MLP: what the kernel leaves in its four result arrays. -/
module

public import proofs.«01_k».proof.Proof.Gen.KernelIdeal.Value
public import proofs.«01_k».proof.Proof.MlpBwd
public import Idealize.ShloMosaic.Lib.Pipeline.Value
public import Idealize.ShloMosaic.Lib.Pointwise
public import Idealize.ShloMosaic.Lib.Tactic
public import Idealize.ShloMosaic.Lib.StableHlo.RunRead
public import Idealize.ShloMosaic.Lib.Pipeline.ValueKit.Tiles
public import Idealize.ShloMosaic.Lib.Pipeline.ValueKit
public import Idealize.ShloMosaic.PureOps.Ideal

@[expose] public section

noncomputable section

namespace Cert.KernelIdeal.Own

open Cert.KernelIdeal Cert.KernelIdeal.Gen Idealize.ShloMosaic Idealize.ShloMosaic.TcCoe Idealize.SL.Sem Cert.Own
open Idealize.ShloMosaic.Pipeline (Dat)

variable (M : (ℓ : Loc nD τ sig) → Buf (Elt Ideal) ℓ)

/-! ## The operands -/

abbrev aX (c : Dev nD) : S16384x1024.Idx → EReal := M ((c : Thread nD τ).loc main_arg0)
abbrev aD (c : Dev nD) : S16384x1024.Idx → EReal := M ((c : Thread nD τ).loc main_arg1)
abbrev aWi (c : Dev nD) : S1024x4096.Idx → EReal := M ((c : Thread nD τ).loc main_arg2)
abbrev aWo (c : Dev nD) : S4096x1024.Idx → EReal := M ((c : Thread nD τ).loc main_arg3)
abbrev aG (c : Dev nD) : S1x1024.Idx → EReal := M ((c : Thread nD τ).loc main_arg4)

/-- The normalised rows, as the host code computes them. -/
def hnV (x : FVec Ideal S16384x1024 .f32) (g : FVec Ideal S1x1024 .f32) : FVec Ideal S16384x1024 .f32 :=
  mulf (mulf x (broadcastInDim S16384x1024 ![0, 1] bcast_S16384x1_S16384x1024_0_1 (Host.rsqrt (addf
      (Host.divf (broadcastInDim S16384x1 ![0] bcast_S16384_S16384x1_0
          (Host.reduceAdd (mulf x x) (constant S_ .f32 0x00000000#32) reducesTo_S16384x1024_S16384_d1 h_S_))
        (broadcastInDim S16384x1 ![] bcast_S_S16384x1 (constant S_ .f32 0x44800000#32)))
      (broadcastInDim S16384x1 ![] bcast_S_S16384x1 (constant S_ .f32 0x358637BD#32))))))
    (broadcastInDim S16384x1024 ![0, 1] bcast_S1x1024_S16384x1024_0_1 g)

/-- The hidden layer before the square, as the host code computes it. -/
def hidV (x : FVec Ideal S16384x1024 .f32) (w : FVec Ideal S1024x4096 .f32) (g : FVec Ideal S1x1024 .f32) : FVec Ideal S16384x4096 .f32 :=
  maximumf (Host.dotGeneral dot_S16384x1024_S1024x4096_S16384x4096_1_0_0_1_n_n none (hnV x g) w)
    (broadcastInDim S16384x4096 ![] bcast_S_S16384x4096 (constant S_ .f32 0x00000000#32))

theorem V_v15 (c : Dev nD) : V M c main_v15 = mulf (hidV (aX M c) (aWi M c) (aG M c)) (hidV (aX M c) (aWi M c) (aG M c)) := by
  show StableHlo.after (hostOps0 ++ hostOps0_1 ++ hostOps0_2) (fun b => M (c, b)) main_v15 = _
  after_reads_simp
  rfl

theorem hid_apply (x : FVec Ideal S16384x1024 .f32) (w : FVec Ideal S1024x4096 .f32) (g : FVec Ideal S1x1024 .f32)
    (i : Fin 16384) (f : Fin 4096) : hidV x w g (ix2 i f)
      = rowHid (fun j f => w (ix2 j f)) (fun k => x (ix2 i k)) (fun k => g (ix2 0 k)) f := by
  pointwise [hidV, hnV]
  rfl

theorem V_v18 (c : Dev nD) (q : Fin 4) (j l : Fin 1024) (f : Fin 4096) (hf : f.val = q.val * 1024 + l.val) :
    (V M c main_v18 (ix3 q j l) : EReal) = aWi M c (ix2 j f) := by
  show StableHlo.after (hostOps0 ++ hostOps0_1 ++ hostOps0_2) (fun b => M (c, b)) main_v18 (ix3 q j l) = _
  after_reads_simp
  pointwise
  exact congrArg (fun f => aWi M c (ix2 j f)) (Fin.ext hf.symm)

theorem V_v20 (c : Dev nD) (q : Fin 4) (l k : Fin 1024) (f : Fin 4096) (hf : f.val = q.val * 1024 + l.val) :
    (V M c main_v20 (ix3 q l k) : EReal) = aWo M c (ix2 f k) := by
  show StableHlo.after (hostOps0 ++ hostOps0_1 ++ hostOps0_2) (fun b => M (c, b)) main_v20 (ix3 q l k) = _
  after_reads_simp
  pointwise
  exact congrArg (fun f => aWo M c (ix2 f k)) (Fin.ext hf.symm)

theorem V_v21 (c : Dev nD) : (V M c main_v21) = aD M c := by
  show StableHlo.after (hostOps0 ++ hostOps0_1 ++ hostOps0_2) (fun b => M (c, b)) main_v21 = _
  after_reads_simp
  rfl

theorem V_arg0 (c : Dev nD) : (V M c main_arg0) = aX M c := by
  show StableHlo.after (hostOps0 ++ hostOps0_1 ++ hostOps0_2) (fun b => M (c, b)) main_arg0 = _
  after_reads_simp

theorem V_arg1 (c : Dev nD) : (V M c main_arg1) = aD M c := by
  show StableHlo.after (hostOps0 ++ hostOps0_1 ++ hostOps0_2) (fun b => M (c, b)) main_arg1 = _
  after_reads_simp

theorem V_arg4 (c : Dev nD) : (V M c main_arg4) = aG M c := by
  show StableHlo.after (hostOps0 ++ hostOps0_1 ++ hostOps0_2) (fun b => M (c, b)) main_arg4 = _
  after_reads_simp

/-! ## The blocks of a point -/

theorem idx0 : ∀ t : Fin cfg0.N, win0_0.index t 0 = t.val ∧ win0_0.index t 1 = 0 := by decide +kernel
theorem idx1 : ∀ t : Fin cfg0.N, win0_1.index t 0 = t.val ∧ win0_1.index t 1 = 0 := by decide +kernel
theorem idx2 : ∀ t : Fin cfg0.N, win0_2.index t 0 = t.val ∧ win0_2.index t 1 = 0 := by decide +kernel
theorem idx3 : ∀ t : Fin cfg0.N, win0_3.index t 0 = t.val ∧ win0_3.index t 1 = 0 := by decide +kernel
theorem idx7 : ∀ t : Fin cfg0.N, win0_7.index t 0 = t.val ∧ win0_7.index t 1 = 0 := by decide +kernel
theorem idx8 : ∀ t : Fin cfg0.N, win0_8.index t 0 = t.val ∧ win0_8.index t 1 = 0 := by decide +kernel
theorem idx9 : ∀ t : Fin cfg0.N, win0_9.index t 0 = t.val ∧ win0_9.index t 1 = 0 := by decide +kernel
theorem idx6 : ∀ t : Fin cfg0.N, win0_6.index t 0 = 0 ∧ win0_6.index t 1 = 0 := by decide +kernel
theorem idx10 : ∀ t : Fin cfg0.N, win0_10.index t 0 = 0 ∧ win0_10.index t 1 = 0 := by decide +kernel
theorem idx4 : ∀ t : Fin cfg0.N, win0_4.index t 0 = 0 ∧ win0_4.index t 1 = 0 ∧ win0_4.index t 2 = 0 := by decide +kernel
theorem idx5 : ∀ t : Fin cfg0.N, win0_5.index t 0 = 0 ∧ win0_5.index t 1 = 0 ∧ win0_5.index t 2 = 0 := by decide +kernel

/-- Row `i` of the tile of point `t`, in the whole array. -/
def rowIx (t : Fin cfg0.N) (i : Fin 512) : Fin 16384 :=
  ⟨512 * t.val + i.val, by have := lt_of_lt_of_eq t.isLt N_0; have := i.isLt; omega⟩

theorem iblk0 (c : Dev nD) (t : Fin cfg0.N) (i : Fin 512) (k : Fin 1024) :
    (iblk M c 0 t (ix2 i k) : EReal) = aD M c (ix2 (rowIx t i) k) := by
  unfold iblk
  rw [View.read_apply]
  refine (congrFun (V_arg1 M c) _).trans (congrArg (aD M c) (funext fun a => Fin.ext ?_))
  match a with
  | ⟨0, _⟩ => show win0_0.index t 0 * 512 + 1 * i.val = 512 * t.val + i.val; rw [(idx0 t).1]; omega
  | ⟨1, _⟩ => show win0_0.index t 1 * 1024 + 1 * k.val = k.val; rw [(idx0 t).2]; omega

theorem iblk1 (c : Dev nD) (t : Fin cfg0.N) (i : Fin 512) (k : Fin 1024) :
    (iblk M c 1 t (ix2 i k) : EReal) = aD M c (ix2 (rowIx t i) k) := by
  unfold iblk
  rw [View.read_apply]
  refine (congrFun (V_v21 M c) _).trans (congrArg (aD M c) (funext fun a => Fin.ext ?_))
  match a with
  | ⟨0, _⟩ => show win0_1.index t 0 * 512 + 1 * i.val = 512 * t.val + i.val; rw [(idx1 t).1]; omega
  | ⟨1, _⟩ => show win0_1.index t 1 * 1024 + 1 * k.val = k.val; rw [(idx1 t).2]; omega

theorem iblk2 (c : Dev nD) (t : Fin cfg0.N) (i : Fin 512) (k : Fin 4096) :
    (iblk M c 2 t (ix2 i k) : EReal) = V M c main_v15 (ix2 (rowIx t i) k) := by
  unfold iblk
  rw [View.read_apply]
  refine (congrFun (rfl : V M c main_v15 = _) _).trans (congrArg (V M c main_v15) (funext fun a => Fin.ext ?_))
  match a with
  | ⟨0, _⟩ => show win0_2.index t 0 * 512 + 1 * i.val = 512 * t.val + i.val; rw [(idx2 t).1]; omega
  | ⟨1, _⟩ => show win0_2.index t 1 * 4096 + 1 * k.val = k.val; rw [(idx2 t).2]; omega

theorem iblk3 (c : Dev nD) (t : Fin cfg0.N) (i : Fin 512) (k : Fin 1024) :
    (iblk M c 3 t (ix2 i k) : EReal) = aX M c (ix2 (rowIx t i) k) := by
  unfold iblk
  rw [View.read_apply]
  refine (congrFun (V_arg0 M c) _).trans (congrArg (aX M c) (funext fun a => Fin.ext ?_))
  match a with
  | ⟨0, _⟩ => show win0_3.index t 0 * 512 + 1 * i.val = 512 * t.val + i.val; rw [(idx3 t).1]; omega
  | ⟨1, _⟩ => show win0_3.index t 1 * 1024 + 1 * k.val = k.val; rw [(idx3 t).2]; omega

theorem iblk6 (c : Dev nD) (t : Fin cfg0.N) (k : Fin 1024) :
    (iblk M c 6 t (ix2 0 k) : EReal) = aG M c (ix2 0 k) := by
  unfold iblk
  rw [View.read_apply]
  refine (congrFun (V_arg4 M c) _).trans (congrArg (aG M c) (funext fun a => Fin.ext ?_))
  match a with
  | ⟨0, _⟩ => show win0_6.index t 0 * 1 + 1 * 0 = 0; rw [(idx6 t).1]
  | ⟨1, _⟩ => show win0_6.index t 1 * 1024 + 1 * k.val = k.val; rw [(idx6 t).2]; omega

theorem iblk4 (c : Dev nD) (t : Fin cfg0.N) (q : Fin 4) (j l : Fin 1024) :
    (iblk M c 4 t (ix3 q j l) : EReal) = V M c main_v18 (ix3 q j l) := by
  unfold iblk
  rw [View.read_apply]
  refine congrArg (V M c main_v18) (funext fun a => Fin.ext ?_)
  match a with
  | ⟨0, _⟩ => show win0_4.index t 0 * 4 + 1 * q.val = q.val; rw [(idx4 t).1]; omega
  | ⟨1, _⟩ => show win0_4.index t 1 * 1024 + 1 * j.val = j.val; rw [(idx4 t).2.1]; omega
  | ⟨2, _⟩ => show win0_4.index t 2 * 1024 + 1 * l.val = l.val; rw [(idx4 t).2.2]; omega

theorem iblk5 (c : Dev nD) (t : Fin cfg0.N) (q : Fin 4) (j l : Fin 1024) :
    (iblk M c 5 t (ix3 q j l) : EReal) = V M c main_v20 (ix3 q j l) := by
  unfold iblk
  rw [View.read_apply]
  refine congrArg (V M c main_v20) (funext fun a => Fin.ext ?_)
  match a with
  | ⟨0, _⟩ => show win0_5.index t 0 * 4 + 1 * q.val = q.val; rw [(idx5 t).1]; omega
  | ⟨1, _⟩ => show win0_5.index t 1 * 1024 + 1 * j.val = j.val; rw [(idx5 t).2.1]; omega
  | ⟨2, _⟩ => show win0_5.index t 2 * 1024 + 1 * l.val = l.val; rw [(idx5 t).2.2]; omega

/-! ## The results, row by row -/

abbrev rX (c : Dev nD) (n : Fin 16384) : Fin 1024 → EReal := fun k => aX M c (ix2 n k)
abbrev rD (c : Dev nD) (n : Fin 16384) : Fin 1024 → EReal := fun k => aD M c (ix2 n k)
abbrev mWi (c : Dev nD) : Fin 1024 → Fin 4096 → EReal := fun j f => aWi M c (ix2 j f)
abbrev mWo (c : Dev nD) : Fin 4096 → Fin 1024 → EReal := fun f k => aWo M c (ix2 f k)
abbrev vG (c : Dev nD) : Fin 1024 → EReal := fun k => aG M c (ix2 0 k)

/-- A row of the squared hidden layer. -/
def rH (c : Dev nD) (n : Fin 16384) : Fin 4096 → EReal :=
  fun f => rowHid (mWi M c) (rX M c n) (vG M c) f * rowHid (mWi M c) (rX M c n) (vG M c) f

def preA (c : Dev nD) (n : Fin 16384) (f : Fin 4096) : EReal := rowPre (rD M c n) (rH M c n) (mWo M c) f
def dmA (c : Dev nD) (n : Fin 16384) (j : Fin 1024) : EReal := rowDm (rD M c n) (rH M c n) (mWo M c) (mWi M c) j
def dhA (c : Dev nD) (n : Fin 16384) (j : Fin 1024) : EReal := rowDh (rD M c n) (rX M c n) (vG M c) (dmA M c n) j
def dgTerm (c : Dev nD) (j : Fin 1024) (n : Fin 16384) : EReal := dmA M c n j * (rX M c n j * rowR (rX M c n))
@[irreducible] def dgA (c : Dev nD) (j : Fin 1024) : EReal := ∑ n, dgTerm M c j n

theorem wo_eq (c : Dev nD) (t : Fin cfg0.N) : woOf (iblk M c 5 t) = mWo M c := by
  funext f k
  unfold woOf
  exact (iblk5 M c t _ _ _).trans (V_v20 M c _ _ _ _ (by show f.val = f.val / 1024 * 1024 + f.val % 1024; omega))

theorem wi_eq (c : Dev nD) (t : Fin cfg0.N) : wiOf (iblk M c 4 t) = mWi M c := by
  funext j f
  unfold wiOf
  exact (iblk4 M c t _ _ _).trans (V_v18 M c _ _ _ _ (by show f.val = f.val / 1024 * 1024 + f.val % 1024; omega))

theorem h_eq (c : Dev nD) (t : Fin cfg0.N) (i : Fin 512) : (fun f => iblk M c 2 t (ix2 i f)) = rH M c (rowIx t i) := by
  funext f
  refine (iblk2 M c t i f).trans ?_
  rw [V_v15]
  exact congrArg₂ (fun a b : EReal => a * b) (hid_apply _ _ _ _ _) (hid_apply _ _ _ _ _)

theorem preT_eq (c : Dev nD) (t : Fin cfg0.N) (i : Fin 512) (f : Fin 4096) :
    preT (iblk M c 1 t) (iblk M c 2 t) (iblk M c 5 t) i f = preA M c (rowIx t i) f := by
  unfold preT preA
  rw [wo_eq, h_eq, (funext fun k => iblk1 M c t i k : (fun k => iblk M c 1 t (ix2 i k)) = rD M c (rowIx t i))]

theorem dmT_eq (c : Dev nD) (t : Fin cfg0.N) (i : Fin 512) :
    dmT (iblk M c 1 t) (iblk M c 2 t) (iblk M c 4 t) (iblk M c 5 t) i = dmA M c (rowIx t i) := by
  funext j
  unfold dmT dmA
  rw [wo_eq, wi_eq, h_eq, (funext fun k => iblk1 M c t i k : (fun k => iblk M c 1 t (ix2 i k)) = rD M c (rowIx t i))]

/-- At a point the first result's block holds its rows. -/
theorem out7_eq (c : Dev nD) (t : Fin cfg0.N) (i : Fin 512) (f : Fin 4096) :
    ((outsAt0 M c t.val t.isLt).1 (ix2 i f) : EReal) = preA M c (rowIx t i) f := by
  rw [← preT_eq]
  by_cases h0 : t.val % 32 = 0
  · rw [outsAt0_A M c t h0]; dsimp only; exact out_A7 _ _ _ _ _ _ _ _ _ _ _ _ _ _ _ _ _ _ _ _ _ _ _ _ _ _ _ _ _ _ _ _ _ _ (pre_all _ _ _ _ _)
  · rw [outsAt0_B M c t h0]; dsimp only; exact out_B7 _ _ _ _ _ _ _ _ _ _ _ _ _ _ _ _ _ _ _ _ _ _ _ _ _ _ _ _ _ _ _ _ _ _ _ (pre_all _ _ _ _ _)

/-- The second's holds its rows, -/
theorem out8_eq (c : Dev nD) (t : Fin cfg0.N) (i : Fin 512) (j : Fin 1024) :
    ((outsAt0 M c t.val t.isLt).2.1 (ix2 i j) : EReal) = dhA M c (rowIx t i) j := by
  have e : (outsAt0 M c t.val t.isLt).2.1 = dhV (iblk M c 0 t) (iblk M c 1 t) (iblk M c 2 t) (iblk M c 3 t) (iblk M c 4 t) (iblk M c 5 t) (iblk M c 6 t) := by
    by_cases h0 : t.val % 32 = 0
    · rw [outsAt0_A M c t h0]; dsimp only; rw [out_A8]
    · rw [outsAt0_B M c t h0]; dsimp only; rw [out_B8]
  rw [e, dh_apply, dmT_eq]
  unfold dhA
  rw [(funext fun k => iblk0 M c t i k : (fun k => iblk M c 0 t (ix2 i k)) = rD M c (rowIx t i)),
    (funext fun k => iblk3 M c t i k : (fun k => iblk M c 3 t (ix2 i k)) = rX M c (rowIx t i)),
    (funext fun k => iblk6 M c t k : (fun k => iblk M c 6 t (ix2 0 k)) = vG M c)]

/-- and so does the third's. -/
theorem out9_eq (c : Dev nD) (t : Fin cfg0.N) (i : Fin 512) (j : Fin 1024) :
    ((outsAt0 M c t.val t.isLt).2.2.1 (ix2 i j) : EReal) = dhA M c (rowIx t i) j := by
  rw [← out8_eq]
  by_cases h0 : t.val % 32 = 0
  · rw [outsAt0_A M c t h0]; dsimp only; rw [out_A8, out_A9]; rfl
  · rw [outsAt0_B M c t h0]; dsimp only; rw [out_B8, out_B9]; rfl

/-- A term of the weight's gradient at a natural number. -/
def dgNat (c : Dev nD) (j : Fin 1024) (s : ℕ) : EReal := if h : s < 16384 then dgTerm M c j ⟨s, h⟩ else 0

theorem dg_tile (c : Dev nD) (t : Fin cfg0.N) (j : Fin 1024) :
    ∑ i : Fin 512, dmT (iblk M c 1 t) (iblk M c 2 t) (iblk M c 4 t) (iblk M c 5 t) i j *
        @HMul.hMul EReal EReal EReal _ (iblk M c 3 t (ix2 i j)) (rowR (fun k => iblk M c 3 t (ix2 i k)))
      = ∑ s ∈ Finset.range 512, dgNat M c j (512 * t.val + s) := by
  rw [Finset.sum_range]
  refine Finset.sum_congr rfl fun i _ => ?_
  rw [dmT_eq, (funext fun k => iblk3 M c t i k : (fun k => iblk M c 3 t (ix2 i k)) = rX M c (rowIx t i)), iblk3, dgNat,
    dif_pos (show 512 * t.val + i.val < 16384 from (rowIx t i).isLt)]
  rfl

theorem pay3_apply (j : Fin 1024) : (k0_pay3 (F := Ideal) (ix2 0 j) : EReal) = 0 := by
  pointwise [k0_pay3]

/-- After point `n` the last result's block holds the sum over the tiles so far. -/
theorem acc_eq (c : Dev nD) (j : Fin 1024) : ∀ (n : ℕ) (h : n < cfg0.N),
    ((outsAt0 M c n h).2.2.2 (ix2 0 j) : EReal)
      = ∑ k ∈ Finset.range (n + 1), ∑ s ∈ Finset.range 512, dgNat M c j (512 * k + s)
  | 0, h => by
    rw [outsAt0_A M c ⟨0, h⟩ rfl]
    dsimp only
    rw [out_A10, dg_apply, pay3_apply, zero_add, dg_tile, Finset.sum_range_one]
  | n + 1, h => by
    have hN : n + 1 < 32 := lt_of_lt_of_eq h N_0
    rw [outsAt0_B M c ⟨n + 1, h⟩ (by dsimp only; omega)]
    dsimp only
    rw [out_B10, dg_apply, dg_tile, Finset.sum_range_succ _ (n + 1)]
    exact congrArg (· + _) (acc_eq c j n (Nat.lt_of_succ_lt h))

theorem acc_last (c : Dev nD) (t : Fin cfg0.N) (h3 : t.val = 31) (j : Fin 1024) :
    ((outsAt0 M c t.val t.isLt).2.2.2 (ix2 0 j) : EReal) = dgA M c j := by
  have e := sum_range_blocks 512 (dgNat M c j) 32
  rw [show 512 * 32 = 16384 by norm_num, Finset.sum_range (n := 16384)] at e
  rw [acc_eq, h3]
  unfold dgA
  refine e.trans (Finset.sum_congr rfl fun n _ => ?_)
  rw [dgNat, dif_pos n.isLt]

/-! ## The arrays after the run -/

def pre (c : Dev nD) : S16384x4096.Idx → EReal := fun i => preA M c (i 0) (i 1)
def dh (c : Dev nD) : S16384x1024.Idx → EReal := fun i => dhA M c (i 0) (i 1)
def dg (c : Dev nD) : S1x1024.Idx → EReal := fun i => dgA M c (i 1)

theorem flush10 : ∀ t : Fin cfg0.N, (cfg0.win 10).flush t = true → t.val = 31 := by decide +kernel
theorem last10 : ∃ t : Fin cfg0.N, (cfg0.win 10).flush t = true := by decide +kernel
theorem every7 : ∀ t : Fin cfg0.N, (cfg0.win 7).flush t = true := by decide +kernel
theorem every8 : ∀ t : Fin cfg0.N, (cfg0.win 8).flush t = true := by decide +kernel
theorem every9 : ∀ t : Fin cfg0.N, (cfg0.win 9).flush t = true := by decide +kernel

theorem final7 (c : Dev nD) : (dats M 0 c).arrAt 7 cfg0.N = pre M c := by
  refine (dats M 0 c).arrAt_eq_of_cover 7 (pre M c) (fun t hf => ?_) (fun i => ?_)
  · rw [Value.flushed7]
    funext y
    obtain ⟨r, l, rfl⟩ : ∃ (r : Fin 512) (l : Fin 4096), y = ix2 r l := ⟨y 0, y 1, eq_ix2 y⟩
    rw [View.read_apply]
    refine (out7_eq M c t r l).trans ?_
    unfold pre
    refine congrArg₂ (preA M c) (Fin.ext ?_) (Fin.ext ?_)
    · show 512 * t.val + r.val = win0_7.index t 0 * 512 + 1 * r.val; rw [(idx7 t).1]; omega
    · show l.val = win0_7.index t 1 * 4096 + 1 * l.val; rw [(idx7 t).2]; omega
  · have h0 : (i 0 : Nat) < 16384 := (i 0).isLt
    have h1 : (i 1 : Nat) < 4096 := (i 1).isLt
    obtain ⟨t, ht⟩ : ∃ t : Fin cfg0.N, t.val = (i 0 : Nat) / 512 :=
      ⟨⟨(i 0 : Nat) / 512, lt_of_lt_of_eq (show (i 0 : Nat) / 512 < 32 by omega) N_0.symm⟩, rfl⟩
    refine ⟨t, every7 t, ?_⟩
    show i ∈ ((View.whole main_v22_0).slice (win0_7.rect t)).set
    rw [View.set_slice_whole, Rect.mem_set_unit]
    intro a
    match a with
    | ⟨0, _⟩ => show win0_7.index t 0 * 512 ≤ (i 0 : Nat) ∧ (i 0 : Nat) < win0_7.index t 0 * 512 + 512; rw [(idx7 t).1, ht]; omega
    | ⟨1, _⟩ => show win0_7.index t 1 * 4096 ≤ (i 1 : Nat) ∧ (i 1 : Nat) < win0_7.index t 1 * 4096 + 4096; rw [(idx7 t).2]; omega

theorem final8 (c : Dev nD) : (dats M 0 c).arrAt 8 cfg0.N = dh M c := by
  refine (dats M 0 c).arrAt_eq_of_cover 8 (dh M c) (fun t hf => ?_) (fun i => ?_)
  · rw [Value.flushed8]
    funext y
    obtain ⟨r, l, rfl⟩ : ∃ (r : Fin 512) (l : Fin 1024), y = ix2 r l := ⟨y 0, y 1, eq_ix2 y⟩
    rw [View.read_apply]
    refine (out8_eq M c t r l).trans ?_
    unfold dh
    refine congrArg₂ (dhA M c) (Fin.ext ?_) (Fin.ext ?_)
    · show 512 * t.val + r.val = win0_8.index t 0 * 512 + 1 * r.val; rw [(idx8 t).1]; omega
    · show l.val = win0_8.index t 1 * 1024 + 1 * l.val; rw [(idx8 t).2]; omega
  · have h0 : (i 0 : Nat) < 16384 := (i 0).isLt
    have h1 : (i 1 : Nat) < 1024 := (i 1).isLt
    obtain ⟨t, ht⟩ : ∃ t : Fin cfg0.N, t.val = (i 0 : Nat) / 512 :=
      ⟨⟨(i 0 : Nat) / 512, lt_of_lt_of_eq (show (i 0 : Nat) / 512 < 32 by omega) N_0.symm⟩, rfl⟩
    refine ⟨t, every8 t, ?_⟩
    show i ∈ ((View.whole main_v22_1).slice (win0_8.rect t)).set
    rw [View.set_slice_whole, Rect.mem_set_unit]
    intro a
    match a with
    | ⟨0, _⟩ => show win0_8.index t 0 * 512 ≤ (i 0 : Nat) ∧ (i 0 : Nat) < win0_8.index t 0 * 512 + 512; rw [(idx8 t).1, ht]; omega
    | ⟨1, _⟩ => show win0_8.index t 1 * 1024 ≤ (i 1 : Nat) ∧ (i 1 : Nat) < win0_8.index t 1 * 1024 + 1024; rw [(idx8 t).2]; omega

theorem final9 (c : Dev nD) : (dats M 0 c).arrAt 9 cfg0.N = dh M c := by
  refine (dats M 0 c).arrAt_eq_of_cover 9 (dh M c) (fun t hf => ?_) (fun i => ?_)
  · rw [Value.flushed9]
    funext y
    obtain ⟨r, l, rfl⟩ : ∃ (r : Fin 512) (l : Fin 1024), y = ix2 r l := ⟨y 0, y 1, eq_ix2 y⟩
    rw [View.read_apply]
    refine (out9_eq M c t r l).trans ?_
    unfold dh
    refine congrArg₂ (dhA M c) (Fin.ext ?_) (Fin.ext ?_)
    · show 512 * t.val + r.val = win0_9.index t 0 * 512 + 1 * r.val; rw [(idx9 t).1]; omega
    · show l.val = win0_9.index t 1 * 1024 + 1 * l.val; rw [(idx9 t).2]; omega
  · have h0 : (i 0 : Nat) < 16384 := (i 0).isLt
    have h1 : (i 1 : Nat) < 1024 := (i 1).isLt
    obtain ⟨t, ht⟩ : ∃ t : Fin cfg0.N, t.val = (i 0 : Nat) / 512 :=
      ⟨⟨(i 0 : Nat) / 512, lt_of_lt_of_eq (show (i 0 : Nat) / 512 < 32 by omega) N_0.symm⟩, rfl⟩
    refine ⟨t, every9 t, ?_⟩
    show i ∈ ((View.whole main_v22_2).slice (win0_9.rect t)).set
    rw [View.set_slice_whole, Rect.mem_set_unit]
    intro a
    match a with
    | ⟨0, _⟩ => show win0_9.index t 0 * 512 ≤ (i 0 : Nat) ∧ (i 0 : Nat) < win0_9.index t 0 * 512 + 512; rw [(idx9 t).1, ht]; omega
    | ⟨1, _⟩ => show win0_9.index t 1 * 1024 ≤ (i 1 : Nat) ∧ (i 1 : Nat) < win0_9.index t 1 * 1024 + 1024; rw [(idx9 t).2]; omega

theorem final10 (c : Dev nD) : (dats M 0 c).arrAt 10 cfg0.N = dg M c := by
  refine (dats M 0 c).arrAt_eq_of_cover 10 (dg M c) (fun t hf => ?_) (fun i => ?_)
  · rw [Value.flushed10]
    have h3 := flush10 t hf
    funext y
    obtain ⟨z, l, rfl⟩ : ∃ (z : Fin 1) (l : Fin 1024), y = ix2 z l := ⟨y 0, y 1, eq_ix2 y⟩
    obtain rfl : z = 0 := Subsingleton.elim _ _
    rw [View.read_apply]
    refine (acc_last M c t h3 l).trans ?_
    unfold dg
    refine congrArg (dgA M c) (Fin.ext ?_)
    show l.val = win0_10.index t 1 * 1024 + 1 * l.val; rw [(idx10 t).2]; omega
  · obtain ⟨t, hf⟩ := last10
    refine ⟨t, hf, ?_⟩
    show i ∈ ((View.whole main_v22_3).slice (win0_10.rect t)).set
    rw [View.set_slice_whole, Rect.mem_set_unit]
    intro a
    have h0 : (i 0 : Nat) < 1 := (i 0).isLt
    have h1 : (i 1 : Nat) < 1024 := (i 1).isLt
    match a with
    | ⟨0, _⟩ => show win0_10.index t 0 * 1 ≤ (i 0 : Nat) ∧ (i 0 : Nat) < win0_10.index t 0 * 1 + 1; rw [(idx10 t).1]; omega
    | ⟨1, _⟩ => show win0_10.index t 1 * 1024 ≤ (i 1 : Nat) ∧ (i 1 : Nat) < win0_10.index t 1 * 1024 + 1024; rw [(idx10 t).2]; omega

end Cert.KernelIdeal.Own

end
-- ==== Proof.MlpBwdClaim.lean ====
/- The backward pass of the MLP: kernel and reference agree. -/
module

public import proofs.«01_k».proof.Proof.MlpBwdArray
public import proofs.«01_k».proof.Proof.Gen.ReferenceIdeal.Run
public import proofs.«01_k».proof.Defs

@[expose] public section

set_option maxRecDepth 16384

noncomputable section

namespace Cert.Own.MlpBwd

open Idealize.ShloMosaic Idealize.ShloMosaic.TcCoe Idealize.SL.Sem Cert.Own
open Cert.ReferenceIdeal Cert.ReferenceIdeal.Gen

/-! ## The reference's arrays, in stages -/

section
variable (x d : FVec Ideal S16384x1024 .f32) (wi : FVec Ideal S1024x4096 .f32) (wo : FVec Ideal S4096x1024 .f32)
  (g : FVec Ideal S1x1024 .f32)

/-- The mean of a row's squares, and the small number. -/
def vA : FVec Ideal S16384x1 .f32 :=
  addf (Host.divf (broadcastInDim S16384x1 ![0] bcast_S16384_S16384x1_0
      (Host.reduceAdd (mulf x x) (constant S_ .f32 0x00000000#32) reducesTo_S16384x1024_S16384_d1 h_S_))
    (broadcastInDim S16384x1 ![] bcast_S_S16384x1 (constant S_ .f32 0x44800000#32)))
    (broadcastInDim S16384x1 ![] bcast_S_S16384x1 (constant S_ .f32 0x358637BD#32))

def vR : FVec Ideal S16384x1 .f32 := Host.rsqrt (vA x)

/-- The normalised rows before the weight. -/
def vN : FVec Ideal S16384x1024 .f32 := mulf x (broadcastInDim S16384x1024 ![0, 1] bcast_S16384x1_S16384x1024_0_1 (vR x))

/-- The hidden layer before the positive part. -/
def vP : FVec Ideal S16384x4096 .f32 :=
  Host.dotGeneral (F := Ideal) (φ₁ := .f32) (φ₂ := .f32) dot_S16384x1024_S1024x4096_S16384x4096_1_0_0_1_n_n none
    (mulf (vN x) (broadcastInDim S16384x1024 ![0, 1] bcast_S1x1024_S16384x1024_0_1 g)) wi

/-- The gradient at the hidden layer. -/
def vDpre : FVec Ideal S16384x4096 .f32 :=
  select (cmpf .ogt (vP x wi g) (broadcastInDim S16384x4096 ![] bcast_S_S16384x4096 (constant S_ .f32 0x00000000#32)))
    (mulf (Host.dotGeneral (F := Ideal) (φ₁ := .f32) (φ₂ := .f32) dot_S16384x1024_S4096x1024_S16384x4096_1_1_0_0_n_n none d wo)
      (mulf (broadcastInDim S16384x4096 ![] bcast_S_S16384x4096 (constant S_ .f32 0x40000000#32))
        (maximumf (vP x wi g) (broadcastInDim S16384x4096 ![] bcast_S_S16384x4096 (constant S_ .f32 0x00000000#32)))))
    (broadcastInDim S16384x4096 ![] bcast_S_S16384x4096 (constant S_ .f32 0x00000000#32))

/-- The gradient at the normalised rows. -/
def vDm : FVec Ideal S16384x1024 .f32 :=
  Host.dotGeneral (F := Ideal) (φ₁ := .f32) (φ₂ := .f32) dot_S16384x4096_S1024x4096_S16384x1024_1_1_0_0_n_n none (vDpre x d wi wo g) wi

/-- The gradient of the norm's weight. -/
def vDg : FVec Ideal S1x1024 .f32 :=
  shapeCast S1x1024 (Host.reduceAdd (mulf (vN x) (vDm x d wi wo g)) (constant S_ .f32 0x00000000#32) reducesTo_S16384x1024_S1024_d0 h_S_)
    shapeCasts_S1024_S1x1024

/-- The gradient at the weighted rows. -/
def vW : FVec Ideal S16384x1024 .f32 :=
  mulf (vDm x d wi wo g) (broadcastInDim S16384x1024 ![0, 1] bcast_S1x1024_S16384x1024_0_1 g)

/-- The gradient at the mean of the squares, spread over the row. -/
def vB : FVec Ideal S16384x1024 .f32 :=
  broadcastInDim S16384x1024 ![0] bcast_S16384_S16384x1024_0
    (Host.reduceAdd (Host.divf (mulf
        (shapeCast S16384x1 (Host.reduceAdd (mulf x (vW x d wi wo g)) (constant S_ .f32 0x00000000#32) reducesTo_S16384x1024_S16384_d1 h_S_) shapeCasts_S16384_S16384x1)
        (mulf (broadcastInDim S16384x1 ![] bcast_S_S16384x1 (constant S_ .f32 0xBF000000#32)) (Host.divf (vR x) (vA x))))
      (broadcastInDim S16384x1 ![] bcast_S_S16384x1 (constant S_ .f32 0x44800000#32))) (constant S_ .f32 0x00000000#32) reducesTo_S16384x1_S16384_d1 h_S_)

/-- The gradient of the residual stream. -/
def vDh : FVec Ideal S16384x1024 .f32 :=
  addf d (addf (addf (mulf (vW x d wi wo g) (broadcastInDim S16384x1024 ![0, 1] bcast_S16384x1_S16384x1024_0_1 (vR x)))
      (mulf x (vB x d wi wo g))) (mulf (vB x d wi wo g) x))

abbrev rowOf {a b : ℕ} (x : FVec Ideal ⟨2, ![a, b]⟩ .f32) (n : Fin a) : Fin b → EReal := fun k => x (ix2 n k)

theorem vA_apply (n : Fin 16384) : vA x (ix2 n 0) = Ideal.div (∑ k, x (ix2 n k) * x (ix2 n k)) (Ideal.ofBits FTy.f32 0x44800000#32)
    + Ideal.ofBits FTy.f32 0x358637BD#32 := by
  pointwise [vA]

theorem vN_apply (n : Fin 16384) (k : Fin 1024) : vN x (ix2 n k) = x (ix2 n k) * rowR (rowOf x n) := by
  pointwise [vN, vR]
  rw [vA_apply]
  rfl

theorem vP_apply (n : Fin 16384) (f : Fin 4096) :
    vP x wi g (ix2 n f) = ∑ k, x (ix2 n k) * rowR (rowOf x n) * g (ix2 0 k) * wi (ix2 k f) := by
  pointwise [vP]
  simp only [vN_apply]

/-- A row of the squared hidden layer. -/
abbrev hidSq (n : Fin 16384) : Fin 4096 → EReal := fun f =>
  rowHid (rowOf wi) (rowOf x n) (rowOf g 0) f * rowHid (rowOf wi) (rowOf x n) (rowOf g 0) f

theorem vDpre_apply (n : Fin 16384) (f : Fin 4096) :
    vDpre x d wi wo g (ix2 n f) = rowPre (rowOf d n) (hidSq x wi g n) (rowOf wo) f := by
  have hp : rowHid (rowOf wi) (rowOf x n) (rowOf g 0) f = max (vP x wi g (ix2 n f)) 0 := by rw [vP_apply]; rfl
  pointwise [vDpre]
  unfold rowPre hidSq
  beta_reduce
  rw [hp, sqrt_relu_sq]
  split_ifs with h
  · rfl
  · rw [max_eq_right (not_lt.1 h), mul_zero, mul_zero]

theorem vDm_apply (n : Fin 16384) (j : Fin 1024) :
    vDm x d wi wo g (ix2 n j) = rowDm (rowOf d n) (hidSq x wi g n) (rowOf wo) (rowOf wi) j := by
  pointwise [vDm]
  simp only [vDpre_apply]
  rfl

theorem vDg_apply (j : Fin 1024) : vDg x d wi wo g (ix2 0 j)
    = ∑ n, rowDm (rowOf d n) (hidSq x wi g n) (rowOf wo) (rowOf wi) j * (x (ix2 n j) * rowR (rowOf x n)) := by
  pointwise [vDg]
  exact Finset.sum_congr rfl fun n _ => by rw [vN_apply, vDm_apply, mul_comm]

theorem vDh_apply (n : Fin 16384) (j : Fin 1024) : vDh x d wi wo g (ix2 n j)
      = rowDh (rowOf d n) (rowOf x n) (rowOf g 0) (rowDm (rowOf d n) (hidSq x wi g n) (rowOf wo) (rowOf wi)) j := by
  have key := norm_bwd (rowOf x n) (fun k => vDm x d wi wo g (ix2 n k) * g (ix2 0 k))
    (vA x (ix2 n 0)) (rowR (rowOf x n)) (vA_apply x n) (by rw [vA_apply]; rfl) j
  have hrA : Ideal.rsqrt (vA x (ix2 n 0)) = rowR (rowOf x n) := by rw [vA_apply]; rfl
  pointwise [vDh, vB, vW, vR]
  rw [Fin.sum_univ_one, hrA]
  refine (congrArg (d (ix2 n j) + ·) key.symm).trans ?_
  unfold rowDh
  simp only [vDm_apply]

end

section
variable (m : (ℓ : Loc nD τ sig) → Buf (Elt Ideal) ℓ)
theorem res48 (c : Dev nD) : Value.res_main_v48 m c = vDh (m ((c.tc : Thread nD τ).loc main_arg0)) (m ((c.tc : Thread nD τ).loc main_arg1))
    (m ((c.tc : Thread nD τ).loc main_arg2)) (m ((c.tc : Thread nD τ).loc main_arg3)) (m ((c.tc : Thread nD τ).loc main_arg4)) := by
  unfold Value.res_main_v48; rfl

theorem res50 (c : Dev nD) : Value.res_main_v50 m c = vDh (m ((c.tc : Thread nD τ).loc main_arg0)) (m ((c.tc : Thread nD τ).loc main_arg1))
    (m ((c.tc : Thread nD τ).loc main_arg2)) (m ((c.tc : Thread nD τ).loc main_arg3)) (m ((c.tc : Thread nD τ).loc main_arg4)) := by
  unfold Value.res_main_v50; rfl

end

theorem algebraic : Cert.algebraic_KernelIdeal_ReferenceIdeal := by
  intro m g m' g' _ hargs
  have k7 : ∀ c : Dev nD, Cert.KernelIdeal.Own.pre m c = vDpre (m' ((c.tc : Thread nD τ).loc main_arg0)) (m' ((c.tc : Thread nD τ).loc main_arg1))
      (m' ((c.tc : Thread nD τ).loc main_arg2)) (m' ((c.tc : Thread nD τ).loc main_arg3)) (m' ((c.tc : Thread nD τ).loc main_arg4)) := by
    intro c
    funext i
    obtain ⟨n, f, rfl⟩ : ∃ (n : Fin 16384) (f : Fin 4096), i = ix2 n f := ⟨i 0, i 1, eq_ix2 i⟩
    rw [(hargs c).1, (hargs c).2.1, (hargs c).2.2.1, (hargs c).2.2.2.1, (hargs c).2.2.2.2, vDpre_apply]
    rfl
  have k8 : ∀ c : Dev nD, Cert.KernelIdeal.Own.dh m c = vDh (m' ((c.tc : Thread nD τ).loc main_arg0)) (m' ((c.tc : Thread nD τ).loc main_arg1))
      (m' ((c.tc : Thread nD τ).loc main_arg2)) (m' ((c.tc : Thread nD τ).loc main_arg3)) (m' ((c.tc : Thread nD τ).loc main_arg4)) := by
    intro c
    funext i
    obtain ⟨n, f, rfl⟩ : ∃ (n : Fin 16384) (f : Fin 1024), i = ix2 n f := ⟨i 0, i 1, eq_ix2 i⟩
    rw [(hargs c).1, (hargs c).2.1, (hargs c).2.2.1, (hargs c).2.2.2.1, (hargs c).2.2.2.2, vDh_apply]
    rfl
  have k10 : ∀ c : Dev nD, Cert.KernelIdeal.Own.dg m c = vDg (m' ((c.tc : Thread nD τ).loc main_arg0)) (m' ((c.tc : Thread nD τ).loc main_arg1))
      (m' ((c.tc : Thread nD τ).loc main_arg2)) (m' ((c.tc : Thread nD τ).loc main_arg3)) (m' ((c.tc : Thread nD τ).loc main_arg4)) := by
    intro c
    funext i
    obtain ⟨z, f, rfl⟩ : ∃ (z : Fin 1) (f : Fin 1024), i = ix2 z f := ⟨i 0, i 1, eq_ix2 i⟩
    obtain rfl : z = 0 := Subsingleton.elim _ _
    rw [(hargs c).1, (hargs c).2.1, (hargs c).2.2.1, (hargs c).2.2.2.1, (hargs c).2.2.2.2, vDg_apply]
    unfold Cert.KernelIdeal.Own.dg Cert.KernelIdeal.Own.dgA
    rfl
  refine ⟨fun c => Cert.KernelIdeal.Own.pre m c, fun c => Cert.KernelIdeal.Own.dh m c, fun c => Cert.KernelIdeal.Own.dh m c,
    fun c => Cert.KernelIdeal.Own.dg m c, ?_, ?_⟩
  · exact (θ_run _ _ _).mono (fun r h c => ⟨(h c).1.trans (Cert.KernelIdeal.Own.final7 m c),
      (h c).2.1.trans (Cert.KernelIdeal.Own.final8 m c), (h c).2.2.1.trans (Cert.KernelIdeal.Own.final9 m c),
      (h c).2.2.2.1.trans (Cert.KernelIdeal.Own.final10 m c), (h c).2.2.2.2⟩) (Cert.KernelIdeal.Value.run_blocks m g)
  · exact (θ_run _ _ _).mono (fun r h c => ⟨(h c).1.trans (k7 c).symm,
      (h c).2.1.trans ((res48 m' c).trans (k8 c).symm), (h c).2.2.1.trans ((res50 m' c).trans (k8 c).symm),
      (h c).2.2.2.1.trans (k10 c).symm, (h c).2.2.2.2⟩)
      (Cert.ReferenceIdeal.Value.run m' g')

end Cert.Own.MlpBwd

end
-- ==== Proof.LossRow.lean ====
/- One row of the last part of the forward pass, and of the gradient of the loss. -/
module

public import proofs.«01_k».proof.Proof.Norm

@[expose] public section

noncomputable section

namespace Cert.Own

open Idealize.ShloMosaic

section
variable (m h1 y g t : Fin 1024 → EReal) (hid : Fin 4096 → EReal) (wo : Fin 4096 → Fin 1024 → EReal) (wi : Fin 1024 → Fin 4096 → EReal)

/-- The hidden layer: the square of the positive part of the product with the first matrix. -/
def rowSq (f : Fin 4096) : EReal := max (∑ k, m k * wi k f) 0 * max (∑ k, m k * wi k f) 0

/-- The residual stream after the MLP. -/
def rowY (j : Fin 1024) : EReal := (∑ f, hid f * wo f j) + h1 j

/-- The error of the normalised row against the target. -/
def rowErr (j : Fin 1024) : EReal := y j * rowR y * g j - t j

/-- The gradient of the loss at the normalised row: the error over the row's length. -/
def rowDy (j : Fin 1024) : EReal := rowErr y g t j * Ideal.ofBits FTy.f32 0x3A800000#32

/-- The gradient of the loss at the row before the norm. -/
def rowGrad (j : Fin 1024) : EReal := rowR y * (rowDy y g t j * g j - y j * rowR y *
  Ideal.div (∑ k, rowDy y g t k * g k * (y k * rowR y)) (Ideal.ofBits FTy.f32 0x44800000#32))

end

theorem sum_bands (f : Fin 512 → EReal) : (∑ k : Fin 128, f ⟨k, by omega⟩) + (∑ k : Fin 128, f ⟨128 + k, by omega⟩)
    + (∑ k : Fin 128, f ⟨256 + k, by omega⟩) + (∑ k : Fin 128, f ⟨384 + k, by omega⟩) = ∑ k, f k := by
  have e : ∑ k, f k = ∑ k : Fin (128 + 128 + 128 + 128), f k := rfl
  rw [e, Fin.sum_univ_add, Fin.sum_univ_add, Fin.sum_univ_add]
  rfl

theorem c1024inv : Ideal.ofBits FTy.f32 0x3A800000#32 = ((1 / 1024 : ℝ) : EReal) := by
  simp [Ideal.ofBits, Ideal.ieee]
  rw [← EReal.coe_mul]; norm_num

theorem chalf : Ideal.ofBits FTy.f32 0x3F000000#32 = ((1 / 2 : ℝ) : EReal) := by
  simp [Ideal.ofBits, Ideal.ieee]
  rw [← EReal.coe_mul]; norm_num

end Cert.Own

end
-- ==== Proof.MlpLoss.lean ====
/- The last part of the forward pass (MLP, residual, final norm, loss) with the loss's gradient: what one grid point leaves in its five outputs. -/
module

public import proofs.«01_k».proof.Proof.Gen.KernelLossIdeal.Value
public import proofs.«01_k».proof.Proof.LossRow
public import Idealize.ShloMosaic.Lib.Pipeline.Value
public import Idealize.ShloMosaic.Lib.Pointwise
public import Idealize.ShloMosaic.Lib.Tactic
public import Idealize.ShloMosaic.Lib.StableHlo.RunRead
public import Idealize.ShloMosaic.Lib.Pipeline.ValueKit.Tiles
public import Idealize.ShloMosaic.Lib.Pipeline.ValueKit
public import Idealize.ShloMosaic.Lib.Pipeline.ReadBack
public import Idealize.ShloMosaic.PureOps.Ideal

@[expose] public section

noncomputable section

namespace Cert.KernelLossIdeal.Own

open Cert.KernelLossIdeal Cert.KernelLossIdeal.Gen Idealize.ShloMosaic Idealize.ShloMosaic.TcCoe Idealize.SL.Sem Cert.Own
open Idealize.ShloMosaic.Pipeline (Dat)

variable {F : FTy → Type} [FloatOps F]
variable (m : (ℓ : Loc nD τ sig) → Buf (Elt F) ℓ) (ρ : Dev nD → PrngReg)

theorem hz2 : (![0, 0] : Fin 2 → Nat) = fun _ => 0 := funext fun a => by fin_cases a <;> rfl

section
variable (x0 : Vec F S512x1024 .bf16) (x1 x2 : Vec F S512x1024 .f32) (x3 x4 : Vec F S4x1024x1024 .bf16) (x5 x9 x10 : Vec F S1x1024 .f32)

/-- The tile's rows after the MLP and its residual. -/
def yV : Vec F S512x1024 .f32 :=
  k0_pay13 (k0_pay12 (k0_pay7 x0 (View.ld x3 (Rect.unit ![0, 0, 0] ![1, 1024, 1024] inb_S4x1024x1024_S1x1024x1024_0_0_0)) (View.ld x4 (Rect.unit ![0, 0, 0] ![1, 1024, 1024] inb_S4x1024x1024_S1x1024x1024_0_0_0)))
    (k0_pay8 x0 (View.ld x3 (Rect.unit ![1, 0, 0] ![1, 1024, 1024] inb_S4x1024x1024_S1x1024x1024_1_0_0)))
    (k0_pay9 (View.ld x4 (Rect.unit ![1, 0, 0] ![1, 1024, 1024] inb_S4x1024x1024_S1x1024x1024_1_0_0))) (constant S512x1024 FTy.f32 0#32) x0
    (View.ld x3 (Rect.unit ![2, 0, 0] ![1, 1024, 1024] inb_S4x1024x1024_S1x1024x1024_2_0_0)) (View.ld x4 (Rect.unit ![2, 0, 0] ![1, 1024, 1024] inb_S4x1024x1024_S1x1024x1024_2_0_0)) x0
    (View.ld x3 (Rect.unit ![3, 0, 0] ![1, 1024, 1024] inb_S4x1024x1024_S1x1024x1024_3_0_0)) (View.ld x4 (Rect.unit ![3, 0, 0] ![1, 1024, 1024] inb_S4x1024x1024_S1x1024x1024_3_0_0))) x1

/-! The four bands of those rows, and of the target. -/

def y0 : Vec F S128x1024 .f32 := View.ld (yV x0 x1 x3 x4) (Rect.unit ![0, 0] ![128, 1024] inb_S512x1024_S128x1024_0_0)
def t0 : Vec F S128x1024 .f32 := View.ld x2 (Rect.unit ![0, 0] ![128, 1024] inb_S512x1024_S128x1024_0_0)
def y128 : Vec F S128x1024 .f32 := View.ld (yV x0 x1 x3 x4) (Rect.unit ![128, 0] ![128, 1024] inb_S512x1024_S128x1024_128_0)
def t128 : Vec F S128x1024 .f32 := View.ld x2 (Rect.unit ![128, 0] ![128, 1024] inb_S512x1024_S128x1024_128_0)
def y256 : Vec F S128x1024 .f32 := View.ld (yV x0 x1 x3 x4) (Rect.unit ![256, 0] ![128, 1024] inb_S512x1024_S128x1024_256_0)
def t256 : Vec F S128x1024 .f32 := View.ld x2 (Rect.unit ![256, 0] ![128, 1024] inb_S512x1024_S128x1024_256_0)
def y384 : Vec F S128x1024 .f32 := View.ld (yV x0 x1 x3 x4) (Rect.unit ![384, 0] ![128, 1024] inb_S512x1024_S128x1024_384_0)
def t384 : Vec F S128x1024 .f32 := View.ld x2 (Rect.unit ![384, 0] ![128, 1024] inb_S512x1024_S128x1024_384_0)

/-- The four column pieces of the hidden layer. -/
def hidPieces : List (View.Piece (Elt F) S512x4096 .bf16) :=
  [⟨Rect.unit ![0, 3072] ![512, 1024] inb_S512x4096_S512x1024_0_3072, k0_pay11 x0 (View.ld x3 (Rect.unit ![3, 0, 0] ![1, 1024, 1024] inb_S4x1024x1024_S1x1024x1024_3_0_0))⟩,
    ⟨Rect.unit ![0, 2048] ![512, 1024] inb_S512x4096_S512x1024_0_2048, k0_pay10 x0 (View.ld x3 (Rect.unit ![2, 0, 0] ![1, 1024, 1024] inb_S4x1024x1024_S1x1024x1024_2_0_0))⟩,
    ⟨Rect.unit ![0, 1024] ![512, 1024] inb_S512x4096_S512x1024_0_1024, k0_pay8 x0 (View.ld x3 (Rect.unit ![1, 0, 0] ![1, 1024, 1024] inb_S4x1024x1024_S1x1024x1024_1_0_0))⟩,
    ⟨Rect.unit ![0, 0] ![512, 1024] inb_S512x4096_S512x1024_0_0, k0_pay6 x0 (View.ld x3 (Rect.unit ![0, 0, 0] ![1, 1024, 1024] inb_S4x1024x1024_S1x1024x1024_0_0_0))⟩]

/-- The gradient of the residual stream, in four bands of rows. -/
def bands : List (View.Piece (Elt F) S512x1024 .f32) :=
  [⟨Rect.unit ![384, 0] ![128, 1024] inb_S512x1024_S128x1024_384_0, k0_pay53 x5 (y384 x0 x1 x3 x4) (t384 x2)⟩,
    ⟨Rect.unit ![256, 0] ![128, 1024] inb_S512x1024_S128x1024_256_0, k0_pay44 (k0_pay42 x5 (y256 x0 x1 x3 x4) (t256 x2)) (k0_pay43 (y256 x0 x1 x3 x4))⟩,
    ⟨Rect.unit ![128, 0] ![128, 1024] inb_S512x1024_S128x1024_128_0, k0_pay33 (k0_pay26 (y128 x0 x1 x3 x4)) (k0_pay32 x5 (y128 x0 x1 x3 x4) (t128 x2))⟩,
    ⟨Rect.unit ![0, 0] ![128, 1024] inb_S512x1024_S128x1024_0_0, k0_pay23 (k0_pay15 (y0 x0 x1 x3 x4)) (k0_pay21 x5 (y0 x0 x1 x3 x4) (t0 x2)) (k0_pay22 x5 (y0 x0 x1 x3 x4) (t0 x2))⟩]

/-- The same bands in the short format. -/
def bandsShort : List (View.Piece (Elt F) S512x1024 .bf16) :=
  [⟨Rect.unit ![384, 0] ![128, 1024] inb_S512x1024_S128x1024_384_0, k0_pay1 (k0_pay53 x5 (y384 x0 x1 x3 x4) (t384 x2))⟩,
    ⟨Rect.unit ![256, 0] ![128, 1024] inb_S512x1024_S128x1024_256_0, k0_pay45 (k0_pay42 x5 (y256 x0 x1 x3 x4) (t256 x2)) (k0_pay43 (y256 x0 x1 x3 x4))⟩,
    ⟨Rect.unit ![128, 0] ![128, 1024] inb_S512x1024_S128x1024_128_0, k0_pay34 (k0_pay26 (y128 x0 x1 x3 x4)) (k0_pay32 x5 (y128 x0 x1 x3 x4) (t128 x2))⟩,
    ⟨Rect.unit ![0, 0] ![128, 1024] inb_S512x1024_S128x1024_0_0, k0_pay24 (k0_pay15 (y0 x0 x1 x3 x4)) (k0_pay21 x5 (y0 x0 x1 x3 x4) (t0 x2)) (k0_pay22 x5 (y0 x0 x1 x3 x4) (t0 x2))⟩]

/-- The tile's sum of squared errors, lane by lane, over what was there. -/
def lossV : FVec F S1x1024 .f32 :=
  k0_pay2 (k0_pay50 x5 (k0_pay39 x5 (k0_pay29 x5 (k0_pay18 x5 (y0 x0 x1 x3 x4) (t0 x2)) (y128 x0 x1 x3 x4) (t128 x2)) (y256 x0 x1 x3 x4) (t256 x2)) (y384 x0 x1 x3 x4) (t384 x2)) x9

/-- The tile's sum for the gradient of the norm's weight, over what was there. -/
def dgV : FVec F S1x1024 .f32 :=
  k0_pay3 (k0_pay52 x5 (k0_pay41 x5 (k0_pay31 x5 (k0_pay20 x5 (y0 x0 x1 x3 x4) (t0 x2)) (y128 x0 x1 x3 x4) (t128 x2)) (y256 x0 x1 x3 x4) (t256 x2)) (y384 x0 x1 x3 x4) (t384 x2)) x10

variable (c : Dev nD) (i : grid0.Coords) (a1 : Memref sig .tc .vmem S512x1024 .bf16) (h1 : a1.IsWhole) (a2 : Memref sig .tc .vmem S512x1024 .f32) (h2 : a2.IsWhole) (a3 : Memref sig .tc .vmem S512x1024 .f32) (h3 : a3.IsWhole) (a4 : Memref sig .tc .vmem S4x1024x1024 .bf16) (h4 : a4.IsWhole) (a5 : Memref sig .tc .vmem S4x1024x1024 .bf16) (h5 : a5.IsWhole) (a6 : Memref sig .tc .vmem S1x1024 .f32) (h6 : a6.IsWhole) (a7 : Memref sig .tc .vmem S512x4096 .bf16) (h7 : a7.IsWhole) (a8 : Memref sig .tc .vmem S512x1024 .f32) (h8 : a8.IsWhole) (a9 : Memref sig .tc .vmem S512x1024 .bf16) (h9 : a9.IsWhole) (a10 : Memref sig .tc .vmem S1x1024 .f32) (h10 : a10.IsWhole) (a11 : Memref sig .tc .vmem S1x1024 .f32) (h11 : a11.IsWhole)

/-- The hidden layer is any array that all four pieces agree with. -/
theorem out_A6 (hc0 : cond0_0 i) (y : S512x4096.Idx) (v : Elt F .bf16) (hv : View.AllAt (hidPieces x0 x3) y v) :
    out0_A_6 c i a1 h1 a2 h2 a3 h3 a4 h4 a5 h5 a6 h6 a7 h7 a8 h8 a9 h9 a10 h10 a11 h11 hc0 x0 x1 x2 x3 x4 x5 y = v := by
  unfold out0_A_6
  rw [View.read_writes_eq_canon _ _ _ (cover0_A_6 c i a1 h1 a2 h2 a3 h3 a4 h4 a5 h5 a6 h6 a7 h7 a8 h8 a9 h9 a10 h10 a11 h11 hc0 x0 x1 x2 x3 x4 x5)]
  refine View.canon_eq_of_allAt _ y _ (cover0_A_6 c i a1 h1 a2 h2 a3 h3 a4 h4 a5 h5 a6 h6 a7 h7 a8 h8 a9 h9 a10 h10 a11 h11 hc0 x0 x1 x2 x3 x4 x5 y) ?_
  unfold kernelRun0_A
  dsimp only
  sl_unfold_words
  simp only [View.readAt_eq_ld, h1.read_unread, h2.read_unread, h3.read_unread, h4.read_unread, h5.read_unread, h6.read_unread, h10.read_unread, h11.read_unread, View.ld_unit_zero (S := S512x1024) hz2, View.ld_unit_zero (S := S1x1024) hz2]
  exact hv

/-- The gradient's rows are the four bands, written over the rows they were computed from. -/
theorem out_A7 (hc0 : cond0_0 i) : out0_A_7 c i a1 h1 a2 h2 a3 h3 a4 h4 a5 h5 a6 h6 a7 h7 a8 h8 a9 h9 a10 h10 a11 h11 hc0 x0 x1 x2 x3 x4 x5
    = View.canon (bands x0 x1 x2 x3 x4 x5 ++ [⟨Rect.unit ![0, 0] ![512, 1024] inb_S512x1024_S512x1024_0_0, yV x0 x1 x3 x4⟩]) := by
  unfold out0_A_7
  rw [View.read_writes_eq_canon _ _ _ (cover0_A_7 c i a1 h1 a2 h2 a3 h3 a4 h4 a5 h5 a6 h6 a7 h7 a8 h8 a9 h9 a10 h10 a11 h11 hc0 x0 x1 x2 x3 x4 x5)]
  unfold kernelRun0_A
  dsimp only
  sl_unfold_words
  simp (disch := decide) only [↓ View.readCov_skip, ↓ View.readCov_cons_toLoadRect, ↓ View.readCov_fill]
  simp only [View.readAt_eq_ld, h1.read_unread, h2.read_unread, h3.read_unread, h4.read_unread, h5.read_unread, h6.read_unread, h10.read_unread, h11.read_unread, View.ld_unit_zero (S := S512x1024) hz2, View.ld_unit_zero (S := S1x1024) hz2]
  rfl

/-- In the short format it is any array that all four bands agree with. -/
theorem out_A8 (hc0 : cond0_0 i) (y : S512x1024.Idx) (v : Elt F .bf16) (hv : View.AllAt (bandsShort x0 x1 x2 x3 x4 x5) y v) :
    out0_A_8 c i a1 h1 a2 h2 a3 h3 a4 h4 a5 h5 a6 h6 a7 h7 a8 h8 a9 h9 a10 h10 a11 h11 hc0 x0 x1 x2 x3 x4 x5 y = v := by
  unfold out0_A_8
  rw [View.read_writes_eq_canon _ _ _ (cover0_A_8 c i a1 h1 a2 h2 a3 h3 a4 h4 a5 h5 a6 h6 a7 h7 a8 h8 a9 h9 a10 h10 a11 h11 hc0 x0 x1 x2 x3 x4 x5)]
  refine View.canon_eq_of_allAt _ y _ (cover0_A_8 c i a1 h1 a2 h2 a3 h3 a4 h4 a5 h5 a6 h6 a7 h7 a8 h8 a9 h9 a10 h10 a11 h11 hc0 x0 x1 x2 x3 x4 x5 y) ?_
  unfold kernelRun0_A
  dsimp only
  sl_unfold_words
  simp (disch := decide) only [↓ View.readCov_skip, ↓ View.readCov_cons_toLoadRect, ↓ View.readCov_fill]
  simp only [View.readAt_eq_ld, h1.read_unread, h2.read_unread, h3.read_unread, h4.read_unread, h5.read_unread, h6.read_unread, h10.read_unread, h11.read_unread, View.ld_unit_zero (S := S512x1024) hz2, View.ld_unit_zero (S := S1x1024) hz2]
  exact hv

/-- The lanes of the loss. -/
theorem out_A9 (hc0 : cond0_0 i) : out0_A_9 c i a1 h1 a2 h2 a3 h3 a4 h4 a5 h5 a6 h6 a7 h7 a8 h8 a9 h9 a10 h10 a11 h11 hc0 x0 x1 x2 x3 x4 x5 = lossV x0 x1 x2 x3 x4 x5 k0_pay4 := by
  unfold out0_A_9
  rw [View.read_writes_eq_canon _ _ _ (cover0_A_9 c i a1 h1 a2 h2 a3 h3 a4 h4 a5 h5 a6 h6 a7 h7 a8 h8 a9 h9 a10 h10 a11 h11 hc0 x0 x1 x2 x3 x4 x5)]
  unfold kernelRun0_A
  dsimp only
  sl_unfold_words
  simp (disch := decide) only [↓ View.readCov_skip, ↓ View.readCov_cons_toLoadRect, ↓ View.readCov_fill]
  simp only [View.readAt_eq_ld, h1.read_unread, h2.read_unread, h3.read_unread, h4.read_unread, h5.read_unread, h6.read_unread, h10.read_unread, h11.read_unread, View.ld_unit_zero (S := S512x1024) hz2, View.ld_unit_zero (S := S1x1024) hz2]
  rw [View.canon_cons_unit_zero (S := S1x1024) hz2]
  rfl

/-- The gradient of the norm's weight. -/
theorem out_A10 (hc0 : cond0_0 i) : out0_A_10 c i a1 h1 a2 h2 a3 h3 a4 h4 a5 h5 a6 h6 a7 h7 a8 h8 a9 h9 a10 h10 a11 h11 hc0 x0 x1 x2 x3 x4 x5 = dgV x0 x1 x2 x3 x4 x5 k0_pay5 := by
  unfold out0_A_10
  rw [View.read_writes_eq_canon _ _ _ (cover0_A_10 c i a1 h1 a2 h2 a3 h3 a4 h4 a5 h5 a6 h6 a7 h7 a8 h8 a9 h9 a10 h10 a11 h11 hc0 x0 x1 x2 x3 x4 x5)]
  unfold kernelRun0_A
  dsimp only
  sl_unfold_words
  simp (disch := decide) only [↓ View.readCov_skip, ↓ View.readCov_cons_toLoadRect, ↓ View.readCov_fill]
  simp only [View.readAt_eq_ld, h1.read_unread, h2.read_unread, h3.read_unread, h4.read_unread, h5.read_unread, h6.read_unread, h10.read_unread, h11.read_unread, View.ld_unit_zero (S := S512x1024) hz2, View.ld_unit_zero (S := S1x1024) hz2]
  rw [View.canon_cons_unit_zero (S := S1x1024) hz2]
  rfl

/-- The hidden layer is any array that all four pieces agree with. -/
theorem out_B6 (hc0 : ¬cond0_0 i) (y : S512x4096.Idx) (v : Elt F .bf16) (hv : View.AllAt (hidPieces x0 x3) y v) :
    out0_B_6 c i a1 h1 a2 h2 a3 h3 a4 h4 a5 h5 a6 h6 a7 h7 a8 h8 a9 h9 a10 h10 a11 h11 hc0 x0 x1 x2 x3 x4 x5 x9 x10 y = v := by
  unfold out0_B_6
  rw [View.read_writes_eq_canon _ _ _ (cover0_B_6 c i a1 h1 a2 h2 a3 h3 a4 h4 a5 h5 a6 h6 a7 h7 a8 h8 a9 h9 a10 h10 a11 h11 hc0 x0 x1 x2 x3 x4 x5 x9 x10)]
  refine View.canon_eq_of_allAt _ y _ (cover0_B_6 c i a1 h1 a2 h2 a3 h3 a4 h4 a5 h5 a6 h6 a7 h7 a8 h8 a9 h9 a10 h10 a11 h11 hc0 x0 x1 x2 x3 x4 x5 x9 x10 y) ?_
  unfold kernelRun0_B
  dsimp only
  sl_unfold_words
  simp only [View.readAt_eq_ld, h1.read_unread, h2.read_unread, h3.read_unread, h4.read_unread, h5.read_unread, h6.read_unread, h10.read_unread, h11.read_unread, View.ld_unit_zero (S := S512x1024) hz2, View.ld_unit_zero (S := S1x1024) hz2]
  exact hv

/-- The gradient's rows are the four bands, written over the rows they were computed from. -/
theorem out_B7 (hc0 : ¬cond0_0 i) : out0_B_7 c i a1 h1 a2 h2 a3 h3 a4 h4 a5 h5 a6 h6 a7 h7 a8 h8 a9 h9 a10 h10 a11 h11 hc0 x0 x1 x2 x3 x4 x5 x9 x10
    = View.canon (bands x0 x1 x2 x3 x4 x5 ++ [⟨Rect.unit ![0, 0] ![512, 1024] inb_S512x1024_S512x1024_0_0, yV x0 x1 x3 x4⟩]) := by
  unfold out0_B_7
  rw [View.read_writes_eq_canon _ _ _ (cover0_B_7 c i a1 h1 a2 h2 a3 h3 a4 h4 a5 h5 a6 h6 a7 h7 a8 h8 a9 h9 a10 h10 a11 h11 hc0 x0 x1 x2 x3 x4 x5 x9 x10)]
  unfold kernelRun0_B
  dsimp only
  sl_unfold_words
  simp (disch := decide) only [↓ View.readCov_skip, ↓ View.readCov_cons_toLoadRect, ↓ View.readCov_fill]
  simp only [View.readAt_eq_ld, h1.read_unread, h2.read_unread, h3.read_unread, h4.read_unread, h5.read_unread, h6.read_unread, h10.read_unread, h11.read_unread, View.ld_unit_zero (S := S512x1024) hz2, View.ld_unit_zero (S := S1x1024) hz2]
  rfl

/-- In the short format it is any array that all four bands agree with. -/
theorem out_B8 (hc0 : ¬cond0_0 i) (y : S512x1024.Idx) (v : Elt F .bf16) (hv : View.AllAt (bandsShort x0 x1 x2 x3 x4 x5) y v) :
    out0_B_8 c i a1 h1 a2 h2 a3 h3 a4 h4 a5 h5 a6 h6 a7 h7 a8 h8 a9 h9 a10 h10 a11 h11 hc0 x0 x1 x2 x3 x4 x5 x9 x10 y = v := by
  unfold out0_B_8
  rw [View.read_writes_eq_canon _ _ _ (cover0_B_8 c i a1 h1 a2 h2 a3 h3 a4 h4 a5 h5 a6 h6 a7 h7 a8 h8 a9 h9 a10 h10 a11 h11 hc0 x0 x1 x2 x3 x4 x5 x9 x10)]
  refine View.canon_eq_of_allAt _ y _ (cover0_B_8 c i a1 h1 a2 h2 a3 h3 a4 h4 a5 h5 a6 h6 a7 h7 a8 h8 a9 h9 a10 h10 a11 h11 hc0 x0 x1 x2 x3 x4 x5 x9 x10 y) ?_
  unfold kernelRun0_B
  dsimp only
  sl_unfold_words
  simp (disch := decide) only [↓ View.readCov_skip, ↓ View.readCov_cons_toLoadRect, ↓ View.readCov_fill]
  simp only [View.readAt_eq_ld, h1.read_unread, h2.read_unread, h3.read_unread, h4.read_unread, h5.read_unread, h6.read_unread, h10.read_unread, h11.read_unread, View.ld_unit_zero (S := S512x1024) hz2, View.ld_unit_zero (S := S1x1024) hz2]
  exact hv

/-- The lanes of the loss. -/
theorem out_B9 (hc0 : ¬cond0_0 i) : out0_B_9 c i a1 h1 a2 h2 a3 h3 a4 h4 a5 h5 a6 h6 a7 h7 a8 h8 a9 h9 a10 h10 a11 h11 hc0 x0 x1 x2 x3 x4 x5 x9 x10 = lossV x0 x1 x2 x3 x4 x5 x9 := by
  unfold out0_B_9
  rw [View.read_writes_eq_canon _ _ _ (cover0_B_9 c i a1 h1 a2 h2 a3 h3 a4 h4 a5 h5 a6 h6 a7 h7 a8 h8 a9 h9 a10 h10 a11 h11 hc0 x0 x1 x2 x3 x4 x5 x9 x10)]
  unfold kernelRun0_B
  dsimp only
  sl_unfold_words
  simp (disch := decide) only [↓ View.readCov_skip, ↓ View.readCov_cons_toLoadRect, ↓ View.readCov_fill]
  simp only [View.readAt_eq_ld, h1.read_unread, h2.read_unread, h3.read_unread, h4.read_unread, h5.read_unread, h6.read_unread, h10.read_unread, h11.read_unread, View.ld_unit_zero (S := S512x1024) hz2, View.ld_unit_zero (S := S1x1024) hz2]
  rw [View.canon_unit_zero (S := S1x1024) hz2]
  rfl

/-- The gradient of the norm's weight. -/
theorem out_B10 (hc0 : ¬cond0_0 i) : out0_B_10 c i a1 h1 a2 h2 a3 h3 a4 h4 a5 h5 a6 h6 a7 h7 a8 h8 a9 h9 a10 h10 a11 h11 hc0 x0 x1 x2 x3 x4 x5 x9 x10 = dgV x0 x1 x2 x3 x4 x5 x10 := by
  unfold out0_B_10
  rw [View.read_writes_eq_canon _ _ _ (cover0_B_10 c i a1 h1 a2 h2 a3 h3 a4 h4 a5 h5 a6 h6 a7 h7 a8 h8 a9 h9 a10 h10 a11 h11 hc0 x0 x1 x2 x3 x4 x5 x9 x10)]
  unfold kernelRun0_B
  dsimp only
  sl_unfold_words
  simp (disch := decide) only [↓ View.readCov_skip, ↓ View.readCov_cons_toLoadRect, ↓ View.readCov_fill]
  simp only [View.readAt_eq_ld, h1.read_unread, h2.read_unread, h3.read_unread, h4.read_unread, h5.read_unread, h6.read_unread, h10.read_unread, h11.read_unread, View.ld_unit_zero (S := S512x1024) hz2, View.ld_unit_zero (S := S1x1024) hz2]
  rw [View.canon_unit_zero (S := S1x1024) hz2]
  rfl

end

section Tile
variable (x0 : Vec Ideal S512x1024 .bf16) (x1 x2 : Vec Ideal S512x1024 .f32) (x3 x4 : Vec Ideal S4x1024x1024 .bf16) (x5 x9 x10 : Vec Ideal S1x1024 .f32)

/-- The rows of the second matrix, out of its four chunks. -/
def woOf : Fin 4096 → Fin 1024 → EReal := fun f k => x4 (ix3 ⟨f / 1024, by omega⟩ ⟨f % 1024, by omega⟩ k)

/-- The rows of the first matrix, out of its four chunks. -/
def wiOf : Fin 1024 → Fin 4096 → EReal := fun j f => x3 (ix3 ⟨f / 1024, by omega⟩ j ⟨f % 1024, by omega⟩)

theorem woOf_eq (q : Fin 4) (l k : Fin 1024) (f : Fin 4096) (hf : f.val = 1024 * q.val + l.val) :
    x4 (ix3 q l k) = woOf x4 f k := by
  unfold woOf
  exact congrArg x4 (congrArg₂ (fun a b => ix3 a b k) (Fin.ext (show q.val = f.val / 1024 by omega)) (Fin.ext (show l.val = f.val % 1024 by omega)))

theorem wiOf_eq (q : Fin 4) (j l : Fin 1024) (f : Fin 4096) (hf : f.val = 1024 * q.val + l.val) :
    x3 (ix3 q j l) = wiOf x3 j f := by
  unfold wiOf
  exact congrArg x3 (congrArg₂ (fun a b => ix3 a j b) (Fin.ext (show q.val = f.val / 1024 by omega)) (Fin.ext (show l.val = f.val % 1024 by omega)))

abbrev hidT (i : Fin 512) (f : Fin 4096) : EReal := rowSq (fun k => x0 (ix2 i k)) (wiOf x3) f
abbrev yT (i : Fin 512) (j : Fin 1024) : EReal := rowY (fun k => x1 (ix2 i k)) (hidT x0 x3 i) (woOf x4) j
abbrev gT (j : Fin 1024) : EReal := x5 (ix2 0 j)
abbrev errT (i : Fin 512) (j : Fin 1024) : EReal := rowErr (yT x0 x1 x3 x4 i) (gT x5) (fun k => x2 (ix2 i k)) j
abbrev gradT (i : Fin 512) (j : Fin 1024) : EReal := rowGrad (yT x0 x1 x3 x4 i) (gT x5) (fun k => x2 (ix2 i k)) j
abbrev lossT (j : Fin 1024) (i : Fin 512) : EReal := errT x0 x1 x2 x3 x4 x5 i j * errT x0 x1 x2 x3 x4 x5 i j
abbrev dgT (j : Fin 1024) (i : Fin 512) : EReal :=
  rowDy (yT x0 x1 x3 x4 i) (gT x5) (fun k => x2 (ix2 i k)) j * (yT x0 x1 x3 x4 i j * rowR (yT x0 x1 x3 x4 i))

theorem h0_apply (i : Fin 512) (l : Fin 1024) (f : Fin 4096) (hf : f.val = 0 + l.val) :
    (k0_pay6 x0 (View.ld x3 (Rect.unit ![0, 0, 0] ![1, 1024, 1024] inb_S4x1024x1024_S1x1024x1024_0_0_0))) (ix2 i l) = hidT x0 x3 i f := by
  pointwise [k0_pay6]
  unfold hidT rowSq
  have e : ∀ k, x3 (ix3 0 k l) = wiOf x3 k f := fun k => wiOf_eq x3 0 k l f hf
  refine congrArg (fun s : EReal => max s 0 * max s 0) (Finset.sum_congr rfl fun k _ => ?_)
  exact congrArg (x0 (ix2 i k) * ·) (e k)

theorem h1_apply (i : Fin 512) (l : Fin 1024) (f : Fin 4096) (hf : f.val = 1024 + l.val) :
    (k0_pay8 x0 (View.ld x3 (Rect.unit ![1, 0, 0] ![1, 1024, 1024] inb_S4x1024x1024_S1x1024x1024_1_0_0))) (ix2 i l) = hidT x0 x3 i f := by
  pointwise [k0_pay8]
  unfold hidT rowSq
  have e : ∀ k, x3 (ix3 1 k l) = wiOf x3 k f := fun k => wiOf_eq x3 1 k l f hf
  refine congrArg (fun s : EReal => max s 0 * max s 0) (Finset.sum_congr rfl fun k _ => ?_)
  exact congrArg (x0 (ix2 i k) * ·) (e k)

theorem h2_apply (i : Fin 512) (l : Fin 1024) (f : Fin 4096) (hf : f.val = 2048 + l.val) :
    (k0_pay10 x0 (View.ld x3 (Rect.unit ![2, 0, 0] ![1, 1024, 1024] inb_S4x1024x1024_S1x1024x1024_2_0_0))) (ix2 i l) = hidT x0 x3 i f := by
  pointwise [k0_pay10]
  unfold hidT rowSq
  have e : ∀ k, x3 (ix3 2 k l) = wiOf x3 k f := fun k => wiOf_eq x3 2 k l f hf
  refine congrArg (fun s : EReal => max s 0 * max s 0) (Finset.sum_congr rfl fun k _ => ?_)
  exact congrArg (x0 (ix2 i k) * ·) (e k)

theorem h3_apply (i : Fin 512) (l : Fin 1024) (f : Fin 4096) (hf : f.val = 3072 + l.val) :
    (k0_pay11 x0 (View.ld x3 (Rect.unit ![3, 0, 0] ![1, 1024, 1024] inb_S4x1024x1024_S1x1024x1024_3_0_0))) (ix2 i l) = hidT x0 x3 i f := by
  pointwise [k0_pay11]
  unfold hidT rowSq
  have e : ∀ k, x3 (ix3 3 k l) = wiOf x3 k f := fun k => wiOf_eq x3 3 k l f hf
  refine congrArg (fun s : EReal => max s 0 * max s 0) (Finset.sum_congr rfl fun k _ => ?_)
  exact congrArg (x0 (ix2 i k) * ·) (e k)

theorem y_apply (i : Fin 512) (j : Fin 1024) : yV x0 x1 x3 x4 (ix2 i j) = yT x0 x1 x3 x4 i j := by
  pointwise [yV, k0_pay13, k0_pay12, k0_pay7, k0_pay9]
  unfold yT rowY
  rw [← sum_quarters]
  refine congrArg (· + x1 (ix2 i j)) (congrArg₂ (· + ·) (congrArg₂ (· + ·) (congrArg₂ (· + ·) ?_ ?_) ?_) ?_)
  · refine Finset.sum_congr rfl fun l _ => congrArg₂ (· * ·) (h0_apply x0 x3 i l _ (Nat.zero_add _).symm) (woOf_eq x4 0 l j _ (show l.val = 1024 * (0 : Fin 4).val + l.val from (Nat.zero_add _).symm))
  · refine Finset.sum_congr rfl fun l _ => congrArg₂ (· * ·) (h1_apply x0 x3 i l _ rfl) (woOf_eq x4 1 l j _ rfl)
  · refine Finset.sum_congr rfl fun l _ => congrArg₂ (· * ·) (h2_apply x0 x3 i l _ rfl) (woOf_eq x4 2 l j _ rfl)
  · refine Finset.sum_congr rfl fun l _ => congrArg₂ (· * ·) (h3_apply x0 x3 i l _ rfl) (woOf_eq x4 3 l j _ rfl)

theorem hid_all (i : Fin 512) (f : Fin 4096) : View.AllAt (hidPieces x0 x3) (ix2 i f) (hidT x0 x3 i f) := by
  unfold hidPieces
  refine View.allAt_cons_unit _ _ _ _ _ (fun x hx => ?_) <| View.allAt_cons_unit _ _ _ _ _ (fun x hx => ?_) <|
    View.allAt_cons_unit _ _ _ _ _ (fun x hx => ?_) <| View.allAt_cons_unit _ _ _ _ _ (fun x hx => ?_) <| View.allAt_nil _ _
  · obtain ⟨e, l, rfl⟩ : ∃ (e : Fin 512) (l : Fin 1024), x = ix2 e l := ⟨x 0, x 1, eq_ix2 x⟩
    obtain rfl : e = i := Fin.ext ((hx 0).trans (Nat.zero_add _)).symm
    exact h3_apply x0 x3 e l f (hx 1)
  · obtain ⟨e, l, rfl⟩ : ∃ (e : Fin 512) (l : Fin 1024), x = ix2 e l := ⟨x 0, x 1, eq_ix2 x⟩
    obtain rfl : e = i := Fin.ext ((hx 0).trans (Nat.zero_add _)).symm
    exact h2_apply x0 x3 e l f (hx 1)
  · obtain ⟨e, l, rfl⟩ : ∃ (e : Fin 512) (l : Fin 1024), x = ix2 e l := ⟨x 0, x 1, eq_ix2 x⟩
    obtain rfl : e = i := Fin.ext ((hx 0).trans (Nat.zero_add _)).symm
    exact h1_apply x0 x3 e l f (hx 1)
  · obtain ⟨e, l, rfl⟩ : ∃ (e : Fin 512) (l : Fin 1024), x = ix2 e l := ⟨x 0, x 1, eq_ix2 x⟩
    obtain rfl : e = i := Fin.ext ((hx 0).trans (Nat.zero_add _)).symm
    exact h0_apply x0 x3 e l f (hx 1)

theorem y0_apply (i : Fin 128) (n : Fin 512) (hn : n.val = 0 + i.val) (j : Fin 1024) : y0 x0 x1 x3 x4 (ix2 i j) = yT x0 x1 x3 x4 n j := by
  rw [← y_apply]
  pointwise [y0]
  exact congrArg (fun n => yV x0 x1 x3 x4 (ix2 n j)) (Fin.ext (by simp [hn]))

theorem t0_apply (i : Fin 128) (n : Fin 512) (hn : n.val = 0 + i.val) (j : Fin 1024) : t0 x2 (ix2 i j) = x2 (ix2 n j) := by
  pointwise [t0]
  exact congrArg (fun n => x2 (ix2 n j)) (Fin.ext (by simp [hn]))

theorem y128_apply (i : Fin 128) (n : Fin 512) (hn : n.val = 128 + i.val) (j : Fin 1024) : y128 x0 x1 x3 x4 (ix2 i j) = yT x0 x1 x3 x4 n j := by
  rw [← y_apply]
  pointwise [y128]
  exact congrArg (fun n => yV x0 x1 x3 x4 (ix2 n j)) (Fin.ext (by exact hn.symm))

theorem t128_apply (i : Fin 128) (n : Fin 512) (hn : n.val = 128 + i.val) (j : Fin 1024) : t128 x2 (ix2 i j) = x2 (ix2 n j) := by
  pointwise [t128]
  exact congrArg (fun n => x2 (ix2 n j)) (Fin.ext (by exact hn.symm))

theorem y256_apply (i : Fin 128) (n : Fin 512) (hn : n.val = 256 + i.val) (j : Fin 1024) : y256 x0 x1 x3 x4 (ix2 i j) = yT x0 x1 x3 x4 n j := by
  rw [← y_apply]
  pointwise [y256]
  exact congrArg (fun n => yV x0 x1 x3 x4 (ix2 n j)) (Fin.ext (by exact hn.symm))

theorem t256_apply (i : Fin 128) (n : Fin 512) (hn : n.val = 256 + i.val) (j : Fin 1024) : t256 x2 (ix2 i j) = x2 (ix2 n j) := by
  pointwise [t256]
  exact congrArg (fun n => x2 (ix2 n j)) (Fin.ext (by exact hn.symm))

theorem y384_apply (i : Fin 128) (n : Fin 512) (hn : n.val = 384 + i.val) (j : Fin 1024) : y384 x0 x1 x3 x4 (ix2 i j) = yT x0 x1 x3 x4 n j := by
  rw [← y_apply]
  pointwise [y384]
  exact congrArg (fun n => yV x0 x1 x3 x4 (ix2 n j)) (Fin.ext (by exact hn.symm))

theorem t384_apply (i : Fin 128) (n : Fin 512) (hn : n.val = 384 + i.val) (j : Fin 1024) : t384 x2 (ix2 i j) = x2 (ix2 n j) := by
  pointwise [t384]
  exact congrArg (fun n => x2 (ix2 n j)) (Fin.ext (by exact hn.symm))

theorem band0 (i : Fin 128) (n : Fin 512) (hn : n.val = 0 + i.val) (j : Fin 1024) :
    (k0_pay23 (k0_pay15 (y0 x0 x1 x3 x4)) (k0_pay21 x5 (y0 x0 x1 x3 x4) (t0 x2)) (k0_pay22 x5 (y0 x0 x1 x3 x4) (t0 x2))) (ix2 i j) = gradT x0 x1 x2 x3 x4 x5 n j := by
  pointwise [k0_pay14, k0_pay15, k0_pay16, k0_pay17, k0_pay18, k0_pay19, k0_pay20, k0_pay21, k0_pay22, k0_pay23]
  simp only [y0_apply x0 x1 x3 x4 i n hn, t0_apply x2 i n hn]
  rfl

theorem band128 (i : Fin 128) (n : Fin 512) (hn : n.val = 128 + i.val) (j : Fin 1024) :
    (k0_pay33 (k0_pay26 (y128 x0 x1 x3 x4)) (k0_pay32 x5 (y128 x0 x1 x3 x4) (t128 x2))) (ix2 i j) = gradT x0 x1 x2 x3 x4 x5 n j := by
  pointwise [k0_pay25, k0_pay26, k0_pay27, k0_pay28, k0_pay29, k0_pay30, k0_pay31, k0_pay32, k0_pay33]
  simp only [y128_apply x0 x1 x3 x4 i n hn, t128_apply x2 i n hn]
  rfl

theorem band256 (i : Fin 128) (n : Fin 512) (hn : n.val = 256 + i.val) (j : Fin 1024) :
    (k0_pay44 (k0_pay42 x5 (y256 x0 x1 x3 x4) (t256 x2)) (k0_pay43 (y256 x0 x1 x3 x4))) (ix2 i j) = gradT x0 x1 x2 x3 x4 x5 n j := by
  pointwise [k0_pay35, k0_pay36, k0_pay37, k0_pay38, k0_pay39, k0_pay40, k0_pay41, k0_pay42, k0_pay43, k0_pay44]
  simp only [y256_apply x0 x1 x3 x4 i n hn, t256_apply x2 i n hn]
  rfl

theorem band384 (i : Fin 128) (n : Fin 512) (hn : n.val = 384 + i.val) (j : Fin 1024) :
    (k0_pay53 x5 (y384 x0 x1 x3 x4) (t384 x2)) (ix2 i j) = gradT x0 x1 x2 x3 x4 x5 n j := by
  pointwise [k0_pay46, k0_pay47, k0_pay48, k0_pay49, k0_pay50, k0_pay51, k0_pay52, k0_pay53]
  simp only [y384_apply x0 x1 x3 x4 i n hn, t384_apply x2 i n hn]
  rfl

/-- The lanes of the loss, over what was there. -/
theorem loss_apply (j : Fin 1024) : lossV x0 x1 x2 x3 x4 x5 x9 (ix2 0 j) = x9 (ix2 0 j) + ∑ i, lossT x0 x1 x2 x3 x4 x5 j i := by
  pointwise [lossV, k0_pay2, k0_pay14, k0_pay15, k0_pay16, k0_pay17, k0_pay18, k0_pay19, k0_pay20, k0_pay21, k0_pay22, k0_pay25, k0_pay26, k0_pay27, k0_pay28, k0_pay29, k0_pay30, k0_pay31, k0_pay32, k0_pay35, k0_pay36, k0_pay37, k0_pay38, k0_pay39, k0_pay40, k0_pay41, k0_pay42, k0_pay43, k0_pay46, k0_pay47, k0_pay48, k0_pay49, k0_pay50, k0_pay51, k0_pay52]
  refine congrArg (x9 (ix2 0 j) + ·) ?_
  rw [← sum_bands]
  refine congrArg₂ (· + ·) (congrArg₂ (· + ·) (congrArg₂ (· + ·) ?_ ?_) ?_) ?_
  · refine Finset.sum_congr rfl fun i _ => ?_
    simp only [y0_apply x0 x1 x3 x4 i ⟨i.val, by omega⟩ (Nat.zero_add _).symm, t0_apply x2 i ⟨i.val, by omega⟩ (Nat.zero_add _).symm]
    rfl
  · refine Finset.sum_congr rfl fun i _ => ?_
    simp only [y128_apply x0 x1 x3 x4 i ⟨128 + i.val, by omega⟩ rfl, t128_apply x2 i ⟨128 + i.val, by omega⟩ rfl]
    rfl
  · refine Finset.sum_congr rfl fun i _ => ?_
    simp only [y256_apply x0 x1 x3 x4 i ⟨256 + i.val, by omega⟩ rfl, t256_apply x2 i ⟨256 + i.val, by omega⟩ rfl]
    rfl
  · refine Finset.sum_congr rfl fun i _ => ?_
    simp only [y384_apply x0 x1 x3 x4 i ⟨384 + i.val, by omega⟩ rfl, t384_apply x2 i ⟨384 + i.val, by omega⟩ rfl]
    rfl

/-- The sum for the gradient of the norm's weight, over what was there. -/
theorem dg_apply (j : Fin 1024) : dgV x0 x1 x2 x3 x4 x5 x10 (ix2 0 j) = x10 (ix2 0 j) + ∑ i, dgT x0 x1 x2 x3 x4 x5 j i := by
  pointwise [dgV, k0_pay3, k0_pay14, k0_pay15, k0_pay16, k0_pay17, k0_pay18, k0_pay19, k0_pay20, k0_pay21, k0_pay22, k0_pay25, k0_pay26, k0_pay27, k0_pay28, k0_pay29, k0_pay30, k0_pay31, k0_pay32, k0_pay35, k0_pay36, k0_pay37, k0_pay38, k0_pay39, k0_pay40, k0_pay41, k0_pay42, k0_pay43, k0_pay46, k0_pay47, k0_pay48, k0_pay49, k0_pay50, k0_pay51, k0_pay52]
  refine congrArg (x10 (ix2 0 j) + ·) ?_
  rw [← sum_bands]
  refine congrArg₂ (· + ·) (congrArg₂ (· + ·) (congrArg₂ (· + ·) ?_ ?_) ?_) ?_
  · refine Finset.sum_congr rfl fun i _ => ?_
    simp only [y0_apply x0 x1 x3 x4 i ⟨i.val, by omega⟩ (Nat.zero_add _).symm, t0_apply x2 i ⟨i.val, by omega⟩ (Nat.zero_add _).symm]
    rfl
  · refine Finset.sum_congr rfl fun i _ => ?_
    simp only [y128_apply x0 x1 x3 x4 i ⟨128 + i.val, by omega⟩ rfl, t128_apply x2 i ⟨128 + i.val, by omega⟩ rfl]
    rfl
  · refine Finset.sum_congr rfl fun i _ => ?_
    simp only [y256_apply x0 x1 x3 x4 i ⟨256 + i.val, by omega⟩ rfl, t256_apply x2 i ⟨256 + i.val, by omega⟩ rfl]
    rfl
  · refine Finset.sum_congr rfl fun i _ => ?_
    simp only [y384_apply x0 x1 x3 x4 i ⟨384 + i.val, by omega⟩ rfl, t384_apply x2 i ⟨384 + i.val, by omega⟩ rfl]
    rfl

theorem bands_all (i : Fin 512) (j : Fin 1024) : View.AllAt (bandsShort x0 x1 x2 x3 x4 x5) (ix2 i j) (gradT x0 x1 x2 x3 x4 x5 i j) := by
  unfold bandsShort
  refine View.allAt_cons_unit _ _ _ _ _ (fun x hx => ?_) <| View.allAt_cons_unit _ _ _ _ _ (fun x hx => ?_) <|
    View.allAt_cons_unit _ _ _ _ _ (fun x hx => ?_) <| View.allAt_cons_unit _ _ _ _ _ (fun x hx => ?_) <| View.allAt_nil _ _
  · obtain ⟨e, l, rfl⟩ : ∃ (e : Fin 128) (l : Fin 1024), x = ix2 e l := ⟨x 0, x 1, eq_ix2 x⟩
    obtain rfl : l = j := Fin.ext ((hx 1).trans (Nat.zero_add _)).symm
    exact band384 x0 x1 x2 x3 x4 x5 e i (hx 0) l
  · obtain ⟨e, l, rfl⟩ : ∃ (e : Fin 128) (l : Fin 1024), x = ix2 e l := ⟨x 0, x 1, eq_ix2 x⟩
    obtain rfl : l = j := Fin.ext ((hx 1).trans (Nat.zero_add _)).symm
    exact band256 x0 x1 x2 x3 x4 x5 e i (hx 0) l
  · obtain ⟨e, l, rfl⟩ : ∃ (e : Fin 128) (l : Fin 1024), x = ix2 e l := ⟨x 0, x 1, eq_ix2 x⟩
    obtain rfl : l = j := Fin.ext ((hx 1).trans (Nat.zero_add _)).symm
    exact band128 x0 x1 x2 x3 x4 x5 e i (hx 0) l
  · obtain ⟨e, l, rfl⟩ : ∃ (e : Fin 128) (l : Fin 1024), x = ix2 e l := ⟨x 0, x 1, eq_ix2 x⟩
    obtain rfl : l = j := Fin.ext ((hx 1).trans (Nat.zero_add _)).symm
    exact band0 x0 x1 x2 x3 x4 x5 e i (hx 0) l

theorem bands_canon (i : Fin 512) (j : Fin 1024) : View.canon (bands x0 x1 x2 x3 x4 x5 ++
    [⟨Rect.unit ![0, 0] ![512, 1024] inb_S512x1024_S512x1024_0_0, yV x0 x1 x3 x4⟩]) (ix2 i j) = gradT x0 x1 x2 x3 x4 x5 i j := by
  refine View.canon_append_of_piecesOf (Val := Elt Ideal) (e := .f32) (fun y : S512x1024.Idx => gradT x0 x1 x2 x3 x4 x5 (y 0) (y 1)) _ _ ?_ (ix2 i j) ?_
  · unfold bands
    refine ⟨fun x => ?_, fun x => ?_, fun x => ?_, fun x => ?_, trivial⟩
    · obtain ⟨e, l, rfl⟩ : ∃ (e : Fin 128) (l : Fin 1024), x = ix2 e l := ⟨x 0, x 1, eq_ix2 x⟩
      refine (band384 x0 x1 x2 x3 x4 x5 e ⟨384 + e.val, by omega⟩ rfl l).trans (congrArg₂ (gradT x0 x1 x2 x3 x4 x5) (Fin.ext ?_) (Fin.ext ?_))
      · show 384 + e.val = 384 + 1 * e.val; omega
      · show l.val = 0 + 1 * l.val; omega
    · obtain ⟨e, l, rfl⟩ : ∃ (e : Fin 128) (l : Fin 1024), x = ix2 e l := ⟨x 0, x 1, eq_ix2 x⟩
      refine (band256 x0 x1 x2 x3 x4 x5 e ⟨256 + e.val, by omega⟩ rfl l).trans (congrArg₂ (gradT x0 x1 x2 x3 x4 x5) (Fin.ext ?_) (Fin.ext ?_))
      · show 256 + e.val = 256 + 1 * e.val; omega
      · show l.val = 0 + 1 * l.val; omega
    · obtain ⟨e, l, rfl⟩ : ∃ (e : Fin 128) (l : Fin 1024), x = ix2 e l := ⟨x 0, x 1, eq_ix2 x⟩
      refine (band128 x0 x1 x2 x3 x4 x5 e ⟨128 + e.val, by omega⟩ rfl l).trans (congrArg₂ (gradT x0 x1 x2 x3 x4 x5) (Fin.ext ?_) (Fin.ext ?_))
      · show 128 + e.val = 128 + 1 * e.val; omega
      · show l.val = 0 + 1 * l.val; omega
    · obtain ⟨e, l, rfl⟩ : ∃ (e : Fin 128) (l : Fin 1024), x = ix2 e l := ⟨x 0, x 1, eq_ix2 x⟩
      refine (band0 x0 x1 x2 x3 x4 x5 e ⟨0 + e.val, by omega⟩ rfl l).trans (congrArg₂ (gradT x0 x1 x2 x3 x4 x5) (Fin.ext ?_) (Fin.ext ?_))
      · show 0 + e.val = 0 + 1 * e.val; omega
      · show l.val = 0 + 1 * l.val; omega
  · unfold bands
    have hi := i.isLt
    have hj := j.isLt
    by_cases c3 : 384 ≤ i.val
    · refine ⟨_, .head _, ?_⟩
      rw [Rect.mem_set_unit]
      intro a
      match a with
      | ⟨0, _⟩ => exact ⟨c3, show i.val < 384 + 128 by omega⟩
      | ⟨1, _⟩ => exact ⟨Nat.zero_le _, show j.val < 0 + 1024 by omega⟩
    by_cases c2 : 256 ≤ i.val
    · refine ⟨_, .tail _ (.head _), ?_⟩
      rw [Rect.mem_set_unit]
      intro a
      match a with
      | ⟨0, _⟩ => exact ⟨c2, show i.val < 256 + 128 by omega⟩
      | ⟨1, _⟩ => exact ⟨Nat.zero_le _, show j.val < 0 + 1024 by omega⟩
    by_cases c1 : 128 ≤ i.val
    · refine ⟨_, .tail _ (.tail _ (.head _)), ?_⟩
      rw [Rect.mem_set_unit]
      intro a
      match a with
      | ⟨0, _⟩ => exact ⟨c1, show i.val < 128 + 128 by omega⟩
      | ⟨1, _⟩ => exact ⟨Nat.zero_le _, show j.val < 0 + 1024 by omega⟩
    · refine ⟨_, .tail _ (.tail _ (.tail _ (.head _))), ?_⟩
      rw [Rect.mem_set_unit]
      intro a
      match a with
      | ⟨0, _⟩ => exact ⟨Nat.zero_le _, show i.val < 0 + 128 by omega⟩
      | ⟨1, _⟩ => exact ⟨Nat.zero_le _, show j.val < 0 + 1024 by omega⟩

end Tile

end Cert.KernelLossIdeal.Own

end
-- ==== Proof.MlpLossArray.lean ====
/- The last part of the forward pass and the loss's gradient: what the kernel leaves in its five result arrays. -/
module

public import proofs.«01_k».proof.Proof.Gen.KernelLossIdeal.Value
public import proofs.«01_k».proof.Proof.MlpLoss
public import proofs.«01_k».proof.Proof.Common
public import Idealize.ShloMosaic.Lib.Pipeline.Value
public import Idealize.ShloMosaic.Lib.Pointwise
public import Idealize.ShloMosaic.Lib.Tactic
public import Idealize.ShloMosaic.Lib.StableHlo.RunRead
public import Idealize.ShloMosaic.Lib.Pipeline.ValueKit.Tiles
public import Idealize.ShloMosaic.Lib.Pipeline.ValueKit
public import Idealize.ShloMosaic.PureOps.Ideal

@[expose] public section

noncomputable section

namespace Cert.KernelLossIdeal.Own

open Cert.KernelLossIdeal Cert.KernelLossIdeal.Gen Idealize.ShloMosaic Idealize.ShloMosaic.TcCoe Idealize.SL.Sem Cert.Own
open Idealize.ShloMosaic.Pipeline (Dat)

variable (M : (ℓ : Loc nD τ sig) → Buf (Elt Ideal) ℓ)

/-! ## The operands -/

abbrev aM (c : Dev nD) : S16384x1024.Idx → EReal := M ((c : Thread nD τ).loc main_arg0)
abbrev aH (c : Dev nD) : S16384x1024.Idx → EReal := M ((c : Thread nD τ).loc main_arg1)
abbrev aT (c : Dev nD) : S16384x1024.Idx → EReal := M ((c : Thread nD τ).loc main_arg2)
abbrev aWi (c : Dev nD) : S1024x4096.Idx → EReal := M ((c : Thread nD τ).loc main_arg3)
abbrev aWo (c : Dev nD) : S4096x1024.Idx → EReal := M ((c : Thread nD τ).loc main_arg4)
abbrev aG (c : Dev nD) : S1x1024.Idx → EReal := M ((c : Thread nD τ).loc main_arg5)

theorem V_v2 (c : Dev nD) (q : Fin 4) (j l : Fin 1024) (f : Fin 4096) (hf : f.val = q.val * 1024 + l.val) :
    (V M c main_v2 (ix3 q j l) : EReal) = aWi M c (ix2 j f) := by
  show StableHlo.after hostOps0 (fun b => M (c, b)) main_v2 (ix3 q j l) = _
  after_reads_simp
  pointwise
  exact congrArg (fun f => aWi M c (ix2 j f)) (Fin.ext hf.symm)

theorem V_v4 (c : Dev nD) (q : Fin 4) (l k : Fin 1024) (f : Fin 4096) (hf : f.val = q.val * 1024 + l.val) :
    (V M c main_v4 (ix3 q l k) : EReal) = aWo M c (ix2 f k) := by
  show StableHlo.after hostOps0 (fun b => M (c, b)) main_v4 (ix3 q l k) = _
  after_reads_simp
  pointwise
  exact congrArg (fun f => aWo M c (ix2 f k)) (Fin.ext hf.symm)

theorem V_v5 (c : Dev nD) : (V M c main_v5) = aM M c := by
  show StableHlo.after hostOps0 (fun b => M (c, b)) main_v5 = _
  after_reads_simp
  rfl

theorem V_arg1 (c : Dev nD) : (V M c main_arg1) = aH M c := by
  show StableHlo.after hostOps0 (fun b => M (c, b)) main_arg1 = _
  after_reads_simp

theorem V_arg2 (c : Dev nD) : (V M c main_arg2) = aT M c := by
  show StableHlo.after hostOps0 (fun b => M (c, b)) main_arg2 = _
  after_reads_simp

theorem V_arg5 (c : Dev nD) : (V M c main_arg5) = aG M c := by
  show StableHlo.after hostOps0 (fun b => M (c, b)) main_arg5 = _
  after_reads_simp

/-! ## The blocks of a point -/

theorem idx0 : ∀ t : Fin cfg0.N, win0_0.index t 0 = t.val ∧ win0_0.index t 1 = 0 := by decide +kernel
theorem idx1 : ∀ t : Fin cfg0.N, win0_1.index t 0 = t.val ∧ win0_1.index t 1 = 0 := by decide +kernel
theorem idx2 : ∀ t : Fin cfg0.N, win0_2.index t 0 = t.val ∧ win0_2.index t 1 = 0 := by decide +kernel
theorem idx6 : ∀ t : Fin cfg0.N, win0_6.index t 0 = t.val ∧ win0_6.index t 1 = 0 := by decide +kernel
theorem idx7 : ∀ t : Fin cfg0.N, win0_7.index t 0 = t.val ∧ win0_7.index t 1 = 0 := by decide +kernel
theorem idx8 : ∀ t : Fin cfg0.N, win0_8.index t 0 = t.val ∧ win0_8.index t 1 = 0 := by decide +kernel
theorem idx5 : ∀ t : Fin cfg0.N, win0_5.index t 0 = 0 ∧ win0_5.index t 1 = 0 := by decide +kernel
theorem idx9 : ∀ t : Fin cfg0.N, win0_9.index t 0 = 0 ∧ win0_9.index t 1 = 0 := by decide +kernel
theorem idx10 : ∀ t : Fin cfg0.N, win0_10.index t 0 = 0 ∧ win0_10.index t 1 = 0 := by decide +kernel
theorem idx3 : ∀ t : Fin cfg0.N, win0_3.index t 0 = 0 ∧ win0_3.index t 1 = 0 ∧ win0_3.index t 2 = 0 := by decide +kernel
theorem idx4 : ∀ t : Fin cfg0.N, win0_4.index t 0 = 0 ∧ win0_4.index t 1 = 0 ∧ win0_4.index t 2 = 0 := by decide +kernel

/-- Row `i` of the tile of point `t`, in the whole array. -/
def rowIx (t : Fin cfg0.N) (i : Fin 512) : Fin 16384 :=
  ⟨512 * t.val + i.val, by have := lt_of_lt_of_eq t.isLt N_0; have := i.isLt; omega⟩

theorem iblk0 (c : Dev nD) (t : Fin cfg0.N) (i : Fin 512) (k : Fin 1024) :
    (iblk M c 0 t (ix2 i k) : EReal) = aM M c (ix2 (rowIx t i) k) := by
  unfold iblk
  rw [View.read_apply]
  refine (congrFun (V_v5 M c) _).trans (congrArg (aM M c) (funext fun a => Fin.ext ?_))
  match a with
  | ⟨0, _⟩ => show win0_0.index t 0 * 512 + 1 * i.val = 512 * t.val + i.val; rw [(idx0 t).1]; omega
  | ⟨1, _⟩ => show win0_0.index t 1 * 1024 + 1 * k.val = k.val; rw [(idx0 t).2]; omega

theorem iblk1 (c : Dev nD) (t : Fin cfg0.N) (i : Fin 512) (k : Fin 1024) :
    (iblk M c 1 t (ix2 i k) : EReal) = aH M c (ix2 (rowIx t i) k) := by
  unfold iblk
  rw [View.read_apply]
  refine (congrFun (V_arg1 M c) _).trans (congrArg (aH M c) (funext fun a => Fin.ext ?_))
  match a with
  | ⟨0, _⟩ => show win0_1.index t 0 * 512 + 1 * i.val = 512 * t.val + i.val; rw [(idx1 t).1]; omega
  | ⟨1, _⟩ => show win0_1.index t 1 * 1024 + 1 * k.val = k.val; rw [(idx1 t).2]; omega

theorem iblk2 (c : Dev nD) (t : Fin cfg0.N) (i : Fin 512) (k : Fin 1024) :
    (iblk M c 2 t (ix2 i k) : EReal) = aT M c (ix2 (rowIx t i) k) := by
  unfold iblk
  rw [View.read_apply]
  refine (congrFun (V_arg2 M c) _).trans (congrArg (aT M c) (funext fun a => Fin.ext ?_))
  match a with
  | ⟨0, _⟩ => show win0_2.index t 0 * 512 + 1 * i.val = 512 * t.val + i.val; rw [(idx2 t).1]; omega
  | ⟨1, _⟩ => show win0_2.index t 1 * 1024 + 1 * k.val = k.val; rw [(idx2 t).2]; omega

theorem iblk5 (c : Dev nD) (t : Fin cfg0.N) (k : Fin 1024) :
    (iblk M c 5 t (ix2 0 k) : EReal) = aG M c (ix2 0 k) := by
  unfold iblk
  rw [View.read_apply]
  refine (congrFun (V_arg5 M c) _).trans (congrArg (aG M c) (funext fun a => Fin.ext ?_))
  match a with
  | ⟨0, _⟩ => show win0_5.index t 0 * 1 + 1 * 0 = 0; rw [(idx5 t).1]
  | ⟨1, _⟩ => show win0_5.index t 1 * 1024 + 1 * k.val = k.val; rw [(idx5 t).2]; omega

theorem iblk3 (c : Dev nD) (t : Fin cfg0.N) (q : Fin 4) (j l : Fin 1024) :
    (iblk M c 3 t (ix3 q j l) : EReal) = V M c main_v2 (ix3 q j l) := by
  unfold iblk
  rw [View.read_apply]
  refine congrArg (V M c main_v2) (funext fun a => Fin.ext ?_)
  match a with
  | ⟨0, _⟩ => show win0_3.index t 0 * 4 + 1 * q.val = q.val; rw [(idx3 t).1]; omega
  | ⟨1, _⟩ => show win0_3.index t 1 * 1024 + 1 * j.val = j.val; rw [(idx3 t).2.1]; omega
  | ⟨2, _⟩ => show win0_3.index t 2 * 1024 + 1 * l.val = l.val; rw [(idx3 t).2.2]; omega

theorem iblk4 (c : Dev nD) (t : Fin cfg0.N) (q : Fin 4) (j l : Fin 1024) :
    (iblk M c 4 t (ix3 q j l) : EReal) = V M c main_v4 (ix3 q j l) := by
  unfold iblk
  rw [View.read_apply]
  refine congrArg (V M c main_v4) (funext fun a => Fin.ext ?_)
  match a with
  | ⟨0, _⟩ => show win0_4.index t 0 * 4 + 1 * q.val = q.val; rw [(idx4 t).1]; omega
  | ⟨1, _⟩ => show win0_4.index t 1 * 1024 + 1 * j.val = j.val; rw [(idx4 t).2.1]; omega
  | ⟨2, _⟩ => show win0_4.index t 2 * 1024 + 1 * l.val = l.val; rw [(idx4 t).2.2]; omega

/-! ## The results, row by row -/

abbrev rM (c : Dev nD) (n : Fin 16384) : Fin 1024 → EReal := fun k => aM M c (ix2 n k)
abbrev rH (c : Dev nD) (n : Fin 16384) : Fin 1024 → EReal := fun k => aH M c (ix2 n k)
abbrev rT (c : Dev nD) (n : Fin 16384) : Fin 1024 → EReal := fun k => aT M c (ix2 n k)
abbrev mWi (c : Dev nD) : Fin 1024 → Fin 4096 → EReal := fun j f => aWi M c (ix2 j f)
abbrev mWo (c : Dev nD) : Fin 4096 → Fin 1024 → EReal := fun f k => aWo M c (ix2 f k)
abbrev vG (c : Dev nD) : Fin 1024 → EReal := fun k => aG M c (ix2 0 k)

def hidA (c : Dev nD) (n : Fin 16384) (f : Fin 4096) : EReal := rowSq (rM M c n) (mWi M c) f
def yA (c : Dev nD) (n : Fin 16384) (j : Fin 1024) : EReal := rowY (rH M c n) (hidA M c n) (mWo M c) j
def dhA (c : Dev nD) (n : Fin 16384) (j : Fin 1024) : EReal := rowGrad (yA M c n) (vG M c) (rT M c n) j
def lossTerm (c : Dev nD) (j : Fin 1024) (n : Fin 16384) : EReal :=
  rowErr (yA M c n) (vG M c) (rT M c n) j * rowErr (yA M c n) (vG M c) (rT M c n) j
def dgTerm (c : Dev nD) (j : Fin 1024) (n : Fin 16384) : EReal :=
  rowDy (yA M c n) (vG M c) (rT M c n) j * (yA M c n j * rowR (yA M c n))
@[irreducible] def lossA (c : Dev nD) (j : Fin 1024) : EReal := ∑ n, lossTerm M c j n
@[irreducible] def dgA (c : Dev nD) (j : Fin 1024) : EReal := ∑ n, dgTerm M c j n

theorem wo_eq (c : Dev nD) (t : Fin cfg0.N) : woOf (iblk M c 4 t) = mWo M c := by
  funext f k
  unfold woOf
  exact (iblk4 M c t _ _ _).trans (V_v4 M c _ _ _ _ (by show f.val = f.val / 1024 * 1024 + f.val % 1024; omega))

theorem wi_eq (c : Dev nD) (t : Fin cfg0.N) : wiOf (iblk M c 3 t) = mWi M c := by
  funext j f
  unfold wiOf
  exact (iblk3 M c t _ _ _).trans (V_v2 M c _ _ _ _ (by show f.val = f.val / 1024 * 1024 + f.val % 1024; omega))

theorem hidT_eq (c : Dev nD) (t : Fin cfg0.N) (i : Fin 512) : hidT (iblk M c 0 t) (iblk M c 3 t) i = hidA M c (rowIx t i) := by
  funext f
  unfold hidT hidA
  rw [wi_eq, (funext fun k => iblk0 M c t i k : (fun k => iblk M c 0 t (ix2 i k)) = rM M c (rowIx t i))]

theorem yT_eq (c : Dev nD) (t : Fin cfg0.N) (i : Fin 512) :
    yT (iblk M c 0 t) (iblk M c 1 t) (iblk M c 3 t) (iblk M c 4 t) i = yA M c (rowIx t i) := by
  funext j
  unfold yT yA
  rw [wo_eq, hidT_eq, (funext fun k => iblk1 M c t i k : (fun k => iblk M c 1 t (ix2 i k)) = rH M c (rowIx t i))]

theorem gT_eq (c : Dev nD) (t : Fin cfg0.N) : gT (iblk M c 5 t) = vG M c := funext fun k => iblk5 M c t k

theorem gradT_eq (c : Dev nD) (t : Fin cfg0.N) (i : Fin 512) (j : Fin 1024) :
    gradT (iblk M c 0 t) (iblk M c 1 t) (iblk M c 2 t) (iblk M c 3 t) (iblk M c 4 t) (iblk M c 5 t) i j = dhA M c (rowIx t i) j := by
  unfold gradT dhA
  rw [yT_eq, gT_eq, (funext fun k => iblk2 M c t i k : (fun k => iblk M c 2 t (ix2 i k)) = rT M c (rowIx t i))]

theorem lossT_eq (c : Dev nD) (t : Fin cfg0.N) (i : Fin 512) (j : Fin 1024) :
    lossT (iblk M c 0 t) (iblk M c 1 t) (iblk M c 2 t) (iblk M c 3 t) (iblk M c 4 t) (iblk M c 5 t) j i = lossTerm M c j (rowIx t i) := by
  unfold lossT errT lossTerm
  rw [yT_eq, gT_eq, (funext fun k => iblk2 M c t i k : (fun k => iblk M c 2 t (ix2 i k)) = rT M c (rowIx t i))]

theorem dgT_eq (c : Dev nD) (t : Fin cfg0.N) (i : Fin 512) (j : Fin 1024) :
    dgT (iblk M c 0 t) (iblk M c 1 t) (iblk M c 2 t) (iblk M c 3 t) (iblk M c 4 t) (iblk M c 5 t) j i = dgTerm M c j (rowIx t i) := by
  unfold dgT dgTerm
  rw [yT_eq, gT_eq, (funext fun k => iblk2 M c t i k : (fun k => iblk M c 2 t (ix2 i k)) = rT M c (rowIx t i))]

/-- At a point the first result's block holds its rows, -/
theorem out6_eq (c : Dev nD) (t : Fin cfg0.N) (i : Fin 512) (f : Fin 4096) :
    ((outsAt0 M c t.val t.isLt).1 (ix2 i f) : EReal) = hidA M c (rowIx t i) f := by
  rw [← hidT_eq]
  by_cases h0 : t.val % 32 = 0
  · rw [outsAt0_A M c t h0]; dsimp only; exact out_A6 _ _ _ _ _ _ _ _ _ _ _ _ _ _ _ _ _ _ _ _ _ _ _ _ _ _ _ _ _ _ _ _ _ (hid_all _ _ _ _)
  · rw [outsAt0_B M c t h0]; dsimp only; exact out_B6 _ _ _ _ _ _ _ _ _ _ _ _ _ _ _ _ _ _ _ _ _ _ _ _ _ _ _ _ _ _ _ _ _ _ _ (hid_all _ _ _ _)

/-- the second's its rows, -/
theorem out7_eq (c : Dev nD) (t : Fin cfg0.N) (i : Fin 512) (j : Fin 1024) :
    ((outsAt0 M c t.val t.isLt).2.1 (ix2 i j) : EReal) = dhA M c (rowIx t i) j := by
  rw [← gradT_eq]
  by_cases h0 : t.val % 32 = 0
  · rw [outsAt0_A M c t h0]; dsimp only; rw [out_A7]; exact bands_canon _ _ _ _ _ _ _ _
  · rw [outsAt0_B M c t h0]; dsimp only; rw [out_B7]; exact bands_canon _ _ _ _ _ _ _ _

/-- and so does the third's. -/
theorem out8_eq (c : Dev nD) (t : Fin cfg0.N) (i : Fin 512) (j : Fin 1024) :
    ((outsAt0 M c t.val t.isLt).2.2.1 (ix2 i j) : EReal) = dhA M c (rowIx t i) j := by
  rw [← gradT_eq]
  by_cases h0 : t.val % 32 = 0
  · rw [outsAt0_A M c t h0]; dsimp only; exact out_A8 _ _ _ _ _ _ _ _ _ _ _ _ _ _ _ _ _ _ _ _ _ _ _ _ _ _ _ _ _ _ _ _ _ (bands_all _ _ _ _ _ _ _ _)
  · rw [outsAt0_B M c t h0]; dsimp only; exact out_B8 _ _ _ _ _ _ _ _ _ _ _ _ _ _ _ _ _ _ _ _ _ _ _ _ _ _ _ _ _ _ _ _ _ _ _ (bands_all _ _ _ _ _ _ _ _)

/-- A term of the lanes of the loss at a natural number. -/
def lossNat (c : Dev nD) (j : Fin 1024) (s : ℕ) : EReal := if h : s < 16384 then lossTerm M c j ⟨s, h⟩ else 0

theorem loss_tile (c : Dev nD) (t : Fin cfg0.N) (j : Fin 1024) :
    ∑ i : Fin 512, lossT (iblk M c 0 t) (iblk M c 1 t) (iblk M c 2 t) (iblk M c 3 t) (iblk M c 4 t) (iblk M c 5 t) j i
      = ∑ s ∈ Finset.range 512, lossNat M c j (512 * t.val + s) := by
  rw [Finset.sum_range]
  refine Finset.sum_congr rfl fun i _ => ?_
  rw [lossT_eq, lossNat, dif_pos (show 512 * t.val + i.val < 16384 from (rowIx t i).isLt)]
  rfl

theorem pay4_apply (j : Fin 1024) : (k0_pay4 (F := Ideal) (ix2 0 j) : EReal) = 0 := by
  pointwise [k0_pay4]

/-- After point `n` the block of the lanes of the loss holds the sum over the tiles so far. -/
theorem loss_acc (c : Dev nD) (j : Fin 1024) : ∀ (n : ℕ) (h : n < cfg0.N),
    ((outsAt0 M c n h).2.2.2.1 (ix2 0 j) : EReal)
      = ∑ k ∈ Finset.range (n + 1), ∑ s ∈ Finset.range 512, lossNat M c j (512 * k + s)
  | 0, h => by
    rw [outsAt0_A M c ⟨0, h⟩ rfl]
    dsimp only
    rw [out_A9, loss_apply, pay4_apply, zero_add, loss_tile, Finset.sum_range_one]
  | n + 1, h => by
    have hN : n + 1 < 32 := lt_of_lt_of_eq h N_0
    rw [outsAt0_B M c ⟨n + 1, h⟩ (by dsimp only; omega)]
    dsimp only
    rw [out_B9, loss_apply, loss_tile, Finset.sum_range_succ _ (n + 1)]
    exact congrArg (· + _) (loss_acc c j n (Nat.lt_of_succ_lt h))

theorem loss_last (c : Dev nD) (t : Fin cfg0.N) (h3 : t.val = 31) (j : Fin 1024) :
    ((outsAt0 M c t.val t.isLt).2.2.2.1 (ix2 0 j) : EReal) = lossA M c j := by
  have e := sum_range_blocks 512 (lossNat M c j) 32
  rw [show 512 * 32 = 16384 by norm_num, Finset.sum_range (n := 16384)] at e
  rw [loss_acc, h3]
  unfold lossA
  refine e.trans (Finset.sum_congr rfl fun n _ => ?_)
  rw [lossNat, dif_pos n.isLt]

/-- A term of the weight's gradient at a natural number. -/
def dgNat (c : Dev nD) (j : Fin 1024) (s : ℕ) : EReal := if h : s < 16384 then dgTerm M c j ⟨s, h⟩ else 0

theorem dg_tile (c : Dev nD) (t : Fin cfg0.N) (j : Fin 1024) :
    ∑ i : Fin 512, dgT (iblk M c 0 t) (iblk M c 1 t) (iblk M c 2 t) (iblk M c 3 t) (iblk M c 4 t) (iblk M c 5 t) j i
      = ∑ s ∈ Finset.range 512, dgNat M c j (512 * t.val + s) := by
  rw [Finset.sum_range]
  refine Finset.sum_congr rfl fun i _ => ?_
  rw [dgT_eq, dgNat, dif_pos (show 512 * t.val + i.val < 16384 from (rowIx t i).isLt)]
  rfl

theorem pay5_apply (j : Fin 1024) : (k0_pay5 (F := Ideal) (ix2 0 j) : EReal) = 0 := by
  pointwise [k0_pay5]

/-- After point `n` the block of the weight's gradient holds the sum over the tiles so far. -/
theorem dg_acc (c : Dev nD) (j : Fin 1024) : ∀ (n : ℕ) (h : n < cfg0.N),
    ((outsAt0 M c n h).2.2.2.2 (ix2 0 j) : EReal)
      = ∑ k ∈ Finset.range (n + 1), ∑ s ∈ Finset.range 512, dgNat M c j (512 * k + s)
  | 0, h => by
    rw [outsAt0_A M c ⟨0, h⟩ rfl]
    dsimp only
    rw [out_A10, dg_apply, pay5_apply, zero_add, dg_tile, Finset.sum_range_one]
  | n + 1, h => by
    have hN : n + 1 < 32 := lt_of_lt_of_eq h N_0
    rw [outsAt0_B M c ⟨n + 1, h⟩ (by dsimp only; omega)]
    dsimp only
    rw [out_B10, dg_apply, dg_tile, Finset.sum_range_succ _ (n + 1)]
    exact congrArg (· + _) (dg_acc c j n (Nat.lt_of_succ_lt h))

theorem dg_last (c : Dev nD) (t : Fin cfg0.N) (h3 : t.val = 31) (j : Fin 1024) :
    ((outsAt0 M c t.val t.isLt).2.2.2.2 (ix2 0 j) : EReal) = dgA M c j := by
  have e := sum_range_blocks 512 (dgNat M c j) 32
  rw [show 512 * 32 = 16384 by norm_num, Finset.sum_range (n := 16384)] at e
  rw [dg_acc, h3]
  unfold dgA
  refine e.trans (Finset.sum_congr rfl fun n _ => ?_)
  rw [dgNat, dif_pos n.isLt]

/-! ## The arrays after the run -/

def hid (c : Dev nD) : S16384x4096.Idx → EReal := fun i => hidA M c (i 0) (i 1)
def dh (c : Dev nD) : S16384x1024.Idx → EReal := fun i => dhA M c (i 0) (i 1)
def lanes (c : Dev nD) : S1x1024.Idx → EReal := fun i => lossA M c (i 1)
def dg (c : Dev nD) : S1x1024.Idx → EReal := fun i => dgA M c (i 1)

theorem flush9 : ∀ t : Fin cfg0.N, (cfg0.win 9).flush t = true → t.val = 31 := by decide +kernel
theorem last9 : ∃ t : Fin cfg0.N, (cfg0.win 9).flush t = true := by decide +kernel
theorem flush10 : ∀ t : Fin cfg0.N, (cfg0.win 10).flush t = true → t.val = 31 := by decide +kernel
theorem last10 : ∃ t : Fin cfg0.N, (cfg0.win 10).flush t = true := by decide +kernel
theorem every6 : ∀ t : Fin cfg0.N, (cfg0.win 6).flush t = true := by decide +kernel
theorem every7 : ∀ t : Fin cfg0.N, (cfg0.win 7).flush t = true := by decide +kernel
theorem every8 : ∀ t : Fin cfg0.N, (cfg0.win 8).flush t = true := by decide +kernel

theorem final6 (c : Dev nD) : (dats M 0 c).arrAt 6 cfg0.N = hid M c := by
  refine (dats M 0 c).arrAt_eq_of_cover 6 (hid M c) (fun t hf => ?_) (fun i => ?_)
  · rw [Value.flushed6]
    funext y
    obtain ⟨r, l, rfl⟩ : ∃ (r : Fin 512) (l : Fin 4096), y = ix2 r l := ⟨y 0, y 1, eq_ix2 y⟩
    rw [View.read_apply]
    refine (out6_eq M c t r l).trans ?_
    unfold hid
    refine congrArg₂ (hidA M c) (Fin.ext ?_) (Fin.ext ?_)
    · show 512 * t.val + r.val = win0_6.index t 0 * 512 + 1 * r.val; rw [(idx6 t).1]; omega
    · show l.val = win0_6.index t 1 * 4096 + 1 * l.val; rw [(idx6 t).2]; omega
  · have h0 : (i 0 : Nat) < 16384 := (i 0).isLt
    have h1 : (i 1 : Nat) < 4096 := (i 1).isLt
    obtain ⟨t, ht⟩ : ∃ t : Fin cfg0.N, t.val = (i 0 : Nat) / 512 :=
      ⟨⟨(i 0 : Nat) / 512, lt_of_lt_of_eq (show (i 0 : Nat) / 512 < 32 by omega) N_0.symm⟩, rfl⟩
    refine ⟨t, every6 t, ?_⟩
    show i ∈ ((View.whole main_v6_0).slice (win0_6.rect t)).set
    rw [View.set_slice_whole, Rect.mem_set_unit]
    intro a
    match a with
    | ⟨0, _⟩ => show win0_6.index t 0 * 512 ≤ (i 0 : Nat) ∧ (i 0 : Nat) < win0_6.index t 0 * 512 + 512; rw [(idx6 t).1, ht]; omega
    | ⟨1, _⟩ => show win0_6.index t 1 * 4096 ≤ (i 1 : Nat) ∧ (i 1 : Nat) < win0_6.index t 1 * 4096 + 4096; rw [(idx6 t).2]; omega

theorem final7 (c : Dev nD) : (dats M 0 c).arrAt 7 cfg0.N = dh M c := by
  refine (dats M 0 c).arrAt_eq_of_cover 7 (dh M c) (fun t hf => ?_) (fun i => ?_)
  · rw [Value.flushed7]
    funext y
    obtain ⟨r, l, rfl⟩ : ∃ (r : Fin 512) (l : Fin 1024), y = ix2 r l := ⟨y 0, y 1, eq_ix2 y⟩
    rw [View.read_apply]
    refine (out7_eq M c t r l).trans ?_
    unfold dh
    refine congrArg₂ (dhA M c) (Fin.ext ?_) (Fin.ext ?_)
    · show 512 * t.val + r.val = win0_7.index t 0 * 512 + 1 * r.val; rw [(idx7 t).1]; omega
    · show l.val = win0_7.index t 1 * 1024 + 1 * l.val; rw [(idx7 t).2]; omega
  · have h0 : (i 0 : Nat) < 16384 := (i 0).isLt
    have h1 : (i 1 : Nat) < 1024 := (i 1).isLt
    obtain ⟨t, ht⟩ : ∃ t : Fin cfg0.N, t.val = (i 0 : Nat) / 512 :=
      ⟨⟨(i 0 : Nat) / 512, lt_of_lt_of_eq (show (i 0 : Nat) / 512 < 32 by omega) N_0.symm⟩, rfl⟩
    refine ⟨t, every7 t, ?_⟩
    show i ∈ ((View.whole main_v6_1).slice (win0_7.rect t)).set
    rw [View.set_slice_whole, Rect.mem_set_unit]
    intro a
    match a with
    | ⟨0, _⟩ => show win0_7.index t 0 * 512 ≤ (i 0 : Nat) ∧ (i 0 : Nat) < win0_7.index t 0 * 512 + 512; rw [(idx7 t).1, ht]; omega
    | ⟨1, _⟩ => show win0_7.index t 1 * 1024 ≤ (i 1 : Nat) ∧ (i 1 : Nat) < win0_7.index t 1 * 1024 + 1024; rw [(idx7 t).2]; omega

theorem final8 (c : Dev nD) : (dats M 0 c).arrAt 8 cfg0.N = dh M c := by
  refine (dats M 0 c).arrAt_eq_of_cover 8 (dh M c) (fun t hf => ?_) (fun i => ?_)
  · rw [Value.flushed8]
    funext y
    obtain ⟨r, l, rfl⟩ : ∃ (r : Fin 512) (l : Fin 1024), y = ix2 r l := ⟨y 0, y 1, eq_ix2 y⟩
    rw [View.read_apply]
    refine (out8_eq M c t r l).trans ?_
    unfold dh
    refine congrArg₂ (dhA M c) (Fin.ext ?_) (Fin.ext ?_)
    · show 512 * t.val + r.val = win0_8.index t 0 * 512 + 1 * r.val; rw [(idx8 t).1]; omega
    · show l.val = win0_8.index t 1 * 1024 + 1 * l.val; rw [(idx8 t).2]; omega
  · have h0 : (i 0 : Nat) < 16384 := (i 0).isLt
    have h1 : (i 1 : Nat) < 1024 := (i 1).isLt
    obtain ⟨t, ht⟩ : ∃ t : Fin cfg0.N, t.val = (i 0 : Nat) / 512 :=
      ⟨⟨(i 0 : Nat) / 512, lt_of_lt_of_eq (show (i 0 : Nat) / 512 < 32 by omega) N_0.symm⟩, rfl⟩
    refine ⟨t, every8 t, ?_⟩
    show i ∈ ((View.whole main_v6_2).slice (win0_8.rect t)).set
    rw [View.set_slice_whole, Rect.mem_set_unit]
    intro a
    match a with
    | ⟨0, _⟩ => show win0_8.index t 0 * 512 ≤ (i 0 : Nat) ∧ (i 0 : Nat) < win0_8.index t 0 * 512 + 512; rw [(idx8 t).1, ht]; omega
    | ⟨1, _⟩ => show win0_8.index t 1 * 1024 ≤ (i 1 : Nat) ∧ (i 1 : Nat) < win0_8.index t 1 * 1024 + 1024; rw [(idx8 t).2]; omega

theorem final9 (c : Dev nD) : (dats M 0 c).arrAt 9 cfg0.N = lanes M c := by
  refine (dats M 0 c).arrAt_eq_of_cover 9 (lanes M c) (fun t hf => ?_) (fun i => ?_)
  · rw [Value.flushed9]
    have h3 := flush9 t hf
    funext y
    obtain ⟨z, l, rfl⟩ : ∃ (z : Fin 1) (l : Fin 1024), y = ix2 z l := ⟨y 0, y 1, eq_ix2 y⟩
    obtain rfl : z = 0 := Subsingleton.elim _ _
    rw [View.read_apply]
    refine (loss_last M c t h3 l).trans ?_
    unfold lanes
    refine congrArg (lossA M c) (Fin.ext ?_)
    show l.val = win0_9.index t 1 * 1024 + 1 * l.val; rw [(idx9 t).2]; omega
  · obtain ⟨t, hf⟩ := last9
    refine ⟨t, hf, ?_⟩
    show i ∈ ((View.whole main_v6_3).slice (win0_9.rect t)).set
    rw [View.set_slice_whole, Rect.mem_set_unit]
    intro a
    have h0 : (i 0 : Nat) < 1 := (i 0).isLt
    have h1 : (i 1 : Nat) < 1024 := (i 1).isLt
    match a with
    | ⟨0, _⟩ => show win0_9.index t 0 * 1 ≤ (i 0 : Nat) ∧ (i 0 : Nat) < win0_9.index t 0 * 1 + 1; rw [(idx9 t).1]; omega
    | ⟨1, _⟩ => show win0_9.index t 1 * 1024 ≤ (i 1 : Nat) ∧ (i 1 : Nat) < win0_9.index t 1 * 1024 + 1024; rw [(idx9 t).2]; omega

theorem final10 (c : Dev nD) : (dats M 0 c).arrAt 10 cfg0.N = dg M c := by
  refine (dats M 0 c).arrAt_eq_of_cover 10 (dg M c) (fun t hf => ?_) (fun i => ?_)
  · rw [Value.flushed10]
    have h3 := flush10 t hf
    funext y
    obtain ⟨z, l, rfl⟩ : ∃ (z : Fin 1) (l : Fin 1024), y = ix2 z l := ⟨y 0, y 1, eq_ix2 y⟩
    obtain rfl : z = 0 := Subsingleton.elim _ _
    rw [View.read_apply]
    refine (dg_last M c t h3 l).trans ?_
    unfold dg
    refine congrArg (dgA M c) (Fin.ext ?_)
    show l.val = win0_10.index t 1 * 1024 + 1 * l.val; rw [(idx10 t).2]; omega
  · obtain ⟨t, hf⟩ := last10
    refine ⟨t, hf, ?_⟩
    show i ∈ ((View.whole main_v6_4).slice (win0_10.rect t)).set
    rw [View.set_slice_whole, Rect.mem_set_unit]
    intro a
    have h0 : (i 0 : Nat) < 1 := (i 0).isLt
    have h1 : (i 1 : Nat) < 1024 := (i 1).isLt
    match a with
    | ⟨0, _⟩ => show win0_10.index t 0 * 1 ≤ (i 0 : Nat) ∧ (i 0 : Nat) < win0_10.index t 0 * 1 + 1; rw [(idx10 t).1]; omega
    | ⟨1, _⟩ => show win0_10.index t 1 * 1024 ≤ (i 1 : Nat) ∧ (i 1 : Nat) < win0_10.index t 1 * 1024 + 1024; rw [(idx10 t).2]; omega

end Cert.KernelLossIdeal.Own

end
-- ==== Proof.MlpLossClaim.lean ====
/- The last part of the forward pass and the loss's gradient: kernel and reference agree. -/
module

public import proofs.«01_k».proof.Proof.MlpLossArray
public import proofs.«01_k».proof.Proof.Gen.ReferenceLossIdeal.Run
public import proofs.«01_k».proof.Defs

@[expose] public section

set_option maxRecDepth 16384

noncomputable section

namespace Cert.Own.MlpLoss

open Idealize.ShloMosaic Idealize.ShloMosaic.TcCoe Idealize.SL.Sem Cert.Own
open Cert.ReferenceLossIdeal Cert.ReferenceLossIdeal.Gen

/-! ## The reference's arrays, in stages -/

abbrev rowOf {a b : ℕ} (x : FVec Ideal ⟨2, ![a, b]⟩ .f32) (n : Fin a) : Fin b → EReal := fun k => x (ix2 n k)

section
variable (m h1 t : FVec Ideal S16384x1024 .f32) (wi : FVec Ideal S1024x4096 .f32) (wo : FVec Ideal S4096x1024 .f32)
  (g : FVec Ideal S1x1024 .f32) (y : FVec Ideal S16384x1024 .f32)

/-- The positive part of the hidden layer, -/
def vRelu : FVec Ideal S16384x4096 .f32 :=
  maximumf (Host.dotGeneral (F := Ideal) (φ₁ := .f32) (φ₂ := .f32) dot_S16384x1024_S1024x4096_S16384x4096_1_0_0_1_n_n none m wi)
    (broadcastInDim S16384x4096 ![] bcast_S_S16384x4096 (constant S_ .f32 0x00000000#32))

/-- its square, -/
def vHid : FVec Ideal S16384x4096 .f32 := mulf (vRelu m wi) (vRelu m wi)

/-- and the residual stream after the MLP. -/
def vY : FVec Ideal S16384x1024 .f32 :=
  addf h1 (Host.dotGeneral (F := Ideal) (φ₁ := .f32) (φ₂ := .f32) dot_S16384x4096_S4096x1024_S16384x1024_1_0_0_1_n_n none (vHid m wi) wo)

/-- The mean of a row's squares, and the small number. -/
def vA : FVec Ideal S16384x1 .f32 :=
  addf (Host.divf (broadcastInDim S16384x1 ![0] bcast_S16384_S16384x1_0
      (Host.reduceAdd (mulf y y) (constant S_ .f32 0x00000000#32) reducesTo_S16384x1024_S16384_d1 h_S_))
    (broadcastInDim S16384x1 ![] bcast_S_S16384x1 (constant S_ .f32 0x44800000#32)))
    (broadcastInDim S16384x1 ![] bcast_S_S16384x1 (constant S_ .f32 0x358637BD#32))

def vR : FVec Ideal S16384x1 .f32 := Host.rsqrt (vA y)

/-- The normalised rows before the weight. -/
def vN : FVec Ideal S16384x1024 .f32 := mulf y (broadcastInDim S16384x1024 ![0, 1] bcast_S16384x1_S16384x1024_0_1 (vR y))

/-- The error against the target. -/
def vErr : FVec Ideal S16384x1024 .f32 :=
  subf (mulf (vN y) (broadcastInDim S16384x1024 ![0, 1] bcast_S1x1024_S16384x1024_0_1 g)) t

/-- The gradient at the weighted rows. -/
def vDy : FVec Ideal S16384x1024 .f32 :=
  mulf (broadcastInDim S16384x1024 ![0] bcast_S16384_S16384x1024_0 (Host.divf
      (broadcastInDim S16384 ![] bcast_S_S16384 (mulf (constant S_ .f32 0x3F000000#32) (constant S_ .f32 0x3F800000#32)))
      (broadcastInDim S16384 ![] bcast_S_S16384 (constant S_ .f32 0x44800000#32))))
    (mulf (broadcastInDim S16384x1024 ![] bcast_S_S16384x1024 (constant S_ .f32 0x40000000#32)) (vErr t g y))

/-- The gradient of the norm's weight. -/
def vDg : FVec Ideal S1x1024 .f32 :=
  shapeCast S1x1024 (Host.reduceAdd (mulf (vN y) (vDy t g y)) (constant S_ .f32 0x00000000#32) reducesTo_S16384x1024_S1024_d0 h_S_)
    shapeCasts_S1024_S1x1024

/-- The sum of the squared errors, lane by lane. -/
def vLanes : FVec Ideal S1x1024 .f32 :=
  broadcastInDim S1x1024 ![1] bcast_S1024_S1x1024_1
    (Host.reduceAdd (mulf (vErr t g y) (vErr t g y)) (constant S_ .f32 0x00000000#32) reducesTo_S16384x1024_S1024_d0 h_S_)

/-- The gradient at the normalised rows. -/
def vW : FVec Ideal S16384x1024 .f32 :=
  mulf (vDy t g y) (broadcastInDim S16384x1024 ![0, 1] bcast_S1x1024_S16384x1024_0_1 g)

/-- The gradient at the mean of the squares, spread over the row. -/
def vB : FVec Ideal S16384x1024 .f32 :=
  broadcastInDim S16384x1024 ![0] bcast_S16384_S16384x1024_0
    (Host.reduceAdd (Host.divf (mulf
        (shapeCast S16384x1 (Host.reduceAdd (mulf y (vW t g y)) (constant S_ .f32 0x00000000#32) reducesTo_S16384x1024_S16384_d1 h_S_) shapeCasts_S16384_S16384x1)
        (mulf (broadcastInDim S16384x1 ![] bcast_S_S16384x1 (constant S_ .f32 0xBF000000#32)) (Host.divf (vR y) (vA y))))
      (broadcastInDim S16384x1 ![] bcast_S_S16384x1 (constant S_ .f32 0x44800000#32))) (constant S_ .f32 0x00000000#32) reducesTo_S16384x1_S16384_d1 h_S_)

/-- The gradient of the residual stream. -/
def vDh : FVec Ideal S16384x1024 .f32 :=
  addf (addf (mulf (vW t g y) (broadcastInDim S16384x1024 ![0, 1] bcast_S16384x1_S16384x1024_0_1 (vR y)))
      (mulf y (vB t g y))) (mulf (vB t g y) y)

theorem vHid_apply (n : Fin 16384) (f : Fin 4096) : vHid m wi (ix2 n f) = rowSq (rowOf m n) (rowOf wi) f := by
  pointwise [vHid, vRelu]
  rfl

theorem vY_apply (n : Fin 16384) (j : Fin 1024) :
    vY m h1 wi wo (ix2 n j) = rowY (rowOf h1 n) (rowSq (rowOf m n) (rowOf wi)) (rowOf wo) j := by
  pointwise [vY]
  simp only [vHid_apply]
  exact add_comm _ _

theorem vA_apply (n : Fin 16384) : vA y (ix2 n 0) = Ideal.div (∑ k, y (ix2 n k) * y (ix2 n k)) (Ideal.ofBits FTy.f32 0x44800000#32)
    + Ideal.ofBits FTy.f32 0x358637BD#32 := by
  pointwise [vA]

theorem vN_apply (n : Fin 16384) (k : Fin 1024) : vN y (ix2 n k) = y (ix2 n k) * rowR (rowOf y n) := by
  pointwise [vN, vR]
  rw [vA_apply]
  rfl

theorem vErr_apply (n : Fin 16384) (k : Fin 1024) : vErr t g y (ix2 n k) = rowErr (rowOf y n) (rowOf g 0) (rowOf t n) k := by
  pointwise [vErr]
  rw [vN_apply]
  rfl

theorem vDy_apply (n : Fin 16384) (k : Fin 1024) : vDy t g y (ix2 n k) = rowDy (rowOf y n) (rowOf g 0) (rowOf t n) k := by
  pointwise [vDy]
  rw [vErr_apply]
  unfold rowDy
  rw [c1024inv, c1024, c2, chalf, Ideal.div_coe (by norm_num), ← mul_assoc, ← EReal.coe_mul, ← EReal.coe_mul, mul_comm]
  norm_num

theorem vDg_apply (j : Fin 1024) : vDg t g y (ix2 0 j)
    = ∑ n, rowDy (rowOf y n) (rowOf g 0) (rowOf t n) j * (y (ix2 n j) * rowR (rowOf y n)) := by
  pointwise [vDg]
  exact Finset.sum_congr rfl fun n _ => by rw [vN_apply, vDy_apply, mul_comm]

theorem vLanes_apply (j : Fin 1024) : vLanes t g y (ix2 0 j)
    = ∑ n, rowErr (rowOf y n) (rowOf g 0) (rowOf t n) j * rowErr (rowOf y n) (rowOf g 0) (rowOf t n) j := by
  pointwise [vLanes]
  exact Finset.sum_congr rfl fun n _ => by rw [vErr_apply]

theorem vDh_apply (n : Fin 16384) (j : Fin 1024) : vDh t g y (ix2 n j) = rowGrad (rowOf y n) (rowOf g 0) (rowOf t n) j := by
  have key := norm_bwd (rowOf y n) (fun k => vDy t g y (ix2 n k) * g (ix2 0 k))
    (vA y (ix2 n 0)) (rowR (rowOf y n)) (vA_apply y n) (by rw [vA_apply]; rfl) j
  have hrA : Ideal.rsqrt (vA y (ix2 n 0)) = rowR (rowOf y n) := by rw [vA_apply]; rfl
  pointwise [vDh, vB, vW, vR]
  rw [Fin.sum_univ_one, hrA]
  refine key.symm.trans ?_
  unfold rowGrad
  simp only [vDy_apply]

end

section
variable (m : (ℓ : Loc nD τ sig) → Buf (Elt Ideal) ℓ) (c : Dev nD)

theorem res37 : Value.res_main_v37 m c = vDg (m ((c.tc : Thread nD τ).loc main_arg2)) (m ((c.tc : Thread nD τ).loc main_arg5)) (vY (m ((c.tc : Thread nD τ).loc main_arg0)) (m ((c.tc : Thread nD τ).loc main_arg1)) (m ((c.tc : Thread nD τ).loc main_arg3)) (m ((c.tc : Thread nD τ).loc main_arg4))) := by
  unfold Value.res_main_v37; rfl

theorem res53 : Value.res_main_v53 m c = vDh (m ((c.tc : Thread nD τ).loc main_arg2)) (m ((c.tc : Thread nD τ).loc main_arg5)) (vY (m ((c.tc : Thread nD τ).loc main_arg0)) (m ((c.tc : Thread nD τ).loc main_arg1)) (m ((c.tc : Thread nD τ).loc main_arg3)) (m ((c.tc : Thread nD τ).loc main_arg4))) := by
  unfold Value.res_main_v53; rfl

theorem res73 : Value.res_main_v73 m c = vDh (m ((c.tc : Thread nD τ).loc main_arg2)) (m ((c.tc : Thread nD τ).loc main_arg5)) (vY (m ((c.tc : Thread nD τ).loc main_arg0)) (m ((c.tc : Thread nD τ).loc main_arg1)) (m ((c.tc : Thread nD τ).loc main_arg3)) (m ((c.tc : Thread nD τ).loc main_arg4))) := by
  unfold Value.res_main_v73; rfl

theorem res69 : Value.res_main_v69 m c = vLanes (m ((c.tc : Thread nD τ).loc main_arg2)) (m ((c.tc : Thread nD τ).loc main_arg5)) (vY (m ((c.tc : Thread nD τ).loc main_arg0)) (m ((c.tc : Thread nD τ).loc main_arg1)) (m ((c.tc : Thread nD τ).loc main_arg3)) (m ((c.tc : Thread nD τ).loc main_arg4))) := by
  unfold Value.res_main_v69; rfl

end

theorem algebraic : Cert.algebraic_KernelLossIdeal_ReferenceLossIdeal := by
  intro m g m' g' _ hargs
  have ky : ∀ (c : Dev nD) (n : Fin 16384), Cert.KernelLossIdeal.Own.yA m c n = rowOf (vY (m' ((c.tc : Thread nD τ).loc main_arg0)) (m' ((c.tc : Thread nD τ).loc main_arg1)) (m' ((c.tc : Thread nD τ).loc main_arg3)) (m' ((c.tc : Thread nD τ).loc main_arg4))) n := by
    intro c n
    funext j
    unfold rowOf
    rw [(hargs c).1, (hargs c).2.1, (hargs c).2.2.2.1, (hargs c).2.2.2.2.1, vY_apply]
    rfl
  have kg : ∀ c : Dev nD, Cert.KernelLossIdeal.Own.vG m c = rowOf (m' ((c.tc : Thread nD τ).loc main_arg5)) 0 := fun c => by
    rw [(hargs c).2.2.2.2.2]
  have kt : ∀ (c : Dev nD) (n : Fin 16384), Cert.KernelLossIdeal.Own.rT m c n = rowOf (m' ((c.tc : Thread nD τ).loc main_arg2)) n := fun c n => by
    rw [(hargs c).2.2.1]
  have k_hid : ∀ c : Dev nD, Cert.KernelLossIdeal.Own.hid m c = vHid (m' ((c.tc : Thread nD τ).loc main_arg0)) (m' ((c.tc : Thread nD τ).loc main_arg3)) := by
    intro c
    funext i
    obtain ⟨n, f, rfl⟩ : ∃ (n : Fin 16384) (f : Fin 4096), i = ix2 n f := ⟨i 0, i 1, eq_ix2 i⟩
    rw [vHid_apply, (hargs c).1, (hargs c).2.2.2.1]
    rfl
  have k_dh : ∀ c : Dev nD, Cert.KernelLossIdeal.Own.dh m c = vDh (m' ((c.tc : Thread nD τ).loc main_arg2)) (m' ((c.tc : Thread nD τ).loc main_arg5)) (vY (m' ((c.tc : Thread nD τ).loc main_arg0)) (m' ((c.tc : Thread nD τ).loc main_arg1)) (m' ((c.tc : Thread nD τ).loc main_arg3)) (m' ((c.tc : Thread nD τ).loc main_arg4))) := by
    intro c
    funext i
    obtain ⟨n, f, rfl⟩ : ∃ (n : Fin 16384) (f : Fin 1024), i = ix2 n f := ⟨i 0, i 1, eq_ix2 i⟩
    rw [vDh_apply]
    exact (congr (congr (congr (congrArg rowGrad (ky c n)) (kg c)) (kt c n)) rfl)
  have k_lanes : ∀ c : Dev nD, Cert.KernelLossIdeal.Own.lanes m c = vLanes (m' ((c.tc : Thread nD τ).loc main_arg2)) (m' ((c.tc : Thread nD τ).loc main_arg5)) (vY (m' ((c.tc : Thread nD τ).loc main_arg0)) (m' ((c.tc : Thread nD τ).loc main_arg1)) (m' ((c.tc : Thread nD τ).loc main_arg3)) (m' ((c.tc : Thread nD τ).loc main_arg4))) := by
    intro c
    funext i
    obtain ⟨z, f, rfl⟩ : ∃ (z : Fin 1) (f : Fin 1024), i = ix2 z f := ⟨i 0, i 1, eq_ix2 i⟩
    obtain rfl : z = 0 := Subsingleton.elim _ _
    rw [vLanes_apply]
    unfold Cert.KernelLossIdeal.Own.lanes Cert.KernelLossIdeal.Own.lossA
    refine Finset.sum_congr rfl fun n _ => ?_
    show Cert.KernelLossIdeal.Own.lossTerm m c f n = _
    unfold Cert.KernelLossIdeal.Own.lossTerm
    rw [ky, kg, kt]
  have k_dg : ∀ c : Dev nD, Cert.KernelLossIdeal.Own.dg m c = vDg (m' ((c.tc : Thread nD τ).loc main_arg2)) (m' ((c.tc : Thread nD τ).loc main_arg5)) (vY (m' ((c.tc : Thread nD τ).loc main_arg0)) (m' ((c.tc : Thread nD τ).loc main_arg1)) (m' ((c.tc : Thread nD τ).loc main_arg3)) (m' ((c.tc : Thread nD τ).loc main_arg4))) := by
    intro c
    funext i
    obtain ⟨z, f, rfl⟩ : ∃ (z : Fin 1) (f : Fin 1024), i = ix2 z f := ⟨i 0, i 1, eq_ix2 i⟩
    obtain rfl : z = 0 := Subsingleton.elim _ _
    rw [vDg_apply]
    unfold Cert.KernelLossIdeal.Own.dg Cert.KernelLossIdeal.Own.dgA
    refine Finset.sum_congr rfl fun n _ => ?_
    show Cert.KernelLossIdeal.Own.dgTerm m c f n = _
    unfold Cert.KernelLossIdeal.Own.dgTerm
    rw [ky, kg, kt]
  refine ⟨fun c => Cert.KernelLossIdeal.Own.hid m c, fun c => Cert.KernelLossIdeal.Own.dh m c, fun c => Cert.KernelLossIdeal.Own.dh m c,
    fun c => Cert.KernelLossIdeal.Own.lanes m c, fun c => Cert.KernelLossIdeal.Own.dg m c, ?_, ?_⟩
  · exact (θ_run _ _ _).mono (fun r h c => ⟨(h c).1.trans (Cert.KernelLossIdeal.Own.final6 m c),
      (h c).2.1.trans (Cert.KernelLossIdeal.Own.final7 m c), (h c).2.2.1.trans (Cert.KernelLossIdeal.Own.final8 m c),
      (h c).2.2.2.1.trans (Cert.KernelLossIdeal.Own.final9 m c), (h c).2.2.2.2.1.trans (Cert.KernelLossIdeal.Own.final10 m c), (h c).2.2.2.2.2⟩) (Cert.KernelLossIdeal.Value.run_blocks m g)
  · exact (θ_run _ _ _).mono (fun r h c => ⟨(h c).1.trans (k_hid c).symm,
      (h c).2.1.trans ((res53 m' c).trans (k_dh c).symm), (h c).2.2.1.trans ((res73 m' c).trans (k_dh c).symm),
      (h c).2.2.2.1.trans ((res69 m' c).trans (k_lanes c).symm), (h c).2.2.2.2.1.trans ((res37 m' c).trans (k_dg c).symm), (h c).2.2.2.2.2⟩)
      (Cert.ReferenceLossIdeal.Value.run m' g')

end Cert.Own.MlpLoss

end
-- ==== Proof.WgradIn.lean ====
/- The weight gradient of the MLP's first matrix: what the kernel leaves in its two result arrays. -/
module

public import proofs.«01_k».proof.Proof.Gen.KernelWgradInIdeal.Value
public import proofs.«01_k».proof.Proof.Common
public import Idealize.ShloMosaic.Lib.Pipeline.Value
public import Idealize.ShloMosaic.Lib.Pointwise
public import Idealize.ShloMosaic.Lib.Tactic
public import Idealize.ShloMosaic.PureOps.Ideal

@[expose] public section

noncomputable section

namespace Cert.KernelWgradInIdeal.Own

open Cert.KernelWgradInIdeal Cert.KernelWgradInIdeal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

theorem hz2 : (![0, 0] : Fin 2 → Nat) = fun _ => 0 := funext fun a => by fin_cases a <;> rfl
theorem hz3 : (![0, 0, 0] : Fin 3 → Nat) = fun _ => 0 := funext fun a => by fin_cases a <;> rfl

section
variable (c : Dev nD) (i : grid0.Coords) (a2 : Memref sig .tc .vmem S4096x1024 .bf16) (h2 : a2.IsWhole)
  (a3 : Memref sig .tc .vmem S4096x1024 .bf16) (h3 : a3.IsWhole) (a4 : Memref sig .tc .vmem S1x1024x1024 .f32) (h4 : a4.IsWhole)
  (a5 : Memref sig .tc .vmem S1x1024x1024 .bf16) (h5 : a5.IsWhole)
  (x0 x1 : Vec F S4096x1024 .bf16) (xo : Vec F S1x1024x1024 .f32)

/-- At the first tile of a row of the grid the block is the product of the two input tiles, onto zero. -/
theorem out_A (hc0 : cond0_0 i) (hc1 : ¬cond0_1 i) :
    out0_A_2 c i a2 h2 a3 h3 a4 h4 a5 h5 hc0 hc1 x0 x1 = k0_pay2 x0 k0_pay1 x1 := by
  unfold out0_A_2
  rw [View.read_writes_eq_canon _ _ _ (cover0_A_2 c i a2 h2 a3 h3 a4 h4 a5 h5 hc0 hc1 x0 x1)]
  unfold kernelRun0_A
  dsimp only
  sl_unfold_words
  rw [View.canon_cons_unit_zero (S := S1x1024x1024) hz3, View.readCov_unit_zero (S := S1x1024x1024) _ hz3]
  simp only [View.readAt_eq_ld, h2.read_unread, h3.read_unread, View.ld_unit_zero (S := S4096x1024) hz2]

/-- At the middle tiles the product of the tiles is added to what the block held. -/
theorem out_B (hc0 : ¬cond0_0 i) (hc1 : ¬cond0_1 i) :
    out0_B_2 c i a2 h2 a3 h3 a4 h4 a5 h5 hc0 hc1 x0 x1 xo = k0_pay2 x0 xo x1 := by
  unfold out0_B_2
  rw [View.read_writes_eq_canon _ _ _ (cover0_B_2 c i a2 h2 a3 h3 a4 h4 a5 h5 hc0 hc1 x0 x1 xo)]
  unfold kernelRun0_B
  dsimp only
  sl_unfold_words
  rw [View.canon_unit_zero (S := S1x1024x1024) hz3]
  simp only [View.readAt_eq_ld, h2.read_unread, h3.read_unread, h4.read_unread, View.ld_unit_zero (S := S4096x1024) hz2,
    View.ld_unit_zero (S := S1x1024x1024) hz3]

/-- At the last tile the same, -/
theorem out_C (hc0 : ¬cond0_0 i) (hc1 : cond0_1 i) :
    out0_C_2 c i a2 h2 a3 h3 a4 h4 a5 h5 hc0 hc1 x0 x1 xo = k0_pay2 x0 xo x1 := by
  unfold out0_C_2
  rw [View.read_writes_eq_canon _ _ _ (cover0_C_2 c i a2 h2 a3 h3 a4 h4 a5 h5 hc0 hc1 x0 x1 xo)]
  unfold kernelRun0_C
  dsimp only
  sl_unfold_words
  rw [View.canon_unit_zero (S := S1x1024x1024) hz3]
  simp only [View.readAt_eq_ld, h2.read_unread, h3.read_unread, h4.read_unread, View.ld_unit_zero (S := S4096x1024) hz2,
    View.ld_unit_zero (S := S1x1024x1024) hz3]

/-- and the second result is the block just stored, rounded. -/
theorem out_C' (hc0 : ¬cond0_0 i) (hc1 : cond0_1 i) :
    out0_C_3 c i a2 h2 a3 h3 a4 h4 a5 h5 hc0 hc1 x0 x1 xo = k0_pay3 (k0_pay2 x0 xo x1) := by
  unfold out0_C_3
  rw [View.read_writes_eq_canon _ _ _ (cover0_C_3 c i a2 h2 a3 h3 a4 h4 a5 h5 hc0 hc1 x0 x1 xo)]
  unfold kernelRun0_C
  dsimp only
  sl_unfold_words
  rw [View.canon_unit_zero (S := S1x1024x1024) hz3, View.readCov_unit_zero (S := S1x1024x1024) _ hz3]
  simp only [View.readAt_eq_ld, h2.read_unread, h3.read_unread, h4.read_unread, View.ld_unit_zero (S := S4096x1024) hz2,
    View.ld_unit_zero (S := S1x1024x1024) hz3]

end

/-! ## The payloads at an index, over the extended reals -/

open Cert.Own

variable (M : (ℓ : Loc nD τ sig) → Buf (Elt Ideal) ℓ)

theorem pay2_apply (x0 x1 : Vec Ideal S4096x1024 .bf16) (xo : Vec Ideal S1x1024x1024 .f32) (r l : Fin 1024) :
    k0_pay2 (F := Ideal) x0 xo x1 (ix3 0 r l)
      = (xo (ix3 0 r l) : EReal) + ∑ k : Fin 4096, (x0 (ix2 k r) : EReal) * (x1 (ix2 k l) : EReal) := by
  pointwise [k0_pay2]

theorem pay1_apply (r l : Fin 1024) : (k0_pay1 (F := Ideal) (ix3 0 r l) : EReal) = 0 := by
  pointwise [k0_pay1]

theorem pay3_eq (x : Vec Ideal S1x1024x1024 .f32) (r l : Fin 1024) :
    (k0_pay3 (F := Ideal) x (ix3 0 r l) : EReal) = x (ix3 0 r l) := by
  pointwise [k0_pay3]

/-- The two operands as the program is given them. -/
abbrev A (c : Dev nD) : S16384x1024.Idx → EReal := M ((c : Thread nD τ).loc main_arg0)
abbrev B (c : Dev nD) : S16384x4096.Idx → EReal := M ((c : Thread nD τ).loc main_arg1)

theorem V_v0 (c : Dev nD) (i : S16384x1024.Idx) : (V M c main_v0 i : EReal) = A M c i := by
  show StableHlo.after hostOps0 (fun b => M (c, b)) main_v0 i = _
  after_results <;> rfl

theorem V_v1 (c : Dev nD) (i : S16384x4096.Idx) : (V M c main_v1 i : EReal) = B M c i := by
  show StableHlo.after hostOps0 (fun b => M (c, b)) main_v1 i = _
  after_results <;> rfl

theorem idx0 : ∀ t : Fin cfg0.N, win0_0.index t 0 = t.val % 4 ∧ win0_0.index t 1 = 0 := by decide +kernel
theorem idx1 : ∀ t : Fin cfg0.N, win0_1.index t 0 = t.val % 4 ∧ win0_1.index t 1 = t.val / 4 := by decide +kernel
theorem idx2 : ∀ t : Fin cfg0.N, win0_2.index t 0 = t.val / 4 ∧ win0_2.index t 1 = 0 ∧ win0_2.index t 2 = 0 := by decide +kernel
theorem idx3 : ∀ t : Fin cfg0.N, win0_3.index t 0 = t.val / 4 ∧ win0_3.index t 1 = 0 ∧ win0_3.index t 2 = 0 := by decide +kernel

/-- The first operand's tile at point `t` is rows `4096 (t % 4) …` of the array. -/
theorem iblk0 (c : Dev nD) (t : Fin cfg0.N) (k : Fin 4096) (r : Fin 1024) :
    (iblk M c 0 t (ix2 k r) : EReal) = at2 (A M c) (4096 * (t.val % 4) + k.val) r.val := by
  have hk := k.isLt
  rw [at2_of _ (by omega) r.isLt]
  unfold iblk
  rw [View.read_apply]
  refine (V_v0 M c _).trans (congrArg (A M c) (funext fun a => Fin.ext ?_))
  match a with
  | ⟨0, _⟩ => show win0_0.index t 0 * 4096 + 1 * k.val = 4096 * (t.val % 4) + k.val; rw [(idx0 t).1]; omega
  | ⟨1, _⟩ => show win0_0.index t 1 * 1024 + 1 * r.val = r.val; rw [(idx0 t).2]; omega

/-- The second's is those rows at columns `1024 (t / 4) …`. -/
theorem iblk1 (c : Dev nD) (t : Fin cfg0.N) (k : Fin 4096) (r : Fin 1024) :
    (iblk M c 1 t (ix2 k r) : EReal) = at2 (B M c) (4096 * (t.val % 4) + k.val) (1024 * (t.val / 4) + r.val) := by
  have hk := k.isLt
  have hr := r.isLt
  have ht : t.val < 16 := lt_of_lt_of_eq t.isLt N_0
  rw [at2_of _ (by omega) (by omega)]
  unfold iblk
  rw [View.read_apply]
  refine (V_v1 M c _).trans (congrArg (B M c) (funext fun a => Fin.ext ?_))
  match a with
  | ⟨0, _⟩ => show win0_1.index t 0 * 4096 + 1 * k.val = 4096 * (t.val % 4) + k.val; rw [(idx1 t).1]; omega
  | ⟨1, _⟩ => show win0_1.index t 1 * 1024 + 1 * r.val = 1024 * (t.val / 4) + r.val; rw [(idx1 t).2]; omega

/-- One row's product in the gradient's element `(n, r, l)`. -/
def term (c : Dev nD) (n r l s : ℕ) : EReal := at2 (A M c) s r * at2 (B M c) s (1024 * n + l)

theorem tile (c : Dev nD) (t : Fin cfg0.N) (r l : Fin 1024) :
    ∑ k : Fin 4096, @HMul.hMul EReal EReal EReal _ (iblk M c 0 t (ix2 k r)) (iblk M c 1 t (ix2 k l))
      = ∑ k ∈ Finset.range 4096, term M c (t.val / 4) r l (4096 * (t.val % 4) + k) := by
  rw [Finset.sum_range]
  exact Finset.sum_congr rfl fun k _ => by rw [term, iblk0, iblk1]

/-- After point `n` the block holds the sum over the row tiles so far. -/
theorem acc_eq (c : Dev nD) (r l : Fin 1024) : ∀ (n : ℕ) (h : n < cfg0.N),
    ((outsAt0 M c n h).1 (ix3 0 r l) : EReal)
      = ∑ k ∈ Finset.range (n % 4 + 1), ∑ s ∈ Finset.range 4096, term M c (n / 4) r l (4096 * k + s)
  | 0, h => by
    rw [outsAt0_A M c ⟨0, h⟩ rfl (by dsimp only; omega)]
    dsimp only
    rw [out_A, pay2_apply, pay1_apply, zero_add, tile, Finset.sum_range_one]; rfl
  | n + 1, h => by
    have hN : n + 1 < 16 := lt_of_lt_of_eq h N_0
    by_cases h0 : (n + 1) % 4 = 0
    · rw [outsAt0_A M c ⟨n + 1, h⟩ h0 (by dsimp only; omega)]
      dsimp only
      rw [out_A, pay2_apply, pay1_apply, zero_add, tile, h0, Finset.sum_range_one]
    · have e1 : (n + 1) % 4 = n % 4 + 1 := by omega
      have e2 : (n + 1) / 4 = n / 4 := by omega
      have step : (outsAt0 M c (n + 1) h).1 = k0_pay2 (iblk M c 0 ⟨n + 1, h⟩) (outsAt0 M c n (Nat.lt_of_succ_lt h)).1 (iblk M c 1 ⟨n + 1, h⟩) := by
        by_cases h3 : (n + 1) % 4 = 3
        · rw [outsAt0_C M c ⟨n + 1, h⟩ h0 h3]; dsimp only; rw [out_C]; rfl
        · rw [outsAt0_B M c ⟨n + 1, h⟩ h0 h3]; dsimp only; rw [out_B]; rfl
      rw [step, pay2_apply, tile, acc_eq c r l n, e1, e2, Finset.sum_range_succ _ (n % 4 + 1)]

/-- The gradient: element `(n, r, l)` is the product of column `r` of the first operand with column `1024 n + l` of the second. -/
@[irreducible] def gradAt (c : Dev nD) (n r l : ℕ) : EReal := ∑ s ∈ Finset.range 16384, term M c n r l s

def grad (c : Dev nD) : S4x1024x1024.Idx → EReal := fun i => gradAt M c (i 0).val (i 1).val (i 2).val

theorem grad_of (c : Dev nD) (i : S4x1024x1024.Idx) (n r l : ℕ) (h0 : (i 0 : ℕ) = n) (h1 : (i 1 : ℕ) = r) (h2 : (i 2 : ℕ) = l) :
    gradAt M c n r l = grad M c i := by
  subst h0 h1 h2; rfl

theorem acc_last (c : Dev nD) (t : Fin cfg0.N) (h3 : t.val % 4 = 3) (r l : Fin 1024) :
    ((outsAt0 M c t.val t.isLt).1 (ix3 0 r l) : EReal) = gradAt M c (t.val / 4) r l := by
  have e := sum_range_blocks 4096 (term M c (t.val / 4) r l) 4
  rw [show 4096 * 4 = 16384 by norm_num] at e
  rw [acc_eq, h3]
  unfold gradAt
  exact e

theorem out3_eq (c : Dev nD) (t : Fin cfg0.N) (h3 : t.val % 4 = 3) (r l : Fin 1024) :
    ((outsAt0 M c t.val t.isLt).2 (ix3 0 r l) : EReal) = (outsAt0 M c t.val t.isLt).1 (ix3 0 r l) := by
  rw [outsAt0_C M c t (by omega) h3]
  dsimp only
  rw [out_C, out_C', pay3_eq]

theorem flush2 : ∀ t : Fin cfg0.N, (cfg0.win 2).flush t = true → t.val % 4 = 3 := by decide +kernel
theorem flush3 : ∀ t : Fin cfg0.N, (cfg0.win 3).flush t = true → t.val % 4 = 3 := by decide +kernel
theorem last2 : ∀ n : Fin 4, ∃ t : Fin cfg0.N, (cfg0.win 2).flush t = true ∧ t.val / 4 = n.val := by decide +kernel
theorem last3 : ∀ n : Fin 4, ∃ t : Fin cfg0.N, (cfg0.win 3).flush t = true ∧ t.val / 4 = n.val := by decide +kernel

theorem final2 (c : Dev nD) : (dats M 0 c).arrAt 2 cfg0.N = grad M c := by
  refine (dats M 0 c).arrAt_eq_of_cover 2 (grad M c) (fun t hf => ?_) (fun i => ?_)
  · rw [Value.flushed2]
    have h3 := flush2 t hf
    funext y
    obtain ⟨z, r, l, rfl⟩ : ∃ (z : Fin 1) (r l : Fin 1024), y = ix3 z r l := ⟨y 0, y 1, y 2, eq_ix3 y⟩
    obtain rfl : z = 0 := Subsingleton.elim _ _
    rw [View.read_apply]
    refine (acc_last M c t h3 r l).trans ?_
    have e0 : ((((cfg0.win 2).blk t).view.emb (ix3 (0 : Fin 1) r l)) 0 : ℕ) = t.val / 4 := by
      show win0_2.index t 0 * 1 + 1 * 0 = _; rw [(idx2 t).1]; omega
    have e1 : ((((cfg0.win 2).blk t).view.emb (ix3 (0 : Fin 1) r l)) 1 : ℕ) = r.val := by
      show win0_2.index t 1 * 1024 + 1 * r.val = _; rw [(idx2 t).2.1]; omega
    have e2 : ((((cfg0.win 2).blk t).view.emb (ix3 (0 : Fin 1) r l)) 2 : ℕ) = l.val := by
      show win0_2.index t 2 * 1024 + 1 * l.val = _; rw [(idx2 t).2.2]; omega
    exact grad_of M c _ _ _ _ e0 e1 e2
  · obtain ⟨t, hf, ht⟩ := last2 (i 0)
    refine ⟨t, hf, ?_⟩
    show i ∈ ((View.whole main_v2_0).slice (win0_2.rect t)).set
    rw [View.set_slice_whole, Rect.mem_set_unit]
    intro a
    have h0 : (i 0 : Nat) < 4 := (i 0).isLt
    have h1 : (i 1 : Nat) < 1024 := (i 1).isLt
    have h2 : (i 2 : Nat) < 1024 := (i 2).isLt
    match a with
    | ⟨0, _⟩ => show win0_2.index t 0 * 1 ≤ (i 0 : Nat) ∧ (i 0 : Nat) < win0_2.index t 0 * 1 + 1; rw [(idx2 t).1, ht]; omega
    | ⟨1, _⟩ => show win0_2.index t 1 * 1024 ≤ (i 1 : Nat) ∧ (i 1 : Nat) < win0_2.index t 1 * 1024 + 1024; rw [(idx2 t).2.1]; omega
    | ⟨2, _⟩ => show win0_2.index t 2 * 1024 ≤ (i 2 : Nat) ∧ (i 2 : Nat) < win0_2.index t 2 * 1024 + 1024; rw [(idx2 t).2.2]; omega

theorem final3 (c : Dev nD) : (dats M 0 c).arrAt 3 cfg0.N = grad M c := by
  refine (dats M 0 c).arrAt_eq_of_cover 3 (grad M c) (fun t hf => ?_) (fun i => ?_)
  · rw [Value.flushed3]
    have h3 := flush3 t hf
    funext y
    obtain ⟨z, r, l, rfl⟩ : ∃ (z : Fin 1) (r l : Fin 1024), y = ix3 z r l := ⟨y 0, y 1, y 2, eq_ix3 y⟩
    obtain rfl : z = 0 := Subsingleton.elim _ _
    rw [View.read_apply]
    refine ((out3_eq M c t h3 r l).trans (acc_last M c t h3 r l)).trans ?_
    have e0 : ((((cfg0.win 3).blk t).view.emb (ix3 (0 : Fin 1) r l)) 0 : ℕ) = t.val / 4 := by
      show win0_3.index t 0 * 1 + 1 * 0 = _; rw [(idx3 t).1]; omega
    have e1 : ((((cfg0.win 3).blk t).view.emb (ix3 (0 : Fin 1) r l)) 1 : ℕ) = r.val := by
      show win0_3.index t 1 * 1024 + 1 * r.val = _; rw [(idx3 t).2.1]; omega
    have e2 : ((((cfg0.win 3).blk t).view.emb (ix3 (0 : Fin 1) r l)) 2 : ℕ) = l.val := by
      show win0_3.index t 2 * 1024 + 1 * l.val = _; rw [(idx3 t).2.2]; omega
    exact grad_of M c _ _ _ _ e0 e1 e2
  · obtain ⟨t, hf, ht⟩ := last3 (i 0)
    refine ⟨t, hf, ?_⟩
    show i ∈ ((View.whole main_v2_1).slice (win0_3.rect t)).set
    rw [View.set_slice_whole, Rect.mem_set_unit]
    intro a
    have h0 : (i 0 : Nat) < 4 := (i 0).isLt
    have h1 : (i 1 : Nat) < 1024 := (i 1).isLt
    have h2 : (i 2 : Nat) < 1024 := (i 2).isLt
    match a with
    | ⟨0, _⟩ => show win0_3.index t 0 * 1 ≤ (i 0 : Nat) ∧ (i 0 : Nat) < win0_3.index t 0 * 1 + 1; rw [(idx3 t).1, ht]; omega
    | ⟨1, _⟩ => show win0_3.index t 1 * 1024 ≤ (i 1 : Nat) ∧ (i 1 : Nat) < win0_3.index t 1 * 1024 + 1024; rw [(idx3 t).2.1]; omega
    | ⟨2, _⟩ => show win0_3.index t 2 * 1024 ≤ (i 2 : Nat) ∧ (i 2 : Nat) < win0_3.index t 2 * 1024 + 1024; rw [(idx3 t).2.2]; omega

end Cert.KernelWgradInIdeal.Own

end
-- ==== Proof.WgradInClaim.lean ====
/- The weight gradient of the MLP's first matrix: kernel and reference agree. -/
module

public import proofs.«01_k».proof.Proof.WgradIn
public import proofs.«01_k».proof.Proof.Gen.ReferenceWgradInIdeal.Run
public import proofs.«01_k».proof.Defs

@[expose] public section

set_option maxRecDepth 16384

noncomputable section

namespace Cert.Own.WgradIn

open Idealize.ShloMosaic Idealize.ShloMosaic.TcCoe Idealize.SL.Sem Cert.Own
open Cert.ReferenceWgradInIdeal Cert.ReferenceWgradInIdeal.Gen

/-- The reference's product, split in four column blocks: the gradient at an element. -/
theorem ref_apply (x : Vec Ideal S16384x1024 .f32) (y : Vec Ideal S16384x4096 .f32) (n : Fin 4) (r l : Fin 1024) :
    (transpose S4x1024x1024 [1, 0, 2] (shapeCast _ (transpose S1024x4096 [1, 0] (Host.dotGeneral (F := Ideal) (φ₁ := .f32) (φ₂ := .f32) dot_S16384x4096_S16384x1024_S4096x1024_0_0_1_1_n_n none y x) transposes_S4096x1024_S1024x4096_1_0) shapeCasts_S1024x4096_S1024x4x1024) transposes_S1024x4x1024_S4x1024x1024_1_0_2 (ix3 n r l) : EReal)
      = ∑ s ∈ Finset.range 16384, at2 x s r.val * at2 y s (1024 * n.val + l.val) := by
  have hl := l.isLt
  have hn := n.isLt
  rw [Finset.sum_range]
  pointwise
  refine Finset.sum_congr rfl fun k _ => ?_
  rw [at2_of x k.isLt r.isLt, at2_of y k.isLt (by omega), mul_comm]
  congr 3
  apply Fin.ext
  dsimp only
  omega

theorem algebraic : Cert.algebraic_KernelWgradInIdeal_ReferenceWgradInIdeal := by
  intro m g m' g' _ hargs
  have key : ∀ c : Dev Cert.KernelWgradInIdeal.nD, (Cert.KernelWgradInIdeal.Own.grad m c : S4x1024x1024.Idx → EReal)
      = transpose S4x1024x1024 [1, 0, 2] (shapeCast _ (transpose S1024x4096 [1, 0] (Host.dotGeneral (F := Ideal) (φ₁ := .f32) (φ₂ := .f32) dot_S16384x4096_S16384x1024_S4096x1024_0_0_1_1_n_n none (m' ((c.tc : Thread nD τ).loc main_arg1)) (m' ((c.tc : Thread nD τ).loc main_arg0))) transposes_S4096x1024_S1024x4096_1_0) shapeCasts_S1024x4096_S1024x4x1024) transposes_S1024x4x1024_S4x1024x1024_1_0_2 := by
    intro c
    funext i
    obtain ⟨n, r, l, rfl⟩ : ∃ (n : Fin 4) (r l : Fin 1024), i = ix3 n r l := ⟨i 0, i 1, i 2, eq_ix3 i⟩
    refine Eq.trans ?_ (ref_apply _ _ n r l).symm
    rw [(hargs c).1, (hargs c).2]
    unfold Cert.KernelWgradInIdeal.Own.grad Cert.KernelWgradInIdeal.Own.gradAt
    rfl
  refine ⟨fun c => Cert.KernelWgradInIdeal.Own.grad m c, fun c => Cert.KernelWgradInIdeal.Own.grad m c, ?_, ?_⟩
  · exact (θ_run _ _ _).mono (fun r h c => ⟨(h c).1.trans (Cert.KernelWgradInIdeal.Own.final2 m c),
      (h c).2.1.trans (Cert.KernelWgradInIdeal.Own.final3 m c), (h c).2.2⟩) (Cert.KernelWgradInIdeal.Value.run_blocks m g)
  · exact (θ_run _ _ _).mono (fun r h c => ⟨(h c).1.trans (key c).symm, (h c).2.1.trans (key c).symm, (h c).2.2⟩)
      (Cert.ReferenceWgradInIdeal.Value.run m' g')

end Cert.Own.WgradIn

end
-- ==== Proof.WgradOut.lean ====
/- The weight gradient of the MLP's second matrix: what the kernel leaves in its two result arrays. -/
module

public import proofs.«01_k».proof.Proof.Gen.KernelWgradOutIdeal.Value
public import proofs.«01_k».proof.Proof.Common
public import Idealize.ShloMosaic.Lib.Pipeline.Value
public import Idealize.ShloMosaic.Lib.Pointwise
public import Idealize.ShloMosaic.Lib.Tactic
public import Idealize.ShloMosaic.Lib.StableHlo.RunRead
public import Idealize.ShloMosaic.PureOps.Ideal

@[expose] public section

noncomputable section

namespace Cert.KernelWgradOutIdeal.Own

open Cert.KernelWgradOutIdeal Cert.KernelWgradOutIdeal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

theorem hz2 : (![0, 0] : Fin 2 → Nat) = fun _ => 0 := funext fun a => by fin_cases a <;> rfl
theorem hz3 : (![0, 0, 0] : Fin 3 → Nat) = fun _ => 0 := funext fun a => by fin_cases a <;> rfl

section
variable (c : Dev nD) (i : grid0.Coords) (a2 : Memref sig .tc .vmem S4096x1024 .bf16) (h2 : a2.IsWhole)
  (a3 : Memref sig .tc .vmem S4096x1024 .bf16) (h3 : a3.IsWhole) (a4 : Memref sig .tc .vmem S1x1024x1024 .f32) (h4 : a4.IsWhole)
  (a5 : Memref sig .tc .vmem S1x1024x1024 .bf16) (h5 : a5.IsWhole)
  (x0 x1 : Vec F S4096x1024 .bf16) (xo : Vec F S1x1024x1024 .f32)

/-- At the first tile of a row of the grid the block is the product of the two input tiles, onto zero. -/
theorem out_A (hc0 : cond0_0 i) (hc1 : ¬cond0_1 i) :
    out0_A_2 c i a2 h2 a3 h3 a4 h4 a5 h5 hc0 hc1 x0 x1 = k0_pay2 x0 k0_pay1 x1 := by
  unfold out0_A_2
  rw [View.read_writes_eq_canon _ _ _ (cover0_A_2 c i a2 h2 a3 h3 a4 h4 a5 h5 hc0 hc1 x0 x1)]
  unfold kernelRun0_A
  dsimp only
  sl_unfold_words
  rw [View.canon_cons_unit_zero (S := S1x1024x1024) hz3, View.readCov_unit_zero (S := S1x1024x1024) _ hz3]
  simp only [View.readAt_eq_ld, h2.read_unread, h3.read_unread, View.ld_unit_zero (S := S4096x1024) hz2]

/-- At the middle tiles the product of the tiles is added to what the block held. -/
theorem out_B (hc0 : ¬cond0_0 i) (hc1 : ¬cond0_1 i) :
    out0_B_2 c i a2 h2 a3 h3 a4 h4 a5 h5 hc0 hc1 x0 x1 xo = k0_pay2 x0 xo x1 := by
  unfold out0_B_2
  rw [View.read_writes_eq_canon _ _ _ (cover0_B_2 c i a2 h2 a3 h3 a4 h4 a5 h5 hc0 hc1 x0 x1 xo)]
  unfold kernelRun0_B
  dsimp only
  sl_unfold_words
  rw [View.canon_unit_zero (S := S1x1024x1024) hz3]
  simp only [View.readAt_eq_ld, h2.read_unread, h3.read_unread, h4.read_unread, View.ld_unit_zero (S := S4096x1024) hz2,
    View.ld_unit_zero (S := S1x1024x1024) hz3]

/-- At the last tile the same, -/
theorem out_C (hc0 : ¬cond0_0 i) (hc1 : cond0_1 i) :
    out0_C_2 c i a2 h2 a3 h3 a4 h4 a5 h5 hc0 hc1 x0 x1 xo = k0_pay2 x0 xo x1 := by
  unfold out0_C_2
  rw [View.read_writes_eq_canon _ _ _ (cover0_C_2 c i a2 h2 a3 h3 a4 h4 a5 h5 hc0 hc1 x0 x1 xo)]
  unfold kernelRun0_C
  dsimp only
  sl_unfold_words
  rw [View.canon_unit_zero (S := S1x1024x1024) hz3]
  simp only [View.readAt_eq_ld, h2.read_unread, h3.read_unread, h4.read_unread, View.ld_unit_zero (S := S4096x1024) hz2,
    View.ld_unit_zero (S := S1x1024x1024) hz3]

/-- and the second result is the block just stored, rounded. -/
theorem out_C' (hc0 : ¬cond0_0 i) (hc1 : cond0_1 i) :
    out0_C_3 c i a2 h2 a3 h3 a4 h4 a5 h5 hc0 hc1 x0 x1 xo = k0_pay3 (k0_pay2 x0 xo x1) := by
  unfold out0_C_3
  rw [View.read_writes_eq_canon _ _ _ (cover0_C_3 c i a2 h2 a3 h3 a4 h4 a5 h5 hc0 hc1 x0 x1 xo)]
  unfold kernelRun0_C
  dsimp only
  sl_unfold_words
  rw [View.canon_unit_zero (S := S1x1024x1024) hz3, View.readCov_unit_zero (S := S1x1024x1024) _ hz3]
  simp only [View.readAt_eq_ld, h2.read_unread, h3.read_unread, h4.read_unread, View.ld_unit_zero (S := S4096x1024) hz2,
    View.ld_unit_zero (S := S1x1024x1024) hz3]

end

/-! ## The payloads at an index, over the extended reals -/

open Cert.Own

variable (M : (ℓ : Loc nD τ sig) → Buf (Elt Ideal) ℓ)

theorem pay2_apply (x0 x1 : Vec Ideal S4096x1024 .bf16) (xo : Vec Ideal S1x1024x1024 .f32) (r l : Fin 1024) :
    k0_pay2 (F := Ideal) x0 xo x1 (ix3 0 r l)
      = (xo (ix3 0 r l) : EReal) + ∑ k : Fin 4096, (x0 (ix2 k r) : EReal) * (x1 (ix2 k l) : EReal) := by
  pointwise [k0_pay2]

theorem pay1_apply (r l : Fin 1024) : (k0_pay1 (F := Ideal) (ix3 0 r l) : EReal) = 0 := by
  pointwise [k0_pay1]

theorem pay3_eq (x : Vec Ideal S1x1024x1024 .f32) (r l : Fin 1024) :
    (k0_pay3 (F := Ideal) x (ix3 0 r l) : EReal) = x (ix3 0 r l) := by
  pointwise [k0_pay3]

/-- The two operands as the program is given them. -/
abbrev A0 (c : Dev nD) : S16384x4096.Idx → EReal := M ((c : Thread nD τ).loc main_arg0)
abbrev A (c : Dev nD) : S16384x4096.Idx → EReal := fun i => max (A0 M c i) 0 * max (A0 M c i) 0
abbrev B (c : Dev nD) : S16384x1024.Idx → EReal := M ((c : Thread nD τ).loc main_arg1)

theorem V_v0 (c : Dev nD) (i : S16384x4096.Idx) : V M c main_v2 i = A M c i := by
  show StableHlo.after (hostOps0 ++ hostOps0_1) (fun b => M (c, b)) main_v2 i = _
  after_reads_simp
  refine Eq.trans (b := mulf (F := Ideal) (φ := .f32) (maximumf (F := Ideal) (φ := .f32) (A0 M c) (broadcastInDim S16384x4096 ![] bcast_S_S16384x4096 (constant S_ .f32 0x00000000#32)))
    (maximumf (F := Ideal) (φ := .f32) (A0 M c) (broadcastInDim S16384x4096 ![] bcast_S_S16384x4096 (constant S_ .f32 0x00000000#32))) i) rfl ?_
  pointwise

theorem V_v1 (c : Dev nD) (i : S16384x1024.Idx) : V M c main_v3 i = B M c i := by
  show StableHlo.after (hostOps0 ++ hostOps0_1) (fun b => M (c, b)) main_v3 i = _
  after_reads_simp
  rfl

theorem idx0 : ∀ t : Fin cfg0.N, win0_0.index t 0 = t.val % 4 ∧ win0_0.index t 1 = t.val / 4 := by decide +kernel
theorem idx1 : ∀ t : Fin cfg0.N, win0_1.index t 0 = t.val % 4 ∧ win0_1.index t 1 = 0 := by decide +kernel
theorem idx2 : ∀ t : Fin cfg0.N, win0_2.index t 0 = t.val / 4 ∧ win0_2.index t 1 = 0 ∧ win0_2.index t 2 = 0 := by decide +kernel
theorem idx3 : ∀ t : Fin cfg0.N, win0_3.index t 0 = t.val / 4 ∧ win0_3.index t 1 = 0 ∧ win0_3.index t 2 = 0 := by decide +kernel

/-- The first operand's tile at point `t` is rows `4096 (t % 4) …` and columns `1024 (t / 4) …` of the array. -/
theorem iblk0 (c : Dev nD) (t : Fin cfg0.N) (k : Fin 4096) (r : Fin 1024) :
    (iblk M c 0 t (ix2 k r) : EReal) = at2 (A M c) (4096 * (t.val % 4) + k.val) (1024 * (t.val / 4) + r.val) := by
  have hk := k.isLt
  have hr := r.isLt
  have ht : t.val < 16 := lt_of_lt_of_eq t.isLt N_0
  rw [at2_of _ (by omega) (by omega)]
  unfold iblk
  rw [View.read_apply]
  refine (V_v0 M c _).trans (congrArg (A M c) (funext fun a => Fin.ext ?_))
  match a with
  | ⟨0, _⟩ => show win0_0.index t 0 * 4096 + 1 * k.val = 4096 * (t.val % 4) + k.val; rw [(idx0 t).1]; omega
  | ⟨1, _⟩ => show win0_0.index t 1 * 1024 + 1 * r.val = 1024 * (t.val / 4) + r.val; rw [(idx0 t).2]; omega

/-- The second's is those rows. -/
theorem iblk1 (c : Dev nD) (t : Fin cfg0.N) (k : Fin 4096) (r : Fin 1024) :
    (iblk M c 1 t (ix2 k r) : EReal) = at2 (B M c) (4096 * (t.val % 4) + k.val) r.val := by
  have hk := k.isLt
  rw [at2_of _ (by omega) r.isLt]
  unfold iblk
  rw [View.read_apply]
  refine (V_v1 M c _).trans (congrArg (B M c) (funext fun a => Fin.ext ?_))
  match a with
  | ⟨0, _⟩ => show win0_1.index t 0 * 4096 + 1 * k.val = 4096 * (t.val % 4) + k.val; rw [(idx1 t).1]; omega
  | ⟨1, _⟩ => show win0_1.index t 1 * 1024 + 1 * r.val = r.val; rw [(idx1 t).2]; omega

/-- One row's product in the gradient's element `(n, r, l)`. -/
def term (c : Dev nD) (n r l s : ℕ) : EReal := at2 (A M c) s (1024 * n + r) * at2 (B M c) s l

theorem tile (c : Dev nD) (t : Fin cfg0.N) (r l : Fin 1024) :
    ∑ k : Fin 4096, @HMul.hMul EReal EReal EReal _ (iblk M c 0 t (ix2 k r)) (iblk M c 1 t (ix2 k l))
      = ∑ k ∈ Finset.range 4096, term M c (t.val / 4) r l (4096 * (t.val % 4) + k) := by
  rw [Finset.sum_range]
  exact Finset.sum_congr rfl fun k _ => by rw [term, iblk0, iblk1]

/-- After point `n` the block holds the sum over the row tiles so far. -/
theorem acc_eq (c : Dev nD) (r l : Fin 1024) : ∀ (n : ℕ) (h : n < cfg0.N),
    ((outsAt0 M c n h).1 (ix3 0 r l) : EReal)
      = ∑ k ∈ Finset.range (n % 4 + 1), ∑ s ∈ Finset.range 4096, term M c (n / 4) r l (4096 * k + s)
  | 0, h => by
    rw [outsAt0_A M c ⟨0, h⟩ rfl (by dsimp only; omega)]
    dsimp only
    rw [out_A, pay2_apply, pay1_apply, zero_add, tile, Finset.sum_range_one]; rfl
  | n + 1, h => by
    have hN : n + 1 < 16 := lt_of_lt_of_eq h N_0
    by_cases h0 : (n + 1) % 4 = 0
    · rw [outsAt0_A M c ⟨n + 1, h⟩ h0 (by dsimp only; omega)]
      dsimp only
      rw [out_A, pay2_apply, pay1_apply, zero_add, tile, h0, Finset.sum_range_one]
    · have e1 : (n + 1) % 4 = n % 4 + 1 := by omega
      have e2 : (n + 1) / 4 = n / 4 := by omega
      have step : (outsAt0 M c (n + 1) h).1 = k0_pay2 (iblk M c 0 ⟨n + 1, h⟩) (outsAt0 M c n (Nat.lt_of_succ_lt h)).1 (iblk M c 1 ⟨n + 1, h⟩) := by
        by_cases h3 : (n + 1) % 4 = 3
        · rw [outsAt0_C M c ⟨n + 1, h⟩ h0 h3]; dsimp only; rw [out_C]; rfl
        · rw [outsAt0_B M c ⟨n + 1, h⟩ h0 h3]; dsimp only; rw [out_B]; rfl
      rw [step, pay2_apply, tile, acc_eq c r l n, e1, e2, Finset.sum_range_succ _ (n % 4 + 1)]

/-- The gradient: element `(n, r, l)` is the product of column `1024 n + r` of the first operand with column `l` of the second. -/
@[irreducible] def gradAt (c : Dev nD) (n r l : ℕ) : EReal := ∑ s ∈ Finset.range 16384, term M c n r l s

def grad (c : Dev nD) : S4x1024x1024.Idx → EReal := fun i => gradAt M c (i 0).val (i 1).val (i 2).val

theorem grad_of (c : Dev nD) (i : S4x1024x1024.Idx) (n r l : ℕ) (h0 : (i 0 : ℕ) = n) (h1 : (i 1 : ℕ) = r) (h2 : (i 2 : ℕ) = l) :
    gradAt M c n r l = grad M c i := by
  subst h0 h1 h2; rfl

theorem acc_last (c : Dev nD) (t : Fin cfg0.N) (h3 : t.val % 4 = 3) (r l : Fin 1024) :
    ((outsAt0 M c t.val t.isLt).1 (ix3 0 r l) : EReal) = gradAt M c (t.val / 4) r l := by
  have e := sum_range_blocks 4096 (term M c (t.val / 4) r l) 4
  rw [show 4096 * 4 = 16384 by norm_num] at e
  rw [acc_eq, h3]
  unfold gradAt
  exact e

theorem out3_eq (c : Dev nD) (t : Fin cfg0.N) (h3 : t.val % 4 = 3) (r l : Fin 1024) :
    ((outsAt0 M c t.val t.isLt).2 (ix3 0 r l) : EReal) = (outsAt0 M c t.val t.isLt).1 (ix3 0 r l) := by
  rw [outsAt0_C M c t (by omega) h3]
  dsimp only
  rw [out_C, out_C', pay3_eq]

theorem flush2 : ∀ t : Fin cfg0.N, (cfg0.win 2).flush t = true → t.val % 4 = 3 := by decide +kernel
theorem flush3 : ∀ t : Fin cfg0.N, (cfg0.win 3).flush t = true → t.val % 4 = 3 := by decide +kernel
theorem last2 : ∀ n : Fin 4, ∃ t : Fin cfg0.N, (cfg0.win 2).flush t = true ∧ t.val / 4 = n.val := by decide +kernel
theorem last3 : ∀ n : Fin 4, ∃ t : Fin cfg0.N, (cfg0.win 3).flush t = true ∧ t.val / 4 = n.val := by decide +kernel

theorem final2 (c : Dev nD) : (dats M 0 c).arrAt 2 cfg0.N = grad M c := by
  refine (dats M 0 c).arrAt_eq_of_cover 2 (grad M c) (fun t hf => ?_) (fun i => ?_)
  · rw [Value.flushed2]
    have h3 := flush2 t hf
    funext y
    obtain ⟨z, r, l, rfl⟩ : ∃ (z : Fin 1) (r l : Fin 1024), y = ix3 z r l := ⟨y 0, y 1, y 2, eq_ix3 y⟩
    obtain rfl : z = 0 := Subsingleton.elim _ _
    rw [View.read_apply]
    refine (acc_last M c t h3 r l).trans ?_
    have e0 : ((((cfg0.win 2).blk t).view.emb (ix3 (0 : Fin 1) r l)) 0 : ℕ) = t.val / 4 := by
      show win0_2.index t 0 * 1 + 1 * 0 = _; rw [(idx2 t).1]; omega
    have e1 : ((((cfg0.win 2).blk t).view.emb (ix3 (0 : Fin 1) r l)) 1 : ℕ) = r.val := by
      show win0_2.index t 1 * 1024 + 1 * r.val = _; rw [(idx2 t).2.1]; omega
    have e2 : ((((cfg0.win 2).blk t).view.emb (ix3 (0 : Fin 1) r l)) 2 : ℕ) = l.val := by
      show win0_2.index t 2 * 1024 + 1 * l.val = _; rw [(idx2 t).2.2]; omega
    exact grad_of M c _ _ _ _ e0 e1 e2
  · obtain ⟨t, hf, ht⟩ := last2 (i 0)
    refine ⟨t, hf, ?_⟩
    show i ∈ ((View.whole main_v4_0).slice (win0_2.rect t)).set
    rw [View.set_slice_whole, Rect.mem_set_unit]
    intro a
    have h0 : (i 0 : Nat) < 4 := (i 0).isLt
    have h1 : (i 1 : Nat) < 1024 := (i 1).isLt
    have h2 : (i 2 : Nat) < 1024 := (i 2).isLt
    match a with
    | ⟨0, _⟩ => show win0_2.index t 0 * 1 ≤ (i 0 : Nat) ∧ (i 0 : Nat) < win0_2.index t 0 * 1 + 1; rw [(idx2 t).1, ht]; omega
    | ⟨1, _⟩ => show win0_2.index t 1 * 1024 ≤ (i 1 : Nat) ∧ (i 1 : Nat) < win0_2.index t 1 * 1024 + 1024; rw [(idx2 t).2.1]; omega
    | ⟨2, _⟩ => show win0_2.index t 2 * 1024 ≤ (i 2 : Nat) ∧ (i 2 : Nat) < win0_2.index t 2 * 1024 + 1024; rw [(idx2 t).2.2]; omega

theorem final3 (c : Dev nD) : (dats M 0 c).arrAt 3 cfg0.N = grad M c := by
  refine (dats M 0 c).arrAt_eq_of_cover 3 (grad M c) (fun t hf => ?_) (fun i => ?_)
  · rw [Value.flushed3]
    have h3 := flush3 t hf
    funext y
    obtain ⟨z, r, l, rfl⟩ : ∃ (z : Fin 1) (r l : Fin 1024), y = ix3 z r l := ⟨y 0, y 1, y 2, eq_ix3 y⟩
    obtain rfl : z = 0 := Subsingleton.elim _ _
    rw [View.read_apply]
    refine ((out3_eq M c t h3 r l).trans (acc_last M c t h3 r l)).trans ?_
    have e0 : ((((cfg0.win 3).blk t).view.emb (ix3 (0 : Fin 1) r l)) 0 : ℕ) = t.val / 4 := by
      show win0_3.index t 0 * 1 + 1 * 0 = _; rw [(idx3 t).1]; omega
    have e1 : ((((cfg0.win 3).blk t).view.emb (ix3 (0 : Fin 1) r l)) 1 : ℕ) = r.val := by
      show win0_3.index t 1 * 1024 + 1 * r.val = _; rw [(idx3 t).2.1]; omega
    have e2 : ((((cfg0.win 3).blk t).view.emb (ix3 (0 : Fin 1) r l)) 2 : ℕ) = l.val := by
      show win0_3.index t 2 * 1024 + 1 * l.val = _; rw [(idx3 t).2.2]; omega
    exact grad_of M c _ _ _ _ e0 e1 e2
  · obtain ⟨t, hf, ht⟩ := last3 (i 0)
    refine ⟨t, hf, ?_⟩
    show i ∈ ((View.whole main_v4_1).slice (win0_3.rect t)).set
    rw [View.set_slice_whole, Rect.mem_set_unit]
    intro a
    have h0 : (i 0 : Nat) < 4 := (i 0).isLt
    have h1 : (i 1 : Nat) < 1024 := (i 1).isLt
    have h2 : (i 2 : Nat) < 1024 := (i 2).isLt
    match a with
    | ⟨0, _⟩ => show win0_3.index t 0 * 1 ≤ (i 0 : Nat) ∧ (i 0 : Nat) < win0_3.index t 0 * 1 + 1; rw [(idx3 t).1, ht]; omega
    | ⟨1, _⟩ => show win0_3.index t 1 * 1024 ≤ (i 1 : Nat) ∧ (i 1 : Nat) < win0_3.index t 1 * 1024 + 1024; rw [(idx3 t).2.1]; omega
    | ⟨2, _⟩ => show win0_3.index t 2 * 1024 ≤ (i 2 : Nat) ∧ (i 2 : Nat) < win0_3.index t 2 * 1024 + 1024; rw [(idx3 t).2.2]; omega

end Cert.KernelWgradOutIdeal.Own

end
-- ==== Proof.WgradOutClaim.lean ====
/- The weight gradient of the MLP's second matrix: kernel and reference agree. -/
module

public import proofs.«01_k».proof.Proof.WgradOut
public import proofs.«01_k».proof.Proof.Gen.ReferenceWgradOutIdeal.Run
public import proofs.«01_k».proof.Defs

@[expose] public section

set_option maxRecDepth 16384

noncomputable section

namespace Cert.Own.WgradOut

open Idealize.ShloMosaic Idealize.ShloMosaic.TcCoe Idealize.SL.Sem Cert.Own
open Cert.ReferenceWgradOutIdeal Cert.ReferenceWgradOutIdeal.Gen

/-- The reference's product, split in four row blocks: the gradient at an element. -/
theorem ref_apply (x : Vec Ideal S16384x4096 .f32) (y : Vec Ideal S16384x1024 .f32) (n : Fin 4) (r l : Fin 1024) :
    ((shapeCast S4x1024x1024 (transpose S4096x1024 [1, 0] (Host.dotGeneral (F := Ideal) (φ₁ := .f32) (φ₂ := .f32) dot_S16384x1024_S16384x4096_S1024x4096_0_0_1_1_n_n none (y) (mulf (maximumf (x) (broadcastInDim S16384x4096 ![] bcast_S_S16384x4096 (constant S_ .f32 0x00000000#32))) (maximumf (x) (broadcastInDim S16384x4096 ![] bcast_S_S16384x4096 (constant S_ .f32 0x00000000#32))))) transposes_S1024x4096_S4096x1024_1_0) shapeCasts_S4096x1024_S4x1024x1024) (ix3 n r l) : EReal)
      = ∑ s ∈ Finset.range 16384, at2 (fun i => max (x i : EReal) 0 * max (x i : EReal) 0) s (1024 * n.val + r.val) * at2 y s l.val := by
  have hr := r.isLt
  have hn := n.isLt
  rw [Finset.sum_range]
  pointwise
  refine Finset.sum_congr rfl fun k _ => ?_
  rw [at2_of _ k.isLt (by omega), at2_of y k.isLt l.isLt, mul_comm]
  have e : 1024 * n.val + r.val = n.val * 1024 + r.val := by omega
  simp only [e]

theorem algebraic : Cert.algebraic_KernelWgradOutIdeal_ReferenceWgradOutIdeal := by
  intro m g m' g' _ hargs
  have key : ∀ c : Dev Cert.KernelWgradOutIdeal.nD, (Cert.KernelWgradOutIdeal.Own.grad m c : S4x1024x1024.Idx → EReal)
      = shapeCast S4x1024x1024 (transpose S4096x1024 [1, 0] (Host.dotGeneral (F := Ideal) (φ₁ := .f32) (φ₂ := .f32) dot_S16384x1024_S16384x4096_S1024x4096_0_0_1_1_n_n none (m' ((c.tc : Thread nD τ).loc main_arg1)) (mulf (maximumf (m' ((c.tc : Thread nD τ).loc main_arg0)) (broadcastInDim S16384x4096 ![] bcast_S_S16384x4096 (constant S_ .f32 0x00000000#32))) (maximumf (m' ((c.tc : Thread nD τ).loc main_arg0)) (broadcastInDim S16384x4096 ![] bcast_S_S16384x4096 (constant S_ .f32 0x00000000#32))))) transposes_S1024x4096_S4096x1024_1_0) shapeCasts_S4096x1024_S4x1024x1024 := by
    intro c
    funext i
    obtain ⟨n, r, l, rfl⟩ : ∃ (n : Fin 4) (r l : Fin 1024), i = ix3 n r l := ⟨i 0, i 1, i 2, eq_ix3 i⟩
    refine Eq.trans ?_ (ref_apply _ _ n r l).symm
    rw [(hargs c).1, (hargs c).2]
    unfold Cert.KernelWgradOutIdeal.Own.grad Cert.KernelWgradOutIdeal.Own.gradAt
    rfl
  refine ⟨fun c => Cert.KernelWgradOutIdeal.Own.grad m c, fun c => Cert.KernelWgradOutIdeal.Own.grad m c, ?_, ?_⟩
  · exact (θ_run _ _ _).mono (fun r h c => ⟨(h c).1.trans (Cert.KernelWgradOutIdeal.Own.final2 m c),
      (h c).2.1.trans (Cert.KernelWgradOutIdeal.Own.final3 m c), (h c).2.2⟩) (Cert.KernelWgradOutIdeal.Value.run_blocks m g)
  · exact (θ_run _ _ _).mono (fun r h c => ⟨(h c).1.trans (key c).symm, (h c).2.1.trans (key c).symm, (h c).2.2⟩)
      (Cert.ReferenceWgradOutIdeal.Value.run m' g')

end Cert.Own.WgradOut

end
-- ==== Proof.WgradAtt.lean ====
/- The weight gradient of the attention's output matrix: what the kernel leaves in its two result arrays. -/
module

public import proofs.«01_k».proof.Proof.Gen.KernelWgradAttIdeal.Value
public import proofs.«01_k».proof.Proof.Common
public import Idealize.ShloMosaic.Lib.Pipeline.Value
public import Idealize.ShloMosaic.Lib.Pipeline.ReadBack
public import Idealize.ShloMosaic.Lib.Pointwise
public import Idealize.ShloMosaic.Lib.Tactic
public import Idealize.ShloMosaic.PureOps.Ideal

@[expose] public section

noncomputable section

namespace Cert.KernelWgradAttIdeal.Own

open Cert.KernelWgradAttIdeal Cert.KernelWgradAttIdeal.Gen Idealize.ShloMosaic Idealize.ShloMosaic.TcCoe Idealize.SL.Sem
open Idealize.ShloMosaic.Pipeline (Dat)

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

section
variable (x0 : Vec F S4096x256 .bf16) (x1 : Vec F S4096x1024 .bf16) (xo : Vec F S4x256x256 .f32)

/-! The four chunks of the accumulator, and the four column chunks of the second operand. -/

def z0 : Vec F S1x256x256 .f32 := View.ld xo (Rect.unit ![0, 0, 0] ![1, 256, 256] inb_S4x256x256_S1x256x256_0_0_0)
def b0 : Vec F S4096x256 .bf16 := View.ld x1 (Rect.unit ![0, 0] ![4096, 256] inb_S4096x1024_S4096x256_0_0)
def z1 : Vec F S1x256x256 .f32 := View.ld xo (Rect.unit ![1, 0, 0] ![1, 256, 256] inb_S4x256x256_S1x256x256_1_0_0)
def b1 : Vec F S4096x256 .bf16 := View.ld x1 (Rect.unit ![0, 256] ![4096, 256] inb_S4096x1024_S4096x256_0_256)
def z2 : Vec F S1x256x256 .f32 := View.ld xo (Rect.unit ![2, 0, 0] ![1, 256, 256] inb_S4x256x256_S1x256x256_2_0_0)
def b2 : Vec F S4096x256 .bf16 := View.ld x1 (Rect.unit ![0, 512] ![4096, 256] inb_S4096x1024_S4096x256_0_512)
def z3 : Vec F S1x256x256 .f32 := View.ld xo (Rect.unit ![3, 0, 0] ![1, 256, 256] inb_S4x256x256_S1x256x256_3_0_0)
def b3 : Vec F S4096x256 .bf16 := View.ld x1 (Rect.unit ![0, 768] ![4096, 256] inb_S4096x1024_S4096x256_0_768)

/-- What a tile stores: each chunk with the product of the tile's rows added. -/
def pieces : List (View.Piece (Elt F) S4x256x256 .f32) :=
  [⟨Rect.unit ![3, 0, 0] ![1, 256, 256] inb_S4x256x256_S1x256x256_3_0_0, k0_pay2 (k0_pay5 x0) (z3 xo) (b3 x1)⟩,
    ⟨Rect.unit ![2, 0, 0] ![1, 256, 256] inb_S4x256x256_S1x256x256_2_0_0, k0_pay1 (k0_pay8 (z2 xo)) (k0_pay9 x0 (b2 x1))⟩,
    ⟨Rect.unit ![1, 0, 0] ![1, 256, 256] inb_S4x256x256_S1x256x256_1_0_0, k0_pay7 x0 (z1 xo) (b1 x1)⟩,
    ⟨Rect.unit ![0, 0, 0] ![1, 256, 256] inb_S4x256x256_S1x256x256_0_0_0, k0_pay6 x0 (z0 xo) (b0 x1)⟩]

variable (c : Dev nD) (i : grid0.Coords) (a1 : Memref sig .tc .vmem S4096x256 .bf16) (h1 : a1.IsWhole) (a2 : Memref sig .tc .vmem S4096x1024 .bf16) (h2 : a2.IsWhole)
  (a3 : Memref sig .tc .vmem S4x256x256 .f32) (h3 : a3.IsWhole) (a4 : Memref sig .tc .vmem S4x256x256 .bf16) (h4 : a4.IsWhole)

/-- A load of the whole block. -/
theorem ld_whole (X : Vec F S4x256x256 .f32) :
    (fun j => X ((Rect.unit ![0, 0, 0] ![4, 256, 256] inb_S4x256x256_S4x256x256_0_0_0).idx j)) = X :=
  View.ld_unit_zero (S := S4x256x256) hz3 inb_S4x256x256_S4x256x256_0_0_0 X

/-- At the first tile the chunks are added onto zero. -/
theorem out_A (hc0 : cond0_0 i) (hc1 : ¬cond0_1 i) : out0_A_2 c i a1 h1 a2 h2 a3 h3 a4 h4 hc0 hc1 x0 x1
    = View.canon (pieces x0 x1 k0_pay4 ++ [⟨Rect.unit ![0, 0, 0] ![4, 256, 256] inb_S4x256x256_S4x256x256_0_0_0, k0_pay4⟩]) := by
  unfold out0_A_2
  rw [View.read_writes_eq_canon _ _ _ (cover0_A_2 c i a1 h1 a2 h2 a3 h3 a4 h4 hc0 hc1 x0 x1)]
  unfold kernelRun0_A
  dsimp only
  sl_unfold_words
  simp (disch := decide) only [↓ View.readCov_skip, ↓ View.readCov_cons_toLoadRect, ↓ View.readCov_fill]
  simp only [View.readAt_eq_ld, h1.read_unread, h2.read_unread, h3.read_unread, View.ld_unit_zero (S := S4096x256) hz2, View.ld_unit_zero (S := S4x256x256) hz3]
  rfl

/-- At the middle tiles onto what was there, -/
theorem out_B (hc0 : ¬cond0_0 i) (hc1 : ¬cond0_1 i) : out0_B_2 c i a1 h1 a2 h2 a3 h3 a4 h4 hc0 hc1 x0 x1 xo = View.canon (pieces x0 x1 xo ++ []) := by
  unfold out0_B_2
  rw [View.read_writes_eq_canon _ _ _ (cover0_B_2 c i a1 h1 a2 h2 a3 h3 a4 h4 hc0 hc1 x0 x1 xo)]
  unfold kernelRun0_B
  dsimp only
  sl_unfold_words
  simp (disch := decide) only [↓ View.readCov_skip, ↓ View.readCov_cons_toLoadRect, ↓ View.readCov_fill]
  simp only [View.readAt_eq_ld, h1.read_unread, h2.read_unread, h3.read_unread, View.ld_unit_zero (S := S4096x256) hz2, View.ld_unit_zero (S := S4x256x256) hz3]
  rfl

/-- at the last tile too, -/
theorem out_C (hc0 : ¬cond0_0 i) (hc1 : cond0_1 i) : out0_C_2 c i a1 h1 a2 h2 a3 h3 a4 h4 hc0 hc1 x0 x1 xo = View.canon (pieces x0 x1 xo ++ []) := by
  unfold out0_C_2
  rw [View.read_writes_eq_canon _ _ _ (cover0_C_2 c i a1 h1 a2 h2 a3 h3 a4 h4 hc0 hc1 x0 x1 xo)]
  unfold kernelRun0_C
  dsimp only
  sl_unfold_words
  simp (disch := decide) only [↓ View.readCov_skip, ↓ View.readCov_cons_toLoadRect, ↓ View.readCov_fill]
  simp only [View.readAt_eq_ld, h1.read_unread, h2.read_unread, h3.read_unread, View.ld_unit_zero (S := S4096x256) hz2, View.ld_unit_zero (S := S4x256x256) hz3]
  rfl

/-- and the second result is the first, rounded. -/
theorem out_C' (hc0 : ¬cond0_0 i) (hc1 : cond0_1 i) :
    out0_C_3 c i a1 h1 a2 h2 a3 h3 a4 h4 hc0 hc1 x0 x1 xo = k0_pay3 (View.canon (pieces x0 x1 xo ++ [])) := by
  unfold out0_C_3
  rw [View.read_writes_eq_canon _ _ _ (cover0_C_3 c i a1 h1 a2 h2 a3 h3 a4 h4 hc0 hc1 x0 x1 xo)]
  unfold kernelRun0_C
  dsimp only
  sl_unfold_words
  rw [View.canon_unit_zero (S := S4x256x256) hz3, View.readCov_eq_canon']
  refine (congrArg k0_pay3 (ld_whole _)).trans ?_
  simp (disch := decide) only [↓ View.readCov_skip, ↓ View.readCov_cons_toLoadRect, ↓ View.readCov_fill]
  simp only [View.readAt_eq_ld, h1.read_unread, h2.read_unread, h3.read_unread, View.ld_unit_zero (S := S4096x256) hz2, View.ld_unit_zero (S := S4x256x256) hz3]
  rfl

end

/-! ## Over the extended reals -/

open Cert.Own

/-- What a tile adds, at an element. -/
def acc (x0 : Vec Ideal S4096x256 .bf16) (x1 : Vec Ideal S4096x1024 .bf16) (xo : Vec Ideal S4x256x256 .f32) : S4x256x256.Idx → EReal := fun i =>
  (xo i : EReal) + ∑ k : Fin 4096, (x0 (ix2 k (i 1)) : EReal) * (x1 (ix2 k ⟨256 * (i 0).val + (i 2).val, by
    have h0 : (i 0 : ℕ) < 4 := (i 0).isLt
    have h2 : (i 2 : ℕ) < 256 := (i 2).isLt
    omega⟩) : EReal)

theorem piece0 (x0 : Vec Ideal S4096x256 .bf16) (x1 : Vec Ideal S4096x1024 .bf16) (xo : Vec Ideal S4x256x256 .f32) (r : Fin 256) (l : Fin 256) :
    (k0_pay6 x0 (z0 xo) (b0 x1) (ix3 0 r l) : EReal) = acc x0 x1 xo (ix3 0 r l) := by
  unfold acc
  pointwise [k0_pay6, z0, b0, k0_pay5]

theorem piece1 (x0 : Vec Ideal S4096x256 .bf16) (x1 : Vec Ideal S4096x1024 .bf16) (xo : Vec Ideal S4x256x256 .f32) (r : Fin 256) (l : Fin 256) :
    (k0_pay7 x0 (z1 xo) (b1 x1) (ix3 0 r l) : EReal) = acc x0 x1 xo (ix3 1 r l) := by
  unfold acc
  pointwise [k0_pay7, z1, b1, k0_pay5]

theorem piece2 (x0 : Vec Ideal S4096x256 .bf16) (x1 : Vec Ideal S4096x1024 .bf16) (xo : Vec Ideal S4x256x256 .f32) (r : Fin 256) (l : Fin 256) :
    (k0_pay1 (k0_pay8 (z2 xo)) (k0_pay9 x0 (b2 x1)) (ix3 0 r l) : EReal) = acc x0 x1 xo (ix3 2 r l) := by
  unfold acc
  pointwise [k0_pay1, k0_pay8, k0_pay9, z2, b2, k0_pay5]

theorem piece3 (x0 : Vec Ideal S4096x256 .bf16) (x1 : Vec Ideal S4096x1024 .bf16) (xo : Vec Ideal S4x256x256 .f32) (r : Fin 256) (l : Fin 256) :
    (k0_pay2 (k0_pay5 x0) (z3 xo) (b3 x1) (ix3 0 r l) : EReal) = acc x0 x1 xo (ix3 3 r l) := by
  unfold acc
  pointwise [k0_pay2, k0_pay5, z3, b3]

theorem canon_eq (x0 : Vec Ideal S4096x256 .bf16) (x1 : Vec Ideal S4096x1024 .bf16) (xo : Vec Ideal S4x256x256 .f32)
    (L : List (View.Piece (Elt Ideal) S4x256x256 .f32)) (n : Fin 4) (r : Fin 256) (l : Fin 256) :
    View.canon (pieces x0 x1 xo ++ L) (ix3 n r l) = acc x0 x1 xo (ix3 n r l) := by
  refine View.canon_append_of_piecesOf (Val := Elt Ideal) (e := .f32) (acc x0 x1 xo) _ _ ?_ _ ?_
  · refine ⟨?_, ?_, ?_, ?_, trivial⟩
    all_goals
      intro x
      obtain ⟨z, r, l, rfl⟩ : ∃ (z : Fin 1) (r : Fin 256) (l : Fin 256), x = ix3 z r l := ⟨x 0, x 1, x 2, eq_ix3 x⟩
      obtain rfl : z = 0 := Subsingleton.elim _ _
    · exact (piece3 x0 x1 xo r l).trans (congrArg _ (funext fun a => Fin.ext (by match a with | ⟨0, _⟩ => rfl | ⟨1, _⟩ => show r.val = 0 + 1 * r.val; omega | ⟨2, _⟩ => show l.val = 0 + 1 * l.val; omega)))
    · exact (piece2 x0 x1 xo r l).trans (congrArg _ (funext fun a => Fin.ext (by match a with | ⟨0, _⟩ => rfl | ⟨1, _⟩ => show r.val = 0 + 1 * r.val; omega | ⟨2, _⟩ => show l.val = 0 + 1 * l.val; omega)))
    · exact (piece1 x0 x1 xo r l).trans (congrArg _ (funext fun a => Fin.ext (by match a with | ⟨0, _⟩ => rfl | ⟨1, _⟩ => show r.val = 0 + 1 * r.val; omega | ⟨2, _⟩ => show l.val = 0 + 1 * l.val; omega)))
    · exact (piece0 x0 x1 xo r l).trans (congrArg _ (funext fun a => Fin.ext (by match a with | ⟨0, _⟩ => rfl | ⟨1, _⟩ => show r.val = 0 + 1 * r.val; omega | ⟨2, _⟩ => show l.val = 0 + 1 * l.val; omega)))
  · match n with
    | ⟨0, _⟩ => refine ⟨_, .tail _ (.tail _ (.tail _ (.head _))), ?_⟩; rw [Rect.mem_set_unit]; intro a; match a with | ⟨0, _⟩ => exact ⟨le_refl _, Nat.lt_succ_self _⟩ | ⟨1, _⟩ => exact ⟨Nat.zero_le _, by simpa using r.isLt⟩ | ⟨2, _⟩ => exact ⟨Nat.zero_le _, by simpa using l.isLt⟩
    | ⟨1, _⟩ => refine ⟨_, .tail _ (.tail _ (.head _)), ?_⟩; rw [Rect.mem_set_unit]; intro a; match a with | ⟨0, _⟩ => exact ⟨le_refl _, Nat.lt_succ_self _⟩ | ⟨1, _⟩ => exact ⟨Nat.zero_le _, by simpa using r.isLt⟩ | ⟨2, _⟩ => exact ⟨Nat.zero_le _, by simpa using l.isLt⟩
    | ⟨2, _⟩ => refine ⟨_, .tail _ (.head _), ?_⟩; rw [Rect.mem_set_unit]; intro a; match a with | ⟨0, _⟩ => exact ⟨le_refl _, Nat.lt_succ_self _⟩ | ⟨1, _⟩ => exact ⟨Nat.zero_le _, by simpa using r.isLt⟩ | ⟨2, _⟩ => exact ⟨Nat.zero_le _, by simpa using l.isLt⟩
    | ⟨3, _⟩ => refine ⟨_, .head _, ?_⟩; rw [Rect.mem_set_unit]; intro a; match a with | ⟨0, _⟩ => exact ⟨le_refl _, Nat.lt_succ_self _⟩ | ⟨1, _⟩ => exact ⟨Nat.zero_le _, by simpa using r.isLt⟩ | ⟨2, _⟩ => exact ⟨Nat.zero_le _, by simpa using l.isLt⟩

variable (M : (ℓ : Loc nD τ sig) → Buf (Elt Ideal) ℓ)

theorem pay4_apply (i : S4x256x256.Idx) : (k0_pay4 (F := Ideal) i : EReal) = 0 := by
  pointwise [k0_pay4]

theorem pay3_eq (x : Vec Ideal S4x256x256 .f32) (i : S4x256x256.Idx) : (k0_pay3 (F := Ideal) x i : EReal) = x i := by
  pointwise [k0_pay3]

/-- The two operands as the program is given them. -/
abbrev A (c : Dev nD) : S16384x256.Idx → EReal := M ((c : Thread nD τ).loc main_arg0)
abbrev B (c : Dev nD) : S16384x1024.Idx → EReal := M ((c : Thread nD τ).loc main_arg1)

theorem V_v0 (c : Dev nD) (i : S16384x256.Idx) : (V M c main_v0 i : EReal) = A M c i := by
  show StableHlo.after hostOps0 (fun b => M (c, b)) main_v0 i = _
  after_results <;> rfl

theorem V_v1 (c : Dev nD) (i : S16384x1024.Idx) : (V M c main_v1 i : EReal) = B M c i := by
  show StableHlo.after hostOps0 (fun b => M (c, b)) main_v1 i = _
  after_results <;> rfl

theorem idx0 : ∀ t : Fin cfg0.N, win0_0.index t 0 = t.val ∧ win0_0.index t 1 = 0 := by decide +kernel
theorem idx1 : ∀ t : Fin cfg0.N, win0_1.index t 0 = t.val ∧ win0_1.index t 1 = 0 := by decide +kernel
theorem idx2 : ∀ t : Fin cfg0.N, win0_2.index t 0 = 0 ∧ win0_2.index t 1 = 0 ∧ win0_2.index t 2 = 0 := by decide +kernel
theorem idx3 : ∀ t : Fin cfg0.N, win0_3.index t 0 = 0 ∧ win0_3.index t 1 = 0 ∧ win0_3.index t 2 = 0 := by decide +kernel

/-- An operand's tile at point `t` is rows `4096 t …` of the array. -/
theorem iblk0 (c : Dev nD) (t : Fin cfg0.N) (k : Fin 4096) (r : Fin 256) :
    (iblk M c 0 t (ix2 k r) : EReal) = at2 (A M c) (4096 * t.val + k.val) r.val := by
  have hk := k.isLt
  have ht : t.val < 4 := lt_of_lt_of_eq t.isLt N_0
  rw [at2_of _ (by omega) r.isLt]
  unfold iblk
  rw [View.read_apply]
  refine (V_v0 M c _).trans (congrArg (A M c) (funext fun a => Fin.ext ?_))
  match a with
  | ⟨0, _⟩ => show win0_0.index t 0 * 4096 + 1 * k.val = 4096 * t.val + k.val; rw [(idx0 t).1]; omega
  | ⟨1, _⟩ => show win0_0.index t 1 * 256 + 1 * r.val = r.val; rw [(idx0 t).2]; omega

theorem iblk1 (c : Dev nD) (t : Fin cfg0.N) (k : Fin 4096) (r : Fin 1024) :
    (iblk M c 1 t (ix2 k r) : EReal) = at2 (B M c) (4096 * t.val + k.val) r.val := by
  have hk := k.isLt
  have ht : t.val < 4 := lt_of_lt_of_eq t.isLt N_0
  rw [at2_of _ (by omega) r.isLt]
  unfold iblk
  rw [View.read_apply]
  refine (V_v1 M c _).trans (congrArg (B M c) (funext fun a => Fin.ext ?_))
  match a with
  | ⟨0, _⟩ => show win0_1.index t 0 * 4096 + 1 * k.val = 4096 * t.val + k.val; rw [(idx1 t).1]; omega
  | ⟨1, _⟩ => show win0_1.index t 1 * 1024 + 1 * r.val = r.val; rw [(idx1 t).2]; omega

/-- One row's product in the gradient's element `(n, r, l)`. -/
def term (c : Dev nD) (n r l s : ℕ) : EReal := at2 (A M c) s r * at2 (B M c) s (256 * n + l)

theorem tile (c : Dev nD) (t : Fin cfg0.N) (xo : Vec Ideal S4x256x256 .f32) (n : Fin 4) (r : Fin 256) (l : Fin 256) :
    acc (iblk M c 0 t) (iblk M c 1 t) xo (ix3 n r l)
      = (xo (ix3 n r l) : EReal) + ∑ k ∈ Finset.range 4096, term M c n.val r.val l.val (4096 * t.val + k) := by
  rw [Finset.sum_range]
  unfold acc
  refine congrArg (_ + ·) (Finset.sum_congr rfl fun k _ => ?_)
  rw [term]
  exact congrArg₂ (· * ·) (iblk0 M c t k r) (iblk1 M c t k _)

/-- After point `n` the block holds the sum over the row tiles so far. -/
theorem acc_eq (c : Dev nD) (e : Fin 4) (r : Fin 256) (l : Fin 256) : ∀ (n : ℕ) (h : n < cfg0.N),
    ((outsAt0 M c n h).1 (ix3 e r l) : EReal)
      = ∑ k ∈ Finset.range (n + 1), ∑ s ∈ Finset.range 4096, term M c e.val r.val l.val (4096 * k + s)
  | 0, h => by
    rw [outsAt0_A M c ⟨0, h⟩ rfl (by dsimp only; omega)]
    dsimp only
    rw [out_A, canon_eq, tile, pay4_apply, zero_add, Finset.sum_range_one]
  | n + 1, h => by
    have hN : n + 1 < 4 := lt_of_lt_of_eq h N_0
    have h0 : ¬(n + 1) % 4 = 0 := by omega
    have step : (outsAt0 M c (n + 1) h).1 = View.canon (pieces (iblk M c 0 ⟨n + 1, h⟩) (iblk M c 1 ⟨n + 1, h⟩) (outsAt0 M c n (Nat.lt_of_succ_lt h)).1 ++ []) := by
      by_cases h3 : (n + 1) % 4 = 3
      · rw [outsAt0_C M c ⟨n + 1, h⟩ h0 h3]; dsimp only; rw [out_C]; rfl
      · rw [outsAt0_B M c ⟨n + 1, h⟩ h0 h3]; dsimp only; rw [out_B]; rfl
    rw [step, canon_eq, tile, acc_eq c e r l n, Finset.sum_range_succ _ (n + 1)]

/-- The gradient: element `(n, r, l)` is the product of column `r` of the first operand with column `256 n + l` of the second. -/
@[irreducible] def gradAt (c : Dev nD) (n r l : ℕ) : EReal := ∑ s ∈ Finset.range 16384, term M c n r l s

def grad (c : Dev nD) : S4x256x256.Idx → EReal := fun i => gradAt M c (i 0).val (i 1).val (i 2).val

theorem grad_of (c : Dev nD) (i : S4x256x256.Idx) (n r l : ℕ) (h0 : (i 0 : ℕ) = n) (h1 : (i 1 : ℕ) = r) (h2 : (i 2 : ℕ) = l) :
    gradAt M c n r l = grad M c i := by
  subst h0 h1 h2; rfl

theorem acc_last (c : Dev nD) (t : Fin cfg0.N) (h3 : t.val = 3) (n : Fin 4) (r : Fin 256) (l : Fin 256) :
    ((outsAt0 M c t.val t.isLt).1 (ix3 n r l) : EReal) = gradAt M c n.val r.val l.val := by
  have e := sum_range_blocks 4096 (term M c n.val r.val l.val) 4
  rw [show 4096 * 4 = 16384 by norm_num] at e
  rw [acc_eq, h3]
  unfold gradAt
  exact e

theorem out3_eq (c : Dev nD) (t : Fin cfg0.N) (h3 : t.val = 3) (i : S4x256x256.Idx) :
    ((outsAt0 M c t.val t.isLt).2 i : EReal) = (outsAt0 M c t.val t.isLt).1 i := by
  rw [outsAt0_C M c t (by omega) (by omega)]
  dsimp only
  rw [out_C, out_C', pay3_eq]

theorem flush2 : ∀ t : Fin cfg0.N, (cfg0.win 2).flush t = true → t.val = 3 := by decide +kernel
theorem flush3 : ∀ t : Fin cfg0.N, (cfg0.win 3).flush t = true → t.val = 3 := by decide +kernel
theorem last2 : ∃ t : Fin cfg0.N, (cfg0.win 2).flush t = true := by decide +kernel
theorem last3 : ∃ t : Fin cfg0.N, (cfg0.win 3).flush t = true := by decide +kernel

theorem final2 (c : Dev nD) : (dats M 0 c).arrAt 2 cfg0.N = grad M c := by
  refine (dats M 0 c).arrAt_eq_of_cover 2 (grad M c) (fun t hf => ?_) (fun i => ?_)
  · rw [Value.flushed2]
    have h3 := flush2 t hf
    funext y
    obtain ⟨n, r, l, rfl⟩ : ∃ (n : Fin 4) (r : Fin 256) (l : Fin 256), y = ix3 n r l := ⟨y 0, y 1, y 2, eq_ix3 y⟩
    rw [View.read_apply]
    refine ((acc_last M c t h3 n r l)).trans ?_
    have e0 : ((((cfg0.win 2).blk t).view.emb (ix3 n r l)) 0 : ℕ) = n.val := by
      show win0_2.index t 0 * 4 + 1 * n.val = _; rw [(idx2 t).1]; omega
    have e1 : ((((cfg0.win 2).blk t).view.emb (ix3 n r l)) 1 : ℕ) = r.val := by
      show win0_2.index t 1 * 256 + 1 * r.val = _; rw [(idx2 t).2.1]; omega
    have e2 : ((((cfg0.win 2).blk t).view.emb (ix3 n r l)) 2 : ℕ) = l.val := by
      show win0_2.index t 2 * 256 + 1 * l.val = _; rw [(idx2 t).2.2]; omega
    exact grad_of M c _ _ _ _ e0 e1 e2
  · obtain ⟨t, hf⟩ := last2
    refine ⟨t, hf, ?_⟩
    show i ∈ ((View.whole main_v2_0).slice (win0_2.rect t)).set
    rw [View.set_slice_whole, Rect.mem_set_unit]
    intro a
    have h0 : (i 0 : Nat) < 4 := (i 0).isLt
    have h1 : (i 1 : Nat) < 256 := (i 1).isLt
    have h2 : (i 2 : Nat) < 256 := (i 2).isLt
    match a with
    | ⟨0, _⟩ => show win0_2.index t 0 * 4 ≤ (i 0 : Nat) ∧ (i 0 : Nat) < win0_2.index t 0 * 4 + 4; rw [(idx2 t).1]; omega
    | ⟨1, _⟩ => show win0_2.index t 1 * 256 ≤ (i 1 : Nat) ∧ (i 1 : Nat) < win0_2.index t 1 * 256 + 256; rw [(idx2 t).2.1]; omega
    | ⟨2, _⟩ => show win0_2.index t 2 * 256 ≤ (i 2 : Nat) ∧ (i 2 : Nat) < win0_2.index t 2 * 256 + 256; rw [(idx2 t).2.2]; omega

theorem final3 (c : Dev nD) : (dats M 0 c).arrAt 3 cfg0.N = grad M c := by
  refine (dats M 0 c).arrAt_eq_of_cover 3 (grad M c) (fun t hf => ?_) (fun i => ?_)
  · rw [Value.flushed3]
    have h3 := flush3 t hf
    funext y
    obtain ⟨n, r, l, rfl⟩ : ∃ (n : Fin 4) (r : Fin 256) (l : Fin 256), y = ix3 n r l := ⟨y 0, y 1, y 2, eq_ix3 y⟩
    rw [View.read_apply]
    refine ((out3_eq M c t h3 _).trans (acc_last M c t h3 n r l)).trans ?_
    have e0 : ((((cfg0.win 3).blk t).view.emb (ix3 n r l)) 0 : ℕ) = n.val := by
      show win0_3.index t 0 * 4 + 1 * n.val = _; rw [(idx3 t).1]; omega
    have e1 : ((((cfg0.win 3).blk t).view.emb (ix3 n r l)) 1 : ℕ) = r.val := by
      show win0_3.index t 1 * 256 + 1 * r.val = _; rw [(idx3 t).2.1]; omega
    have e2 : ((((cfg0.win 3).blk t).view.emb (ix3 n r l)) 2 : ℕ) = l.val := by
      show win0_3.index t 2 * 256 + 1 * l.val = _; rw [(idx3 t).2.2]; omega
    exact grad_of M c _ _ _ _ e0 e1 e2
  · obtain ⟨t, hf⟩ := last3
    refine ⟨t, hf, ?_⟩
    show i ∈ ((View.whole main_v2_1).slice (win0_3.rect t)).set
    rw [View.set_slice_whole, Rect.mem_set_unit]
    intro a
    have h0 : (i 0 : Nat) < 4 := (i 0).isLt
    have h1 : (i 1 : Nat) < 256 := (i 1).isLt
    have h2 : (i 2 : Nat) < 256 := (i 2).isLt
    match a with
    | ⟨0, _⟩ => show win0_3.index t 0 * 4 ≤ (i 0 : Nat) ∧ (i 0 : Nat) < win0_3.index t 0 * 4 + 4; rw [(idx3 t).1]; omega
    | ⟨1, _⟩ => show win0_3.index t 1 * 256 ≤ (i 1 : Nat) ∧ (i 1 : Nat) < win0_3.index t 1 * 256 + 256; rw [(idx3 t).2.1]; omega
    | ⟨2, _⟩ => show win0_3.index t 2 * 256 ≤ (i 2 : Nat) ∧ (i 2 : Nat) < win0_3.index t 2 * 256 + 256; rw [(idx3 t).2.2]; omega

end Cert.KernelWgradAttIdeal.Own

end
-- ==== Proof.WgradAttClaim.lean ====
/- The weight gradient of the attention's output matrix: kernel and reference agree. -/
module

public import proofs.«01_k».proof.Proof.WgradAtt
public import proofs.«01_k».proof.Proof.Gen.ReferenceWgradAttIdeal.Run
public import proofs.«01_k».proof.Defs

@[expose] public section

set_option maxRecDepth 16384

noncomputable section

namespace Cert.Own.WgradAtt

open Idealize.ShloMosaic Idealize.ShloMosaic.TcCoe Idealize.SL.Sem Cert.Own
open Cert.ReferenceWgradAttIdeal Cert.ReferenceWgradAttIdeal.Gen

/-- The reference's product with its columns in four chunks, at an element. -/
theorem ref_apply (x : Vec Ideal S16384x256 .f32) (y : Vec Ideal S16384x1024 .f32) (n : Fin 4) (r : Fin 256) (l : Fin 256) :
    ((transpose S4x256x256 [1, 0, 2] (shapeCast S256x4x256 (transpose S256x1024 [1, 0] (Host.dotGeneral (F := Ideal) (φ₁ := .f32) (φ₂ := .f32) dot_S16384x1024_S16384x256_S1024x256_0_0_1_1_n_n none y x) transposes_S1024x256_S256x1024_1_0) shapeCasts_S256x1024_S256x4x256) transposes_S256x4x256_S4x256x256_1_0_2) (ix3 n r l) : EReal)
      = ∑ s ∈ Finset.range 16384, at2 x s r.val * at2 y s (256 * n.val + l.val) := by
  have hn := n.isLt
  have hl := l.isLt
  rw [Finset.sum_range]
  pointwise
  refine Finset.sum_congr rfl fun k _ => ?_
  rw [at2_of x k.isLt r.isLt, at2_of y k.isLt (by omega), mul_comm]
  have e : 256 * n.val + l.val = n.val * 256 + l.val := by omega
  simp only [e]

theorem algebraic : Cert.algebraic_KernelWgradAttIdeal_ReferenceWgradAttIdeal := by
  intro m g m' g' _ hargs
  have key : ∀ c : Dev Cert.KernelWgradAttIdeal.nD, (Cert.KernelWgradAttIdeal.Own.grad m c : S4x256x256.Idx → EReal)
      = transpose S4x256x256 [1, 0, 2] (shapeCast S256x4x256 (transpose S256x1024 [1, 0] (Host.dotGeneral (F := Ideal) (φ₁ := .f32) (φ₂ := .f32) dot_S16384x1024_S16384x256_S1024x256_0_0_1_1_n_n none (m' ((c.tc : Thread nD τ).loc main_arg1)) (m' ((c.tc : Thread nD τ).loc main_arg0))) transposes_S1024x256_S256x1024_1_0) shapeCasts_S256x1024_S256x4x256) transposes_S256x4x256_S4x256x256_1_0_2 := by
    intro c
    funext i
    obtain ⟨n, r, l, rfl⟩ : ∃ (n : Fin 4) (r : Fin 256) (l : Fin 256), i = ix3 n r l := ⟨i 0, i 1, i 2, eq_ix3 i⟩
    refine Eq.trans ?_ (ref_apply _ _ n r l).symm
    rw [(hargs c).1, (hargs c).2]
    unfold Cert.KernelWgradAttIdeal.Own.grad Cert.KernelWgradAttIdeal.Own.gradAt
    rfl
  refine ⟨fun c => Cert.KernelWgradAttIdeal.Own.grad m c, fun c => Cert.KernelWgradAttIdeal.Own.grad m c, ?_, ?_⟩
  · exact (θ_run _ _ _).mono (fun r h c => ⟨(h c).1.trans (Cert.KernelWgradAttIdeal.Own.final2 m c),
      (h c).2.1.trans (Cert.KernelWgradAttIdeal.Own.final3 m c), (h c).2.2⟩) (Cert.KernelWgradAttIdeal.Value.run_blocks m g)
  · exact (θ_run _ _ _).mono (fun r h c => ⟨(h c).1.trans (key c).symm, (h c).2.1.trans (key c).symm, (h c).2.2⟩)
      (Cert.ReferenceWgradAttIdeal.Value.run m' g')

end Cert.Own.WgradAtt

end
-- ==== Proof.WgradPool.lean ====
/- The weight gradient of the pool branch's output matrix: what the kernel leaves in its two result arrays. -/
module

public import proofs.«01_k».proof.Proof.Gen.KernelWgradPoolIdeal.Value
public import proofs.«01_k».proof.Proof.Common
public import Idealize.ShloMosaic.Lib.Pipeline.Value
public import Idealize.ShloMosaic.Lib.Pipeline.ReadBack
public import Idealize.ShloMosaic.Lib.Pointwise
public import Idealize.ShloMosaic.Lib.Tactic
public import Idealize.ShloMosaic.PureOps.Ideal

@[expose] public section

noncomputable section

namespace Cert.KernelWgradPoolIdeal.Own

open Cert.KernelWgradPoolIdeal Cert.KernelWgradPoolIdeal.Gen Idealize.ShloMosaic Idealize.ShloMosaic.TcCoe Idealize.SL.Sem
open Idealize.ShloMosaic.Pipeline (Dat)

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

section
variable (x0 : Vec F S4096x768 .bf16) (x1 : Vec F S4096x1024 .bf16) (xo : Vec F S4x768x256 .f32)

/-! The four chunks of the accumulator, and the four column chunks of the second operand. -/

def z0 : Vec F S1x768x256 .f32 := View.ld xo (Rect.unit ![0, 0, 0] ![1, 768, 256] inb_S4x768x256_S1x768x256_0_0_0)
def b0 : Vec F S4096x256 .bf16 := View.ld x1 (Rect.unit ![0, 0] ![4096, 256] inb_S4096x1024_S4096x256_0_0)
def z1 : Vec F S1x768x256 .f32 := View.ld xo (Rect.unit ![1, 0, 0] ![1, 768, 256] inb_S4x768x256_S1x768x256_1_0_0)
def b1 : Vec F S4096x256 .bf16 := View.ld x1 (Rect.unit ![0, 256] ![4096, 256] inb_S4096x1024_S4096x256_0_256)
def z2 : Vec F S1x768x256 .f32 := View.ld xo (Rect.unit ![2, 0, 0] ![1, 768, 256] inb_S4x768x256_S1x768x256_2_0_0)
def b2 : Vec F S4096x256 .bf16 := View.ld x1 (Rect.unit ![0, 512] ![4096, 256] inb_S4096x1024_S4096x256_0_512)
def z3 : Vec F S1x768x256 .f32 := View.ld xo (Rect.unit ![3, 0, 0] ![1, 768, 256] inb_S4x768x256_S1x768x256_3_0_0)
def b3 : Vec F S4096x256 .bf16 := View.ld x1 (Rect.unit ![0, 768] ![4096, 256] inb_S4096x1024_S4096x256_0_768)

/-- What a tile stores: each chunk with the product of the tile's rows added. -/
def pieces : List (View.Piece (Elt F) S4x768x256 .f32) :=
  [⟨Rect.unit ![3, 0, 0] ![1, 768, 256] inb_S4x768x256_S1x768x256_3_0_0, k0_pay2 (k0_pay5 x0) (z3 xo) (b3 x1)⟩,
    ⟨Rect.unit ![2, 0, 0] ![1, 768, 256] inb_S4x768x256_S1x768x256_2_0_0, k0_pay1 (k0_pay8 (z2 xo)) (k0_pay9 x0 (b2 x1))⟩,
    ⟨Rect.unit ![1, 0, 0] ![1, 768, 256] inb_S4x768x256_S1x768x256_1_0_0, k0_pay7 x0 (z1 xo) (b1 x1)⟩,
    ⟨Rect.unit ![0, 0, 0] ![1, 768, 256] inb_S4x768x256_S1x768x256_0_0_0, k0_pay6 x0 (z0 xo) (b0 x1)⟩]

variable (c : Dev nD) (i : grid0.Coords) (a1 : Memref sig .tc .vmem S4096x768 .bf16) (h1 : a1.IsWhole) (a2 : Memref sig .tc .vmem S4096x1024 .bf16) (h2 : a2.IsWhole)
  (a3 : Memref sig .tc .vmem S4x768x256 .f32) (h3 : a3.IsWhole) (a4 : Memref sig .tc .vmem S4x768x256 .bf16) (h4 : a4.IsWhole)

/-- A load of the whole block. -/
theorem ld_whole (X : Vec F S4x768x256 .f32) :
    (fun j => X ((Rect.unit ![0, 0, 0] ![4, 768, 256] inb_S4x768x256_S4x768x256_0_0_0).idx j)) = X :=
  View.ld_unit_zero (S := S4x768x256) hz3 inb_S4x768x256_S4x768x256_0_0_0 X

/-- At the first tile the chunks are added onto zero. -/
theorem out_A (hc0 : cond0_0 i) (hc1 : ¬cond0_1 i) : out0_A_2 c i a1 h1 a2 h2 a3 h3 a4 h4 hc0 hc1 x0 x1
    = View.canon (pieces x0 x1 k0_pay4 ++ [⟨Rect.unit ![0, 0, 0] ![4, 768, 256] inb_S4x768x256_S4x768x256_0_0_0, k0_pay4⟩]) := by
  unfold out0_A_2
  rw [View.read_writes_eq_canon _ _ _ (cover0_A_2 c i a1 h1 a2 h2 a3 h3 a4 h4 hc0 hc1 x0 x1)]
  unfold kernelRun0_A
  dsimp only
  sl_unfold_words
  simp (disch := decide) only [↓ View.readCov_skip, ↓ View.readCov_cons_toLoadRect, ↓ View.readCov_fill]
  simp only [View.readAt_eq_ld, h1.read_unread, h2.read_unread, h3.read_unread, View.ld_unit_zero (S := S4096x768) hz2, View.ld_unit_zero (S := S4x768x256) hz3]
  rfl

/-- At the middle tiles onto what was there, -/
theorem out_B (hc0 : ¬cond0_0 i) (hc1 : ¬cond0_1 i) : out0_B_2 c i a1 h1 a2 h2 a3 h3 a4 h4 hc0 hc1 x0 x1 xo = View.canon (pieces x0 x1 xo ++ []) := by
  unfold out0_B_2
  rw [View.read_writes_eq_canon _ _ _ (cover0_B_2 c i a1 h1 a2 h2 a3 h3 a4 h4 hc0 hc1 x0 x1 xo)]
  unfold kernelRun0_B
  dsimp only
  sl_unfold_words
  simp (disch := decide) only [↓ View.readCov_skip, ↓ View.readCov_cons_toLoadRect, ↓ View.readCov_fill]
  simp only [View.readAt_eq_ld, h1.read_unread, h2.read_unread, h3.read_unread, View.ld_unit_zero (S := S4096x768) hz2, View.ld_unit_zero (S := S4x768x256) hz3]
  rfl

/-- at the last tile too, -/
theorem out_C (hc0 : ¬cond0_0 i) (hc1 : cond0_1 i) : out0_C_2 c i a1 h1 a2 h2 a3 h3 a4 h4 hc0 hc1 x0 x1 xo = View.canon (pieces x0 x1 xo ++ []) := by
  unfold out0_C_2
  rw [View.read_writes_eq_canon _ _ _ (cover0_C_2 c i a1 h1 a2 h2 a3 h3 a4 h4 hc0 hc1 x0 x1 xo)]
  unfold kernelRun0_C
  dsimp only
  sl_unfold_words
  simp (disch := decide) only [↓ View.readCov_skip, ↓ View.readCov_cons_toLoadRect, ↓ View.readCov_fill]
  simp only [View.readAt_eq_ld, h1.read_unread, h2.read_unread, h3.read_unread, View.ld_unit_zero (S := S4096x768) hz2, View.ld_unit_zero (S := S4x768x256) hz3]
  rfl

/-- and the second result is the first, rounded. -/
theorem out_C' (hc0 : ¬cond0_0 i) (hc1 : cond0_1 i) :
    out0_C_3 c i a1 h1 a2 h2 a3 h3 a4 h4 hc0 hc1 x0 x1 xo = k0_pay3 (View.canon (pieces x0 x1 xo ++ [])) := by
  unfold out0_C_3
  rw [View.read_writes_eq_canon _ _ _ (cover0_C_3 c i a1 h1 a2 h2 a3 h3 a4 h4 hc0 hc1 x0 x1 xo)]
  unfold kernelRun0_C
  dsimp only
  sl_unfold_words
  rw [View.canon_unit_zero (S := S4x768x256) hz3, View.readCov_eq_canon']
  refine (congrArg k0_pay3 (ld_whole _)).trans ?_
  simp (disch := decide) only [↓ View.readCov_skip, ↓ View.readCov_cons_toLoadRect, ↓ View.readCov_fill]
  simp only [View.readAt_eq_ld, h1.read_unread, h2.read_unread, h3.read_unread, View.ld_unit_zero (S := S4096x768) hz2, View.ld_unit_zero (S := S4x768x256) hz3]
  rfl

end

/-! ## Over the extended reals -/

open Cert.Own

/-- What a tile adds, at an element. -/
def acc (x0 : Vec Ideal S4096x768 .bf16) (x1 : Vec Ideal S4096x1024 .bf16) (xo : Vec Ideal S4x768x256 .f32) : S4x768x256.Idx → EReal := fun i =>
  (xo i : EReal) + ∑ k : Fin 4096, (x0 (ix2 k (i 1)) : EReal) * (x1 (ix2 k ⟨256 * (i 0).val + (i 2).val, by
    have h0 : (i 0 : ℕ) < 4 := (i 0).isLt
    have h2 : (i 2 : ℕ) < 256 := (i 2).isLt
    omega⟩) : EReal)

theorem piece0 (x0 : Vec Ideal S4096x768 .bf16) (x1 : Vec Ideal S4096x1024 .bf16) (xo : Vec Ideal S4x768x256 .f32) (r : Fin 768) (l : Fin 256) :
    (k0_pay6 x0 (z0 xo) (b0 x1) (ix3 0 r l) : EReal) = acc x0 x1 xo (ix3 0 r l) := by
  unfold acc
  pointwise [k0_pay6, z0, b0, k0_pay5]

theorem piece1 (x0 : Vec Ideal S4096x768 .bf16) (x1 : Vec Ideal S4096x1024 .bf16) (xo : Vec Ideal S4x768x256 .f32) (r : Fin 768) (l : Fin 256) :
    (k0_pay7 x0 (z1 xo) (b1 x1) (ix3 0 r l) : EReal) = acc x0 x1 xo (ix3 1 r l) := by
  unfold acc
  pointwise [k0_pay7, z1, b1, k0_pay5]

theorem piece2 (x0 : Vec Ideal S4096x768 .bf16) (x1 : Vec Ideal S4096x1024 .bf16) (xo : Vec Ideal S4x768x256 .f32) (r : Fin 768) (l : Fin 256) :
    (k0_pay1 (k0_pay8 (z2 xo)) (k0_pay9 x0 (b2 x1)) (ix3 0 r l) : EReal) = acc x0 x1 xo (ix3 2 r l) := by
  unfold acc
  pointwise [k0_pay1, k0_pay8, k0_pay9, z2, b2, k0_pay5]

theorem piece3 (x0 : Vec Ideal S4096x768 .bf16) (x1 : Vec Ideal S4096x1024 .bf16) (xo : Vec Ideal S4x768x256 .f32) (r : Fin 768) (l : Fin 256) :
    (k0_pay2 (k0_pay5 x0) (z3 xo) (b3 x1) (ix3 0 r l) : EReal) = acc x0 x1 xo (ix3 3 r l) := by
  unfold acc
  pointwise [k0_pay2, k0_pay5, z3, b3]

theorem canon_eq (x0 : Vec Ideal S4096x768 .bf16) (x1 : Vec Ideal S4096x1024 .bf16) (xo : Vec Ideal S4x768x256 .f32)
    (L : List (View.Piece (Elt Ideal) S4x768x256 .f32)) (n : Fin 4) (r : Fin 768) (l : Fin 256) :
    View.canon (pieces x0 x1 xo ++ L) (ix3 n r l) = acc x0 x1 xo (ix3 n r l) := by
  refine View.canon_append_of_piecesOf (Val := Elt Ideal) (e := .f32) (acc x0 x1 xo) _ _ ?_ _ ?_
  · refine ⟨?_, ?_, ?_, ?_, trivial⟩
    all_goals
      intro x
      obtain ⟨z, r, l, rfl⟩ : ∃ (z : Fin 1) (r : Fin 768) (l : Fin 256), x = ix3 z r l := ⟨x 0, x 1, x 2, eq_ix3 x⟩
      obtain rfl : z = 0 := Subsingleton.elim _ _
    · exact (piece3 x0 x1 xo r l).trans (congrArg _ (funext fun a => Fin.ext (by match a with | ⟨0, _⟩ => rfl | ⟨1, _⟩ => show r.val = 0 + 1 * r.val; omega | ⟨2, _⟩ => show l.val = 0 + 1 * l.val; omega)))
    · exact (piece2 x0 x1 xo r l).trans (congrArg _ (funext fun a => Fin.ext (by match a with | ⟨0, _⟩ => rfl | ⟨1, _⟩ => show r.val = 0 + 1 * r.val; omega | ⟨2, _⟩ => show l.val = 0 + 1 * l.val; omega)))
    · exact (piece1 x0 x1 xo r l).trans (congrArg _ (funext fun a => Fin.ext (by match a with | ⟨0, _⟩ => rfl | ⟨1, _⟩ => show r.val = 0 + 1 * r.val; omega | ⟨2, _⟩ => show l.val = 0 + 1 * l.val; omega)))
    · exact (piece0 x0 x1 xo r l).trans (congrArg _ (funext fun a => Fin.ext (by match a with | ⟨0, _⟩ => rfl | ⟨1, _⟩ => show r.val = 0 + 1 * r.val; omega | ⟨2, _⟩ => show l.val = 0 + 1 * l.val; omega)))
  · match n with
    | ⟨0, _⟩ => refine ⟨_, .tail _ (.tail _ (.tail _ (.head _))), ?_⟩; rw [Rect.mem_set_unit]; intro a; match a with | ⟨0, _⟩ => exact ⟨le_refl _, Nat.lt_succ_self _⟩ | ⟨1, _⟩ => exact ⟨Nat.zero_le _, by simpa using r.isLt⟩ | ⟨2, _⟩ => exact ⟨Nat.zero_le _, by simpa using l.isLt⟩
    | ⟨1, _⟩ => refine ⟨_, .tail _ (.tail _ (.head _)), ?_⟩; rw [Rect.mem_set_unit]; intro a; match a with | ⟨0, _⟩ => exact ⟨le_refl _, Nat.lt_succ_self _⟩ | ⟨1, _⟩ => exact ⟨Nat.zero_le _, by simpa using r.isLt⟩ | ⟨2, _⟩ => exact ⟨Nat.zero_le _, by simpa using l.isLt⟩
    | ⟨2, _⟩ => refine ⟨_, .tail _ (.head _), ?_⟩; rw [Rect.mem_set_unit]; intro a; match a with | ⟨0, _⟩ => exact ⟨le_refl _, Nat.lt_succ_self _⟩ | ⟨1, _⟩ => exact ⟨Nat.zero_le _, by simpa using r.isLt⟩ | ⟨2, _⟩ => exact ⟨Nat.zero_le _, by simpa using l.isLt⟩
    | ⟨3, _⟩ => refine ⟨_, .head _, ?_⟩; rw [Rect.mem_set_unit]; intro a; match a with | ⟨0, _⟩ => exact ⟨le_refl _, Nat.lt_succ_self _⟩ | ⟨1, _⟩ => exact ⟨Nat.zero_le _, by simpa using r.isLt⟩ | ⟨2, _⟩ => exact ⟨Nat.zero_le _, by simpa using l.isLt⟩

variable (M : (ℓ : Loc nD τ sig) → Buf (Elt Ideal) ℓ)

theorem pay4_apply (i : S4x768x256.Idx) : (k0_pay4 (F := Ideal) i : EReal) = 0 := by
  pointwise [k0_pay4]

theorem pay3_eq (x : Vec Ideal S4x768x256 .f32) (i : S4x768x256.Idx) : (k0_pay3 (F := Ideal) x i : EReal) = x i := by
  pointwise [k0_pay3]

/-- The two operands as the program is given them. -/
abbrev A (c : Dev nD) : S16384x768.Idx → EReal := M ((c : Thread nD τ).loc main_arg0)
abbrev B (c : Dev nD) : S16384x1024.Idx → EReal := M ((c : Thread nD τ).loc main_arg1)

theorem V_v0 (c : Dev nD) (i : S16384x768.Idx) : (V M c main_v0 i : EReal) = A M c i := by
  show StableHlo.after hostOps0 (fun b => M (c, b)) main_v0 i = _
  after_results <;> rfl

theorem V_v1 (c : Dev nD) (i : S16384x1024.Idx) : (V M c main_v1 i : EReal) = B M c i := by
  show StableHlo.after hostOps0 (fun b => M (c, b)) main_v1 i = _
  after_results <;> rfl

theorem idx0 : ∀ t : Fin cfg0.N, win0_0.index t 0 = t.val ∧ win0_0.index t 1 = 0 := by decide +kernel
theorem idx1 : ∀ t : Fin cfg0.N, win0_1.index t 0 = t.val ∧ win0_1.index t 1 = 0 := by decide +kernel
theorem idx2 : ∀ t : Fin cfg0.N, win0_2.index t 0 = 0 ∧ win0_2.index t 1 = 0 ∧ win0_2.index t 2 = 0 := by decide +kernel
theorem idx3 : ∀ t : Fin cfg0.N, win0_3.index t 0 = 0 ∧ win0_3.index t 1 = 0 ∧ win0_3.index t 2 = 0 := by decide +kernel

/-- An operand's tile at point `t` is rows `4096 t …` of the array. -/
theorem iblk0 (c : Dev nD) (t : Fin cfg0.N) (k : Fin 4096) (r : Fin 768) :
    (iblk M c 0 t (ix2 k r) : EReal) = at2 (A M c) (4096 * t.val + k.val) r.val := by
  have hk := k.isLt
  have ht : t.val < 4 := lt_of_lt_of_eq t.isLt N_0
  rw [at2_of _ (by omega) r.isLt]
  unfold iblk
  rw [View.read_apply]
  refine (V_v0 M c _).trans (congrArg (A M c) (funext fun a => Fin.ext ?_))
  match a with
  | ⟨0, _⟩ => show win0_0.index t 0 * 4096 + 1 * k.val = 4096 * t.val + k.val; rw [(idx0 t).1]; omega
  | ⟨1, _⟩ => show win0_0.index t 1 * 768 + 1 * r.val = r.val; rw [(idx0 t).2]; omega

theorem iblk1 (c : Dev nD) (t : Fin cfg0.N) (k : Fin 4096) (r : Fin 1024) :
    (iblk M c 1 t (ix2 k r) : EReal) = at2 (B M c) (4096 * t.val + k.val) r.val := by
  have hk := k.isLt
  have ht : t.val < 4 := lt_of_lt_of_eq t.isLt N_0
  rw [at2_of _ (by omega) r.isLt]
  unfold iblk
  rw [View.read_apply]
  refine (V_v1 M c _).trans (congrArg (B M c) (funext fun a => Fin.ext ?_))
  match a with
  | ⟨0, _⟩ => show win0_1.index t 0 * 4096 + 1 * k.val = 4096 * t.val + k.val; rw [(idx1 t).1]; omega
  | ⟨1, _⟩ => show win0_1.index t 1 * 1024 + 1 * r.val = r.val; rw [(idx1 t).2]; omega

/-- One row's product in the gradient's element `(n, r, l)`. -/
def term (c : Dev nD) (n r l s : ℕ) : EReal := at2 (A M c) s r * at2 (B M c) s (256 * n + l)

theorem tile (c : Dev nD) (t : Fin cfg0.N) (xo : Vec Ideal S4x768x256 .f32) (n : Fin 4) (r : Fin 768) (l : Fin 256) :
    acc (iblk M c 0 t) (iblk M c 1 t) xo (ix3 n r l)
      = (xo (ix3 n r l) : EReal) + ∑ k ∈ Finset.range 4096, term M c n.val r.val l.val (4096 * t.val + k) := by
  rw [Finset.sum_range]
  unfold acc
  refine congrArg (_ + ·) (Finset.sum_congr rfl fun k _ => ?_)
  rw [term]
  exact congrArg₂ (· * ·) (iblk0 M c t k r) (iblk1 M c t k _)

/-- After point `n` the block holds the sum over the row tiles so far. -/
theorem acc_eq (c : Dev nD) (e : Fin 4) (r : Fin 768) (l : Fin 256) : ∀ (n : ℕ) (h : n < cfg0.N),
    ((outsAt0 M c n h).1 (ix3 e r l) : EReal)
      = ∑ k ∈ Finset.range (n + 1), ∑ s ∈ Finset.range 4096, term M c e.val r.val l.val (4096 * k + s)
  | 0, h => by
    rw [outsAt0_A M c ⟨0, h⟩ rfl (by dsimp only; omega)]
    dsimp only
    rw [out_A, canon_eq, tile, pay4_apply, zero_add, Finset.sum_range_one]
  | n + 1, h => by
    have hN : n + 1 < 4 := lt_of_lt_of_eq h N_0
    have h0 : ¬(n + 1) % 4 = 0 := by omega
    have step : (outsAt0 M c (n + 1) h).1 = View.canon (pieces (iblk M c 0 ⟨n + 1, h⟩) (iblk M c 1 ⟨n + 1, h⟩) (outsAt0 M c n (Nat.lt_of_succ_lt h)).1 ++ []) := by
      by_cases h3 : (n + 1) % 4 = 3
      · rw [outsAt0_C M c ⟨n + 1, h⟩ h0 h3]; dsimp only; rw [out_C]; rfl
      · rw [outsAt0_B M c ⟨n + 1, h⟩ h0 h3]; dsimp only; rw [out_B]; rfl
    rw [step, canon_eq, tile, acc_eq c e r l n, Finset.sum_range_succ _ (n + 1)]

/-- The gradient: element `(n, r, l)` is the product of column `r` of the first operand with column `256 n + l` of the second. -/
@[irreducible] def gradAt (c : Dev nD) (n r l : ℕ) : EReal := ∑ s ∈ Finset.range 16384, term M c n r l s

def grad (c : Dev nD) : S4x768x256.Idx → EReal := fun i => gradAt M c (i 0).val (i 1).val (i 2).val

theorem grad_of (c : Dev nD) (i : S4x768x256.Idx) (n r l : ℕ) (h0 : (i 0 : ℕ) = n) (h1 : (i 1 : ℕ) = r) (h2 : (i 2 : ℕ) = l) :
    gradAt M c n r l = grad M c i := by
  subst h0 h1 h2; rfl

theorem acc_last (c : Dev nD) (t : Fin cfg0.N) (h3 : t.val = 3) (n : Fin 4) (r : Fin 768) (l : Fin 256) :
    ((outsAt0 M c t.val t.isLt).1 (ix3 n r l) : EReal) = gradAt M c n.val r.val l.val := by
  have e := sum_range_blocks 4096 (term M c n.val r.val l.val) 4
  rw [show 4096 * 4 = 16384 by norm_num] at e
  rw [acc_eq, h3]
  unfold gradAt
  exact e

theorem out3_eq (c : Dev nD) (t : Fin cfg0.N) (h3 : t.val = 3) (i : S4x768x256.Idx) :
    ((outsAt0 M c t.val t.isLt).2 i : EReal) = (outsAt0 M c t.val t.isLt).1 i := by
  rw [outsAt0_C M c t (by omega) (by omega)]
  dsimp only
  rw [out_C, out_C', pay3_eq]

theorem flush2 : ∀ t : Fin cfg0.N, (cfg0.win 2).flush t = true → t.val = 3 := by decide +kernel
theorem flush3 : ∀ t : Fin cfg0.N, (cfg0.win 3).flush t = true → t.val = 3 := by decide +kernel
theorem last2 : ∃ t : Fin cfg0.N, (cfg0.win 2).flush t = true := by decide +kernel
theorem last3 : ∃ t : Fin cfg0.N, (cfg0.win 3).flush t = true := by decide +kernel

theorem final2 (c : Dev nD) : (dats M 0 c).arrAt 2 cfg0.N = grad M c := by
  refine (dats M 0 c).arrAt_eq_of_cover 2 (grad M c) (fun t hf => ?_) (fun i => ?_)
  · rw [Value.flushed2]
    have h3 := flush2 t hf
    funext y
    obtain ⟨n, r, l, rfl⟩ : ∃ (n : Fin 4) (r : Fin 768) (l : Fin 256), y = ix3 n r l := ⟨y 0, y 1, y 2, eq_ix3 y⟩
    rw [View.read_apply]
    refine ((acc_last M c t h3 n r l)).trans ?_
    have e0 : ((((cfg0.win 2).blk t).view.emb (ix3 n r l)) 0 : ℕ) = n.val := by
      show win0_2.index t 0 * 4 + 1 * n.val = _; rw [(idx2 t).1]; omega
    have e1 : ((((cfg0.win 2).blk t).view.emb (ix3 n r l)) 1 : ℕ) = r.val := by
      show win0_2.index t 1 * 768 + 1 * r.val = _; rw [(idx2 t).2.1]; omega
    have e2 : ((((cfg0.win 2).blk t).view.emb (ix3 n r l)) 2 : ℕ) = l.val := by
      show win0_2.index t 2 * 256 + 1 * l.val = _; rw [(idx2 t).2.2]; omega
    exact grad_of M c _ _ _ _ e0 e1 e2
  · obtain ⟨t, hf⟩ := last2
    refine ⟨t, hf, ?_⟩
    show i ∈ ((View.whole main_v2_0).slice (win0_2.rect t)).set
    rw [View.set_slice_whole, Rect.mem_set_unit]
    intro a
    have h0 : (i 0 : Nat) < 4 := (i 0).isLt
    have h1 : (i 1 : Nat) < 768 := (i 1).isLt
    have h2 : (i 2 : Nat) < 256 := (i 2).isLt
    match a with
    | ⟨0, _⟩ => show win0_2.index t 0 * 4 ≤ (i 0 : Nat) ∧ (i 0 : Nat) < win0_2.index t 0 * 4 + 4; rw [(idx2 t).1]; omega
    | ⟨1, _⟩ => show win0_2.index t 1 * 768 ≤ (i 1 : Nat) ∧ (i 1 : Nat) < win0_2.index t 1 * 768 + 768; rw [(idx2 t).2.1]; omega
    | ⟨2, _⟩ => show win0_2.index t 2 * 256 ≤ (i 2 : Nat) ∧ (i 2 : Nat) < win0_2.index t 2 * 256 + 256; rw [(idx2 t).2.2]; omega

theorem final3 (c : Dev nD) : (dats M 0 c).arrAt 3 cfg0.N = grad M c := by
  refine (dats M 0 c).arrAt_eq_of_cover 3 (grad M c) (fun t hf => ?_) (fun i => ?_)
  · rw [Value.flushed3]
    have h3 := flush3 t hf
    funext y
    obtain ⟨n, r, l, rfl⟩ : ∃ (n : Fin 4) (r : Fin 768) (l : Fin 256), y = ix3 n r l := ⟨y 0, y 1, y 2, eq_ix3 y⟩
    rw [View.read_apply]
    refine ((out3_eq M c t h3 _).trans (acc_last M c t h3 n r l)).trans ?_
    have e0 : ((((cfg0.win 3).blk t).view.emb (ix3 n r l)) 0 : ℕ) = n.val := by
      show win0_3.index t 0 * 4 + 1 * n.val = _; rw [(idx3 t).1]; omega
    have e1 : ((((cfg0.win 3).blk t).view.emb (ix3 n r l)) 1 : ℕ) = r.val := by
      show win0_3.index t 1 * 768 + 1 * r.val = _; rw [(idx3 t).2.1]; omega
    have e2 : ((((cfg0.win 3).blk t).view.emb (ix3 n r l)) 2 : ℕ) = l.val := by
      show win0_3.index t 2 * 256 + 1 * l.val = _; rw [(idx3 t).2.2]; omega
    exact grad_of M c _ _ _ _ e0 e1 e2
  · obtain ⟨t, hf⟩ := last3
    refine ⟨t, hf, ?_⟩
    show i ∈ ((View.whole main_v2_1).slice (win0_3.rect t)).set
    rw [View.set_slice_whole, Rect.mem_set_unit]
    intro a
    have h0 : (i 0 : Nat) < 4 := (i 0).isLt
    have h1 : (i 1 : Nat) < 768 := (i 1).isLt
    have h2 : (i 2 : Nat) < 256 := (i 2).isLt
    match a with
    | ⟨0, _⟩ => show win0_3.index t 0 * 4 ≤ (i 0 : Nat) ∧ (i 0 : Nat) < win0_3.index t 0 * 4 + 4; rw [(idx3 t).1]; omega
    | ⟨1, _⟩ => show win0_3.index t 1 * 768 ≤ (i 1 : Nat) ∧ (i 1 : Nat) < win0_3.index t 1 * 768 + 768; rw [(idx3 t).2.1]; omega
    | ⟨2, _⟩ => show win0_3.index t 2 * 256 ≤ (i 2 : Nat) ∧ (i 2 : Nat) < win0_3.index t 2 * 256 + 256; rw [(idx3 t).2.2]; omega

end Cert.KernelWgradPoolIdeal.Own

end
-- ==== Proof.WgradPoolClaim.lean ====
/- The weight gradient of the pool branch's output matrix: kernel and reference agree. -/
module

public import proofs.«01_k».proof.Proof.WgradPool
public import proofs.«01_k».proof.Proof.Gen.ReferenceWgradPoolIdeal.Run
public import proofs.«01_k».proof.Defs

@[expose] public section

set_option maxRecDepth 16384

noncomputable section

namespace Cert.Own.WgradPool

open Idealize.ShloMosaic Idealize.ShloMosaic.TcCoe Idealize.SL.Sem Cert.Own
open Cert.ReferenceWgradPoolIdeal Cert.ReferenceWgradPoolIdeal.Gen

/-- The reference's product with its columns in four chunks, at an element. -/
theorem ref_apply (x : Vec Ideal S16384x768 .f32) (y : Vec Ideal S16384x1024 .f32) (n : Fin 4) (r : Fin 768) (l : Fin 256) :
    ((transpose S4x768x256 [1, 0, 2] (shapeCast S768x4x256 (transpose S768x1024 [1, 0] (Host.dotGeneral (F := Ideal) (φ₁ := .f32) (φ₂ := .f32) dot_S16384x1024_S16384x768_S1024x768_0_0_1_1_n_n none y x) transposes_S1024x768_S768x1024_1_0) shapeCasts_S768x1024_S768x4x256) transposes_S768x4x256_S4x768x256_1_0_2) (ix3 n r l) : EReal)
      = ∑ s ∈ Finset.range 16384, at2 x s r.val * at2 y s (256 * n.val + l.val) := by
  have hn := n.isLt
  have hl := l.isLt
  rw [Finset.sum_range]
  pointwise
  refine Finset.sum_congr rfl fun k _ => ?_
  rw [at2_of x k.isLt r.isLt, at2_of y k.isLt (by omega), mul_comm]
  have e : 256 * n.val + l.val = n.val * 256 + l.val := by omega
  simp only [e]

theorem algebraic : Cert.algebraic_KernelWgradPoolIdeal_ReferenceWgradPoolIdeal := by
  intro m g m' g' _ hargs
  have key : ∀ c : Dev Cert.KernelWgradPoolIdeal.nD, (Cert.KernelWgradPoolIdeal.Own.grad m c : S4x768x256.Idx → EReal)
      = transpose S4x768x256 [1, 0, 2] (shapeCast S768x4x256 (transpose S768x1024 [1, 0] (Host.dotGeneral (F := Ideal) (φ₁ := .f32) (φ₂ := .f32) dot_S16384x1024_S16384x768_S1024x768_0_0_1_1_n_n none (m' ((c.tc : Thread nD τ).loc main_arg1)) (m' ((c.tc : Thread nD τ).loc main_arg0))) transposes_S1024x768_S768x1024_1_0) shapeCasts_S768x1024_S768x4x256) transposes_S768x4x256_S4x768x256_1_0_2 := by
    intro c
    funext i
    obtain ⟨n, r, l, rfl⟩ : ∃ (n : Fin 4) (r : Fin 768) (l : Fin 256), i = ix3 n r l := ⟨i 0, i 1, i 2, eq_ix3 i⟩
    refine Eq.trans ?_ (ref_apply _ _ n r l).symm
    rw [(hargs c).1, (hargs c).2]
    unfold Cert.KernelWgradPoolIdeal.Own.grad Cert.KernelWgradPoolIdeal.Own.gradAt
    rfl
  refine ⟨fun c => Cert.KernelWgradPoolIdeal.Own.grad m c, fun c => Cert.KernelWgradPoolIdeal.Own.grad m c, ?_, ?_⟩
  · exact (θ_run _ _ _).mono (fun r h c => ⟨(h c).1.trans (Cert.KernelWgradPoolIdeal.Own.final2 m c),
      (h c).2.1.trans (Cert.KernelWgradPoolIdeal.Own.final3 m c), (h c).2.2⟩) (Cert.KernelWgradPoolIdeal.Value.run_blocks m g)
  · exact (θ_run _ _ _).mono (fun r h c => ⟨(h c).1.trans (key c).symm, (h c).2.1.trans (key c).symm, (h c).2.2⟩)
      (Cert.ReferenceWgradPoolIdeal.Value.run m' g')

end Cert.Own.WgradPool

end
-- ==== Proof.WgradMix.lean ====
/- The weight gradient of the mixer's output matrix: what the kernel leaves in its two result arrays. -/
module

public import proofs.«01_k».proof.Proof.Gen.KernelWgradMixIdeal.Value
public import proofs.«01_k».proof.Proof.Common
public import Idealize.ShloMosaic.Lib.Pipeline.Value
public import Idealize.ShloMosaic.Lib.Pointwise
public import Idealize.ShloMosaic.Lib.Tactic
public import Idealize.ShloMosaic.PureOps.Ideal

@[expose] public section

noncomputable section

namespace Cert.KernelWgradMixIdeal.Own

open Cert.KernelWgradMixIdeal Cert.KernelWgradMixIdeal.Gen Idealize.ShloMosaic Idealize.ShloMosaic.TcCoe Idealize.SL.Sem
open Idealize.ShloMosaic.Pipeline (Dat)

variable {F : FTy → Type} [FloatOps F]

theorem hz2 : (![0, 0] : Fin 2 → Nat) = fun _ => 0 := funext fun a => by fin_cases a <;> rfl

section
variable (c : Dev nD) (i : grid0.Coords) (a1 : Memref sig .tc .vmem S4096x1024 .bf16) (h1 : a1.IsWhole) (a2 : Memref sig .tc .vmem S4096x1024 .bf16) (h2 : a2.IsWhole)
  (a3 : Memref sig .tc .vmem S1024x1024 .f32) (h3 : a3.IsWhole) (a4 : Memref sig .tc .vmem S1024x1024 .bf16) (h4 : a4.IsWhole)
  (x0 x1 : Vec F S4096x1024 .bf16) (xo : Vec F S1024x1024 .f32)

/-- At the first tile the block is the product of the two input tiles, onto zero. -/
theorem out_A (hc0 : cond0_0 i) (hc1 : ¬cond0_1 i) : out0_A_2 c i a1 h1 a2 h2 a3 h3 a4 h4 hc0 hc1 x0 x1 = k0_pay2 x0 k0_pay1 x1 := by
  unfold out0_A_2
  rw [View.read_writes_eq_canon _ _ _ (cover0_A_2 c i a1 h1 a2 h2 a3 h3 a4 h4 hc0 hc1 x0 x1)]
  unfold kernelRun0_A
  dsimp only
  sl_unfold_words
  rw [View.canon_cons_unit_zero (S := S1024x1024) hz2, View.readCov_unit_zero (S := S1024x1024) _ hz2]
  simp only [View.readAt_eq_ld, h1.read_unread, h2.read_unread, h3.read_unread, View.ld_unit_zero (S := S4096x1024) hz2,
    View.ld_unit_zero (S := S1024x1024) hz2]

/-- At the middle tiles the product is added to what the block held, -/
theorem out_B (hc0 : ¬cond0_0 i) (hc1 : ¬cond0_1 i) : out0_B_2 c i a1 h1 a2 h2 a3 h3 a4 h4 hc0 hc1 x0 x1 xo = k0_pay2 x0 xo x1 := by
  unfold out0_B_2
  rw [View.read_writes_eq_canon _ _ _ (cover0_B_2 c i a1 h1 a2 h2 a3 h3 a4 h4 hc0 hc1 x0 x1 xo)]
  unfold kernelRun0_B
  dsimp only
  sl_unfold_words
  rw [View.canon_unit_zero (S := S1024x1024) hz2]
  simp only [View.readAt_eq_ld, h1.read_unread, h2.read_unread, h3.read_unread, View.ld_unit_zero (S := S4096x1024) hz2,
    View.ld_unit_zero (S := S1024x1024) hz2]

/-- at the last tile too, -/
theorem out_C (hc0 : ¬cond0_0 i) (hc1 : cond0_1 i) : out0_C_2 c i a1 h1 a2 h2 a3 h3 a4 h4 hc0 hc1 x0 x1 xo = k0_pay2 x0 xo x1 := by
  unfold out0_C_2
  rw [View.read_writes_eq_canon _ _ _ (cover0_C_2 c i a1 h1 a2 h2 a3 h3 a4 h4 hc0 hc1 x0 x1 xo)]
  unfold kernelRun0_C
  dsimp only
  sl_unfold_words
  rw [View.canon_unit_zero (S := S1024x1024) hz2]
  simp only [View.readAt_eq_ld, h1.read_unread, h2.read_unread, h3.read_unread, View.ld_unit_zero (S := S4096x1024) hz2,
    View.ld_unit_zero (S := S1024x1024) hz2]

/-- and the second result is the block just stored, rounded. -/
theorem out_C' (hc0 : ¬cond0_0 i) (hc1 : cond0_1 i) : out0_C_3 c i a1 h1 a2 h2 a3 h3 a4 h4 hc0 hc1 x0 x1 xo = k0_pay3 (k0_pay2 x0 xo x1) := by
  unfold out0_C_3
  rw [View.read_writes_eq_canon _ _ _ (cover0_C_3 c i a1 h1 a2 h2 a3 h3 a4 h4 hc0 hc1 x0 x1 xo)]
  unfold kernelRun0_C
  dsimp only
  sl_unfold_words
  rw [View.canon_unit_zero (S := S1024x1024) hz2, View.readCov_unit_zero (S := S1024x1024) _ hz2]
  simp only [View.readAt_eq_ld, h1.read_unread, h2.read_unread, h3.read_unread, View.ld_unit_zero (S := S4096x1024) hz2,
    View.ld_unit_zero (S := S1024x1024) hz2]

end

/-! ## Over the extended reals -/

open Cert.Own

variable (M : (ℓ : Loc nD τ sig) → Buf (Elt Ideal) ℓ)

theorem pay2_apply (x0 x1 : Vec Ideal S4096x1024 .bf16) (xo : Vec Ideal S1024x1024 .f32) (r l : Fin 1024) :
    (k0_pay2 (F := Ideal) x0 xo x1 (ix2 r l) : EReal)
      = (xo (ix2 r l) : EReal) + ∑ k : Fin 4096, (x0 (ix2 k r) : EReal) * (x1 (ix2 k l) : EReal) := by
  pointwise [k0_pay2]

theorem pay1_apply (i : S1024x1024.Idx) : (k0_pay1 (F := Ideal) i : EReal) = 0 := by
  pointwise [k0_pay1]

theorem pay3_eq (x : Vec Ideal S1024x1024 .f32) (i : S1024x1024.Idx) : (k0_pay3 (F := Ideal) x i : EReal) = x i := by
  pointwise [k0_pay3]

/-- The two operands as the program is given them. -/
abbrev A (c : Dev nD) : S16384x1024.Idx → EReal := M ((c : Thread nD τ).loc main_arg0)
abbrev B (c : Dev nD) : S16384x1024.Idx → EReal := M ((c : Thread nD τ).loc main_arg1)

theorem V_v0 (c : Dev nD) (i : S16384x1024.Idx) : (V M c main_v0 i : EReal) = A M c i := by
  show StableHlo.after hostOps0 (fun b => M (c, b)) main_v0 i = _
  after_results <;> rfl

theorem V_v1 (c : Dev nD) (i : S16384x1024.Idx) : (V M c main_v1 i : EReal) = B M c i := by
  show StableHlo.after hostOps0 (fun b => M (c, b)) main_v1 i = _
  after_results <;> rfl

theorem idx0 : ∀ t : Fin cfg0.N, win0_0.index t 0 = t.val ∧ win0_0.index t 1 = 0 := by decide +kernel
theorem idx1 : ∀ t : Fin cfg0.N, win0_1.index t 0 = t.val ∧ win0_1.index t 1 = 0 := by decide +kernel
theorem idx2 : ∀ t : Fin cfg0.N, win0_2.index t 0 = 0 ∧ win0_2.index t 1 = 0 := by decide +kernel
theorem idx3 : ∀ t : Fin cfg0.N, win0_3.index t 0 = 0 ∧ win0_3.index t 1 = 0 := by decide +kernel

/-- An operand's tile at point `t` is rows `4096 t …` of the array. -/
theorem iblk0 (c : Dev nD) (t : Fin cfg0.N) (k : Fin 4096) (r : Fin 1024) :
    (iblk M c 0 t (ix2 k r) : EReal) = at2 (A M c) (4096 * t.val + k.val) r.val := by
  have hk := k.isLt
  have ht : t.val < 4 := lt_of_lt_of_eq t.isLt N_0
  rw [at2_of _ (by omega) r.isLt]
  unfold iblk
  rw [View.read_apply]
  refine (V_v0 M c _).trans (congrArg (A M c) (funext fun a => Fin.ext ?_))
  match a with
  | ⟨0, _⟩ => show win0_0.index t 0 * 4096 + 1 * k.val = 4096 * t.val + k.val; rw [(idx0 t).1]; omega
  | ⟨1, _⟩ => show win0_0.index t 1 * 1024 + 1 * r.val = r.val; rw [(idx0 t).2]; omega

theorem iblk1 (c : Dev nD) (t : Fin cfg0.N) (k : Fin 4096) (r : Fin 1024) :
    (iblk M c 1 t (ix2 k r) : EReal) = at2 (B M c) (4096 * t.val + k.val) r.val := by
  have hk := k.isLt
  have ht : t.val < 4 := lt_of_lt_of_eq t.isLt N_0
  rw [at2_of _ (by omega) r.isLt]
  unfold iblk
  rw [View.read_apply]
  refine (V_v1 M c _).trans (congrArg (B M c) (funext fun a => Fin.ext ?_))
  match a with
  | ⟨0, _⟩ => show win0_1.index t 0 * 4096 + 1 * k.val = 4096 * t.val + k.val; rw [(idx1 t).1]; omega
  | ⟨1, _⟩ => show win0_1.index t 1 * 1024 + 1 * r.val = r.val; rw [(idx1 t).2]; omega

/-- One row's product in the gradient's element `(r, l)`. -/
def term (c : Dev nD) (r l s : ℕ) : EReal := at2 (A M c) s r * at2 (B M c) s l

theorem tile (c : Dev nD) (t : Fin cfg0.N) (r l : Fin 1024) :
    ∑ k : Fin 4096, @HMul.hMul EReal EReal EReal _ (iblk M c 0 t (ix2 k r)) (iblk M c 1 t (ix2 k l))
      = ∑ k ∈ Finset.range 4096, term M c r.val l.val (4096 * t.val + k) := by
  rw [Finset.sum_range]
  exact Finset.sum_congr rfl fun k _ => by rw [term, iblk0, iblk1]

/-- After point `n` the block holds the sum over the row tiles so far. -/
theorem acc_eq (c : Dev nD) (r l : Fin 1024) : ∀ (n : ℕ) (h : n < cfg0.N),
    ((outsAt0 M c n h).1 (ix2 r l) : EReal)
      = ∑ k ∈ Finset.range (n + 1), ∑ s ∈ Finset.range 4096, term M c r.val l.val (4096 * k + s)
  | 0, h => by
    rw [outsAt0_A M c ⟨0, h⟩ rfl (by dsimp only; omega)]
    dsimp only
    rw [out_A, pay2_apply, pay1_apply, zero_add, tile, Finset.sum_range_one]
  | n + 1, h => by
    have hN : n + 1 < 4 := lt_of_lt_of_eq h N_0
    have h0 : ¬(n + 1) % 4 = 0 := by omega
    have step : (outsAt0 M c (n + 1) h).1 = k0_pay2 (iblk M c 0 ⟨n + 1, h⟩) (outsAt0 M c n (Nat.lt_of_succ_lt h)).1 (iblk M c 1 ⟨n + 1, h⟩) := by
      by_cases h3 : (n + 1) % 4 = 3
      · rw [outsAt0_C M c ⟨n + 1, h⟩ h0 h3]; dsimp only; rw [out_C]; rfl
      · rw [outsAt0_B M c ⟨n + 1, h⟩ h0 h3]; dsimp only; rw [out_B]; rfl
    rw [step, pay2_apply, tile, acc_eq c r l n, Finset.sum_range_succ _ (n + 1)]

/-- The gradient: element `(r, l)` is the product of column `r` of the first operand with column `l` of the second. -/
@[irreducible] def gradAt (c : Dev nD) (r l : ℕ) : EReal := ∑ s ∈ Finset.range 16384, term M c r l s

def grad (c : Dev nD) : S1024x1024.Idx → EReal := fun i => gradAt M c (i 0).val (i 1).val

theorem grad_of (c : Dev nD) (i : S1024x1024.Idx) (r l : ℕ) (h0 : (i 0 : ℕ) = r) (h1 : (i 1 : ℕ) = l) :
    gradAt M c r l = grad M c i := by
  subst h0 h1; rfl

theorem acc_last (c : Dev nD) (t : Fin cfg0.N) (h3 : t.val = 3) (r l : Fin 1024) :
    ((outsAt0 M c t.val t.isLt).1 (ix2 r l) : EReal) = gradAt M c r.val l.val := by
  have e := sum_range_blocks 4096 (term M c r.val l.val) 4
  rw [show 4096 * 4 = 16384 by norm_num] at e
  rw [acc_eq, h3]
  unfold gradAt
  exact e

theorem out3_eq (c : Dev nD) (t : Fin cfg0.N) (h3 : t.val = 3) (i : S1024x1024.Idx) :
    ((outsAt0 M c t.val t.isLt).2 i : EReal) = (outsAt0 M c t.val t.isLt).1 i := by
  rw [outsAt0_C M c t (by omega) (by omega)]
  dsimp only
  rw [out_C, out_C', pay3_eq]

theorem flush2 : ∀ t : Fin cfg0.N, (cfg0.win 2).flush t = true → t.val = 3 := by decide +kernel
theorem flush3 : ∀ t : Fin cfg0.N, (cfg0.win 3).flush t = true → t.val = 3 := by decide +kernel
theorem last2 : ∃ t : Fin cfg0.N, (cfg0.win 2).flush t = true := by decide +kernel
theorem last3 : ∃ t : Fin cfg0.N, (cfg0.win 3).flush t = true := by decide +kernel

theorem final2 (c : Dev nD) : (dats M 0 c).arrAt 2 cfg0.N = grad M c := by
  refine (dats M 0 c).arrAt_eq_of_cover 2 (grad M c) (fun t hf => ?_) (fun i => ?_)
  · rw [Value.flushed2]
    have h3 := flush2 t hf
    funext y
    obtain ⟨r, l, rfl⟩ : ∃ (r l : Fin 1024), y = ix2 r l := ⟨y 0, y 1, eq_ix2 y⟩
    rw [View.read_apply]
    refine ((acc_last M c t h3 r l)).trans ?_
    have e0 : ((((cfg0.win 2).blk t).view.emb (ix2 r l)) 0 : ℕ) = r.val := by
      show win0_2.index t 0 * 1024 + 1 * r.val = _; rw [(idx2 t).1]; omega
    have e1 : ((((cfg0.win 2).blk t).view.emb (ix2 r l)) 1 : ℕ) = l.val := by
      show win0_2.index t 1 * 1024 + 1 * l.val = _; rw [(idx2 t).2]; omega
    exact grad_of M c _ _ _ e0 e1
  · obtain ⟨t, hf⟩ := last2
    refine ⟨t, hf, ?_⟩
    show i ∈ ((View.whole main_v2_0).slice (win0_2.rect t)).set
    rw [View.set_slice_whole, Rect.mem_set_unit]
    intro a
    have h0 : (i 0 : Nat) < 1024 := (i 0).isLt
    have h1 : (i 1 : Nat) < 1024 := (i 1).isLt
    match a with
    | ⟨0, _⟩ => show win0_2.index t 0 * 1024 ≤ (i 0 : Nat) ∧ (i 0 : Nat) < win0_2.index t 0 * 1024 + 1024; rw [(idx2 t).1]; omega
    | ⟨1, _⟩ => show win0_2.index t 1 * 1024 ≤ (i 1 : Nat) ∧ (i 1 : Nat) < win0_2.index t 1 * 1024 + 1024; rw [(idx2 t).2]; omega

theorem final3 (c : Dev nD) : (dats M 0 c).arrAt 3 cfg0.N = grad M c := by
  refine (dats M 0 c).arrAt_eq_of_cover 3 (grad M c) (fun t hf => ?_) (fun i => ?_)
  · rw [Value.flushed3]
    have h3 := flush3 t hf
    funext y
    obtain ⟨r, l, rfl⟩ : ∃ (r l : Fin 1024), y = ix2 r l := ⟨y 0, y 1, eq_ix2 y⟩
    rw [View.read_apply]
    refine ((out3_eq M c t h3 _).trans (acc_last M c t h3 r l)).trans ?_
    have e0 : ((((cfg0.win 3).blk t).view.emb (ix2 r l)) 0 : ℕ) = r.val := by
      show win0_3.index t 0 * 1024 + 1 * r.val = _; rw [(idx3 t).1]; omega
    have e1 : ((((cfg0.win 3).blk t).view.emb (ix2 r l)) 1 : ℕ) = l.val := by
      show win0_3.index t 1 * 1024 + 1 * l.val = _; rw [(idx3 t).2]; omega
    exact grad_of M c _ _ _ e0 e1
  · obtain ⟨t, hf⟩ := last3
    refine ⟨t, hf, ?_⟩
    show i ∈ ((View.whole main_v2_1).slice (win0_3.rect t)).set
    rw [View.set_slice_whole, Rect.mem_set_unit]
    intro a
    have h0 : (i 0 : Nat) < 1024 := (i 0).isLt
    have h1 : (i 1 : Nat) < 1024 := (i 1).isLt
    match a with
    | ⟨0, _⟩ => show win0_3.index t 0 * 1024 ≤ (i 0 : Nat) ∧ (i 0 : Nat) < win0_3.index t 0 * 1024 + 1024; rw [(idx3 t).1]; omega
    | ⟨1, _⟩ => show win0_3.index t 1 * 1024 ≤ (i 1 : Nat) ∧ (i 1 : Nat) < win0_3.index t 1 * 1024 + 1024; rw [(idx3 t).2]; omega

end Cert.KernelWgradMixIdeal.Own

end
-- ==== Proof.WgradMixClaim.lean ====
/- The weight gradient of the mixer's output matrix: kernel and reference agree. -/
module

public import proofs.«01_k».proof.Proof.WgradMix
public import proofs.«01_k».proof.Proof.Gen.ReferenceWgradMixIdeal.Run
public import proofs.«01_k».proof.Defs

@[expose] public section

set_option maxRecDepth 16384

noncomputable section

namespace Cert.Own.WgradMix

open Idealize.ShloMosaic Idealize.ShloMosaic.TcCoe Idealize.SL.Sem Cert.Own
open Cert.ReferenceWgradMixIdeal Cert.ReferenceWgradMixIdeal.Gen

/-- The reference's product at an element. -/
theorem ref_apply (x : Vec Ideal S16384x1024 .f32) (y : Vec Ideal S16384x1024 .f32) (r l : Fin 1024) :
    ((transpose S1024x1024 [1, 0] (Host.dotGeneral (F := Ideal) (φ₁ := .f32) (φ₂ := .f32) dot_S16384x1024_S16384x1024_S1024x1024_0_0_1_1_n_n none y x) transposes_S1024x1024_S1024x1024_1_0) (ix2 r l) : EReal)
      = ∑ s ∈ Finset.range 16384, at2 x s r.val * at2 y s l.val := by
  rw [Finset.sum_range]
  pointwise
  refine Finset.sum_congr rfl fun k _ => ?_
  rw [at2_of x k.isLt r.isLt, at2_of y k.isLt (by omega), mul_comm]

theorem algebraic : Cert.algebraic_KernelWgradMixIdeal_ReferenceWgradMixIdeal := by
  intro m g m' g' _ hargs
  have key : ∀ c : Dev Cert.KernelWgradMixIdeal.nD, (Cert.KernelWgradMixIdeal.Own.grad m c : S1024x1024.Idx → EReal)
      = transpose S1024x1024 [1, 0] (Host.dotGeneral (F := Ideal) (φ₁ := .f32) (φ₂ := .f32) dot_S16384x1024_S16384x1024_S1024x1024_0_0_1_1_n_n none (m' ((c.tc : Thread nD τ).loc main_arg1)) (m' ((c.tc : Thread nD τ).loc main_arg0))) transposes_S1024x1024_S1024x1024_1_0 := by
    intro c
    funext i
    obtain ⟨r, l, rfl⟩ : ∃ (r l : Fin 1024), i = ix2 r l := ⟨i 0, i 1, eq_ix2 i⟩
    refine Eq.trans ?_ (ref_apply _ _ r l).symm
    rw [(hargs c).1, (hargs c).2]
    unfold Cert.KernelWgradMixIdeal.Own.grad Cert.KernelWgradMixIdeal.Own.gradAt
    rfl
  refine ⟨fun c => Cert.KernelWgradMixIdeal.Own.grad m c, fun c => Cert.KernelWgradMixIdeal.Own.grad m c, ?_, ?_⟩
  · exact (θ_run _ _ _).mono (fun r h c => ⟨(h c).1.trans (Cert.KernelWgradMixIdeal.Own.final2 m c),
      (h c).2.1.trans (Cert.KernelWgradMixIdeal.Own.final3 m c), (h c).2.2⟩) (Cert.KernelWgradMixIdeal.Value.run_blocks m g)
  · exact (θ_run _ _ _).mono (fun r h c => ⟨(h c).1.trans (key c).symm, (h c).2.1.trans (key c).symm, (h c).2.2⟩)
      (Cert.ReferenceWgradMixIdeal.Value.run m' g')

end Cert.Own.WgradMix

end
-- ==== Proof.WgradProj.lean ====
/- The weight gradient of the input projection, two grids one after the other: what the program leaves in its two result arrays. -/
module

public import proofs.«01_k».proof.Proof.Gen.KernelWgradProjIdeal.Frame
public import proofs.«01_k».proof.Proof.Common
public import Idealize.ShloMosaic.Lib.Pipeline.Value
public import Idealize.ShloMosaic.Lib.Pipeline.ReadBack
public import Idealize.ShloMosaic.Lib.Pointwise
public import Idealize.ShloMosaic.Lib.Tactic
public import Idealize.ShloMosaic.PureOps.Ideal

@[expose] public section

noncomputable section

namespace Cert.KernelWgradProjIdeal.Own

open Cert.KernelWgradProjIdeal Cert.KernelWgradProjIdeal.Gen Idealize.ShloMosaic Idealize.ShloMosaic.TcCoe Idealize.SL.Sem
open Idealize.ShloMosaic.Tactic Idealize.SL Idealize.SL.RA Idealize.SL.BI
open scoped Idealize.SL.BI
open Idealize.SL.BI.BIBase Idealize.SL.BI.Laws Idealize.SL.ProofMode
open Idealize.ShloMosaic.Rounds
open Idealize.ShloMosaic.Pipeline (Dat)

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

section
variable (x0 : Vec F S4096x1024 .bf16) (x1 : Vec F S4x4096x256 .bf16) (xo : Vec F S4x1024x256 .f32)

/-! The four chunks of the accumulator, and of the second operand. The two grids run the same body, so these serve both. -/

def z0 : Vec F S1x1024x256 .f32 := View.ld xo (Rect.unit ![0, 0, 0] ![1, 1024, 256] inb_S4x1024x256_S1x1024x256_0_0_0)
def b0 : Vec F S1x4096x256 .bf16 := View.ld x1 (Rect.unit ![0, 0, 0] ![1, 4096, 256] inb_S4x4096x256_S1x4096x256_0_0_0)
def z1 : Vec F S1x1024x256 .f32 := View.ld xo (Rect.unit ![1, 0, 0] ![1, 1024, 256] inb_S4x1024x256_S1x1024x256_1_0_0)
def b1 : Vec F S1x4096x256 .bf16 := View.ld x1 (Rect.unit ![1, 0, 0] ![1, 4096, 256] inb_S4x4096x256_S1x4096x256_1_0_0)
def z2 : Vec F S1x1024x256 .f32 := View.ld xo (Rect.unit ![2, 0, 0] ![1, 1024, 256] inb_S4x1024x256_S1x1024x256_2_0_0)
def b2 : Vec F S1x4096x256 .bf16 := View.ld x1 (Rect.unit ![2, 0, 0] ![1, 4096, 256] inb_S4x4096x256_S1x4096x256_2_0_0)
def z3 : Vec F S1x1024x256 .f32 := View.ld xo (Rect.unit ![3, 0, 0] ![1, 1024, 256] inb_S4x1024x256_S1x1024x256_3_0_0)
def b3 : Vec F S1x4096x256 .bf16 := View.ld x1 (Rect.unit ![3, 0, 0] ![1, 4096, 256] inb_S4x4096x256_S1x4096x256_3_0_0)

/-- What a tile stores: each chunk with the product of the tile's rows added. -/
def pieces : List (View.Piece (Elt F) S4x1024x256 .f32) :=
  [⟨Rect.unit ![3, 0, 0] ![1, 1024, 256] inb_S4x1024x256_S1x1024x256_3_0_0, k0_pay2 (k0_pay5 x0) (z3 xo) (b3 x1)⟩,
    ⟨Rect.unit ![2, 0, 0] ![1, 1024, 256] inb_S4x1024x256_S1x1024x256_2_0_0, k0_pay1 (k0_pay5 x0) (k0_pay8 (z2 xo)) (b2 x1)⟩,
    ⟨Rect.unit ![1, 0, 0] ![1, 1024, 256] inb_S4x1024x256_S1x1024x256_1_0_0, k0_pay7 x0 (z1 xo) (b1 x1)⟩,
    ⟨Rect.unit ![0, 0, 0] ![1, 1024, 256] inb_S4x1024x256_S1x1024x256_0_0_0, k0_pay6 x0 (z0 xo) (b0 x1)⟩]

/-- A load of the whole block. -/
theorem ld_whole (X : Vec F S4x1024x256 .f32) :
    (fun j => X ((Rect.unit ![0, 0, 0] ![4, 1024, 256] inb_S4x1024x256_S4x1024x256_0_0_0).idx j)) = X :=
  View.ld_unit_zero (S := S4x1024x256) hz3 inb_S4x1024x256_S4x1024x256_0_0_0 X

variable (c : Dev nD) (a1 : Memref sig .tc .vmem S4096x1024 .bf16) (h1 : a1.IsWhole) (a2 : Memref sig .tc .vmem S4x4096x256 .bf16) (h2 : a2.IsWhole)
  (a3 : Memref sig .tc .vmem S4x1024x256 .f32) (h3 : a3.IsWhole) (a4 : Memref sig .tc .vmem S4x1024x256 .bf16) (h4 : a4.IsWhole)

/-! Grid 0: the first tile adds the chunks onto zero, the others onto what was there; at the last the second result is the first, rounded. -/

theorem out0_A (i : grid0.Coords) (hc0 : cond0_0 i) (hc1 : ¬cond0_1 i) : out0_A_2 c i a1 h1 a2 h2 a3 h3 a4 h4 hc0 hc1 x0 x1
    = View.canon (pieces x0 x1 k0_pay4 ++ [⟨Rect.unit ![0, 0, 0] ![4, 1024, 256] inb_S4x1024x256_S4x1024x256_0_0_0, k0_pay4⟩]) := by
  unfold out0_A_2
  rw [View.read_writes_eq_canon _ _ _ (cover0_A_2 c i a1 h1 a2 h2 a3 h3 a4 h4 hc0 hc1 x0 x1)]
  unfold kernelRun0_A
  dsimp only
  sl_unfold_words
  simp (disch := decide) only [↓ View.readCov_skip, ↓ View.readCov_cons_toLoadRect, ↓ View.readCov_fill]
  simp only [View.readAt_eq_ld, h1.read_unread, h2.read_unread, h3.read_unread, View.ld_unit_zero (S := S4096x1024) hz2, View.ld_unit_zero (S := S4x1024x256) hz3]
  rfl

theorem out0_B (i : grid0.Coords) (hc0 : ¬cond0_0 i) (hc1 : ¬cond0_1 i) : out0_B_2 c i a1 h1 a2 h2 a3 h3 a4 h4 hc0 hc1 x0 x1 xo
    = View.canon (pieces x0 x1 xo ++ []) := by
  unfold out0_B_2
  rw [View.read_writes_eq_canon _ _ _ (cover0_B_2 c i a1 h1 a2 h2 a3 h3 a4 h4 hc0 hc1 x0 x1 xo)]
  unfold kernelRun0_B
  dsimp only
  sl_unfold_words
  simp (disch := decide) only [↓ View.readCov_skip, ↓ View.readCov_cons_toLoadRect, ↓ View.readCov_fill]
  simp only [View.readAt_eq_ld, h1.read_unread, h2.read_unread, h3.read_unread, View.ld_unit_zero (S := S4096x1024) hz2, View.ld_unit_zero (S := S4x1024x256) hz3]
  rfl

theorem out0_C (i : grid0.Coords) (hc0 : ¬cond0_0 i) (hc1 : cond0_1 i) : out0_C_2 c i a1 h1 a2 h2 a3 h3 a4 h4 hc0 hc1 x0 x1 xo
    = View.canon (pieces x0 x1 xo ++ []) := by
  unfold out0_C_2
  rw [View.read_writes_eq_canon _ _ _ (cover0_C_2 c i a1 h1 a2 h2 a3 h3 a4 h4 hc0 hc1 x0 x1 xo)]
  unfold kernelRun0_C
  dsimp only
  sl_unfold_words
  simp (disch := decide) only [↓ View.readCov_skip, ↓ View.readCov_cons_toLoadRect, ↓ View.readCov_fill]
  simp only [View.readAt_eq_ld, h1.read_unread, h2.read_unread, h3.read_unread, View.ld_unit_zero (S := S4096x1024) hz2, View.ld_unit_zero (S := S4x1024x256) hz3]
  rfl

theorem out0_C' (i : grid0.Coords) (hc0 : ¬cond0_0 i) (hc1 : cond0_1 i) : out0_C_3 c i a1 h1 a2 h2 a3 h3 a4 h4 hc0 hc1 x0 x1 xo
    = k0_pay3 (View.canon (pieces x0 x1 xo ++ [])) := by
  unfold out0_C_3
  rw [View.read_writes_eq_canon _ _ _ (cover0_C_3 c i a1 h1 a2 h2 a3 h3 a4 h4 hc0 hc1 x0 x1 xo)]
  unfold kernelRun0_C
  dsimp only
  sl_unfold_words
  rw [View.canon_unit_zero (S := S4x1024x256) hz3, View.readCov_eq_canon']
  refine (congrArg k0_pay3 (ld_whole _)).trans ?_
  simp (disch := decide) only [↓ View.readCov_skip, ↓ View.readCov_cons_toLoadRect, ↓ View.readCov_fill]
  simp only [View.readAt_eq_ld, h1.read_unread, h2.read_unread, h3.read_unread, View.ld_unit_zero (S := S4096x1024) hz2, View.ld_unit_zero (S := S4x1024x256) hz3]
  rfl

/-! Grid 1: the first tile adds the chunks onto zero, the others onto what was there; at the last the second result is the first, rounded. -/

theorem out1_A (i : grid1.Coords) (hc0 : cond1_0 i) (hc1 : ¬cond1_1 i) : out1_A_2 c i a1 h1 a2 h2 a3 h3 a4 h4 hc0 hc1 x0 x1
    = View.canon (pieces x0 x1 k0_pay4 ++ [⟨Rect.unit ![0, 0, 0] ![4, 1024, 256] inb_S4x1024x256_S4x1024x256_0_0_0, k0_pay4⟩]) := by
  unfold out1_A_2
  rw [View.read_writes_eq_canon _ _ _ (cover1_A_2 c i a1 h1 a2 h2 a3 h3 a4 h4 hc0 hc1 x0 x1)]
  unfold kernelRun1_A
  dsimp only
  sl_unfold_words
  simp (disch := decide) only [↓ View.readCov_skip, ↓ View.readCov_cons_toLoadRect, ↓ View.readCov_fill]
  simp only [View.readAt_eq_ld, h1.read_unread, h2.read_unread, h3.read_unread, View.ld_unit_zero (S := S4096x1024) hz2, View.ld_unit_zero (S := S4x1024x256) hz3]
  rfl

theorem out1_B (i : grid1.Coords) (hc0 : ¬cond1_0 i) (hc1 : ¬cond1_1 i) : out1_B_2 c i a1 h1 a2 h2 a3 h3 a4 h4 hc0 hc1 x0 x1 xo
    = View.canon (pieces x0 x1 xo ++ []) := by
  unfold out1_B_2
  rw [View.read_writes_eq_canon _ _ _ (cover1_B_2 c i a1 h1 a2 h2 a3 h3 a4 h4 hc0 hc1 x0 x1 xo)]
  unfold kernelRun1_B
  dsimp only
  sl_unfold_words
  simp (disch := decide) only [↓ View.readCov_skip, ↓ View.readCov_cons_toLoadRect, ↓ View.readCov_fill]
  simp only [View.readAt_eq_ld, h1.read_unread, h2.read_unread, h3.read_unread, View.ld_unit_zero (S := S4096x1024) hz2, View.ld_unit_zero (S := S4x1024x256) hz3]
  rfl

theorem out1_C (i : grid1.Coords) (hc0 : ¬cond1_0 i) (hc1 : cond1_1 i) : out1_C_2 c i a1 h1 a2 h2 a3 h3 a4 h4 hc0 hc1 x0 x1 xo
    = View.canon (pieces x0 x1 xo ++ []) := by
  unfold out1_C_2
  rw [View.read_writes_eq_canon _ _ _ (cover1_C_2 c i a1 h1 a2 h2 a3 h3 a4 h4 hc0 hc1 x0 x1 xo)]
  unfold kernelRun1_C
  dsimp only
  sl_unfold_words
  simp (disch := decide) only [↓ View.readCov_skip, ↓ View.readCov_cons_toLoadRect, ↓ View.readCov_fill]
  simp only [View.readAt_eq_ld, h1.read_unread, h2.read_unread, h3.read_unread, View.ld_unit_zero (S := S4096x1024) hz2, View.ld_unit_zero (S := S4x1024x256) hz3]
  rfl

theorem out1_C' (i : grid1.Coords) (hc0 : ¬cond1_0 i) (hc1 : cond1_1 i) : out1_C_3 c i a1 h1 a2 h2 a3 h3 a4 h4 hc0 hc1 x0 x1 xo
    = k0_pay3 (View.canon (pieces x0 x1 xo ++ [])) := by
  unfold out1_C_3
  rw [View.read_writes_eq_canon _ _ _ (cover1_C_3 c i a1 h1 a2 h2 a3 h3 a4 h4 hc0 hc1 x0 x1 xo)]
  unfold kernelRun1_C
  dsimp only
  sl_unfold_words
  rw [View.canon_unit_zero (S := S4x1024x256) hz3, View.readCov_eq_canon']
  refine (congrArg k1_pay3 (ld_whole _)).trans ?_
  simp (disch := decide) only [↓ View.readCov_skip, ↓ View.readCov_cons_toLoadRect, ↓ View.readCov_fill]
  simp only [View.readAt_eq_ld, h1.read_unread, h2.read_unread, h3.read_unread, View.ld_unit_zero (S := S4096x1024) hz2, View.ld_unit_zero (S := S4x1024x256) hz3]
  rfl

end

/-! ## Over the extended reals -/

open Cert.Own

/-- What a tile adds, at an element. -/
def acc (x0 : Vec Ideal S4096x1024 .bf16) (x1 : Vec Ideal S4x4096x256 .bf16) (xo : Vec Ideal S4x1024x256 .f32) : S4x1024x256.Idx → EReal := fun i =>
  (xo i : EReal) + ∑ k : Fin 4096, (x0 (ix2 k (i 1)) : EReal) * (x1 (ix3 (i 0) k (i 2)) : EReal)

theorem piece0 (x0 : Vec Ideal S4096x1024 .bf16) (x1 : Vec Ideal S4x4096x256 .bf16) (xo : Vec Ideal S4x1024x256 .f32) (r : Fin 1024) (l : Fin 256) :
    (k0_pay6 x0 (z0 xo) (b0 x1) (ix3 0 r l) : EReal) = acc x0 x1 xo (ix3 0 r l) := by
  unfold acc
  pointwise [k0_pay6, z0, b0, k0_pay5]

theorem piece1 (x0 : Vec Ideal S4096x1024 .bf16) (x1 : Vec Ideal S4x4096x256 .bf16) (xo : Vec Ideal S4x1024x256 .f32) (r : Fin 1024) (l : Fin 256) :
    (k0_pay7 x0 (z1 xo) (b1 x1) (ix3 0 r l) : EReal) = acc x0 x1 xo (ix3 1 r l) := by
  unfold acc
  pointwise [k0_pay7, z1, b1, k0_pay5]

theorem piece2 (x0 : Vec Ideal S4096x1024 .bf16) (x1 : Vec Ideal S4x4096x256 .bf16) (xo : Vec Ideal S4x1024x256 .f32) (r : Fin 1024) (l : Fin 256) :
    (k0_pay1 (k0_pay5 x0) (k0_pay8 (z2 xo)) (b2 x1) (ix3 0 r l) : EReal) = acc x0 x1 xo (ix3 2 r l) := by
  unfold acc
  pointwise [k0_pay1, k0_pay8, z2, b2, k0_pay5]

theorem piece3 (x0 : Vec Ideal S4096x1024 .bf16) (x1 : Vec Ideal S4x4096x256 .bf16) (xo : Vec Ideal S4x1024x256 .f32) (r : Fin 1024) (l : Fin 256) :
    (k0_pay2 (k0_pay5 x0) (z3 xo) (b3 x1) (ix3 0 r l) : EReal) = acc x0 x1 xo (ix3 3 r l) := by
  unfold acc
  pointwise [k0_pay2, k0_pay5, z3, b3]

theorem canon_eq (x0 : Vec Ideal S4096x1024 .bf16) (x1 : Vec Ideal S4x4096x256 .bf16) (xo : Vec Ideal S4x1024x256 .f32)
    (L : List (View.Piece (Elt Ideal) S4x1024x256 .f32)) (n : Fin 4) (r : Fin 1024) (l : Fin 256) :
    View.canon (pieces x0 x1 xo ++ L) (ix3 n r l) = acc x0 x1 xo (ix3 n r l) := by
  refine View.canon_append_of_piecesOf (Val := Elt Ideal) (e := .f32) (acc x0 x1 xo) _ _ ?_ _ ?_
  · refine ⟨?_, ?_, ?_, ?_, trivial⟩
    all_goals
      intro x
      obtain ⟨z, r, l, rfl⟩ : ∃ (z : Fin 1) (r : Fin 1024) (l : Fin 256), x = ix3 z r l := ⟨x 0, x 1, x 2, eq_ix3 x⟩
      obtain rfl : z = 0 := Subsingleton.elim _ _
    · exact (piece3 x0 x1 xo r l).trans (congrArg _ (funext fun a => Fin.ext (by match a with | ⟨0, _⟩ => rfl | ⟨1, _⟩ => show r.val = 0 + 1 * r.val; omega | ⟨2, _⟩ => show l.val = 0 + 1 * l.val; omega)))
    · exact (piece2 x0 x1 xo r l).trans (congrArg _ (funext fun a => Fin.ext (by match a with | ⟨0, _⟩ => rfl | ⟨1, _⟩ => show r.val = 0 + 1 * r.val; omega | ⟨2, _⟩ => show l.val = 0 + 1 * l.val; omega)))
    · exact (piece1 x0 x1 xo r l).trans (congrArg _ (funext fun a => Fin.ext (by match a with | ⟨0, _⟩ => rfl | ⟨1, _⟩ => show r.val = 0 + 1 * r.val; omega | ⟨2, _⟩ => show l.val = 0 + 1 * l.val; omega)))
    · exact (piece0 x0 x1 xo r l).trans (congrArg _ (funext fun a => Fin.ext (by match a with | ⟨0, _⟩ => rfl | ⟨1, _⟩ => show r.val = 0 + 1 * r.val; omega | ⟨2, _⟩ => show l.val = 0 + 1 * l.val; omega)))
  · match n with
    | ⟨0, _⟩ => refine ⟨_, .tail _ (.tail _ (.tail _ (.head _))), ?_⟩; rw [Rect.mem_set_unit]; intro a; match a with | ⟨0, _⟩ => exact ⟨le_refl _, Nat.lt_succ_self _⟩ | ⟨1, _⟩ => exact ⟨Nat.zero_le _, by simpa using r.isLt⟩ | ⟨2, _⟩ => exact ⟨Nat.zero_le _, by simpa using l.isLt⟩
    | ⟨1, _⟩ => refine ⟨_, .tail _ (.tail _ (.head _)), ?_⟩; rw [Rect.mem_set_unit]; intro a; match a with | ⟨0, _⟩ => exact ⟨le_refl _, Nat.lt_succ_self _⟩ | ⟨1, _⟩ => exact ⟨Nat.zero_le _, by simpa using r.isLt⟩ | ⟨2, _⟩ => exact ⟨Nat.zero_le _, by simpa using l.isLt⟩
    | ⟨2, _⟩ => refine ⟨_, .tail _ (.head _), ?_⟩; rw [Rect.mem_set_unit]; intro a; match a with | ⟨0, _⟩ => exact ⟨le_refl _, Nat.lt_succ_self _⟩ | ⟨1, _⟩ => exact ⟨Nat.zero_le _, by simpa using r.isLt⟩ | ⟨2, _⟩ => exact ⟨Nat.zero_le _, by simpa using l.isLt⟩
    | ⟨3, _⟩ => refine ⟨_, .head _, ?_⟩; rw [Rect.mem_set_unit]; intro a; match a with | ⟨0, _⟩ => exact ⟨le_refl _, Nat.lt_succ_self _⟩ | ⟨1, _⟩ => exact ⟨Nat.zero_le _, by simpa using r.isLt⟩ | ⟨2, _⟩ => exact ⟨Nat.zero_le _, by simpa using l.isLt⟩

variable (M : (ℓ : Loc nD τ sig) → Buf (Elt Ideal) ℓ) (ρ : Dev nD → PrngReg)

theorem pay4_apply (i : S4x1024x256.Idx) : (k0_pay4 (F := Ideal) i : EReal) = 0 := by
  pointwise [k0_pay4]

theorem pay3_eq (x : Vec Ideal S4x1024x256 .f32) (i : S4x1024x256.Idx) : (k0_pay3 (F := Ideal) x i : EReal) = x i := by
  pointwise [k0_pay3]

/-- The two operands as the program is given them. -/
abbrev A (c : Dev nD) : S16384x1024.Idx → EReal := M ((c : Thread nD τ).loc main_arg0)
abbrev B (c : Dev nD) : S16384x5120.Idx → EReal := M ((c : Thread nD τ).loc main_arg1)

/-- The first operand reaches both grids as it is, -/
theorem V_v3 (c : Dev nD) (i : S16384x1024.Idx) : (V1 M ρ c main_v3 i : EReal) = A M c i := by
  show StableHlo.after hostOps0 (W0 M ρ c) main_v3 i = _
  after_results <;> rfl

/-- and the second in chunks of 256 columns, twelve to the first grid -/
theorem V_v4 (c : Dev nD) (n : Fin 12) (s : Fin 16384) (l : Fin 256) :
    (V1 M ρ c main_v4 (ix3 n s l) : EReal) = at2 (B M c) s.val (256 * n.val + l.val) := by
  have hn := n.isLt
  have hl := l.isLt
  rw [at2_of _ s.isLt (by omega)]
  have e : (V1 M ρ c main_v4 : Vec Ideal S12x16384x256 .bf16) = extractStridedSlice S12x16384x256 ![0, 0, 0] (truncf (F := Ideal) (φ := .f32) .bf16 (transpose S20x16384x256 [1, 0, 2] (shapeCast S16384x20x256 (B M c : Vec Ideal S16384x5120 .f32) shapeCasts_S16384x5120_S16384x20x256) transposes_S16384x20x256_S20x16384x256_1_0_2) bitsLt_bf16_f32) slices_S20x16384x256_S12x16384x256_0_0_0 := by
    show StableHlo.after hostOps0 (W0 M ρ c) main_v4 = _
    after_results <;> rfl
  rw [e]
  pointwise
  congr 2
  apply Fin.ext
  dsimp only
  omega

/-- and eight to the second. -/
theorem V_v5 (c : Dev nD) (n : Fin 8) (s : Fin 16384) (l : Fin 256) :
    (V1 M ρ c main_v5 (ix3 n s l) : EReal) = at2 (B M c) s.val (256 * (12 + n.val) + l.val) := by
  have hn := n.isLt
  have hl := l.isLt
  rw [at2_of _ s.isLt (by omega)]
  have e : (V1 M ρ c main_v5 : Vec Ideal S8x16384x256 .bf16) = extractStridedSlice S8x16384x256 ![12, 0, 0] (truncf (F := Ideal) (φ := .f32) .bf16 (transpose S20x16384x256 [1, 0, 2] (shapeCast S16384x20x256 (B M c : Vec Ideal S16384x5120 .f32) shapeCasts_S16384x5120_S16384x20x256) transposes_S16384x20x256_S20x16384x256_1_0_2) bitsLt_bf16_f32) slices_S20x16384x256_S8x16384x256_12_0_0 := by
    show StableHlo.after hostOps0 (W0 M ρ c) main_v5 = _
    after_results <;> rfl
  rw [e]
  pointwise
  congr 2
  apply Fin.ext
  dsimp only
  omega

/-- The second grid finds the operands as the first did. -/
theorem V3_of (c : Dev nD) (r : Ref sig .tc) (h1 : r ∉ hostOps1_W) (h : ∀ w : Fin cfg0.W, Pipeline.arrRef spec0 w = r → (cfg0.win w).isOut = false) :
    V3 M ρ c r = V1 M ρ c r := (W3_of M ρ c r h1).trans (W2_of M ρ c r h)

theorem V3_v3 (c : Dev nD) : V3 M ρ c main_v3 = V1 M ρ c main_v3 := V3_of M ρ c main_v3 (by decide) (by decide)
theorem V3_v5 (c : Dev nD) : V3 M ρ c main_v5 = V1 M ρ c main_v5 := V3_of M ρ c main_v5 (by decide) (by decide)

/-- One row's product in the gradient's element `(n, r, l)`. -/
def term (c : Dev nD) (n r l s : ℕ) : EReal := at2 (A M c) s r * at2 (B M c) s (256 * n + l)

/-- The gradient: element `(n, r, l)` is the product of column `r` of the first operand with column `256 n + l` of the second. -/
@[irreducible] def gradAt (c : Dev nD) (n r l : ℕ) : EReal := ∑ s ∈ Finset.range 16384, term M c n r l s

def grad (c : Dev nD) : S20x1024x256.Idx → EReal := fun i => gradAt M c (i 0).val (i 1).val (i 2).val

theorem grad_of (c : Dev nD) (i : S20x1024x256.Idx) (n r l : ℕ) (h0 : (i 0 : ℕ) = n) (h1 : (i 1 : ℕ) = r) (h2 : (i 2 : ℕ) = l) :
    gradAt M c n r l = grad M c i := by
  subst h0 h1 h2; rfl

theorem sum_tiles (c : Dev nD) (n r l : ℕ) :
    ∑ k ∈ Finset.range 4, ∑ s ∈ Finset.range 4096, term M c n r l (4096 * k + s) = gradAt M c n r l := by
  have e := sum_range_blocks 4096 (term M c n r l) 4
  rw [show 4096 * 4 = 16384 by norm_num] at e
  unfold gradAt
  exact e

/-! ## Grid 0 -/

theorem idx00 : ∀ t : Fin cfg0.N, win0_0.index t 0 = t.val % 4 ∧ win0_0.index t 1 = 0 := by decide +kernel
theorem idx01 : ∀ t : Fin cfg0.N, win0_1.index t 0 = t.val / 4 ∧ win0_1.index t 1 = t.val % 4 ∧ win0_1.index t 2 = 0 := by decide +kernel
theorem idx02 : ∀ t : Fin cfg0.N, win0_2.index t 0 = t.val / 4 ∧ win0_2.index t 1 = 0 ∧ win0_2.index t 2 = 0 := by decide +kernel
theorem idx03 : ∀ t : Fin cfg0.N, win0_3.index t 0 = t.val / 4 ∧ win0_3.index t 1 = 0 ∧ win0_3.index t 2 = 0 := by decide +kernel

/-- An operand's tile at point `t` is rows `4096 (t % 4) …`, of the second the chunks `4 (t / 4) …`. -/
theorem blk00 (c : Dev nD) (t : Fin cfg0.N) (k : Fin 4096) (r : Fin 1024) :
    (iblk0 (V1 M ρ) c 0 t (ix2 k r) : EReal) = at2 (A M c) (4096 * (t.val % 4) + k.val) r.val := by
  have hk := k.isLt
  rw [at2_of _ (by omega) r.isLt]
  unfold iblk0
  rw [View.read_apply]
  refine (V_v3 M ρ c _).trans (congrArg (A M c) (funext fun a => Fin.ext ?_))
  match a with
  | ⟨0, _⟩ => show win0_0.index t 0 * 4096 + 1 * k.val = 4096 * (t.val % 4) + k.val; rw [(idx00 t).1]; omega
  | ⟨1, _⟩ => show win0_0.index t 1 * 1024 + 1 * r.val = r.val; rw [(idx00 t).2]; omega

theorem blk01 (c : Dev nD) (t : Fin cfg0.N) (n : Fin 4) (k : Fin 4096) (l : Fin 256) :
    (iblk0 (V1 M ρ) c 1 t (ix3 n k l) : EReal) = at2 (B M c) (4096 * (t.val % 4) + k.val) (256 * (4 * (t.val / 4) + n.val) + l.val) := by
  have hk := k.isLt
  have hn := n.isLt
  have ht : t.val < 12 := lt_of_lt_of_eq t.isLt N_0
  refine Eq.trans ?_ (V_v4 M ρ c ⟨4 * (t.val / 4) + n.val, by omega⟩ ⟨4096 * (t.val % 4) + k.val, by omega⟩ l)
  unfold iblk0
  rw [View.read_apply]
  refine (congrArg (V1 M ρ c main_v4) (funext fun a => Fin.ext ?_))
  match a with
  | ⟨0, _⟩ => show win0_1.index t 0 * 4 + 1 * n.val = 4 * (t.val / 4) + n.val; rw [(idx01 t).1]; omega
  | ⟨1, _⟩ => show win0_1.index t 1 * 4096 + 1 * k.val = 4096 * (t.val % 4) + k.val; rw [(idx01 t).2.1]; omega
  | ⟨2, _⟩ => show win0_1.index t 2 * 256 + 1 * l.val = l.val; rw [(idx01 t).2.2]; omega

theorem tile0 (c : Dev nD) (t : Fin cfg0.N) (xo : Vec Ideal S4x1024x256 .f32) (n : Fin 4) (r : Fin 1024) (l : Fin 256) :
    acc (iblk0 (V1 M ρ) c 0 t) (iblk0 (V1 M ρ) c 1 t) xo (ix3 n r l)
      = (xo (ix3 n r l) : EReal) + ∑ k ∈ Finset.range 4096, term M c (4 * (t.val / 4) + n.val) r.val l.val (4096 * (t.val % 4) + k) := by
  rw [Finset.sum_range]
  unfold acc
  refine congrArg (_ + ·) (Finset.sum_congr rfl fun k _ => ?_)
  rw [term]
  exact congrArg₂ (· * ·) (blk00 M ρ c t k r) (blk01 M ρ c t n k l)

/-- After a point the block holds the sum over the row tiles so far. -/
theorem acc0_eq (c : Dev nD) (n : Fin 4) (r : Fin 1024) (l : Fin 256) : ∀ (t : ℕ) (h : t < cfg0.N),
    ((outsAt0 (V1 M ρ) c t h).1 (ix3 n r l) : EReal)
      = ∑ k ∈ Finset.range (t % 4 + 1), ∑ s ∈ Finset.range 4096, term M c (4 * (t / 4) + n.val) r.val l.val (4096 * k + s)
  | 0, h => by
    rw [outsAt0_A (V1 M ρ) c ⟨0, h⟩ rfl (by dsimp only; omega)]
    dsimp only
    rw [out0_A, canon_eq, tile0, pay4_apply, zero_add, Finset.sum_range_one]; rfl
  | t + 1, h => by
    have hN : t + 1 < 12 := lt_of_lt_of_eq h N_0
    by_cases h0 : (t + 1) % 4 = 0
    · rw [outsAt0_A (V1 M ρ) c ⟨t + 1, h⟩ h0 (by dsimp only; omega)]
      dsimp only
      rw [out0_A, canon_eq, tile0, pay4_apply, zero_add, h0, Finset.sum_range_one]
    · have e1 : (t + 1) % 4 = t % 4 + 1 := by omega
      have e2 : (t + 1) / 4 = t / 4 := by omega
      have step : (outsAt0 (V1 M ρ) c (t + 1) h).1 = View.canon (pieces (iblk0 (V1 M ρ) c 0 ⟨t + 1, h⟩) (iblk0 (V1 M ρ) c 1 ⟨t + 1, h⟩) (outsAt0 (V1 M ρ) c t (Nat.lt_of_succ_lt h)).1 ++ []) := by
        by_cases h3 : (t + 1) % 4 = 3
        · rw [outsAt0_C (V1 M ρ) c ⟨t + 1, h⟩ h0 h3]; dsimp only; rw [out0_C]; rfl
        · rw [outsAt0_B (V1 M ρ) c ⟨t + 1, h⟩ h0 h3]; dsimp only; rw [out0_B]; rfl
      rw [step, canon_eq, tile0, acc0_eq c n r l t, e1, e2, Finset.sum_range_succ _ (t % 4 + 1)]

theorem last0_2 (c : Dev nD) (t : Fin cfg0.N) (h3 : t.val % 4 = 3) (n : Fin 4) (r : Fin 1024) (l : Fin 256) :
    ((outsAt0 (V1 M ρ) c t.val t.isLt).1 (ix3 n r l) : EReal) = gradAt M c (4 * (t.val / 4) + n.val) r.val l.val := by
  rw [acc0_eq, h3]
  exact sum_tiles M c _ _ _

theorem last0_3 (c : Dev nD) (t : Fin cfg0.N) (h3 : t.val % 4 = 3) (n : Fin 4) (r : Fin 1024) (l : Fin 256) :
    ((outsAt0 (V1 M ρ) c t.val t.isLt).2 (ix3 n r l) : EReal) = gradAt M c (4 * (t.val / 4) + n.val) r.val l.val := by
  refine Eq.trans ?_ (last0_2 M ρ c t h3 n r l)
  rw [outsAt0_C (V1 M ρ) c t (by omega) h3]
  dsimp only
  rw [out0_C, out0_C', pay3_eq]

theorem flush02 : ∀ t : Fin cfg0.N, (cfg0.win 2).flush t = true → t.val % 4 = 3 := by decide +kernel
theorem point02 : ∀ n : Fin 3, ∃ t : Fin cfg0.N, (cfg0.win 2).flush t = true ∧ t.val / 4 = n.val := by decide +kernel

theorem flushed02 (c : Dev nD) (t : Fin cfg0.N) (hf : (cfg0.win 2).flush t = true) :
    (dat0 (V1 M ρ) c).flushed 2 t = ((cfg0.win 2).blk t).view.read (Elt Ideal) (grad M c) := by
  have h3 := flush02 t hf
  show (cfg0.win 2).cut (grid0.coords t) ((dat0 (V1 M ρ) c).after 2 t) = _
  rw [after0_2]
  funext y
  obtain ⟨n, r, l, rfl⟩ : ∃ (n : Fin 4) (r : Fin 1024) (l : Fin 256), y = ix3 n r l := ⟨y 0, y 1, y 2, eq_ix3 y⟩
  rw [View.read_apply]
  refine (last0_2 M ρ c t h3 n r l).trans ?_
  have e0 : ((((cfg0.win 2).blk t).view.emb (ix3 n r l)) 0 : ℕ) = (4 * (t.val / 4) + n.val) := by
    show win0_2.index t 0 * 4 + 1 * n.val = _; rw [(idx02 t).1]; omega
  have e1 : ((((cfg0.win 2).blk t).view.emb (ix3 n r l)) 1 : ℕ) = r.val := by
    show win0_2.index t 1 * 1024 + 1 * r.val = _; rw [(idx02 t).2.1]; omega
  have e2 : ((((cfg0.win 2).blk t).view.emb (ix3 n r l)) 2 : ℕ) = l.val := by
    show win0_2.index t 2 * 256 + 1 * l.val = _; rw [(idx02 t).2.2]; omega
  exact grad_of M c _ _ _ _ e0 e1 e2

theorem covered02 (i : S20x1024x256.Idx) (hi : (i 0 : ℕ) < 12) :
    ∃ t : Fin cfg0.N, (cfg0.win 2).flush t = true ∧ i ∈ ((cfg0.win 2).blk t).view.set := by
  have h0 : (i 0 : Nat) < 20 := (i 0).isLt
  have h1 : (i 1 : Nat) < 1024 := (i 1).isLt
  have h2 : (i 2 : Nat) < 256 := (i 2).isLt
  obtain ⟨t, hf, ht⟩ := point02 ⟨((i 0 : ℕ) - 0) / 4, by omega⟩
  dsimp only at ht
  refine ⟨t, hf, ?_⟩
  show i ∈ ((View.whole main_v6_0).slice (win0_2.rect t)).set
  rw [View.set_slice_whole, Rect.mem_set_unit]
  intro a
  match a with
  | ⟨0, _⟩ => show win0_2.index t 0 * 4 ≤ (i 0 : Nat) ∧ (i 0 : Nat) < win0_2.index t 0 * 4 + 4; rw [(idx02 t).1, ht]; omega
  | ⟨1, _⟩ => show win0_2.index t 1 * 1024 ≤ (i 1 : Nat) ∧ (i 1 : Nat) < win0_2.index t 1 * 1024 + 1024; rw [(idx02 t).2.1]; omega
  | ⟨2, _⟩ => show win0_2.index t 2 * 256 ≤ (i 2 : Nat) ∧ (i 2 : Nat) < win0_2.index t 2 * 256 + 256; rw [(idx02 t).2.2]; omega

/-- The first grid leaves the gradient's first twelve chunks. -/
theorem first2 (c : Dev nD) (i : S20x1024x256.Idx) (hi : (i 0 : ℕ) < 12) : ((dat0 (V1 M ρ) c).arrAt 2 cfg0.N i : EReal) = grad M c i := by
  rw [(dat0 (V1 M ρ) c).arrAt_eq_piecewise 2 (grad M c) (flushed02 M ρ c) i, if_pos (covered02 i hi)]

/-- The second grid finds them in its array. -/
theorem entry2 (c : Dev nD) : (dat1 (V3 M ρ) c).A 2 = (dat0 (V1 M ρ) c).arrAt 2 cfg0.N := by
  refine Eq.trans ?_ (W2_arr M ρ c 2)
  rw [A_eq1]
  show StableHlo.after hostOps1 (W2 M ρ c) main_v7_0 = W2 M ρ c main_v6_0
  after_results <;> rfl

theorem flush03 : ∀ t : Fin cfg0.N, (cfg0.win 3).flush t = true → t.val % 4 = 3 := by decide +kernel
theorem point03 : ∀ n : Fin 3, ∃ t : Fin cfg0.N, (cfg0.win 3).flush t = true ∧ t.val / 4 = n.val := by decide +kernel

theorem flushed03 (c : Dev nD) (t : Fin cfg0.N) (hf : (cfg0.win 3).flush t = true) :
    (dat0 (V1 M ρ) c).flushed 3 t = ((cfg0.win 3).blk t).view.read (Elt Ideal) (grad M c) := by
  have h3 := flush03 t hf
  show (cfg0.win 3).cut (grid0.coords t) ((dat0 (V1 M ρ) c).after 3 t) = _
  rw [after0_3]
  funext y
  obtain ⟨n, r, l, rfl⟩ : ∃ (n : Fin 4) (r : Fin 1024) (l : Fin 256), y = ix3 n r l := ⟨y 0, y 1, y 2, eq_ix3 y⟩
  rw [View.read_apply]
  refine (last0_3 M ρ c t h3 n r l).trans ?_
  have e0 : ((((cfg0.win 3).blk t).view.emb (ix3 n r l)) 0 : ℕ) = (4 * (t.val / 4) + n.val) := by
    show win0_3.index t 0 * 4 + 1 * n.val = _; rw [(idx03 t).1]; omega
  have e1 : ((((cfg0.win 3).blk t).view.emb (ix3 n r l)) 1 : ℕ) = r.val := by
    show win0_3.index t 1 * 1024 + 1 * r.val = _; rw [(idx03 t).2.1]; omega
  have e2 : ((((cfg0.win 3).blk t).view.emb (ix3 n r l)) 2 : ℕ) = l.val := by
    show win0_3.index t 2 * 256 + 1 * l.val = _; rw [(idx03 t).2.2]; omega
  exact grad_of M c _ _ _ _ e0 e1 e2

theorem covered03 (i : S20x1024x256.Idx) (hi : (i 0 : ℕ) < 12) :
    ∃ t : Fin cfg0.N, (cfg0.win 3).flush t = true ∧ i ∈ ((cfg0.win 3).blk t).view.set := by
  have h0 : (i 0 : Nat) < 20 := (i 0).isLt
  have h1 : (i 1 : Nat) < 1024 := (i 1).isLt
  have h2 : (i 2 : Nat) < 256 := (i 2).isLt
  obtain ⟨t, hf, ht⟩ := point03 ⟨((i 0 : ℕ) - 0) / 4, by omega⟩
  dsimp only at ht
  refine ⟨t, hf, ?_⟩
  show i ∈ ((View.whole main_v6_1).slice (win0_3.rect t)).set
  rw [View.set_slice_whole, Rect.mem_set_unit]
  intro a
  match a with
  | ⟨0, _⟩ => show win0_3.index t 0 * 4 ≤ (i 0 : Nat) ∧ (i 0 : Nat) < win0_3.index t 0 * 4 + 4; rw [(idx03 t).1, ht]; omega
  | ⟨1, _⟩ => show win0_3.index t 1 * 1024 ≤ (i 1 : Nat) ∧ (i 1 : Nat) < win0_3.index t 1 * 1024 + 1024; rw [(idx03 t).2.1]; omega
  | ⟨2, _⟩ => show win0_3.index t 2 * 256 ≤ (i 2 : Nat) ∧ (i 2 : Nat) < win0_3.index t 2 * 256 + 256; rw [(idx03 t).2.2]; omega

/-- The first grid leaves the gradient's first twelve chunks. -/
theorem first3 (c : Dev nD) (i : S20x1024x256.Idx) (hi : (i 0 : ℕ) < 12) : ((dat0 (V1 M ρ) c).arrAt 3 cfg0.N i : EReal) = grad M c i := by
  rw [(dat0 (V1 M ρ) c).arrAt_eq_piecewise 3 (grad M c) (flushed03 M ρ c) i, if_pos (covered03 i hi)]

/-- The second grid finds them in its array. -/
theorem entry3 (c : Dev nD) : (dat1 (V3 M ρ) c).A 3 = (dat0 (V1 M ρ) c).arrAt 3 cfg0.N := by
  refine Eq.trans ?_ (W2_arr M ρ c 3)
  rw [A_eq1]
  show StableHlo.after hostOps1 (W2 M ρ c) main_v7_1 = W2 M ρ c main_v6_1
  after_results <;> rfl

/-! ## Grid 1 -/

theorem idx10 : ∀ t : Fin cfg1.N, win1_0.index t 0 = t.val % 4 ∧ win1_0.index t 1 = 0 := by decide +kernel
theorem idx11 : ∀ t : Fin cfg1.N, win1_1.index t 0 = t.val / 4 ∧ win1_1.index t 1 = t.val % 4 ∧ win1_1.index t 2 = 0 := by decide +kernel
theorem idx12 : ∀ t : Fin cfg1.N, win1_2.index t 0 = 3 + t.val / 4 ∧ win1_2.index t 1 = 0 ∧ win1_2.index t 2 = 0 := by decide +kernel
theorem idx13 : ∀ t : Fin cfg1.N, win1_3.index t 0 = 3 + t.val / 4 ∧ win1_3.index t 1 = 0 ∧ win1_3.index t 2 = 0 := by decide +kernel

/-- An operand's tile at point `t` is rows `4096 (t % 4) …`, of the second the chunks `4 (t / 4) …`. -/
theorem blk10 (c : Dev nD) (t : Fin cfg1.N) (k : Fin 4096) (r : Fin 1024) :
    (iblk1 (V3 M ρ) c 0 t (ix2 k r) : EReal) = at2 (A M c) (4096 * (t.val % 4) + k.val) r.val := by
  have hk := k.isLt
  rw [at2_of _ (by omega) r.isLt]
  unfold iblk1
  rw [View.read_apply]
  refine (congrFun (V3_v3 M ρ c) _).trans ((V_v3 M ρ c _).trans (congrArg (A M c) (funext fun a => Fin.ext ?_)))
  match a with
  | ⟨0, _⟩ => show win1_0.index t 0 * 4096 + 1 * k.val = 4096 * (t.val % 4) + k.val; rw [(idx10 t).1]; omega
  | ⟨1, _⟩ => show win1_0.index t 1 * 1024 + 1 * r.val = r.val; rw [(idx10 t).2]; omega

theorem blk11 (c : Dev nD) (t : Fin cfg1.N) (n : Fin 4) (k : Fin 4096) (l : Fin 256) :
    (iblk1 (V3 M ρ) c 1 t (ix3 n k l) : EReal) = at2 (B M c) (4096 * (t.val % 4) + k.val) (256 * (12 + (4 * (t.val / 4) + n.val)) + l.val) := by
  have hk := k.isLt
  have hn := n.isLt
  have ht : t.val < 8 := lt_of_lt_of_eq t.isLt N_1
  refine Eq.trans ?_ (V_v5 M ρ c ⟨4 * (t.val / 4) + n.val, by omega⟩ ⟨4096 * (t.val % 4) + k.val, by omega⟩ l)
  unfold iblk1
  rw [View.read_apply]
  refine (congrFun (V3_v5 M ρ c) _).trans (congrArg (V1 M ρ c main_v5) (funext fun a => Fin.ext ?_))
  match a with
  | ⟨0, _⟩ => show win1_1.index t 0 * 4 + 1 * n.val = 4 * (t.val / 4) + n.val; rw [(idx11 t).1]; omega
  | ⟨1, _⟩ => show win1_1.index t 1 * 4096 + 1 * k.val = 4096 * (t.val % 4) + k.val; rw [(idx11 t).2.1]; omega
  | ⟨2, _⟩ => show win1_1.index t 2 * 256 + 1 * l.val = l.val; rw [(idx11 t).2.2]; omega

theorem tile1 (c : Dev nD) (t : Fin cfg1.N) (xo : Vec Ideal S4x1024x256 .f32) (n : Fin 4) (r : Fin 1024) (l : Fin 256) :
    acc (iblk1 (V3 M ρ) c 0 t) (iblk1 (V3 M ρ) c 1 t) xo (ix3 n r l)
      = (xo (ix3 n r l) : EReal) + ∑ k ∈ Finset.range 4096, term M c (12 + (4 * (t.val / 4) + n.val)) r.val l.val (4096 * (t.val % 4) + k) := by
  rw [Finset.sum_range]
  unfold acc
  refine congrArg (_ + ·) (Finset.sum_congr rfl fun k _ => ?_)
  rw [term]
  exact congrArg₂ (· * ·) (blk10 M ρ c t k r) (blk11 M ρ c t n k l)

/-- After a point the block holds the sum over the row tiles so far. -/
theorem acc1_eq (c : Dev nD) (n : Fin 4) (r : Fin 1024) (l : Fin 256) : ∀ (t : ℕ) (h : t < cfg1.N),
    ((outsAt1 (V3 M ρ) c t h).1 (ix3 n r l) : EReal)
      = ∑ k ∈ Finset.range (t % 4 + 1), ∑ s ∈ Finset.range 4096, term M c (12 + (4 * (t / 4) + n.val)) r.val l.val (4096 * k + s)
  | 0, h => by
    rw [outsAt1_A (V3 M ρ) c ⟨0, h⟩ rfl (by dsimp only; omega)]
    dsimp only
    rw [out1_A, canon_eq, tile1, pay4_apply, zero_add, Finset.sum_range_one]; rfl
  | t + 1, h => by
    have hN : t + 1 < 8 := lt_of_lt_of_eq h N_1
    by_cases h0 : (t + 1) % 4 = 0
    · rw [outsAt1_A (V3 M ρ) c ⟨t + 1, h⟩ h0 (by dsimp only; omega)]
      dsimp only
      rw [out1_A, canon_eq, tile1, pay4_apply, zero_add, h0, Finset.sum_range_one]
    · have e1 : (t + 1) % 4 = t % 4 + 1 := by omega
      have e2 : (t + 1) / 4 = t / 4 := by omega
      have step : (outsAt1 (V3 M ρ) c (t + 1) h).1 = View.canon (pieces (iblk1 (V3 M ρ) c 0 ⟨t + 1, h⟩) (iblk1 (V3 M ρ) c 1 ⟨t + 1, h⟩) (outsAt1 (V3 M ρ) c t (Nat.lt_of_succ_lt h)).1 ++ []) := by
        by_cases h3 : (t + 1) % 4 = 3
        · rw [outsAt1_C (V3 M ρ) c ⟨t + 1, h⟩ h0 h3]; dsimp only; rw [out1_C]; rfl
        · rw [outsAt1_B (V3 M ρ) c ⟨t + 1, h⟩ h0 h3]; dsimp only; rw [out1_B]; rfl
      rw [step, canon_eq, tile1, acc1_eq c n r l t, e1, e2, Finset.sum_range_succ _ (t % 4 + 1)]

theorem last1_2 (c : Dev nD) (t : Fin cfg1.N) (h3 : t.val % 4 = 3) (n : Fin 4) (r : Fin 1024) (l : Fin 256) :
    ((outsAt1 (V3 M ρ) c t.val t.isLt).1 (ix3 n r l) : EReal) = gradAt M c (12 + (4 * (t.val / 4) + n.val)) r.val l.val := by
  rw [acc1_eq, h3]
  exact sum_tiles M c _ _ _

theorem last1_3 (c : Dev nD) (t : Fin cfg1.N) (h3 : t.val % 4 = 3) (n : Fin 4) (r : Fin 1024) (l : Fin 256) :
    ((outsAt1 (V3 M ρ) c t.val t.isLt).2 (ix3 n r l) : EReal) = gradAt M c (12 + (4 * (t.val / 4) + n.val)) r.val l.val := by
  refine Eq.trans ?_ (last1_2 M ρ c t h3 n r l)
  rw [outsAt1_C (V3 M ρ) c t (by omega) h3]
  dsimp only
  rw [out1_C, out1_C', pay3_eq]

theorem flush12 : ∀ t : Fin cfg1.N, (cfg1.win 2).flush t = true → t.val % 4 = 3 := by decide +kernel
theorem point12 : ∀ n : Fin 2, ∃ t : Fin cfg1.N, (cfg1.win 2).flush t = true ∧ t.val / 4 = n.val := by decide +kernel

theorem flushed12 (c : Dev nD) (t : Fin cfg1.N) (hf : (cfg1.win 2).flush t = true) :
    (dat1 (V3 M ρ) c).flushed 2 t = ((cfg1.win 2).blk t).view.read (Elt Ideal) (grad M c) := by
  have h3 := flush12 t hf
  show (cfg1.win 2).cut (grid1.coords t) ((dat1 (V3 M ρ) c).after 2 t) = _
  rw [after1_2]
  funext y
  obtain ⟨n, r, l, rfl⟩ : ∃ (n : Fin 4) (r : Fin 1024) (l : Fin 256), y = ix3 n r l := ⟨y 0, y 1, y 2, eq_ix3 y⟩
  rw [View.read_apply]
  refine (last1_2 M ρ c t h3 n r l).trans ?_
  have e0 : ((((cfg1.win 2).blk t).view.emb (ix3 n r l)) 0 : ℕ) = (12 + (4 * (t.val / 4) + n.val)) := by
    show win1_2.index t 0 * 4 + 1 * n.val = _; rw [(idx12 t).1]; omega
  have e1 : ((((cfg1.win 2).blk t).view.emb (ix3 n r l)) 1 : ℕ) = r.val := by
    show win1_2.index t 1 * 1024 + 1 * r.val = _; rw [(idx12 t).2.1]; omega
  have e2 : ((((cfg1.win 2).blk t).view.emb (ix3 n r l)) 2 : ℕ) = l.val := by
    show win1_2.index t 2 * 256 + 1 * l.val = _; rw [(idx12 t).2.2]; omega
  exact grad_of M c _ _ _ _ e0 e1 e2

theorem covered12 (i : S20x1024x256.Idx) (hi : 12 ≤ (i 0 : ℕ)) :
    ∃ t : Fin cfg1.N, (cfg1.win 2).flush t = true ∧ i ∈ ((cfg1.win 2).blk t).view.set := by
  have h0 : (i 0 : Nat) < 20 := (i 0).isLt
  have h1 : (i 1 : Nat) < 1024 := (i 1).isLt
  have h2 : (i 2 : Nat) < 256 := (i 2).isLt
  obtain ⟨t, hf, ht⟩ := point12 ⟨((i 0 : ℕ) - 12) / 4, by omega⟩
  dsimp only at ht
  refine ⟨t, hf, ?_⟩
  show i ∈ ((View.whole main_v7_0).slice (win1_2.rect t)).set
  rw [View.set_slice_whole, Rect.mem_set_unit]
  intro a
  match a with
  | ⟨0, _⟩ => show win1_2.index t 0 * 4 ≤ (i 0 : Nat) ∧ (i 0 : Nat) < win1_2.index t 0 * 4 + 4; rw [(idx12 t).1, ht]; omega
  | ⟨1, _⟩ => show win1_2.index t 1 * 1024 ≤ (i 1 : Nat) ∧ (i 1 : Nat) < win1_2.index t 1 * 1024 + 1024; rw [(idx12 t).2.1]; omega
  | ⟨2, _⟩ => show win1_2.index t 2 * 256 ≤ (i 2 : Nat) ∧ (i 2 : Nat) < win1_2.index t 2 * 256 + 256; rw [(idx12 t).2.2]; omega

/-- The program's result: the gradient. -/
theorem final2 (c : Dev nD) : (dat1 (V3 M ρ) c).arrAt 2 cfg1.N = grad M c := by
  funext i
  rw [(dat1 (V3 M ρ) c).arrAt_eq_piecewise 2 (grad M c) (flushed12 M ρ c) i]
  split
  · rfl
  · rename_i h
    rw [entry2 M ρ c]
    exact first2 M ρ c i (by by_contra hi; exact h (covered12 i (by omega)))

theorem flush13 : ∀ t : Fin cfg1.N, (cfg1.win 3).flush t = true → t.val % 4 = 3 := by decide +kernel
theorem point13 : ∀ n : Fin 2, ∃ t : Fin cfg1.N, (cfg1.win 3).flush t = true ∧ t.val / 4 = n.val := by decide +kernel

theorem flushed13 (c : Dev nD) (t : Fin cfg1.N) (hf : (cfg1.win 3).flush t = true) :
    (dat1 (V3 M ρ) c).flushed 3 t = ((cfg1.win 3).blk t).view.read (Elt Ideal) (grad M c) := by
  have h3 := flush13 t hf
  show (cfg1.win 3).cut (grid1.coords t) ((dat1 (V3 M ρ) c).after 3 t) = _
  rw [after1_3]
  funext y
  obtain ⟨n, r, l, rfl⟩ : ∃ (n : Fin 4) (r : Fin 1024) (l : Fin 256), y = ix3 n r l := ⟨y 0, y 1, y 2, eq_ix3 y⟩
  rw [View.read_apply]
  refine (last1_3 M ρ c t h3 n r l).trans ?_
  have e0 : ((((cfg1.win 3).blk t).view.emb (ix3 n r l)) 0 : ℕ) = (12 + (4 * (t.val / 4) + n.val)) := by
    show win1_3.index t 0 * 4 + 1 * n.val = _; rw [(idx13 t).1]; omega
  have e1 : ((((cfg1.win 3).blk t).view.emb (ix3 n r l)) 1 : ℕ) = r.val := by
    show win1_3.index t 1 * 1024 + 1 * r.val = _; rw [(idx13 t).2.1]; omega
  have e2 : ((((cfg1.win 3).blk t).view.emb (ix3 n r l)) 2 : ℕ) = l.val := by
    show win1_3.index t 2 * 256 + 1 * l.val = _; rw [(idx13 t).2.2]; omega
  exact grad_of M c _ _ _ _ e0 e1 e2

theorem covered13 (i : S20x1024x256.Idx) (hi : 12 ≤ (i 0 : ℕ)) :
    ∃ t : Fin cfg1.N, (cfg1.win 3).flush t = true ∧ i ∈ ((cfg1.win 3).blk t).view.set := by
  have h0 : (i 0 : Nat) < 20 := (i 0).isLt
  have h1 : (i 1 : Nat) < 1024 := (i 1).isLt
  have h2 : (i 2 : Nat) < 256 := (i 2).isLt
  obtain ⟨t, hf, ht⟩ := point13 ⟨((i 0 : ℕ) - 12) / 4, by omega⟩
  dsimp only at ht
  refine ⟨t, hf, ?_⟩
  show i ∈ ((View.whole main_v7_1).slice (win1_3.rect t)).set
  rw [View.set_slice_whole, Rect.mem_set_unit]
  intro a
  match a with
  | ⟨0, _⟩ => show win1_3.index t 0 * 4 ≤ (i 0 : Nat) ∧ (i 0 : Nat) < win1_3.index t 0 * 4 + 4; rw [(idx13 t).1, ht]; omega
  | ⟨1, _⟩ => show win1_3.index t 1 * 1024 ≤ (i 1 : Nat) ∧ (i 1 : Nat) < win1_3.index t 1 * 1024 + 1024; rw [(idx13 t).2.1]; omega
  | ⟨2, _⟩ => show win1_3.index t 2 * 256 ≤ (i 2 : Nat) ∧ (i 2 : Nat) < win1_3.index t 2 * 256 + 256; rw [(idx13 t).2.2]; omega

/-- The program's result: the gradient. -/
theorem final3 (c : Dev nD) : (dat1 (V3 M ρ) c).arrAt 3 cfg1.N = grad M c := by
  funext i
  rw [(dat1 (V3 M ρ) c).arrAt_eq_piecewise 3 (grad M c) (flushed13 M ρ c) i]
  split
  · rfl
  · rename_i h
    rw [entry3 M ρ c]
    exact first3 M ρ c i (by by_contra hi; exact h (covered13 i (by omega)))

variable (m : (ℓ : Loc nD τ sig) → Buf (Elt F) ℓ)

set_option backward.isDefEq.respectTransparency.types false in
/-- The two grids run to the end, from any memory with zero counters: the results are what the second grid's blocks leave, the arguments as they were. -/
theorem run : θ_run defs (onTc (τ := τ) (main (F := F))) ⟨m, fun _ => 0, ρ⟩ (fun r => ∀ c : Dev nD,
      r.2.mem ((c.tc : Thread nD τ).loc main_v7_0) = (dat1 (V3 m ρ) c).arrAt 2 cfg1.N
      ∧ r.2.mem ((c.tc : Thread nD τ).loc main_v7_1) = (dat1 (V3 m ρ) c).arrAt 3 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt F) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt F) ℕ (UR sig nD τ) ℕ)) ⊢ bigSep Finset.univ (fun _ : Dev nD => (BI.emp : sProp (MT nD τ sig Unit (Elt F) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h hz => fun c =>
      ⟨(h c _ (mem_uc main_v7_0 (by decide))).trans (W4_arr m ρ c 2),
       (h c _ (mem_uc main_v7_1 (by decide))).trans (W4_arr m ρ c 3),
       (h c _ (mem_uc main_arg0 (by decide))).trans (W4_main_arg0 m ρ c),
       (h c _ (mem_uc main_arg1 (by decide))).trans (W4_main_arg1 m ρ c)⟩)

end Cert.KernelWgradProjIdeal.Own

end
-- ==== Proof.WgradProjClaim.lean ====
/- The weight gradient of the input projection: kernel and reference agree. -/
module

public import proofs.«01_k».proof.Proof.WgradProj
public import proofs.«01_k».proof.Proof.Gen.ReferenceWgradProjIdeal.Run
public import proofs.«01_k».proof.Defs

@[expose] public section

set_option maxRecDepth 16384

noncomputable section

namespace Cert.Own.WgradProj

open Idealize.ShloMosaic Idealize.ShloMosaic.TcCoe Idealize.SL.Sem Cert.Own
open Cert.ReferenceWgradProjIdeal Cert.ReferenceWgradProjIdeal.Gen

/-- The reference's product, split in twenty column blocks. -/
def ref (x : Vec Ideal S16384x1024 .f32) (y : Vec Ideal S16384x5120 .f32) : Vec Ideal S20x1024x256 .f32 :=
  transpose S20x1024x256 [1, 0, 2] (shapeCast _ (transpose S1024x5120 [1, 0] (Host.dotGeneral (F := Ideal) (φ₁ := .f32) (φ₂ := .f32) dot_S16384x5120_S16384x1024_S5120x1024_0_0_1_1_n_n none y x) transposes_S5120x1024_S1024x5120_1_0) shapeCasts_S1024x5120_S1024x20x256) transposes_S1024x20x256_S20x1024x256_1_0_2

/-- It is the gradient at every element. -/
theorem ref_apply (x : Vec Ideal S16384x1024 .f32) (y : Vec Ideal S16384x5120 .f32) (n : Fin 20) (r : Fin 1024) (l : Fin 256) :
    (ref x y (ix3 n r l) : EReal) = ∑ s ∈ Finset.range 16384, at2 x s r.val * at2 y s (256 * n.val + l.val) := by
  have hl := l.isLt
  have hn := n.isLt
  rw [Finset.sum_range]
  pointwise [ref]
  refine Finset.sum_congr rfl fun k _ => ?_
  rw [at2_of x k.isLt r.isLt, at2_of y k.isLt (by omega), mul_comm]
  congr 3
  apply Fin.ext
  dsimp only
  omega

theorem algebraic : Cert.algebraic_KernelWgradProjIdeal_ReferenceWgradProjIdeal := by
  intro m g m' g' _ hargs
  have key : ∀ c : Dev Cert.KernelWgradProjIdeal.nD, (Cert.KernelWgradProjIdeal.Own.grad m c : S20x1024x256.Idx → EReal)
      = ref (m' ((c.tc : Thread nD τ).loc main_arg0)) (m' ((c.tc : Thread nD τ).loc main_arg1)) := by
    intro c
    funext i
    obtain ⟨n, r, l, rfl⟩ : ∃ (n : Fin 20) (r : Fin 1024) (l : Fin 256), i = ix3 n r l := ⟨i 0, i 1, i 2, eq_ix3 i⟩
    refine Eq.trans ?_ (ref_apply _ _ n r l).symm
    rw [(hargs c).1, (hargs c).2]
    unfold Cert.KernelWgradProjIdeal.Own.grad Cert.KernelWgradProjIdeal.Own.gradAt
    rfl
  refine ⟨fun c => Cert.KernelWgradProjIdeal.Own.grad m c, fun c => Cert.KernelWgradProjIdeal.Own.grad m c, ?_, ?_⟩
  · exact (θ_run _ _ _).mono (fun r h c => ⟨(h c).1.trans (Cert.KernelWgradProjIdeal.Own.final2 m g c),
      (h c).2.1.trans (Cert.KernelWgradProjIdeal.Own.final3 m g c), (h c).2.2⟩) (Cert.KernelWgradProjIdeal.Own.run g m)
  · exact (θ_run _ _ _).mono (fun r h c => ⟨(h c).1.trans (key c).symm, (h c).2.1.trans (key c).symm, (h c).2.2⟩)
      (Cert.ReferenceWgradProjIdeal.Value.run m' g')

end Cert.Own.WgradProj

end
-- ==== Proof.Dx.lean ====
/- The gradient of the block's input: one tile of rows, its twenty products of column chunks and the norm's gradient. -/
module

public import proofs.«01_k».proof.Proof.Gen.KernelDxIdeal.Value
public import proofs.«01_k».proof.Proof.Norm
public import Idealize.ShloMosaic.Lib.Pipeline.Value
public import Idealize.ShloMosaic.Lib.Pointwise
public import Idealize.ShloMosaic.Lib.Tactic
public import Idealize.ShloMosaic.Lib.StableHlo.RunRead
public import Idealize.ShloMosaic.Lib.Pipeline.ValueKit.Tiles
public import Idealize.ShloMosaic.Lib.Pipeline.ValueKit
public import Idealize.ShloMosaic.PureOps.Ideal

@[expose] public section

noncomputable section

namespace Cert.KernelDxIdeal.Own

open Cert.KernelDxIdeal Cert.KernelDxIdeal.Gen Idealize.ShloMosaic Idealize.ShloMosaic.TcCoe Idealize.SL.Sem Cert.Own
open Idealize.ShloMosaic.Pipeline (Dat)

variable {F : FTy → Type} [FloatOps F]

theorem hz2 : (![0, 0] : Fin 2 → Nat) = fun _ => 0 := funext fun a => by fin_cases a <;> rfl

section
variable (x0 : Vec F S12x512x256 .bf16) (x1 : Vec F S8x512x256 .bf16) (x2 x3 : Vec F S512x1024 .f32) (x4 : Vec F S1x1024 .f32)
  (x5 : Vec F S4x1024x1280 .bf16) (xo : Vec F S1x1024 .f32)

/-- The first eight chunks. -/
def accA : FVec F S512x1024 .f32 := k0_pay5 (k0_pay3 (View.ld x0 (Rect.unit ![0, 0, 0] ![1, 512, 256] inb_S12x512x256_S1x512x256_0_0_0))
    (View.ld x5 (Rect.unit ![0, 0, 0] ![1, 1024, 256] inb_S4x1024x1280_S1x1024x256_0_0_0)) (View.ld x0 (Rect.unit ![1, 0, 0] ![1, 512, 256] inb_S12x512x256_S1x512x256_1_0_0))
    (View.ld x5 (Rect.unit ![0, 0, 256] ![1, 1024, 256] inb_S4x1024x1280_S1x1024x256_0_0_256)) (View.ld x0 (Rect.unit ![2, 0, 0] ![1, 512, 256] inb_S12x512x256_S1x512x256_2_0_0))
    (View.ld x5 (Rect.unit ![0, 0, 512] ![1, 1024, 256] inb_S4x1024x1280_S1x1024x256_0_0_512)))
    (k0_pay4 (View.ld x0 (Rect.unit ![3, 0, 0] ![1, 512, 256] inb_S12x512x256_S1x512x256_3_0_0))
    (View.ld x5 (Rect.unit ![0, 0, 768] ![1, 1024, 256] inb_S4x1024x1280_S1x1024x256_0_0_768)))
    (View.ld x0 (Rect.unit ![4, 0, 0] ![1, 512, 256] inb_S12x512x256_S1x512x256_4_0_0))
    (View.ld x5 (Rect.unit ![0, 0, 1024] ![1, 1024, 256] inb_S4x1024x1280_S1x1024x256_0_0_1024)) (View.ld x0 (Rect.unit ![5, 0, 0] ![1, 512, 256] inb_S12x512x256_S1x512x256_5_0_0))
    (View.ld x5 (Rect.unit ![1, 0, 0] ![1, 1024, 256] inb_S4x1024x1280_S1x1024x256_1_0_0)) (View.ld x0 (Rect.unit ![6, 0, 0] ![1, 512, 256] inb_S12x512x256_S1x512x256_6_0_0))
    (View.ld x5 (Rect.unit ![1, 0, 256] ![1, 1024, 256] inb_S4x1024x1280_S1x1024x256_1_0_256)) (View.ld x0 (Rect.unit ![7, 0, 0] ![1, 512, 256] inb_S12x512x256_S1x512x256_7_0_0))
    (View.ld x5 (Rect.unit ![1, 0, 512] ![1, 1024, 256] inb_S4x1024x1280_S1x1024x256_1_0_512))

/-- The first seventeen. -/
def accB : FVec F S512x1024 .f32 := k0_pay8 (k0_pay7 (accA x0 x5) (k0_pay6 (View.ld x0 (Rect.unit ![8, 0, 0] ![1, 512, 256] inb_S12x512x256_S1x512x256_8_0_0)))
    (View.ld x5 (Rect.unit ![1, 0, 768] ![1, 1024, 256] inb_S4x1024x1280_S1x1024x256_1_0_768)) (View.ld x0 (Rect.unit ![9, 0, 0] ![1, 512, 256] inb_S12x512x256_S1x512x256_9_0_0))
    (View.ld x5 (Rect.unit ![1, 0, 1024] ![1, 1024, 256] inb_S4x1024x1280_S1x1024x256_1_0_1024)) (View.ld x0 (Rect.unit ![10, 0, 0] ![1, 512, 256] inb_S12x512x256_S1x512x256_10_0_0))
    (View.ld x5 (Rect.unit ![2, 0, 0] ![1, 1024, 256] inb_S4x1024x1280_S1x1024x256_2_0_0)) (View.ld x0 (Rect.unit ![11, 0, 0] ![1, 512, 256] inb_S12x512x256_S1x512x256_11_0_0))
    (View.ld x5 (Rect.unit ![2, 0, 256] ![1, 1024, 256] inb_S4x1024x1280_S1x1024x256_2_0_256)) (View.ld x1 (Rect.unit ![0, 0, 0] ![1, 512, 256] inb_S8x512x256_S1x512x256_0_0_0))
    (View.ld x5 (Rect.unit ![2, 0, 512] ![1, 1024, 256] inb_S4x1024x1280_S1x1024x256_2_0_512)))
    (View.ld x1 (Rect.unit ![1, 0, 0] ![1, 512, 256] inb_S8x512x256_S1x512x256_1_0_0))
    (View.ld x5 (Rect.unit ![2, 0, 768] ![1, 1024, 256] inb_S4x1024x1280_S1x1024x256_2_0_768)) (View.ld x1 (Rect.unit ![2, 0, 0] ![1, 512, 256] inb_S8x512x256_S1x512x256_2_0_0))
    (View.ld x5 (Rect.unit ![2, 0, 1024] ![1, 1024, 256] inb_S4x1024x1280_S1x1024x256_2_0_1024)) (View.ld x1 (Rect.unit ![3, 0, 0] ![1, 512, 256] inb_S8x512x256_S1x512x256_3_0_0))
    (View.ld x5 (Rect.unit ![3, 0, 0] ![1, 1024, 256] inb_S4x1024x1280_S1x1024x256_3_0_0)) (View.ld x1 (Rect.unit ![4, 0, 0] ![1, 512, 256] inb_S8x512x256_S1x512x256_4_0_0))
    (View.ld x5 (Rect.unit ![3, 0, 256] ![1, 1024, 256] inb_S4x1024x1280_S1x1024x256_3_0_256))

/-- The gradient at the normalised rows: all twenty. -/
def duV : FVec F S512x1024 .f32 := k0_pay11 (accB x0 x1 x5) (k0_pay9 (View.ld x1 (Rect.unit ![5, 0, 0] ![1, 512, 256] inb_S8x512x256_S1x512x256_5_0_0)))
    (k0_pay10 (View.ld x5 (Rect.unit ![3, 0, 512] ![1, 1024, 256] inb_S4x1024x1280_S1x1024x256_3_0_512)))
    (View.ld x1 (Rect.unit ![6, 0, 0] ![1, 512, 256] inb_S8x512x256_S1x512x256_6_0_0))
    (View.ld x5 (Rect.unit ![3, 0, 768] ![1, 1024, 256] inb_S4x1024x1280_S1x1024x256_3_0_768)) (View.ld x1 (Rect.unit ![7, 0, 0] ![1, 512, 256] inb_S8x512x256_S1x512x256_7_0_0))
    (View.ld x5 (Rect.unit ![3, 0, 1024] ![1, 1024, 256] inb_S4x1024x1280_S1x1024x256_3_0_1024))

/-- What a tile adds to the gradient of the norm's weight, with what was there. -/
def dgV : FVec F S1x1024 .f32 := k0_pay14 (accB x0 x1 x5) (k0_pay9 (View.ld x1 (Rect.unit ![5, 0, 0] ![1, 512, 256] inb_S8x512x256_S1x512x256_5_0_0)))
    (k0_pay10 (View.ld x5 (Rect.unit ![3, 0, 512] ![1, 1024, 256] inb_S4x1024x1280_S1x1024x256_3_0_512)))
    (View.ld x1 (Rect.unit ![6, 0, 0] ![1, 512, 256] inb_S8x512x256_S1x512x256_6_0_0))
    (View.ld x5 (Rect.unit ![3, 0, 768] ![1, 1024, 256] inb_S4x1024x1280_S1x1024x256_3_0_768)) (View.ld x1 (Rect.unit ![7, 0, 0] ![1, 512, 256] inb_S8x512x256_S1x512x256_7_0_0))
    (View.ld x5 (Rect.unit ![3, 0, 1024] ![1, 1024, 256] inb_S4x1024x1280_S1x1024x256_3_0_1024)) x3 xo

/-- The tile's rows of the gradient of the block's input. -/
def dxV : FVec F S512x1024 .f32 := k0_pay1 (duV x0 x1 x5) x4 (k0_pay12 x3) (k0_pay13 x3) x2

variable (c : Dev nD) (i : grid0.Coords) (a1 : Memref sig .tc .vmem S12x512x256 .bf16) (h1 : a1.IsWhole) (a2 : Memref sig .tc .vmem S8x512x256 .bf16) (h2 : a2.IsWhole) (a3 : Memref sig .tc .vmem S512x1024 .f32) (h3 : a3.IsWhole) (a4 : Memref sig .tc .vmem S512x1024 .f32) (h4 : a4.IsWhole) (a5 : Memref sig .tc .vmem S1x1024 .f32) (h5 : a5.IsWhole) (a6 : Memref sig .tc .vmem S4x1024x1280 .bf16) (h6 : a6.IsWhole) (a7 : Memref sig .tc .vmem S512x1024 .f32) (h7 : a7.IsWhole) (a8 : Memref sig .tc .vmem S1x1024 .f32) (h8 : a8.IsWhole)

/-- The rows of the first result, at the first point, -/
theorem out_A6 (hc0 : cond0_0 i) : out0_A_6 c i a1 h1 a2 h2 a3 h3 a4 h4 a5 h5 a6 h6 a7 h7 a8 h8 hc0 x0 x1 x2 x3 x4 x5 = dxV x0 x1 x2 x3 x4 x5 := by
  unfold out0_A_6
  rw [View.read_writes_eq_canon _ _ _ (cover0_A_6 c i a1 h1 a2 h2 a3 h3 a4 h4 a5 h5 a6 h6 a7 h7 a8 h8 hc0 x0 x1 x2 x3 x4 x5)]
  unfold kernelRun0_A
  dsimp only
  sl_unfold_words
  rw [View.canon_unit_zero (S := S512x1024) hz2]
  simp only [View.readAt_eq_ld, h1.read_unread, h2.read_unread, h3.read_unread, h4.read_unread, h5.read_unread, h6.read_unread, h8.read_unread,
    View.ld_unit_zero (S := S512x1024) hz2, View.ld_unit_zero (S := S1x1024) hz2]
  rfl

/-- and at the others. -/
theorem out_B6 (hc0 : ¬cond0_0 i) : out0_B_6 c i a1 h1 a2 h2 a3 h3 a4 h4 a5 h5 a6 h6 a7 h7 a8 h8 hc0 x0 x1 x2 x3 x4 x5 xo = dxV x0 x1 x2 x3 x4 x5 := by
  unfold out0_B_6
  rw [View.read_writes_eq_canon _ _ _ (cover0_B_6 c i a1 h1 a2 h2 a3 h3 a4 h4 a5 h5 a6 h6 a7 h7 a8 h8 hc0 x0 x1 x2 x3 x4 x5 xo)]
  unfold kernelRun0_B
  dsimp only
  sl_unfold_words
  rw [View.canon_unit_zero (S := S512x1024) hz2]
  simp only [View.readAt_eq_ld, h1.read_unread, h2.read_unread, h3.read_unread, h4.read_unread, h5.read_unread, h6.read_unread, h8.read_unread,
    View.ld_unit_zero (S := S512x1024) hz2, View.ld_unit_zero (S := S1x1024) hz2]
  rfl

/-- The gradient of the norm's weight, at the first point, -/
theorem out_A7 (hc0 : cond0_0 i) : out0_A_7 c i a1 h1 a2 h2 a3 h3 a4 h4 a5 h5 a6 h6 a7 h7 a8 h8 hc0 x0 x1 x2 x3 x4 x5 = dgV x0 x1 x3 x5 k0_pay2 := by
  unfold out0_A_7
  rw [View.read_writes_eq_canon _ _ _ (cover0_A_7 c i a1 h1 a2 h2 a3 h3 a4 h4 a5 h5 a6 h6 a7 h7 a8 h8 hc0 x0 x1 x2 x3 x4 x5)]
  unfold kernelRun0_A
  dsimp only
  sl_unfold_words
  rw [View.canon_cons_unit_zero (S := S1x1024) hz2, View.readCov_unit_zero (S := S1x1024) _ hz2]
  simp only [View.readAt_eq_ld, h1.read_unread, h2.read_unread, h3.read_unread, h4.read_unread, h5.read_unread, h6.read_unread, h8.read_unread,
    View.ld_unit_zero (S := S512x1024) hz2, View.ld_unit_zero (S := S1x1024) hz2]
  rfl

/-- and at the others. -/
theorem out_B7 (hc0 : ¬cond0_0 i) : out0_B_7 c i a1 h1 a2 h2 a3 h3 a4 h4 a5 h5 a6 h6 a7 h7 a8 h8 hc0 x0 x1 x2 x3 x4 x5 xo = dgV x0 x1 x3 x5 xo := by
  unfold out0_B_7
  rw [View.read_writes_eq_canon _ _ _ (cover0_B_7 c i a1 h1 a2 h2 a3 h3 a4 h4 a5 h5 a6 h6 a7 h7 a8 h8 hc0 x0 x1 x2 x3 x4 x5 xo)]
  unfold kernelRun0_B
  dsimp only
  sl_unfold_words
  rw [View.canon_unit_zero (S := S1x1024) hz2]
  simp only [View.readAt_eq_ld, h1.read_unread, h2.read_unread, h3.read_unread, h4.read_unread, h5.read_unread, h6.read_unread, h8.read_unread,
    View.ld_unit_zero (S := S512x1024) hz2, View.ld_unit_zero (S := S1x1024) hz2]
  rfl

end

section Tile
variable (x0 : Vec Ideal S12x512x256 .bf16) (x1 : Vec Ideal S8x512x256 .bf16) (x2 x3 : Vec Ideal S512x1024 .f32)
  (x4 : Vec Ideal S1x1024 .f32) (x5 : Vec Ideal S4x1024x1280 .bf16) (xo : Vec Ideal S1x1024 .f32)

/-- Column `f` of a row of the gradient at the projection, out of its twenty chunks. -/
def dzOf (i : Fin 512) (f : Fin 5120) : EReal :=
  if h : f.val < 3072 then x0 (ix3 ⟨f / 256, by omega⟩ i ⟨f % 256, by omega⟩)
  else x1 (ix3 ⟨(f - 3072) / 256, by omega⟩ i ⟨(f - 3072) % 256, by omega⟩)

/-- The matrix, out of its four parts of columns. -/
def wOf (j : Fin 1024) (f : Fin 5120) : EReal := x5 (ix3 ⟨f / 1280, by omega⟩ j ⟨f % 1280, by omega⟩)

theorem dzOf_fst (i : Fin 512) (q : Fin 12) (r : Fin 256) (f : Fin 5120) (hf : f.val = 256 * q.val + r.val) :
    x0 (ix3 q i r) = dzOf x0 x1 i f := by
  unfold dzOf
  rw [dif_pos (by omega)]
  exact congrArg x0 (congrArg₂ (fun a b => ix3 a i b) (Fin.ext (show q.val = f.val / 256 by omega)) (Fin.ext (show r.val = f.val % 256 by omega)))

theorem dzOf_snd (i : Fin 512) (q : Fin 8) (r : Fin 256) (f : Fin 5120) (hf : f.val = 3072 + (256 * q.val + r.val)) :
    x1 (ix3 q i r) = dzOf x0 x1 i f := by
  unfold dzOf
  rw [dif_neg (by omega)]
  exact congrArg x1 (congrArg₂ (fun a b => ix3 a i b) (Fin.ext (show q.val = (f.val - 3072) / 256 by omega)) (Fin.ext (show r.val = (f.val - 3072) % 256 by omega)))

theorem wOf_eq (j : Fin 1024) (q : Fin 4) (l : Fin 1280) (f : Fin 5120) (hf : f.val = 1280 * q.val + l.val) :
    x5 (ix3 q j l) = wOf x5 j f := by
  unfold wOf
  exact congrArg x5 (congrArg₂ (fun a b => ix3 a j b) (Fin.ext (show q.val = f.val / 1280 by omega)) (Fin.ext (show l.val = f.val % 1280 by omega)))

/-- One entry of the gradient at the normalised rows. -/
def duT (i : Fin 512) (j : Fin 1024) : EReal := ∑ f : Fin 5120, dzOf x0 x1 i f * wOf x5 j f

/-- Its term at a natural number. -/
def duN (i : Fin 512) (j : Fin 1024) (s : ℕ) : EReal := if h : s < 5120 then dzOf x0 x1 i ⟨s, h⟩ * wOf x5 j ⟨s, h⟩ else 0

/-- A chunk of the first array's. -/
theorem chunk_fst (i : Fin 512) (j : Fin 1024) (k : ℕ) (hk : k < 12) :
    ∑ r : Fin 256, @HMul.hMul EReal EReal EReal _ (x0 (ix3 ⟨k, hk⟩ i r)) (x5 (ix3 ⟨k / 5, by omega⟩ j ⟨256 * (k % 5) + r.val, by omega⟩))
      = ∑ r ∈ Finset.range 256, duN x0 x1 x5 i j (256 * k + r) := by
  rw [Finset.sum_range]
  refine Finset.sum_congr rfl fun r _ => ?_
  unfold duN
  rw [dif_pos (by omega)]
  exact congrArg₂ (fun a b : EReal => a * b) (dzOf_fst x0 x1 i _ r _ rfl) (wOf_eq x5 j _ _ _ (by show 256 * k + r.val = 1280 * (k / 5) + (256 * (k % 5) + r.val); omega))

/-- A chunk of the second array's. -/
theorem chunk_snd (i : Fin 512) (j : Fin 1024) (k : ℕ) (hk : k < 8) :
    ∑ r : Fin 256, @HMul.hMul EReal EReal EReal _ (x1 (ix3 ⟨k, hk⟩ i r)) (x5 (ix3 ⟨(12 + k) / 5, by omega⟩ j ⟨256 * ((12 + k) % 5) + r.val, by omega⟩))
      = ∑ r ∈ Finset.range 256, duN x0 x1 x5 i j (256 * (12 + k) + r) := by
  rw [Finset.sum_range]
  refine Finset.sum_congr rfl fun r _ => ?_
  unfold duN
  rw [dif_pos (by omega)]
  exact congrArg₂ (fun a b : EReal => a * b) (dzOf_snd x0 x1 i _ r _ (by show 256 * (12 + k) + r.val = 3072 + (256 * k + r.val); omega))
    (wOf_eq x5 j _ _ _ (by show 256 * (12 + k) + r.val = 1280 * ((12 + k) / 5) + (256 * ((12 + k) % 5) + r.val); omega))

theorem du_apply (i : Fin 512) (j : Fin 1024) : duV x0 x1 x5 (ix2 i j) = duT x0 x1 x5 i j := by
  have e := sum_range_blocks 256 (duN x0 x1 x5 i j) 20
  have e' : ∑ s ∈ Finset.range (256 * 20), duN x0 x1 x5 i j s = duT x0 x1 x5 i j := by
    rw [show 256 * 20 = 5120 by norm_num, Finset.sum_range]
    unfold duT
    exact Finset.sum_congr rfl fun f _ => by rw [duN, dif_pos f.isLt]
  rw [← e', ← e]
  iterate 20 rw [Finset.sum_range_succ]
  rw [Finset.sum_range_zero]
  pointwise [duV, k0_pay11, k0_pay10, k0_pay9, accB, k0_pay8, k0_pay7, k0_pay6, accA, k0_pay5, k0_pay4, k0_pay3]
  try rw [zero_add]
  refine congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (?_) ?_) ?_) ?_) ?_) ?_) ?_) ?_) ?_) ?_) ?_) ?_) ?_) ?_) ?_) ?_) ?_) ?_) ?_) ?_
  · exact chunk_fst x0 x1 x5 i j 0 (by decide)
  · exact chunk_fst x0 x1 x5 i j 1 (by decide)
  · exact chunk_fst x0 x1 x5 i j 2 (by decide)
  · exact chunk_fst x0 x1 x5 i j 3 (by decide)
  · exact chunk_fst x0 x1 x5 i j 4 (by decide)
  · exact chunk_fst x0 x1 x5 i j 5 (by decide)
  · exact chunk_fst x0 x1 x5 i j 6 (by decide)
  · exact chunk_fst x0 x1 x5 i j 7 (by decide)
  · exact chunk_fst x0 x1 x5 i j 8 (by decide)
  · exact chunk_fst x0 x1 x5 i j 9 (by decide)
  · exact chunk_fst x0 x1 x5 i j 10 (by decide)
  · exact chunk_fst x0 x1 x5 i j 11 (by decide)
  · exact chunk_snd x0 x1 x5 i j 0 (by decide)
  · exact chunk_snd x0 x1 x5 i j 1 (by decide)
  · exact chunk_snd x0 x1 x5 i j 2 (by decide)
  · exact chunk_snd x0 x1 x5 i j 3 (by decide)
  · exact chunk_snd x0 x1 x5 i j 4 (by decide)
  · exact chunk_snd x0 x1 x5 i j 5 (by decide)
  · exact chunk_snd x0 x1 x5 i j 6 (by decide)
  · exact chunk_snd x0 x1 x5 i j 7 (by decide)

/-- A row of the tile's gradient of the block's input. -/
theorem dx_apply (i : Fin 512) (j : Fin 1024) : dxV x0 x1 x2 x3 x4 x5 (ix2 i j)
    = rowDh (fun k => x2 (ix2 i k)) (fun k => x3 (ix2 i k)) (fun k => x4 (ix2 0 k)) (duT x0 x1 x5 i) j := by
  pointwise [dxV, k0_pay1, k0_pay12, k0_pay13]
  simp only [du_apply]
  rfl

/-- The tile's sum for the gradient of the norm's weight. -/
theorem dg_apply (j : Fin 1024) : dgV x0 x1 x3 x5 xo (ix2 0 j)
    = xo (ix2 0 j) + ∑ i : Fin 512, duT x0 x1 x5 i j * (x3 (ix2 i j) * rowR (fun k => x3 (ix2 i k))) := by
  have h : (k0_pay11 (accB x0 x1 x5) (k0_pay9 (View.ld x1 (Rect.unit ![5, 0, 0] ![1, 512, 256] inb_S8x512x256_S1x512x256_5_0_0)))
    (k0_pay10 (View.ld x5 (Rect.unit ![3, 0, 512] ![1, 1024, 256] inb_S4x1024x1280_S1x1024x256_3_0_512)))
    (View.ld x1 (Rect.unit ![6, 0, 0] ![1, 512, 256] inb_S8x512x256_S1x512x256_6_0_0))
    (View.ld x5 (Rect.unit ![3, 0, 768] ![1, 1024, 256] inb_S4x1024x1280_S1x1024x256_3_0_768)) (View.ld x1 (Rect.unit ![7, 0, 0] ![1, 512, 256] inb_S8x512x256_S1x512x256_7_0_0))
    (View.ld x5 (Rect.unit ![3, 0, 1024] ![1, 1024, 256] inb_S4x1024x1280_S1x1024x256_3_0_1024))) = duV x0 x1 x5 := rfl
  pointwise [dgV, k0_pay14, k0_pay12, k0_pay13]
  simp only [h, du_apply]
  rfl

end Tile

end Cert.KernelDxIdeal.Own

end
-- ==== Proof.DxArray.lean ====
/- The gradient of the block's input: what the kernel leaves in its two result arrays. -/
module

public import proofs.«01_k».proof.Proof.Dx
public import Idealize.ShloMosaic.Lib.Pipeline.Value
public import Idealize.ShloMosaic.Lib.Pointwise
public import Idealize.ShloMosaic.Lib.Tactic
public import Idealize.ShloMosaic.Lib.StableHlo.RunRead
public import Idealize.ShloMosaic.Lib.Pipeline.ValueKit.Tiles
public import Idealize.ShloMosaic.Lib.Pipeline.ValueKit
public import Idealize.ShloMosaic.PureOps.Ideal

@[expose] public section

noncomputable section

namespace Cert.KernelDxIdeal.Own

open Cert.KernelDxIdeal Cert.KernelDxIdeal.Gen Idealize.ShloMosaic Idealize.ShloMosaic.TcCoe Idealize.SL.Sem Cert.Own
open Idealize.ShloMosaic.Pipeline (Dat)

variable (M : (ℓ : Loc nD τ sig) → Buf (Elt Ideal) ℓ)

/-! ## The operands -/

abbrev aDz (c : Dev nD) : S16384x3072.Idx → EReal := M ((c : Thread nD τ).loc main_arg0)
abbrev aDg (c : Dev nD) : S16384x2048.Idx → EReal := M ((c : Thread nD τ).loc main_arg1)
abbrev aDh (c : Dev nD) : S16384x1024.Idx → EReal := M ((c : Thread nD τ).loc main_arg2)
abbrev aX (c : Dev nD) : S16384x1024.Idx → EReal := M ((c : Thread nD τ).loc main_arg3)
abbrev aG (c : Dev nD) : S1x1024.Idx → EReal := M ((c : Thread nD τ).loc main_arg4)
abbrev aW (c : Dev nD) : S1024x5120.Idx → EReal := M ((c : Thread nD τ).loc main_arg5)

theorem V_v4 (c : Dev nD) (q : Fin 12) (n : Fin 16384) (l : Fin 256) (f : Fin 3072) (hf : f.val = q.val * 256 + l.val) :
    (V M c main_v4 (ix3 q n l) : EReal) = aDz M c (ix2 n f) := by
  show StableHlo.after hostOps0 (fun b => M (c, b)) main_v4 (ix3 q n l) = _
  after_reads_simp
  pointwise
  exact congrArg (fun f => aDz M c (ix2 n f)) (Fin.ext hf.symm)

theorem V_v7 (c : Dev nD) (q : Fin 8) (n : Fin 16384) (l : Fin 256) (f : Fin 2048) (hf : f.val = q.val * 256 + l.val) :
    (V M c main_v7 (ix3 q n l) : EReal) = aDg M c (ix2 n f) := by
  show StableHlo.after hostOps0 (fun b => M (c, b)) main_v7 (ix3 q n l) = _
  after_reads_simp
  pointwise
  exact congrArg (fun f => aDg M c (ix2 n f)) (Fin.ext hf.symm)

theorem V_v8 (c : Dev nD) (q : Fin 4) (j : Fin 1024) (l : Fin 1280) (f : Fin 5120) (hf : f.val = q.val * 1280 + l.val) :
    (V M c main_v8 (ix3 q j l) : EReal) = aW M c (ix2 j f) := by
  show StableHlo.after hostOps0 (fun b => M (c, b)) main_v8 (ix3 q j l) = _
  after_reads_simp
  pointwise
  exact congrArg (fun f => aW M c (ix2 j f)) (Fin.ext hf.symm)

theorem V_arg2 (c : Dev nD) : (V M c main_arg2) = aDh M c := by
  show StableHlo.after hostOps0 (fun b => M (c, b)) main_arg2 = _
  after_reads_simp

theorem V_arg3 (c : Dev nD) : (V M c main_arg3) = aX M c := by
  show StableHlo.after hostOps0 (fun b => M (c, b)) main_arg3 = _
  after_reads_simp

theorem V_arg4 (c : Dev nD) : (V M c main_arg4) = aG M c := by
  show StableHlo.after hostOps0 (fun b => M (c, b)) main_arg4 = _
  after_reads_simp

/-! ## The blocks of a point -/

theorem idx0 : ∀ t : Fin cfg0.N, win0_0.index t 0 = 0 ∧ win0_0.index t 1 = t.val ∧ win0_0.index t 2 = 0 := by decide +kernel
theorem idx1 : ∀ t : Fin cfg0.N, win0_1.index t 0 = 0 ∧ win0_1.index t 1 = t.val ∧ win0_1.index t 2 = 0 := by decide +kernel
theorem idx2 : ∀ t : Fin cfg0.N, win0_2.index t 0 = t.val ∧ win0_2.index t 1 = 0 := by decide +kernel
theorem idx3 : ∀ t : Fin cfg0.N, win0_3.index t 0 = t.val ∧ win0_3.index t 1 = 0 := by decide +kernel
theorem idx4 : ∀ t : Fin cfg0.N, win0_4.index t 0 = 0 ∧ win0_4.index t 1 = 0 := by decide +kernel
theorem idx5 : ∀ t : Fin cfg0.N, win0_5.index t 0 = 0 ∧ win0_5.index t 1 = 0 ∧ win0_5.index t 2 = 0 := by decide +kernel
theorem idx6 : ∀ t : Fin cfg0.N, win0_6.index t 0 = t.val ∧ win0_6.index t 1 = 0 := by decide +kernel
theorem idx7 : ∀ t : Fin cfg0.N, win0_7.index t 0 = 0 ∧ win0_7.index t 1 = 0 := by decide +kernel

/-- Row `i` of the tile of point `t`, in the whole array. -/
def rowIx (t : Fin cfg0.N) (i : Fin 512) : Fin 16384 :=
  ⟨512 * t.val + i.val, by have := lt_of_lt_of_eq t.isLt N_0; have := i.isLt; omega⟩

theorem iblk0 (c : Dev nD) (t : Fin cfg0.N) (q : Fin 12) (i : Fin 512) (l : Fin 256) :
    (iblk M c 0 t (ix3 q i l) : EReal) = V M c main_v4 (ix3 q (rowIx t i) l) := by
  unfold iblk
  rw [View.read_apply]
  refine congrArg (V M c main_v4) (funext fun a => Fin.ext ?_)
  match a with
  | ⟨0, _⟩ => show win0_0.index t 0 * 12 + 1 * q.val = q.val; rw [(idx0 t).1]; omega
  | ⟨1, _⟩ => show win0_0.index t 1 * 512 + 1 * i.val = 512 * t.val + i.val; rw [(idx0 t).2.1]; omega
  | ⟨2, _⟩ => show win0_0.index t 2 * 256 + 1 * l.val = l.val; rw [(idx0 t).2.2]; omega

theorem iblk1 (c : Dev nD) (t : Fin cfg0.N) (q : Fin 8) (i : Fin 512) (l : Fin 256) :
    (iblk M c 1 t (ix3 q i l) : EReal) = V M c main_v7 (ix3 q (rowIx t i) l) := by
  unfold iblk
  rw [View.read_apply]
  refine congrArg (V M c main_v7) (funext fun a => Fin.ext ?_)
  match a with
  | ⟨0, _⟩ => show win0_1.index t 0 * 8 + 1 * q.val = q.val; rw [(idx1 t).1]; omega
  | ⟨1, _⟩ => show win0_1.index t 1 * 512 + 1 * i.val = 512 * t.val + i.val; rw [(idx1 t).2.1]; omega
  | ⟨2, _⟩ => show win0_1.index t 2 * 256 + 1 * l.val = l.val; rw [(idx1 t).2.2]; omega

theorem iblk2 (c : Dev nD) (t : Fin cfg0.N) (i : Fin 512) (k : Fin 1024) :
    (iblk M c 2 t (ix2 i k) : EReal) = aDh M c (ix2 (rowIx t i) k) := by
  unfold iblk
  rw [View.read_apply]
  refine (congrFun (V_arg2 M c) _).trans (congrArg (aDh M c) (funext fun a => Fin.ext ?_))
  match a with
  | ⟨0, _⟩ => show win0_2.index t 0 * 512 + 1 * i.val = 512 * t.val + i.val; rw [(idx2 t).1]; omega
  | ⟨1, _⟩ => show win0_2.index t 1 * 1024 + 1 * k.val = k.val; rw [(idx2 t).2]; omega

theorem iblk3 (c : Dev nD) (t : Fin cfg0.N) (i : Fin 512) (k : Fin 1024) :
    (iblk M c 3 t (ix2 i k) : EReal) = aX M c (ix2 (rowIx t i) k) := by
  unfold iblk
  rw [View.read_apply]
  refine (congrFun (V_arg3 M c) _).trans (congrArg (aX M c) (funext fun a => Fin.ext ?_))
  match a with
  | ⟨0, _⟩ => show win0_3.index t 0 * 512 + 1 * i.val = 512 * t.val + i.val; rw [(idx3 t).1]; omega
  | ⟨1, _⟩ => show win0_3.index t 1 * 1024 + 1 * k.val = k.val; rw [(idx3 t).2]; omega

theorem iblk4 (c : Dev nD) (t : Fin cfg0.N) (k : Fin 1024) :
    (iblk M c 4 t (ix2 0 k) : EReal) = aG M c (ix2 0 k) := by
  unfold iblk
  rw [View.read_apply]
  refine (congrFun (V_arg4 M c) _).trans (congrArg (aG M c) (funext fun a => Fin.ext ?_))
  match a with
  | ⟨0, _⟩ => show win0_4.index t 0 * 1 + 1 * 0 = 0; rw [(idx4 t).1]
  | ⟨1, _⟩ => show win0_4.index t 1 * 1024 + 1 * k.val = k.val; rw [(idx4 t).2]; omega

theorem iblk5 (c : Dev nD) (t : Fin cfg0.N) (q : Fin 4) (j : Fin 1024) (l : Fin 1280) :
    (iblk M c 5 t (ix3 q j l) : EReal) = V M c main_v8 (ix3 q j l) := by
  unfold iblk
  rw [View.read_apply]
  refine congrArg (V M c main_v8) (funext fun a => Fin.ext ?_)
  match a with
  | ⟨0, _⟩ => show win0_5.index t 0 * 4 + 1 * q.val = q.val; rw [(idx5 t).1]; omega
  | ⟨1, _⟩ => show win0_5.index t 1 * 1024 + 1 * j.val = j.val; rw [(idx5 t).2.1]; omega
  | ⟨2, _⟩ => show win0_5.index t 2 * 1280 + 1 * l.val = l.val; rw [(idx5 t).2.2]; omega

/-! ## The results, row by row -/

abbrev rX (c : Dev nD) (n : Fin 16384) : Fin 1024 → EReal := fun k => aX M c (ix2 n k)
abbrev rDh (c : Dev nD) (n : Fin 16384) : Fin 1024 → EReal := fun k => aDh M c (ix2 n k)
abbrev vG (c : Dev nD) : Fin 1024 → EReal := fun k => aG M c (ix2 0 k)

/-- A row of the gradient at the projection: the two arrays side by side. -/
def rDz (c : Dev nD) (n : Fin 16384) (f : Fin 5120) : EReal :=
  if h : f.val < 3072 then aDz M c (ix2 n ⟨f.val, h⟩) else aDg M c (ix2 n ⟨f.val - 3072, by omega⟩)

def duA (c : Dev nD) (n : Fin 16384) (j : Fin 1024) : EReal := ∑ f, rDz M c n f * aW M c (ix2 j f)
def dxA (c : Dev nD) (n : Fin 16384) (j : Fin 1024) : EReal := rowDh (rDh M c n) (rX M c n) (vG M c) (duA M c n) j
def dgTerm (c : Dev nD) (j : Fin 1024) (n : Fin 16384) : EReal := duA M c n j * (rX M c n j * rowR (rX M c n))
@[irreducible] def dgA (c : Dev nD) (j : Fin 1024) : EReal := ∑ n, dgTerm M c j n

theorem w_eq (c : Dev nD) (t : Fin cfg0.N) (j : Fin 1024) (f : Fin 5120) : wOf (iblk M c 5 t) j f = aW M c (ix2 j f) := by
  unfold wOf
  exact (iblk5 M c t _ _ _).trans (V_v8 M c _ _ _ _ (by show f.val = f.val / 1280 * 1280 + f.val % 1280; omega))

theorem dz_eq (c : Dev nD) (t : Fin cfg0.N) (i : Fin 512) (f : Fin 5120) :
    dzOf (iblk M c 0 t) (iblk M c 1 t) i f = rDz M c (rowIx t i) f := by
  unfold dzOf rDz
  split_ifs with h
  · exact (iblk0 M c t _ _ _).trans (V_v4 M c _ _ _ _ (by show f.val = f.val / 256 * 256 + f.val % 256; omega))
  · exact (iblk1 M c t _ _ _).trans (V_v7 M c _ _ _ _ (by show f.val - 3072 = (f.val - 3072) / 256 * 256 + (f.val - 3072) % 256; omega))

theorem duT_eq (c : Dev nD) (t : Fin cfg0.N) (i : Fin 512) :
    duT (iblk M c 0 t) (iblk M c 1 t) (iblk M c 5 t) i = duA M c (rowIx t i) := by
  funext j
  unfold duT duA
  exact Finset.sum_congr rfl fun f _ => by rw [w_eq, dz_eq]

/-- At a point the first result's block holds its rows. -/
theorem out6_eq (c : Dev nD) (t : Fin cfg0.N) (i : Fin 512) (j : Fin 1024) :
    ((outsAt0 M c t.val t.isLt).1 (ix2 i j) : EReal) = dxA M c (rowIx t i) j := by
  have e : (outsAt0 M c t.val t.isLt).1 = dxV (iblk M c 0 t) (iblk M c 1 t) (iblk M c 2 t) (iblk M c 3 t) (iblk M c 4 t) (iblk M c 5 t) := by
    by_cases h0 : t.val % 32 = 0
    · rw [outsAt0_A M c t h0]; dsimp only; rw [out_A6]
    · rw [outsAt0_B M c t h0]; dsimp only; rw [out_B6]
  rw [e, dx_apply, duT_eq]
  unfold dxA
  rw [(funext fun k => iblk2 M c t i k : (fun k => iblk M c 2 t (ix2 i k)) = rDh M c (rowIx t i)),
    (funext fun k => iblk3 M c t i k : (fun k => iblk M c 3 t (ix2 i k)) = rX M c (rowIx t i)),
    (funext fun k => iblk4 M c t k : (fun k => iblk M c 4 t (ix2 0 k)) = vG M c)]

/-- A term of the weight's gradient at a natural number. -/
def dgNat (c : Dev nD) (j : Fin 1024) (s : ℕ) : EReal := if h : s < 16384 then dgTerm M c j ⟨s, h⟩ else 0

theorem dg_tile (c : Dev nD) (t : Fin cfg0.N) (j : Fin 1024) :
    ∑ i : Fin 512, duT (iblk M c 0 t) (iblk M c 1 t) (iblk M c 5 t) i j *
        @HMul.hMul EReal EReal EReal _ (iblk M c 3 t (ix2 i j)) (rowR (fun k => iblk M c 3 t (ix2 i k)))
      = ∑ s ∈ Finset.range 512, dgNat M c j (512 * t.val + s) := by
  rw [Finset.sum_range]
  refine Finset.sum_congr rfl fun i _ => ?_
  rw [duT_eq, (funext fun k => iblk3 M c t i k : (fun k => iblk M c 3 t (ix2 i k)) = rX M c (rowIx t i)), iblk3, dgNat,
    dif_pos (show 512 * t.val + i.val < 16384 from (rowIx t i).isLt)]
  rfl

theorem pay2_apply (j : Fin 1024) : (k0_pay2 (F := Ideal) (ix2 0 j) : EReal) = 0 := by
  pointwise [k0_pay2]

/-- After point `n` the second result's block holds the sum over the tiles so far. -/
theorem acc_eq (c : Dev nD) (j : Fin 1024) : ∀ (n : ℕ) (h : n < cfg0.N),
    ((outsAt0 M c n h).2 (ix2 0 j) : EReal)
      = ∑ k ∈ Finset.range (n + 1), ∑ s ∈ Finset.range 512, dgNat M c j (512 * k + s)
  | 0, h => by
    rw [outsAt0_A M c ⟨0, h⟩ rfl]
    dsimp only
    rw [out_A7, dg_apply, pay2_apply, zero_add, dg_tile, Finset.sum_range_one]
  | n + 1, h => by
    have hN : n + 1 < 32 := lt_of_lt_of_eq h N_0
    rw [outsAt0_B M c ⟨n + 1, h⟩ (by dsimp only; omega)]
    dsimp only
    rw [out_B7, dg_apply, dg_tile, Finset.sum_range_succ _ (n + 1)]
    exact congrArg (· + _) (acc_eq c j n (Nat.lt_of_succ_lt h))

theorem acc_last (c : Dev nD) (t : Fin cfg0.N) (h3 : t.val = 31) (j : Fin 1024) :
    ((outsAt0 M c t.val t.isLt).2 (ix2 0 j) : EReal) = dgA M c j := by
  have e := sum_range_blocks 512 (dgNat M c j) 32
  rw [show 512 * 32 = 16384 by norm_num, Finset.sum_range (n := 16384)] at e
  rw [acc_eq, h3]
  unfold dgA
  refine e.trans (Finset.sum_congr rfl fun n _ => ?_)
  rw [dgNat, dif_pos n.isLt]

/-! ## The arrays after the run -/

def dx (c : Dev nD) : S16384x1024.Idx → EReal := fun i => dxA M c (i 0) (i 1)
def dg (c : Dev nD) : S1x1024.Idx → EReal := fun i => dgA M c (i 1)

theorem flush7 : ∀ t : Fin cfg0.N, (cfg0.win 7).flush t = true → t.val = 31 := by decide +kernel
theorem last7 : ∃ t : Fin cfg0.N, (cfg0.win 7).flush t = true := by decide +kernel
theorem every6 : ∀ t : Fin cfg0.N, (cfg0.win 6).flush t = true := by decide +kernel

theorem final6 (c : Dev nD) : (dats M 0 c).arrAt 6 cfg0.N = dx M c := by
  refine (dats M 0 c).arrAt_eq_of_cover 6 (dx M c) (fun t hf => ?_) (fun i => ?_)
  · rw [Value.flushed6]
    funext y
    obtain ⟨r, l, rfl⟩ : ∃ (r : Fin 512) (l : Fin 1024), y = ix2 r l := ⟨y 0, y 1, eq_ix2 y⟩
    rw [View.read_apply]
    refine (out6_eq M c t r l).trans ?_
    unfold dx
    refine congrArg₂ (dxA M c) (Fin.ext ?_) (Fin.ext ?_)
    · show 512 * t.val + r.val = win0_6.index t 0 * 512 + 1 * r.val; rw [(idx6 t).1]; omega
    · show l.val = win0_6.index t 1 * 1024 + 1 * l.val; rw [(idx6 t).2]; omega
  · have h0 : (i 0 : Nat) < 16384 := (i 0).isLt
    have h1 : (i 1 : Nat) < 1024 := (i 1).isLt
    obtain ⟨t, ht⟩ : ∃ t : Fin cfg0.N, t.val = (i 0 : Nat) / 512 :=
      ⟨⟨(i 0 : Nat) / 512, lt_of_lt_of_eq (show (i 0 : Nat) / 512 < 32 by omega) N_0.symm⟩, rfl⟩
    refine ⟨t, every6 t, ?_⟩
    show i ∈ ((View.whole main_v9_0).slice (win0_6.rect t)).set
    rw [View.set_slice_whole, Rect.mem_set_unit]
    intro a
    match a with
    | ⟨0, _⟩ => show win0_6.index t 0 * 512 ≤ (i 0 : Nat) ∧ (i 0 : Nat) < win0_6.index t 0 * 512 + 512; rw [(idx6 t).1, ht]; omega
    | ⟨1, _⟩ => show win0_6.index t 1 * 1024 ≤ (i 1 : Nat) ∧ (i 1 : Nat) < win0_6.index t 1 * 1024 + 1024; rw [(idx6 t).2]; omega

theorem final7 (c : Dev nD) : (dats M 0 c).arrAt 7 cfg0.N = dg M c := by
  refine (dats M 0 c).arrAt_eq_of_cover 7 (dg M c) (fun t hf => ?_) (fun i => ?_)
  · rw [Value.flushed7]
    have h3 := flush7 t hf
    funext y
    obtain ⟨z, l, rfl⟩ : ∃ (z : Fin 1) (l : Fin 1024), y = ix2 z l := ⟨y 0, y 1, eq_ix2 y⟩
    obtain rfl : z = 0 := Subsingleton.elim _ _
    rw [View.read_apply]
    refine (acc_last M c t h3 l).trans ?_
    unfold dg
    refine congrArg (dgA M c) (Fin.ext ?_)
    show l.val = win0_7.index t 1 * 1024 + 1 * l.val; rw [(idx7 t).2]; omega
  · obtain ⟨t, hf⟩ := last7
    refine ⟨t, hf, ?_⟩
    show i ∈ ((View.whole main_v9_1).slice (win0_7.rect t)).set
    rw [View.set_slice_whole, Rect.mem_set_unit]
    intro a
    have h0 : (i 0 : Nat) < 1 := (i 0).isLt
    have h1 : (i 1 : Nat) < 1024 := (i 1).isLt
    match a with
    | ⟨0, _⟩ => show win0_7.index t 0 * 1 ≤ (i 0 : Nat) ∧ (i 0 : Nat) < win0_7.index t 0 * 1 + 1; rw [(idx7 t).1]; omega
    | ⟨1, _⟩ => show win0_7.index t 1 * 1024 ≤ (i 1 : Nat) ∧ (i 1 : Nat) < win0_7.index t 1 * 1024 + 1024; rw [(idx7 t).2]; omega

end Cert.KernelDxIdeal.Own

end
-- ==== Proof.DxClaim.lean ====
/- The gradient of the block's input: kernel and reference agree. -/
module

public import proofs.«01_k».proof.Proof.DxArray
public import proofs.«01_k».proof.Proof.Gen.ReferenceDxIdeal.Run
public import proofs.«01_k».proof.Defs

@[expose] public section

set_option maxRecDepth 16384

noncomputable section

namespace Cert.Own.Dx

open Idealize.ShloMosaic Idealize.ShloMosaic.TcCoe Idealize.SL.Sem Cert.Own
open Cert.ReferenceDxIdeal Cert.ReferenceDxIdeal.Gen

/-! ## The reference's arrays, in stages -/

section
variable (dz : FVec Ideal S16384x3072 .f32) (dgs : FVec Ideal S16384x2048 .f32) (d x : FVec Ideal S16384x1024 .f32)
  (g : FVec Ideal S1x1024 .f32) (w : FVec Ideal S1024x5120 .f32)

/-- The mean of a row's squares, and the small number. -/
def vA : FVec Ideal S16384x1 .f32 :=
  addf (Host.divf (broadcastInDim S16384x1 ![0] bcast_S16384_S16384x1_0
      (Host.reduceAdd (mulf x x) (constant S_ .f32 0x00000000#32) reducesTo_S16384x1024_S16384_d1 h_S_))
    (broadcastInDim S16384x1 ![] bcast_S_S16384x1 (constant S_ .f32 0x44800000#32)))
    (broadcastInDim S16384x1 ![] bcast_S_S16384x1 (constant S_ .f32 0x358637BD#32))

def vR : FVec Ideal S16384x1 .f32 := Host.rsqrt (vA x)

/-- The normalised rows before the weight. -/
def vN : FVec Ideal S16384x1024 .f32 := mulf x (broadcastInDim S16384x1024 ![0, 1] bcast_S16384x1_S16384x1024_0_1 (vR x))

/-- The gradient at the projection. -/
def vZ : FVec Ideal S16384x5120 .f32 :=
  concatenate S16384x5120 1 [⟨S16384x3072, dz⟩, ⟨S16384x2048, dgs⟩] concatenates_S16384x3072_S16384x2048_S16384x5120_d1

/-- The gradient at the weighted normalised rows. -/
def vDu : FVec Ideal S16384x1024 .f32 :=
  Host.dotGeneral (F := Ideal) (φ₁ := .f32) (φ₂ := .f32) dot_S16384x5120_S1024x5120_S16384x1024_1_1_0_0_n_n none (vZ dz dgs) w

/-- The gradient of the norm's weight. -/
def vDg : FVec Ideal S1x1024 .f32 :=
  shapeCast S1x1024 (Host.reduceAdd (mulf (vN x) (vDu dz dgs w)) (constant S_ .f32 0x00000000#32) reducesTo_S16384x1024_S1024_d0 h_S_)
    shapeCasts_S1024_S1x1024

/-- The gradient at the normalised rows. -/
def vW : FVec Ideal S16384x1024 .f32 :=
  mulf (vDu dz dgs w) (broadcastInDim S16384x1024 ![0, 1] bcast_S1x1024_S16384x1024_0_1 g)

/-- The gradient at the mean of the squares, spread over the row. -/
def vB : FVec Ideal S16384x1024 .f32 :=
  broadcastInDim S16384x1024 ![0] bcast_S16384_S16384x1024_0
    (Host.reduceAdd (Host.divf (mulf
        (shapeCast S16384x1 (Host.reduceAdd (mulf x (vW dz dgs g w)) (constant S_ .f32 0x00000000#32) reducesTo_S16384x1024_S16384_d1 h_S_) shapeCasts_S16384_S16384x1)
        (mulf (broadcastInDim S16384x1 ![] bcast_S_S16384x1 (constant S_ .f32 0xBF000000#32)) (Host.divf (vR x) (vA x))))
      (broadcastInDim S16384x1 ![] bcast_S_S16384x1 (constant S_ .f32 0x44800000#32))) (constant S_ .f32 0x00000000#32) reducesTo_S16384x1_S16384_d1 h_S_)

/-- The gradient of the block's input. -/
def vDx : FVec Ideal S16384x1024 .f32 :=
  addf (addf (addf d (mulf (vW dz dgs g w) (broadcastInDim S16384x1024 ![0, 1] bcast_S16384x1_S16384x1024_0_1 (vR x))))
      (mulf x (vB dz dgs x g w))) (mulf (vB dz dgs x g w) x)

abbrev rowOf {a b : ℕ} (x : FVec Ideal ⟨2, ![a, b]⟩ .f32) (n : Fin a) : Fin b → EReal := fun k => x (ix2 n k)

theorem vA_apply (n : Fin 16384) : vA x (ix2 n 0) = Ideal.div (∑ k, x (ix2 n k) * x (ix2 n k)) (Ideal.ofBits FTy.f32 0x44800000#32)
    + Ideal.ofBits FTy.f32 0x358637BD#32 := by
  pointwise [vA]

theorem vN_apply (n : Fin 16384) (k : Fin 1024) : vN x (ix2 n k) = x (ix2 n k) * rowR (rowOf x n) := by
  pointwise [vN, vR]
  rw [vA_apply]
  rfl

/-- A row of the two arrays side by side. -/
def rowZ (n : Fin 16384) (f : Fin 5120) : EReal :=
  if h : f.val < 3072 then dz (ix2 n ⟨f.val, h⟩) else dgs (ix2 n ⟨f.val - 3072, by omega⟩)

theorem vZ_apply (n : Fin 16384) (f : Fin 5120) : vZ dz dgs (ix2 n f) = rowZ dz dgs n f := by
  pointwise [vZ]
  unfold rowZ
  rfl

def rowDu (n : Fin 16384) (j : Fin 1024) : EReal := ∑ f, rowZ dz dgs n f * w (ix2 j f)

theorem vDu_apply (n : Fin 16384) (j : Fin 1024) : vDu dz dgs w (ix2 n j) = rowDu dz dgs w n j := by
  pointwise [vDu]
  simp only [vZ_apply]
  rfl

theorem vDg_apply (j : Fin 1024) : vDg dz dgs x w (ix2 0 j) = ∑ n, rowDu dz dgs w n j * (x (ix2 n j) * rowR (rowOf x n)) := by
  pointwise [vDg]
  exact Finset.sum_congr rfl fun n _ => by rw [vN_apply, vDu_apply, mul_comm]

theorem vDx_apply (n : Fin 16384) (j : Fin 1024) :
    vDx dz dgs d x g w (ix2 n j) = rowDh (rowOf d n) (rowOf x n) (rowOf g 0) (rowDu dz dgs w n) j := by
  have key := norm_bwd (rowOf x n) (fun k => vDu dz dgs w (ix2 n k) * g (ix2 0 k))
    (vA x (ix2 n 0)) (rowR (rowOf x n)) (vA_apply x n) (by rw [vA_apply]; rfl) j
  have hrA : Ideal.rsqrt (vA x (ix2 n 0)) = rowR (rowOf x n) := by rw [vA_apply]; rfl
  pointwise [vDx, vB, vW, vR]
  rw [Fin.sum_univ_one, hrA, add_assoc, add_assoc, ← add_assoc (_ * _)]
  refine (congrArg (d (ix2 n j) + ·) key.symm).trans ?_
  unfold rowDh
  simp only [vDu_apply]

end

theorem res37 (m : (ℓ : Loc nD τ sig) → Buf (Elt Ideal) ℓ) (c : Dev nD) : Value.res_main_v37 m c
    = vDx (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) (m ((c.tc : Thread nD τ).loc main_arg5)) := by
  unfold Value.res_main_v37; rfl

theorem algebraic : Cert.algebraic_KernelDxIdeal_ReferenceDxIdeal := by
  intro m g m' g' _ hargs
  have kz : ∀ (c : Dev nD) (n : Fin 16384), Cert.KernelDxIdeal.Own.duA m c n
      = rowDu (m' ((c.tc : Thread nD τ).loc main_arg0)) (m' ((c.tc : Thread nD τ).loc main_arg1)) (m' ((c.tc : Thread nD τ).loc main_arg5)) n := by
    intro c n
    funext j
    unfold Cert.KernelDxIdeal.Own.duA rowDu Cert.KernelDxIdeal.Own.rDz rowZ
    rw [(hargs c).1, (hargs c).2.1, (hargs c).2.2.2.2.2]
  have k6 : ∀ c : Dev nD, Cert.KernelDxIdeal.Own.dx m c = vDx (m' ((c.tc : Thread nD τ).loc main_arg0)) (m' ((c.tc : Thread nD τ).loc main_arg1))
      (m' ((c.tc : Thread nD τ).loc main_arg2)) (m' ((c.tc : Thread nD τ).loc main_arg3)) (m' ((c.tc : Thread nD τ).loc main_arg4))
      (m' ((c.tc : Thread nD τ).loc main_arg5)) := by
    intro c
    funext i
    obtain ⟨n, f, rfl⟩ : ∃ (n : Fin 16384) (f : Fin 1024), i = ix2 n f := ⟨i 0, i 1, eq_ix2 i⟩
    rw [vDx_apply, ← kz, (hargs c).2.2.1, (hargs c).2.2.2.1, (hargs c).2.2.2.2.1]
    rfl
  have k7 : ∀ c : Dev nD, Cert.KernelDxIdeal.Own.dg m c = vDg (m' ((c.tc : Thread nD τ).loc main_arg0)) (m' ((c.tc : Thread nD τ).loc main_arg1))
      (m' ((c.tc : Thread nD τ).loc main_arg3)) (m' ((c.tc : Thread nD τ).loc main_arg5)) := by
    intro c
    funext i
    obtain ⟨z, f, rfl⟩ : ∃ (z : Fin 1) (f : Fin 1024), i = ix2 z f := ⟨i 0, i 1, eq_ix2 i⟩
    obtain rfl : z = 0 := Subsingleton.elim _ _
    rw [vDg_apply]
    unfold Cert.KernelDxIdeal.Own.dg Cert.KernelDxIdeal.Own.dgA Cert.KernelDxIdeal.Own.dgTerm
    refine Finset.sum_congr rfl fun n _ => ?_
    rw [← kz, (hargs c).2.2.2.1]
    rfl
  refine ⟨fun c => Cert.KernelDxIdeal.Own.dx m c, fun c => Cert.KernelDxIdeal.Own.dg m c, ?_, ?_⟩
  · exact (θ_run _ _ _).mono (fun r h c => ⟨(h c).1.trans (Cert.KernelDxIdeal.Own.final6 m c),
      (h c).2.1.trans (Cert.KernelDxIdeal.Own.final7 m c), (h c).2.2⟩) (Cert.KernelDxIdeal.Value.run_blocks m g)
  · exact (θ_run _ _ _).mono (fun r h c => ⟨(h c).1.trans ((res37 m' c).trans (k6 c).symm),
      (h c).2.1.trans (k7 c).symm, (h c).2.2⟩)
      (Cert.ReferenceDxIdeal.Value.run m' g')

end Cert.Own.Dx

end
-- ==== Proof.InprojOwn.lean ====
/- The norm and the chip's own columns of the input projection: one tile of rows, and the two result arrays. -/
module

public import proofs.«01_k».proof.Proof.Gen.KernelInprojOwnIdeal.Value
public import proofs.«01_k».proof.Proof.Norm
public import Idealize.ShloMosaic.Lib.Pipeline.ReadBack
public import Idealize.ShloMosaic.Lib.Pipeline.Value
public import Idealize.ShloMosaic.Lib.Pointwise
public import Idealize.ShloMosaic.Lib.Tactic
public import Idealize.ShloMosaic.Lib.StableHlo.RunRead
public import Idealize.ShloMosaic.Lib.Pipeline.ValueKit.Tiles
public import Idealize.ShloMosaic.Lib.Pipeline.ValueKit
public import Idealize.ShloMosaic.PureOps.Ideal

@[expose] public section

noncomputable section

namespace Cert.KernelInprojOwnIdeal.Own

open Cert.KernelInprojOwnIdeal Cert.KernelInprojOwnIdeal.Gen Idealize.ShloMosaic Idealize.ShloMosaic.TcCoe Idealize.SL.Sem Cert.Own
open Idealize.ShloMosaic.Pipeline (Dat)

theorem hz2 : (![0, 0] : Fin 2 → Nat) = fun _ => 0 := funext fun a => by fin_cases a <;> rfl

section
variable (x0 : Vec Ideal S1024x1024 .f32) (x1 : Vec Ideal S1x1024 .f32) (x2 : Vec Ideal S1024x1280 .bf16)

/-- An element of the tile's normalised rows. -/
def uT (i k : Fin 1024) : EReal := x0 (ix2 i k) * rowR (fun k => x0 (ix2 i k)) * x1 (ix2 0 k)

theorem pay4_apply (i k : Fin 1024) : (k0_pay4 x0 x1 (ix2 i k) : EReal) = uT x0 x1 i k := by
  pointwise [k0_pay4]
  rfl

/-- The product with a column chunk, as it is stored. -/
def chunk (u : FVec Ideal S1024x1024 .bf16) (w : Vec Ideal S1024x256 .bf16) : FVec Ideal S1x1024x256 .bf16 :=
  shapeCast S1x1024x256 (truncf .bf16 (matmul (φ₁ := .bf16) (φ₂ := .bf16) dot_S1024x1024_S1024x256_S1024x256_1_0_0_1_n_n none u
    (shapeCast S1024x256 w shapeCasts_S1024x256_S1024x256) (constant S1024x256 .f32 0x00000000#32)) bitsLt_bf16_f32) shapeCasts_S1024x256_S1x1024x256

def G3 (y : S1024x1024.Idx) : EReal := uT x0 x1 (y 0) (y 1)
def G4 (y : S5x1024x256.Idx) : EReal := ∑ k : Fin 1024, uT x0 x1 (y 1) k * x2 (ix2 k ⟨256 * (y 0).val + (y 2).val, by
  have h0 := (y 0).isLt; have h2 := (y 2).isLt; change _ < 5 at h0; change _ < 256 at h2; omega⟩)

theorem chunk_eq (q o : ℕ) (inb) (inb') (ho : o = 256 * q) (x : S1x1024x256.Idx) :
    (chunk (k0_pay4 x0 x1) (View.ld x2 (Rect.unit ![0, o] S1024x256.size inb)) x : EReal)
      = G4 x0 x1 x2 ((Rect.unit (s := S5x1024x256) ![q, 0, 0] S1x1024x256.size inb').emb x) := by
  subst ho
  obtain ⟨p, i, l, rfl⟩ : ∃ (p : Fin 1) (i : Fin 1024) (l : Fin 256), x = ix3 p i l := ⟨x 0, x 1, x 2, eq_ix3 x⟩
  obtain rfl : p = 0 := Subsingleton.elim _ _
  pointwise [chunk]
  simp only [pay4_apply]
  unfold G4
  have e : (Rect.unit (s := S5x1024x256) ![q, 0, 0] S1x1024x256.size inb').emb (ix3 0 i l) 1 = i := Fin.ext (show 0 + 1 * i.val = i.val by omega)
  rw [e]
  refine Finset.sum_congr rfl fun k _ => congrArg (fun f => uT x0 x1 i k * x2 (ix2 k f)) (Fin.ext ?_)
  show 256 * q + l.val = 256 * (q + 1 * 0) + (0 + 1 * l.val)
  omega

theorem out3 : out0_3 (F := Ideal) x0 x1 x2 = G3 x0 x1 := by
  funext y
  unfold out0_3
  refine View.canon_apply_of_pieces (Val := Elt Ideal) (G3 x0 x1) _ (View.PiecesOf.mem ?_) y (cover0_3 _ y)
  refine ⟨fun x => ?_, trivial⟩
  obtain ⟨i, k, rfl⟩ : ∃ (i k : Fin 1024), x = ix2 i k := ⟨x 0, x 1, eq_ix2 x⟩
  simp only [View.ld_unit_zero (S := S1024x1024) hz2, View.ld_unit_zero (S := S1x1024) hz2]
  refine (pay4_apply x0 x1 i k).trans ?_
  unfold G3
  congr 1
  · exact Fin.ext (show i.val = 0 + 1 * i.val by omega)
  · exact Fin.ext (show k.val = 0 + 1 * k.val by omega)

theorem out4 : out0_4 (F := Ideal) x0 x1 x2 = G4 x0 x1 x2 := by
  funext y
  unfold out0_4
  refine View.canon_apply_of_pieces (Val := Elt Ideal) (G4 x0 x1 x2) _ (View.PiecesOf.mem ?_) y (cover0_4 _ _ _ _ _ y)
  simp only [k0_pay8, View.ld_unit_zero (S := S1024x1024) hz2, View.ld_unit_zero (S := S1x1024) hz2]
  exact ⟨fun x => chunk_eq x0 x1 x2 4 1024 (by decide) (by decide) rfl x, fun x => chunk_eq x0 x1 x2 3 768 (by decide) (by decide) rfl x,
    fun x => chunk_eq x0 x1 x2 2 512 (by decide) (by decide) rfl x, fun x => chunk_eq x0 x1 x2 1 256 (by decide) (by decide) rfl x,
    fun x => chunk_eq x0 x1 x2 0 0 (by decide) (by decide) rfl x, trivial⟩

end

variable (M : (ℓ : Loc nD τ sig) → Buf (Elt Ideal) ℓ)

/-! ## The operands and their blocks -/

abbrev aX (c : Dev nD) : S16384x1024.Idx → EReal := M ((c : Thread nD τ).loc main_arg0)
abbrev aG (c : Dev nD) : S1x1024.Idx → EReal := M ((c : Thread nD τ).loc main_arg1)
abbrev aW (c : Dev nD) : S1024x1280.Idx → EReal := M ((c : Thread nD τ).loc main_arg2)

theorem V_v0 (c : Dev nD) : (V M c main_v0 : S1024x1280.Idx → EReal) = aW M c := by
  show StableHlo.after hostOps0 (fun b => M (c, b)) main_v0 = _
  after_reads_simp
  rfl
theorem V_arg0 (c : Dev nD) : (V M c main_arg0) = aX M c := by
  show StableHlo.after hostOps0 (fun b => M (c, b)) main_arg0 = _
  after_reads_simp
theorem V_arg1 (c : Dev nD) : (V M c main_arg1) = aG M c := by
  show StableHlo.after hostOps0 (fun b => M (c, b)) main_arg1 = _
  after_reads_simp

theorem idx0 : ∀ t : Fin cfg0.N, win0_0.index t 0 = t.val ∧ win0_0.index t 1 = 0 := by decide +kernel
theorem idx1 : ∀ t : Fin cfg0.N, win0_1.index t 0 = 0 ∧ win0_1.index t 1 = 0 := by decide +kernel
theorem idx2 : ∀ t : Fin cfg0.N, win0_2.index t 0 = 0 ∧ win0_2.index t 1 = 0 := by decide +kernel
theorem idx3 : ∀ t : Fin cfg0.N, win0_3.index t 0 = t.val ∧ win0_3.index t 1 = 0 := by decide +kernel
theorem idx4 : ∀ t : Fin cfg0.N, win0_4.index t 0 = 0 ∧ win0_4.index t 1 = t.val ∧ win0_4.index t 2 = 0 := by decide +kernel

/-- Row `i` of the tile of point `t`, in the whole array. -/
def rowIx (t : Fin cfg0.N) (i : Fin 1024) : Fin 16384 :=
  ⟨1024 * t.val + i.val, by have := lt_of_lt_of_eq t.isLt N_0; have := i.isLt; omega⟩

theorem iblk0 (c : Dev nD) (t : Fin cfg0.N) (i k : Fin 1024) : (iblk M c 0 t (ix2 i k) : EReal) = aX M c (ix2 (rowIx t i) k) := by
  unfold iblk
  rw [View.read_apply]
  refine (congrFun (V_arg0 M c) _).trans (congrArg (aX M c) (funext fun a => Fin.ext ?_))
  match a with
  | ⟨0, _⟩ => show win0_0.index t 0 * 1024 + 1 * i.val = 1024 * t.val + i.val; rw [(idx0 t).1]; omega
  | ⟨1, _⟩ => show win0_0.index t 1 * 1024 + 1 * k.val = k.val; rw [(idx0 t).2]; omega

theorem iblk1 (c : Dev nD) (t : Fin cfg0.N) (k : Fin 1024) : (iblk M c 1 t (ix2 0 k) : EReal) = aG M c (ix2 0 k) := by
  unfold iblk
  rw [View.read_apply]
  refine (congrFun (V_arg1 M c) _).trans (congrArg (aG M c) (funext fun a => Fin.ext ?_))
  match a with
  | ⟨0, _⟩ => show win0_1.index t 0 * 1 + 1 * 0 = 0; rw [(idx1 t).1]
  | ⟨1, _⟩ => show win0_1.index t 1 * 1024 + 1 * k.val = k.val; rw [(idx1 t).2]; omega

theorem iblk2 (c : Dev nD) (t : Fin cfg0.N) (k : Fin 1024) (f : Fin 1280) : (iblk M c 2 t (ix2 k f) : EReal) = aW M c (ix2 k f) := by
  unfold iblk
  rw [View.read_apply]
  refine (congrFun (V_v0 M c) _).trans (congrArg (aW M c) (funext fun a => Fin.ext ?_))
  match a with
  | ⟨0, _⟩ => show win0_2.index t 0 * 1024 + 1 * k.val = k.val; rw [(idx2 t).1]; omega
  | ⟨1, _⟩ => show win0_2.index t 1 * 1280 + 1 * f.val = f.val; rw [(idx2 t).2]; omega

/-! ## The arrays after the run -/

/-- The normalised rows, and their product with the chip's columns. -/
def uA (c : Dev nD) (n : Fin 16384) (k : Fin 1024) : EReal := aX M c (ix2 n k) * rowR (fun k => aX M c (ix2 n k)) * aG M c (ix2 0 k)
def zA (c : Dev nD) (n : Fin 16384) (f : Fin 1280) : EReal := ∑ k : Fin 1024, uA M c n k * aW M c (ix2 k f)

theorem uT_eq (c : Dev nD) (t : Fin cfg0.N) (i k : Fin 1024) : uT (iblk M c 0 t) (iblk M c 1 t) i k = uA M c (rowIx t i) k := by
  unfold uT uA
  rw [iblk1, (funext fun k => iblk0 M c t i k : (fun k => iblk M c 0 t (ix2 i k)) = fun k => aX M c (ix2 (rowIx t i) k)), iblk0]

def u (c : Dev nD) : S16384x1024.Idx → EReal := fun i => uA M c (i 0) (i 1)
def z (c : Dev nD) : S5x16384x256.Idx → EReal := fun i => zA M c (i 1) ⟨256 * (i 0).val + (i 2).val, by
  have h0 := (i 0).isLt; have h2 := (i 2).isLt; change _ < 5 at h0; change _ < 256 at h2; omega⟩

theorem every3 : ∀ t : Fin cfg0.N, (cfg0.win 3).flush t = true := by decide +kernel
theorem every4 : ∀ t : Fin cfg0.N, (cfg0.win 4).flush t = true := by decide +kernel

/-- The point of a tile. -/
theorem point_of (k : ℕ) (h : k < 16) : ∃ t : Fin cfg0.N, t.val = k := ⟨⟨k, lt_of_lt_of_eq h N_0.symm⟩, rfl⟩

theorem final3 (c : Dev nD) : (dats M 0 c).arrAt 3 cfg0.N = u M c := by
  refine (dats M 0 c).arrAt_eq_of_cover 3 (u M c) (fun t hf => ?_) (fun i => ?_)
  · rw [Value.flushed3]
    funext y
    obtain ⟨r, l, rfl⟩ : ∃ (r l : Fin 1024), y = ix2 r l := ⟨y 0, y 1, eq_ix2 y⟩
    rw [View.read_apply, out3]
    unfold G3
    refine (uT_eq M c t r l).trans ?_
    unfold u
    refine congrArg₂ (uA M c) (Fin.ext ?_) (Fin.ext ?_)
    · show 1024 * t.val + r.val = win0_3.index t 0 * 1024 + 1 * r.val; rw [(idx3 t).1]; omega
    · show l.val = win0_3.index t 1 * 1024 + 1 * l.val; rw [(idx3 t).2]; omega
  · have h0 : (i 0 : Nat) < 16384 := (i 0).isLt
    have h1 : (i 1 : Nat) < 1024 := (i 1).isLt
    obtain ⟨t, ht⟩ := point_of ((i 0 : Nat) / 1024) (by omega)
    refine ⟨t, every3 t, ?_⟩
    show i ∈ ((View.whole main_v1_0).slice (win0_3.rect t)).set
    rw [View.set_slice_whole, Rect.mem_set_unit]
    intro a
    match a with
    | ⟨0, _⟩ => show win0_3.index t 0 * 1024 ≤ (i 0 : Nat) ∧ (i 0 : Nat) < win0_3.index t 0 * 1024 + 1024; rw [(idx3 t).1, ht]; omega
    | ⟨1, _⟩ => show win0_3.index t 1 * 1024 ≤ (i 1 : Nat) ∧ (i 1 : Nat) < win0_3.index t 1 * 1024 + 1024; rw [(idx3 t).2]; omega

theorem final4 (c : Dev nD) : (dats M 0 c).arrAt 4 cfg0.N = z M c := by
  refine (dats M 0 c).arrAt_eq_of_cover 4 (z M c) (fun t hf => ?_) (fun i => ?_)
  · rw [Value.flushed4]
    funext y
    obtain ⟨q, r, l, rfl⟩ : ∃ (q : Fin 5) (r : Fin 1024) (l : Fin 256), y = ix3 q r l := ⟨y 0, y 1, y 2, eq_ix3 y⟩
    rw [View.read_apply, out4]
    refine Eq.trans (b := zA M c (rowIx t r) ⟨256 * q.val + l.val, by omega⟩) ?_ ?_
    · unfold zA
      exact Finset.sum_congr rfl fun k _ => congrArg₂ (· * ·) (uT_eq M c t r k) (iblk2 M c t k _)
    · unfold z
      refine congrArg₂ (zA M c) (Fin.ext ?_) (Fin.ext ?_)
      · show 1024 * t.val + r.val = win0_4.index t 1 * 1024 + 1 * r.val; rw [(idx4 t).2.1]; omega
      · show 256 * q.val + l.val = 256 * (win0_4.index t 0 * 5 + 1 * q.val) + (win0_4.index t 2 * 256 + 1 * l.val); rw [(idx4 t).1, (idx4 t).2.2]; omega
  · have h0 : (i 0 : Nat) < 5 := (i 0).isLt
    have h1 : (i 1 : Nat) < 16384 := (i 1).isLt
    have h2 : (i 2 : Nat) < 256 := (i 2).isLt
    obtain ⟨t, ht⟩ := point_of ((i 1 : Nat) / 1024) (by omega)
    refine ⟨t, every4 t, ?_⟩
    show i ∈ ((View.whole main_v1_1).slice (win0_4.rect t)).set
    rw [View.set_slice_whole, Rect.mem_set_unit]
    intro a
    match a with
    | ⟨0, _⟩ => show win0_4.index t 0 * 5 ≤ (i 0 : Nat) ∧ (i 0 : Nat) < win0_4.index t 0 * 5 + 5; rw [(idx4 t).1]; omega
    | ⟨1, _⟩ => show win0_4.index t 1 * 1024 ≤ (i 1 : Nat) ∧ (i 1 : Nat) < win0_4.index t 1 * 1024 + 1024; rw [(idx4 t).2.1, ht]; omega
    | ⟨2, _⟩ => show win0_4.index t 2 * 256 ≤ (i 2 : Nat) ∧ (i 2 : Nat) < win0_4.index t 2 * 256 + 256; rw [(idx4 t).2.2]; omega

end Cert.KernelInprojOwnIdeal.Own

end
-- ==== Proof.InprojOwnClaim.lean ====
/- The norm and the chip's own columns of the input projection: kernel and reference agree. -/
module

public import proofs.«01_k».proof.Proof.InprojOwn
public import proofs.«01_k».proof.Proof.Gen.ReferenceInprojOwnIdeal.Run
public import proofs.«01_k».proof.Defs

@[expose] public section

set_option maxRecDepth 16384

noncomputable section

namespace Cert.Own.InprojOwn

open Idealize.ShloMosaic Idealize.ShloMosaic.TcCoe Idealize.SL.Sem Cert.Own
open Cert.ReferenceInprojOwnIdeal Cert.ReferenceInprojOwnIdeal.Gen

section
variable (x : FVec Ideal S16384x1024 .f32) (g : FVec Ideal S1x1024 .f32) (w : FVec Ideal S1024x1280 .f32)

/-- The reference's normalised rows. -/
def vU : FVec Ideal S16384x1024 .f32 :=
  mulf (mulf x (broadcastInDim S16384x1024 ![0, 1] bcast_S16384x1_S16384x1024_0_1 (Host.rsqrt
      (addf (Host.divf (broadcastInDim S16384x1 ![0] bcast_S16384_S16384x1_0
          (Host.reduceAdd (mulf x x) (constant S_ .f32 0x00000000#32) reducesTo_S16384x1024_S16384_d1 h_S_))
        (broadcastInDim S16384x1 ![] bcast_S_S16384x1 (constant S_ .f32 0x44800000#32)))
        (broadcastInDim S16384x1 ![] bcast_S_S16384x1 (constant S_ .f32 0x358637BD#32))))))
    (broadcastInDim S16384x1024 ![0, 1] bcast_S1x1024_S16384x1024_0_1 g)

/-- Their product with the columns, in five chunks. -/
def vZ (u : FVec Ideal S16384x1024 .f32) : FVec Ideal S5x16384x256 .bf16 :=
  truncf .bf16 (transpose S5x16384x256 [1, 0, 2] (shapeCast S16384x5x256
    (Host.dotGeneral (F := Ideal) (φ₁ := .f32) (φ₂ := .f32) dot_S16384x1024_S1024x1280_S16384x1280_1_0_0_1_n_n none u w)
    shapeCasts_S16384x1280_S16384x5x256) transposes_S16384x5x256_S5x16384x256_1_0_2) bitsLt_bf16_f32

theorem vU_apply (n : Fin 16384) (k : Fin 1024) :
    (vU x g (ix2 n k) : EReal) = x (ix2 n k) * rowR (fun k => x (ix2 n k)) * g (ix2 0 k) := by
  pointwise [vU]
  rfl

theorem vZ_apply (u : FVec Ideal S16384x1024 .f32) (q : Fin 5) (n : Fin 16384) (l : Fin 256) :
    (vZ w u (ix3 q n l) : EReal) = ∑ k : Fin 1024, u (ix2 n k) * w (ix2 k ⟨256 * q.val + l.val, by omega⟩) := by
  pointwise [vZ]
  exact congrArg (fun f : Fin 1280 => (∑ k : Fin 1024, u (ix2 n k) * w (ix2 k f) : EReal)) (Fin.ext (by dsimp only; omega))

end

theorem algebraic : Cert.algebraic_KernelInprojOwnIdeal_ReferenceInprojOwnIdeal := by
  intro m g m' g' _ hargs
  have ku : ∀ (c : Dev nD) (n : Fin 16384) (k : Fin 1024), Cert.KernelInprojOwnIdeal.Own.uA m c n k
      = vU (m' ((c.tc : Thread nD τ).loc main_arg0)) (m' ((c.tc : Thread nD τ).loc main_arg1)) (ix2 n k) := by
    intro c n k
    rw [vU_apply, (hargs c).1, (hargs c).2.1]
    rfl
  have k3 : ∀ c : Dev nD, Cert.KernelInprojOwnIdeal.Own.u m c
      = truncf .bf16 (vU (m' ((c.tc : Thread nD τ).loc main_arg0)) (m' ((c.tc : Thread nD τ).loc main_arg1))) bitsLt_bf16_f32 := by
    intro c
    funext i
    obtain ⟨n, k, rfl⟩ : ∃ (n : Fin 16384) (k : Fin 1024), i = ix2 n k := ⟨i 0, i 1, eq_ix2 i⟩
    exact ku c n k
  have k4 : ∀ c : Dev nD, Cert.KernelInprojOwnIdeal.Own.z m c = vZ (m' ((c.tc : Thread nD τ).loc main_arg2))
      (vU (m' ((c.tc : Thread nD τ).loc main_arg0)) (m' ((c.tc : Thread nD τ).loc main_arg1))) := by
    intro c
    funext i
    obtain ⟨q, n, l, rfl⟩ : ∃ (q : Fin 5) (n : Fin 16384) (l : Fin 256), i = ix3 q n l := ⟨i 0, i 1, i 2, eq_ix3 i⟩
    rw [vZ_apply, (hargs c).2.2]
    simp only [← ku]
    rfl
  refine ⟨fun c => Cert.KernelInprojOwnIdeal.Own.u m c, fun c => Cert.KernelInprojOwnIdeal.Own.z m c, ?_, ?_⟩
  · exact (θ_run _ _ _).mono (fun r h c => ⟨(h c).1.trans (Cert.KernelInprojOwnIdeal.Own.final3 m c),
      (h c).2.1.trans (Cert.KernelInprojOwnIdeal.Own.final4 m c), (h c).2.2⟩) (Cert.KernelInprojOwnIdeal.Value.run_blocks m g)
  · exact (θ_run _ _ _).mono (fun r h c => ⟨(h c).1.trans (k3 c).symm, (h c).2.1.trans (k4 c).symm, (h c).2.2⟩)
      (Cert.ReferenceInprojOwnIdeal.Value.run m' g')

end Cert.Own.InprojOwn

end
-- ==== Proof.Inproj.lean ====
/- The rest of the input projection: one tile of rows, its twenty column chunks laid out by residue class. -/
module

public import proofs.«01_k».proof.Proof.Gen.KernelInprojIdeal.Value
public import proofs.«01_k».proof.Proof.Common
public import Idealize.ShloMosaic.Lib.Pipeline.Value
public import Idealize.ShloMosaic.Lib.Pipeline.ReadBack
public import Idealize.ShloMosaic.Lib.Pointwise
public import Idealize.ShloMosaic.Lib.Tactic
public import Idealize.ShloMosaic.Lib.StableHlo.RunRead
public import Idealize.ShloMosaic.Lib.Pipeline.ValueKit.Tiles
public import Idealize.ShloMosaic.Lib.Pipeline.ValueKit
public import Idealize.ShloMosaic.PureOps.Ideal

@[expose] public section

noncomputable section

namespace Cert.KernelInprojIdeal.Own

open Cert.KernelInprojIdeal Cert.KernelInprojIdeal.Gen Idealize.ShloMosaic Idealize.ShloMosaic.TcCoe Idealize.SL.Sem Cert.Own
open Idealize.ShloMosaic.Pipeline (Dat)

theorem hz2 : (![0, 0] : Fin 2 → Nat) = fun _ => 0 := funext fun a => by fin_cases a <;> rfl

/-- Every 4th row of a lane half, from row `r`. -/
def everyRow128 (r : ℕ) (hr : r < 4) (w : S1x512x128.Idx → EReal) : S1x128x128.Idx → EReal := fun j =>
  w (ix3 0 ⟨r + 4 * (j 1).val, by have := (j 1).isLt; change _ < 128 at this; omega⟩ (j 2))

/-- The same, cut to its rows and lanes, as it is stored. -/
def strip128 (v : Vec Ideal S1x128x128 .f32) : FVec Ideal S1x1x128x128 .bf16 :=
  shapeCast S1x1x128x128 (truncf .bf16 (shapeCast S128x128 v shapeCasts_S1x128x128_S128x128) bitsLt_bf16_f32) shapeCasts_S128x128_S1x1x128x128

theorem strip128_apply (v : Vec Ideal S1x128x128 .f32) (x : S1x1x128x128.Idx) : (strip128 v x : EReal) = v (ix3 0 (x 2) (x 3)) := by
  obtain ⟨p, q, a, b, rfl⟩ : ∃ (p q : Fin 1) (a : Fin 128) (b : Fin 128), x = ix4 p q a b := ⟨x 0, x 1, x 2, x 3, eq_ix4 x⟩
  pointwise [strip128]

/-- Every 16th row of a lane half, from row `r`. -/
def everyRow32 (r : ℕ) (hr : r < 16) (w : S1x512x128.Idx → EReal) : S1x32x128.Idx → EReal := fun j =>
  w (ix3 0 ⟨r + 16 * (j 1).val, by have := (j 1).isLt; change _ < 32 at this; omega⟩ (j 2))

/-- The same, cut to its rows and lanes, as it is stored. -/
def strip32 (v : Vec Ideal S1x32x128 .f32) : FVec Ideal S1x1x32x128 .bf16 :=
  shapeCast S1x1x32x128 (truncf .bf16 (shapeCast S32x128 v shapeCasts_S1x32x128_S32x128) bitsLt_bf16_f32) shapeCasts_S32x128_S1x1x32x128

theorem strip32_apply (v : Vec Ideal S1x32x128 .f32) (x : S1x1x32x128.Idx) : (strip32 v x : EReal) = v (ix3 0 (x 2) (x 3)) := by
  obtain ⟨p, q, a, b, rfl⟩ : ∃ (p q : Fin 1) (a : Fin 32) (b : Fin 128), x = ix4 p q a b := ⟨x 0, x 1, x 2, x 3, eq_ix4 x⟩
  pointwise [strip32]

/-- Every 4th row of a lane half, read back from the scratch after the half was written. -/
theorem slab_read128 (v : View sig .tc .vmem S2x512x128 .f32) (h r : ℕ) (inbP) (w : S1x512x128.Idx → EReal) (L : List (View.Piece (Elt Ideal) S2x512x128 .f32))
    (inbB) (hr : r < 4) : v.readCov (⟨Rect.unit ![h, 0, 0] S1x512x128.size inbP, w⟩ :: L) (⟨![h, r, 0], S1x128x128.size, ![1, 4, 1], inbB⟩ : LoadRect S2x512x128)
      = everyRow128 r hr w := by
  rw [View.readCov_eq_canon']
  funext j
  have e : (⟨![h, r, 0], S1x128x128.size, ![1, 4, 1], inbB⟩ : LoadRect S2x512x128).idx j
      = (Rect.unit (s := S2x512x128) ![h, 0, 0] S1x512x128.size inbP).emb (ix3 0 ⟨r + 4 * (j 1).val, by have := (j 1).isLt; dsimp at this; change _ < 128 at this; omega⟩ (j 2)) := by
    funext a
    refine Fin.ext ?_
    match a with
    | ⟨0, _⟩ => show h + 1 * (j 0).val = h + 1 * 0; have := (j 0).isLt; change _ < 1 at this; omega
    | ⟨1, _⟩ => show r + 4 * (j 1).val = 0 + 1 * (r + 4 * (j 1).val); omega
    | ⟨2, _⟩ => show 0 + 1 * (j 2).val = 0 + 1 * (j 2).val; rfl
  exact (congrArg (View.canon _) e).trans (View.canon_cons_emb (Rect.unit (s := S2x512x128) ![h, 0, 0] S1x512x128.size inbP) w L _)

/-- Every 16th row of a lane half, read back from the scratch after the half was written. -/
theorem slab_read32 (v : View sig .tc .vmem S2x512x128 .f32) (h r : ℕ) (inbP) (w : S1x512x128.Idx → EReal) (L : List (View.Piece (Elt Ideal) S2x512x128 .f32))
    (inbB) (hr : r < 16) : v.readCov (⟨Rect.unit ![h, 0, 0] S1x512x128.size inbP, w⟩ :: L) (⟨![h, r, 0], S1x32x128.size, ![1, 16, 1], inbB⟩ : LoadRect S2x512x128)
      = everyRow32 r hr w := by
  rw [View.readCov_eq_canon']
  funext j
  have e : (⟨![h, r, 0], S1x32x128.size, ![1, 16, 1], inbB⟩ : LoadRect S2x512x128).idx j
      = (Rect.unit (s := S2x512x128) ![h, 0, 0] S1x512x128.size inbP).emb (ix3 0 ⟨r + 16 * (j 1).val, by have := (j 1).isLt; dsimp at this; change _ < 32 at this; omega⟩ (j 2)) := by
    funext a
    refine Fin.ext ?_
    match a with
    | ⟨0, _⟩ => show h + 1 * (j 0).val = h + 1 * 0; have := (j 0).isLt; change _ < 1 at this; omega
    | ⟨1, _⟩ => show r + 16 * (j 1).val = 0 + 1 * (r + 16 * (j 1).val); omega
    | ⟨2, _⟩ => show 0 + 1 * (j 2).val = 0 + 1 * (j 2).val; rfl
  exact (congrArg (View.canon _) e).trans (View.canon_cons_emb (Rect.unit (s := S2x512x128) ![h, 0, 0] S1x512x128.size inbP) w L _)

section
variable (x0 : Vec Ideal S512x1024 .bf16) (x1 : Vec Ideal S5x512x256 .bf16) (x2 : Vec Ideal S4x1024x1280 .bf16)

/-- Column chunk `k` of a row of the tile: of the first five as they come, of the others the product; the queries scaled. -/
def zQ (k : ℕ) (i : Fin 512) (l : Fin 256) : EReal :=
  if h : k < 5 then (if k < 3 then x1 (ix3 ⟨k, h⟩ i l) * Ideal.ofBits FTy.f32 0x3E000000#32 else x1 (ix3 ⟨k, h⟩ i l))
  else ∑ f : Fin 1024, x0 (ix2 i f) * x2 (ix3 ⟨k / 5 % 4, by omega⟩ f ⟨256 * (k % 5) + l.val, by omega⟩)

def G3 (y : S3x1x512x256.Idx) : EReal := zQ x0 x1 x2 (3 * (y 0).val) (y 2) (y 3)
def G4 (y : S3x4x128x256.Idx) : EReal := zQ x0 x1 x2 (3 * (y 0).val + 1) ⟨(y 1).val + 4 * (y 2).val, by
  have h1 := (y 1).isLt; have h2 := (y 2).isLt; change _ < 4 at h1; change _ < 128 at h2; omega⟩ (y 3)
def G5 (y : S3x16x32x256.Idx) : EReal := zQ x0 x1 x2 (3 * (y 0).val + 2) ⟨(y 1).val + 16 * (y 2).val, by
  have h1 := (y 1).isLt; have h2 := (y 2).isLt; change _ < 16 at h1; change _ < 32 at h2; omega⟩ (y 3)
def G6 (y : S512x768.Idx) : EReal := zQ x0 x1 x2 (9 + (y 1).val / 256) (y 0) ⟨(y 1).val % 256, by omega⟩
def G7 (y : S512x2048.Idx) : EReal := zQ x0 x1 x2 (12 + (y 1).val / 256) (y 0) ⟨(y 1).val % 256, by omega⟩

/-! The body's chunks: a scaled one of the first five, a plain one of them, a product. -/

def chunkQ (v : Vec Ideal S1x512x256 .bf16) : FVec Ideal S512x256 .f32 :=
  mulf (extf .f32 (shapeCast S512x256 v shapeCasts_S1x512x256_S512x256) bitsLt_bf16_f32) (broadcast S512x256 (Scalar.ofBits .f32 0x3E000000#32))
def chunkO (v : Vec Ideal S1x512x256 .bf16) : FVec Ideal S512x256 .f32 :=
  extf .f32 (shapeCast S512x256 v shapeCasts_S1x512x256_S512x256) bitsLt_bf16_f32
def chunkD (x0 : Vec Ideal S512x1024 .bf16) (w : Vec Ideal S1x1024x256 .bf16) : FVec Ideal S512x256 .f32 :=
  matmul (φ₁ := .bf16) (φ₂ := .bf16) dot_S512x1024_S1024x256_S512x256_1_0_0_1_n_n none (shapeCast S512x1024 x0 shapeCasts_S512x1024_S512x1024)
    (shapeCast S1024x256 w shapeCasts_S1x1024x256_S1024x256) (constant S512x256 .f32 0x00000000#32)

theorem chunkQ_eq (k q : ℕ) (inb) (hk : k < 3 ∧ q = k) (n : Fin 512) (l : Fin 256) :
    (chunkQ (View.ld x1 (Rect.unit ![q, 0, 0] S1x512x256.size inb)) (ix2 n l) : EReal) = zQ x0 x1 x2 k n l := by
  obtain ⟨hk, rfl⟩ := hk
  unfold zQ
  rw [dif_pos (by omega), if_pos hk]
  pointwise [chunkQ]

theorem chunkO_eq (k q : ℕ) (inb) (hk : 3 ≤ k ∧ k < 5 ∧ q = k) (n : Fin 512) (l : Fin 256) :
    (chunkO (View.ld x1 (Rect.unit ![q, 0, 0] S1x512x256.size inb)) (ix2 n l) : EReal) = zQ x0 x1 x2 k n l := by
  obtain ⟨h3, hk, rfl⟩ := hk
  unfold zQ
  rw [dif_pos (by omega), if_neg (by omega)]
  pointwise [chunkO]

theorem chunkD_eq (k q o : ℕ) (inb) (hk : 5 ≤ k ∧ k < 20 ∧ q = k / 5 ∧ o = 256 * (k % 5)) (n : Fin 512) (l : Fin 256) :
    (chunkD x0 (View.ld x2 (Rect.unit ![q, 0, o] S1x1024x256.size inb)) (ix2 n l) : EReal) = zQ x0 x1 x2 k n l := by
  obtain ⟨h5, h20, rfl, rfl⟩ := hk
  unfold zQ
  rw [dif_neg (by omega)]
  pointwise [chunkD]
  refine Finset.sum_congr rfl fun f _ => congrArg (_ * ·) (congrArg x2 (funext fun a => Fin.ext ?_))
  match a with
  | ⟨0, _⟩ => show k / 5 = k / 5 % 4; omega
  | ⟨1, _⟩ => rfl
  | ⟨2, _⟩ => rfl

/-! Their two lane halves, and the whole as it is stored. -/

def lowH (z : FVec Ideal S512x256 .f32) : FVec Ideal S1x512x128 .f32 :=
  shapeCast S1x512x128 (extractStridedSlice S512x128 ![0, 0] z slices_S512x256_o0_0_S512x128) shapeCasts_S512x128_S1x512x128
def highH (z : FVec Ideal S512x256 .f32) : FVec Ideal S1x512x128 .f32 :=
  shapeCast S1x512x128 (extractStridedSlice S512x128 ![0, 128] z slices_S512x256_o0_128_S512x128) shapeCasts_S512x128_S1x512x128
def flat (z : FVec Ideal S512x256 .f32) : FVec Ideal S1x1x512x256 .bf16 :=
  shapeCast S1x1x512x256 (truncf .bf16 z bitsLt_bf16_f32) shapeCasts_S512x256_S1x1x512x256

theorem lowH_apply (z : FVec Ideal S512x256 .f32) (n : Fin 512) (b : Fin 128) : (lowH z (ix3 0 n b) : EReal) = z (ix2 n ⟨0 + b.val, by omega⟩) := by
  pointwise [lowH]
theorem highH_apply (z : FVec Ideal S512x256 .f32) (n : Fin 512) (b : Fin 128) : (highH z (ix3 0 n b) : EReal) = z (ix2 n ⟨128 + b.val, by omega⟩) := by
  pointwise [highH]

/-! A stored piece is the piece of the result. -/

theorem piece3 (z : FVec Ideal S512x256 .f32) (wh : ℕ) (inb) (hz : ∀ n l, (z (ix2 n l) : EReal) = zQ x0 x1 x2 (3 * wh) n l)
    (x : S1x1x512x256.Idx) : (flat z x : EReal) = G3 x0 x1 x2 ((Rect.unit (s := S3x1x512x256) ![wh, 0, 0, 0] S1x1x512x256.size inb).emb x) := by
  obtain ⟨p, q, a, b, rfl⟩ : ∃ (p q : Fin 1) (a : Fin 512) (b : Fin 256), x = ix4 p q a b := ⟨x 0, x 1, x 2, x 3, eq_ix4 x⟩
  obtain rfl : p = 0 := Subsingleton.elim _ _
  pointwise [flat]
  rw [hz]
  unfold G3
  congr 1
  · exact Fin.ext (show a.val = 0 + 1 * a.val by omega)
  · exact Fin.ext (show b.val = 0 + 1 * b.val by omega)

theorem low4 (z : FVec Ideal S512x256 .f32) (wh r : ℕ) (hr : r < 4) (inb) (hz : ∀ n l, (z (ix2 n l) : EReal) = zQ x0 x1 x2 (3 * wh + 1) n l)
    (x : S1x1x128x128.Idx) : (strip128 (everyRow128 r hr (lowH z)) x : EReal)
      = G4 x0 x1 x2 ((Rect.unit (s := S3x4x128x256) ![wh, r, 0, 0] S1x1x128x128.size inb).emb x) := by
  obtain ⟨p, q, a, b, rfl⟩ : ∃ (p q : Fin 1) (a : Fin 128) (b : Fin 128), x = ix4 p q a b := ⟨x 0, x 1, x 2, x 3, eq_ix4 x⟩
  obtain rfl : p = 0 := Subsingleton.elim _ _
  obtain rfl : q = 0 := Subsingleton.elim _ _
  refine (strip128_apply _ _).trans ((lowH_apply z _ _).trans ((hz _ _).trans ?_))
  unfold G4
  congr 1
  · exact Fin.ext (show r + 4 * a.val = (r + 1 * 0) + 4 * (0 + 1 * a.val) by omega)
  · exact Fin.ext (show 0 + b.val = 0 + 1 * b.val by omega)

theorem high4 (z : FVec Ideal S512x256 .f32) (wh r : ℕ) (hr : r < 4) (inb) (hz : ∀ n l, (z (ix2 n l) : EReal) = zQ x0 x1 x2 (3 * wh + 1) n l)
    (x : S1x1x128x128.Idx) : (strip128 (everyRow128 r hr (highH z)) x : EReal)
      = G4 x0 x1 x2 ((Rect.unit (s := S3x4x128x256) ![wh, r, 0, 128] S1x1x128x128.size inb).emb x) := by
  obtain ⟨p, q, a, b, rfl⟩ : ∃ (p q : Fin 1) (a : Fin 128) (b : Fin 128), x = ix4 p q a b := ⟨x 0, x 1, x 2, x 3, eq_ix4 x⟩
  obtain rfl : p = 0 := Subsingleton.elim _ _
  obtain rfl : q = 0 := Subsingleton.elim _ _
  refine (strip128_apply _ _).trans ((highH_apply z _ _).trans ((hz _ _).trans ?_))
  unfold G4
  congr 1
  · exact Fin.ext (show r + 4 * a.val = (r + 1 * 0) + 4 * (0 + 1 * a.val) by omega)
  · exact Fin.ext (show 128 + b.val = 128 + 1 * b.val by omega)

theorem low5 (z : FVec Ideal S512x256 .f32) (wh r : ℕ) (hr : r < 16) (inb) (hz : ∀ n l, (z (ix2 n l) : EReal) = zQ x0 x1 x2 (3 * wh + 2) n l)
    (x : S1x1x32x128.Idx) : (strip32 (everyRow32 r hr (lowH z)) x : EReal)
      = G5 x0 x1 x2 ((Rect.unit (s := S3x16x32x256) ![wh, r, 0, 0] S1x1x32x128.size inb).emb x) := by
  obtain ⟨p, q, a, b, rfl⟩ : ∃ (p q : Fin 1) (a : Fin 32) (b : Fin 128), x = ix4 p q a b := ⟨x 0, x 1, x 2, x 3, eq_ix4 x⟩
  obtain rfl : p = 0 := Subsingleton.elim _ _
  obtain rfl : q = 0 := Subsingleton.elim _ _
  refine (strip32_apply _ _).trans ((lowH_apply z _ _).trans ((hz _ _).trans ?_))
  unfold G5
  congr 1
  · exact Fin.ext (show r + 16 * a.val = (r + 1 * 0) + 16 * (0 + 1 * a.val) by omega)
  · exact Fin.ext (show 0 + b.val = 0 + 1 * b.val by omega)

theorem high5 (z : FVec Ideal S512x256 .f32) (wh r : ℕ) (hr : r < 16) (inb) (hz : ∀ n l, (z (ix2 n l) : EReal) = zQ x0 x1 x2 (3 * wh + 2) n l)
    (x : S1x1x32x128.Idx) : (strip32 (everyRow32 r hr (highH z)) x : EReal)
      = G5 x0 x1 x2 ((Rect.unit (s := S3x16x32x256) ![wh, r, 0, 128] S1x1x32x128.size inb).emb x) := by
  obtain ⟨p, q, a, b, rfl⟩ : ∃ (p q : Fin 1) (a : Fin 32) (b : Fin 128), x = ix4 p q a b := ⟨x 0, x 1, x 2, x 3, eq_ix4 x⟩
  obtain rfl : p = 0 := Subsingleton.elim _ _
  obtain rfl : q = 0 := Subsingleton.elim _ _
  refine (strip32_apply _ _).trans ((highH_apply z _ _).trans ((hz _ _).trans ?_))
  unfold G5
  congr 1
  · exact Fin.ext (show r + 16 * a.val = (r + 1 * 0) + 16 * (0 + 1 * a.val) by omega)
  · exact Fin.ext (show 128 + b.val = 128 + 1 * b.val by omega)

theorem piece6 (z : FVec Ideal S512x256 .f32) (o : ℕ) (inb) (ho : o % 256 = 0) (hz : ∀ n l, (z (ix2 n l) : EReal) = zQ x0 x1 x2 (9 + o / 256) n l)
    (x : S512x256.Idx) : (truncf .bf16 z bitsLt_bf16_f32 x : EReal) = G6 x0 x1 x2 ((Rect.unit (s := S512x768) ![0, o] S512x256.size inb).emb x) := by
  obtain ⟨a, b, rfl⟩ : ∃ (a : Fin 512) (b : Fin 256), x = ix2 a b := ⟨x 0, x 1, eq_ix2 x⟩
  refine (hz a b).trans ?_
  unfold G6
  have hb := b.isLt
  congr 1
  · show 9 + o / 256 = 9 + (o + 1 * b.val) / 256; omega
  · exact Fin.ext (show a.val = 0 + 1 * a.val by omega)
  · exact Fin.ext (show b.val = (o + 1 * b.val) % 256 by omega)

theorem piece7 (z : FVec Ideal S512x256 .f32) (o : ℕ) (inb) (ho : o % 256 = 0) (hz : ∀ n l, (z (ix2 n l) : EReal) = zQ x0 x1 x2 (12 + o / 256) n l)
    (x : S512x256.Idx) : (truncf .bf16 z bitsLt_bf16_f32 x : EReal) = G7 x0 x1 x2 ((Rect.unit (s := S512x2048) ![0, o] S512x256.size inb).emb x) := by
  obtain ⟨a, b, rfl⟩ : ∃ (a : Fin 512) (b : Fin 256), x = ix2 a b := ⟨x 0, x 1, eq_ix2 x⟩
  refine (hz a b).trans ?_
  unfold G7
  have hb := b.isLt
  congr 1
  · show 12 + o / 256 = 12 + (o + 1 * b.val) / 256; omega
  · exact Fin.ext (show a.val = 0 + 1 * a.val by omega)
  · exact Fin.ext (show b.val = (o + 1 * b.val) % 256 by omega)

variable (c : Dev nD) (i : grid0.Coords) (a1 : Memref sig .tc .vmem S512x1024 .bf16) (h1 : a1.IsWhole) (a2 : Memref sig .tc .vmem S5x512x256 .bf16) (h2 : a2.IsWhole) (a3 : Memref sig .tc .vmem S4x1024x1280 .bf16) (h3 : a3.IsWhole) (a4 : Memref sig .tc .vmem S3x1x512x256 .bf16) (h4 : a4.IsWhole) (a5 : Memref sig .tc .vmem S3x4x128x256 .bf16) (h5 : a5.IsWhole) (a6 : Memref sig .tc .vmem S3x16x32x256 .bf16) (h6 : a6.IsWhole) (a7 : Memref sig .tc .vmem S512x768 .bf16) (h7 : a7.IsWhole) (a8 : Memref sig .tc .vmem S512x2048 .bf16) (h8 : a8.IsWhole) (a9 : Memref sig .tc .vmem S2x512x128 .f32) (h9 : a9.IsWhole)

/-! The body's names for the halves of the product chunks. -/

theorem half112 (w) : k0_pay112 (F := Ideal) (k0_pay1 x0) w = lowH (chunkD x0 w) := rfl
theorem half113 (w) : k0_pay113 (F := Ideal) (k0_pay1 x0) w = highH (chunkD x0 w) := rfl
theorem half71 (w) : k0_pay71 (F := Ideal) (k0_pay1 x0) w = lowH (chunkD x0 w) := rfl
theorem half72 (w) : k0_pay72 (F := Ideal) (k0_pay1 x0) w = highH (chunkD x0 w) := rfl
theorem half123 (w) : k0_pay123 (F := Ideal) (k0_pay1 x0) w = lowH (chunkD x0 w) := rfl
theorem half124 (w) : k0_pay124 (F := Ideal) (k0_pay1 x0) w = highH (chunkD x0 w) := rfl

attribute [irreducible] zQ G3 G4 G5 G6 G7

set_option maxHeartbeats 4000000 in
theorem out3 : out0_A_3 (F := Ideal) c i a1 h1 a2 h2 a3 h3 a4 h4 a5 h5 a6 h6 a7 h7 a8 h8 a9 h9 x0 x1 x2 = G3 x0 x1 x2 := by
  unfold out0_A_3
  rw [View.read_writes_junk_eq_canon]
  funext y
  refine View.canon_apply_of_pieces (G3 x0 x1 x2) _ (View.PiecesOf.mem ?_) y (cover0_A_3 c i a1 h1 a2 h2 a3 h3 a4 h4 a5 h5 a6 h6 a7 h7 a8 h8 a9 h9 x0 x1 x2 y)
  unfold kernelRun0_A
  dsimp only
  sl_unfold_words
  simp only [View.readAt_eq_ld, h1.read_unread, h2.read_unread, h3.read_unread, View.ld_unit_zero (S := S512x1024) hz2]
  refine ⟨fun x => piece3 x0 x1 x2 (chunkD x0 _) 2 (by decide) (fun n l => chunkD_eq x0 x1 x2 _ _ _ (by decide) (by decide) n l) x, ?_⟩
  refine ⟨fun x => piece3 x0 x1 x2 (chunkO _) 1 (by decide) (fun n l => chunkO_eq x0 x1 x2 _ _ (by decide) (by decide) n l) x, ?_⟩
  refine ⟨fun x => piece3 x0 x1 x2 (chunkQ _) 0 (by decide) (fun n l => chunkQ_eq x0 x1 x2 _ _ (by decide) (by decide) n l) x, ?_⟩
  exact trivial

set_option maxHeartbeats 4000000 in
theorem out6 : out0_A_6 (F := Ideal) c i a1 h1 a2 h2 a3 h3 a4 h4 a5 h5 a6 h6 a7 h7 a8 h8 a9 h9 x0 x1 x2 = G6 x0 x1 x2 := by
  unfold out0_A_6
  rw [View.read_writes_junk_eq_canon]
  funext y
  refine View.canon_apply_of_pieces (G6 x0 x1 x2) _ (View.PiecesOf.mem ?_) y (cover0_A_6 c i a1 h1 a2 h2 a3 h3 a4 h4 a5 h5 a6 h6 a7 h7 a8 h8 a9 h9 x0 x1 x2 y)
  unfold kernelRun0_A
  dsimp only
  sl_unfold_words
  simp only [View.readAt_eq_ld, h1.read_unread, h2.read_unread, h3.read_unread, View.ld_unit_zero (S := S512x1024) hz2]
  iterate 3 refine ⟨fun x => piece6 x0 x1 x2 (chunkD x0 _) _ (by decide) (by decide) (fun n l => chunkD_eq x0 x1 x2 _ _ _ (by decide) (by decide) n l) x, ?_⟩
  exact trivial

set_option maxHeartbeats 4000000 in
theorem out7 : out0_A_7 (F := Ideal) c i a1 h1 a2 h2 a3 h3 a4 h4 a5 h5 a6 h6 a7 h7 a8 h8 a9 h9 x0 x1 x2 = G7 x0 x1 x2 := by
  unfold out0_A_7
  rw [View.read_writes_junk_eq_canon]
  funext y
  refine View.canon_apply_of_pieces (G7 x0 x1 x2) _ (View.PiecesOf.mem ?_) y (cover0_A_7 c i a1 h1 a2 h2 a3 h3 a4 h4 a5 h5 a6 h6 a7 h7 a8 h8 a9 h9 x0 x1 x2 y)
  unfold kernelRun0_A
  dsimp only
  sl_unfold_words
  simp only [View.readAt_eq_ld, h1.read_unread, h2.read_unread, h3.read_unread, View.ld_unit_zero (S := S512x1024) hz2]
  iterate 8 refine ⟨fun x => piece7 x0 x1 x2 (chunkD x0 _) _ (by decide) (by decide) (fun n l => chunkD_eq x0 x1 x2 _ _ _ (by decide) (by decide) n l) x, ?_⟩
  exact trivial

attribute [irreducible] everyRow128 everyRow32 chunkD

set_option maxHeartbeats 4000000 in
theorem out4 : out0_A_4 (F := Ideal) c i a1 h1 a2 h2 a3 h3 a4 h4 a5 h5 a6 h6 a7 h7 a8 h8 a9 h9 x0 x1 x2 = G4 x0 x1 x2 := by
  unfold out0_A_4
  rw [View.read_writes_junk_eq_canon]
  funext y
  refine View.canon_apply_of_pieces (G4 x0 x1 x2) _ (View.PiecesOf.mem ?_) y (cover0_A_4 c i a1 h1 a2 h2 a3 h3 a4 h4 a5 h5 a6 h6 a7 h7 a8 h8 a9 h9 x0 x1 x2 y)
  unfold kernelRun0_A
  dsimp only
  sl_unfold_words
  simp (disch := decide) only [↓ View.readCov_skip, ↓ slab_read128, half112, half113, half71, half72, half123, half124]
  simp only [View.readAt_eq_ld, h1.read_unread, h2.read_unread, h3.read_unread, View.ld_unit_zero (S := S512x1024) hz2]
  iterate 4
    refine ⟨fun x => high4 x0 x1 x2 (chunkD x0 _) 2 _ (by decide) (by decide) (fun n l => chunkD_eq x0 x1 x2 _ _ _ (by decide) (by decide) n l) x, ?_⟩
    refine ⟨fun x => low4 x0 x1 x2 (chunkD x0 _) 2 _ (by decide) (by decide) (fun n l => chunkD_eq x0 x1 x2 _ _ _ (by decide) (by decide) n l) x, ?_⟩
  iterate 4
    refine ⟨fun x => high4 x0 x1 x2 (chunkO _) 1 _ (by decide) (by decide) (fun n l => chunkO_eq x0 x1 x2 _ _ (by decide) (by decide) n l) x, ?_⟩
    refine ⟨fun x => low4 x0 x1 x2 (chunkO _) 1 _ (by decide) (by decide) (fun n l => chunkO_eq x0 x1 x2 _ _ (by decide) (by decide) n l) x, ?_⟩
  iterate 4
    refine ⟨fun x => high4 x0 x1 x2 (chunkQ _) 0 _ (by decide) (by decide) (fun n l => chunkQ_eq x0 x1 x2 _ _ (by decide) (by decide) n l) x, ?_⟩
    refine ⟨fun x => low4 x0 x1 x2 (chunkQ _) 0 _ (by decide) (by decide) (fun n l => chunkQ_eq x0 x1 x2 _ _ (by decide) (by decide) n l) x, ?_⟩
  exact trivial

set_option maxHeartbeats 4000000 in
theorem out5 : out0_A_5 (F := Ideal) c i a1 h1 a2 h2 a3 h3 a4 h4 a5 h5 a6 h6 a7 h7 a8 h8 a9 h9 x0 x1 x2 = G5 x0 x1 x2 := by
  unfold out0_A_5
  rw [View.read_writes_junk_eq_canon]
  funext y
  refine View.canon_apply_of_pieces (G5 x0 x1 x2) _ (View.PiecesOf.mem ?_) y (cover0_A_5 c i a1 h1 a2 h2 a3 h3 a4 h4 a5 h5 a6 h6 a7 h7 a8 h8 a9 h9 x0 x1 x2 y)
  unfold kernelRun0_A
  dsimp only
  sl_unfold_words
  simp (disch := decide) only [↓ View.readCov_skip, ↓ slab_read32, half112, half113, half71, half72, half123, half124]
  simp only [View.readAt_eq_ld, h1.read_unread, h2.read_unread, h3.read_unread, View.ld_unit_zero (S := S512x1024) hz2]
  iterate 16
    refine ⟨fun x => high5 x0 x1 x2 (chunkD x0 _) 2 _ (by decide) (by decide) (fun n l => chunkD_eq x0 x1 x2 _ _ _ (by decide) (by decide) n l) x, ?_⟩
    refine ⟨fun x => low5 x0 x1 x2 (chunkD x0 _) 2 _ (by decide) (by decide) (fun n l => chunkD_eq x0 x1 x2 _ _ _ (by decide) (by decide) n l) x, ?_⟩
  iterate 16
    refine ⟨fun x => high5 x0 x1 x2 (chunkD x0 _) 1 _ (by decide) (by decide) (fun n l => chunkD_eq x0 x1 x2 _ _ _ (by decide) (by decide) n l) x, ?_⟩
    refine ⟨fun x => low5 x0 x1 x2 (chunkD x0 _) 1 _ (by decide) (by decide) (fun n l => chunkD_eq x0 x1 x2 _ _ _ (by decide) (by decide) n l) x, ?_⟩
  iterate 16
    refine ⟨fun x => high5 x0 x1 x2 (chunkQ _) 0 _ (by decide) (by decide) (fun n l => chunkQ_eq x0 x1 x2 _ _ (by decide) (by decide) n l) x, ?_⟩
    refine ⟨fun x => low5 x0 x1 x2 (chunkQ _) 0 _ (by decide) (by decide) (fun n l => chunkQ_eq x0 x1 x2 _ _ (by decide) (by decide) n l) x, ?_⟩
  exact trivial

end

end Cert.KernelInprojIdeal.Own

end
-- ==== Proof.InprojArray.lean ====
/- The rest of the input projection: what the kernel leaves in its five result arrays. -/
module

public import proofs.«01_k».proof.Proof.Inproj
public import Idealize.ShloMosaic.Lib.Pipeline.Value
public import Idealize.ShloMosaic.Lib.Pointwise
public import Idealize.ShloMosaic.Lib.Tactic
public import Idealize.ShloMosaic.Lib.StableHlo.RunRead
public import Idealize.ShloMosaic.Lib.Pipeline.ValueKit.Tiles
public import Idealize.ShloMosaic.Lib.Pipeline.ValueKit
public import Idealize.ShloMosaic.PureOps.Ideal

@[expose] public section

noncomputable section

namespace Cert.KernelInprojIdeal.Own

open Cert.KernelInprojIdeal Cert.KernelInprojIdeal.Gen Idealize.ShloMosaic Idealize.ShloMosaic.TcCoe Idealize.SL.Sem Cert.Own
open Idealize.ShloMosaic.Pipeline (Dat)

variable (M : (ℓ : Loc nD τ sig) → Buf (Elt Ideal) ℓ)

/-! ## The operands -/

abbrev aU (c : Dev nD) : S16384x1024.Idx → EReal := M ((c : Thread nD τ).loc main_arg0)
abbrev aW (c : Dev nD) : S1024x5120.Idx → EReal := M ((c : Thread nD τ).loc main_arg1)

/-- The projection. -/
@[irreducible] def zA (c : Dev nD) (n : Fin 16384) (f : Fin 5120) : EReal := ∑ k : Fin 1024, aU M c (ix2 n k) * aW M c (ix2 k f)

/-- The same with the queries' columns scaled. -/
def sA (c : Dev nD) (n : Fin 16384) (f : Fin 5120) : EReal :=
  if f.val < 768 then zA M c n f * Ideal.ofBits FTy.f32 0x3E000000#32 else zA M c n f

theorem V_v8 (c : Dev nD) : (V M c main_v8 : S16384x1024.Idx → EReal) = aU M c := by
  show StableHlo.after hostOps0 (fun b => M (c, b)) main_v8 = _
  after_reads_simp
  rfl

theorem V_v7 (c : Dev nD) (q : Fin 5) (n : Fin 16384) (l : Fin 256) (f : Fin 5120) (hf : f.val = q.val * 256 + l.val) :
    (V M c main_v7 (ix3 q n l) : EReal) = zA M c n f := by
  show StableHlo.after hostOps0 (fun b => M (c, b)) main_v7 (ix3 q n l) = _
  after_reads_simp
  pointwise
  unfold zA
  exact congrArg (fun f : Fin 5120 => (∑ k : Fin 1024, aU M c (ix2 n k) * aW M c (ix2 k f) : EReal)) (Fin.ext hf.symm)

theorem V_v2 (c : Dev nD) (q : Fin 4) (j : Fin 1024) (l : Fin 1280) (f : Fin 5120) (hf : f.val = q.val * 1280 + l.val) :
    (V M c main_v2 (ix3 q j l) : EReal) = aW M c (ix2 j f) := by
  show StableHlo.after hostOps0 (fun b => M (c, b)) main_v2 (ix3 q j l) = _
  after_reads_simp
  pointwise
  exact congrArg (fun f => aW M c (ix2 j f)) (Fin.ext hf.symm)

/-! ## The blocks of a point -/

theorem idx0 : ∀ t : Fin cfg0.N, win0_0.index t 0 = t.val ∧ win0_0.index t 1 = 0 := by decide +kernel
theorem idx1 : ∀ t : Fin cfg0.N, win0_1.index t 0 = 0 ∧ win0_1.index t 1 = t.val ∧ win0_1.index t 2 = 0 := by decide +kernel
theorem idx2 : ∀ t : Fin cfg0.N, win0_2.index t 0 = 0 ∧ win0_2.index t 1 = 0 ∧ win0_2.index t 2 = 0 := by decide +kernel
theorem idx3 : ∀ t : Fin cfg0.N, win0_3.index t 0 = 0 ∧ win0_3.index t 1 = 0 ∧ win0_3.index t 2 = t.val ∧ win0_3.index t 3 = 0 := by decide +kernel
theorem idx4 : ∀ t : Fin cfg0.N, win0_4.index t 0 = 0 ∧ win0_4.index t 1 = 0 ∧ win0_4.index t 2 = t.val ∧ win0_4.index t 3 = 0 := by decide +kernel
theorem idx5 : ∀ t : Fin cfg0.N, win0_5.index t 0 = 0 ∧ win0_5.index t 1 = 0 ∧ win0_5.index t 2 = t.val ∧ win0_5.index t 3 = 0 := by decide +kernel
theorem idx6 : ∀ t : Fin cfg0.N, win0_6.index t 0 = t.val ∧ win0_6.index t 1 = 0 := by decide +kernel
theorem idx7 : ∀ t : Fin cfg0.N, win0_7.index t 0 = t.val ∧ win0_7.index t 1 = 0 := by decide +kernel

/-- Row `i` of the tile of point `t`, in the whole array. -/
def rowIx (t : Fin cfg0.N) (i : Fin 512) : Fin 16384 :=
  ⟨512 * t.val + i.val, by have := lt_of_lt_of_eq t.isLt N_0; have := i.isLt; omega⟩

theorem iblk0 (c : Dev nD) (t : Fin cfg0.N) (i : Fin 512) (k : Fin 1024) :
    (iblk M c 0 t (ix2 i k) : EReal) = aU M c (ix2 (rowIx t i) k) := by
  unfold iblk
  rw [View.read_apply]
  refine (congrFun (V_v8 M c) _).trans (congrArg (aU M c) (funext fun a => Fin.ext ?_))
  match a with
  | ⟨0, _⟩ => show win0_0.index t 0 * 512 + 1 * i.val = 512 * t.val + i.val; rw [(idx0 t).1]; omega
  | ⟨1, _⟩ => show win0_0.index t 1 * 1024 + 1 * k.val = k.val; rw [(idx0 t).2]; omega

theorem iblk1 (c : Dev nD) (t : Fin cfg0.N) (q : Fin 5) (i : Fin 512) (l : Fin 256) :
    (iblk M c 1 t (ix3 q i l) : EReal) = V M c main_v7 (ix3 q (rowIx t i) l) := by
  unfold iblk
  rw [View.read_apply]
  refine congrArg (V M c main_v7) (funext fun a => Fin.ext ?_)
  match a with
  | ⟨0, _⟩ => show win0_1.index t 0 * 5 + 1 * q.val = q.val; rw [(idx1 t).1]; omega
  | ⟨1, _⟩ => show win0_1.index t 1 * 512 + 1 * i.val = 512 * t.val + i.val; rw [(idx1 t).2.1]; omega
  | ⟨2, _⟩ => show win0_1.index t 2 * 256 + 1 * l.val = l.val; rw [(idx1 t).2.2]; omega

theorem iblk2 (c : Dev nD) (t : Fin cfg0.N) (q : Fin 4) (j : Fin 1024) (l : Fin 1280) :
    (iblk M c 2 t (ix3 q j l) : EReal) = V M c main_v2 (ix3 q j l) := by
  unfold iblk
  rw [View.read_apply]
  refine congrArg (V M c main_v2) (funext fun a => Fin.ext ?_)
  match a with
  | ⟨0, _⟩ => show win0_2.index t 0 * 4 + 1 * q.val = q.val; rw [(idx2 t).1]; omega
  | ⟨1, _⟩ => show win0_2.index t 1 * 1024 + 1 * j.val = j.val; rw [(idx2 t).2.1]; omega
  | ⟨2, _⟩ => show win0_2.index t 2 * 1280 + 1 * l.val = l.val; rw [(idx2 t).2.2]; omega

/-- A chunk of the tile is the chunk of the projection. -/
theorem zQ_eq (c : Dev nD) (t : Fin cfg0.N) (k : ℕ) (i : Fin 512) (l : Fin 256) (n : Fin 16384) (f : Fin 5120) (hk : k < 20)
    (hn : n.val = 512 * t.val + i.val) (hf : f.val = 256 * k + l.val) :
    zQ (iblk M c 0 t) (iblk M c 1 t) (iblk M c 2 t) k i l = sA M c n f := by
  obtain rfl : n = rowIx t i := Fin.ext hn
  have hl := l.isLt
  unfold zQ sA
  by_cases h5 : k < 5
  · rw [dif_pos h5]
    have e : (iblk M c 1 t (ix3 ⟨k, h5⟩ i l) : EReal) = zA M c (rowIx t i) f :=
      (iblk1 M c t _ _ _).trans (V_v7 M c _ _ _ _ (by show f.val = k * 256 + l.val; omega))
    by_cases h3 : k < 3
    · rw [if_pos h3, if_pos (by omega)]
      exact congrArg (· * Ideal.ofBits FTy.f32 0x3E000000#32) e
    · rw [if_neg h3, if_neg (by omega)]
      exact e
  · rw [dif_neg h5, if_neg (by omega)]
    unfold zA
    refine Finset.sum_congr rfl fun k' _ => congrArg₂ (· * ·) (iblk0 M c t i k') ?_
    exact (iblk2 M c t _ _ _).trans (V_v2 M c _ _ _ _ (by show f.val = k / 5 % 4 * 1280 + (256 * (k % 5) + l.val); omega))

/-! ## The arrays after the run -/

/-- A group's queries, keys and values: row `s` of residue class `r` modulo `d` is row `r + d s` of the projection. -/
def group (c : Dev nD) (d R : ℕ) (hd : d * R = 16384) (o : ℕ) (ho : o ≤ 512) (i : Fin 3 × Fin d × Fin R × Fin 256) : EReal :=
  sA M c ⟨i.2.1.val + d * i.2.2.1.val, by
      have h1 := i.2.1.isLt
      have h2 : d * i.2.2.1.val ≤ d * (R - 1) := Nat.mul_le_mul_left d (Nat.le_sub_one_of_lt i.2.2.1.isLt)
      have h3 : d * (R - 1) + d = d * R := by
        rw [← Nat.mul_succ, Nat.succ_eq_add_one, Nat.sub_add_cancel (Nat.one_le_of_lt i.2.2.1.isLt)]
      omega⟩
    ⟨768 * i.1.val + o + i.2.2.2.val, by have := i.1.isLt; have := i.2.2.2.isLt; omega⟩

def q0 (c : Dev nD) : S3x1x16384x256.Idx → EReal := fun i => group M c 1 16384 rfl 0 (by decide) (i 0, i 1, i 2, i 3)
def q1 (c : Dev nD) : S3x4x4096x256.Idx → EReal := fun i => group M c 4 4096 rfl 256 (by decide) (i 0, i 1, i 2, i 3)
def q2 (c : Dev nD) : S3x16x1024x256.Idx → EReal := fun i => group M c 16 1024 rfl 512 (by decide) (i 0, i 1, i 2, i 3)
def pz (c : Dev nD) : S16384x768.Idx → EReal := fun i => sA M c (i 0) ⟨2304 + (i 1).val, by have := (i 1).isLt; change _ < 768 at this; omega⟩
def gates (c : Dev nD) : S16384x2048.Idx → EReal := fun i => sA M c (i 0) ⟨3072 + (i 1).val, by have := (i 1).isLt; change _ < 2048 at this; omega⟩

/-- The point of a tile. -/
theorem point_of (k : ℕ) (h : k < 32) : ∃ t : Fin cfg0.N, t.val = k := ⟨⟨k, lt_of_lt_of_eq h N_0.symm⟩, rfl⟩

theorem every3 : ∀ t : Fin cfg0.N, (cfg0.win 3).flush t = true := by decide +kernel

theorem final3 (c : Dev nD) : (dats M 0 c).arrAt 3 cfg0.N = q0 M c := by
  refine (dats M 0 c).arrAt_eq_of_cover 3 (q0 M c) (fun t hf => ?_) (fun i => ?_)
  · rw [Value.flushed3]
    funext y
    obtain ⟨p, q, a, l, rfl⟩ : ∃ (p : Fin 3) (q : Fin 1) (a : Fin 512) (l : Fin 256), y = ix4 p q a l := ⟨y 0, y 1, y 2, y 3, eq_ix4 y⟩
    rw [View.read_apply]
    unfold outsAt0
    dsimp only
    rw [out3]
    unfold G3
    refine zQ_eq M c t _ a l _ _ (by show 3 * p.val + 0 < 20; omega) ?_ ?_
    · show (win0_3.index t 1 * 1 + 1 * q.val) + 1 * (win0_3.index t 2 * 512 + 1 * a.val) = 512 * t.val + a.val
      rw [(idx3 t).2.1, (idx3 t).2.2.1]; omega
    · show 768 * (win0_3.index t 0 * 3 + 1 * p.val) + 0 + (win0_3.index t 3 * 256 + 1 * l.val) = 256 * (3 * p.val + 0) + l.val
      rw [(idx3 t).1, (idx3 t).2.2.2]; omega
  · have h0 : (i 0 : Nat) < 3 := (i 0).isLt
    have h1 : (i 1 : Nat) < 1 := (i 1).isLt
    have h2 : (i 2 : Nat) < 16384 := (i 2).isLt
    have h3 : (i 3 : Nat) < 256 := (i 3).isLt
    obtain ⟨t, ht⟩ := point_of ((i 2 : Nat) / 512) (by omega)
    refine ⟨t, every3 t, ?_⟩
    show i ∈ ((View.whole main_v9_0).slice (win0_3.rect t)).set
    rw [View.set_slice_whole, Rect.mem_set_unit]
    intro x
    match x with
    | ⟨0, _⟩ => show win0_3.index t 0 * 3 ≤ (i 0 : Nat) ∧ (i 0 : Nat) < win0_3.index t 0 * 3 + 3; rw [(idx3 t).1]; omega
    | ⟨1, _⟩ => show win0_3.index t 1 * 1 ≤ (i 1 : Nat) ∧ (i 1 : Nat) < win0_3.index t 1 * 1 + 1; rw [(idx3 t).2.1]; omega
    | ⟨2, _⟩ => show win0_3.index t 2 * 512 ≤ (i 2 : Nat) ∧ (i 2 : Nat) < win0_3.index t 2 * 512 + 512; rw [(idx3 t).2.2.1, ht]; omega
    | ⟨3, _⟩ => show win0_3.index t 3 * 256 ≤ (i 3 : Nat) ∧ (i 3 : Nat) < win0_3.index t 3 * 256 + 256; rw [(idx3 t).2.2.2]; omega

theorem every4 : ∀ t : Fin cfg0.N, (cfg0.win 4).flush t = true := by decide +kernel

theorem final4 (c : Dev nD) : (dats M 0 c).arrAt 4 cfg0.N = q1 M c := by
  refine (dats M 0 c).arrAt_eq_of_cover 4 (q1 M c) (fun t hf => ?_) (fun i => ?_)
  · rw [Value.flushed4]
    funext y
    obtain ⟨p, q, a, l, rfl⟩ : ∃ (p : Fin 3) (q : Fin 4) (a : Fin 128) (l : Fin 256), y = ix4 p q a l := ⟨y 0, y 1, y 2, y 3, eq_ix4 y⟩
    rw [View.read_apply]
    unfold outsAt0
    dsimp only
    rw [out4]
    unfold G4
    refine zQ_eq M c t _ ⟨q.val + 4 * a.val, by omega⟩ l _ _ (by show 3 * p.val + 1 < 20; omega) ?_ ?_
    · show (win0_4.index t 1 * 4 + 1 * q.val) + 4 * (win0_4.index t 2 * 128 + 1 * a.val) = 512 * t.val + (q.val + 4 * a.val)
      rw [(idx4 t).2.1, (idx4 t).2.2.1]; omega
    · show 768 * (win0_4.index t 0 * 3 + 1 * p.val) + 256 + (win0_4.index t 3 * 256 + 1 * l.val) = 256 * (3 * p.val + 1) + l.val
      rw [(idx4 t).1, (idx4 t).2.2.2]; omega
  · have h0 : (i 0 : Nat) < 3 := (i 0).isLt
    have h1 : (i 1 : Nat) < 4 := (i 1).isLt
    have h2 : (i 2 : Nat) < 4096 := (i 2).isLt
    have h3 : (i 3 : Nat) < 256 := (i 3).isLt
    obtain ⟨t, ht⟩ := point_of ((i 2 : Nat) / 128) (by omega)
    refine ⟨t, every4 t, ?_⟩
    show i ∈ ((View.whole main_v9_1).slice (win0_4.rect t)).set
    rw [View.set_slice_whole, Rect.mem_set_unit]
    intro x
    match x with
    | ⟨0, _⟩ => show win0_4.index t 0 * 3 ≤ (i 0 : Nat) ∧ (i 0 : Nat) < win0_4.index t 0 * 3 + 3; rw [(idx4 t).1]; omega
    | ⟨1, _⟩ => show win0_4.index t 1 * 4 ≤ (i 1 : Nat) ∧ (i 1 : Nat) < win0_4.index t 1 * 4 + 4; rw [(idx4 t).2.1]; omega
    | ⟨2, _⟩ => show win0_4.index t 2 * 128 ≤ (i 2 : Nat) ∧ (i 2 : Nat) < win0_4.index t 2 * 128 + 128; rw [(idx4 t).2.2.1, ht]; omega
    | ⟨3, _⟩ => show win0_4.index t 3 * 256 ≤ (i 3 : Nat) ∧ (i 3 : Nat) < win0_4.index t 3 * 256 + 256; rw [(idx4 t).2.2.2]; omega

theorem every5 : ∀ t : Fin cfg0.N, (cfg0.win 5).flush t = true := by decide +kernel

theorem final5 (c : Dev nD) : (dats M 0 c).arrAt 5 cfg0.N = q2 M c := by
  refine (dats M 0 c).arrAt_eq_of_cover 5 (q2 M c) (fun t hf => ?_) (fun i => ?_)
  · rw [Value.flushed5]
    funext y
    obtain ⟨p, q, a, l, rfl⟩ : ∃ (p : Fin 3) (q : Fin 16) (a : Fin 32) (l : Fin 256), y = ix4 p q a l := ⟨y 0, y 1, y 2, y 3, eq_ix4 y⟩
    rw [View.read_apply]
    unfold outsAt0
    dsimp only
    rw [out5]
    unfold G5
    refine zQ_eq M c t _ ⟨q.val + 16 * a.val, by omega⟩ l _ _ (by show 3 * p.val + 2 < 20; omega) ?_ ?_
    · show (win0_5.index t 1 * 16 + 1 * q.val) + 16 * (win0_5.index t 2 * 32 + 1 * a.val) = 512 * t.val + (q.val + 16 * a.val)
      rw [(idx5 t).2.1, (idx5 t).2.2.1]; omega
    · show 768 * (win0_5.index t 0 * 3 + 1 * p.val) + 512 + (win0_5.index t 3 * 256 + 1 * l.val) = 256 * (3 * p.val + 2) + l.val
      rw [(idx5 t).1, (idx5 t).2.2.2]; omega
  · have h0 : (i 0 : Nat) < 3 := (i 0).isLt
    have h1 : (i 1 : Nat) < 16 := (i 1).isLt
    have h2 : (i 2 : Nat) < 1024 := (i 2).isLt
    have h3 : (i 3 : Nat) < 256 := (i 3).isLt
    obtain ⟨t, ht⟩ := point_of ((i 2 : Nat) / 32) (by omega)
    refine ⟨t, every5 t, ?_⟩
    show i ∈ ((View.whole main_v9_2).slice (win0_5.rect t)).set
    rw [View.set_slice_whole, Rect.mem_set_unit]
    intro x
    match x with
    | ⟨0, _⟩ => show win0_5.index t 0 * 3 ≤ (i 0 : Nat) ∧ (i 0 : Nat) < win0_5.index t 0 * 3 + 3; rw [(idx5 t).1]; omega
    | ⟨1, _⟩ => show win0_5.index t 1 * 16 ≤ (i 1 : Nat) ∧ (i 1 : Nat) < win0_5.index t 1 * 16 + 16; rw [(idx5 t).2.1]; omega
    | ⟨2, _⟩ => show win0_5.index t 2 * 32 ≤ (i 2 : Nat) ∧ (i 2 : Nat) < win0_5.index t 2 * 32 + 32; rw [(idx5 t).2.2.1, ht]; omega
    | ⟨3, _⟩ => show win0_5.index t 3 * 256 ≤ (i 3 : Nat) ∧ (i 3 : Nat) < win0_5.index t 3 * 256 + 256; rw [(idx5 t).2.2.2]; omega

theorem every6 : ∀ t : Fin cfg0.N, (cfg0.win 6).flush t = true := by decide +kernel

theorem final6 (c : Dev nD) : (dats M 0 c).arrAt 6 cfg0.N = pz M c := by
  refine (dats M 0 c).arrAt_eq_of_cover 6 (pz M c) (fun t hf => ?_) (fun i => ?_)
  · rw [Value.flushed6]
    funext y
    obtain ⟨a, f, rfl⟩ : ∃ (a : Fin 512) (f : Fin 768), y = ix2 a f := ⟨y 0, y 1, eq_ix2 y⟩
    have hf := f.isLt
    rw [View.read_apply]
    unfold outsAt0
    dsimp only
    rw [out6]
    unfold G6
    refine zQ_eq M c t _ a ⟨f.val % 256, by omega⟩ _ _ (by show 9 + f.val / 256 < 20; omega) ?_ ?_
    · show win0_6.index t 0 * 512 + 1 * a.val = 512 * t.val + a.val
      rw [(idx6 t).1]; omega
    · show 2304 + (win0_6.index t 1 * 768 + 1 * f.val) = 256 * (9 + f.val / 256) + f.val % 256
      rw [(idx6 t).2]; omega
  · have h0 : (i 0 : Nat) < 16384 := (i 0).isLt
    have h1 : (i 1 : Nat) < 768 := (i 1).isLt
    obtain ⟨t, ht⟩ := point_of ((i 0 : Nat) / 512) (by omega)
    refine ⟨t, every6 t, ?_⟩
    show i ∈ ((View.whole main_v9_3).slice (win0_6.rect t)).set
    rw [View.set_slice_whole, Rect.mem_set_unit]
    intro x
    match x with
    | ⟨0, _⟩ => show win0_6.index t 0 * 512 ≤ (i 0 : Nat) ∧ (i 0 : Nat) < win0_6.index t 0 * 512 + 512; rw [(idx6 t).1, ht]; omega
    | ⟨1, _⟩ => show win0_6.index t 1 * 768 ≤ (i 1 : Nat) ∧ (i 1 : Nat) < win0_6.index t 1 * 768 + 768; rw [(idx6 t).2]; omega

theorem every7 : ∀ t : Fin cfg0.N, (cfg0.win 7).flush t = true := by decide +kernel

theorem final7 (c : Dev nD) : (dats M 0 c).arrAt 7 cfg0.N = gates M c := by
  refine (dats M 0 c).arrAt_eq_of_cover 7 (gates M c) (fun t hf => ?_) (fun i => ?_)
  · rw [Value.flushed7]
    funext y
    obtain ⟨a, f, rfl⟩ : ∃ (a : Fin 512) (f : Fin 2048), y = ix2 a f := ⟨y 0, y 1, eq_ix2 y⟩
    have hf := f.isLt
    rw [View.read_apply]
    unfold outsAt0
    dsimp only
    rw [out7]
    unfold G7
    refine zQ_eq M c t _ a ⟨f.val % 256, by omega⟩ _ _ (by show 12 + f.val / 256 < 20; omega) ?_ ?_
    · show win0_7.index t 0 * 512 + 1 * a.val = 512 * t.val + a.val
      rw [(idx7 t).1]; omega
    · show 3072 + (win0_7.index t 1 * 2048 + 1 * f.val) = 256 * (12 + f.val / 256) + f.val % 256
      rw [(idx7 t).2]; omega
  · have h0 : (i 0 : Nat) < 16384 := (i 0).isLt
    have h1 : (i 1 : Nat) < 2048 := (i 1).isLt
    obtain ⟨t, ht⟩ := point_of ((i 0 : Nat) / 512) (by omega)
    refine ⟨t, every7 t, ?_⟩
    show i ∈ ((View.whole main_v9_4).slice (win0_7.rect t)).set
    rw [View.set_slice_whole, Rect.mem_set_unit]
    intro x
    match x with
    | ⟨0, _⟩ => show win0_7.index t 0 * 512 ≤ (i 0 : Nat) ∧ (i 0 : Nat) < win0_7.index t 0 * 512 + 512; rw [(idx7 t).1, ht]; omega
    | ⟨1, _⟩ => show win0_7.index t 1 * 2048 ≤ (i 1 : Nat) ∧ (i 1 : Nat) < win0_7.index t 1 * 2048 + 2048; rw [(idx7 t).2]; omega

end Cert.KernelInprojIdeal.Own

end
-- ==== Proof.InprojClaim.lean ====
/- The rest of the input projection: kernel and reference agree. -/
module

public import proofs.«01_k».proof.Proof.InprojArray
public import proofs.«01_k».proof.Proof.Gen.ReferenceInprojIdeal.Run
public import proofs.«01_k».proof.Defs

@[expose] public section

set_option maxRecDepth 16384

noncomputable section

namespace Cert.Own.Inproj

open Idealize.ShloMosaic Idealize.ShloMosaic.TcCoe Idealize.SL.Sem Cert.Own
open Cert.ReferenceInprojIdeal Cert.ReferenceInprojIdeal.Gen

/-! ## The reference's arrays, in stages -/

section
variable (u : FVec Ideal S16384x1024 .f32) (w : FVec Ideal S1024x5120 .f32) (z : FVec Ideal S16384x5120 .f32) (v : FVec Ideal S3x16384x256 .f32)

/-- The projection. -/
def vZ : FVec Ideal S16384x5120 .f32 :=
  Host.dotGeneral (F := Ideal) (φ₁ := .f32) (φ₂ := .f32) dot_S16384x1024_S1024x5120_S16384x5120_1_0_0_1_n_n none u w

/-- One group's scaled queries, keys and values, stacked. -/
def vStack (o : ℕ) (hs : S16384x768.Slices ![0, o] S16384x256) : FVec Ideal S3x16384x256 .f32 :=
  concatenate S3x16384x256 0
    [⟨S1x16384x256, (broadcastInDim S1x16384x256 ![1, 2] bcast_S16384x256_S1x16384x256_1_2
        (mulf (extractStridedSlice S16384x256 ![0, o] (extractStridedSlice S16384x768 ![0, 0] z slices_S16384x5120_S16384x768_0_0) hs)
          (broadcastInDim S16384x256 ![] bcast_S_S16384x256 (constant S_ .f32 0x3E000000#32))) : FVec Ideal S1x16384x256 .f32)⟩,
      ⟨S1x16384x256, (broadcastInDim S1x16384x256 ![1, 2] bcast_S16384x256_S1x16384x256_1_2
        (extractStridedSlice S16384x256 ![0, o] (extractStridedSlice S16384x768 ![0, 768] z slices_S16384x5120_S16384x768_0_768) hs) : FVec Ideal S1x16384x256 .f32)⟩,
      ⟨S1x16384x256, (broadcastInDim S1x16384x256 ![1, 2] bcast_S16384x256_S1x16384x256_1_2
        (extractStridedSlice S16384x256 ![0, o] (extractStridedSlice S16384x768 ![0, 1536] z slices_S16384x5120_S16384x768_0_1536) hs) : FVec Ideal S1x16384x256 .f32)⟩]
    concatenates_S1x16384x256_S1x16384x256_S1x16384x256_S3x16384x256_d0

/-- A column of the projection, a query's scaled. -/
def sZ (n : Fin 16384) (f : Fin 5120) : EReal :=
  if f.val < 768 then z (ix2 n f) * Ideal.ofBits FTy.f32 0x3E000000#32 else z (ix2 n f)

theorem vStack_apply (o : ℕ) (hs) (ho : o ≤ 512) (p : Fin 3) (n : Fin 16384) (l : Fin 256) :
    vStack z o hs (ix3 p n l) = sZ z n ⟨768 * p.val + o + l.val, by omega⟩ := by
  unfold sZ
  fin_cases p
  · rw [if_pos (by dsimp only; omega)]
    pointwise [vStack]
  · rw [if_neg (by dsimp only; omega)]
    pointwise [vStack]
    exact congrArg (fun f => z (ix2 n f)) (Fin.ext (by dsimp only; omega))
  · rw [if_neg (by dsimp only; omega)]
    pointwise [vStack]
    exact congrArg (fun f => z (ix2 n f)) (Fin.ext (by dsimp only; omega))

def vq0 : FVec Ideal S3x1x16384x256 .bf16 :=
  truncf .bf16 (transpose S3x1x16384x256 [0, 2, 1, 3] (shapeCast S3x16384x1x256 v shapeCasts_S3x16384x256_S3x16384x1x256) transposes_S3x16384x1x256_S3x1x16384x256_0_2_1_3) bitsLt_bf16_f32
def vq1 : FVec Ideal S3x4x4096x256 .bf16 :=
  truncf .bf16 (transpose S3x4x4096x256 [0, 2, 1, 3] (shapeCast S3x4096x4x256 v shapeCasts_S3x16384x256_S3x4096x4x256) transposes_S3x4096x4x256_S3x4x4096x256_0_2_1_3) bitsLt_bf16_f32
def vq2 : FVec Ideal S3x16x1024x256 .bf16 :=
  truncf .bf16 (transpose S3x16x1024x256 [0, 2, 1, 3] (shapeCast S3x1024x16x256 v shapeCasts_S3x16384x256_S3x1024x16x256) transposes_S3x1024x16x256_S3x16x1024x256_0_2_1_3) bitsLt_bf16_f32

theorem vq0_apply (p : Fin 3) (q : Fin 1) (a : Fin 16384) (l : Fin 256) : (vq0 v (ix4 p q a l) : EReal) = v (ix3 p a l) := by
  pointwise [vq0]

theorem vq1_apply (p : Fin 3) (q : Fin 4) (a : Fin 4096) (l : Fin 256) : (vq1 v (ix4 p q a l) : EReal) = v (ix3 p ⟨q.val + 4 * a.val, by omega⟩ l) := by
  pointwise [vq1]
  exact congrArg (fun a => v (ix3 p a l)) (Fin.ext (by dsimp only; omega))

theorem vq2_apply (p : Fin 3) (q : Fin 16) (a : Fin 1024) (l : Fin 256) : (vq2 v (ix4 p q a l) : EReal) = v (ix3 p ⟨q.val + 16 * a.val, by omega⟩ l) := by
  pointwise [vq2]
  exact congrArg (fun a => v (ix3 p a l)) (Fin.ext (by dsimp only; omega))

theorem vZ_apply (n : Fin 16384) (f : Fin 5120) : (vZ u w (ix2 n f) : EReal) = ∑ k : Fin 1024, u (ix2 n k) * w (ix2 k f) := by
  pointwise [vZ]

def vpz : FVec Ideal S16384x768 .bf16 := truncf .bf16 (extractStridedSlice S16384x768 ![0, 2304] z slices_S16384x5120_S16384x768_0_2304) bitsLt_bf16_f32
def vgates : FVec Ideal S16384x2048 .bf16 := truncf .bf16 (extractStridedSlice S16384x2048 ![0, 3072] z slices_S16384x5120_S16384x2048_0_3072) bitsLt_bf16_f32

theorem vpz_apply (n : Fin 16384) (f : Fin 768) : (vpz z (ix2 n f) : EReal) = z (ix2 n ⟨2304 + f.val, by omega⟩) := by
  pointwise [vpz]
theorem vgates_apply (n : Fin 16384) (f : Fin 2048) : (vgates z (ix2 n f) : EReal) = z (ix2 n ⟨3072 + f.val, by omega⟩) := by
  pointwise [vgates]

end

theorem algebraic : Cert.algebraic_KernelInprojIdeal_ReferenceInprojIdeal := by
  intro m g m' g' _ hargs
  have ks : ∀ (c : Dev nD) (n : Fin 16384) (f : Fin 5120), Cert.KernelInprojIdeal.Own.sA m c n f
      = sZ (vZ (m' ((c.tc : Thread nD τ).loc main_arg0)) (m' ((c.tc : Thread nD τ).loc main_arg1))) n f := by
    intro c n f
    unfold Cert.KernelInprojIdeal.Own.sA Cert.KernelInprojIdeal.Own.zA sZ
    rw [vZ_apply, (hargs c).1, (hargs c).2]
  have kq0 : ∀ c : Dev nD, Cert.KernelInprojIdeal.Own.q0 m c
      = vq0 (vStack (vZ (m' ((c.tc : Thread nD τ).loc main_arg0)) (m' ((c.tc : Thread nD τ).loc main_arg1))) 0 slices_S16384x768_S16384x256_0_0) := by
    intro c
    funext i
    obtain ⟨p, q, a, l, rfl⟩ : ∃ (p : Fin 3) (q : Fin 1) (a : Fin 16384) (l : Fin 256), i = ix4 p q a l := ⟨i 0, i 1, i 2, i 3, eq_ix4 i⟩
    refine Eq.trans ?_ ((vq0_apply _ p q a l).trans ((vStack_apply _ 0 _ (by decide) p _ l).trans (ks c _ _).symm)).symm
    exact congrArg₂ (Cert.KernelInprojIdeal.Own.sA m c) (Fin.ext (by show q.val + 1 * a.val = a.val; omega)) rfl
  have kq1 : ∀ c : Dev nD, Cert.KernelInprojIdeal.Own.q1 m c
      = vq1 (vStack (vZ (m' ((c.tc : Thread nD τ).loc main_arg0)) (m' ((c.tc : Thread nD τ).loc main_arg1))) 256 slices_S16384x768_S16384x256_0_256) := by
    intro c
    funext i
    obtain ⟨p, q, a, l, rfl⟩ : ∃ (p : Fin 3) (q : Fin 4) (a : Fin 4096) (l : Fin 256), i = ix4 p q a l := ⟨i 0, i 1, i 2, i 3, eq_ix4 i⟩
    refine Eq.trans ?_ ((vq1_apply _ p q a l).trans ((vStack_apply _ 256 _ (by decide) p _ l).trans (ks c _ _).symm)).symm
    exact congrArg₂ (Cert.KernelInprojIdeal.Own.sA m c) (Fin.ext (by rfl)) rfl
  have kq2 : ∀ c : Dev nD, Cert.KernelInprojIdeal.Own.q2 m c
      = vq2 (vStack (vZ (m' ((c.tc : Thread nD τ).loc main_arg0)) (m' ((c.tc : Thread nD τ).loc main_arg1))) 512 slices_S16384x768_S16384x256_0_512) := by
    intro c
    funext i
    obtain ⟨p, q, a, l, rfl⟩ : ∃ (p : Fin 3) (q : Fin 16) (a : Fin 1024) (l : Fin 256), i = ix4 p q a l := ⟨i 0, i 1, i 2, i 3, eq_ix4 i⟩
    refine Eq.trans ?_ ((vq2_apply _ p q a l).trans ((vStack_apply _ 512 _ (by decide) p _ l).trans (ks c _ _).symm)).symm
    exact congrArg₂ (Cert.KernelInprojIdeal.Own.sA m c) (Fin.ext (by rfl)) rfl
  have kpz : ∀ c : Dev nD, Cert.KernelInprojIdeal.Own.pz m c
      = vpz (vZ (m' ((c.tc : Thread nD τ).loc main_arg0)) (m' ((c.tc : Thread nD τ).loc main_arg1))) := by
    intro c
    funext i
    obtain ⟨n, f, rfl⟩ : ∃ (n : Fin 16384) (f : Fin 768), i = ix2 n f := ⟨i 0, i 1, eq_ix2 i⟩
    refine Eq.trans (ks c n ⟨2304 + f.val, by omega⟩) (Eq.trans ?_ (vpz_apply _ n f).symm)
    unfold sZ
    rw [if_neg (by dsimp only; omega)]
  have kgates : ∀ c : Dev nD, Cert.KernelInprojIdeal.Own.gates m c
      = vgates (vZ (m' ((c.tc : Thread nD τ).loc main_arg0)) (m' ((c.tc : Thread nD τ).loc main_arg1))) := by
    intro c
    funext i
    obtain ⟨n, f, rfl⟩ : ∃ (n : Fin 16384) (f : Fin 2048), i = ix2 n f := ⟨i 0, i 1, eq_ix2 i⟩
    refine Eq.trans (ks c n ⟨3072 + f.val, by omega⟩) (Eq.trans ?_ (vgates_apply _ n f).symm)
    unfold sZ
    rw [if_neg (by dsimp only; omega)]
  refine ⟨fun c => Cert.KernelInprojIdeal.Own.q0 m c, fun c => Cert.KernelInprojIdeal.Own.q1 m c, fun c => Cert.KernelInprojIdeal.Own.q2 m c, fun c => Cert.KernelInprojIdeal.Own.pz m c, fun c => Cert.KernelInprojIdeal.Own.gates m c, ?_, ?_⟩
  · exact (θ_run _ _ _).mono (fun r h c => ⟨(h c).1.trans (Cert.KernelInprojIdeal.Own.final3 m c), (h c).2.1.trans (Cert.KernelInprojIdeal.Own.final4 m c), (h c).2.2.1.trans (Cert.KernelInprojIdeal.Own.final5 m c),
      (h c).2.2.2.1.trans (Cert.KernelInprojIdeal.Own.final6 m c), (h c).2.2.2.2.1.trans (Cert.KernelInprojIdeal.Own.final7 m c), (h c).2.2.2.2.2⟩) (Cert.KernelInprojIdeal.Value.run_blocks m g)
  · exact (θ_run _ _ _).mono (fun r h c => ⟨(h c).1.trans (kq0 c).symm, (h c).2.1.trans (kq1 c).symm, (h c).2.2.1.trans (kq2 c).symm,
      (h c).2.2.2.1.trans (kpz c).symm, (h c).2.2.2.2.1.trans (kgates c).symm, (h c).2.2.2.2.2⟩) (Cert.ReferenceInprojIdeal.Value.run m' g')

end Cert.Own.Inproj

end
-- ==== Proof.WgradGrp.lean ====
/- The weight gradient of the pool branch's group matrices, as one square product: what the kernel leaves in its result array. -/
module

public import proofs.«01_k».proof.Proof.Gen.KernelWgradGrpIdeal.Value
public import proofs.«01_k».proof.Proof.Common
public import Idealize.ShloMosaic.Lib.Pipeline.Value
public import Idealize.ShloMosaic.Lib.Pointwise
public import Idealize.ShloMosaic.Lib.Tactic
public import Idealize.ShloMosaic.PureOps.Ideal

@[expose] public section

noncomputable section

namespace Cert.KernelWgradGrpIdeal.Own

open Cert.KernelWgradGrpIdeal Cert.KernelWgradGrpIdeal.Gen Idealize.ShloMosaic Idealize.ShloMosaic.TcCoe Idealize.SL.Sem
open Idealize.ShloMosaic.Pipeline (Dat)

variable {F : FTy → Type} [FloatOps F]

/-! ## Over the extended reals -/

open Cert.Own

variable (M : (ℓ : Loc nD τ sig) → Buf (Elt Ideal) ℓ)

theorem pay2_apply (x0 x1 : Vec Ideal S4096x768 .bf16) (xo : Vec Ideal S768x768 .f32) (r l : Fin 768) :
    (k0_pay2 (F := Ideal) x0 xo x1 (ix2 r l) : EReal)
      = (xo (ix2 r l) : EReal) + ∑ k : Fin 4096, (x0 (ix2 k r) : EReal) * (x1 (ix2 k l) : EReal) := by
  pointwise [k0_pay2]

theorem pay1_apply (i : S768x768.Idx) : (k0_pay1 (F := Ideal) i : EReal) = 0 := by
  pointwise [k0_pay1]

/-- The two operands as the program is given them. -/
abbrev A (c : Dev nD) : S16384x768.Idx → EReal := M ((c : Thread nD τ).loc main_arg0)
abbrev B (c : Dev nD) : S16384x768.Idx → EReal := M ((c : Thread nD τ).loc main_arg1)

theorem V_v0 (c : Dev nD) (i : S16384x768.Idx) : (V M c main_v0 i : EReal) = A M c i := by
  show StableHlo.after hostOps0 (fun b => M (c, b)) main_v0 i = _
  after_results <;> rfl

theorem V_v1 (c : Dev nD) (i : S16384x768.Idx) : (V M c main_v1 i : EReal) = B M c i := by
  show StableHlo.after hostOps0 (fun b => M (c, b)) main_v1 i = _
  after_results <;> rfl

theorem idx0 : ∀ t : Fin cfg0.N, win0_0.index t 0 = t.val ∧ win0_0.index t 1 = 0 := by decide +kernel
theorem idx1 : ∀ t : Fin cfg0.N, win0_1.index t 0 = t.val ∧ win0_1.index t 1 = 0 := by decide +kernel
theorem idx2 : ∀ t : Fin cfg0.N, win0_2.index t 0 = 0 ∧ win0_2.index t 1 = 0 := by decide +kernel

/-- An operand's tile at point `t` is rows `4096 t …` of the array. -/
theorem iblk0 (c : Dev nD) (t : Fin cfg0.N) (k : Fin 4096) (r : Fin 768) :
    (iblk M c 0 t (ix2 k r) : EReal) = at2 (A M c) (4096 * t.val + k.val) r.val := by
  have hk := k.isLt
  have ht : t.val < 4 := lt_of_lt_of_eq t.isLt N_0
  rw [at2_of _ (by omega) r.isLt]
  unfold iblk
  rw [View.read_apply]
  refine (V_v0 M c _).trans (congrArg (A M c) (funext fun a => Fin.ext ?_))
  match a with
  | ⟨0, _⟩ => show win0_0.index t 0 * 4096 + 1 * k.val = 4096 * t.val + k.val; rw [(idx0 t).1]; omega
  | ⟨1, _⟩ => show win0_0.index t 1 * 768 + 1 * r.val = r.val; rw [(idx0 t).2]; omega

theorem iblk1 (c : Dev nD) (t : Fin cfg0.N) (k : Fin 4096) (r : Fin 768) :
    (iblk M c 1 t (ix2 k r) : EReal) = at2 (B M c) (4096 * t.val + k.val) r.val := by
  have hk := k.isLt
  have ht : t.val < 4 := lt_of_lt_of_eq t.isLt N_0
  rw [at2_of _ (by omega) r.isLt]
  unfold iblk
  rw [View.read_apply]
  refine (V_v1 M c _).trans (congrArg (B M c) (funext fun a => Fin.ext ?_))
  match a with
  | ⟨0, _⟩ => show win0_1.index t 0 * 4096 + 1 * k.val = 4096 * t.val + k.val; rw [(idx1 t).1]; omega
  | ⟨1, _⟩ => show win0_1.index t 1 * 768 + 1 * r.val = r.val; rw [(idx1 t).2]; omega

/-- One row's product in the gradient's element `(r, l)`. -/
def term (c : Dev nD) (r l s : ℕ) : EReal := at2 (A M c) s r * at2 (B M c) s l

theorem tile (c : Dev nD) (t : Fin cfg0.N) (r l : Fin 768) :
    ∑ k : Fin 4096, @HMul.hMul EReal EReal EReal _ (iblk M c 0 t (ix2 k r)) (iblk M c 1 t (ix2 k l))
      = ∑ k ∈ Finset.range 4096, term M c r.val l.val (4096 * t.val + k) := by
  rw [Finset.sum_range]
  exact Finset.sum_congr rfl fun k _ => by rw [term, iblk0, iblk1]

/-- After point `n` the block holds the sum over the row tiles so far. -/
theorem acc_eq (c : Dev nD) (r l : Fin 768) : ∀ (n : ℕ) (h : n < cfg0.N),
    (outsAt0 M c n h (ix2 r l) : EReal)
      = ∑ k ∈ Finset.range (n + 1), ∑ s ∈ Finset.range 4096, term M c r.val l.val (4096 * k + s)
  | 0, h => by
    rw [outsAt0_A M c ⟨0, h⟩ rfl, Value.out_A_2_eq, pay2_apply, pay1_apply, zero_add, tile, Finset.sum_range_one]
  | n + 1, h => by
    have hN : n + 1 < 4 := lt_of_lt_of_eq h N_0
    have h0 : ¬(n + 1) % 4 = 0 := by omega
    have step : outsAt0 M c (n + 1) h = k0_pay2 (iblk M c 0 ⟨n + 1, h⟩) (outsAt0 M c n (Nat.lt_of_succ_lt h)) (iblk M c 1 ⟨n + 1, h⟩) := by
      rw [outsAt0_B M c ⟨n + 1, h⟩ h0, Value.out_B_2_eq]; rfl
    rw [step, pay2_apply, tile, acc_eq c r l n, Finset.sum_range_succ _ (n + 1)]

/-- The gradient: element `(r, l)` is the product of column `r` of the first operand with column `l` of the second. -/
@[irreducible] def gradAt (c : Dev nD) (r l : ℕ) : EReal := ∑ s ∈ Finset.range 16384, term M c r l s

def grad (c : Dev nD) : S768x768.Idx → EReal := fun i => gradAt M c (i 0).val (i 1).val

theorem grad_of (c : Dev nD) (i : S768x768.Idx) (r l : ℕ) (h0 : (i 0 : ℕ) = r) (h1 : (i 1 : ℕ) = l) :
    gradAt M c r l = grad M c i := by
  subst h0 h1; rfl

theorem acc_last (c : Dev nD) (t : Fin cfg0.N) (h3 : t.val = 3) (r l : Fin 768) :
    (outsAt0 M c t.val t.isLt (ix2 r l) : EReal) = gradAt M c r.val l.val := by
  have e := sum_range_blocks 4096 (term M c r.val l.val) 4
  rw [show 4096 * 4 = 16384 by norm_num] at e
  rw [acc_eq, h3]
  unfold gradAt
  exact e

theorem flush2 : ∀ t : Fin cfg0.N, (cfg0.win 2).flush t = true → t.val = 3 := by decide +kernel
theorem last2 : ∃ t : Fin cfg0.N, (cfg0.win 2).flush t = true := by decide +kernel

theorem final2 (c : Dev nD) : (dats M 0 c).arrAt 2 cfg0.N = grad M c := by
  refine (dats M 0 c).arrAt_eq_of_cover 2 (grad M c) (fun t hf => ?_) (fun i => ?_)
  · rw [Value.flushed2]
    have h3 := flush2 t hf
    funext y
    obtain ⟨r, l, rfl⟩ : ∃ (r l : Fin 768), y = ix2 r l := ⟨y 0, y 1, eq_ix2 y⟩
    rw [View.read_apply]
    refine ((acc_last M c t h3 r l)).trans ?_
    have e0 : ((((cfg0.win 2).blk t).view.emb (ix2 r l)) 0 : ℕ) = r.val := by
      show win0_2.index t 0 * 768 + 1 * r.val = _; rw [(idx2 t).1]; omega
    have e1 : ((((cfg0.win 2).blk t).view.emb (ix2 r l)) 1 : ℕ) = l.val := by
      show win0_2.index t 1 * 768 + 1 * l.val = _; rw [(idx2 t).2]; omega
    exact grad_of M c _ _ _ e0 e1
  · obtain ⟨t, hf⟩ := last2
    refine ⟨t, hf, ?_⟩
    show i ∈ ((View.whole main_v2).slice (win0_2.rect t)).set
    rw [View.set_slice_whole, Rect.mem_set_unit]
    intro a
    have h0 : (i 0 : Nat) < 768 := (i 0).isLt
    have h1 : (i 1 : Nat) < 768 := (i 1).isLt
    match a with
    | ⟨0, _⟩ => show win0_2.index t 0 * 768 ≤ (i 0 : Nat) ∧ (i 0 : Nat) < win0_2.index t 0 * 768 + 768; rw [(idx2 t).1]; omega
    | ⟨1, _⟩ => show win0_2.index t 1 * 768 ≤ (i 1 : Nat) ∧ (i 1 : Nat) < win0_2.index t 1 * 768 + 768; rw [(idx2 t).2]; omega

end Cert.KernelWgradGrpIdeal.Own

end
-- ==== Proof.WgradGrpClaim.lean ====
/- The weight gradient of the pool branch's group matrices: kernel and reference agree. -/
module

public import proofs.«01_k».proof.Proof.WgradGrp
public import proofs.«01_k».proof.Proof.Gen.ReferenceWgradGrpIdeal.Run
public import proofs.«01_k».proof.Defs

@[expose] public section

set_option maxRecDepth 16384

noncomputable section

namespace Cert.Own.WgradGrp

open Idealize.ShloMosaic Idealize.ShloMosaic.TcCoe Idealize.SL.Sem Cert.Own
open Cert.ReferenceWgradGrpIdeal Cert.ReferenceWgradGrpIdeal.Gen

/-- The reference's product at an element. -/
theorem ref_apply (x : Vec Ideal S16384x768 .f32) (y : Vec Ideal S16384x768 .f32) (r l : Fin 768) :
    ((transpose S768x768 [1, 0] (Host.dotGeneral (F := Ideal) (φ₁ := .f32) (φ₂ := .f32) dot_S16384x768_S16384x768_S768x768_0_0_1_1_n_n none y x) transposes_S768x768_S768x768_1_0) (ix2 r l) : EReal)
      = ∑ s ∈ Finset.range 16384, at2 x s r.val * at2 y s l.val := by
  rw [Finset.sum_range]
  pointwise
  refine Finset.sum_congr rfl fun k _ => ?_
  rw [at2_of x k.isLt r.isLt, at2_of y k.isLt (by omega), mul_comm]

theorem algebraic : Cert.algebraic_KernelWgradGrpIdeal_ReferenceWgradGrpIdeal := by
  intro m g m' g' _ hargs
  have key : ∀ c : Dev Cert.KernelWgradGrpIdeal.nD, (Cert.KernelWgradGrpIdeal.Own.grad m c : S768x768.Idx → EReal)
      = transpose S768x768 [1, 0] (Host.dotGeneral (F := Ideal) (φ₁ := .f32) (φ₂ := .f32) dot_S16384x768_S16384x768_S768x768_0_0_1_1_n_n none (m' ((c.tc : Thread nD τ).loc main_arg1)) (m' ((c.tc : Thread nD τ).loc main_arg0))) transposes_S768x768_S768x768_1_0 := by
    intro c
    funext i
    obtain ⟨r, l, rfl⟩ : ∃ (r l : Fin 768), i = ix2 r l := ⟨i 0, i 1, eq_ix2 i⟩
    refine Eq.trans ?_ (ref_apply _ _ r l).symm
    rw [(hargs c).1, (hargs c).2]
    unfold Cert.KernelWgradGrpIdeal.Own.grad Cert.KernelWgradGrpIdeal.Own.gradAt
    rfl
  refine ⟨fun c => Cert.KernelWgradGrpIdeal.Own.grad m c, ?_, ?_⟩
  · exact (θ_run _ _ _).mono (fun r h c => ⟨(h c).1.trans (Cert.KernelWgradGrpIdeal.Own.final2 m c), (h c).2⟩)
      (Cert.KernelWgradGrpIdeal.Value.run_blocks m g)
  · exact (θ_run _ _ _).mono (fun r h c => ⟨(h c).1.trans (key c).symm, (h c).2⟩)
      (Cert.ReferenceWgradGrpIdeal.Value.run m' g')

end Cert.Own.WgradGrp

end
-- ==== Proof.Adam.lean ====
/- One AdamW step of an element over the extended reals: the new moments and the update. -/
module

public import Idealize.ShloMosaic.PureOps.Ideal

@[expose] public section

noncomputable section

namespace Cert.Own.Adam

open Idealize.ShloMosaic

/-- The first moment: nine tenths of the old one and a tenth of the gradient. -/
def newM (g m : EReal) : EReal :=
  Ideal.ofBits .f32 0x3F666666#32 * m + Ideal.ofBits .f32 0x3DCCCCCD#32 * g

/-- The second moment: 0.999 of the old one and 0.001 of the gradient's square. -/
def newV (g v : EReal) : EReal :=
  Ideal.ofBits .f32 0x3F7FBE77#32 * v + Ideal.ofBits .f32 0x3A83126F#32 * (g * g)

/-- The update: the corrected first moment over the root of the corrected second one, with the weight's decay. -/
def delta (w g m v : EReal) : EReal :=
  Ideal.ofBits .f32 0xBA83126F#32
    * (Ideal.div (Ideal.div (newM g m) (Ideal.ofBits .f32 0x3F26BD02#32))
        (Ideal.sqrt (Ideal.div (newV g v) (Ideal.ofBits .f32 0x3C231ACC#32)) + Ideal.ofBits .f32 0x322BCC77#32)
      + Ideal.ofBits .f32 0x3C23D70A#32 * w)

end Cert.Own.Adam

end
-- ==== Proof.AdamIn.lean ====
/- The optimiser's call on the input projection's matrix: its result arrays, and the reference's. -/
module

public import proofs.«01_k».proof.Proof.Adam
public import proofs.«01_k».proof.Proof.Gen.KernelAdamwInIdeal.Value
public import proofs.«01_k».proof.Proof.Gen.ReferenceAdamwInIdeal.Run
public import proofs.«01_k».proof.Defs
public import Idealize.ShloMosaic.Lib.Pipeline.Value
public import Idealize.ShloMosaic.Lib.Pointwise
public import Idealize.ShloMosaic.Lib.Tactic
public import Idealize.ShloMosaic.Lib.StableHlo.RunRead
public import Idealize.ShloMosaic.PureOps.Ideal

@[expose] public section

noncomputable section

namespace Cert.KernelAdamwInIdeal.Own

open Cert.KernelAdamwInIdeal Cert.KernelAdamwInIdeal.Gen Idealize.ShloMosaic Idealize.ShloMosaic.TcCoe Idealize.SL.Sem Cert.Own
open Idealize.ShloMosaic.Pipeline (Dat)

variable (M : (ℓ : Loc nD τ sig) → Buf (Elt Ideal) ℓ)

abbrev aw (c : Dev nD) : S1024x1280.Idx → EReal := M ((c : Thread nD τ).loc main_arg0)
abbrev ag (c : Dev nD) : S1024x1280.Idx → EReal := M ((c : Thread nD τ).loc main_arg1)
abbrev am (c : Dev nD) : S1024x1280.Idx → EReal := M ((c : Thread nD τ).loc main_arg2)
abbrev av (c : Dev nD) : S1024x1280.Idx → EReal := M ((c : Thread nD τ).loc main_arg3)

/-- The four result arrays: the gradient, the update, the new moments. -/
def rG (c : Dev nD) : Vec Ideal S1024x1280 .f32 := fun i => ag M c i
def rD (c : Dev nD) : Vec Ideal S1024x1280 .f32 := fun i => Adam.delta (aw M c i) (ag M c i) (am M c i) (av M c i)
def rM (c : Dev nD) : Vec Ideal S1024x1280 .f32 := fun i => Adam.newM (ag M c i) (am M c i)
def rV (c : Dev nD) : Vec Ideal S1024x1280 .f32 := fun i => Adam.newV (ag M c i) (av M c i)

theorem hz : (![0, 0] : Fin 2 → Nat) = fun _ => 0 := funext fun a => by fin_cases a <;> rfl

theorem hz3 : (![0, 0, 0] : Fin 3 → Nat) = fun _ => 0 := funext fun a => by fin_cases a <;> rfl

/-- The blocks of the operands, read in the argument arrays. -/
theorem blk0 (c : Dev nD) (t : Fin cfg0.N) : iblk M c 0 t = fun y => aw M c (((cfg0.win 4).blk t).view.emb y) := by
  funext y; show V M c main_arg0 _ = _; rw [V_main_arg0]; rfl
theorem index1 : ∀ t : Fin cfg0.N, win0_1.index t 0 = t.val / 2 ∧ win0_1.index t 1 = t.val % 2 ∧ win0_1.index t 2 = 0 := by decide +kernel
theorem index4 : ∀ t : Fin cfg0.N, win0_4.index t 0 = t.val % 2 ∧ win0_4.index t 1 = t.val / 2 := by decide +kernel
theorem blk1 (c : Dev nD) (t : Fin cfg0.N) (j : Fin 512) (l : Fin 256) :
    (iblk M c 1 t (ix3 0 j l) : EReal) = ag M c (((cfg0.win 4).blk t).view.emb (ix2 j l)) := by
  have hl := l.isLt
  have ht : t.val < 10 := lt_of_lt_of_eq t.isLt N_0
  show V M c main_v1 (((cfg0.win 1).blk t).view.emb (ix3 0 j l)) = _
  have e : ((cfg0.win 1).blk t).view.emb (ix3 0 j l)
      = ix3 (⟨t.val / 2, by omega⟩ : Fin 5) (⟨512 * (t.val % 2) + j.val, by omega⟩ : Fin 1024) l := by
    funext a
    apply Fin.ext
    match a with
    | ⟨0, _⟩ => show win0_1.index t 0 * 1 + 1 * 0 = t.val / 2; rw [(index1 t).1]; omega
    | ⟨1, _⟩ => show win0_1.index t 1 * 512 + 1 * j.val = 512 * (t.val % 2) + j.val; rw [(index1 t).2.1]; omega
    | ⟨2, _⟩ => show win0_1.index t 2 * 256 + 1 * l.val = l.val; rw [(index1 t).2.2]; omega
  rw [e]
  show StableHlo.after hostOps0 (fun b => M (c, b)) main_v1 _ = _
  after_reads_simp
  pointwise
  refine congrArg (ag M c) (funext fun a => Fin.ext ?_)
  match a with
  | ⟨0, _⟩ => show 512 * (t.val % 2) + j.val = win0_4.index t 0 * 512 + 1 * j.val; rw [(index4 t).1]; omega
  | ⟨1, _⟩ => show t.val / 2 * 256 + l.val = win0_4.index t 1 * 256 + 1 * l.val; rw [(index4 t).2]; omega
/-- The chunk of the gradient, as a matrix. -/
theorem chunk (c : Dev nD) (t : Fin cfg0.N) :
    k0_pay1 (iblk M c 1 t) = fun y => ag M c (((cfg0.win 4).blk t).view.emb y) := by
  funext y
  obtain ⟨j, l, rfl⟩ : ∃ (j : Fin 512) (l : Fin 256), y = ix2 j l := ⟨y 0, y 1, eq_ix2 y⟩
  rw [← blk1 M c t j l]
  unfold k0_pay1
  pointwise

theorem blk2 (c : Dev nD) (t : Fin cfg0.N) : iblk M c 2 t = fun y => am M c (((cfg0.win 4).blk t).view.emb y) := by
  funext y; show V M c main_arg2 _ = _; rw [V_main_arg2]; rfl
theorem blk3 (c : Dev nD) (t : Fin cfg0.N) : iblk M c 3 t = fun y => av M c (((cfg0.win 4).blk t).view.emb y) := by
  funext y; show V M c main_arg3 _ = _; rw [V_main_arg3]; rfl

/-- Every element lies in a block. -/
theorem covered (i : S1024x1280.Idx) : ∃ t : Fin cfg0.N, i ∈ (win0_4.rect t).set := by
  have h0 : (i 0 : Nat) < 1024 := (i 0).isLt
  have h1 : (i 1 : Nat) < 1280 := (i 1).isLt
  obtain ⟨t, ht⟩ : ∃ t : Fin cfg0.N, t.val = 2 * ((i 1 : Nat) / 256) + (i 0 : Nat) / 512 :=
    ⟨⟨2 * ((i 1 : Nat) / 256) + (i 0 : Nat) / 512, lt_of_lt_of_eq (show 2 * ((i 1 : Nat) / 256) + (i 0 : Nat) / 512 < 10 by omega) N_0.symm⟩, rfl⟩
  refine ⟨t, ?_⟩
  rw [Rect.mem_set_unit]
  intro a
  match a with
  | ⟨0, _⟩ => show win0_4.index t 0 * 512 ≤ (i 0 : Nat) ∧ (i 0 : Nat) < win0_4.index t 0 * 512 + 512; rw [(index4 t).1, ht]; omega
  | ⟨1, _⟩ => show win0_4.index t 1 * 256 ≤ (i 1 : Nat) ∧ (i 1 : Nat) < win0_4.index t 1 * 256 + 256; rw [(index4 t).2, ht]; omega

theorem final4 (c : Dev nD) : (dats M 0 c).arrAt 4 cfg0.N = rG M c := by
  refine (dats M 0 c).arrAt_eq_of_cover 4 (rG M c) (fun t _ => ?_) (fun i => (covered i).imp fun t h => ⟨flush0_4 t, ?_⟩)
  · rw [Value.flushed4]
    unfold out0_4
    rw [View.canon_unit_zero hz, View.ld_unit_zero (S := S1x512x256) hz3, chunk]
    funext y
    rfl
  · show i ∈ ((View.whole main_v2_0).slice (win0_4.rect t)).set
    rw [View.set_slice_whole]; exact h

theorem final5 (c : Dev nD) : (dats M 0 c).arrAt 5 cfg0.N = rD M c := by
  refine (dats M 0 c).arrAt_eq_of_cover 5 (rD M c) (fun t _ => ?_) (fun i => (covered i).imp fun t h => ⟨flush0_5 t, ?_⟩)
  · rw [Value.flushed5, blk0, blk2, blk3]
    unfold out0_5
    rw [View.canon_unit_zero hz]
    simp only [View.ld_unit_zero (S := S512x256) hz, View.ld_unit_zero (S := S1x512x256) hz3, k0_pay2, k0_pay3, k0_pay4, chunk]
    funext y
    rfl
  · show i ∈ ((View.whole main_v2_1).slice (win0_5.rect t)).set
    rw [View.set_slice_whole]; exact h

theorem final6 (c : Dev nD) : (dats M 0 c).arrAt 6 cfg0.N = rM M c := by
  refine (dats M 0 c).arrAt_eq_of_cover 6 (rM M c) (fun t _ => ?_) (fun i => (covered i).imp fun t h => ⟨flush0_6 t, ?_⟩)
  · rw [Value.flushed6, blk0, blk2, blk3]
    unfold out0_6
    rw [View.canon_unit_zero hz]
    simp only [View.ld_unit_zero (S := S512x256) hz, View.ld_unit_zero (S := S1x512x256) hz3, k0_pay2, k0_pay3, k0_pay4, chunk]
    funext y
    rfl
  · show i ∈ ((View.whole main_v2_2).slice (win0_6.rect t)).set
    rw [View.set_slice_whole]; exact h

theorem final7 (c : Dev nD) : (dats M 0 c).arrAt 7 cfg0.N = rV M c := by
  refine (dats M 0 c).arrAt_eq_of_cover 7 (rV M c) (fun t _ => ?_) (fun i => (covered i).imp fun t h => ⟨flush0_7 t, ?_⟩)
  · rw [Value.flushed7, blk0, blk2, blk3]
    unfold out0_7
    rw [View.canon_unit_zero hz]
    simp only [View.ld_unit_zero (S := S512x256) hz, View.ld_unit_zero (S := S1x512x256) hz3, k0_pay2, k0_pay3, k0_pay4, chunk]
    funext y
    rfl
  · show i ∈ ((View.whole main_v2_3).slice (win0_7.rect t)).set
    rw [View.set_slice_whole]; exact h

theorem algebraic : Cert.algebraic_KernelAdamwInIdeal_ReferenceAdamwInIdeal := by
  intro m g m' g' _ hargs
  refine ⟨rG m, rD m, rM m, rV m, ?_, ?_⟩
  · exact (θ_run _ _ _).mono (fun r h c => ⟨(h c).1.trans (final4 m c), (h c).2.1.trans (final5 m c),
      (h c).2.2.1.trans (final6 m c), (h c).2.2.2.1.trans (final7 m c), (h c).2.2.2.2⟩) (Value.run_blocks m g)
  · refine (θ_run _ _ _).mono (fun r h c => ⟨(h c).1.trans ?_, (h c).2.1.trans ?_, (h c).2.2.1.trans ?_,
      (h c).2.2.2.1.trans ?_, (h c).2.2.2.2⟩) (Cert.ReferenceAdamwInIdeal.Value.run m' g')
    all_goals simp only [(hargs c).1, (hargs c).2.1, (hargs c).2.2.1, (hargs c).2.2.2]; rfl

end Cert.KernelAdamwInIdeal.Own

end
-- ==== Proof.AdamAtt.lean ====
/- The optimiser's call on the attention's output matrix: its result arrays, and the reference's. -/
module

public import proofs.«01_k».proof.Proof.Adam
public import proofs.«01_k».proof.Proof.Gen.KernelAdamwAttIdeal.Value
public import proofs.«01_k».proof.Proof.Gen.ReferenceAdamwAttIdeal.Run
public import proofs.«01_k».proof.Defs
public import Idealize.ShloMosaic.Lib.Pipeline.Value
public import Idealize.ShloMosaic.Lib.Pointwise
public import Idealize.ShloMosaic.Lib.Tactic

@[expose] public section

noncomputable section

namespace Cert.KernelAdamwAttIdeal.Own

open Cert.KernelAdamwAttIdeal Cert.KernelAdamwAttIdeal.Gen Idealize.ShloMosaic Idealize.ShloMosaic.TcCoe Idealize.SL.Sem Cert.Own
open Idealize.ShloMosaic.Pipeline (Dat)

variable (M : (ℓ : Loc nD τ sig) → Buf (Elt Ideal) ℓ)

abbrev aw (c : Dev nD) : S256x256.Idx → EReal := M ((c : Thread nD τ).loc main_arg0)
abbrev ag (c : Dev nD) : S256x256.Idx → EReal := M ((c : Thread nD τ).loc main_arg1)
abbrev am (c : Dev nD) : S256x256.Idx → EReal := M ((c : Thread nD τ).loc main_arg2)
abbrev av (c : Dev nD) : S256x256.Idx → EReal := M ((c : Thread nD τ).loc main_arg3)

/-- The four result arrays: the gradient, the update, the new moments. -/
def rG (c : Dev nD) : Vec Ideal S256x256 .f32 := fun i => ag M c i
def rD (c : Dev nD) : Vec Ideal S256x256 .f32 := fun i => Adam.delta (aw M c i) (ag M c i) (am M c i) (av M c i)
def rM (c : Dev nD) : Vec Ideal S256x256 .f32 := fun i => Adam.newM (ag M c i) (am M c i)
def rV (c : Dev nD) : Vec Ideal S256x256 .f32 := fun i => Adam.newV (ag M c i) (av M c i)

theorem hz : (![0, 0] : Fin 2 → Nat) = fun _ => 0 := funext fun a => by fin_cases a <;> rfl

/-- The blocks of the operands, read in the argument arrays. -/
theorem blk0 (c : Dev nD) (t : Fin cfg0.N) : iblk M c 0 t = fun y => aw M c (((cfg0.win 4).blk t).view.emb y) := by
  funext y; show V M c main_arg0 _ = _; rw [V_main_arg0]; rfl
theorem blk1 (c : Dev nD) (t : Fin cfg0.N) : iblk M c 1 t = fun y => ag M c (((cfg0.win 4).blk t).view.emb y) := by
  funext y; show V M c main_arg1 _ = _; rw [V_main_arg1]; rfl
theorem blk2 (c : Dev nD) (t : Fin cfg0.N) : iblk M c 2 t = fun y => am M c (((cfg0.win 4).blk t).view.emb y) := by
  funext y; show V M c main_arg2 _ = _; rw [V_main_arg2]; rfl
theorem blk3 (c : Dev nD) (t : Fin cfg0.N) : iblk M c 3 t = fun y => av M c (((cfg0.win 4).blk t).view.emb y) := by
  funext y; show V M c main_arg3 _ = _; rw [V_main_arg3]; rfl

theorem index4 : ∀ t : Fin cfg0.N, win0_4.index t 0 = t.val ∧ win0_4.index t 1 = 0 := by decide +kernel

/-- Every element lies in a block. -/
theorem covered (i : S256x256.Idx) : ∃ t : Fin cfg0.N, i ∈ (win0_4.rect t).set := by
  have h0 : (i 0 : Nat) < 256 := (i 0).isLt
  have h1 : (i 1 : Nat) < 256 := (i 1).isLt
  obtain ⟨t, ht⟩ : ∃ t : Fin cfg0.N, t.val = (i 0 : Nat) / 256 :=
    ⟨⟨(i 0 : Nat) / 256, lt_of_lt_of_eq (show (i 0 : Nat) / 256 < 1 by omega) N_0.symm⟩, rfl⟩
  refine ⟨t, ?_⟩
  rw [Rect.mem_set_unit]
  intro a
  match a with
  | ⟨0, _⟩ => show win0_4.index t 0 * 256 ≤ (i 0 : Nat) ∧ (i 0 : Nat) < win0_4.index t 0 * 256 + 256; rw [(index4 t).1, ht]; omega
  | ⟨1, _⟩ => show win0_4.index t 1 * 256 ≤ (i 1 : Nat) ∧ (i 1 : Nat) < win0_4.index t 1 * 256 + 256; rw [(index4 t).2]; omega

theorem final4 (c : Dev nD) : (dats M 0 c).arrAt 4 cfg0.N = rG M c := by
  refine (dats M 0 c).arrAt_eq_of_cover 4 (rG M c) (fun t _ => ?_) (fun i => (covered i).imp fun t h => ⟨flush0_4 t, ?_⟩)
  · rw [Value.flushed4, blk1]
    unfold out0_4
    rw [View.canon_unit_zero hz, View.ld_unit_zero (S := S256x256) hz]
    funext y
    rfl
  · show i ∈ ((View.whole main_v0_0).slice (win0_4.rect t)).set
    rw [View.set_slice_whole]; exact h

theorem final5 (c : Dev nD) : (dats M 0 c).arrAt 5 cfg0.N = rD M c := by
  refine (dats M 0 c).arrAt_eq_of_cover 5 (rD M c) (fun t _ => ?_) (fun i => (covered i).imp fun t h => ⟨flush0_5 t, ?_⟩)
  · rw [Value.flushed5, blk0, blk1, blk2, blk3]
    unfold out0_5
    rw [View.canon_unit_zero hz]
    simp only [View.ld_unit_zero (S := S256x256) hz]
    funext y
    rfl
  · show i ∈ ((View.whole main_v0_1).slice (win0_5.rect t)).set
    rw [View.set_slice_whole]; exact h

theorem final6 (c : Dev nD) : (dats M 0 c).arrAt 6 cfg0.N = rM M c := by
  refine (dats M 0 c).arrAt_eq_of_cover 6 (rM M c) (fun t _ => ?_) (fun i => (covered i).imp fun t h => ⟨flush0_6 t, ?_⟩)
  · rw [Value.flushed6, blk0, blk1, blk2, blk3]
    unfold out0_6
    rw [View.canon_unit_zero hz]
    simp only [View.ld_unit_zero (S := S256x256) hz]
    funext y
    rfl
  · show i ∈ ((View.whole main_v0_2).slice (win0_6.rect t)).set
    rw [View.set_slice_whole]; exact h

theorem final7 (c : Dev nD) : (dats M 0 c).arrAt 7 cfg0.N = rV M c := by
  refine (dats M 0 c).arrAt_eq_of_cover 7 (rV M c) (fun t _ => ?_) (fun i => (covered i).imp fun t h => ⟨flush0_7 t, ?_⟩)
  · rw [Value.flushed7, blk0, blk1, blk2, blk3]
    unfold out0_7
    rw [View.canon_unit_zero hz]
    simp only [View.ld_unit_zero (S := S256x256) hz]
    funext y
    rfl
  · show i ∈ ((View.whole main_v0_3).slice (win0_7.rect t)).set
    rw [View.set_slice_whole]; exact h

theorem algebraic : Cert.algebraic_KernelAdamwAttIdeal_ReferenceAdamwAttIdeal := by
  intro m g m' g' _ hargs
  refine ⟨rG m, rD m, rM m, rV m, ?_, ?_⟩
  · exact (θ_run _ _ _).mono (fun r h c => ⟨(h c).1.trans (final4 m c), (h c).2.1.trans (final5 m c),
      (h c).2.2.1.trans (final6 m c), (h c).2.2.2.1.trans (final7 m c), (h c).2.2.2.2⟩) (Value.run_blocks m g)
  · refine (θ_run _ _ _).mono (fun r h c => ⟨(h c).1.trans ?_, (h c).2.1.trans ?_, (h c).2.2.1.trans ?_,
      (h c).2.2.2.1.trans ?_, (h c).2.2.2.2⟩) (Cert.ReferenceAdamwAttIdeal.Value.run m' g')
    all_goals simp only [(hargs c).1, (hargs c).2.1, (hargs c).2.2.1, (hargs c).2.2.2]; rfl

end Cert.KernelAdamwAttIdeal.Own

end
-- ==== Proof.AdamPool.lean ====
/- The optimiser's call on the pool branch's output matrix: its result arrays, and the reference's. -/
module

public import proofs.«01_k».proof.Proof.Adam
public import proofs.«01_k».proof.Proof.Gen.KernelAdamwPoolIdeal.Value
public import proofs.«01_k».proof.Proof.Gen.ReferenceAdamwPoolIdeal.Run
public import proofs.«01_k».proof.Defs
public import Idealize.ShloMosaic.Lib.Pipeline.Value
public import Idealize.ShloMosaic.Lib.Pointwise
public import Idealize.ShloMosaic.Lib.Tactic

@[expose] public section

noncomputable section

namespace Cert.KernelAdamwPoolIdeal.Own

open Cert.KernelAdamwPoolIdeal Cert.KernelAdamwPoolIdeal.Gen Idealize.ShloMosaic Idealize.ShloMosaic.TcCoe Idealize.SL.Sem Cert.Own
open Idealize.ShloMosaic.Pipeline (Dat)

variable (M : (ℓ : Loc nD τ sig) → Buf (Elt Ideal) ℓ)

abbrev aw (c : Dev nD) : S768x256.Idx → EReal := M ((c : Thread nD τ).loc main_arg0)
abbrev ag (c : Dev nD) : S768x256.Idx → EReal := M ((c : Thread nD τ).loc main_arg1)
abbrev am (c : Dev nD) : S768x256.Idx → EReal := M ((c : Thread nD τ).loc main_arg2)
abbrev av (c : Dev nD) : S768x256.Idx → EReal := M ((c : Thread nD τ).loc main_arg3)

/-- The four result arrays: the gradient, the update, the new moments. -/
def rG (c : Dev nD) : Vec Ideal S768x256 .f32 := fun i => ag M c i
def rD (c : Dev nD) : Vec Ideal S768x256 .f32 := fun i => Adam.delta (aw M c i) (ag M c i) (am M c i) (av M c i)
def rM (c : Dev nD) : Vec Ideal S768x256 .f32 := fun i => Adam.newM (ag M c i) (am M c i)
def rV (c : Dev nD) : Vec Ideal S768x256 .f32 := fun i => Adam.newV (ag M c i) (av M c i)

theorem hz : (![0, 0] : Fin 2 → Nat) = fun _ => 0 := funext fun a => by fin_cases a <;> rfl

/-- The blocks of the operands, read in the argument arrays. -/
theorem blk0 (c : Dev nD) (t : Fin cfg0.N) : iblk M c 0 t = fun y => aw M c (((cfg0.win 4).blk t).view.emb y) := by
  funext y; show V M c main_arg0 _ = _; rw [V_main_arg0]; rfl
theorem blk1 (c : Dev nD) (t : Fin cfg0.N) : iblk M c 1 t = fun y => ag M c (((cfg0.win 4).blk t).view.emb y) := by
  funext y; show V M c main_arg1 _ = _; rw [V_main_arg1]; rfl
theorem blk2 (c : Dev nD) (t : Fin cfg0.N) : iblk M c 2 t = fun y => am M c (((cfg0.win 4).blk t).view.emb y) := by
  funext y; show V M c main_arg2 _ = _; rw [V_main_arg2]; rfl
theorem blk3 (c : Dev nD) (t : Fin cfg0.N) : iblk M c 3 t = fun y => av M c (((cfg0.win 4).blk t).view.emb y) := by
  funext y; show V M c main_arg3 _ = _; rw [V_main_arg3]; rfl

theorem index4 : ∀ t : Fin cfg0.N, win0_4.index t 0 = t.val ∧ win0_4.index t 1 = 0 := by decide +kernel

/-- Every element lies in a block. -/
theorem covered (i : S768x256.Idx) : ∃ t : Fin cfg0.N, i ∈ (win0_4.rect t).set := by
  have h0 : (i 0 : Nat) < 768 := (i 0).isLt
  have h1 : (i 1 : Nat) < 256 := (i 1).isLt
  obtain ⟨t, ht⟩ : ∃ t : Fin cfg0.N, t.val = (i 0 : Nat) / 384 :=
    ⟨⟨(i 0 : Nat) / 384, lt_of_lt_of_eq (show (i 0 : Nat) / 384 < 2 by omega) N_0.symm⟩, rfl⟩
  refine ⟨t, ?_⟩
  rw [Rect.mem_set_unit]
  intro a
  match a with
  | ⟨0, _⟩ => show win0_4.index t 0 * 384 ≤ (i 0 : Nat) ∧ (i 0 : Nat) < win0_4.index t 0 * 384 + 384; rw [(index4 t).1, ht]; omega
  | ⟨1, _⟩ => show win0_4.index t 1 * 256 ≤ (i 1 : Nat) ∧ (i 1 : Nat) < win0_4.index t 1 * 256 + 256; rw [(index4 t).2]; omega

theorem final4 (c : Dev nD) : (dats M 0 c).arrAt 4 cfg0.N = rG M c := by
  refine (dats M 0 c).arrAt_eq_of_cover 4 (rG M c) (fun t _ => ?_) (fun i => (covered i).imp fun t h => ⟨flush0_4 t, ?_⟩)
  · rw [Value.flushed4, blk1]
    unfold out0_4
    rw [View.canon_unit_zero hz, View.ld_unit_zero (S := S384x256) hz]
    funext y
    rfl
  · show i ∈ ((View.whole main_v0_0).slice (win0_4.rect t)).set
    rw [View.set_slice_whole]; exact h

theorem final5 (c : Dev nD) : (dats M 0 c).arrAt 5 cfg0.N = rD M c := by
  refine (dats M 0 c).arrAt_eq_of_cover 5 (rD M c) (fun t _ => ?_) (fun i => (covered i).imp fun t h => ⟨flush0_5 t, ?_⟩)
  · rw [Value.flushed5, blk0, blk1, blk2, blk3]
    unfold out0_5
    rw [View.canon_unit_zero hz]
    simp only [View.ld_unit_zero (S := S384x256) hz]
    funext y
    rfl
  · show i ∈ ((View.whole main_v0_1).slice (win0_5.rect t)).set
    rw [View.set_slice_whole]; exact h

theorem final6 (c : Dev nD) : (dats M 0 c).arrAt 6 cfg0.N = rM M c := by
  refine (dats M 0 c).arrAt_eq_of_cover 6 (rM M c) (fun t _ => ?_) (fun i => (covered i).imp fun t h => ⟨flush0_6 t, ?_⟩)
  · rw [Value.flushed6, blk0, blk1, blk2, blk3]
    unfold out0_6
    rw [View.canon_unit_zero hz]
    simp only [View.ld_unit_zero (S := S384x256) hz]
    funext y
    rfl
  · show i ∈ ((View.whole main_v0_2).slice (win0_6.rect t)).set
    rw [View.set_slice_whole]; exact h

theorem final7 (c : Dev nD) : (dats M 0 c).arrAt 7 cfg0.N = rV M c := by
  refine (dats M 0 c).arrAt_eq_of_cover 7 (rV M c) (fun t _ => ?_) (fun i => (covered i).imp fun t h => ⟨flush0_7 t, ?_⟩)
  · rw [Value.flushed7, blk0, blk1, blk2, blk3]
    unfold out0_7
    rw [View.canon_unit_zero hz]
    simp only [View.ld_unit_zero (S := S384x256) hz]
    funext y
    rfl
  · show i ∈ ((View.whole main_v0_3).slice (win0_7.rect t)).set
    rw [View.set_slice_whole]; exact h

theorem algebraic : Cert.algebraic_KernelAdamwPoolIdeal_ReferenceAdamwPoolIdeal := by
  intro m g m' g' _ hargs
  refine ⟨rG m, rD m, rM m, rV m, ?_, ?_⟩
  · exact (θ_run _ _ _).mono (fun r h c => ⟨(h c).1.trans (final4 m c), (h c).2.1.trans (final5 m c),
      (h c).2.2.1.trans (final6 m c), (h c).2.2.2.1.trans (final7 m c), (h c).2.2.2.2⟩) (Value.run_blocks m g)
  · refine (θ_run _ _ _).mono (fun r h c => ⟨(h c).1.trans ?_, (h c).2.1.trans ?_, (h c).2.2.1.trans ?_,
      (h c).2.2.2.1.trans ?_, (h c).2.2.2.2⟩) (Cert.ReferenceAdamwPoolIdeal.Value.run m' g')
    all_goals simp only [(hargs c).1, (hargs c).2.1, (hargs c).2.2.1, (hargs c).2.2.2]; rfl

end Cert.KernelAdamwPoolIdeal.Own

end
-- ==== Proof.AdamOut.lean ====
/- The optimiser's call on the mixer's output matrix: its result arrays, and the reference's. -/
module

public import proofs.«01_k».proof.Proof.Adam
public import proofs.«01_k».proof.Proof.Gen.KernelAdamwOutIdeal.Value
public import proofs.«01_k».proof.Proof.Gen.ReferenceAdamwOutIdeal.Run
public import proofs.«01_k».proof.Defs
public import Idealize.ShloMosaic.Lib.Pipeline.Value
public import Idealize.ShloMosaic.Lib.Pointwise
public import Idealize.ShloMosaic.Lib.Tactic

@[expose] public section

noncomputable section

namespace Cert.KernelAdamwOutIdeal.Own

open Cert.KernelAdamwOutIdeal Cert.KernelAdamwOutIdeal.Gen Idealize.ShloMosaic Idealize.ShloMosaic.TcCoe Idealize.SL.Sem Cert.Own
open Idealize.ShloMosaic.Pipeline (Dat)

variable (M : (ℓ : Loc nD τ sig) → Buf (Elt Ideal) ℓ)

abbrev aw (c : Dev nD) : S256x1024.Idx → EReal := M ((c : Thread nD τ).loc main_arg0)
abbrev ag (c : Dev nD) : S256x1024.Idx → EReal := M ((c : Thread nD τ).loc main_arg1)
abbrev am (c : Dev nD) : S256x1024.Idx → EReal := M ((c : Thread nD τ).loc main_arg2)
abbrev av (c : Dev nD) : S256x1024.Idx → EReal := M ((c : Thread nD τ).loc main_arg3)

/-- The four result arrays: the gradient, the update, the new moments. -/
def rG (c : Dev nD) : Vec Ideal S256x1024 .f32 := fun i => ag M c i
def rD (c : Dev nD) : Vec Ideal S256x1024 .f32 := fun i => Adam.delta (aw M c i) (ag M c i) (am M c i) (av M c i)
def rM (c : Dev nD) : Vec Ideal S256x1024 .f32 := fun i => Adam.newM (ag M c i) (am M c i)
def rV (c : Dev nD) : Vec Ideal S256x1024 .f32 := fun i => Adam.newV (ag M c i) (av M c i)

theorem hz : (![0, 0] : Fin 2 → Nat) = fun _ => 0 := funext fun a => by fin_cases a <;> rfl

/-- The blocks of the operands, read in the argument arrays. -/
theorem blk0 (c : Dev nD) (t : Fin cfg0.N) : iblk M c 0 t = fun y => aw M c (((cfg0.win 4).blk t).view.emb y) := by
  funext y; show V M c main_arg0 _ = _; rw [V_main_arg0]; rfl
theorem blk1 (c : Dev nD) (t : Fin cfg0.N) : iblk M c 1 t = fun y => ag M c (((cfg0.win 4).blk t).view.emb y) := by
  funext y; show V M c main_arg1 _ = _; rw [V_main_arg1]; rfl
theorem blk2 (c : Dev nD) (t : Fin cfg0.N) : iblk M c 2 t = fun y => am M c (((cfg0.win 4).blk t).view.emb y) := by
  funext y; show V M c main_arg2 _ = _; rw [V_main_arg2]; rfl
theorem blk3 (c : Dev nD) (t : Fin cfg0.N) : iblk M c 3 t = fun y => av M c (((cfg0.win 4).blk t).view.emb y) := by
  funext y; show V M c main_arg3 _ = _; rw [V_main_arg3]; rfl

theorem index4 : ∀ t : Fin cfg0.N, win0_4.index t 0 = t.val ∧ win0_4.index t 1 = 0 := by decide +kernel

/-- Every element lies in a block. -/
theorem covered (i : S256x1024.Idx) : ∃ t : Fin cfg0.N, i ∈ (win0_4.rect t).set := by
  have h0 : (i 0 : Nat) < 256 := (i 0).isLt
  have h1 : (i 1 : Nat) < 1024 := (i 1).isLt
  obtain ⟨t, ht⟩ : ∃ t : Fin cfg0.N, t.val = (i 0 : Nat) / 256 :=
    ⟨⟨(i 0 : Nat) / 256, lt_of_lt_of_eq (show (i 0 : Nat) / 256 < 1 by omega) N_0.symm⟩, rfl⟩
  refine ⟨t, ?_⟩
  rw [Rect.mem_set_unit]
  intro a
  match a with
  | ⟨0, _⟩ => show win0_4.index t 0 * 256 ≤ (i 0 : Nat) ∧ (i 0 : Nat) < win0_4.index t 0 * 256 + 256; rw [(index4 t).1, ht]; omega
  | ⟨1, _⟩ => show win0_4.index t 1 * 1024 ≤ (i 1 : Nat) ∧ (i 1 : Nat) < win0_4.index t 1 * 1024 + 1024; rw [(index4 t).2]; omega

theorem final4 (c : Dev nD) : (dats M 0 c).arrAt 4 cfg0.N = rG M c := by
  refine (dats M 0 c).arrAt_eq_of_cover 4 (rG M c) (fun t _ => ?_) (fun i => (covered i).imp fun t h => ⟨flush0_4 t, ?_⟩)
  · rw [Value.flushed4, blk1]
    unfold out0_4
    rw [View.canon_unit_zero hz, View.ld_unit_zero (S := S256x1024) hz]
    funext y
    rfl
  · show i ∈ ((View.whole main_v0_0).slice (win0_4.rect t)).set
    rw [View.set_slice_whole]; exact h

theorem final5 (c : Dev nD) : (dats M 0 c).arrAt 5 cfg0.N = rD M c := by
  refine (dats M 0 c).arrAt_eq_of_cover 5 (rD M c) (fun t _ => ?_) (fun i => (covered i).imp fun t h => ⟨flush0_5 t, ?_⟩)
  · rw [Value.flushed5, blk0, blk1, blk2, blk3]
    unfold out0_5
    rw [View.canon_unit_zero hz]
    simp only [View.ld_unit_zero (S := S256x1024) hz]
    funext y
    rfl
  · show i ∈ ((View.whole main_v0_1).slice (win0_5.rect t)).set
    rw [View.set_slice_whole]; exact h

theorem final6 (c : Dev nD) : (dats M 0 c).arrAt 6 cfg0.N = rM M c := by
  refine (dats M 0 c).arrAt_eq_of_cover 6 (rM M c) (fun t _ => ?_) (fun i => (covered i).imp fun t h => ⟨flush0_6 t, ?_⟩)
  · rw [Value.flushed6, blk0, blk1, blk2, blk3]
    unfold out0_6
    rw [View.canon_unit_zero hz]
    simp only [View.ld_unit_zero (S := S256x1024) hz]
    funext y
    rfl
  · show i ∈ ((View.whole main_v0_2).slice (win0_6.rect t)).set
    rw [View.set_slice_whole]; exact h

theorem final7 (c : Dev nD) : (dats M 0 c).arrAt 7 cfg0.N = rV M c := by
  refine (dats M 0 c).arrAt_eq_of_cover 7 (rV M c) (fun t _ => ?_) (fun i => (covered i).imp fun t h => ⟨flush0_7 t, ?_⟩)
  · rw [Value.flushed7, blk0, blk1, blk2, blk3]
    unfold out0_7
    rw [View.canon_unit_zero hz]
    simp only [View.ld_unit_zero (S := S256x1024) hz]
    funext y
    rfl
  · show i ∈ ((View.whole main_v0_3).slice (win0_7.rect t)).set
    rw [View.set_slice_whole]; exact h

theorem algebraic : Cert.algebraic_KernelAdamwOutIdeal_ReferenceAdamwOutIdeal := by
  intro m g m' g' _ hargs
  refine ⟨rG m, rD m, rM m, rV m, ?_, ?_⟩
  · exact (θ_run _ _ _).mono (fun r h c => ⟨(h c).1.trans (final4 m c), (h c).2.1.trans (final5 m c),
      (h c).2.2.1.trans (final6 m c), (h c).2.2.2.1.trans (final7 m c), (h c).2.2.2.2⟩) (Value.run_blocks m g)
  · refine (θ_run _ _ _).mono (fun r h c => ⟨(h c).1.trans ?_, (h c).2.1.trans ?_, (h c).2.2.1.trans ?_,
      (h c).2.2.2.1.trans ?_, (h c).2.2.2.2⟩) (Cert.ReferenceAdamwOutIdeal.Value.run m' g')
    all_goals simp only [(hargs c).1, (hargs c).2.1, (hargs c).2.2.1, (hargs c).2.2.2]; rfl

end Cert.KernelAdamwOutIdeal.Own

end
-- ==== Proof.AdamMlp.lean ====
/- The optimiser's call on a matrix of the MLP: its result arrays, and the reference's. -/
module

public import proofs.«01_k».proof.Proof.Adam
public import proofs.«01_k».proof.Proof.Gen.KernelAdamwMlpIdeal.Value
public import proofs.«01_k».proof.Proof.Gen.ReferenceAdamwMlpIdeal.Run
public import proofs.«01_k».proof.Defs
public import Idealize.ShloMosaic.Lib.Pipeline.Value
public import Idealize.ShloMosaic.Lib.Pointwise
public import Idealize.ShloMosaic.Lib.Tactic

@[expose] public section

noncomputable section

namespace Cert.KernelAdamwMlpIdeal.Own

open Cert.KernelAdamwMlpIdeal Cert.KernelAdamwMlpIdeal.Gen Idealize.ShloMosaic Idealize.ShloMosaic.TcCoe Idealize.SL.Sem Cert.Own
open Idealize.ShloMosaic.Pipeline (Dat)

variable (M : (ℓ : Loc nD τ sig) → Buf (Elt Ideal) ℓ)

abbrev aw (c : Dev nD) : S1024x1024.Idx → EReal := M ((c : Thread nD τ).loc main_arg0)
abbrev ag (c : Dev nD) : S1024x1024.Idx → EReal := M ((c : Thread nD τ).loc main_arg1)
abbrev am (c : Dev nD) : S1024x1024.Idx → EReal := M ((c : Thread nD τ).loc main_arg2)
abbrev av (c : Dev nD) : S1024x1024.Idx → EReal := M ((c : Thread nD τ).loc main_arg3)

/-- The four result arrays: the gradient, the update, the new moments. -/
def rG (c : Dev nD) : Vec Ideal S1024x1024 .f32 := fun i => ag M c i
def rD (c : Dev nD) : Vec Ideal S1024x1024 .f32 := fun i => Adam.delta (aw M c i) (ag M c i) (am M c i) (av M c i)
def rM (c : Dev nD) : Vec Ideal S1024x1024 .f32 := fun i => Adam.newM (ag M c i) (am M c i)
def rV (c : Dev nD) : Vec Ideal S1024x1024 .f32 := fun i => Adam.newV (ag M c i) (av M c i)

theorem hz : (![0, 0] : Fin 2 → Nat) = fun _ => 0 := funext fun a => by fin_cases a <;> rfl

/-- The blocks of the operands, read in the argument arrays. -/
theorem blk0 (c : Dev nD) (t : Fin cfg0.N) : iblk M c 0 t = fun y => aw M c (((cfg0.win 4).blk t).view.emb y) := by
  funext y; show V M c main_arg0 _ = _; rw [V_main_arg0]; rfl
theorem blk1 (c : Dev nD) (t : Fin cfg0.N) : iblk M c 1 t = fun y => ag M c (((cfg0.win 4).blk t).view.emb y) := by
  funext y; show V M c main_arg1 _ = _; rw [V_main_arg1]; rfl
theorem blk2 (c : Dev nD) (t : Fin cfg0.N) : iblk M c 2 t = fun y => am M c (((cfg0.win 4).blk t).view.emb y) := by
  funext y; show V M c main_arg2 _ = _; rw [V_main_arg2]; rfl
theorem blk3 (c : Dev nD) (t : Fin cfg0.N) : iblk M c 3 t = fun y => av M c (((cfg0.win 4).blk t).view.emb y) := by
  funext y; show V M c main_arg3 _ = _; rw [V_main_arg3]; rfl

theorem index4 : ∀ t : Fin cfg0.N, win0_4.index t 0 = t.val ∧ win0_4.index t 1 = 0 := by decide +kernel

/-- Every element lies in a block. -/
theorem covered (i : S1024x1024.Idx) : ∃ t : Fin cfg0.N, i ∈ (win0_4.rect t).set := by
  have h0 : (i 0 : Nat) < 1024 := (i 0).isLt
  have h1 : (i 1 : Nat) < 1024 := (i 1).isLt
  obtain ⟨t, ht⟩ : ∃ t : Fin cfg0.N, t.val = (i 0 : Nat) / 512 :=
    ⟨⟨(i 0 : Nat) / 512, lt_of_lt_of_eq (show (i 0 : Nat) / 512 < 2 by omega) N_0.symm⟩, rfl⟩
  refine ⟨t, ?_⟩
  rw [Rect.mem_set_unit]
  intro a
  match a with
  | ⟨0, _⟩ => show win0_4.index t 0 * 512 ≤ (i 0 : Nat) ∧ (i 0 : Nat) < win0_4.index t 0 * 512 + 512; rw [(index4 t).1, ht]; omega
  | ⟨1, _⟩ => show win0_4.index t 1 * 1024 ≤ (i 1 : Nat) ∧ (i 1 : Nat) < win0_4.index t 1 * 1024 + 1024; rw [(index4 t).2]; omega

theorem final4 (c : Dev nD) : (dats M 0 c).arrAt 4 cfg0.N = rG M c := by
  refine (dats M 0 c).arrAt_eq_of_cover 4 (rG M c) (fun t _ => ?_) (fun i => (covered i).imp fun t h => ⟨flush0_4 t, ?_⟩)
  · rw [Value.flushed4, blk1]
    unfold out0_4
    rw [View.canon_unit_zero hz, View.ld_unit_zero (S := S512x1024) hz]
    funext y
    rfl
  · show i ∈ ((View.whole main_v0_0).slice (win0_4.rect t)).set
    rw [View.set_slice_whole]; exact h

theorem final5 (c : Dev nD) : (dats M 0 c).arrAt 5 cfg0.N = rD M c := by
  refine (dats M 0 c).arrAt_eq_of_cover 5 (rD M c) (fun t _ => ?_) (fun i => (covered i).imp fun t h => ⟨flush0_5 t, ?_⟩)
  · rw [Value.flushed5, blk0, blk1, blk2, blk3]
    unfold out0_5
    rw [View.canon_unit_zero hz]
    simp only [View.ld_unit_zero (S := S512x1024) hz]
    funext y
    rfl
  · show i ∈ ((View.whole main_v0_1).slice (win0_5.rect t)).set
    rw [View.set_slice_whole]; exact h

theorem final6 (c : Dev nD) : (dats M 0 c).arrAt 6 cfg0.N = rM M c := by
  refine (dats M 0 c).arrAt_eq_of_cover 6 (rM M c) (fun t _ => ?_) (fun i => (covered i).imp fun t h => ⟨flush0_6 t, ?_⟩)
  · rw [Value.flushed6, blk0, blk1, blk2, blk3]
    unfold out0_6
    rw [View.canon_unit_zero hz]
    simp only [View.ld_unit_zero (S := S512x1024) hz]
    funext y
    rfl
  · show i ∈ ((View.whole main_v0_2).slice (win0_6.rect t)).set
    rw [View.set_slice_whole]; exact h

theorem final7 (c : Dev nD) : (dats M 0 c).arrAt 7 cfg0.N = rV M c := by
  refine (dats M 0 c).arrAt_eq_of_cover 7 (rV M c) (fun t _ => ?_) (fun i => (covered i).imp fun t h => ⟨flush0_7 t, ?_⟩)
  · rw [Value.flushed7, blk0, blk1, blk2, blk3]
    unfold out0_7
    rw [View.canon_unit_zero hz]
    simp only [View.ld_unit_zero (S := S512x1024) hz]
    funext y
    rfl
  · show i ∈ ((View.whole main_v0_3).slice (win0_7.rect t)).set
    rw [View.set_slice_whole]; exact h

theorem algebraic : Cert.algebraic_KernelAdamwMlpIdeal_ReferenceAdamwMlpIdeal := by
  intro m g m' g' _ hargs
  refine ⟨rG m, rD m, rM m, rV m, ?_, ?_⟩
  · exact (θ_run _ _ _).mono (fun r h c => ⟨(h c).1.trans (final4 m c), (h c).2.1.trans (final5 m c),
      (h c).2.2.1.trans (final6 m c), (h c).2.2.2.1.trans (final7 m c), (h c).2.2.2.2⟩) (Value.run_blocks m g)
  · refine (θ_run _ _ _).mono (fun r h c => ⟨(h c).1.trans ?_, (h c).2.1.trans ?_, (h c).2.2.1.trans ?_,
      (h c).2.2.2.1.trans ?_, (h c).2.2.2.2⟩) (Cert.ReferenceAdamwMlpIdeal.Value.run m' g')
    all_goals simp only [(hargs c).1, (hargs c).2.1, (hargs c).2.2.1, (hargs c).2.2.2]; rfl

end Cert.KernelAdamwMlpIdeal.Own

end
-- ==== Proof.Small.lean ====
/- The optimiser's call on the packed small weights: its result arrays, and the reference's. -/
module

public import proofs.«01_k».proof.Proof.Adam
public import proofs.«01_k».proof.Proof.LossRow
public import proofs.«01_k».proof.Proof.Gen.KernelSmallIdeal.Value
public import proofs.«01_k».proof.Proof.Gen.ReferenceSmallIdeal.Run
public import proofs.«01_k».proof.Defs
public import Idealize.ShloMosaic.Lib.Pipeline.Value
public import Idealize.ShloMosaic.Lib.Pointwise
public import Idealize.ShloMosaic.Lib.Tactic
public import Idealize.ShloMosaic.Lib.StableHlo.RunRead
public import Idealize.ShloMosaic.PureOps.Ideal

@[expose] public section

noncomputable section

namespace Cert.Own.Small

open Idealize.ShloMosaic

/-- The summed pack: the sum over the devices, rows 152 to 159 of it out of the second pack. -/
def gAt (x0 : (⟨3, ![8, 184, 1024]⟩ : Shape).Idx → EReal) (x1 : (⟨3, ![8, 8, 1024]⟩ : Shape).Idx → EReal) (i : Fin 184) (j : Fin 1024) : EReal :=
  if h : 152 ≤ i.val ∧ i.val < 160 then ∑ d : Fin 8, x1 (ix3 d ⟨i.val - 152, by omega⟩ j) else ∑ d : Fin 8, x0 (ix3 d i j)

/-- Half the mean of row 176, the row of the loss. -/
def lossOf (x0 : (⟨3, ![8, 184, 1024]⟩ : Shape).Idx → EReal) (x1 : (⟨3, ![8, 8, 1024]⟩ : Shape).Idx → EReal) : EReal :=
  Ideal.ofBits .f32 0x3F000000#32 * Ideal.div (∑ j : Fin 1024, gAt x0 x1 176 j) (Ideal.ofBits .f32 0x44800000#32)

end Cert.Own.Small

namespace Cert.ReferenceSmallIdeal.Own

open Cert.ReferenceSmallIdeal Cert.ReferenceSmallIdeal.Gen Idealize.ShloMosaic Idealize.ShloMosaic.TcCoe Idealize.SL.Sem Cert.Own Cert.Own.Small

/-- The reference's summed pack. -/
def gRef {F : FTy → Type} [FloatOps F] (x0 : FVec F S8x184x1024 .f32) (x1 : FVec F S8x8x1024 .f32) : (⟨S184x1024, .f32⟩ : BufTy).Contents (Elt F) :=
  ((concatenate S184x1024 0 [⟨S152x1024, ((extractStridedSlice S152x1024 ![0, 0] (Host.reduceAdd x0 (constant S_ .f32 0x00000000#32) reducesTo_S8x184x1024_S184x1024_d0 h_S_) slices_S184x1024_S152x1024_0_0) : (⟨S152x1024, .f32⟩ : BufTy).Contents (Elt F))⟩,
    ⟨S8x1024, ((Host.reduceAdd x1 (constant S_ .f32 0x00000000#32) reducesTo_S8x8x1024_S8x1024_d0 h_S_) : (⟨S8x1024, .f32⟩ : BufTy).Contents (Elt F))⟩,
    ⟨S24x1024, ((extractStridedSlice S24x1024 ![160, 0] (Host.reduceAdd x0 (constant S_ .f32 0x00000000#32) reducesTo_S8x184x1024_S184x1024_d0 h_S_) slices_S184x1024_S24x1024_160_0) : (⟨S24x1024, .f32⟩ : BufTy).Contents (Elt F))⟩] concatenates_S152x1024_S8x1024_S24x1024_S184x1024_d0 : (⟨S184x1024, .f32⟩ : BufTy).Contents (Elt F)))

theorem gRun {F : FTy → Type} [FloatOps F] (m : (ℓ : Loc nD τ sig) → Buf (Elt F) ℓ) (c : Dev nD) :
    ((concatenate S184x1024 0 [⟨S152x1024, ((extractStridedSlice S152x1024 ![0, 0] (Host.reduceAdd (m ((c.tc : Thread nD τ).loc main_arg0)) (constant S_ .f32 0x00000000#32) reducesTo_S8x184x1024_S184x1024_d0 h_S_) slices_S184x1024_S152x1024_0_0) : (⟨S152x1024, .f32⟩ : BufTy).Contents (Elt F))⟩,
    ⟨S8x1024, ((Host.reduceAdd (m ((c.tc : Thread nD τ).loc main_arg1)) (constant S_ .f32 0x00000000#32) reducesTo_S8x8x1024_S8x1024_d0 h_S_) : (⟨S8x1024, .f32⟩ : BufTy).Contents (Elt F))⟩,
    ⟨S24x1024, ((extractStridedSlice S24x1024 ![160, 0] (Host.reduceAdd (m ((c.tc : Thread nD τ).loc main_arg0)) (constant S_ .f32 0x00000000#32) reducesTo_S8x184x1024_S184x1024_d0 h_S_) slices_S184x1024_S24x1024_160_0) : (⟨S24x1024, .f32⟩ : BufTy).Contents (Elt F))⟩] concatenates_S152x1024_S8x1024_S24x1024_S184x1024_d0 : (⟨S184x1024, .f32⟩ : BufTy).Contents (Elt F))) = gRef (m ((c.tc : Thread nD τ).loc main_arg0)) (m ((c.tc : Thread nD τ).loc main_arg1)) := rfl

variable (x0 : FVec Ideal S8x184x1024 .f32) (x1 : FVec Ideal S8x8x1024 .f32)

theorem gRef_eq : gRef x0 x1 = fun (i : S184x1024.Idx) => gAt x0 x1 (i 0) (i 1) := by
  funext i
  obtain ⟨i, j, rfl⟩ : ∃ (p : Fin 184) (q : Fin 1024), i = ix2 p q := ⟨i 0, i 1, eq_ix2 i⟩
  unfold gRef gAt
  pointwise
  by_cases ha : i.val < 152
  · rw [dif_pos ha, dif_neg (by omega)]
  · rw [dif_neg ha]
    by_cases hb : i.val - 152 < 8
    · rw [dif_pos hb, dif_pos (by omega)]
    · rw [dif_neg hb, dif_neg (by omega)]
      exact Finset.sum_congr rfl fun d _ => congrArg (fun k => x0 (ix3 d k j)) (Fin.ext (show 160 + (i.val - 152 - 8) = i.val by omega))

theorem delta_ref (w G mm v : FVec Ideal S184x1024 .f32) : (mulf (broadcastInDim S184x1024 ![] bcast_S_S184x1024 (constant S_ .f32 0xBA83126F#32)) (addf (Host.divf (Host.divf (addf (mulf (broadcastInDim S184x1024 ![] bcast_S_S184x1024 (constant S_ .f32 0x3F666666#32)) mm) (mulf (broadcastInDim S184x1024 ![] bcast_S_S184x1024 (constant S_ .f32 0x3DCCCCCD#32)) G)) (broadcastInDim S184x1024 ![] bcast_S_S184x1024 (constant S_ .f32 0x3F26BD02#32))) (addf (Host.sqrt (Host.divf (addf (mulf (broadcastInDim S184x1024 ![] bcast_S_S184x1024 (constant S_ .f32 0x3F7FBE77#32)) v) (mulf (broadcastInDim S184x1024 ![] bcast_S_S184x1024 (constant S_ .f32 0x3A83126F#32)) (mulf G G))) (broadcastInDim S184x1024 ![] bcast_S_S184x1024 (constant S_ .f32 0x3C231ACC#32)))) (broadcastInDim S184x1024 ![] bcast_S_S184x1024 (constant S_ .f32 0x322BCC77#32)))) (mulf (broadcastInDim S184x1024 ![] bcast_S_S184x1024 (constant S_ .f32 0x3C23D70A#32)) w)) : FVec Ideal S184x1024 .f32)
    = fun i => Adam.delta (w i) (G i) (mm i) (v i) := rfl

theorem newM_ref (G mm : FVec Ideal S184x1024 .f32) : (addf (mulf (broadcastInDim S184x1024 ![] bcast_S_S184x1024 (constant S_ .f32 0x3F666666#32)) mm) (mulf (broadcastInDim S184x1024 ![] bcast_S_S184x1024 (constant S_ .f32 0x3DCCCCCD#32)) G) : FVec Ideal S184x1024 .f32) = fun i => Adam.newM (G i) (mm i) := rfl

theorem newV_ref (G v : FVec Ideal S184x1024 .f32) : (addf (mulf (broadcastInDim S184x1024 ![] bcast_S_S184x1024 (constant S_ .f32 0x3F7FBE77#32)) v) (mulf (broadcastInDim S184x1024 ![] bcast_S_S184x1024 (constant S_ .f32 0x3A83126F#32)) (mulf G G)) : FVec Ideal S184x1024 .f32) = fun i => Adam.newV (G i) (v i) := rfl

theorem lossRef : (broadcastInDim S8x128 ![] bcast_S_S8x128 (mulf (constant S_ .f32 0x3F000000#32) (Host.divf (Host.reduceAdd (shapeCast _ (extractStridedSlice S1x1024 ![176, 0] (gRef x0 x1) slices_S184x1024_S1x1024_176_0) shapeCasts_S1x1024_S1024) (constant S_ .f32 0x00000000#32) reducesTo_S1024_S_d0 h_S_) (constant S_ .f32 0x44800000#32))) : FVec Ideal S8x128 .f32)
    = fun _ => (lossOf x0 x1 : EReal) := by
  funext i
  rw [gRef_eq]
  obtain ⟨i, j, rfl⟩ : ∃ (p : Fin 8) (q : Fin 128), i = ix2 p q := ⟨i 0, i 1, eq_ix2 i⟩
  unfold lossOf
  pointwise

end Cert.ReferenceSmallIdeal.Own

namespace Cert.KernelSmallIdeal.Own

open Cert.KernelSmallIdeal Cert.KernelSmallIdeal.Gen Idealize.ShloMosaic Idealize.ShloMosaic.TcCoe Idealize.SL.Sem Cert.Own Cert.Own.Small
open Idealize.ShloMosaic.Pipeline (Dat)

theorem hz : (![0, 0] : Fin 2 → Nat) = fun _ => 0 := funext fun a => by fin_cases a <;> rfl

section Tile
variable (x0 : Vec Ideal S8x184x1024 .f32) (x1 : Vec Ideal S8x8x1024 .f32) (x2 x3 x4 : Vec Ideal S184x1024 .f32)

/-- The sum of the first pack over the devices. -/
def sumV : Vec Ideal S184x1024 .f32 :=
  k0_pay7 (k0_pay5 (View.ld x0 (Rect.unit ![0, 0, 0] ![1, 184, 1024] inb_S8x184x1024_S1x184x1024_0_0_0)) (View.ld x0 (Rect.unit ![1, 0, 0] ![1, 184, 1024] inb_S8x184x1024_S1x184x1024_1_0_0)) (View.ld x0 (Rect.unit ![2, 0, 0] ![1, 184, 1024] inb_S8x184x1024_S1x184x1024_2_0_0)) (View.ld x0 (Rect.unit ![3, 0, 0] ![1, 184, 1024] inb_S8x184x1024_S1x184x1024_3_0_0)) (View.ld x0 (Rect.unit ![4, 0, 0] ![1, 184, 1024] inb_S8x184x1024_S1x184x1024_4_0_0))) (View.ld x0 (Rect.unit ![5, 0, 0] ![1, 184, 1024] inb_S8x184x1024_S1x184x1024_5_0_0)) (View.ld x0 (Rect.unit ![6, 0, 0] ![1, 184, 1024] inb_S8x184x1024_S1x184x1024_6_0_0)) (View.ld x0 (Rect.unit ![7, 0, 0] ![1, 184, 1024] inb_S8x184x1024_S1x184x1024_7_0_0))

/-- The sum of the second pack over the devices. -/
def lateV : Vec Ideal S8x1024 .f32 :=
  k0_pay8 (k0_pay6 (View.ld x1 (Rect.unit ![0, 0, 0] ![1, 8, 1024] inb_S8x8x1024_S1x8x1024_0_0_0)) (View.ld x1 (Rect.unit ![1, 0, 0] ![1, 8, 1024] inb_S8x8x1024_S1x8x1024_1_0_0)) (View.ld x1 (Rect.unit ![2, 0, 0] ![1, 8, 1024] inb_S8x8x1024_S1x8x1024_2_0_0)) (View.ld x1 (Rect.unit ![3, 0, 0] ![1, 8, 1024] inb_S8x8x1024_S1x8x1024_3_0_0)) (View.ld x1 (Rect.unit ![4, 0, 0] ![1, 8, 1024] inb_S8x8x1024_S1x8x1024_4_0_0))) (View.ld x1 (Rect.unit ![5, 0, 0] ![1, 8, 1024] inb_S8x8x1024_S1x8x1024_5_0_0)) (View.ld x1 (Rect.unit ![6, 0, 0] ![1, 8, 1024] inb_S8x8x1024_S1x8x1024_6_0_0)) (View.ld x1 (Rect.unit ![7, 0, 0] ![1, 8, 1024] inb_S8x8x1024_S1x8x1024_7_0_0))

/-- What the two stores of the summed pack leave. -/
def gPieces : List (View.Piece (Elt Ideal) S184x1024 .f32) :=
  [⟨Rect.unit ![152, 0] ![8, 1024] inb_S184x1024_S8x1024_152_0, lateV x1⟩, ⟨Rect.unit ![0, 0] ![184, 1024] inb_S184x1024_S184x1024_0_0, sumV x0⟩]

theorem sumV_apply (i : Fin 184) (j : Fin 1024) : sumV x0 (ix2 i j) = ∑ d : Fin 8, x0 (ix3 d i j) := by
  unfold sumV
  pointwise [k0_pay7, k0_pay5]
  rw [Fin.sum_univ_eight]

theorem lateV_apply (i : Fin 8) (j : Fin 1024) : lateV x1 (ix2 i j) = ∑ d : Fin 8, x1 (ix3 d i j) := by
  unfold lateV
  pointwise [k0_pay8, k0_pay6]
  rw [Fin.sum_univ_eight]

/-- The summed pack. -/
def gV : Vec Ideal S184x1024 .f32 := fun i => gAt x0 x1 (i 0) (i 1)

theorem gPieces_eq : View.canon (gPieces x0 x1) = gV x0 x1 := by
  funext y
  obtain ⟨i, j, rfl⟩ : ∃ (p : Fin 184) (q : Fin 1024), y = ix2 p q := ⟨y 0, y 1, eq_ix2 y⟩
  show _ = gAt x0 x1 i j
  unfold gPieces gAt
  by_cases h : 152 ≤ i.val ∧ i.val < 160
  · rw [dif_pos h, ← lateV_apply]
    have e : (ix2 i j : S184x1024.Idx) = (Rect.unit (s := S184x1024) ![152, 0] ![8, 1024] inb_S184x1024_S8x1024_152_0).emb (ix2 (⟨i.val - 152, by omega⟩ : Fin 8) j) := by
      funext a
      refine Fin.ext ?_
      match a with
      | ⟨0, _⟩ => show i.val = 152 + 1 * (i.val - 152); omega
      | ⟨1, _⟩ => show j.val = 0 + 1 * j.val; omega
    exact (congrArg (View.canon _) e).trans (View.canon_cons_emb _ _ _ _)
  · rw [dif_neg h, ← sumV_apply, View.canon_cons_of_not_mem, View.canon_unit_zero (S := S184x1024) hz]
    rw [Rect.mem_set_unit]
    intro hm
    exact h ⟨(hm 0).1, (hm 0).2⟩

/-- The summed pack read back. -/
theorem back (v : View sig .tc .vmem S184x1024 .f32) :
    v.readCov (gPieces x0 x1) (Rect.unit ![0, 0] ![184, 1024] inb_S184x1024_S184x1024_0_0).toLoadRect = gV x0 x1 := by
  rw [View.readCov_eq_canon', ← gPieces_eq]
  funext j
  refine congrArg (View.canon _) (funext fun a => Fin.ext ?_)
  match a with
  | ⟨0, _⟩ => show 0 + 1 * (j 0).val = (j 0).val; omega
  | ⟨1, _⟩ => show 0 + 1 * (j 1).val = (j 1).val; omega

variable (c : Dev nD) (i : grid0.Coords) (a1 : Memref sig .tc .vmem S8x184x1024 .f32) (h1 : a1.IsWhole) (a2 : Memref sig .tc .vmem S8x8x1024 .f32) (h2 : a2.IsWhole) (a3 : Memref sig .tc .vmem S184x1024 .f32) (h3 : a3.IsWhole) (a4 : Memref sig .tc .vmem S184x1024 .f32) (h4 : a4.IsWhole) (a5 : Memref sig .tc .vmem S184x1024 .f32) (h5 : a5.IsWhole) (a6 : Memref sig .tc .vmem S184x1024 .f32) (h6 : a6.IsWhole) (a7 : Memref sig .tc .vmem S184x1024 .f32) (h7 : a7.IsWhole) (a8 : Memref sig .tc .vmem S184x1024 .f32) (h8 : a8.IsWhole) (a9 : Memref sig .tc .vmem S184x1024 .f32) (h9 : a9.IsWhole) (a10 : Memref sig .tc .vmem S8x128 .f32) (h10 : a10.IsWhole)

theorem out5 : out0_A_5 (F := Ideal) c i a1 h1 a2 h2 a3 h3 a4 h4 a5 h5 a6 h6 a7 h7 a8 h8 a9 h9 a10 h10 x0 x1 x2 x3 x4 = gV x0 x1 := by
  unfold out0_A_5
  rw [View.read_writes_junk_eq_canon]
  unfold kernelRun0_A
  dsimp only
  sl_unfold_words
  simp only [View.readAt_eq_ld, h1.read_unread, h2.read_unread, h3.read_unread, h4.read_unread, h5.read_unread,
    View.ld_unit_zero (S := S184x1024) hz]
  exact gPieces_eq x0 x1

theorem nine : k0_pay9 (gV x0 x1) = gV x0 x1 := by
  funext y
  obtain ⟨i, j, rfl⟩ : ∃ (p : Fin 184) (q : Fin 1024), y = ix2 p q := ⟨y 0, y 1, eq_ix2 y⟩
  unfold k0_pay9
  pointwise

/-- Half the mean, as the product with one over twice the length. -/
theorem half_mean (x : EReal) : x * Ideal.ofBits .f32 0x3A000000#32 = Ideal.ofBits .f32 0x3F000000#32 * Ideal.div x (Ideal.ofBits .f32 0x44800000#32) := by
  have e : Ideal.ofBits .f32 0x3A000000#32 = ((1 / 1024 * (1 / 2) : ℝ) : EReal) := by
    simp [Ideal.ofBits, Ideal.ieee]
    rw [← EReal.coe_mul, ← EReal.coe_mul]; norm_num
  rw [c1024, Ideal.div_coe (by norm_num), chalf, e, EReal.coe_mul, ← mul_assoc, mul_comm]

theorem four : (k0_pay4 (gV x0 x1) : FVec Ideal S8x128 .f32) = fun _ => lossOf x0 x1 := by
  funext y
  obtain ⟨i, j, rfl⟩ : ∃ (p : Fin 8) (q : Fin 128), y = ix2 p q := ⟨y 0, y 1, eq_ix2 y⟩
  unfold k0_pay4 lossOf
  rw [← half_mean]
  pointwise
  rw [Fintype.sum_unique]
  rfl

theorem out6 : out0_A_6 (F := Ideal) c i a1 h1 a2 h2 a3 h3 a4 h4 a5 h5 a6 h6 a7 h7 a8 h8 a9 h9 a10 h10 x0 x1 x2 x3 x4 = fun i => Adam.delta (x2 i) (gV x0 x1 i) (x3 i) (x4 i) := by
  unfold out0_A_6
  rw [View.read_writes_junk_eq_canon]
  unfold kernelRun0_A
  dsimp only
  sl_unfold_words
  rw [View.canon_unit_zero (S := S184x1024) hz]
  simp only [View.readAt_eq_ld, h1.read_unread, h2.read_unread, h3.read_unread, h4.read_unread, h5.read_unread,
    View.ld_unit_zero (S := S184x1024) hz]
  show k0_pay3 (k0_pay9 (a6.view.readCov (gPieces x0 x1) (Rect.unit ![0, 0] ![184, 1024] inb_S184x1024_S184x1024_0_0).toLoadRect)) x2 x4 (k0_pay10 x3) (FloatOps.ofBits FTy.f32 0x3DCCCCCD#32) = _
  rw [back, nine]
  rfl

theorem out7 : out0_A_7 (F := Ideal) c i a1 h1 a2 h2 a3 h3 a4 h4 a5 h5 a6 h6 a7 h7 a8 h8 a9 h9 a10 h10 x0 x1 x2 x3 x4 = fun i => Adam.newM (gV x0 x1 i) (x3 i) := by
  unfold out0_A_7
  rw [View.read_writes_junk_eq_canon]
  unfold kernelRun0_A
  dsimp only
  sl_unfold_words
  rw [View.canon_unit_zero (S := S184x1024) hz]
  simp only [View.readAt_eq_ld, h1.read_unread, h2.read_unread, h3.read_unread, h4.read_unread, h5.read_unread,
    View.ld_unit_zero (S := S184x1024) hz]
  show k0_pay1 (k0_pay9 (a6.view.readCov (gPieces x0 x1) (Rect.unit ![0, 0] ![184, 1024] inb_S184x1024_S184x1024_0_0).toLoadRect)) (k0_pay10 x3) (FloatOps.ofBits FTy.f32 0x3DCCCCCD#32) = _
  rw [back, nine]
  rfl

theorem out8 : out0_A_8 (F := Ideal) c i a1 h1 a2 h2 a3 h3 a4 h4 a5 h5 a6 h6 a7 h7 a8 h8 a9 h9 a10 h10 x0 x1 x2 x3 x4 = fun i => Adam.newV (gV x0 x1 i) (x4 i) := by
  unfold out0_A_8
  rw [View.read_writes_junk_eq_canon]
  unfold kernelRun0_A
  dsimp only
  sl_unfold_words
  rw [View.canon_unit_zero (S := S184x1024) hz]
  simp only [View.readAt_eq_ld, h1.read_unread, h2.read_unread, h3.read_unread, h4.read_unread, h5.read_unread,
    View.ld_unit_zero (S := S184x1024) hz]
  show k0_pay2 (k0_pay9 (a6.view.readCov (gPieces x0 x1) (Rect.unit ![0, 0] ![184, 1024] inb_S184x1024_S184x1024_0_0).toLoadRect)) x4 = _
  rw [back, nine]
  rfl

theorem out9 : out0_A_9 (F := Ideal) c i a1 h1 a2 h2 a3 h3 a4 h4 a5 h5 a6 h6 a7 h7 a8 h8 a9 h9 a10 h10 x0 x1 x2 x3 x4 = fun _ => lossOf x0 x1 := by
  unfold out0_A_9
  rw [View.read_writes_junk_eq_canon]
  unfold kernelRun0_A
  dsimp only
  sl_unfold_words
  rw [View.canon_unit_zero (S := S8x128) hz]
  simp only [View.readAt_eq_ld, h1.read_unread, h2.read_unread, h3.read_unread, h4.read_unread, h5.read_unread,
    View.ld_unit_zero (S := S184x1024) hz]
  show k0_pay4 (k0_pay9 (a6.view.readCov (gPieces x0 x1) (Rect.unit ![0, 0] ![184, 1024] inb_S184x1024_S184x1024_0_0).toLoadRect)) = _
  rw [back, nine]
  exact four x0 x1

end Tile

variable (M : (ℓ : Loc nD τ sig) → Buf (Elt Ideal) ℓ)

abbrev b0 (c : Dev nD) : S8x184x1024.Idx → EReal := M ((c : Thread nD τ).loc main_arg0)
abbrev b1 (c : Dev nD) : S8x8x1024.Idx → EReal := M ((c : Thread nD τ).loc main_arg1)
abbrev b2 (c : Dev nD) : S184x1024.Idx → EReal := M ((c : Thread nD τ).loc main_arg2)
abbrev b3 (c : Dev nD) : S184x1024.Idx → EReal := M ((c : Thread nD τ).loc main_arg3)
abbrev b4 (c : Dev nD) : S184x1024.Idx → EReal := M ((c : Thread nD τ).loc main_arg4)

/-- The five result arrays: the summed pack, the update, the new moments, the loss. -/
def rG (c : Dev nD) : Vec Ideal S184x1024 .f32 := gV (b0 M c) (b1 M c)
def rD (c : Dev nD) : Vec Ideal S184x1024 .f32 := fun i => Adam.delta (b2 M c i) (rG M c i) (b3 M c i) (b4 M c i)
def rM (c : Dev nD) : Vec Ideal S184x1024 .f32 := fun i => Adam.newM (rG M c i) (b3 M c i)
def rV (c : Dev nD) : Vec Ideal S184x1024 .f32 := fun i => Adam.newV (rG M c i) (b4 M c i)
def rL (c : Dev nD) : Vec Ideal S8x128 .f32 := fun _ => lossOf (b0 M c) (b1 M c)

/-- The only block of an operand is the whole array. -/
theorem index0 : ∀ t : Fin cfg0.N, win0_0.index t 0 = 0 ∧ win0_0.index t 1 = 0 ∧ win0_0.index t 2 = 0 := by decide +kernel
theorem blk0 (c : Dev nD) (t : Fin cfg0.N) : iblk M c 0 t = b0 M c := by
  funext y
  show V M c main_arg0 (((cfg0.win 0).blk t).view.emb y) = _
  rw [V_main_arg0]
  refine congrArg (b0 M c) (funext fun a => Fin.ext ?_)
  match a with
  | ⟨0, _⟩ => show win0_0.index t 0 * 8 + 1 * (y 0).val = (y 0).val; rw [(index0 t).1]; omega
  | ⟨1, _⟩ => show win0_0.index t 1 * 184 + 1 * (y 1).val = (y 1).val; rw [(index0 t).2.1]; omega
  | ⟨2, _⟩ => show win0_0.index t 2 * 1024 + 1 * (y 2).val = (y 2).val; rw [(index0 t).2.2]; omega

theorem index1 : ∀ t : Fin cfg0.N, win0_1.index t 0 = 0 ∧ win0_1.index t 1 = 0 ∧ win0_1.index t 2 = 0 := by decide +kernel
theorem blk1 (c : Dev nD) (t : Fin cfg0.N) : iblk M c 1 t = b1 M c := by
  funext y
  show V M c main_arg1 (((cfg0.win 1).blk t).view.emb y) = _
  rw [V_main_arg1]
  refine congrArg (b1 M c) (funext fun a => Fin.ext ?_)
  match a with
  | ⟨0, _⟩ => show win0_1.index t 0 * 8 + 1 * (y 0).val = (y 0).val; rw [(index1 t).1]; omega
  | ⟨1, _⟩ => show win0_1.index t 1 * 8 + 1 * (y 1).val = (y 1).val; rw [(index1 t).2.1]; omega
  | ⟨2, _⟩ => show win0_1.index t 2 * 1024 + 1 * (y 2).val = (y 2).val; rw [(index1 t).2.2]; omega

theorem index2 : ∀ t : Fin cfg0.N, win0_2.index t 0 = 0 ∧ win0_2.index t 1 = 0 := by decide +kernel
theorem blk2 (c : Dev nD) (t : Fin cfg0.N) : iblk M c 2 t = b2 M c := by
  funext y
  show V M c main_arg2 (((cfg0.win 2).blk t).view.emb y) = _
  rw [V_main_arg2]
  refine congrArg (b2 M c) (funext fun a => Fin.ext ?_)
  match a with
  | ⟨0, _⟩ => show win0_2.index t 0 * 184 + 1 * (y 0).val = (y 0).val; rw [(index2 t).1]; omega
  | ⟨1, _⟩ => show win0_2.index t 1 * 1024 + 1 * (y 1).val = (y 1).val; rw [(index2 t).2]; omega

theorem index3 : ∀ t : Fin cfg0.N, win0_3.index t 0 = 0 ∧ win0_3.index t 1 = 0 := by decide +kernel
theorem blk3 (c : Dev nD) (t : Fin cfg0.N) : iblk M c 3 t = b3 M c := by
  funext y
  show V M c main_arg3 (((cfg0.win 3).blk t).view.emb y) = _
  rw [V_main_arg3]
  refine congrArg (b3 M c) (funext fun a => Fin.ext ?_)
  match a with
  | ⟨0, _⟩ => show win0_3.index t 0 * 184 + 1 * (y 0).val = (y 0).val; rw [(index3 t).1]; omega
  | ⟨1, _⟩ => show win0_3.index t 1 * 1024 + 1 * (y 1).val = (y 1).val; rw [(index3 t).2]; omega

theorem index4 : ∀ t : Fin cfg0.N, win0_4.index t 0 = 0 ∧ win0_4.index t 1 = 0 := by decide +kernel
theorem blk4 (c : Dev nD) (t : Fin cfg0.N) : iblk M c 4 t = b4 M c := by
  funext y
  show V M c main_arg4 (((cfg0.win 4).blk t).view.emb y) = _
  rw [V_main_arg4]
  refine congrArg (b4 M c) (funext fun a => Fin.ext ?_)
  match a with
  | ⟨0, _⟩ => show win0_4.index t 0 * 184 + 1 * (y 0).val = (y 0).val; rw [(index4 t).1]; omega
  | ⟨1, _⟩ => show win0_4.index t 1 * 1024 + 1 * (y 1).val = (y 1).val; rw [(index4 t).2]; omega

theorem index5 : ∀ t : Fin cfg0.N, win0_5.index t 0 = 0 ∧ win0_5.index t 1 = 0 := by decide +kernel
theorem emb5 (t : Fin cfg0.N) (y : S184x1024.Idx) : ((cfg0.win 5).blk t).view.emb y = y := by
  funext a
  refine Fin.ext ?_
  match a with
  | ⟨0, _⟩ => show win0_5.index t 0 * 184 + 1 * (y 0).val = (y 0).val; rw [(index5 t).1]; omega
  | ⟨1, _⟩ => show win0_5.index t 1 * 1024 + 1 * (y 1).val = (y 1).val; rw [(index5 t).2]; omega
theorem cov5 (i : S184x1024.Idx) : ∃ t : Fin cfg0.N, i ∈ (win0_5.rect t).set := by
  refine ⟨⟨0, lt_of_lt_of_eq (show 0 < 1 by decide) N_0.symm⟩, ?_⟩
  have h0 : (i 0 : Nat) < 184 := (i 0).isLt
  have h1 : (i 1 : Nat) < 1024 := (i 1).isLt
  rw [Rect.mem_set_unit]
  intro a
  match a with
  | ⟨0, _⟩ => show win0_5.index _ 0 * 184 ≤ (i 0 : Nat) ∧ (i 0 : Nat) < win0_5.index _ 0 * 184 + 184; rw [(index5 _).1]; omega
  | ⟨1, _⟩ => show win0_5.index _ 1 * 1024 ≤ (i 1 : Nat) ∧ (i 1 : Nat) < win0_5.index _ 1 * 1024 + 1024; rw [(index5 _).2]; omega
theorem final5 (c : Dev nD) : (dats M 0 c).arrAt 5 cfg0.N = rG M c := by
  refine (dats M 0 c).arrAt_eq_of_cover 5 (rG M c) (fun t _ => ?_) (fun i => (cov5 i).imp fun t h => ⟨flush0_5 t, ?_⟩)
  · rw [Value.flushed5_A, out5, blk0, blk1]
    funext y
    show _ = rG M c (((cfg0.win 5).blk t).view.emb y)
    rw [emb5]
    rfl
  · show i ∈ ((View.whole main_v0_0).slice (win0_5.rect t)).set
    rw [View.set_slice_whole]; exact h

theorem index6 : ∀ t : Fin cfg0.N, win0_6.index t 0 = 0 ∧ win0_6.index t 1 = 0 := by decide +kernel
theorem emb6 (t : Fin cfg0.N) (y : S184x1024.Idx) : ((cfg0.win 6).blk t).view.emb y = y := by
  funext a
  refine Fin.ext ?_
  match a with
  | ⟨0, _⟩ => show win0_6.index t 0 * 184 + 1 * (y 0).val = (y 0).val; rw [(index6 t).1]; omega
  | ⟨1, _⟩ => show win0_6.index t 1 * 1024 + 1 * (y 1).val = (y 1).val; rw [(index6 t).2]; omega
theorem cov6 (i : S184x1024.Idx) : ∃ t : Fin cfg0.N, i ∈ (win0_6.rect t).set := by
  refine ⟨⟨0, lt_of_lt_of_eq (show 0 < 1 by decide) N_0.symm⟩, ?_⟩
  have h0 : (i 0 : Nat) < 184 := (i 0).isLt
  have h1 : (i 1 : Nat) < 1024 := (i 1).isLt
  rw [Rect.mem_set_unit]
  intro a
  match a with
  | ⟨0, _⟩ => show win0_6.index _ 0 * 184 ≤ (i 0 : Nat) ∧ (i 0 : Nat) < win0_6.index _ 0 * 184 + 184; rw [(index6 _).1]; omega
  | ⟨1, _⟩ => show win0_6.index _ 1 * 1024 ≤ (i 1 : Nat) ∧ (i 1 : Nat) < win0_6.index _ 1 * 1024 + 1024; rw [(index6 _).2]; omega
theorem final6 (c : Dev nD) : (dats M 0 c).arrAt 6 cfg0.N = rD M c := by
  refine (dats M 0 c).arrAt_eq_of_cover 6 (rD M c) (fun t _ => ?_) (fun i => (cov6 i).imp fun t h => ⟨flush0_6 t, ?_⟩)
  · rw [Value.flushed6_A, out6, blk0, blk1, blk2, blk3, blk4]
    funext y
    show _ = rD M c (((cfg0.win 6).blk t).view.emb y)
    rw [emb6]
    rfl
  · show i ∈ ((View.whole main_v0_1).slice (win0_6.rect t)).set
    rw [View.set_slice_whole]; exact h

theorem index7 : ∀ t : Fin cfg0.N, win0_7.index t 0 = 0 ∧ win0_7.index t 1 = 0 := by decide +kernel
theorem emb7 (t : Fin cfg0.N) (y : S184x1024.Idx) : ((cfg0.win 7).blk t).view.emb y = y := by
  funext a
  refine Fin.ext ?_
  match a with
  | ⟨0, _⟩ => show win0_7.index t 0 * 184 + 1 * (y 0).val = (y 0).val; rw [(index7 t).1]; omega
  | ⟨1, _⟩ => show win0_7.index t 1 * 1024 + 1 * (y 1).val = (y 1).val; rw [(index7 t).2]; omega
theorem cov7 (i : S184x1024.Idx) : ∃ t : Fin cfg0.N, i ∈ (win0_7.rect t).set := by
  refine ⟨⟨0, lt_of_lt_of_eq (show 0 < 1 by decide) N_0.symm⟩, ?_⟩
  have h0 : (i 0 : Nat) < 184 := (i 0).isLt
  have h1 : (i 1 : Nat) < 1024 := (i 1).isLt
  rw [Rect.mem_set_unit]
  intro a
  match a with
  | ⟨0, _⟩ => show win0_7.index _ 0 * 184 ≤ (i 0 : Nat) ∧ (i 0 : Nat) < win0_7.index _ 0 * 184 + 184; rw [(index7 _).1]; omega
  | ⟨1, _⟩ => show win0_7.index _ 1 * 1024 ≤ (i 1 : Nat) ∧ (i 1 : Nat) < win0_7.index _ 1 * 1024 + 1024; rw [(index7 _).2]; omega
theorem final7 (c : Dev nD) : (dats M 0 c).arrAt 7 cfg0.N = rM M c := by
  refine (dats M 0 c).arrAt_eq_of_cover 7 (rM M c) (fun t _ => ?_) (fun i => (cov7 i).imp fun t h => ⟨flush0_7 t, ?_⟩)
  · rw [Value.flushed7_A, out7, blk0, blk1, blk3]
    funext y
    show _ = rM M c (((cfg0.win 7).blk t).view.emb y)
    rw [emb7]
    rfl
  · show i ∈ ((View.whole main_v0_2).slice (win0_7.rect t)).set
    rw [View.set_slice_whole]; exact h

theorem index8 : ∀ t : Fin cfg0.N, win0_8.index t 0 = 0 ∧ win0_8.index t 1 = 0 := by decide +kernel
theorem emb8 (t : Fin cfg0.N) (y : S184x1024.Idx) : ((cfg0.win 8).blk t).view.emb y = y := by
  funext a
  refine Fin.ext ?_
  match a with
  | ⟨0, _⟩ => show win0_8.index t 0 * 184 + 1 * (y 0).val = (y 0).val; rw [(index8 t).1]; omega
  | ⟨1, _⟩ => show win0_8.index t 1 * 1024 + 1 * (y 1).val = (y 1).val; rw [(index8 t).2]; omega
theorem cov8 (i : S184x1024.Idx) : ∃ t : Fin cfg0.N, i ∈ (win0_8.rect t).set := by
  refine ⟨⟨0, lt_of_lt_of_eq (show 0 < 1 by decide) N_0.symm⟩, ?_⟩
  have h0 : (i 0 : Nat) < 184 := (i 0).isLt
  have h1 : (i 1 : Nat) < 1024 := (i 1).isLt
  rw [Rect.mem_set_unit]
  intro a
  match a with
  | ⟨0, _⟩ => show win0_8.index _ 0 * 184 ≤ (i 0 : Nat) ∧ (i 0 : Nat) < win0_8.index _ 0 * 184 + 184; rw [(index8 _).1]; omega
  | ⟨1, _⟩ => show win0_8.index _ 1 * 1024 ≤ (i 1 : Nat) ∧ (i 1 : Nat) < win0_8.index _ 1 * 1024 + 1024; rw [(index8 _).2]; omega
theorem final8 (c : Dev nD) : (dats M 0 c).arrAt 8 cfg0.N = rV M c := by
  refine (dats M 0 c).arrAt_eq_of_cover 8 (rV M c) (fun t _ => ?_) (fun i => (cov8 i).imp fun t h => ⟨flush0_8 t, ?_⟩)
  · rw [Value.flushed8_A, out8, blk0, blk1, blk4]
    funext y
    show _ = rV M c (((cfg0.win 8).blk t).view.emb y)
    rw [emb8]
    rfl
  · show i ∈ ((View.whole main_v0_3).slice (win0_8.rect t)).set
    rw [View.set_slice_whole]; exact h

theorem index9 : ∀ t : Fin cfg0.N, win0_9.index t 0 = 0 ∧ win0_9.index t 1 = 0 := by decide +kernel
theorem emb9 (t : Fin cfg0.N) (y : S8x128.Idx) : ((cfg0.win 9).blk t).view.emb y = y := by
  funext a
  refine Fin.ext ?_
  match a with
  | ⟨0, _⟩ => show win0_9.index t 0 * 8 + 1 * (y 0).val = (y 0).val; rw [(index9 t).1]; omega
  | ⟨1, _⟩ => show win0_9.index t 1 * 128 + 1 * (y 1).val = (y 1).val; rw [(index9 t).2]; omega
theorem cov9 (i : S8x128.Idx) : ∃ t : Fin cfg0.N, i ∈ (win0_9.rect t).set := by
  refine ⟨⟨0, lt_of_lt_of_eq (show 0 < 1 by decide) N_0.symm⟩, ?_⟩
  have h0 : (i 0 : Nat) < 8 := (i 0).isLt
  have h1 : (i 1 : Nat) < 128 := (i 1).isLt
  rw [Rect.mem_set_unit]
  intro a
  match a with
  | ⟨0, _⟩ => show win0_9.index _ 0 * 8 ≤ (i 0 : Nat) ∧ (i 0 : Nat) < win0_9.index _ 0 * 8 + 8; rw [(index9 _).1]; omega
  | ⟨1, _⟩ => show win0_9.index _ 1 * 128 ≤ (i 1 : Nat) ∧ (i 1 : Nat) < win0_9.index _ 1 * 128 + 128; rw [(index9 _).2]; omega
theorem final9 (c : Dev nD) : (dats M 0 c).arrAt 9 cfg0.N = rL M c := by
  refine (dats M 0 c).arrAt_eq_of_cover 9 (rL M c) (fun t _ => ?_) (fun i => (cov9 i).imp fun t h => ⟨flush0_9 t, ?_⟩)
  · rw [Value.flushed9_A, out9, blk0, blk1]
    funext y
    show _ = rL M c (((cfg0.win 9).blk t).view.emb y)
    rw [emb9]
    rfl
  · show i ∈ ((View.whole main_v0_4).slice (win0_9.rect t)).set
    rw [View.set_slice_whole]; exact h

theorem algebraic : Cert.algebraic_KernelSmallIdeal_ReferenceSmallIdeal := by
  intro m g m' g' _ hargs
  refine ⟨rG m, rD m, rM m, rV m, rL m, ?_, ?_⟩
  · exact (θ_run _ _ _).mono (fun r h c => ⟨(h c).1.trans (final5 m c), (h c).2.1.trans (final6 m c),
      (h c).2.2.1.trans (final7 m c), (h c).2.2.2.1.trans (final8 m c), (h c).2.2.2.2.1.trans (final9 m c), (h c).2.2.2.2.2⟩) (Value.run_blocks m g)
  · have eg : ∀ c : Dev Cert.ReferenceSmallIdeal.nD, Cert.ReferenceSmallIdeal.Own.gRef (m' ((c.tc : Thread Cert.ReferenceSmallIdeal.nD Cert.ReferenceSmallIdeal.τ).loc Cert.ReferenceSmallIdeal.main_arg0)) (m' ((c.tc : Thread Cert.ReferenceSmallIdeal.nD Cert.ReferenceSmallIdeal.τ).loc Cert.ReferenceSmallIdeal.main_arg1)) = rG m c := fun c =>
      (congrArg₂ Cert.ReferenceSmallIdeal.Own.gRef (hargs c).1 (hargs c).2.1).trans (Cert.ReferenceSmallIdeal.Own.gRef_eq (b0 m c) (b1 m c))
    refine (θ_run _ _ _).mono (fun r h c => ⟨(h c).1.trans ((Cert.ReferenceSmallIdeal.Own.gRun m' c).trans (eg c)),
      (h c).2.1.trans ((Cert.ReferenceSmallIdeal.Own.delta_ref _ (Cert.ReferenceSmallIdeal.Own.gRef (F := Ideal) _ _) _ _).trans ?_),
      (h c).2.2.1.trans ((Cert.ReferenceSmallIdeal.Own.newM_ref (Cert.ReferenceSmallIdeal.Own.gRef (F := Ideal) _ _) _).trans ?_),
      (h c).2.2.2.1.trans ((Cert.ReferenceSmallIdeal.Own.newV_ref (Cert.ReferenceSmallIdeal.Own.gRef (F := Ideal) _ _) _).trans ?_),
      (h c).2.2.2.2.1.trans ((Cert.ReferenceSmallIdeal.Own.lossRef _ _).trans ?_), (h c).2.2.2.2.2⟩) (Cert.ReferenceSmallIdeal.Value.run m' g')
    · rw [eg c, (hargs c).2.2.1, (hargs c).2.2.2.1, (hargs c).2.2.2.2]; rfl
    · rw [eg c, (hargs c).2.2.2.1]; rfl
    · rw [eg c, (hargs c).2.2.2.2]; rfl
    · rw [(hargs c).1, (hargs c).2.1]; rfl

end Cert.KernelSmallIdeal.Own

end
-- ==== Proof.lean ====
/- The claims about the training step's calls: frames by the generated runs, values by the modules beside this one. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelLoss
public import proofs.«01_k».proof.Proof.Gen.KernelLoss.Skeleton
public import proofs.«01_k».proof.Proof.Gen.KernelLoss.Launch
public import proofs.«01_k».proof.Proof.Gen.KernelLoss.Points
public import proofs.«01_k».proof.Proof.Gen.KernelLoss.Frame
public import proofs.«01_k».proof.Proof.Gen.KernelLossIdeal
public import proofs.«01_k».proof.Proof.Gen.KernelLossIdeal.Skeleton
public import proofs.«01_k».proof.Proof.Gen.KernelLossIdeal.Launch
public import proofs.«01_k».proof.Proof.Gen.KernelLossIdeal.Points
public import proofs.«01_k».proof.Proof.Gen.KernelLossIdeal.Frame
public import proofs.«01_k».proof.Proof.Gen.ReferenceLossIdeal
public import proofs.«01_k».proof.Proof.Gen.KernelWgradIn
public import proofs.«01_k».proof.Proof.Gen.KernelWgradIn.Skeleton
public import proofs.«01_k».proof.Proof.Gen.KernelWgradIn.Launch
public import proofs.«01_k».proof.Proof.Gen.KernelWgradIn.Points
public import proofs.«01_k».proof.Proof.Gen.KernelWgradIn.Frame
public import proofs.«01_k».proof.Proof.Gen.KernelWgradInIdeal
public import proofs.«01_k».proof.Proof.Gen.KernelWgradInIdeal.Skeleton
public import proofs.«01_k».proof.Proof.Gen.KernelWgradInIdeal.Launch
public import proofs.«01_k».proof.Proof.Gen.KernelWgradInIdeal.Points
public import proofs.«01_k».proof.Proof.Gen.KernelWgradInIdeal.Frame
public import proofs.«01_k».proof.Proof.Gen.ReferenceWgradInIdeal
public import proofs.«01_k».proof.Proof.Gen.KernelWgradOut
public import proofs.«01_k».proof.Proof.Gen.KernelWgradOut.Skeleton
public import proofs.«01_k».proof.Proof.Gen.KernelWgradOut.Launch
public import proofs.«01_k».proof.Proof.Gen.KernelWgradOut.Points
public import proofs.«01_k».proof.Proof.Gen.KernelWgradOut.Frame
public import proofs.«01_k».proof.Proof.Gen.KernelWgradOutIdeal
public import proofs.«01_k».proof.Proof.Gen.KernelWgradOutIdeal.Skeleton
public import proofs.«01_k».proof.Proof.Gen.KernelWgradOutIdeal.Launch
public import proofs.«01_k».proof.Proof.Gen.KernelWgradOutIdeal.Points
public import proofs.«01_k».proof.Proof.Gen.KernelWgradOutIdeal.Frame
public import proofs.«01_k».proof.Proof.Gen.ReferenceWgradOutIdeal
public import proofs.«01_k».proof.Proof.Gen.KernelIdeal.Value
public import proofs.«01_k».proof.Proof.Gen.KernelLossIdeal.Value
public import proofs.«01_k».proof.Proof.Gen.KernelWgradInIdeal.Value
public import proofs.«01_k».proof.Proof.Gen.KernelWgradOutIdeal.Value
public import proofs.«01_k».proof.Proof.Gen.ReferenceIdeal.Run
public import proofs.«01_k».proof.Proof.Gen.ReferenceLossIdeal.Run
public import proofs.«01_k».proof.Proof.Gen.ReferenceWgradInIdeal.Run
public import proofs.«01_k».proof.Proof.Gen.ReferenceWgradOutIdeal.Run
public import proofs.«01_k».proof.Proof.MlpBwdClaim
public import proofs.«01_k».proof.Proof.MlpLossClaim
public import proofs.«01_k».proof.Proof.WgradInClaim
public import proofs.«01_k».proof.Proof.WgradOutClaim
public import proofs.«01_k».proof.Proof.Gen.KernelWgradAttIdeal.Value
public import proofs.«01_k».proof.Proof.Gen.ReferenceWgradAttIdeal.Run
public import proofs.«01_k».proof.Proof.Gen.KernelWgradPoolIdeal.Value
public import proofs.«01_k».proof.Proof.Gen.ReferenceWgradPoolIdeal.Run
public import proofs.«01_k».proof.Proof.Gen.KernelWgradMixIdeal.Value
public import proofs.«01_k».proof.Proof.Gen.ReferenceWgradMixIdeal.Run
public import proofs.«01_k».proof.Proof.WgradAttClaim
public import proofs.«01_k».proof.Proof.WgradPoolClaim
public import proofs.«01_k».proof.Proof.WgradMixClaim
public import proofs.«01_k».proof.Proof.Gen.KernelWgradAtt
public import proofs.«01_k».proof.Proof.Gen.KernelWgradAtt.Frame
public import proofs.«01_k».proof.Proof.Gen.KernelWgradAttIdeal
public import proofs.«01_k».proof.Proof.Gen.KernelWgradAttIdeal.Frame
public import proofs.«01_k».proof.Proof.Gen.ReferenceWgradAttIdeal
public import proofs.«01_k».proof.Proof.Gen.KernelWgradPool
public import proofs.«01_k».proof.Proof.Gen.KernelWgradPool.Frame
public import proofs.«01_k».proof.Proof.Gen.KernelWgradPoolIdeal
public import proofs.«01_k».proof.Proof.Gen.KernelWgradPoolIdeal.Frame
public import proofs.«01_k».proof.Proof.Gen.ReferenceWgradPoolIdeal
public import proofs.«01_k».proof.Proof.Gen.KernelWgradMix
public import proofs.«01_k».proof.Proof.Gen.KernelWgradMix.Frame
public import proofs.«01_k».proof.Proof.Gen.KernelWgradMixIdeal
public import proofs.«01_k».proof.Proof.Gen.KernelWgradMixIdeal.Frame
public import proofs.«01_k».proof.Proof.Gen.ReferenceWgradMixIdeal
public import proofs.«01_k».proof.Proof.Gen.KernelWgradProj
public import proofs.«01_k».proof.Proof.Gen.KernelWgradProj.Frame
public import proofs.«01_k».proof.Proof.Gen.KernelWgradProjIdeal
public import proofs.«01_k».proof.Proof.Gen.KernelWgradProjIdeal.Frame
public import proofs.«01_k».proof.Proof.Gen.ReferenceWgradProjIdeal
public import proofs.«01_k».proof.Proof.Gen.ReferenceWgradProjIdeal.Run
public import proofs.«01_k».proof.Proof.WgradProjClaim
public import proofs.«01_k».proof.Proof.Gen.KernelDx
public import proofs.«01_k».proof.Proof.Gen.KernelDx.Frame
public import proofs.«01_k».proof.Proof.Gen.KernelDxIdeal
public import proofs.«01_k».proof.Proof.Gen.KernelDxIdeal.Frame
public import proofs.«01_k».proof.Proof.Gen.ReferenceDxIdeal
public import proofs.«01_k».proof.Proof.Gen.ReferenceDxIdeal.Run
public import proofs.«01_k».proof.Proof.Gen.KernelDxIdeal.Value
public import proofs.«01_k».proof.Proof.DxClaim
public import proofs.«01_k».proof.Proof.Gen.KernelInprojOwn
public import proofs.«01_k».proof.Proof.Gen.KernelInprojOwn.Frame
public import proofs.«01_k».proof.Proof.Gen.KernelInprojOwnIdeal
public import proofs.«01_k».proof.Proof.Gen.KernelInprojOwnIdeal.Frame
public import proofs.«01_k».proof.Proof.Gen.ReferenceInprojOwnIdeal
public import proofs.«01_k».proof.Proof.Gen.ReferenceInprojOwnIdeal.Run
public import proofs.«01_k».proof.Proof.Gen.KernelInprojOwnIdeal.Value
public import proofs.«01_k».proof.Proof.InprojOwnClaim
public import proofs.«01_k».proof.Proof.Gen.KernelInproj
public import proofs.«01_k».proof.Proof.Gen.KernelInproj.Frame
public import proofs.«01_k».proof.Proof.Gen.KernelInprojIdeal
public import proofs.«01_k».proof.Proof.Gen.KernelInprojIdeal.Frame
public import proofs.«01_k».proof.Proof.Gen.ReferenceInprojIdeal
public import proofs.«01_k».proof.Proof.Gen.ReferenceInprojIdeal.Run
public import proofs.«01_k».proof.Proof.Gen.KernelInprojIdeal.Value
public import proofs.«01_k».proof.Proof.InprojClaim
public import proofs.«01_k».proof.Proof.Gen.KernelWgradGrp
public import proofs.«01_k».proof.Proof.Gen.KernelWgradGrp.Frame
public import proofs.«01_k».proof.Proof.Gen.KernelWgradGrpIdeal
public import proofs.«01_k».proof.Proof.Gen.KernelWgradGrpIdeal.Frame
public import proofs.«01_k».proof.Proof.Gen.ReferenceWgradGrpIdeal
public import proofs.«01_k».proof.Proof.Gen.ReferenceWgradGrpIdeal.Run
public import proofs.«01_k».proof.Proof.Gen.KernelWgradGrpIdeal.Value
public import proofs.«01_k».proof.Proof.WgradGrpClaim
public import proofs.«01_k».proof.Proof.Gen.KernelAdamwInIdeal.Value
public import proofs.«01_k».proof.Proof.Gen.ReferenceAdamwInIdeal.Run
public import proofs.«01_k».proof.Proof.Gen.KernelAdamwAttIdeal.Value
public import proofs.«01_k».proof.Proof.Gen.ReferenceAdamwAttIdeal.Run
public import proofs.«01_k».proof.Proof.Gen.KernelAdamwPoolIdeal.Value
public import proofs.«01_k».proof.Proof.Gen.ReferenceAdamwPoolIdeal.Run
public import proofs.«01_k».proof.Proof.Gen.KernelAdamwOutIdeal.Value
public import proofs.«01_k».proof.Proof.Gen.ReferenceAdamwOutIdeal.Run
public import proofs.«01_k».proof.Proof.Gen.KernelAdamwMlpIdeal.Value
public import proofs.«01_k».proof.Proof.Gen.ReferenceAdamwMlpIdeal.Run
public import proofs.«01_k».proof.Proof.Gen.KernelAdamwIn
public import proofs.«01_k».proof.Proof.Gen.KernelAdamwIn.Frame
public import proofs.«01_k».proof.Proof.Gen.KernelAdamwInIdeal
public import proofs.«01_k».proof.Proof.Gen.KernelAdamwInIdeal.Frame
public import proofs.«01_k».proof.Proof.Gen.ReferenceAdamwInIdeal
public import proofs.«01_k».proof.Proof.AdamIn
public import proofs.«01_k».proof.Proof.Gen.KernelAdamwAtt
public import proofs.«01_k».proof.Proof.Gen.KernelAdamwAtt.Frame
public import proofs.«01_k».proof.Proof.Gen.KernelAdamwAttIdeal
public import proofs.«01_k».proof.Proof.Gen.KernelAdamwAttIdeal.Frame
public import proofs.«01_k».proof.Proof.Gen.ReferenceAdamwAttIdeal
public import proofs.«01_k».proof.Proof.AdamAtt
public import proofs.«01_k».proof.Proof.Gen.KernelAdamwPool
public import proofs.«01_k».proof.Proof.Gen.KernelAdamwPool.Frame
public import proofs.«01_k».proof.Proof.Gen.KernelAdamwPoolIdeal
public import proofs.«01_k».proof.Proof.Gen.KernelAdamwPoolIdeal.Frame
public import proofs.«01_k».proof.Proof.Gen.ReferenceAdamwPoolIdeal
public import proofs.«01_k».proof.Proof.AdamPool
public import proofs.«01_k».proof.Proof.Gen.KernelAdamwOut
public import proofs.«01_k».proof.Proof.Gen.KernelAdamwOut.Frame
public import proofs.«01_k».proof.Proof.Gen.KernelAdamwOutIdeal
public import proofs.«01_k».proof.Proof.Gen.KernelAdamwOutIdeal.Frame
public import proofs.«01_k».proof.Proof.Gen.ReferenceAdamwOutIdeal
public import proofs.«01_k».proof.Proof.AdamOut
public import proofs.«01_k».proof.Proof.Gen.KernelAdamwMlp
public import proofs.«01_k».proof.Proof.Gen.KernelAdamwMlp.Frame
public import proofs.«01_k».proof.Proof.Gen.KernelAdamwMlpIdeal
public import proofs.«01_k».proof.Proof.Gen.KernelAdamwMlpIdeal.Frame
public import proofs.«01_k».proof.Proof.Gen.ReferenceAdamwMlpIdeal
public import proofs.«01_k».proof.Proof.AdamMlp
public import proofs.«01_k».proof.Proof.Gen.KernelSmall
public import proofs.«01_k».proof.Proof.Gen.KernelSmall.Frame
public import proofs.«01_k».proof.Proof.Gen.KernelSmallIdeal
public import proofs.«01_k».proof.Proof.Gen.KernelSmallIdeal.Frame
public import proofs.«01_k».proof.Proof.Gen.ReferenceSmallIdeal
public import proofs.«01_k».proof.Proof.Gen.ReferenceSmallIdeal.Run
public import proofs.«01_k».proof.Proof.Gen.KernelSmallIdeal.Value
public import proofs.«01_k».proof.Proof.Small
public import Idealize.ShloMosaic.Adequacy
public import Idealize.ShloMosaic.Init

@[expose] public section

noncomputable section

namespace Cert.Proof

open Idealize.ShloMosaic Idealize.SL.Sem

theorem frame_reference_mlp : Cert.quiescent_ReferenceIdeal := fun m g _ =>
  (θ_run Cert.ReferenceIdeal.defs _ _).mono (fun r h => ⟨fun c => (h c).2.2.2.2, sem_eq_zero_of_no_sems (by decide) r.2⟩)
    (Cert.ReferenceIdeal.Value.run (F := Ideal) m g)

theorem frame_reference_loss : Cert.quiescent_ReferenceLossIdeal := fun m g _ =>
  (θ_run Cert.ReferenceLossIdeal.defs _ _).mono (fun r h => ⟨fun c => (h c).2.2.2.2.2, sem_eq_zero_of_no_sems (by decide) r.2⟩)
    (Cert.ReferenceLossIdeal.Value.run (F := Ideal) m g)

theorem frame_reference_wgrad_in : Cert.quiescent_ReferenceWgradInIdeal := fun m g _ =>
  (θ_run Cert.ReferenceWgradInIdeal.defs _ _).mono (fun r h => ⟨fun c => (h c).2.2, sem_eq_zero_of_no_sems (by decide) r.2⟩)
    (Cert.ReferenceWgradInIdeal.Value.run (F := Ideal) m g)

theorem frame_reference_wgrad_out : Cert.quiescent_ReferenceWgradOutIdeal := fun m g _ =>
  (θ_run Cert.ReferenceWgradOutIdeal.defs _ _).mono (fun r h => ⟨fun c => (h c).2.2, sem_eq_zero_of_no_sems (by decide) r.2⟩)
    (Cert.ReferenceWgradOutIdeal.Value.run (F := Ideal) m g)

theorem frame_reference_wgrad_att : Cert.quiescent_ReferenceWgradAttIdeal := fun m g _ =>
  (θ_run Cert.ReferenceWgradAttIdeal.defs _ _).mono (fun r h => ⟨fun c => (h c).2.2, sem_eq_zero_of_no_sems (by decide) r.2⟩)
    (Cert.ReferenceWgradAttIdeal.Value.run (F := Ideal) m g)

theorem frame_reference_wgrad_pool : Cert.quiescent_ReferenceWgradPoolIdeal := fun m g _ =>
  (θ_run Cert.ReferenceWgradPoolIdeal.defs _ _).mono (fun r h => ⟨fun c => (h c).2.2, sem_eq_zero_of_no_sems (by decide) r.2⟩)
    (Cert.ReferenceWgradPoolIdeal.Value.run (F := Ideal) m g)

theorem frame_reference_wgrad_mix : Cert.quiescent_ReferenceWgradMixIdeal := fun m g _ =>
  (θ_run Cert.ReferenceWgradMixIdeal.defs _ _).mono (fun r h => ⟨fun c => (h c).2.2, sem_eq_zero_of_no_sems (by decide) r.2⟩)
    (Cert.ReferenceWgradMixIdeal.Value.run (F := Ideal) m g)

theorem frame_reference_wgrad_proj : Cert.quiescent_ReferenceWgradProjIdeal := fun m g _ =>
  (θ_run Cert.ReferenceWgradProjIdeal.defs _ _).mono (fun r h => ⟨fun c => (h c).2.2, sem_eq_zero_of_no_sems (by decide) r.2⟩)
    (Cert.ReferenceWgradProjIdeal.Value.run (F := Ideal) m g)

theorem frame_reference_dx : Cert.quiescent_ReferenceDxIdeal := fun m g _ =>
  (θ_run Cert.ReferenceDxIdeal.defs _ _).mono (fun r h => ⟨fun c => (h c).2.2, sem_eq_zero_of_no_sems (by decide) r.2⟩)
    (Cert.ReferenceDxIdeal.Value.run (F := Ideal) m g)

theorem frame_reference_inproj_own : Cert.quiescent_ReferenceInprojOwnIdeal := fun m g _ =>
  (θ_run Cert.ReferenceInprojOwnIdeal.defs _ _).mono (fun r h => ⟨fun c => (h c).2.2, sem_eq_zero_of_no_sems (by decide) r.2⟩)
    (Cert.ReferenceInprojOwnIdeal.Value.run (F := Ideal) m g)

theorem frame_reference_inproj : Cert.quiescent_ReferenceInprojIdeal := fun m g _ =>
  (θ_run Cert.ReferenceInprojIdeal.defs _ _).mono (fun r h => ⟨fun c => (h c).2.2.2.2.2, sem_eq_zero_of_no_sems (by decide) r.2⟩)
    (Cert.ReferenceInprojIdeal.Value.run (F := Ideal) m g)

theorem frame_reference_wgrad_grp : Cert.quiescent_ReferenceWgradGrpIdeal := fun m g _ =>
  (θ_run Cert.ReferenceWgradGrpIdeal.defs _ _).mono (fun r h => ⟨fun c => (h c).2, sem_eq_zero_of_no_sems (by decide) r.2⟩)
    (Cert.ReferenceWgradGrpIdeal.Value.run (F := Ideal) m g)

theorem frame_reference_adamw_in : Cert.quiescent_ReferenceAdamwInIdeal := fun m g _ =>
  (θ_run Cert.ReferenceAdamwInIdeal.defs _ _).mono (fun r h => ⟨fun c => (h c).2.2.2.2, sem_eq_zero_of_no_sems (by decide) r.2⟩)
    (Cert.ReferenceAdamwInIdeal.Value.run (F := Ideal) m g)

theorem frame_reference_adamw_att : Cert.quiescent_ReferenceAdamwAttIdeal := fun m g _ =>
  (θ_run Cert.ReferenceAdamwAttIdeal.defs _ _).mono (fun r h => ⟨fun c => (h c).2.2.2.2, sem_eq_zero_of_no_sems (by decide) r.2⟩)
    (Cert.ReferenceAdamwAttIdeal.Value.run (F := Ideal) m g)

theorem frame_reference_adamw_pool : Cert.quiescent_ReferenceAdamwPoolIdeal := fun m g _ =>
  (θ_run Cert.ReferenceAdamwPoolIdeal.defs _ _).mono (fun r h => ⟨fun c => (h c).2.2.2.2, sem_eq_zero_of_no_sems (by decide) r.2⟩)
    (Cert.ReferenceAdamwPoolIdeal.Value.run (F := Ideal) m g)

theorem frame_reference_adamw_out : Cert.quiescent_ReferenceAdamwOutIdeal := fun m g _ =>
  (θ_run Cert.ReferenceAdamwOutIdeal.defs _ _).mono (fun r h => ⟨fun c => (h c).2.2.2.2, sem_eq_zero_of_no_sems (by decide) r.2⟩)
    (Cert.ReferenceAdamwOutIdeal.Value.run (F := Ideal) m g)

theorem frame_reference_adamw_mlp : Cert.quiescent_ReferenceAdamwMlpIdeal := fun m g _ =>
  (θ_run Cert.ReferenceAdamwMlpIdeal.defs _ _).mono (fun r h => ⟨fun c => (h c).2.2.2.2, sem_eq_zero_of_no_sems (by decide) r.2⟩)
    (Cert.ReferenceAdamwMlpIdeal.Value.run (F := Ideal) m g)

theorem frame_reference_small : Cert.quiescent_ReferenceSmallIdeal := fun m g _ =>
  (θ_run Cert.ReferenceSmallIdeal.defs _ _).mono (fun r h => ⟨fun c => (h c).2.2.2.2.2, sem_eq_zero_of_no_sems (by decide) r.2⟩)
    (Cert.ReferenceSmallIdeal.Value.run (F := Ideal) m g)

theorem claim : Cert.Claim :=
  ⟨Cert.Kernel.Gen.facts, Cert.KernelIdeal.Gen.facts, Cert.ReferenceIdeal.Gen.facts,
    Cert.KernelLoss.Gen.facts, Cert.KernelLossIdeal.Gen.facts, Cert.ReferenceLossIdeal.Gen.facts,
    Cert.KernelWgradIn.Gen.facts, Cert.KernelWgradInIdeal.Gen.facts, Cert.ReferenceWgradInIdeal.Gen.facts,
    Cert.KernelWgradOut.Gen.facts, Cert.KernelWgradOutIdeal.Gen.facts, Cert.ReferenceWgradOutIdeal.Gen.facts,
    Cert.KernelWgradAtt.Gen.facts, Cert.KernelWgradAttIdeal.Gen.facts, Cert.ReferenceWgradAttIdeal.Gen.facts,
    Cert.KernelWgradPool.Gen.facts, Cert.KernelWgradPoolIdeal.Gen.facts, Cert.ReferenceWgradPoolIdeal.Gen.facts,
    Cert.KernelWgradMix.Gen.facts, Cert.KernelWgradMixIdeal.Gen.facts, Cert.ReferenceWgradMixIdeal.Gen.facts,
    Cert.KernelWgradProj.Gen.facts, Cert.KernelWgradProjIdeal.Gen.facts, Cert.ReferenceWgradProjIdeal.Gen.facts,
    Cert.KernelDx.Gen.facts, Cert.KernelDxIdeal.Gen.facts, Cert.ReferenceDxIdeal.Gen.facts,
    Cert.KernelInprojOwn.Gen.facts, Cert.KernelInprojOwnIdeal.Gen.facts, Cert.ReferenceInprojOwnIdeal.Gen.facts,
    Cert.KernelInproj.Gen.facts, Cert.KernelInprojIdeal.Gen.facts, Cert.ReferenceInprojIdeal.Gen.facts,
    Cert.KernelWgradGrp.Gen.facts, Cert.KernelWgradGrpIdeal.Gen.facts, Cert.ReferenceWgradGrpIdeal.Gen.facts,
    Cert.KernelAdamwIn.Gen.facts, Cert.KernelAdamwInIdeal.Gen.facts, Cert.ReferenceAdamwInIdeal.Gen.facts,
    Cert.KernelAdamwAtt.Gen.facts, Cert.KernelAdamwAttIdeal.Gen.facts, Cert.ReferenceAdamwAttIdeal.Gen.facts,
    Cert.KernelAdamwPool.Gen.facts, Cert.KernelAdamwPoolIdeal.Gen.facts, Cert.ReferenceAdamwPoolIdeal.Gen.facts,
    Cert.KernelAdamwOut.Gen.facts, Cert.KernelAdamwOutIdeal.Gen.facts, Cert.ReferenceAdamwOutIdeal.Gen.facts,
    Cert.KernelAdamwMlp.Gen.facts, Cert.KernelAdamwMlpIdeal.Gen.facts, Cert.ReferenceAdamwMlpIdeal.Gen.facts,
    Cert.KernelSmall.Gen.facts, Cert.KernelSmallIdeal.Gen.facts, Cert.ReferenceSmallIdeal.Gen.facts,
    fun m ρ _ => Cert.Kernel.Gen.frame m ρ, fun m ρ _ => Cert.KernelIdeal.Gen.frame m ρ, frame_reference_mlp,
    fun m ρ _ => Cert.KernelLoss.Gen.frame m ρ, fun m ρ _ => Cert.KernelLossIdeal.Gen.frame m ρ, frame_reference_loss,
    fun m ρ _ => Cert.KernelWgradIn.Gen.frame m ρ, fun m ρ _ => Cert.KernelWgradInIdeal.Gen.frame m ρ, frame_reference_wgrad_in,
    fun m ρ _ => Cert.KernelWgradOut.Gen.frame m ρ, fun m ρ _ => Cert.KernelWgradOutIdeal.Gen.frame m ρ, frame_reference_wgrad_out,
    fun m ρ _ => Cert.KernelWgradAtt.Gen.frame m ρ, fun m ρ _ => Cert.KernelWgradAttIdeal.Gen.frame m ρ, frame_reference_wgrad_att,
    fun m ρ _ => Cert.KernelWgradPool.Gen.frame m ρ, fun m ρ _ => Cert.KernelWgradPoolIdeal.Gen.frame m ρ, frame_reference_wgrad_pool,
    fun m ρ _ => Cert.KernelWgradMix.Gen.frame m ρ, fun m ρ _ => Cert.KernelWgradMixIdeal.Gen.frame m ρ, frame_reference_wgrad_mix,
    fun m ρ _ => Cert.KernelWgradProj.Gen.frame m ρ, fun m ρ _ => Cert.KernelWgradProjIdeal.Gen.frame m ρ, frame_reference_wgrad_proj,
    fun m ρ _ => Cert.KernelDx.Gen.frame m ρ, fun m ρ _ => Cert.KernelDxIdeal.Gen.frame m ρ, frame_reference_dx,
    fun m ρ _ => Cert.KernelInprojOwn.Gen.frame m ρ, fun m ρ _ => Cert.KernelInprojOwnIdeal.Gen.frame m ρ, frame_reference_inproj_own,
    fun m ρ _ => Cert.KernelInproj.Gen.frame m ρ, fun m ρ _ => Cert.KernelInprojIdeal.Gen.frame m ρ, frame_reference_inproj,
    fun m ρ _ => Cert.KernelWgradGrp.Gen.frame m ρ, fun m ρ _ => Cert.KernelWgradGrpIdeal.Gen.frame m ρ, frame_reference_wgrad_grp,
    fun m ρ _ => Cert.KernelAdamwIn.Gen.frame m ρ, fun m ρ _ => Cert.KernelAdamwInIdeal.Gen.frame m ρ, frame_reference_adamw_in,
    fun m ρ _ => Cert.KernelAdamwAtt.Gen.frame m ρ, fun m ρ _ => Cert.KernelAdamwAttIdeal.Gen.frame m ρ, frame_reference_adamw_att,
    fun m ρ _ => Cert.KernelAdamwPool.Gen.frame m ρ, fun m ρ _ => Cert.KernelAdamwPoolIdeal.Gen.frame m ρ, frame_reference_adamw_pool,
    fun m ρ _ => Cert.KernelAdamwOut.Gen.frame m ρ, fun m ρ _ => Cert.KernelAdamwOutIdeal.Gen.frame m ρ, frame_reference_adamw_out,
    fun m ρ _ => Cert.KernelAdamwMlp.Gen.frame m ρ, fun m ρ _ => Cert.KernelAdamwMlpIdeal.Gen.frame m ρ, frame_reference_adamw_mlp,
    fun m ρ _ => Cert.KernelSmall.Gen.frame m ρ, fun m ρ _ => Cert.KernelSmallIdeal.Gen.frame m ρ, frame_reference_small,
    trivial, Cert.Own.MlpBwd.algebraic,
    trivial, Cert.Own.MlpLoss.algebraic,
    trivial, Cert.Own.WgradIn.algebraic,
    trivial, Cert.Own.WgradOut.algebraic,
    trivial, Cert.Own.WgradAtt.algebraic,
    trivial, Cert.Own.WgradPool.algebraic,
    trivial, Cert.Own.WgradMix.algebraic,
    trivial, Cert.Own.WgradProj.algebraic,
    trivial, Cert.Own.Dx.algebraic,
    trivial, Cert.Own.InprojOwn.algebraic,
    trivial, Cert.Own.Inproj.algebraic,
    trivial, Cert.Own.WgradGrp.algebraic,
    trivial, Cert.KernelAdamwInIdeal.Own.algebraic,
    trivial, Cert.KernelAdamwAttIdeal.Own.algebraic,
    trivial, Cert.KernelAdamwPoolIdeal.Own.algebraic,
    trivial, Cert.KernelAdamwOutIdeal.Own.algebraic,
    trivial, Cert.KernelAdamwMlpIdeal.Own.algebraic,
    trivial, Cert.KernelSmallIdeal.Own.algebraic⟩

end Cert.Proof

end
